-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite [hPre_finite : Cert.Pre_finite.Facts] (m : (ℓ : Loc Cert.GateIdeal.nD Cert.GateIdeal.τ Cert.GateIdeal.sig) → Buf (Elt Ideal) ℓ) : Prop :=
  ∀ c : Dev Cert.GateIdeal.nD,
    (Cert.Pre_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).1 = (fun _ => 1#1)
    ∧ (Cert.Pre_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.1 = (fun _ => 1#1)
    ∧ (Cert.Pre_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2.1 = (fun _ => 1#1)
    ∧ (Cert.Pre_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2.2.1 = (fun _ => 1#1)
    ∧ (Cert.Pre_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2.2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite [hPre_finite : Cert.Pre_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).1 = (fun _ => 1#1)
    ∧ (Cert.Pre_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.1 = (fun _ => 1#1)
    ∧ (Cert.Pre_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.1 = (fun _ => 1#1)
    ∧ (Cert.Pre_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.2.1 = (fun _ => 1#1)
    ∧ (Cert.Pre_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_QueryW (m : (ℓ : Loc Cert.QueryW.nD Cert.QueryW.τ Cert.QueryW.sig) → Buf (Elt Bits) ℓ) : Prop :=
  True

def Pre_QueryWIdeal (m : (ℓ : Loc Cert.QueryWIdeal.nD Cert.QueryWIdeal.τ Cert.QueryWIdeal.sig) → Buf (Elt Ideal) ℓ) : Prop :=
  True

def Pre_QueryWRefIdeal (m : (ℓ : Loc Cert.QueryWRefIdeal.nD Cert.QueryWRefIdeal.τ Cert.QueryWRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_MemW (m : (ℓ : Loc Cert.MemW.nD Cert.MemW.τ Cert.MemW.sig) → Buf (Elt Bits) ℓ) : Prop :=
  True

def Pre_MemWIdeal (m : (ℓ : Loc Cert.MemWIdeal.nD Cert.MemWIdeal.τ Cert.MemWIdeal.sig) → Buf (Elt Ideal) ℓ) : Prop :=
  True

def Pre_MemWRefIdeal (m : (ℓ : Loc Cert.MemWRefIdeal.nD Cert.MemWRefIdeal.τ Cert.MemWRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_MemX (m : (ℓ : Loc Cert.MemX.nD Cert.MemX.τ Cert.MemX.sig) → Buf (Elt Bits) ℓ) : Prop :=
  True

def Pre_MemXIdeal (m : (ℓ : Loc Cert.MemXIdeal.nD Cert.MemXIdeal.τ Cert.MemXIdeal.sig) → Buf (Elt Ideal) ℓ) : Prop :=
  True

def Pre_MemXRefIdeal (m : (ℓ : Loc Cert.MemXRefIdeal.nD Cert.MemXRefIdeal.τ Cert.MemXRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite_block [hPre_finite_block : Cert.Pre_finite_block.Facts] (m : (ℓ : Loc Cert.XattnIdeal.nD Cert.XattnIdeal.τ Cert.XattnIdeal.sig) → Buf (Elt Ideal) ℓ) : Prop :=
  ∀ c : Dev Cert.XattnIdeal.nD,
    (Cert.Pre_finite_block.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5)) (m ((c.tc : Thread Cert.XattnIdeal.nD Cert.XattnIdeal.τ).loc Cert.XattnIdeal.main_arg6)) (m ((c.tc : Thread Cert.XattnIdeal.nD Cert.XattnIdeal.τ).loc Cert.XattnIdeal.main_arg7)) (m ((c.tc : Thread Cert.XattnIdeal.nD Cert.XattnIdeal.τ).loc Cert.XattnIdeal.main_arg8)) (m ((c.tc : Thread Cert.XattnIdeal.nD Cert.XattnIdeal.τ).loc Cert.XattnIdeal.main_arg9)) (m ((c.tc : Thread Cert.XattnIdeal.nD Cert.XattnIdeal.τ).loc Cert.XattnIdeal.main_arg10)) (m ((c.tc : Thread Cert.XattnIdeal.nD Cert.XattnIdeal.τ).loc Cert.XattnIdeal.main_arg11)) (m ((c.tc : Thread Cert.XattnIdeal.nD Cert.XattnIdeal.τ).loc Cert.XattnIdeal.main_arg12)) (m ((c.tc : Thread Cert.XattnIdeal.nD Cert.XattnIdeal.τ).loc Cert.XattnIdeal.main_arg13))).1 = (fun _ => 1#1)
    ∧ (Cert.Pre_finite_block.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5)) (m ((c.tc : Thread Cert.XattnIdeal.nD Cert.XattnIdeal.τ).loc Cert.XattnIdeal.main_arg6)) (m ((c.tc : Thread Cert.XattnIdeal.nD Cert.XattnIdeal.τ).loc Cert.XattnIdeal.main_arg7)) (m ((c.tc : Thread Cert.XattnIdeal.nD Cert.XattnIdeal.τ).loc Cert.XattnIdeal.main_arg8)) (m ((c.tc : Thread Cert.XattnIdeal.nD Cert.XattnIdeal.τ).loc Cert.XattnIdeal.main_arg9)) (m ((c.tc : Thread Cert.XattnIdeal.nD Cert.XattnIdeal.τ).loc Cert.XattnIdeal.main_arg10)) (m ((c.tc : Thread Cert.XattnIdeal.nD Cert.XattnIdeal.τ).loc Cert.XattnIdeal.main_arg11)) (m ((c.tc : Thread Cert.XattnIdeal.nD Cert.XattnIdeal.τ).loc Cert.XattnIdeal.main_arg12)) (m ((c.tc : Thread Cert.XattnIdeal.nD Cert.XattnIdeal.τ).loc Cert.XattnIdeal.main_arg13))).2 = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_finite_block [hPre_finite_block : Cert.Pre_finite_block.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_finite_block.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5)) (m ((c.tc : Thread Cert.XattnRefIdeal.nD Cert.XattnRefIdeal.τ).loc Cert.XattnRefIdeal.main_arg6)) (m ((c.tc : Thread Cert.XattnRefIdeal.nD Cert.XattnRefIdeal.τ).loc Cert.XattnRefIdeal.main_arg7)) (m ((c.tc : Thread Cert.XattnRefIdeal.nD Cert.XattnRefIdeal.τ).loc Cert.XattnRefIdeal.main_arg8)) (m ((c.tc : Thread Cert.XattnRefIdeal.nD Cert.XattnRefIdeal.τ).loc Cert.XattnRefIdeal.main_arg9)) (m ((c.tc : Thread Cert.XattnRefIdeal.nD Cert.XattnRefIdeal.τ).loc Cert.XattnRefIdeal.main_arg10)) (m ((c.tc : Thread Cert.XattnRefIdeal.nD Cert.XattnRefIdeal.τ).loc Cert.XattnRefIdeal.main_arg11)) (m ((c.tc : Thread Cert.XattnRefIdeal.nD Cert.XattnRefIdeal.τ).loc Cert.XattnRefIdeal.main_arg12)) (m ((c.tc : Thread Cert.XattnRefIdeal.nD Cert.XattnRefIdeal.τ).loc Cert.XattnRefIdeal.main_arg13))).1 = (fun _ => 1#1)
    ∧ (Cert.Pre_finite_block.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5)) (m ((c.tc : Thread Cert.XattnRefIdeal.nD Cert.XattnRefIdeal.τ).loc Cert.XattnRefIdeal.main_arg6)) (m ((c.tc : Thread Cert.XattnRefIdeal.nD Cert.XattnRefIdeal.τ).loc Cert.XattnRefIdeal.main_arg7)) (m ((c.tc : Thread Cert.XattnRefIdeal.nD Cert.XattnRefIdeal.τ).loc Cert.XattnRefIdeal.main_arg8)) (m ((c.tc : Thread Cert.XattnRefIdeal.nD Cert.XattnRefIdeal.τ).loc Cert.XattnRefIdeal.main_arg9)) (m ((c.tc : Thread Cert.XattnRefIdeal.nD Cert.XattnRefIdeal.τ).loc Cert.XattnRefIdeal.main_arg10)) (m ((c.tc : Thread Cert.XattnRefIdeal.nD Cert.XattnRefIdeal.τ).loc Cert.XattnRefIdeal.main_arg11)) (m ((c.tc : Thread Cert.XattnRefIdeal.nD Cert.XattnRefIdeal.τ).loc Cert.XattnRefIdeal.main_arg12)) (m ((c.tc : Thread Cert.XattnRefIdeal.nD Cert.XattnRefIdeal.τ).loc Cert.XattnRefIdeal.main_arg13))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_KeyNorm (m : (ℓ : Loc Cert.KeyNorm.nD Cert.KeyNorm.τ Cert.KeyNorm.sig) → Buf (Elt Bits) ℓ) : Prop :=
  True

def Pre_KeyNormIdeal (m : (ℓ : Loc Cert.KeyNormIdeal.nD Cert.KeyNormIdeal.τ Cert.KeyNormIdeal.sig) → Buf (Elt Ideal) ℓ) : Prop :=
  True

def Pre_KeyNormRefIdeal (m : (ℓ : Loc Cert.KeyNormRefIdeal.nD Cert.KeyNormRefIdeal.τ Cert.KeyNormRefIdeal.sig) → Buf (Elt Ideal) ℓ) : Prop :=
  True

def Pre_MemPre (m : (ℓ : Loc Cert.MemPre.nD Cert.MemPre.τ Cert.MemPre.sig) → Buf (Elt Bits) ℓ) : Prop :=
  True

def Pre_MemPreIdeal (m : (ℓ : Loc Cert.MemPreIdeal.nD Cert.MemPreIdeal.τ Cert.MemPreIdeal.sig) → Buf (Elt Ideal) ℓ) : Prop :=
  True

def Pre_MemPreRefIdeal (m : (ℓ : Loc Cert.MemPreRefIdeal.nD Cert.MemPreRefIdeal.τ Cert.MemPreRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_keys [hPre_finite_keys : Cert.Pre_finite_keys.Facts] (m : (ℓ : Loc Cert.CrossIdeal.nD Cert.CrossIdeal.τ Cert.CrossIdeal.sig) → Buf (Elt Ideal) ℓ) : Prop :=
  ∀ c : Dev Cert.CrossIdeal.nD,
    (Cert.Pre_finite_keys.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8))).1 = (fun _ => 1#1)
    ∧ (Cert.Pre_finite_keys.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8))).2 = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_finite_keys [hPre_finite_keys : Cert.Pre_finite_keys.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_finite_keys.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7)) (m ((c.tc : Thread Cert.CrossRefIdeal.nD Cert.CrossRefIdeal.τ).loc Cert.CrossRefIdeal.main_arg8))).1 = (fun _ => 1#1)
    ∧ (Cert.Pre_finite_keys.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7)) (m ((c.tc : Thread Cert.CrossRefIdeal.nD Cert.CrossRefIdeal.τ).loc Cert.CrossRefIdeal.main_arg8))).2 = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_finite [hGateIdeal : Cert.GateIdeal.Facts] [hPre_finite : Cert.Pre_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_finite [hGateRefIdeal : Cert.GateRefIdeal.Facts] [hPre_finite : Cert.Pre_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_QueryW [hQueryW : Cert.QueryW.Facts] : Prop :=
  ∀ (m : (ℓ : Loc Cert.QueryW.nD Cert.QueryW.τ Cert.QueryW.sig) → Buf (Elt Bits) ℓ) (g : Dev Cert.QueryW.nD → PrngReg), Pre_QueryW m →
    θ_run (Cert.QueryW.defs (F := Bits)) (onTc (τ := Cert.QueryW.τ) (Cert.QueryW.main (F := Bits))) ⟨m, fun _ => 0, g⟩ (fun r => (∀ c : Dev Cert.QueryW.nD,
      r.2.mem ((c.tc : Thread Cert.QueryW.nD Cert.QueryW.τ).loc Cert.QueryW.main_arg0) = m ((c.tc : Thread Cert.QueryW.nD Cert.QueryW.τ).loc Cert.QueryW.main_arg0)
      ∧ r.2.mem ((c.tc : Thread Cert.QueryW.nD Cert.QueryW.τ).loc Cert.QueryW.main_arg1) = m ((c.tc : Thread Cert.QueryW.nD Cert.QueryW.τ).loc Cert.QueryW.main_arg1))
      ∧ r.2.sem = fun _ => 0)

def quiescent_QueryWIdeal [hQueryWIdeal : Cert.QueryWIdeal.Facts] : Prop :=
  ∀ (m : (ℓ : Loc Cert.QueryWIdeal.nD Cert.QueryWIdeal.τ Cert.QueryWIdeal.sig) → Buf (Elt Ideal) ℓ) (g : Dev Cert.QueryWIdeal.nD → PrngReg), Pre_QueryWIdeal m →
    θ_run (Cert.QueryWIdeal.defs (F := Ideal)) (onTc (τ := Cert.QueryWIdeal.τ) (Cert.QueryWIdeal.main (F := Ideal))) ⟨m, fun _ => 0, g⟩ (fun r => (∀ c : Dev Cert.QueryWIdeal.nD,
      r.2.mem ((c.tc : Thread Cert.QueryWIdeal.nD Cert.QueryWIdeal.τ).loc Cert.QueryWIdeal.main_arg0) = m ((c.tc : Thread Cert.QueryWIdeal.nD Cert.QueryWIdeal.τ).loc Cert.QueryWIdeal.main_arg0)
      ∧ r.2.mem ((c.tc : Thread Cert.QueryWIdeal.nD Cert.QueryWIdeal.τ).loc Cert.QueryWIdeal.main_arg1) = m ((c.tc : Thread Cert.QueryWIdeal.nD Cert.QueryWIdeal.τ).loc Cert.QueryWIdeal.main_arg1))
      ∧ r.2.sem = fun _ => 0)

def quiescent_QueryWRefIdeal [hQueryWRefIdeal : Cert.QueryWRefIdeal.Facts] : Prop :=
  ∀ (m : (ℓ : Loc Cert.QueryWRefIdeal.nD Cert.QueryWRefIdeal.τ Cert.QueryWRefIdeal.sig) → Buf (Elt Ideal) ℓ) (g : Dev Cert.QueryWRefIdeal.nD → PrngReg), Pre_QueryWRefIdeal m →
    θ_run (Cert.QueryWRefIdeal.defs (F := Ideal)) (onTc (τ := Cert.QueryWRefIdeal.τ) (Cert.QueryWRefIdeal.main (F := Ideal))) ⟨m, fun _ => 0, g⟩ (fun r => (∀ c : Dev Cert.QueryWRefIdeal.nD,
      r.2.mem ((c.tc : Thread Cert.QueryWRefIdeal.nD Cert.QueryWRefIdeal.τ).loc Cert.QueryWRefIdeal.main_arg0) = m ((c.tc : Thread Cert.QueryWRefIdeal.nD Cert.QueryWRefIdeal.τ).loc Cert.QueryWRefIdeal.main_arg0)
      ∧ r.2.mem ((c.tc : Thread Cert.QueryWRefIdeal.nD Cert.QueryWRefIdeal.τ).loc Cert.QueryWRefIdeal.main_arg1) = m ((c.tc : Thread Cert.QueryWRefIdeal.nD Cert.QueryWRefIdeal.τ).loc Cert.QueryWRefIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_MemW [hMemW : Cert.MemW.Facts] : Prop :=
  ∀ (m : (ℓ : Loc Cert.MemW.nD Cert.MemW.τ Cert.MemW.sig) → Buf (Elt Bits) ℓ) (g : Dev Cert.MemW.nD → PrngReg), Pre_MemW m →
    θ_run (Cert.MemW.defs (F := Bits)) (onTc (τ := Cert.MemW.τ) (Cert.MemW.main (F := Bits))) ⟨m, fun _ => 0, g⟩ (fun r => (∀ c : Dev Cert.MemW.nD,
      r.2.mem ((c.tc : Thread Cert.MemW.nD Cert.MemW.τ).loc Cert.MemW.main_arg0) = m ((c.tc : Thread Cert.MemW.nD Cert.MemW.τ).loc Cert.MemW.main_arg0)
      ∧ r.2.mem ((c.tc : Thread Cert.MemW.nD Cert.MemW.τ).loc Cert.MemW.main_arg1) = m ((c.tc : Thread Cert.MemW.nD Cert.MemW.τ).loc Cert.MemW.main_arg1))
      ∧ r.2.sem = fun _ => 0)

def quiescent_MemWIdeal [hMemWIdeal : Cert.MemWIdeal.Facts] : Prop :=
  ∀ (m : (ℓ : Loc Cert.MemWIdeal.nD Cert.MemWIdeal.τ Cert.MemWIdeal.sig) → Buf (Elt Ideal) ℓ) (g : Dev Cert.MemWIdeal.nD → PrngReg), Pre_MemWIdeal m →
    θ_run (Cert.MemWIdeal.defs (F := Ideal)) (onTc (τ := Cert.MemWIdeal.τ) (Cert.MemWIdeal.main (F := Ideal))) ⟨m, fun _ => 0, g⟩ (fun r => (∀ c : Dev Cert.MemWIdeal.nD,
      r.2.mem ((c.tc : Thread Cert.MemWIdeal.nD Cert.MemWIdeal.τ).loc Cert.MemWIdeal.main_arg0) = m ((c.tc : Thread Cert.MemWIdeal.nD Cert.MemWIdeal.τ).loc Cert.MemWIdeal.main_arg0)
      ∧ r.2.mem ((c.tc : Thread Cert.MemWIdeal.nD Cert.MemWIdeal.τ).loc Cert.MemWIdeal.main_arg1) = m ((c.tc : Thread Cert.MemWIdeal.nD Cert.MemWIdeal.τ).loc Cert.MemWIdeal.main_arg1))
      ∧ r.2.sem = fun _ => 0)

def quiescent_MemWRefIdeal [hMemWRefIdeal : Cert.MemWRefIdeal.Facts] : Prop :=
  ∀ (m : (ℓ : Loc Cert.MemWRefIdeal.nD Cert.MemWRefIdeal.τ Cert.MemWRefIdeal.sig) → Buf (Elt Ideal) ℓ) (g : Dev Cert.MemWRefIdeal.nD → PrngReg), Pre_MemWRefIdeal m →
    θ_run (Cert.MemWRefIdeal.defs (F := Ideal)) (onTc (τ := Cert.MemWRefIdeal.τ) (Cert.MemWRefIdeal.main (F := Ideal))) ⟨m, fun _ => 0, g⟩ (fun r => (∀ c : Dev Cert.MemWRefIdeal.nD,
      r.2.mem ((c.tc : Thread Cert.MemWRefIdeal.nD Cert.MemWRefIdeal.τ).loc Cert.MemWRefIdeal.main_arg0) = m ((c.tc : Thread Cert.MemWRefIdeal.nD Cert.MemWRefIdeal.τ).loc Cert.MemWRefIdeal.main_arg0)
      ∧ r.2.mem ((c.tc : Thread Cert.MemWRefIdeal.nD Cert.MemWRefIdeal.τ).loc Cert.MemWRefIdeal.main_arg1) = m ((c.tc : Thread Cert.MemWRefIdeal.nD Cert.MemWRefIdeal.τ).loc Cert.MemWRefIdeal.main_arg1))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2)
      ∧ r.2.mem ((c.tc : Thread Cert.InX.nD Cert.InX.τ).loc Cert.InX.main_arg3) = m ((c.tc : Thread Cert.InX.nD Cert.InX.τ).loc Cert.InX.main_arg3)
      ∧ r.2.mem ((c.tc : Thread Cert.InX.nD Cert.InX.τ).loc Cert.InX.main_arg4) = m ((c.tc : Thread Cert.InX.nD Cert.InX.τ).loc Cert.InX.main_arg4))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
      ∧ r.2.mem ((c.tc : Thread Cert.InXIdeal.nD Cert.InXIdeal.τ).loc Cert.InXIdeal.main_arg4) = m ((c.tc : Thread Cert.InXIdeal.nD Cert.InXIdeal.τ).loc Cert.InXIdeal.main_arg4))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2)
      ∧ r.2.mem ((c.tc : Thread Cert.InXRefIdeal.nD Cert.InXRefIdeal.τ).loc Cert.InXRefIdeal.main_arg3) = m ((c.tc : Thread Cert.InXRefIdeal.nD Cert.InXRefIdeal.τ).loc Cert.InXRefIdeal.main_arg3)
      ∧ r.2.mem ((c.tc : Thread Cert.InXRefIdeal.nD Cert.InXRefIdeal.τ).loc Cert.InXRefIdeal.main_arg4) = m ((c.tc : Thread Cert.InXRefIdeal.nD Cert.InXRefIdeal.τ).loc Cert.InXRefIdeal.main_arg4))
      ∧ r.2.sem = fun _ => 0)

def quiescent_MemX [hMemX : Cert.MemX.Facts] : Prop :=
  ∀ (m : (ℓ : Loc Cert.MemX.nD Cert.MemX.τ Cert.MemX.sig) → Buf (Elt Bits) ℓ) (g : Dev Cert.MemX.nD → PrngReg), Pre_MemX m →
    θ_run (Cert.MemX.defs (F := Bits)) (onTc (τ := Cert.MemX.τ) (Cert.MemX.main (F := Bits))) ⟨m, fun _ => 0, g⟩ (fun r => (∀ c : Dev Cert.MemX.nD,
      r.2.mem ((c.tc : Thread Cert.MemX.nD Cert.MemX.τ).loc Cert.MemX.main_arg0) = m ((c.tc : Thread Cert.MemX.nD Cert.MemX.τ).loc Cert.MemX.main_arg0)
      ∧ r.2.mem ((c.tc : Thread Cert.MemX.nD Cert.MemX.τ).loc Cert.MemX.main_arg1) = m ((c.tc : Thread Cert.MemX.nD Cert.MemX.τ).loc Cert.MemX.main_arg1)
      ∧ r.2.mem ((c.tc : Thread Cert.MemX.nD Cert.MemX.τ).loc Cert.MemX.main_arg2) = m ((c.tc : Thread Cert.MemX.nD Cert.MemX.τ).loc Cert.MemX.main_arg2)
      ∧ r.2.mem ((c.tc : Thread Cert.MemX.nD Cert.MemX.τ).loc Cert.MemX.main_arg3) = m ((c.tc : Thread Cert.MemX.nD Cert.MemX.τ).loc Cert.MemX.main_arg3))
      ∧ r.2.sem = fun _ => 0)

def quiescent_MemXIdeal [hMemXIdeal : Cert.MemXIdeal.Facts] : Prop :=
  ∀ (m : (ℓ : Loc Cert.MemXIdeal.nD Cert.MemXIdeal.τ Cert.MemXIdeal.sig) → Buf (Elt Ideal) ℓ) (g : Dev Cert.MemXIdeal.nD → PrngReg), Pre_MemXIdeal m →
    θ_run (Cert.MemXIdeal.defs (F := Ideal)) (onTc (τ := Cert.MemXIdeal.τ) (Cert.MemXIdeal.main (F := Ideal))) ⟨m, fun _ => 0, g⟩ (fun r => (∀ c : Dev Cert.MemXIdeal.nD,
      r.2.mem ((c.tc : Thread Cert.MemXIdeal.nD Cert.MemXIdeal.τ).loc Cert.MemXIdeal.main_arg0) = m ((c.tc : Thread Cert.MemXIdeal.nD Cert.MemXIdeal.τ).loc Cert.MemXIdeal.main_arg0)
      ∧ r.2.mem ((c.tc : Thread Cert.MemXIdeal.nD Cert.MemXIdeal.τ).loc Cert.MemXIdeal.main_arg1) = m ((c.tc : Thread Cert.MemXIdeal.nD Cert.MemXIdeal.τ).loc Cert.MemXIdeal.main_arg1)
      ∧ r.2.mem ((c.tc : Thread Cert.MemXIdeal.nD Cert.MemXIdeal.τ).loc Cert.MemXIdeal.main_arg2) = m ((c.tc : Thread Cert.MemXIdeal.nD Cert.MemXIdeal.τ).loc Cert.MemXIdeal.main_arg2)
      ∧ r.2.mem ((c.tc : Thread Cert.MemXIdeal.nD Cert.MemXIdeal.τ).loc Cert.MemXIdeal.main_arg3) = m ((c.tc : Thread Cert.MemXIdeal.nD Cert.MemXIdeal.τ).loc Cert.MemXIdeal.main_arg3))
      ∧ r.2.sem = fun _ => 0)

def quiescent_MemXRefIdeal [hMemXRefIdeal : Cert.MemXRefIdeal.Facts] : Prop :=
  ∀ (m : (ℓ : Loc Cert.MemXRefIdeal.nD Cert.MemXRefIdeal.τ Cert.MemXRefIdeal.sig) → Buf (Elt Ideal) ℓ) (g : Dev Cert.MemXRefIdeal.nD → PrngReg), Pre_MemXRefIdeal m →
    θ_run (Cert.MemXRefIdeal.defs (F := Ideal)) (onTc (τ := Cert.MemXRefIdeal.τ) (Cert.MemXRefIdeal.main (F := Ideal))) ⟨m, fun _ => 0, g⟩ (fun r => (∀ c : Dev Cert.MemXRefIdeal.nD,
      r.2.mem ((c.tc : Thread Cert.MemXRefIdeal.nD Cert.MemXRefIdeal.τ).loc Cert.MemXRefIdeal.main_arg0) = m ((c.tc : Thread Cert.MemXRefIdeal.nD Cert.MemXRefIdeal.τ).loc Cert.MemXRefIdeal.main_arg0)
      ∧ r.2.mem ((c.tc : Thread Cert.MemXRefIdeal.nD Cert.MemXRefIdeal.τ).loc Cert.MemXRefIdeal.main_arg1) = m ((c.tc : Thread Cert.MemXRefIdeal.nD Cert.MemXRefIdeal.τ).loc Cert.MemXRefIdeal.main_arg1)
      ∧ r.2.mem ((c.tc : Thread Cert.MemXRefIdeal.nD Cert.MemXRefIdeal.τ).loc Cert.MemXRefIdeal.main_arg2) = m ((c.tc : Thread Cert.MemXRefIdeal.nD Cert.MemXRefIdeal.τ).loc Cert.MemXRefIdeal.main_arg2)
      ∧ r.2.mem ((c.tc : Thread Cert.MemXRefIdeal.nD Cert.MemXRefIdeal.τ).loc Cert.MemXRefIdeal.main_arg3) = m ((c.tc : Thread Cert.MemXRefIdeal.nD Cert.MemXRefIdeal.τ).loc Cert.MemXRefIdeal.main_arg3))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5)
      ∧ r.2.mem ((c.tc : Thread Cert.Xattn.nD Cert.Xattn.τ).loc Cert.Xattn.main_arg6) = m ((c.tc : Thread Cert.Xattn.nD Cert.Xattn.τ).loc Cert.Xattn.main_arg6)
      ∧ r.2.mem ((c.tc : Thread Cert.Xattn.nD Cert.Xattn.τ).loc Cert.Xattn.main_arg7) = m ((c.tc : Thread Cert.Xattn.nD Cert.Xattn.τ).loc Cert.Xattn.main_arg7)
      ∧ r.2.mem ((c.tc : Thread Cert.Xattn.nD Cert.Xattn.τ).loc Cert.Xattn.main_arg8) = m ((c.tc : Thread Cert.Xattn.nD Cert.Xattn.τ).loc Cert.Xattn.main_arg8)
      ∧ r.2.mem ((c.tc : Thread Cert.Xattn.nD Cert.Xattn.τ).loc Cert.Xattn.main_arg9) = m ((c.tc : Thread Cert.Xattn.nD Cert.Xattn.τ).loc Cert.Xattn.main_arg9)
      ∧ r.2.mem ((c.tc : Thread Cert.Xattn.nD Cert.Xattn.τ).loc Cert.Xattn.main_arg10) = m ((c.tc : Thread Cert.Xattn.nD Cert.Xattn.τ).loc Cert.Xattn.main_arg10)
      ∧ r.2.mem ((c.tc : Thread Cert.Xattn.nD Cert.Xattn.τ).loc Cert.Xattn.main_arg11) = m ((c.tc : Thread Cert.Xattn.nD Cert.Xattn.τ).loc Cert.Xattn.main_arg11)
      ∧ r.2.mem ((c.tc : Thread Cert.Xattn.nD Cert.Xattn.τ).loc Cert.Xattn.main_arg12) = m ((c.tc : Thread Cert.Xattn.nD Cert.Xattn.τ).loc Cert.Xattn.main_arg12)
      ∧ r.2.mem ((c.tc : Thread Cert.Xattn.nD Cert.Xattn.τ).loc Cert.Xattn.main_arg13) = m ((c.tc : Thread Cert.Xattn.nD Cert.Xattn.τ).loc Cert.Xattn.main_arg13))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
      ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7)
      ∧ r.2.mem ((c.tc : Thread Cert.XattnIdeal.nD Cert.XattnIdeal.τ).loc Cert.XattnIdeal.main_arg8) = m ((c.tc : Thread Cert.XattnIdeal.nD Cert.XattnIdeal.τ).loc Cert.XattnIdeal.main_arg8)
      ∧ r.2.mem ((c.tc : Thread Cert.XattnIdeal.nD Cert.XattnIdeal.τ).loc Cert.XattnIdeal.main_arg9) = m ((c.tc : Thread Cert.XattnIdeal.nD Cert.XattnIdeal.τ).loc Cert.XattnIdeal.main_arg9)
      ∧ r.2.mem ((c.tc : Thread Cert.XattnIdeal.nD Cert.XattnIdeal.τ).loc Cert.XattnIdeal.main_arg10) = m ((c.tc : Thread Cert.XattnIdeal.nD Cert.XattnIdeal.τ).loc Cert.XattnIdeal.main_arg10)
      ∧ r.2.mem ((c.tc : Thread Cert.XattnIdeal.nD Cert.XattnIdeal.τ).loc Cert.XattnIdeal.main_arg11) = m ((c.tc : Thread Cert.XattnIdeal.nD Cert.XattnIdeal.τ).loc Cert.XattnIdeal.main_arg11)
      ∧ r.2.mem ((c.tc : Thread Cert.XattnIdeal.nD Cert.XattnIdeal.τ).loc Cert.XattnIdeal.main_arg12) = m ((c.tc : Thread Cert.XattnIdeal.nD Cert.XattnIdeal.τ).loc Cert.XattnIdeal.main_arg12)
      ∧ r.2.mem ((c.tc : Thread Cert.XattnIdeal.nD Cert.XattnIdeal.τ).loc Cert.XattnIdeal.main_arg13) = m ((c.tc : Thread Cert.XattnIdeal.nD Cert.XattnIdeal.τ).loc Cert.XattnIdeal.main_arg13))
      ∧ r.2.sem = fun _ => 0)

def quiescent_XattnIdeal_pre_finite_block [hXattnIdeal : Cert.XattnIdeal.Facts] [hPre_finite_block : Cert.Pre_finite_block.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite_block m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
      ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7)
      ∧ r.2.mem ((c.tc : Thread Cert.XattnIdeal.nD Cert.XattnIdeal.τ).loc Cert.XattnIdeal.main_arg8) = m ((c.tc : Thread Cert.XattnIdeal.nD Cert.XattnIdeal.τ).loc Cert.XattnIdeal.main_arg8)
      ∧ r.2.mem ((c.tc : Thread Cert.XattnIdeal.nD Cert.XattnIdeal.τ).loc Cert.XattnIdeal.main_arg9) = m ((c.tc : Thread Cert.XattnIdeal.nD Cert.XattnIdeal.τ).loc Cert.XattnIdeal.main_arg9)
      ∧ r.2.mem ((c.tc : Thread Cert.XattnIdeal.nD Cert.XattnIdeal.τ).loc Cert.XattnIdeal.main_arg10) = m ((c.tc : Thread Cert.XattnIdeal.nD Cert.XattnIdeal.τ).loc Cert.XattnIdeal.main_arg10)
      ∧ r.2.mem ((c.tc : Thread Cert.XattnIdeal.nD Cert.XattnIdeal.τ).loc Cert.XattnIdeal.main_arg11) = m ((c.tc : Thread Cert.XattnIdeal.nD Cert.XattnIdeal.τ).loc Cert.XattnIdeal.main_arg11)
      ∧ r.2.mem ((c.tc : Thread Cert.XattnIdeal.nD Cert.XattnIdeal.τ).loc Cert.XattnIdeal.main_arg12) = m ((c.tc : Thread Cert.XattnIdeal.nD Cert.XattnIdeal.τ).loc Cert.XattnIdeal.main_arg12)
      ∧ r.2.mem ((c.tc : Thread Cert.XattnIdeal.nD Cert.XattnIdeal.τ).loc Cert.XattnIdeal.main_arg13) = m ((c.tc : Thread Cert.XattnIdeal.nD Cert.XattnIdeal.τ).loc Cert.XattnIdeal.main_arg13))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5)
      ∧ r.2.mem ((c.tc : Thread Cert.XattnRefIdeal.nD Cert.XattnRefIdeal.τ).loc Cert.XattnRefIdeal.main_arg6) = m ((c.tc : Thread Cert.XattnRefIdeal.nD Cert.XattnRefIdeal.τ).loc Cert.XattnRefIdeal.main_arg6)
      ∧ r.2.mem ((c.tc : Thread Cert.XattnRefIdeal.nD Cert.XattnRefIdeal.τ).loc Cert.XattnRefIdeal.main_arg7) = m ((c.tc : Thread Cert.XattnRefIdeal.nD Cert.XattnRefIdeal.τ).loc Cert.XattnRefIdeal.main_arg7)
      ∧ r.2.mem ((c.tc : Thread Cert.XattnRefIdeal.nD Cert.XattnRefIdeal.τ).loc Cert.XattnRefIdeal.main_arg8) = m ((c.tc : Thread Cert.XattnRefIdeal.nD Cert.XattnRefIdeal.τ).loc Cert.XattnRefIdeal.main_arg8)
      ∧ r.2.mem ((c.tc : Thread Cert.XattnRefIdeal.nD Cert.XattnRefIdeal.τ).loc Cert.XattnRefIdeal.main_arg9) = m ((c.tc : Thread Cert.XattnRefIdeal.nD Cert.XattnRefIdeal.τ).loc Cert.XattnRefIdeal.main_arg9)
      ∧ r.2.mem ((c.tc : Thread Cert.XattnRefIdeal.nD Cert.XattnRefIdeal.τ).loc Cert.XattnRefIdeal.main_arg10) = m ((c.tc : Thread Cert.XattnRefIdeal.nD Cert.XattnRefIdeal.τ).loc Cert.XattnRefIdeal.main_arg10)
      ∧ r.2.mem ((c.tc : Thread Cert.XattnRefIdeal.nD Cert.XattnRefIdeal.τ).loc Cert.XattnRefIdeal.main_arg11) = m ((c.tc : Thread Cert.XattnRefIdeal.nD Cert.XattnRefIdeal.τ).loc Cert.XattnRefIdeal.main_arg11)
      ∧ r.2.mem ((c.tc : Thread Cert.XattnRefIdeal.nD Cert.XattnRefIdeal.τ).loc Cert.XattnRefIdeal.main_arg12) = m ((c.tc : Thread Cert.XattnRefIdeal.nD Cert.XattnRefIdeal.τ).loc Cert.XattnRefIdeal.main_arg12)
      ∧ r.2.mem ((c.tc : Thread Cert.XattnRefIdeal.nD Cert.XattnRefIdeal.τ).loc Cert.XattnRefIdeal.main_arg13) = m ((c.tc : Thread Cert.XattnRefIdeal.nD Cert.XattnRefIdeal.τ).loc Cert.XattnRefIdeal.main_arg13))
      ∧ r.2.sem = fun _ => 0)

def quiescent_XattnRefIdeal_pre_finite_block [hXattnRefIdeal : Cert.XattnRefIdeal.Facts] [hPre_finite_block : Cert.Pre_finite_block.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_finite_block m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5)
      ∧ r.2.mem ((c.tc : Thread Cert.XattnRefIdeal.nD Cert.XattnRefIdeal.τ).loc Cert.XattnRefIdeal.main_arg6) = m ((c.tc : Thread Cert.XattnRefIdeal.nD Cert.XattnRefIdeal.τ).loc Cert.XattnRefIdeal.main_arg6)
      ∧ r.2.mem ((c.tc : Thread Cert.XattnRefIdeal.nD Cert.XattnRefIdeal.τ).loc Cert.XattnRefIdeal.main_arg7) = m ((c.tc : Thread Cert.XattnRefIdeal.nD Cert.XattnRefIdeal.τ).loc Cert.XattnRefIdeal.main_arg7)
      ∧ r.2.mem ((c.tc : Thread Cert.XattnRefIdeal.nD Cert.XattnRefIdeal.τ).loc Cert.XattnRefIdeal.main_arg8) = m ((c.tc : Thread Cert.XattnRefIdeal.nD Cert.XattnRefIdeal.τ).loc Cert.XattnRefIdeal.main_arg8)
      ∧ r.2.mem ((c.tc : Thread Cert.XattnRefIdeal.nD Cert.XattnRefIdeal.τ).loc Cert.XattnRefIdeal.main_arg9) = m ((c.tc : Thread Cert.XattnRefIdeal.nD Cert.XattnRefIdeal.τ).loc Cert.XattnRefIdeal.main_arg9)
      ∧ r.2.mem ((c.tc : Thread Cert.XattnRefIdeal.nD Cert.XattnRefIdeal.τ).loc Cert.XattnRefIdeal.main_arg10) = m ((c.tc : Thread Cert.XattnRefIdeal.nD Cert.XattnRefIdeal.τ).loc Cert.XattnRefIdeal.main_arg10)
      ∧ r.2.mem ((c.tc : Thread Cert.XattnRefIdeal.nD Cert.XattnRefIdeal.τ).loc Cert.XattnRefIdeal.main_arg11) = m ((c.tc : Thread Cert.XattnRefIdeal.nD Cert.XattnRefIdeal.τ).loc Cert.XattnRefIdeal.main_arg11)
      ∧ r.2.mem ((c.tc : Thread Cert.XattnRefIdeal.nD Cert.XattnRefIdeal.τ).loc Cert.XattnRefIdeal.main_arg12) = m ((c.tc : Thread Cert.XattnRefIdeal.nD Cert.XattnRefIdeal.τ).loc Cert.XattnRefIdeal.main_arg12)
      ∧ r.2.mem ((c.tc : Thread Cert.XattnRefIdeal.nD Cert.XattnRefIdeal.τ).loc Cert.XattnRefIdeal.main_arg13) = m ((c.tc : Thread Cert.XattnRefIdeal.nD Cert.XattnRefIdeal.τ).loc Cert.XattnRefIdeal.main_arg13))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_KeyNorm [hKeyNorm : Cert.KeyNorm.Facts] : Prop :=
  ∀ (m : (ℓ : Loc Cert.KeyNorm.nD Cert.KeyNorm.τ Cert.KeyNorm.sig) → Buf (Elt Bits) ℓ) (g : Dev Cert.KeyNorm.nD → PrngReg), Pre_KeyNorm m →
    θ_run (Cert.KeyNorm.defs (F := Bits)) (onTc (τ := Cert.KeyNorm.τ) (Cert.KeyNorm.main (F := Bits))) ⟨m, fun _ => 0, g⟩ (fun r => (∀ c : Dev Cert.KeyNorm.nD,
      r.2.mem ((c.tc : Thread Cert.KeyNorm.nD Cert.KeyNorm.τ).loc Cert.KeyNorm.main_arg0) = m ((c.tc : Thread Cert.KeyNorm.nD Cert.KeyNorm.τ).loc Cert.KeyNorm.main_arg0)
      ∧ r.2.mem ((c.tc : Thread Cert.KeyNorm.nD Cert.KeyNorm.τ).loc Cert.KeyNorm.main_arg1) = m ((c.tc : Thread Cert.KeyNorm.nD Cert.KeyNorm.τ).loc Cert.KeyNorm.main_arg1)
      ∧ r.2.mem ((c.tc : Thread Cert.KeyNorm.nD Cert.KeyNorm.τ).loc Cert.KeyNorm.main_arg2) = m ((c.tc : Thread Cert.KeyNorm.nD Cert.KeyNorm.τ).loc Cert.KeyNorm.main_arg2)
      ∧ r.2.mem ((c.tc : Thread Cert.KeyNorm.nD Cert.KeyNorm.τ).loc Cert.KeyNorm.main_arg3) = m ((c.tc : Thread Cert.KeyNorm.nD Cert.KeyNorm.τ).loc Cert.KeyNorm.main_arg3))
      ∧ r.2.sem = fun _ => 0)

def quiescent_KeyNormIdeal [hKeyNormIdeal : Cert.KeyNormIdeal.Facts] : Prop :=
  ∀ (m : (ℓ : Loc Cert.KeyNormIdeal.nD Cert.KeyNormIdeal.τ Cert.KeyNormIdeal.sig) → Buf (Elt Ideal) ℓ) (g : Dev Cert.KeyNormIdeal.nD → PrngReg), Pre_KeyNormIdeal m →
    θ_run (Cert.KeyNormIdeal.defs (F := Ideal)) (onTc (τ := Cert.KeyNormIdeal.τ) (Cert.KeyNormIdeal.main (F := Ideal))) ⟨m, fun _ => 0, g⟩ (fun r => (∀ c : Dev Cert.KeyNormIdeal.nD,
      r.2.mem ((c.tc : Thread Cert.KeyNormIdeal.nD Cert.KeyNormIdeal.τ).loc Cert.KeyNormIdeal.main_arg0) = m ((c.tc : Thread Cert.KeyNormIdeal.nD Cert.KeyNormIdeal.τ).loc Cert.KeyNormIdeal.main_arg0)
      ∧ r.2.mem ((c.tc : Thread Cert.KeyNormIdeal.nD Cert.KeyNormIdeal.τ).loc Cert.KeyNormIdeal.main_arg1) = m ((c.tc : Thread Cert.KeyNormIdeal.nD Cert.KeyNormIdeal.τ).loc Cert.KeyNormIdeal.main_arg1)
      ∧ r.2.mem ((c.tc : Thread Cert.KeyNormIdeal.nD Cert.KeyNormIdeal.τ).loc Cert.KeyNormIdeal.main_arg2) = m ((c.tc : Thread Cert.KeyNormIdeal.nD Cert.KeyNormIdeal.τ).loc Cert.KeyNormIdeal.main_arg2)
      ∧ r.2.mem ((c.tc : Thread Cert.KeyNormIdeal.nD Cert.KeyNormIdeal.τ).loc Cert.KeyNormIdeal.main_arg3) = m ((c.tc : Thread Cert.KeyNormIdeal.nD Cert.KeyNormIdeal.τ).loc Cert.KeyNormIdeal.main_arg3))
      ∧ r.2.sem = fun _ => 0)

def quiescent_KeyNormRefIdeal [hKeyNormRefIdeal : Cert.KeyNormRefIdeal.Facts] : Prop :=
  ∀ (m : (ℓ : Loc Cert.KeyNormRefIdeal.nD Cert.KeyNormRefIdeal.τ Cert.KeyNormRefIdeal.sig) → Buf (Elt Ideal) ℓ) (g : Dev Cert.KeyNormRefIdeal.nD → PrngReg), Pre_KeyNormRefIdeal m →
    θ_run (Cert.KeyNormRefIdeal.defs (F := Ideal)) (onTc (τ := Cert.KeyNormRefIdeal.τ) (Cert.KeyNormRefIdeal.main (F := Ideal))) ⟨m, fun _ => 0, g⟩ (fun r => (∀ c : Dev Cert.KeyNormRefIdeal.nD,
      r.2.mem ((c.tc : Thread Cert.KeyNormRefIdeal.nD Cert.KeyNormRefIdeal.τ).loc Cert.KeyNormRefIdeal.main_arg0) = m ((c.tc : Thread Cert.KeyNormRefIdeal.nD Cert.KeyNormRefIdeal.τ).loc Cert.KeyNormRefIdeal.main_arg0)
      ∧ r.2.mem ((c.tc : Thread Cert.KeyNormRefIdeal.nD Cert.KeyNormRefIdeal.τ).loc Cert.KeyNormRefIdeal.main_arg1) = m ((c.tc : Thread Cert.KeyNormRefIdeal.nD Cert.KeyNormRefIdeal.τ).loc Cert.KeyNormRefIdeal.main_arg1)
      ∧ r.2.mem ((c.tc : Thread Cert.KeyNormRefIdeal.nD Cert.KeyNormRefIdeal.τ).loc Cert.KeyNormRefIdeal.main_arg2) = m ((c.tc : Thread Cert.KeyNormRefIdeal.nD Cert.KeyNormRefIdeal.τ).loc Cert.KeyNormRefIdeal.main_arg2)
      ∧ r.2.mem ((c.tc : Thread Cert.KeyNormRefIdeal.nD Cert.KeyNormRefIdeal.τ).loc Cert.KeyNormRefIdeal.main_arg3) = m ((c.tc : Thread Cert.KeyNormRefIdeal.nD Cert.KeyNormRefIdeal.τ).loc Cert.KeyNormRefIdeal.main_arg3))
      ∧ r.2.sem = fun _ => 0)

def quiescent_MemPre [hMemPre : Cert.MemPre.Facts] : Prop :=
  ∀ (m : (ℓ : Loc Cert.MemPre.nD Cert.MemPre.τ Cert.MemPre.sig) → Buf (Elt Bits) ℓ) (g : Dev Cert.MemPre.nD → PrngReg), Pre_MemPre m →
    θ_run (Cert.MemPre.defs (F := Bits)) (onTc (τ := Cert.MemPre.τ) (Cert.MemPre.main (F := Bits))) ⟨m, fun _ => 0, g⟩ (fun r => (∀ c : Dev Cert.MemPre.nD,
      r.2.mem ((c.tc : Thread Cert.MemPre.nD Cert.MemPre.τ).loc Cert.MemPre.main_arg0) = m ((c.tc : Thread Cert.MemPre.nD Cert.MemPre.τ).loc Cert.MemPre.main_arg0)
      ∧ r.2.mem ((c.tc : Thread Cert.MemPre.nD Cert.MemPre.τ).loc Cert.MemPre.main_arg1) = m ((c.tc : Thread Cert.MemPre.nD Cert.MemPre.τ).loc Cert.MemPre.main_arg1))
      ∧ r.2.sem = fun _ => 0)

def quiescent_MemPreIdeal [hMemPreIdeal : Cert.MemPreIdeal.Facts] : Prop :=
  ∀ (m : (ℓ : Loc Cert.MemPreIdeal.nD Cert.MemPreIdeal.τ Cert.MemPreIdeal.sig) → Buf (Elt Ideal) ℓ) (g : Dev Cert.MemPreIdeal.nD → PrngReg), Pre_MemPreIdeal m →
    θ_run (Cert.MemPreIdeal.defs (F := Ideal)) (onTc (τ := Cert.MemPreIdeal.τ) (Cert.MemPreIdeal.main (F := Ideal))) ⟨m, fun _ => 0, g⟩ (fun r => (∀ c : Dev Cert.MemPreIdeal.nD,
      r.2.mem ((c.tc : Thread Cert.MemPreIdeal.nD Cert.MemPreIdeal.τ).loc Cert.MemPreIdeal.main_arg0) = m ((c.tc : Thread Cert.MemPreIdeal.nD Cert.MemPreIdeal.τ).loc Cert.MemPreIdeal.main_arg0)
      ∧ r.2.mem ((c.tc : Thread Cert.MemPreIdeal.nD Cert.MemPreIdeal.τ).loc Cert.MemPreIdeal.main_arg1) = m ((c.tc : Thread Cert.MemPreIdeal.nD Cert.MemPreIdeal.τ).loc Cert.MemPreIdeal.main_arg1))
      ∧ r.2.sem = fun _ => 0)

def quiescent_MemPreRefIdeal [hMemPreRefIdeal : Cert.MemPreRefIdeal.Facts] : Prop :=
  ∀ (m : (ℓ : Loc Cert.MemPreRefIdeal.nD Cert.MemPreRefIdeal.τ Cert.MemPreRefIdeal.sig) → Buf (Elt Ideal) ℓ) (g : Dev Cert.MemPreRefIdeal.nD → PrngReg), Pre_MemPreRefIdeal m →
    θ_run (Cert.MemPreRefIdeal.defs (F := Ideal)) (onTc (τ := Cert.MemPreRefIdeal.τ) (Cert.MemPreRefIdeal.main (F := Ideal))) ⟨m, fun _ => 0, g⟩ (fun r => (∀ c : Dev Cert.MemPreRefIdeal.nD,
      r.2.mem ((c.tc : Thread Cert.MemPreRefIdeal.nD Cert.MemPreRefIdeal.τ).loc Cert.MemPreRefIdeal.main_arg0) = m ((c.tc : Thread Cert.MemPreRefIdeal.nD Cert.MemPreRefIdeal.τ).loc Cert.MemPreRefIdeal.main_arg0)
      ∧ r.2.mem ((c.tc : Thread Cert.MemPreRefIdeal.nD Cert.MemPreRefIdeal.τ).loc Cert.MemPreRefIdeal.main_arg1) = m ((c.tc : Thread Cert.MemPreRefIdeal.nD Cert.MemPreRefIdeal.τ).loc Cert.MemPreRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6)
      ∧ r.2.mem ((c.tc : Thread Cert.Cross.nD Cert.Cross.τ).loc Cert.Cross.main_arg7) = m ((c.tc : Thread Cert.Cross.nD Cert.Cross.τ).loc Cert.Cross.main_arg7)
      ∧ r.2.mem ((c.tc : Thread Cert.Cross.nD Cert.Cross.τ).loc Cert.Cross.main_arg8) = m ((c.tc : Thread Cert.Cross.nD Cert.Cross.τ).loc Cert.Cross.main_arg8))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
      ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8))
      ∧ r.2.sem = fun _ => 0)

def quiescent_CrossIdeal_pre_finite_keys [hCrossIdeal : Cert.CrossIdeal.Facts] [hPre_finite_keys : Cert.Pre_finite_keys.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_keys m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
      ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6)
      ∧ r.2.mem ((c.tc : Thread Cert.CrossRefIdeal.nD Cert.CrossRefIdeal.τ).loc Cert.CrossRefIdeal.main_arg7) = m ((c.tc : Thread Cert.CrossRefIdeal.nD Cert.CrossRefIdeal.τ).loc Cert.CrossRefIdeal.main_arg7)
      ∧ r.2.mem ((c.tc : Thread Cert.CrossRefIdeal.nD Cert.CrossRefIdeal.τ).loc Cert.CrossRefIdeal.main_arg8) = m ((c.tc : Thread Cert.CrossRefIdeal.nD Cert.CrossRefIdeal.τ).loc Cert.CrossRefIdeal.main_arg8))
      ∧ r.2.sem = fun _ => 0)

def quiescent_CrossRefIdeal_pre_finite_keys [hCrossRefIdeal : Cert.CrossRefIdeal.Facts] [hPre_finite_keys : Cert.Pre_finite_keys.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_finite_keys m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6)
      ∧ r.2.mem ((c.tc : Thread Cert.CrossRefIdeal.nD Cert.CrossRefIdeal.τ).loc Cert.CrossRefIdeal.main_arg7) = m ((c.tc : Thread Cert.CrossRefIdeal.nD Cert.CrossRefIdeal.τ).loc Cert.CrossRefIdeal.main_arg7)
      ∧ r.2.mem ((c.tc : Thread Cert.CrossRefIdeal.nD Cert.CrossRefIdeal.τ).loc Cert.CrossRefIdeal.main_arg8) = m ((c.tc : Thread Cert.CrossRefIdeal.nD Cert.CrossRefIdeal.τ).loc Cert.CrossRefIdeal.main_arg8))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3)
      ∧ r.2.mem ((c.tc : Thread Cert.AdamKv.nD Cert.AdamKv.τ).loc Cert.AdamKv.main_arg4) = m ((c.tc : Thread Cert.AdamKv.nD Cert.AdamKv.τ).loc Cert.AdamKv.main_arg4)
      ∧ r.2.mem ((c.tc : Thread Cert.AdamKv.nD Cert.AdamKv.τ).loc Cert.AdamKv.main_arg5) = m ((c.tc : Thread Cert.AdamKv.nD Cert.AdamKv.τ).loc Cert.AdamKv.main_arg5))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
      ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4)
      ∧ r.2.mem ((c.tc : Thread Cert.AdamKvIdeal.nD Cert.AdamKvIdeal.τ).loc Cert.AdamKvIdeal.main_arg5) = m ((c.tc : Thread Cert.AdamKvIdeal.nD Cert.AdamKvIdeal.τ).loc Cert.AdamKvIdeal.main_arg5))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3)
      ∧ r.2.mem ((c.tc : Thread Cert.AdamKvRefIdeal.nD Cert.AdamKvRefIdeal.τ).loc Cert.AdamKvRefIdeal.main_arg4) = m ((c.tc : Thread Cert.AdamKvRefIdeal.nD Cert.AdamKvRefIdeal.τ).loc Cert.AdamKvRefIdeal.main_arg4)
      ∧ r.2.mem ((c.tc : Thread Cert.AdamKvRefIdeal.nD Cert.AdamKvRefIdeal.τ).loc Cert.AdamKvRefIdeal.main_arg5) = m ((c.tc : Thread Cert.AdamKvRefIdeal.nD Cert.AdamKvRefIdeal.τ).loc Cert.AdamKvRefIdeal.main_arg5))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0)

def preserves_Gate_GateIdeal : Prop :=
  IdealRules.named_const.Statement Cert.GateIdeal.κ "k0k1" .f32 0x3D122279#32 ((80338380498831 / 2251799813685248 : ℝ) : EReal)
  ∧ IdealRules.named_const.Statement Cert.GateIdeal.κ "k0k1x3" .f32 0x3DDB33B6#32 ((241015141496493 / 2251799813685248 : ℝ) : EReal)

def algebraic_GateIdeal_GateRefIdeal_pre_finite [hGateIdeal : Cert.GateIdeal.Facts] [hGateRefIdeal : Cert.GateRefIdeal.Facts] [hPre_finite : Cert.Pre_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v1_0)) (v1 : (c : Dev Cert.GateIdeal.nD) → Buf (Elt Ideal) ((c.tc : Thread Cert.GateIdeal.nD Cert.GateIdeal.τ).loc Cert.GateIdeal.main_v1_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1_0) = v0 c
          ∧ r.2.mem ((c.tc : Thread Cert.GateIdeal.nD Cert.GateIdeal.τ).loc Cert.GateIdeal.main_v1_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v65) = v0 c
          ∧ r.2.mem ((c.tc : Thread Cert.GateRefIdeal.nD Cert.GateRefIdeal.τ).loc Cert.GateRefIdeal.main_v89) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v77) = v0 c
          ∧ r.2.mem ((c.tc : Thread Cert.UpRefIdeal.nD Cert.UpRefIdeal.τ).loc Cert.UpRefIdeal.main_v78) = v1 c
          ∧ r.2.mem ((c.tc : Thread Cert.UpRefIdeal.nD Cert.UpRefIdeal.τ).loc Cert.UpRefIdeal.main_v80) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v6) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v8) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v6) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_QueryW_QueryWIdeal : Prop :=
  True

def algebraic_QueryWIdeal_QueryWRefIdeal [hQueryWIdeal : Cert.QueryWIdeal.Facts] [hQueryWRefIdeal : Cert.QueryWRefIdeal.Facts] : Prop :=
  ∀ (m : (ℓ : Loc Cert.QueryWIdeal.nD Cert.QueryWIdeal.τ Cert.QueryWIdeal.sig) → Buf (Elt Ideal) ℓ) (g : Dev Cert.QueryWIdeal.nD → PrngReg)
    (m' : (ℓ : Loc Cert.QueryWRefIdeal.nD Cert.QueryWRefIdeal.τ Cert.QueryWRefIdeal.sig) → Buf (Elt Ideal) ℓ) (g' : Dev Cert.QueryWRefIdeal.nD → PrngReg), Pre_QueryWIdeal m →
    (∀ c : Dev Cert.QueryWIdeal.nD,
      m' ((c.tc : Thread Cert.QueryWRefIdeal.nD Cert.QueryWRefIdeal.τ).loc Cert.QueryWRefIdeal.main_arg0) = m ((c.tc : Thread Cert.QueryWIdeal.nD Cert.QueryWIdeal.τ).loc Cert.QueryWIdeal.main_arg0)
      ∧ m' ((c.tc : Thread Cert.QueryWRefIdeal.nD Cert.QueryWRefIdeal.τ).loc Cert.QueryWRefIdeal.main_arg1) = m ((c.tc : Thread Cert.QueryWIdeal.nD Cert.QueryWIdeal.τ).loc Cert.QueryWIdeal.main_arg1)) →
    ∃ (v0 : (c : Dev Cert.QueryWIdeal.nD) → Buf (Elt Ideal) ((c.tc : Thread Cert.QueryWIdeal.nD Cert.QueryWIdeal.τ).loc Cert.QueryWIdeal.main_v0)),
      θ_run (Cert.QueryWIdeal.defs (F := Ideal)) (onTc (τ := Cert.QueryWIdeal.τ) (Cert.QueryWIdeal.main (F := Ideal))) ⟨m, fun _ => 0, g⟩ (fun r => ∀ c : Dev Cert.QueryWIdeal.nD,
          r.2.mem ((c.tc : Thread Cert.QueryWIdeal.nD Cert.QueryWIdeal.τ).loc Cert.QueryWIdeal.main_v0) = v0 c
          ∧ r.2.mem ((c.tc : Thread Cert.QueryWIdeal.nD Cert.QueryWIdeal.τ).loc Cert.QueryWIdeal.main_arg0) = m ((c.tc : Thread Cert.QueryWIdeal.nD Cert.QueryWIdeal.τ).loc Cert.QueryWIdeal.main_arg0)
          ∧ r.2.mem ((c.tc : Thread Cert.QueryWIdeal.nD Cert.QueryWIdeal.τ).loc Cert.QueryWIdeal.main_arg1) = m ((c.tc : Thread Cert.QueryWIdeal.nD Cert.QueryWIdeal.τ).loc Cert.QueryWIdeal.main_arg1))
      ∧ θ_run (Cert.QueryWRefIdeal.defs (F := Ideal)) (onTc (τ := Cert.QueryWRefIdeal.τ) (Cert.QueryWRefIdeal.main (F := Ideal))) ⟨m', fun _ => 0, g'⟩ (fun r => ∀ c : Dev Cert.QueryWRefIdeal.nD,
          r.2.mem ((c.tc : Thread Cert.QueryWRefIdeal.nD Cert.QueryWRefIdeal.τ).loc Cert.QueryWRefIdeal.main_v7) = v0 c
          ∧ r.2.mem ((c.tc : Thread Cert.QueryWRefIdeal.nD Cert.QueryWRefIdeal.τ).loc Cert.QueryWRefIdeal.main_arg0) = m' ((c.tc : Thread Cert.QueryWRefIdeal.nD Cert.QueryWRefIdeal.τ).loc Cert.QueryWRefIdeal.main_arg0)
          ∧ r.2.mem ((c.tc : Thread Cert.QueryWRefIdeal.nD Cert.QueryWRefIdeal.τ).loc Cert.QueryWRefIdeal.main_arg1) = m' ((c.tc : Thread Cert.QueryWRefIdeal.nD Cert.QueryWRefIdeal.τ).loc Cert.QueryWRefIdeal.main_arg1))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v6) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_MemW_MemWIdeal : Prop :=
  True

def algebraic_MemWIdeal_MemWRefIdeal [hMemWIdeal : Cert.MemWIdeal.Facts] [hMemWRefIdeal : Cert.MemWRefIdeal.Facts] : Prop :=
  ∀ (m : (ℓ : Loc Cert.MemWIdeal.nD Cert.MemWIdeal.τ Cert.MemWIdeal.sig) → Buf (Elt Ideal) ℓ) (g : Dev Cert.MemWIdeal.nD → PrngReg)
    (m' : (ℓ : Loc Cert.MemWRefIdeal.nD Cert.MemWRefIdeal.τ Cert.MemWRefIdeal.sig) → Buf (Elt Ideal) ℓ) (g' : Dev Cert.MemWRefIdeal.nD → PrngReg), Pre_MemWIdeal m →
    (∀ c : Dev Cert.MemWIdeal.nD,
      m' ((c.tc : Thread Cert.MemWRefIdeal.nD Cert.MemWRefIdeal.τ).loc Cert.MemWRefIdeal.main_arg0) = m ((c.tc : Thread Cert.MemWIdeal.nD Cert.MemWIdeal.τ).loc Cert.MemWIdeal.main_arg0)
      ∧ m' ((c.tc : Thread Cert.MemWRefIdeal.nD Cert.MemWRefIdeal.τ).loc Cert.MemWRefIdeal.main_arg1) = m ((c.tc : Thread Cert.MemWIdeal.nD Cert.MemWIdeal.τ).loc Cert.MemWIdeal.main_arg1)) →
    ∃ (v0 : (c : Dev Cert.MemWIdeal.nD) → Buf (Elt Ideal) ((c.tc : Thread Cert.MemWIdeal.nD Cert.MemWIdeal.τ).loc Cert.MemWIdeal.main_v0)),
      θ_run (Cert.MemWIdeal.defs (F := Ideal)) (onTc (τ := Cert.MemWIdeal.τ) (Cert.MemWIdeal.main (F := Ideal))) ⟨m, fun _ => 0, g⟩ (fun r => ∀ c : Dev Cert.MemWIdeal.nD,
          r.2.mem ((c.tc : Thread Cert.MemWIdeal.nD Cert.MemWIdeal.τ).loc Cert.MemWIdeal.main_v0) = v0 c
          ∧ r.2.mem ((c.tc : Thread Cert.MemWIdeal.nD Cert.MemWIdeal.τ).loc Cert.MemWIdeal.main_arg0) = m ((c.tc : Thread Cert.MemWIdeal.nD Cert.MemWIdeal.τ).loc Cert.MemWIdeal.main_arg0)
          ∧ r.2.mem ((c.tc : Thread Cert.MemWIdeal.nD Cert.MemWIdeal.τ).loc Cert.MemWIdeal.main_arg1) = m ((c.tc : Thread Cert.MemWIdeal.nD Cert.MemWIdeal.τ).loc Cert.MemWIdeal.main_arg1))
      ∧ θ_run (Cert.MemWRefIdeal.defs (F := Ideal)) (onTc (τ := Cert.MemWRefIdeal.τ) (Cert.MemWRefIdeal.main (F := Ideal))) ⟨m', fun _ => 0, g'⟩ (fun r => ∀ c : Dev Cert.MemWRefIdeal.nD,
          r.2.mem ((c.tc : Thread Cert.MemWRefIdeal.nD Cert.MemWRefIdeal.τ).loc Cert.MemWRefIdeal.main_v8) = v0 c
          ∧ r.2.mem ((c.tc : Thread Cert.MemWRefIdeal.nD Cert.MemWRefIdeal.τ).loc Cert.MemWRefIdeal.main_arg0) = m' ((c.tc : Thread Cert.MemWRefIdeal.nD Cert.MemWRefIdeal.τ).loc Cert.MemWRefIdeal.main_arg0)
          ∧ r.2.mem ((c.tc : Thread Cert.MemWRefIdeal.nD Cert.MemWRefIdeal.τ).loc Cert.MemWRefIdeal.main_arg1) = m' ((c.tc : Thread Cert.MemWRefIdeal.nD Cert.MemWRefIdeal.τ).loc Cert.MemWRefIdeal.main_arg1))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)
      ∧ m' ((c.tc : Thread Cert.InXRefIdeal.nD Cert.InXRefIdeal.τ).loc Cert.InXRefIdeal.main_arg3) = m ((c.tc : Thread Cert.InXIdeal.nD Cert.InXIdeal.τ).loc Cert.InXIdeal.main_arg3)
      ∧ m' ((c.tc : Thread Cert.InXRefIdeal.nD Cert.InXRefIdeal.τ).loc Cert.InXRefIdeal.main_arg4) = m ((c.tc : Thread Cert.InXIdeal.nD Cert.InXIdeal.τ).loc Cert.InXIdeal.main_arg4)) →
    ∃ (v0 : (c : Dev Cert.InXIdeal.nD) → Buf (Elt Ideal) ((c.tc : Thread Cert.InXIdeal.nD Cert.InXIdeal.τ).loc Cert.InXIdeal.main_v0_0)) (v1 : (c : Dev Cert.InXIdeal.nD) → Buf (Elt Ideal) ((c.tc : Thread Cert.InXIdeal.nD Cert.InXIdeal.τ).loc Cert.InXIdeal.main_v0_1)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v0_0) = v0 c
          ∧ r.2.mem ((c.tc : Thread Cert.InXIdeal.nD Cert.InXIdeal.τ).loc Cert.InXIdeal.main_v0_1) = v1 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
          ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
          ∧ r.2.mem ((c.tc : Thread Cert.InXIdeal.nD Cert.InXIdeal.τ).loc Cert.InXIdeal.main_arg4) = m ((c.tc : Thread Cert.InXIdeal.nD Cert.InXIdeal.τ).loc Cert.InXIdeal.main_arg4))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v40) = v0 c
          ∧ r.2.mem ((c.tc : Thread Cert.InXRefIdeal.nD Cert.InXRefIdeal.τ).loc Cert.InXRefIdeal.main_v42) = v1 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2)
          ∧ r.2.mem ((c.tc : Thread Cert.InXRefIdeal.nD Cert.InXRefIdeal.τ).loc Cert.InXRefIdeal.main_arg3) = m' ((c.tc : Thread Cert.InXRefIdeal.nD Cert.InXRefIdeal.τ).loc Cert.InXRefIdeal.main_arg3)
          ∧ r.2.mem ((c.tc : Thread Cert.InXRefIdeal.nD Cert.InXRefIdeal.τ).loc Cert.InXRefIdeal.main_arg4) = m' ((c.tc : Thread Cert.InXRefIdeal.nD Cert.InXRefIdeal.τ).loc Cert.InXRefIdeal.main_arg4))

def preserves_MemX_MemXIdeal : Prop :=
  True

def algebraic_MemXIdeal_MemXRefIdeal [hMemXIdeal : Cert.MemXIdeal.Facts] [hMemXRefIdeal : Cert.MemXRefIdeal.Facts] : Prop :=
  ∀ (m : (ℓ : Loc Cert.MemXIdeal.nD Cert.MemXIdeal.τ Cert.MemXIdeal.sig) → Buf (Elt Ideal) ℓ) (g : Dev Cert.MemXIdeal.nD → PrngReg)
    (m' : (ℓ : Loc Cert.MemXRefIdeal.nD Cert.MemXRefIdeal.τ Cert.MemXRefIdeal.sig) → Buf (Elt Ideal) ℓ) (g' : Dev Cert.MemXRefIdeal.nD → PrngReg), Pre_MemXIdeal m →
    (∀ c : Dev Cert.MemXIdeal.nD,
      m' ((c.tc : Thread Cert.MemXRefIdeal.nD Cert.MemXRefIdeal.τ).loc Cert.MemXRefIdeal.main_arg0) = m ((c.tc : Thread Cert.MemXIdeal.nD Cert.MemXIdeal.τ).loc Cert.MemXIdeal.main_arg0)
      ∧ m' ((c.tc : Thread Cert.MemXRefIdeal.nD Cert.MemXRefIdeal.τ).loc Cert.MemXRefIdeal.main_arg1) = m ((c.tc : Thread Cert.MemXIdeal.nD Cert.MemXIdeal.τ).loc Cert.MemXIdeal.main_arg1)
      ∧ m' ((c.tc : Thread Cert.MemXRefIdeal.nD Cert.MemXRefIdeal.τ).loc Cert.MemXRefIdeal.main_arg2) = m ((c.tc : Thread Cert.MemXIdeal.nD Cert.MemXIdeal.τ).loc Cert.MemXIdeal.main_arg2)
      ∧ m' ((c.tc : Thread Cert.MemXRefIdeal.nD Cert.MemXRefIdeal.τ).loc Cert.MemXRefIdeal.main_arg3) = m ((c.tc : Thread Cert.MemXIdeal.nD Cert.MemXIdeal.τ).loc Cert.MemXIdeal.main_arg3)) →
    ∃ (v0 : (c : Dev Cert.MemXIdeal.nD) → Buf (Elt Ideal) ((c.tc : Thread Cert.MemXIdeal.nD Cert.MemXIdeal.τ).loc Cert.MemXIdeal.main_v1_0)) (v1 : (c : Dev Cert.MemXIdeal.nD) → Buf (Elt Ideal) ((c.tc : Thread Cert.MemXIdeal.nD Cert.MemXIdeal.τ).loc Cert.MemXIdeal.main_v1_1)),
      θ_run (Cert.MemXIdeal.defs (F := Ideal)) (onTc (τ := Cert.MemXIdeal.τ) (Cert.MemXIdeal.main (F := Ideal))) ⟨m, fun _ => 0, g⟩ (fun r => ∀ c : Dev Cert.MemXIdeal.nD,
          r.2.mem ((c.tc : Thread Cert.MemXIdeal.nD Cert.MemXIdeal.τ).loc Cert.MemXIdeal.main_v1_0) = v0 c
          ∧ r.2.mem ((c.tc : Thread Cert.MemXIdeal.nD Cert.MemXIdeal.τ).loc Cert.MemXIdeal.main_v1_1) = v1 c
          ∧ r.2.mem ((c.tc : Thread Cert.MemXIdeal.nD Cert.MemXIdeal.τ).loc Cert.MemXIdeal.main_arg0) = m ((c.tc : Thread Cert.MemXIdeal.nD Cert.MemXIdeal.τ).loc Cert.MemXIdeal.main_arg0)
          ∧ r.2.mem ((c.tc : Thread Cert.MemXIdeal.nD Cert.MemXIdeal.τ).loc Cert.MemXIdeal.main_arg1) = m ((c.tc : Thread Cert.MemXIdeal.nD Cert.MemXIdeal.τ).loc Cert.MemXIdeal.main_arg1)
          ∧ r.2.mem ((c.tc : Thread Cert.MemXIdeal.nD Cert.MemXIdeal.τ).loc Cert.MemXIdeal.main_arg2) = m ((c.tc : Thread Cert.MemXIdeal.nD Cert.MemXIdeal.τ).loc Cert.MemXIdeal.main_arg2)
          ∧ r.2.mem ((c.tc : Thread Cert.MemXIdeal.nD Cert.MemXIdeal.τ).loc Cert.MemXIdeal.main_arg3) = m ((c.tc : Thread Cert.MemXIdeal.nD Cert.MemXIdeal.τ).loc Cert.MemXIdeal.main_arg3))
      ∧ θ_run (Cert.MemXRefIdeal.defs (F := Ideal)) (onTc (τ := Cert.MemXRefIdeal.τ) (Cert.MemXRefIdeal.main (F := Ideal))) ⟨m', fun _ => 0, g'⟩ (fun r => ∀ c : Dev Cert.MemXRefIdeal.nD,
          r.2.mem ((c.tc : Thread Cert.MemXRefIdeal.nD Cert.MemXRefIdeal.τ).loc Cert.MemXRefIdeal.main_v41) = v0 c
          ∧ r.2.mem ((c.tc : Thread Cert.MemXRefIdeal.nD Cert.MemXRefIdeal.τ).loc Cert.MemXRefIdeal.main_v43) = v1 c
          ∧ r.2.mem ((c.tc : Thread Cert.MemXRefIdeal.nD Cert.MemXRefIdeal.τ).loc Cert.MemXRefIdeal.main_arg0) = m' ((c.tc : Thread Cert.MemXRefIdeal.nD Cert.MemXRefIdeal.τ).loc Cert.MemXRefIdeal.main_arg0)
          ∧ r.2.mem ((c.tc : Thread Cert.MemXRefIdeal.nD Cert.MemXRefIdeal.τ).loc Cert.MemXRefIdeal.main_arg1) = m' ((c.tc : Thread Cert.MemXRefIdeal.nD Cert.MemXRefIdeal.τ).loc Cert.MemXRefIdeal.main_arg1)
          ∧ r.2.mem ((c.tc : Thread Cert.MemXRefIdeal.nD Cert.MemXRefIdeal.τ).loc Cert.MemXRefIdeal.main_arg2) = m' ((c.tc : Thread Cert.MemXRefIdeal.nD Cert.MemXRefIdeal.τ).loc Cert.MemXRefIdeal.main_arg2)
          ∧ r.2.mem ((c.tc : Thread Cert.MemXRefIdeal.nD Cert.MemXRefIdeal.τ).loc Cert.MemXRefIdeal.main_arg3) = m' ((c.tc : Thread Cert.MemXRefIdeal.nD Cert.MemXRefIdeal.τ).loc Cert.MemXRefIdeal.main_arg3))

def preserves_Xattn_XattnIdeal : Prop :=
  True

def algebraic_XattnIdeal_XattnRefIdeal_pre_finite_block [hXattnIdeal : Cert.XattnIdeal.Facts] [hXattnRefIdeal : Cert.XattnRefIdeal.Facts] [hPre_finite_block : Cert.Pre_finite_block.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_finite_block m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)
      ∧ m' ((c.tc : Thread Cert.XattnRefIdeal.nD Cert.XattnRefIdeal.τ).loc Cert.XattnRefIdeal.main_arg5) = m ((c.tc : Thread Cert.XattnIdeal.nD Cert.XattnIdeal.τ).loc Cert.XattnIdeal.main_arg5)
      ∧ m' ((c.tc : Thread Cert.XattnRefIdeal.nD Cert.XattnRefIdeal.τ).loc Cert.XattnRefIdeal.main_arg6) = m ((c.tc : Thread Cert.XattnIdeal.nD Cert.XattnIdeal.τ).loc Cert.XattnIdeal.main_arg6)
      ∧ m' ((c.tc : Thread Cert.XattnRefIdeal.nD Cert.XattnRefIdeal.τ).loc Cert.XattnRefIdeal.main_arg7) = m ((c.tc : Thread Cert.XattnIdeal.nD Cert.XattnIdeal.τ).loc Cert.XattnIdeal.main_arg7)
      ∧ m' ((c.tc : Thread Cert.XattnRefIdeal.nD Cert.XattnRefIdeal.τ).loc Cert.XattnRefIdeal.main_arg8) = m ((c.tc : Thread Cert.XattnIdeal.nD Cert.XattnIdeal.τ).loc Cert.XattnIdeal.main_arg8)
      ∧ m' ((c.tc : Thread Cert.XattnRefIdeal.nD Cert.XattnRefIdeal.τ).loc Cert.XattnRefIdeal.main_arg9) = m ((c.tc : Thread Cert.XattnIdeal.nD Cert.XattnIdeal.τ).loc Cert.XattnIdeal.main_arg9)
      ∧ m' ((c.tc : Thread Cert.XattnRefIdeal.nD Cert.XattnRefIdeal.τ).loc Cert.XattnRefIdeal.main_arg10) = m ((c.tc : Thread Cert.XattnIdeal.nD Cert.XattnIdeal.τ).loc Cert.XattnIdeal.main_arg10)
      ∧ m' ((c.tc : Thread Cert.XattnRefIdeal.nD Cert.XattnRefIdeal.τ).loc Cert.XattnRefIdeal.main_arg11) = m ((c.tc : Thread Cert.XattnIdeal.nD Cert.XattnIdeal.τ).loc Cert.XattnIdeal.main_arg11)
      ∧ m' ((c.tc : Thread Cert.XattnRefIdeal.nD Cert.XattnRefIdeal.τ).loc Cert.XattnRefIdeal.main_arg12) = m ((c.tc : Thread Cert.XattnIdeal.nD Cert.XattnIdeal.τ).loc Cert.XattnIdeal.main_arg12)
      ∧ m' ((c.tc : Thread Cert.XattnRefIdeal.nD Cert.XattnRefIdeal.τ).loc Cert.XattnRefIdeal.main_arg13) = m ((c.tc : Thread Cert.XattnIdeal.nD Cert.XattnIdeal.τ).loc Cert.XattnIdeal.main_arg13)) →
    ∃ (v0 : (c : Dev Cert.XattnIdeal.nD) → Buf (Elt Ideal) ((c.tc : Thread Cert.XattnIdeal.nD Cert.XattnIdeal.τ).loc Cert.XattnIdeal.main_v0_0)) (v1 : (c : Dev Cert.XattnIdeal.nD) → Buf (Elt Ideal) ((c.tc : Thread Cert.XattnIdeal.nD Cert.XattnIdeal.τ).loc Cert.XattnIdeal.main_v0_1)) (v2 : (c : Dev Cert.XattnIdeal.nD) → Buf (Elt Ideal) ((c.tc : Thread Cert.XattnIdeal.nD Cert.XattnIdeal.τ).loc Cert.XattnIdeal.main_v0_2)) (v3 : (c : Dev Cert.XattnIdeal.nD) → Buf (Elt Ideal) ((c.tc : Thread Cert.XattnIdeal.nD Cert.XattnIdeal.τ).loc Cert.XattnIdeal.main_v0_3)) (v4 : (c : Dev Cert.XattnIdeal.nD) → Buf (Elt Ideal) ((c.tc : Thread Cert.XattnIdeal.nD Cert.XattnIdeal.τ).loc Cert.XattnIdeal.main_v0_4)) (v5 : (c : Dev Cert.XattnIdeal.nD) → Buf (Elt Ideal) ((c.tc : Thread Cert.XattnIdeal.nD Cert.XattnIdeal.τ).loc Cert.XattnIdeal.main_v0_5)) (v6 : (c : Dev Cert.XattnIdeal.nD) → Buf (Elt Ideal) ((c.tc : Thread Cert.XattnIdeal.nD Cert.XattnIdeal.τ).loc Cert.XattnIdeal.main_v0_6)) (v7 : (c : Dev Cert.XattnIdeal.nD) → Buf (Elt Ideal) ((c.tc : Thread Cert.XattnIdeal.nD Cert.XattnIdeal.τ).loc Cert.XattnIdeal.main_v0_7)) (v8 : (c : Dev Cert.XattnIdeal.nD) → Buf (Elt Ideal) ((c.tc : Thread Cert.XattnIdeal.nD Cert.XattnIdeal.τ).loc Cert.XattnIdeal.main_v0_8)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v0_0) = v0 c
          ∧ r.2.mem ((c.tc : Thread Cert.XattnIdeal.nD Cert.XattnIdeal.τ).loc Cert.XattnIdeal.main_v0_1) = v1 c
          ∧ r.2.mem ((c.tc : Thread Cert.XattnIdeal.nD Cert.XattnIdeal.τ).loc Cert.XattnIdeal.main_v0_2) = v2 c
          ∧ r.2.mem ((c.tc : Thread Cert.XattnIdeal.nD Cert.XattnIdeal.τ).loc Cert.XattnIdeal.main_v0_3) = v3 c
          ∧ r.2.mem ((c.tc : Thread Cert.XattnIdeal.nD Cert.XattnIdeal.τ).loc Cert.XattnIdeal.main_v0_4) = v4 c
          ∧ r.2.mem ((c.tc : Thread Cert.XattnIdeal.nD Cert.XattnIdeal.τ).loc Cert.XattnIdeal.main_v0_5) = v5 c
          ∧ r.2.mem ((c.tc : Thread Cert.XattnIdeal.nD Cert.XattnIdeal.τ).loc Cert.XattnIdeal.main_v0_6) = v6 c
          ∧ r.2.mem ((c.tc : Thread Cert.XattnIdeal.nD Cert.XattnIdeal.τ).loc Cert.XattnIdeal.main_v0_7) = v7 c
          ∧ r.2.mem ((c.tc : Thread Cert.XattnIdeal.nD Cert.XattnIdeal.τ).loc Cert.XattnIdeal.main_v0_8) = v8 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
          ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
          ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7)
          ∧ r.2.mem ((c.tc : Thread Cert.XattnIdeal.nD Cert.XattnIdeal.τ).loc Cert.XattnIdeal.main_arg8) = m ((c.tc : Thread Cert.XattnIdeal.nD Cert.XattnIdeal.τ).loc Cert.XattnIdeal.main_arg8)
          ∧ r.2.mem ((c.tc : Thread Cert.XattnIdeal.nD Cert.XattnIdeal.τ).loc Cert.XattnIdeal.main_arg9) = m ((c.tc : Thread Cert.XattnIdeal.nD Cert.XattnIdeal.τ).loc Cert.XattnIdeal.main_arg9)
          ∧ r.2.mem ((c.tc : Thread Cert.XattnIdeal.nD Cert.XattnIdeal.τ).loc Cert.XattnIdeal.main_arg10) = m ((c.tc : Thread Cert.XattnIdeal.nD Cert.XattnIdeal.τ).loc Cert.XattnIdeal.main_arg10)
          ∧ r.2.mem ((c.tc : Thread Cert.XattnIdeal.nD Cert.XattnIdeal.τ).loc Cert.XattnIdeal.main_arg11) = m ((c.tc : Thread Cert.XattnIdeal.nD Cert.XattnIdeal.τ).loc Cert.XattnIdeal.main_arg11)
          ∧ r.2.mem ((c.tc : Thread Cert.XattnIdeal.nD Cert.XattnIdeal.τ).loc Cert.XattnIdeal.main_arg12) = m ((c.tc : Thread Cert.XattnIdeal.nD Cert.XattnIdeal.τ).loc Cert.XattnIdeal.main_arg12)
          ∧ r.2.mem ((c.tc : Thread Cert.XattnIdeal.nD Cert.XattnIdeal.τ).loc Cert.XattnIdeal.main_arg13) = m ((c.tc : Thread Cert.XattnIdeal.nD Cert.XattnIdeal.τ).loc Cert.XattnIdeal.main_arg13))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v220) = v0 c
          ∧ r.2.mem ((c.tc : Thread Cert.XattnRefIdeal.nD Cert.XattnRefIdeal.τ).loc Cert.XattnRefIdeal.main_v178) = v1 c
          ∧ r.2.mem ((c.tc : Thread Cert.XattnRefIdeal.nD Cert.XattnRefIdeal.τ).loc Cert.XattnRefIdeal.main_v135) = v2 c
          ∧ r.2.mem ((c.tc : Thread Cert.XattnRefIdeal.nD Cert.XattnRefIdeal.τ).loc Cert.XattnRefIdeal.main_v134) = v3 c
          ∧ r.2.mem ((c.tc : Thread Cert.XattnRefIdeal.nD Cert.XattnRefIdeal.τ).loc Cert.XattnRefIdeal.main_v222) = v4 c
          ∧ r.2.mem ((c.tc : Thread Cert.XattnRefIdeal.nD Cert.XattnRefIdeal.τ).loc Cert.XattnRefIdeal.main_v224) = v5 c
          ∧ r.2.mem ((c.tc : Thread Cert.XattnRefIdeal.nD Cert.XattnRefIdeal.τ).loc Cert.XattnRefIdeal.main_v219) = v6 c
          ∧ r.2.mem ((c.tc : Thread Cert.XattnRefIdeal.nD Cert.XattnRefIdeal.τ).loc Cert.XattnRefIdeal.main_v200) = v7 c
          ∧ r.2.mem ((c.tc : Thread Cert.XattnRefIdeal.nD Cert.XattnRefIdeal.τ).loc Cert.XattnRefIdeal.main_v227) = v8 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4)
          ∧ r.2.mem ((c.tc : Thread Cert.XattnRefIdeal.nD Cert.XattnRefIdeal.τ).loc Cert.XattnRefIdeal.main_arg5) = m' ((c.tc : Thread Cert.XattnRefIdeal.nD Cert.XattnRefIdeal.τ).loc Cert.XattnRefIdeal.main_arg5)
          ∧ r.2.mem ((c.tc : Thread Cert.XattnRefIdeal.nD Cert.XattnRefIdeal.τ).loc Cert.XattnRefIdeal.main_arg6) = m' ((c.tc : Thread Cert.XattnRefIdeal.nD Cert.XattnRefIdeal.τ).loc Cert.XattnRefIdeal.main_arg6)
          ∧ r.2.mem ((c.tc : Thread Cert.XattnRefIdeal.nD Cert.XattnRefIdeal.τ).loc Cert.XattnRefIdeal.main_arg7) = m' ((c.tc : Thread Cert.XattnRefIdeal.nD Cert.XattnRefIdeal.τ).loc Cert.XattnRefIdeal.main_arg7)
          ∧ r.2.mem ((c.tc : Thread Cert.XattnRefIdeal.nD Cert.XattnRefIdeal.τ).loc Cert.XattnRefIdeal.main_arg8) = m' ((c.tc : Thread Cert.XattnRefIdeal.nD Cert.XattnRefIdeal.τ).loc Cert.XattnRefIdeal.main_arg8)
          ∧ r.2.mem ((c.tc : Thread Cert.XattnRefIdeal.nD Cert.XattnRefIdeal.τ).loc Cert.XattnRefIdeal.main_arg9) = m' ((c.tc : Thread Cert.XattnRefIdeal.nD Cert.XattnRefIdeal.τ).loc Cert.XattnRefIdeal.main_arg9)
          ∧ r.2.mem ((c.tc : Thread Cert.XattnRefIdeal.nD Cert.XattnRefIdeal.τ).loc Cert.XattnRefIdeal.main_arg10) = m' ((c.tc : Thread Cert.XattnRefIdeal.nD Cert.XattnRefIdeal.τ).loc Cert.XattnRefIdeal.main_arg10)
          ∧ r.2.mem ((c.tc : Thread Cert.XattnRefIdeal.nD Cert.XattnRefIdeal.τ).loc Cert.XattnRefIdeal.main_arg11) = m' ((c.tc : Thread Cert.XattnRefIdeal.nD Cert.XattnRefIdeal.τ).loc Cert.XattnRefIdeal.main_arg11)
          ∧ r.2.mem ((c.tc : Thread Cert.XattnRefIdeal.nD Cert.XattnRefIdeal.τ).loc Cert.XattnRefIdeal.main_arg12) = m' ((c.tc : Thread Cert.XattnRefIdeal.nD Cert.XattnRefIdeal.τ).loc Cert.XattnRefIdeal.main_arg12)
          ∧ r.2.mem ((c.tc : Thread Cert.XattnRefIdeal.nD Cert.XattnRefIdeal.τ).loc Cert.XattnRefIdeal.main_arg13) = m' ((c.tc : Thread Cert.XattnRefIdeal.nD Cert.XattnRefIdeal.τ).loc Cert.XattnRefIdeal.main_arg13))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)) (v3 : (c : Dev Cert.FfnIdeal.nD) → Buf (Elt Ideal) ((c.tc : Thread Cert.FfnIdeal.nD Cert.FfnIdeal.τ).loc Cert.FfnIdeal.main_v0_3)) (v4 : (c : Dev Cert.FfnIdeal.nD) → Buf (Elt Ideal) ((c.tc : Thread Cert.FfnIdeal.nD Cert.FfnIdeal.τ).loc Cert.FfnIdeal.main_v0_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_v0_3) = v3 c
          ∧ r.2.mem ((c.tc : Thread Cert.FfnIdeal.nD Cert.FfnIdeal.τ).loc Cert.FfnIdeal.main_v0_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v74) = v0 c
          ∧ r.2.mem ((c.tc : Thread Cert.FfnRefIdeal.nD Cert.FfnRefIdeal.τ).loc Cert.FfnRefIdeal.main_v15) = v1 c
          ∧ r.2.mem ((c.tc : Thread Cert.FfnRefIdeal.nD Cert.FfnRefIdeal.τ).loc Cert.FfnRefIdeal.main_v75) = v2 c
          ∧ r.2.mem ((c.tc : Thread Cert.FfnRefIdeal.nD Cert.FfnRefIdeal.τ).loc Cert.FfnRefIdeal.main_v73) = v3 c
          ∧ r.2.mem ((c.tc : Thread Cert.FfnRefIdeal.nD Cert.FfnRefIdeal.τ).loc Cert.FfnRefIdeal.main_v76) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_KeyNorm_KeyNormIdeal : Prop :=
  True

def algebraic_KeyNormIdeal_KeyNormRefIdeal [hKeyNormIdeal : Cert.KeyNormIdeal.Facts] [hKeyNormRefIdeal : Cert.KeyNormRefIdeal.Facts] : Prop :=
  ∀ (m : (ℓ : Loc Cert.KeyNormIdeal.nD Cert.KeyNormIdeal.τ Cert.KeyNormIdeal.sig) → Buf (Elt Ideal) ℓ) (g : Dev Cert.KeyNormIdeal.nD → PrngReg)
    (m' : (ℓ : Loc Cert.KeyNormRefIdeal.nD Cert.KeyNormRefIdeal.τ Cert.KeyNormRefIdeal.sig) → Buf (Elt Ideal) ℓ) (g' : Dev Cert.KeyNormRefIdeal.nD → PrngReg), Pre_KeyNormIdeal m →
    (∀ c : Dev Cert.KeyNormIdeal.nD,
      m' ((c.tc : Thread Cert.KeyNormRefIdeal.nD Cert.KeyNormRefIdeal.τ).loc Cert.KeyNormRefIdeal.main_arg0) = m ((c.tc : Thread Cert.KeyNormIdeal.nD Cert.KeyNormIdeal.τ).loc Cert.KeyNormIdeal.main_arg0)
      ∧ m' ((c.tc : Thread Cert.KeyNormRefIdeal.nD Cert.KeyNormRefIdeal.τ).loc Cert.KeyNormRefIdeal.main_arg1) = m ((c.tc : Thread Cert.KeyNormIdeal.nD Cert.KeyNormIdeal.τ).loc Cert.KeyNormIdeal.main_arg1)
      ∧ m' ((c.tc : Thread Cert.KeyNormRefIdeal.nD Cert.KeyNormRefIdeal.τ).loc Cert.KeyNormRefIdeal.main_arg2) = m ((c.tc : Thread Cert.KeyNormIdeal.nD Cert.KeyNormIdeal.τ).loc Cert.KeyNormIdeal.main_arg2)
      ∧ m' ((c.tc : Thread Cert.KeyNormRefIdeal.nD Cert.KeyNormRefIdeal.τ).loc Cert.KeyNormRefIdeal.main_arg3) = m ((c.tc : Thread Cert.KeyNormIdeal.nD Cert.KeyNormIdeal.τ).loc Cert.KeyNormIdeal.main_arg3)) →
    ∃ (v0 : (c : Dev Cert.KeyNormIdeal.nD) → Buf (Elt Ideal) ((c.tc : Thread Cert.KeyNormIdeal.nD Cert.KeyNormIdeal.τ).loc Cert.KeyNormIdeal.main_v0_0)) (v1 : (c : Dev Cert.KeyNormIdeal.nD) → Buf (Elt Ideal) ((c.tc : Thread Cert.KeyNormIdeal.nD Cert.KeyNormIdeal.τ).loc Cert.KeyNormIdeal.main_v0_1)),
      θ_run (Cert.KeyNormIdeal.defs (F := Ideal)) (onTc (τ := Cert.KeyNormIdeal.τ) (Cert.KeyNormIdeal.main (F := Ideal))) ⟨m, fun _ => 0, g⟩ (fun r => ∀ c : Dev Cert.KeyNormIdeal.nD,
          r.2.mem ((c.tc : Thread Cert.KeyNormIdeal.nD Cert.KeyNormIdeal.τ).loc Cert.KeyNormIdeal.main_v0_0) = v0 c
          ∧ r.2.mem ((c.tc : Thread Cert.KeyNormIdeal.nD Cert.KeyNormIdeal.τ).loc Cert.KeyNormIdeal.main_v0_1) = v1 c
          ∧ r.2.mem ((c.tc : Thread Cert.KeyNormIdeal.nD Cert.KeyNormIdeal.τ).loc Cert.KeyNormIdeal.main_arg0) = m ((c.tc : Thread Cert.KeyNormIdeal.nD Cert.KeyNormIdeal.τ).loc Cert.KeyNormIdeal.main_arg0)
          ∧ r.2.mem ((c.tc : Thread Cert.KeyNormIdeal.nD Cert.KeyNormIdeal.τ).loc Cert.KeyNormIdeal.main_arg1) = m ((c.tc : Thread Cert.KeyNormIdeal.nD Cert.KeyNormIdeal.τ).loc Cert.KeyNormIdeal.main_arg1)
          ∧ r.2.mem ((c.tc : Thread Cert.KeyNormIdeal.nD Cert.KeyNormIdeal.τ).loc Cert.KeyNormIdeal.main_arg2) = m ((c.tc : Thread Cert.KeyNormIdeal.nD Cert.KeyNormIdeal.τ).loc Cert.KeyNormIdeal.main_arg2)
          ∧ r.2.mem ((c.tc : Thread Cert.KeyNormIdeal.nD Cert.KeyNormIdeal.τ).loc Cert.KeyNormIdeal.main_arg3) = m ((c.tc : Thread Cert.KeyNormIdeal.nD Cert.KeyNormIdeal.τ).loc Cert.KeyNormIdeal.main_arg3))
      ∧ θ_run (Cert.KeyNormRefIdeal.defs (F := Ideal)) (onTc (τ := Cert.KeyNormRefIdeal.τ) (Cert.KeyNormRefIdeal.main (F := Ideal))) ⟨m', fun _ => 0, g'⟩ (fun r => ∀ c : Dev Cert.KeyNormRefIdeal.nD,
          r.2.mem ((c.tc : Thread Cert.KeyNormRefIdeal.nD Cert.KeyNormRefIdeal.τ).loc Cert.KeyNormRefIdeal.main_v44) = v0 c
          ∧ r.2.mem ((c.tc : Thread Cert.KeyNormRefIdeal.nD Cert.KeyNormRefIdeal.τ).loc Cert.KeyNormRefIdeal.main_v46) = v1 c
          ∧ r.2.mem ((c.tc : Thread Cert.KeyNormRefIdeal.nD Cert.KeyNormRefIdeal.τ).loc Cert.KeyNormRefIdeal.main_arg0) = m' ((c.tc : Thread Cert.KeyNormRefIdeal.nD Cert.KeyNormRefIdeal.τ).loc Cert.KeyNormRefIdeal.main_arg0)
          ∧ r.2.mem ((c.tc : Thread Cert.KeyNormRefIdeal.nD Cert.KeyNormRefIdeal.τ).loc Cert.KeyNormRefIdeal.main_arg1) = m' ((c.tc : Thread Cert.KeyNormRefIdeal.nD Cert.KeyNormRefIdeal.τ).loc Cert.KeyNormRefIdeal.main_arg1)
          ∧ r.2.mem ((c.tc : Thread Cert.KeyNormRefIdeal.nD Cert.KeyNormRefIdeal.τ).loc Cert.KeyNormRefIdeal.main_arg2) = m' ((c.tc : Thread Cert.KeyNormRefIdeal.nD Cert.KeyNormRefIdeal.τ).loc Cert.KeyNormRefIdeal.main_arg2)
          ∧ r.2.mem ((c.tc : Thread Cert.KeyNormRefIdeal.nD Cert.KeyNormRefIdeal.τ).loc Cert.KeyNormRefIdeal.main_arg3) = m' ((c.tc : Thread Cert.KeyNormRefIdeal.nD Cert.KeyNormRefIdeal.τ).loc Cert.KeyNormRefIdeal.main_arg3))

def preserves_MemPre_MemPreIdeal : Prop :=
  True

def algebraic_MemPreIdeal_MemPreRefIdeal [hMemPreIdeal : Cert.MemPreIdeal.Facts] [hMemPreRefIdeal : Cert.MemPreRefIdeal.Facts] : Prop :=
  ∀ (m : (ℓ : Loc Cert.MemPreIdeal.nD Cert.MemPreIdeal.τ Cert.MemPreIdeal.sig) → Buf (Elt Ideal) ℓ) (g : Dev Cert.MemPreIdeal.nD → PrngReg)
    (m' : (ℓ : Loc Cert.MemPreRefIdeal.nD Cert.MemPreRefIdeal.τ Cert.MemPreRefIdeal.sig) → Buf (Elt Ideal) ℓ) (g' : Dev Cert.MemPreRefIdeal.nD → PrngReg), Pre_MemPreIdeal m →
    (∀ c : Dev Cert.MemPreIdeal.nD,
      m' ((c.tc : Thread Cert.MemPreRefIdeal.nD Cert.MemPreRefIdeal.τ).loc Cert.MemPreRefIdeal.main_arg0) = m ((c.tc : Thread Cert.MemPreIdeal.nD Cert.MemPreIdeal.τ).loc Cert.MemPreIdeal.main_arg0)
      ∧ m' ((c.tc : Thread Cert.MemPreRefIdeal.nD Cert.MemPreRefIdeal.τ).loc Cert.MemPreRefIdeal.main_arg1) = m ((c.tc : Thread Cert.MemPreIdeal.nD Cert.MemPreIdeal.τ).loc Cert.MemPreIdeal.main_arg1)) →
    ∃ (v0 : (c : Dev Cert.MemPreIdeal.nD) → Buf (Elt Ideal) ((c.tc : Thread Cert.MemPreIdeal.nD Cert.MemPreIdeal.τ).loc Cert.MemPreIdeal.main_v0_0)) (v1 : (c : Dev Cert.MemPreIdeal.nD) → Buf (Elt Ideal) ((c.tc : Thread Cert.MemPreIdeal.nD Cert.MemPreIdeal.τ).loc Cert.MemPreIdeal.main_v0_1)),
      θ_run (Cert.MemPreIdeal.defs (F := Ideal)) (onTc (τ := Cert.MemPreIdeal.τ) (Cert.MemPreIdeal.main (F := Ideal))) ⟨m, fun _ => 0, g⟩ (fun r => ∀ c : Dev Cert.MemPreIdeal.nD,
          r.2.mem ((c.tc : Thread Cert.MemPreIdeal.nD Cert.MemPreIdeal.τ).loc Cert.MemPreIdeal.main_v0_0) = v0 c
          ∧ r.2.mem ((c.tc : Thread Cert.MemPreIdeal.nD Cert.MemPreIdeal.τ).loc Cert.MemPreIdeal.main_v0_1) = v1 c
          ∧ r.2.mem ((c.tc : Thread Cert.MemPreIdeal.nD Cert.MemPreIdeal.τ).loc Cert.MemPreIdeal.main_arg0) = m ((c.tc : Thread Cert.MemPreIdeal.nD Cert.MemPreIdeal.τ).loc Cert.MemPreIdeal.main_arg0)
          ∧ r.2.mem ((c.tc : Thread Cert.MemPreIdeal.nD Cert.MemPreIdeal.τ).loc Cert.MemPreIdeal.main_arg1) = m ((c.tc : Thread Cert.MemPreIdeal.nD Cert.MemPreIdeal.τ).loc Cert.MemPreIdeal.main_arg1))
      ∧ θ_run (Cert.MemPreRefIdeal.defs (F := Ideal)) (onTc (τ := Cert.MemPreRefIdeal.τ) (Cert.MemPreRefIdeal.main (F := Ideal))) ⟨m', fun _ => 0, g'⟩ (fun r => ∀ c : Dev Cert.MemPreRefIdeal.nD,
          r.2.mem ((c.tc : Thread Cert.MemPreRefIdeal.nD Cert.MemPreRefIdeal.τ).loc Cert.MemPreRefIdeal.main_v17) = v0 c
          ∧ r.2.mem ((c.tc : Thread Cert.MemPreRefIdeal.nD Cert.MemPreRefIdeal.τ).loc Cert.MemPreRefIdeal.main_v18) = v1 c
          ∧ r.2.mem ((c.tc : Thread Cert.MemPreRefIdeal.nD Cert.MemPreRefIdeal.τ).loc Cert.MemPreRefIdeal.main_arg0) = m' ((c.tc : Thread Cert.MemPreRefIdeal.nD Cert.MemPreRefIdeal.τ).loc Cert.MemPreRefIdeal.main_arg0)
          ∧ r.2.mem ((c.tc : Thread Cert.MemPreRefIdeal.nD Cert.MemPreRefIdeal.τ).loc Cert.MemPreRefIdeal.main_arg1) = m' ((c.tc : Thread Cert.MemPreRefIdeal.nD Cert.MemPreRefIdeal.τ).loc Cert.MemPreRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v0_0)) (v1 : (c : Dev Cert.MixInIdeal.nD) → Buf (Elt Ideal) ((c.tc : Thread Cert.MixInIdeal.nD Cert.MixInIdeal.τ).loc Cert.MixInIdeal.main_v0_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0_0) = v0 c
          ∧ r.2.mem ((c.tc : Thread Cert.MixInIdeal.nD Cert.MixInIdeal.τ).loc Cert.MixInIdeal.main_v0_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v15) = v0 c
          ∧ r.2.mem ((c.tc : Thread Cert.MixInRefIdeal.nD Cert.MixInRefIdeal.τ).loc Cert.MixInRefIdeal.main_v16) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_Cross_CrossIdeal : Prop :=
  True

def algebraic_CrossIdeal_CrossRefIdeal_pre_finite_keys [hCrossIdeal : Cert.CrossIdeal.Facts] [hCrossRefIdeal : Cert.CrossRefIdeal.Facts] [hPre_finite_keys : Cert.Pre_finite_keys.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_finite_keys m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)
      ∧ m' ((c.tc : Thread Cert.CrossRefIdeal.nD Cert.CrossRefIdeal.τ).loc Cert.CrossRefIdeal.main_arg6) = m ((c.tc : Thread Cert.CrossIdeal.nD Cert.CrossIdeal.τ).loc Cert.CrossIdeal.main_arg6)
      ∧ m' ((c.tc : Thread Cert.CrossRefIdeal.nD Cert.CrossRefIdeal.τ).loc Cert.CrossRefIdeal.main_arg7) = m ((c.tc : Thread Cert.CrossIdeal.nD Cert.CrossIdeal.τ).loc Cert.CrossIdeal.main_arg7)
      ∧ m' ((c.tc : Thread Cert.CrossRefIdeal.nD Cert.CrossRefIdeal.τ).loc Cert.CrossRefIdeal.main_arg8) = m ((c.tc : Thread Cert.CrossIdeal.nD Cert.CrossIdeal.τ).loc Cert.CrossIdeal.main_arg8)) →
    ∃ (v0 : (c : Dev Cert.CrossIdeal.nD) → Buf (Elt Ideal) ((c.tc : Thread Cert.CrossIdeal.nD Cert.CrossIdeal.τ).loc Cert.CrossIdeal.main_v0_0)) (v1 : (c : Dev Cert.CrossIdeal.nD) → Buf (Elt Ideal) ((c.tc : Thread Cert.CrossIdeal.nD Cert.CrossIdeal.τ).loc Cert.CrossIdeal.main_v0_1)) (v2 : (c : Dev Cert.CrossIdeal.nD) → Buf (Elt Ideal) ((c.tc : Thread Cert.CrossIdeal.nD Cert.CrossIdeal.τ).loc Cert.CrossIdeal.main_v0_2)) (v3 : (c : Dev Cert.CrossIdeal.nD) → Buf (Elt Ideal) ((c.tc : Thread Cert.CrossIdeal.nD Cert.CrossIdeal.τ).loc Cert.CrossIdeal.main_v0_3)) (v4 : (c : Dev Cert.CrossIdeal.nD) → Buf (Elt Ideal) ((c.tc : Thread Cert.CrossIdeal.nD Cert.CrossIdeal.τ).loc Cert.CrossIdeal.main_v0_4)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v0_0) = v0 c
          ∧ r.2.mem ((c.tc : Thread Cert.CrossIdeal.nD Cert.CrossIdeal.τ).loc Cert.CrossIdeal.main_v0_1) = v1 c
          ∧ r.2.mem ((c.tc : Thread Cert.CrossIdeal.nD Cert.CrossIdeal.τ).loc Cert.CrossIdeal.main_v0_2) = v2 c
          ∧ r.2.mem ((c.tc : Thread Cert.CrossIdeal.nD Cert.CrossIdeal.τ).loc Cert.CrossIdeal.main_v0_3) = v3 c
          ∧ r.2.mem ((c.tc : Thread Cert.CrossIdeal.nD Cert.CrossIdeal.τ).loc Cert.CrossIdeal.main_v0_4) = v4 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
          ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
          ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v3) = v0 c
          ∧ r.2.mem ((c.tc : Thread Cert.CrossRefIdeal.nD Cert.CrossRefIdeal.τ).loc Cert.CrossRefIdeal.main_v56) = v1 c
          ∧ r.2.mem ((c.tc : Thread Cert.CrossRefIdeal.nD Cert.CrossRefIdeal.τ).loc Cert.CrossRefIdeal.main_v17) = v2 c
          ∧ r.2.mem ((c.tc : Thread Cert.CrossRefIdeal.nD Cert.CrossRefIdeal.τ).loc Cert.CrossRefIdeal.main_v57) = v3 c
          ∧ r.2.mem ((c.tc : Thread Cert.CrossRefIdeal.nD Cert.CrossRefIdeal.τ).loc Cert.CrossRefIdeal.main_v55) = v4 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5)
          ∧ r.2.mem ((c.tc : Thread Cert.CrossRefIdeal.nD Cert.CrossRefIdeal.τ).loc Cert.CrossRefIdeal.main_arg6) = m' ((c.tc : Thread Cert.CrossRefIdeal.nD Cert.CrossRefIdeal.τ).loc Cert.CrossRefIdeal.main_arg6)
          ∧ r.2.mem ((c.tc : Thread Cert.CrossRefIdeal.nD Cert.CrossRefIdeal.τ).loc Cert.CrossRefIdeal.main_arg7) = m' ((c.tc : Thread Cert.CrossRefIdeal.nD Cert.CrossRefIdeal.τ).loc Cert.CrossRefIdeal.main_arg7)
          ∧ r.2.mem ((c.tc : Thread Cert.CrossRefIdeal.nD Cert.CrossRefIdeal.τ).loc Cert.CrossRefIdeal.main_arg8) = m' ((c.tc : Thread Cert.CrossRefIdeal.nD Cert.CrossRefIdeal.τ).loc Cert.CrossRefIdeal.main_arg8))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v7) = v0 c
          ∧ r.2.mem ((c.tc : Thread Cert.AdamInRefIdeal.nD Cert.AdamInRefIdeal.τ).loc Cert.AdamInRefIdeal.main_v31) = v1 c
          ∧ r.2.mem ((c.tc : Thread Cert.AdamInRefIdeal.nD Cert.AdamInRefIdeal.τ).loc Cert.AdamInRefIdeal.main_v12) = v2 c
          ∧ r.2.mem ((c.tc : Thread Cert.AdamInRefIdeal.nD Cert.AdamInRefIdeal.τ).loc Cert.AdamInRefIdeal.main_v18) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v7) = v0 c
          ∧ r.2.mem ((c.tc : Thread Cert.AdamOutRefIdeal.nD Cert.AdamOutRefIdeal.τ).loc Cert.AdamOutRefIdeal.main_v31) = v1 c
          ∧ r.2.mem ((c.tc : Thread Cert.AdamOutRefIdeal.nD Cert.AdamOutRefIdeal.τ).loc Cert.AdamOutRefIdeal.main_v12) = v2 c
          ∧ r.2.mem ((c.tc : Thread Cert.AdamOutRefIdeal.nD Cert.AdamOutRefIdeal.τ).loc Cert.AdamOutRefIdeal.main_v18) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)
      ∧ m' ((c.tc : Thread Cert.AdamKvRefIdeal.nD Cert.AdamKvRefIdeal.τ).loc Cert.AdamKvRefIdeal.main_arg4) = m ((c.tc : Thread Cert.AdamKvIdeal.nD Cert.AdamKvIdeal.τ).loc Cert.AdamKvIdeal.main_arg4)
      ∧ m' ((c.tc : Thread Cert.AdamKvRefIdeal.nD Cert.AdamKvRefIdeal.τ).loc Cert.AdamKvRefIdeal.main_arg5) = m ((c.tc : Thread Cert.AdamKvIdeal.nD Cert.AdamKvIdeal.τ).loc Cert.AdamKvIdeal.main_arg5)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)) (v3 : (c : Dev Cert.AdamKvIdeal.nD) → Buf (Elt Ideal) ((c.tc : Thread Cert.AdamKvIdeal.nD Cert.AdamKvIdeal.τ).loc Cert.AdamKvIdeal.main_v0_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_v0_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
          ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4)
          ∧ r.2.mem ((c.tc : Thread Cert.AdamKvIdeal.nD Cert.AdamKvIdeal.τ).loc Cert.AdamKvIdeal.main_arg5) = m ((c.tc : Thread Cert.AdamKvIdeal.nD Cert.AdamKvIdeal.τ).loc Cert.AdamKvIdeal.main_arg5))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v7) = v0 c
          ∧ r.2.mem ((c.tc : Thread Cert.AdamKvRefIdeal.nD Cert.AdamKvRefIdeal.τ).loc Cert.AdamKvRefIdeal.main_v31) = v1 c
          ∧ r.2.mem ((c.tc : Thread Cert.AdamKvRefIdeal.nD Cert.AdamKvRefIdeal.τ).loc Cert.AdamKvRefIdeal.main_v12) = v2 c
          ∧ r.2.mem ((c.tc : Thread Cert.AdamKvRefIdeal.nD Cert.AdamKvRefIdeal.τ).loc Cert.AdamKvRefIdeal.main_v18) = v3 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3)
          ∧ r.2.mem ((c.tc : Thread Cert.AdamKvRefIdeal.nD Cert.AdamKvRefIdeal.τ).loc Cert.AdamKvRefIdeal.main_arg4) = m' ((c.tc : Thread Cert.AdamKvRefIdeal.nD Cert.AdamKvRefIdeal.τ).loc Cert.AdamKvRefIdeal.main_arg4)
          ∧ r.2.mem ((c.tc : Thread Cert.AdamKvRefIdeal.nD Cert.AdamKvRefIdeal.τ).loc Cert.AdamKvRefIdeal.main_arg5) = m' ((c.tc : Thread Cert.AdamKvRefIdeal.nD Cert.AdamKvRefIdeal.τ).loc Cert.AdamKvRefIdeal.main_arg5))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v7) = v0 c
          ∧ r.2.mem ((c.tc : Thread Cert.AdamUpRefIdeal.nD Cert.AdamUpRefIdeal.τ).loc Cert.AdamUpRefIdeal.main_v31) = v1 c
          ∧ r.2.mem ((c.tc : Thread Cert.AdamUpRefIdeal.nD Cert.AdamUpRefIdeal.τ).loc Cert.AdamUpRefIdeal.main_v12) = v2 c
          ∧ r.2.mem ((c.tc : Thread Cert.AdamUpRefIdeal.nD Cert.AdamUpRefIdeal.τ).loc Cert.AdamUpRefIdeal.main_v18) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v7) = v0 c
          ∧ r.2.mem ((c.tc : Thread Cert.AdamDownRefIdeal.nD Cert.AdamDownRefIdeal.τ).loc Cert.AdamDownRefIdeal.main_v31) = v1 c
          ∧ r.2.mem ((c.tc : Thread Cert.AdamDownRefIdeal.nD Cert.AdamDownRefIdeal.τ).loc Cert.AdamDownRefIdeal.main_v12) = v2 c
          ∧ r.2.mem ((c.tc : Thread Cert.AdamDownRefIdeal.nD Cert.AdamDownRefIdeal.τ).loc Cert.AdamDownRefIdeal.main_v18) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5))

def Claim : Prop :=
  ∃ (hGate : Cert.Gate.Facts) (hGateIdeal : Cert.GateIdeal.Facts) (hGateRefIdeal : Cert.GateRefIdeal.Facts) (hUp : Cert.Up.Facts) (hUpIdeal : Cert.UpIdeal.Facts) (hUpRefIdeal : Cert.UpRefIdeal.Facts) (hFfnDown : Cert.FfnDown.Facts) (hFfnDownIdeal : Cert.FfnDownIdeal.Facts) (hFfnDownRefIdeal : Cert.FfnDownRefIdeal.Facts) (hFfnUp : Cert.FfnUp.Facts) (hFfnUpIdeal : Cert.FfnUpIdeal.Facts) (hFfnUpRefIdeal : Cert.FfnUpRefIdeal.Facts) (hOutW : Cert.OutW.Facts) (hOutWIdeal : Cert.OutWIdeal.Facts) (hOutWRefIdeal : Cert.OutWRefIdeal.Facts) (hQueryW : Cert.QueryW.Facts) (hQueryWIdeal : Cert.QueryWIdeal.Facts) (hQueryWRefIdeal : Cert.QueryWRefIdeal.Facts) (hInW : Cert.InW.Facts) (hInWIdeal : Cert.InWIdeal.Facts) (hInWRefIdeal : Cert.InWRefIdeal.Facts) (hMemW : Cert.MemW.Facts) (hMemWIdeal : Cert.MemWIdeal.Facts) (hMemWRefIdeal : Cert.MemWRefIdeal.Facts) (hInX : Cert.InX.Facts) (hInXIdeal : Cert.InXIdeal.Facts) (hInXRefIdeal : Cert.InXRefIdeal.Facts) (hMemX : Cert.MemX.Facts) (hMemXIdeal : Cert.MemXIdeal.Facts) (hMemXRefIdeal : Cert.MemXRefIdeal.Facts) (hXattn : Cert.Xattn.Facts) (hXattnIdeal : Cert.XattnIdeal.Facts) (hXattnRefIdeal : Cert.XattnRefIdeal.Facts) (hFfn : Cert.Ffn.Facts) (hFfnIdeal : Cert.FfnIdeal.Facts) (hFfnRefIdeal : Cert.FfnRefIdeal.Facts) (hKeyNorm : Cert.KeyNorm.Facts) (hKeyNormIdeal : Cert.KeyNormIdeal.Facts) (hKeyNormRefIdeal : Cert.KeyNormRefIdeal.Facts) (hMemPre : Cert.MemPre.Facts) (hMemPreIdeal : Cert.MemPreIdeal.Facts) (hMemPreRefIdeal : Cert.MemPreRefIdeal.Facts) (hMixIn : Cert.MixIn.Facts) (hMixInIdeal : Cert.MixInIdeal.Facts) (hMixInRefIdeal : Cert.MixInRefIdeal.Facts) (hCross : Cert.Cross.Facts) (hCrossIdeal : Cert.CrossIdeal.Facts) (hCrossRefIdeal : Cert.CrossRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamKv : Cert.AdamKv.Facts) (hAdamKvIdeal : Cert.AdamKvIdeal.Facts) (hAdamKvRefIdeal : Cert.AdamKvRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hPre_finite : Cert.Pre_finite.Facts) (hPre_finite_block : Cert.Pre_finite_block.Facts) (hPre_finite_keys : Cert.Pre_finite_keys.Facts),
    quiescent_Gate (hGate := hGate)
    ∧ quiescent_GateIdeal (hGateIdeal := hGateIdeal)
    ∧ quiescent_GateIdeal_pre_finite (hGateIdeal := hGateIdeal) (hPre_finite := hPre_finite)
    ∧ quiescent_GateRefIdeal (hGateRefIdeal := hGateRefIdeal)
    ∧ quiescent_GateRefIdeal_pre_finite (hGateRefIdeal := hGateRefIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_OutW (hOutW := hOutW)
    ∧ quiescent_OutWIdeal (hOutWIdeal := hOutWIdeal)
    ∧ quiescent_OutWRefIdeal (hOutWRefIdeal := hOutWRefIdeal)
    ∧ quiescent_QueryW (hQueryW := hQueryW)
    ∧ quiescent_QueryWIdeal (hQueryWIdeal := hQueryWIdeal)
    ∧ quiescent_QueryWRefIdeal (hQueryWRefIdeal := hQueryWRefIdeal)
    ∧ quiescent_InW (hInW := hInW)
    ∧ quiescent_InWIdeal (hInWIdeal := hInWIdeal)
    ∧ quiescent_InWRefIdeal (hInWRefIdeal := hInWRefIdeal)
    ∧ quiescent_MemW (hMemW := hMemW)
    ∧ quiescent_MemWIdeal (hMemWIdeal := hMemWIdeal)
    ∧ quiescent_MemWRefIdeal (hMemWRefIdeal := hMemWRefIdeal)
    ∧ quiescent_InX (hInX := hInX)
    ∧ quiescent_InXIdeal (hInXIdeal := hInXIdeal)
    ∧ quiescent_InXRefIdeal (hInXRefIdeal := hInXRefIdeal)
    ∧ quiescent_MemX (hMemX := hMemX)
    ∧ quiescent_MemXIdeal (hMemXIdeal := hMemXIdeal)
    ∧ quiescent_MemXRefIdeal (hMemXRefIdeal := hMemXRefIdeal)
    ∧ quiescent_Xattn (hXattn := hXattn)
    ∧ quiescent_XattnIdeal (hXattnIdeal := hXattnIdeal)
    ∧ quiescent_XattnIdeal_pre_finite_block (hXattnIdeal := hXattnIdeal) (hPre_finite_block := hPre_finite_block)
    ∧ quiescent_XattnRefIdeal (hXattnRefIdeal := hXattnRefIdeal)
    ∧ quiescent_XattnRefIdeal_pre_finite_block (hXattnRefIdeal := hXattnRefIdeal) (hPre_finite_block := hPre_finite_block)
    ∧ quiescent_Ffn (hFfn := hFfn)
    ∧ quiescent_FfnIdeal (hFfnIdeal := hFfnIdeal)
    ∧ quiescent_FfnRefIdeal (hFfnRefIdeal := hFfnRefIdeal)
    ∧ quiescent_KeyNorm (hKeyNorm := hKeyNorm)
    ∧ quiescent_KeyNormIdeal (hKeyNormIdeal := hKeyNormIdeal)
    ∧ quiescent_KeyNormRefIdeal (hKeyNormRefIdeal := hKeyNormRefIdeal)
    ∧ quiescent_MemPre (hMemPre := hMemPre)
    ∧ quiescent_MemPreIdeal (hMemPreIdeal := hMemPreIdeal)
    ∧ quiescent_MemPreRefIdeal (hMemPreRefIdeal := hMemPreRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_Cross (hCross := hCross)
    ∧ quiescent_CrossIdeal (hCrossIdeal := hCrossIdeal)
    ∧ quiescent_CrossIdeal_pre_finite_keys (hCrossIdeal := hCrossIdeal) (hPre_finite_keys := hPre_finite_keys)
    ∧ quiescent_CrossRefIdeal (hCrossRefIdeal := hCrossRefIdeal)
    ∧ quiescent_CrossRefIdeal_pre_finite_keys (hCrossRefIdeal := hCrossRefIdeal) (hPre_finite_keys := hPre_finite_keys)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ preserves_Gate_GateIdeal
    ∧ algebraic_GateIdeal_GateRefIdeal_pre_finite (hGateIdeal := hGateIdeal) (hGateRefIdeal := hGateRefIdeal) (hPre_finite := hPre_finite)
    ∧ preserves_Up_UpIdeal
    ∧ algebraic_UpIdeal_UpRefIdeal (hUpIdeal := hUpIdeal) (hUpRefIdeal := hUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnUp_FfnUpIdeal
    ∧ algebraic_FfnUpIdeal_FfnUpRefIdeal (hFfnUpIdeal := hFfnUpIdeal) (hFfnUpRefIdeal := hFfnUpRefIdeal)
    ∧ preserves_OutW_OutWIdeal
    ∧ algebraic_OutWIdeal_OutWRefIdeal (hOutWIdeal := hOutWIdeal) (hOutWRefIdeal := hOutWRefIdeal)
    ∧ preserves_QueryW_QueryWIdeal
    ∧ algebraic_QueryWIdeal_QueryWRefIdeal (hQueryWIdeal := hQueryWIdeal) (hQueryWRefIdeal := hQueryWRefIdeal)
    ∧ preserves_InW_InWIdeal
    ∧ algebraic_InWIdeal_InWRefIdeal (hInWIdeal := hInWIdeal) (hInWRefIdeal := hInWRefIdeal)
    ∧ preserves_MemW_MemWIdeal
    ∧ algebraic_MemWIdeal_MemWRefIdeal (hMemWIdeal := hMemWIdeal) (hMemWRefIdeal := hMemWRefIdeal)
    ∧ preserves_InX_InXIdeal
    ∧ algebraic_InXIdeal_InXRefIdeal (hInXIdeal := hInXIdeal) (hInXRefIdeal := hInXRefIdeal)
    ∧ preserves_MemX_MemXIdeal
    ∧ algebraic_MemXIdeal_MemXRefIdeal (hMemXIdeal := hMemXIdeal) (hMemXRefIdeal := hMemXRefIdeal)
    ∧ preserves_Xattn_XattnIdeal
    ∧ algebraic_XattnIdeal_XattnRefIdeal_pre_finite_block (hXattnIdeal := hXattnIdeal) (hXattnRefIdeal := hXattnRefIdeal) (hPre_finite_block := hPre_finite_block)
    ∧ preserves_Ffn_FfnIdeal
    ∧ algebraic_FfnIdeal_FfnRefIdeal (hFfnIdeal := hFfnIdeal) (hFfnRefIdeal := hFfnRefIdeal)
    ∧ preserves_KeyNorm_KeyNormIdeal
    ∧ algebraic_KeyNormIdeal_KeyNormRefIdeal (hKeyNormIdeal := hKeyNormIdeal) (hKeyNormRefIdeal := hKeyNormRefIdeal)
    ∧ preserves_MemPre_MemPreIdeal
    ∧ algebraic_MemPreIdeal_MemPreRefIdeal (hMemPreIdeal := hMemPreIdeal) (hMemPreRefIdeal := hMemPreRefIdeal)
    ∧ preserves_MixIn_MixInIdeal
    ∧ algebraic_MixInIdeal_MixInRefIdeal (hMixInIdeal := hMixInIdeal) (hMixInRefIdeal := hMixInRefIdeal)
    ∧ preserves_Cross_CrossIdeal
    ∧ algebraic_CrossIdeal_CrossRefIdeal_pre_finite_keys (hCrossIdeal := hCrossIdeal) (hCrossRefIdeal := hCrossRefIdeal) (hPre_finite_keys := hPre_finite_keys)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
-- ==== Pre_finite.lean ====
abbrev S8192x5632 : Shape := ⟨2, ![8192, 5632]⟩
abbrev S8192x1024 : Shape := ⟨2, ![8192, 1024]⟩
abbrev S2816x1024 : Shape := ⟨2, ![2816, 1024]⟩
abbrev S3x5632 : Shape := ⟨2, ![3, 5632]⟩
abbrev S1x5632 : Shape := ⟨2, ![1, 5632]⟩
abbrev S_ : Shape := ⟨0, ![]⟩

class Facts : Prop where
  bcast_S_S8192x5632 : S_.BroadcastsInDim S8192x5632 (![] : Fin 0 → Fin S8192x5632.rank)
  bcast_S_S8192x1024 : S_.BroadcastsInDim S8192x1024 (![] : Fin 0 → Fin S8192x1024.rank)
  bitsLt_bf16_f32 : FTy.bits .bf16 < FTy.bits .f32
  bcast_S_S2816x1024 : S_.BroadcastsInDim S2816x1024 (![] : Fin 0 → Fin S2816x1024.rank)
  bcast_S_S3x5632 : S_.BroadcastsInDim S3x5632 (![] : Fin 0 → Fin S3x5632.rank)
  bcast_S_S1x5632 : S_.BroadcastsInDim S1x5632 (![] : Fin 0 → Fin S1x5632.rank)

variable [Facts]

def fn {F : FTy → Type} [FloatOps F] (main_arg0 : FVec F S8192x5632 .f32) (main_arg1 : FVec F S8192x1024 .f32) (main_arg2 : FVec F S2816x1024 .bf16) (main_arg3 : FVec F S3x5632 .f32) (main_arg4 : FVec F S1x5632 .f32) : IVec S8192x5632 1 × IVec S8192x1024 1 × IVec S2816x1024 1 × IVec S3x5632 1 × IVec S1x5632 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S2816x1024 .f32 := (extf .f32 · bitsLt_bf16_f32) main_arg2
  let main_v7 : FVec F S2816x1024 .f32 := Host.absf main_v6
  let main_cst_1 : FVec F S_ .f32 := constant S_ .f32 0x7F800000#32
  let main_v8 : FVec F S2816x1024 .f32 := broadcastInDim S2816x1024 ![] bcast_S_S2816x1024 main_cst_1
  let main_v9 : IVec S2816x1024 1 := cmpf .olt main_v7 main_v8
  let main_v10 : FVec F S3x5632 .f32 := Host.absf main_arg3
  let main_cst_2 : FVec F S_ .f32 := constant S_ .f32 0x7F800000#32
  let main_v11 : FVec F S3x5632 .f32 := broadcastInDim S3x5632 ![] bcast_S_S3x5632 main_cst_2
  let main_v12 : IVec S3x5632 1 := cmpf .olt main_v10 main_v11
  let main_v13 : FVec F S1x5632 .f32 := Host.absf main_arg4
  let main_cst_3 : FVec F S_ .f32 := constant S_ .f32 0x7F800000#32
  let main_v14 : FVec F S1x5632 .f32 := broadcastInDim S1x5632 ![] bcast_S_S1x5632 main_cst_3
  let main_v15 : IVec S1x5632 1 := cmpf .olt main_v13 main_v14
  (main_v2, main_v5, main_v9, main_v12, main_v15)
-- ==== Pre_finite_block.lean ====
abbrev S8192x1024 : Shape := ⟨2, ![8192, 1024]⟩
abbrev S1x1024x1024 : Shape := ⟨3, ![1, 1024, 1024]⟩
abbrev S256x1024 : Shape := ⟨2, ![256, 1024]⟩
abbrev S1x256 : Shape := ⟨2, ![1, 256]⟩
abbrev S1x1024 : Shape := ⟨2, ![1, 1024]⟩
abbrev S8192x512 : Shape := ⟨2, ![8192, 512]⟩
abbrev S1x512 : Shape := ⟨2, ![1, 512]⟩
abbrev S_ : Shape := ⟨0, ![]⟩

class Facts : Prop where
  bitsLt_bf16_f32 : FTy.bits .bf16 < FTy.bits .f32
  bcast_S_S256x1024 : S_.BroadcastsInDim S256x1024 (![] : Fin 0 → Fin S256x1024.rank)
  bcast_S_S1x256 : S_.BroadcastsInDim S1x256 (![] : Fin 0 → Fin S1x256.rank)

variable [Facts]

def fn {F : FTy → Type} [FloatOps F] (main_arg0 : FVec F S8192x1024 .f32) (main_arg1 : FVec F S1x1024x1024 .bf16) (main_arg2 : FVec F S8192x1024 .f32) (main_arg3 : FVec F S256x1024 .bf16) (main_arg4 : FVec F S256x1024 .bf16) (main_arg5 : FVec F S1x256 .f32) (main_arg6 : FVec F S1x1024x1024 .bf16) (main_arg7 : FVec F S8192x1024 .f32) (main_arg8 : FVec F S1x1024 .f32) (main_arg9 : FVec F S1x1024x1024 .bf16) (main_arg10 : FVec F S8192x512 .f32) (main_arg11 : FVec F S8192x512 .f32) (main_arg12 : FVec F S1x512 .f32) (main_arg13 : FVec F S1x512 .f32) : IVec S256x1024 1 × IVec S1x256 1 :=
  let main_v0 : FVec F S256x1024 .f32 := (extf .f32 · bitsLt_bf16_f32) main_arg3
  let main_v1 : FVec F S256x1024 .f32 := Host.absf main_v0
  let main_cst : FVec F S_ .f32 := constant S_ .f32 0x7F800000#32
  let main_v2 : FVec F S256x1024 .f32 := broadcastInDim S256x1024 ![] bcast_S_S256x1024 main_cst
  let main_v3 : IVec S256x1024 1 := cmpf .olt main_v1 main_v2
  let main_v4 : FVec F S1x256 .f32 := Host.absf main_arg5
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  (main_v3, main_v6)
-- ==== Pre_finite_keys.lean ====
abbrev S8192x1024 : Shape := ⟨2, ![8192, 1024]⟩
abbrev S1024x1024 : Shape := ⟨2, ![1024, 1024]⟩
abbrev S1x1024 : Shape := ⟨2, ![1, 1024]⟩
abbrev S256x1024 : Shape := ⟨2, ![256, 1024]⟩
abbrev S1x256 : Shape := ⟨2, ![1, 256]⟩
abbrev S_ : Shape := ⟨0, ![]⟩

class Facts : Prop where
  bitsLt_bf16_f32 : FTy.bits .bf16 < FTy.bits .f32
  bcast_S_S256x1024 : S_.BroadcastsInDim S256x1024 (![] : Fin 0 → Fin S256x1024.rank)
  bcast_S_S1x256 : S_.BroadcastsInDim S1x256 (![] : Fin 0 → Fin S1x256.rank)

variable [Facts]

def fn {F : FTy → Type} [FloatOps F] (main_arg0 : FVec F S8192x1024 .bf16) (main_arg1 : FVec F S1024x1024 .bf16) (main_arg2 : FVec F S8192x1024 .f32) (main_arg3 : FVec F S1x1024 .f32) (main_arg4 : FVec F S1024x1024 .bf16) (main_arg5 : FVec F S256x1024 .bf16) (main_arg6 : FVec F S256x1024 .bf16) (main_arg7 : FVec F S1x256 .f32) (main_arg8 : FVec F S1024x1024 .bf16) : IVec S256x1024 1 × IVec S1x256 1 :=
  let main_v0 : FVec F S256x1024 .f32 := (extf .f32 · bitsLt_bf16_f32) main_arg5
  let main_v1 : FVec F S256x1024 .f32 := Host.absf main_v0
  let main_cst : FVec F S_ .f32 := constant S_ .f32 0x7F800000#32
  let main_v2 : FVec F S256x1024 .f32 := broadcastInDim S256x1024 ![] bcast_S_S256x1024 main_cst
  let main_v3 : IVec S256x1024 1 := cmpf .olt main_v1 main_v2
  let main_v4 : FVec F S1x256 .f32 := Host.absf main_arg7
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  (main_v3, main_v6)
-- ==== Gate.lean ====
abbrev S8192x5632 : Shape := ⟨2, ![8192, 5632]⟩
abbrev S8192x1024 : Shape := ⟨2, ![8192, 1024]⟩
abbrev S2816x1024 : Shape := ⟨2, ![2816, 1024]⟩
abbrev S3x5632 : Shape := ⟨2, ![3, 5632]⟩
abbrev S1x5632 : Shape := ⟨2, ![1, 5632]⟩
abbrev S1x2816x1024 : Shape := ⟨3, ![1, 2816, 1024]⟩
abbrev S8x5632 : Shape := ⟨2, ![8, 5632]⟩
abbrev S256x2816 : Shape := ⟨2, ![256, 2816]⟩
abbrev S8x2816 : Shape := ⟨2, ![8, 2816]⟩
abbrev S3x2816 : Shape := ⟨2, ![3, 2816]⟩
abbrev S1x2816 : Shape := ⟨2, ![1, 2816]⟩
abbrev S256x1024 : Shape := ⟨2, ![256, 1024]⟩
abbrev S256x5632 : Shape := ⟨2, ![256, 5632]⟩
abbrev S256x1408 : Shape := ⟨2, ![256, 1408]⟩
abbrev S8x1408 : Shape := ⟨2, ![8, 1408]⟩
abbrev S1x1408 : Shape := ⟨2, ![1, 1408]⟩
abbrev S248x1408 : Shape := ⟨2, ![248, 1408]⟩
abbrev S1408 : Shape := ⟨1, ![1408]⟩

abbrev nBuf : Space → Nat
  | .hbm => 8
  | .vmem => 19
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S2816x1024, .bf16⟩
  | .hbm, ⟨3, _⟩ => ⟨S3x5632, .f32⟩
  | .hbm, ⟨4, _⟩ => ⟨S1x5632, .f32⟩
  | .hbm, ⟨5, _⟩ => ⟨S1x2816x1024, .bf16⟩
  | .hbm, ⟨6, _⟩ => ⟨S8192x5632, .f32⟩
  | .hbm, ⟨7, _⟩ => ⟨S8x5632, .f32⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S8x2816, .f32⟩
  | .local _ .vmem, ⟨5, _⟩ => ⟨S8x2816, .f32⟩
  | .local _ .vmem, ⟨6, _⟩ => ⟨S8x2816, .f32⟩
  | .local _ .vmem, ⟨7, _⟩ => ⟨S8x2816, .f32⟩
  | .local _ .vmem, ⟨8, _⟩ => ⟨S3x2816, .f32⟩
  | .local _ .vmem, ⟨9, _⟩ => ⟨S3x2816, .f32⟩
  | .local _ .vmem, ⟨10, _⟩ => ⟨S1x2816, .f32⟩
  | .local _ .vmem, ⟨11, _⟩ => ⟨S1x2816, .f32⟩
  | .local _ .vmem, ⟨12, _⟩ => ⟨S256x1024, .f32⟩
  | .local _ .vmem, ⟨13, _⟩ => ⟨S256x1024, .f32⟩
  | .local _ .vmem, ⟨14, _⟩ => ⟨S1x2816x1024, .bf16⟩
  | .local _ .vmem, ⟨15, _⟩ => ⟨S256x5632, .f32⟩
  | .local _ .vmem, ⟨16, _⟩ => ⟨S256x5632, .f32⟩
  | .local _ .vmem, ⟨17, _⟩ => ⟨S8x5632, .f32⟩
  | .local _ .vmem, ⟨18, _⟩ => ⟨S256x2816, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GateIdeal.lean ====
variable {F : FTy → Type} [FloatOps F] [Named F]
def κ : String → Option EReal := fun
  | "k0k1" => some ((80338380498831 / 2251799813685248 : ℝ) : EReal)
  | "k0k1x3" => some ((241015141496493 / 2251799813685248 : ℝ) : EReal)
  | _ => none
-- ==== GateRefIdeal.lean ====
abbrev S8192x5632 : Shape := ⟨2, ![8192, 5632]⟩
abbrev S8192x1024 : Shape := ⟨2, ![8192, 1024]⟩
abbrev S2816x1024 : Shape := ⟨2, ![2816, 1024]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S4x5632 : Shape := ⟨2, ![4, 5632]⟩
abbrev S8x5632 : Shape := ⟨2, ![8, 5632]⟩

abbrev nBuf : Space → Nat
  | .hbm => 117
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S2816x1024, .bf16⟩
  | .hbm, ⟨3, _⟩ => ⟨S3x5632, .f32⟩
  | .hbm, ⟨4, _⟩ => ⟨S1x5632, .f32⟩
  | .hbm, ⟨5, _⟩ => ⟨S_, .f32⟩
  | .hbm, ⟨6, _⟩ => ⟨S2x5632, .f32⟩
  | .hbm, ⟨7, _⟩ => ⟨S8194x5632, .f32⟩
  | .hbm, ⟨8, _⟩ => ⟨S8192x5632, .f32⟩
  | .hbm, ⟨9, _⟩ => ⟨S1x5632, .f32⟩
  | .hbm, ⟨10, _⟩ => ⟨S5632, .f32⟩
  | .hbm, ⟨11, _⟩ => ⟨S1x5632, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S1x5632, .f32⟩
  | .hbm, ⟨16, _⟩ => ⟨S5632, .f32⟩
  | .hbm, ⟨17, _⟩ => ⟨S1x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S1x5632, .f32⟩
  | .hbm, ⟨23, _⟩ => ⟨S5632, .f32⟩
  | .hbm, ⟨24, _⟩ => ⟨S1x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S2816x1024, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x2816, .f32⟩
  | .hbm, ⟨49, _⟩ => ⟨S8192x2816, .f32⟩
  | .hbm, ⟨50, _⟩ => ⟨S_, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S_, .f32⟩
  | .hbm, ⟨55, _⟩ => ⟨S8192x2816, .f32⟩
  | .hbm, ⟨56, _⟩ => ⟨S8192x2816, .f32⟩
  | .hbm, ⟨57, _⟩ => ⟨S_, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x1024, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S8192x2816, .f32⟩
  | .hbm, ⟨68, _⟩ => ⟨S_, .f32⟩
  | .hbm, ⟨69, _⟩ => ⟨S8192x2816, .f32⟩
  | .hbm, ⟨70, _⟩ => ⟨S8192x2816, .f32⟩
  | .hbm, ⟨71, _⟩ => ⟨S8192x2816, .f32⟩
  | .hbm, ⟨72, _⟩ => ⟨S_, .f32⟩
  | .hbm, ⟨73, _⟩ => ⟨S8192x2816, .f32⟩
  | .hbm, ⟨74, _⟩ => ⟨S8192x2816, .f32⟩
  | .hbm, ⟨75, _⟩ => ⟨S8192x2816, .f32⟩
  | .hbm, ⟨76, _⟩ => ⟨S_, .f32⟩
  | .hbm, ⟨77, _⟩ => ⟨S8192x2816, .f32⟩
  | .hbm, ⟨78, _⟩ => ⟨S8192x2816, .f32⟩
  | .hbm, ⟨79, _⟩ => ⟨S8192x2816, .f32⟩
  | .hbm, ⟨80, _⟩ => ⟨S8192x2816, .f32⟩
  | .hbm, ⟨81, _⟩ => ⟨S8192x5632, .f32⟩
  | .hbm, ⟨82, _⟩ => ⟨S_, .f32⟩
  | .hbm, ⟨83, _⟩ => ⟨S5632, .f32⟩
  | .hbm, ⟨84, _⟩ => ⟨S1x5632, .f32⟩
  | .hbm, ⟨85, _⟩ => ⟨S8192x5632, .f32⟩
  | .hbm, ⟨86, _⟩ => ⟨S_, .f32⟩
  | .hbm, ⟨87, _⟩ => ⟨S5632, .f32⟩
  | .hbm, ⟨88, _⟩ => ⟨S1x5632, .f32⟩
  | .hbm, ⟨89, _⟩ => ⟨S_, .f32⟩
  | .hbm, ⟨90, _⟩ => ⟨S5632, .f32⟩
  | .hbm, ⟨91, _⟩ => ⟨S1x5632, .f32⟩
  | .hbm, ⟨92, _⟩ => ⟨S_, .f32⟩
  | .hbm, ⟨93, _⟩ => ⟨S3x5632, .f32⟩
  | .hbm, ⟨94, _⟩ => ⟨S8192x5632, .f32⟩
  | .hbm, ⟨95, _⟩ => ⟨S_, .f32⟩
  | .hbm, ⟨96, _⟩ => ⟨S5632, .f32⟩
  | .hbm, ⟨97, _⟩ => ⟨S1x5632, .f32⟩
  | .hbm, ⟨98, _⟩ => ⟨S_, .f32⟩
  | .hbm, ⟨99, _⟩ => ⟨S5632, .f32⟩
  | .hbm, ⟨100, _⟩ => ⟨S1x5632, .f32⟩
  | .hbm, ⟨101, _⟩ => ⟨S_, .f32⟩
  | .hbm, ⟨102, _⟩ => ⟨S3x5632, .f32⟩
  | .hbm, ⟨103, _⟩ => ⟨S3x5632, .f32⟩
  | .hbm, ⟨104, _⟩ => ⟨S8192x5632, .f32⟩
  | .hbm, ⟨105, _⟩ => ⟨S_, .f32⟩
  | .hbm, ⟨106, _⟩ => ⟨S5632, .f32⟩
  | .hbm, ⟨107, _⟩ => ⟨S1x5632, .f32⟩
  | .hbm, ⟨108, _⟩ => ⟨S_, .f32⟩
  | .hbm, ⟨109, _⟩ => ⟨S5632, .f32⟩
  | .hbm, ⟨110, _⟩ => ⟨S1x5632, .f32⟩
  | .hbm, ⟨111, _⟩ => ⟨S_, .f32⟩
  | .hbm, ⟨112, _⟩ => ⟨S3x5632, .f32⟩
  | .hbm, ⟨113, _⟩ => ⟨S3x5632, .f32⟩
  | .hbm, ⟨114, _⟩ => ⟨S_, .f32⟩
  | .hbm, ⟨115, _⟩ => ⟨S4x5632, .f32⟩
  | .hbm, ⟨116, _⟩ => ⟨S8x5632, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_0 : Ref sig .tc := ⟨.hbm, 36, rfl⟩
abbrev main_v30 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_10 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_11 : Ref sig .tc := ⟨.hbm, 86, rfl⟩
abbrev main_v69 : Ref sig .tc := ⟨.hbm, 87, rfl⟩
abbrev main_v70 : Ref sig .tc := ⟨.hbm, 88, rfl⟩
abbrev main_cst_12 : Ref sig .tc := ⟨.hbm, 89, rfl⟩
abbrev main_v71 : Ref sig .tc := ⟨.hbm, 90, rfl⟩
abbrev main_v72 : Ref sig .tc := ⟨.hbm, 91, rfl⟩
abbrev main_cst_13 : Ref sig .tc := ⟨.hbm, 92, rfl⟩
abbrev main_v73 : Ref sig .tc := ⟨.hbm, 93, rfl⟩
abbrev main_v74 : Ref sig .tc := ⟨.hbm, 94, rfl⟩
abbrev main_cst_14 : Ref sig .tc := ⟨.hbm, 95, rfl⟩
abbrev main_v75 : Ref sig .tc := ⟨.hbm, 96, rfl⟩
abbrev main_v76 : Ref sig .tc := ⟨.hbm, 97, rfl⟩
abbrev main_cst_15 : Ref sig .tc := ⟨.hbm, 98, rfl⟩
abbrev main_v77 : Ref sig .tc := ⟨.hbm, 99, rfl⟩
abbrev main_v78 : Ref sig .tc := ⟨.hbm, 100, rfl⟩
abbrev main_cst_16 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_17 : Ref sig .tc := ⟨.hbm, 105, rfl⟩
abbrev main_v82 : Ref sig .tc := ⟨.hbm, 106, rfl⟩
abbrev main_v83 : Ref sig .tc := ⟨.hbm, 107, rfl⟩
abbrev main_cst_18 : Ref sig .tc := ⟨.hbm, 108, rfl⟩
abbrev main_v84 : Ref sig .tc := ⟨.hbm, 109, rfl⟩
abbrev main_v85 : Ref sig .tc := ⟨.hbm, 110, rfl⟩
abbrev main_cst_19 : Ref sig .tc := ⟨.hbm, 111, rfl⟩
abbrev main_v86 : Ref sig .tc := ⟨.hbm, 112, rfl⟩
abbrev main_v87 : Ref sig .tc := ⟨.hbm, 113, rfl⟩
abbrev main_cst_20 : Ref sig .tc := ⟨.hbm, 114, rfl⟩
abbrev main_v88 : Ref sig .tc := ⟨.hbm, 115, rfl⟩
abbrev main_v89 : Ref sig .tc := ⟨.hbm, 116, rfl⟩

abbrev nD : Nat := 1
abbrev τ : Topo := Topo.v7x

variable {F : FTy → Type} [FloatOps F]
-- ==== Up.lean ====
abbrev S8192x5632 : Shape := ⟨2, ![8192, 5632]⟩
abbrev S3x5632 : Shape := ⟨2, ![3, 5632]⟩
abbrev S4x1024x1408 : Shape := ⟨3, ![4, 1024, 1408]⟩
abbrev S8192x1024 : Shape := ⟨2, ![8192, 1024]⟩
abbrev S1x1024 : Shape := ⟨2, ![1, 1024]⟩
abbrev S8x1024 : Shape := ⟨2, ![8, 1024]⟩
abbrev S256x5632 : Shape := ⟨2, ![256, 5632]⟩
abbrev S8x5632 : Shape := ⟨2, ![8, 5632]⟩
abbrev S256x1024 : Shape := ⟨2, ![256, 1024]⟩
abbrev S8x1408 : Shape := ⟨2, ![8, 1408]⟩
abbrev S1x1408 : Shape := ⟨2, ![1, 1408]⟩
abbrev S256x1408 : Shape := ⟨2, ![256, 1408]⟩
abbrev S248x1408 : Shape := ⟨2, ![248, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S4x1024x1408, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x5632, .bf16⟩
  | .hbm, ⟨7, _⟩ => ⟨S8192x1024, .f32⟩
  | .hbm, ⟨8, _⟩ => ⟨S8x1024, .f32⟩
  | .local _ .vmem, ⟨0, _⟩ => ⟨S256x5632, .f32⟩
  | .local _ .vmem, ⟨1, _⟩ => ⟨S256x5632, .f32⟩
  | .local _ .vmem, ⟨2, _⟩ => ⟨S8x5632, .f32⟩
  | .local _ .vmem, ⟨3, _⟩ => ⟨S8x5632, .f32⟩
  | .local _ .vmem, ⟨4, _⟩ => ⟨S3x5632, .f32⟩
  | .local _ .vmem, ⟨5, _⟩ => ⟨S4x1024x1408, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x5632, .bf16⟩
  | .local _ .vmem, ⟨12, _⟩ => ⟨S256x5632, .bf16⟩
  | .local _ .vmem, ⟨13, _⟩ => ⟨S256x1024, .f32⟩
  | .local _ .vmem, ⟨14, _⟩ => ⟨S256x1024, .f32⟩
  | .local _ .vmem, ⟨15, _⟩ => ⟨S8x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== UpRefIdeal.lean ====
abbrev S8192x5632 : Shape := ⟨2, ![8192, 5632]⟩
abbrev S3x5632 : Shape := ⟨2, ![3, 5632]⟩
abbrev S4x1024x1408 : Shape := ⟨3, ![4, 1024, 1408]⟩
abbrev S8192x1024 : Shape := ⟨2, ![8192, 1024]⟩
abbrev S1x1024 : Shape := ⟨2, ![1, 1024]⟩
abbrev S1024x4x1408 : Shape := ⟨3, ![1024, 4, 1408]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩
abbrev S1024 : Shape := ⟨1, ![1024]⟩
abbrev S7x1024 : Shape := ⟨2, ![7, 1024]⟩
abbrev S8x1024 : Shape := ⟨2, ![8, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S4x1024x1408, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S4x1024x1408, .f32⟩
  | .hbm, ⟨7, _⟩ => ⟨S1024x4x1408, .f32⟩
  | .hbm, ⟨8, _⟩ => ⟨S1024x5632, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x5632, .f32⟩
  | .hbm, ⟨29, _⟩ => ⟨S_, .f32⟩
  | .hbm, ⟨30, _⟩ => ⟨S2x5632, .f32⟩
  | .hbm, ⟨31, _⟩ => ⟨S8194x5632, .f32⟩
  | .hbm, ⟨32, _⟩ => ⟨S_, .f32⟩
  | .hbm, ⟨33, _⟩ => ⟨S2x5632, .f32⟩
  | .hbm, ⟨34, _⟩ => ⟨S8192x5632, .f32⟩
  | .hbm, ⟨35, _⟩ => ⟨S1x5632, .f32⟩
  | .hbm, ⟨36, _⟩ => ⟨S5632, .f32⟩
  | .hbm, ⟨37, _⟩ => ⟨S1x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S1x5632, .f32⟩
  | .hbm, ⟨42, _⟩ => ⟨S5632, .f32⟩
  | .hbm, ⟨43, _⟩ => ⟨S1x5632, .f32⟩
  | .hbm, ⟨44, _⟩ => ⟨S8192x5632, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S1x5632, .f32⟩
  | .hbm, ⟨49, _⟩ => ⟨S5632, .f32⟩
  | .hbm, ⟨50, _⟩ => ⟨S1x5632, .f32⟩
  | .hbm, ⟨51, _⟩ => ⟨S8192x5632, .f32⟩
  | .hbm, ⟨52, _⟩ => ⟨S8192x5632, .f32⟩
  | .hbm, ⟨53, _⟩ => ⟨S8192x5632, .f32⟩
  | .hbm, ⟨54, _⟩ => ⟨S8192x5632, .f32⟩
  | .hbm, ⟨55, _⟩ => ⟨S8192x5632, .f32⟩
  | .hbm, ⟨56, _⟩ => ⟨S8192x5632, .f32⟩
  | .hbm, ⟨57, _⟩ => ⟨S8192x5632, .f32⟩
  | .hbm, ⟨58, _⟩ => ⟨S_, .f32⟩
  | .hbm, ⟨59, _⟩ => ⟨S8194x5632, .f32⟩
  | .hbm, ⟨60, _⟩ => ⟨S8192x5632, .f32⟩
  | .hbm, ⟨61, _⟩ => ⟨S8192x5632, .f32⟩
  | .hbm, ⟨62, _⟩ => ⟨S_, .f32⟩
  | .hbm, ⟨63, _⟩ => ⟨S8194x5632, .f32⟩
  | .hbm, ⟨64, _⟩ => ⟨S8194x5632, .f32⟩
  | .hbm, ⟨65, _⟩ => ⟨S8192x5632, .f32⟩
  | .hbm, ⟨66, _⟩ => ⟨S8192x5632, .f32⟩
  | .hbm, ⟨67, _⟩ => ⟨S_, .f32⟩
  | .hbm, ⟨68, _⟩ => ⟨S8194x5632, .f32⟩
  | .hbm, ⟨69, _⟩ => ⟨S8194x5632, .f32⟩
  | .hbm, ⟨70, _⟩ => ⟨S2x5632, .f32⟩
  | .hbm, ⟨71, _⟩ => ⟨S8192x5632, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x5632, .bf16⟩
  | .hbm, ⟨97, _⟩ => ⟨S8192x1024, .f32⟩
  | .hbm, ⟨98, _⟩ => ⟨S_, .f32⟩
  | .hbm, ⟨99, _⟩ => ⟨S7x1024, .f32⟩
  | .hbm, ⟨100, _⟩ => ⟨S8x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_cst_11 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_12 : Ref sig .tc := ⟨.hbm, 98, rfl⟩
abbrev main_v79 : Ref sig .tc := ⟨.hbm, 99, rfl⟩
abbrev main_v80 : Ref sig .tc := ⟨.hbm, 100, rfl⟩

abbrev nD : Nat := 1
abbrev τ : Topo := Topo.v7x

variable {F : FTy → Type} [FloatOps F]
-- ==== FfnDown.lean ====
abbrev S8192x2816 : Shape := ⟨2, ![8192, 2816]⟩
abbrev S8192x1024 : Shape := ⟨2, ![8192, 1024]⟩
abbrev S1x2816x1024 : Shape := ⟨3, ![1, 2816, 1024]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S1x2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S1x2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnUp.lean ====
abbrev S8192x1024 : Shape := ⟨2, ![8192, 1024]⟩
abbrev S8192x5632 : Shape := ⟨2, ![8192, 5632]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutW.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWRefIdeal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QueryW.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QueryWRefIdeal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InW.lean ====
abbrev S8192x1024 : Shape := ⟨2, ![8192, 1024]⟩
abbrev S8192x2048 : Shape := ⟨2, ![8192, 2048]⟩
abbrev S1x1024x2048 : Shape := ⟨3, ![1, 1024, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1x1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1x1024x2048 : Shape := ⟨3, ![1, 1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1x1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemW.lean ====
abbrev S256x1024 : Shape := ⟨2, ![256, 1024]⟩
abbrev S256x2048 : Shape := ⟨2, ![256, 2048]⟩
abbrev S4x1024x512 : Shape := ⟨3, ![4, 1024, 512]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S4x1024x512, .bf16⟩
  | .local _ .vmem, ⟨0, _⟩ => ⟨S256x1024, .bf16⟩
  | .local _ .vmem, ⟨1, _⟩ => ⟨S256x512, .bf16⟩
  | .local _ .vmem, ⟨2, _⟩ => ⟨S256x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1024x512, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemWRefIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S_, .f32⟩
  | .hbm, ⟨3, _⟩ => ⟨S1024x2048, .f32⟩
  | .hbm, ⟨4, _⟩ => ⟨S256x1024, .f32⟩
  | .hbm, ⟨5, _⟩ => ⟨S256x2048, .f32⟩
  | .hbm, ⟨6, _⟩ => ⟨S256x2048, .f32⟩
  | .hbm, ⟨7, _⟩ => ⟨S2048x1024, .f32⟩
  | .hbm, ⟨8, _⟩ => ⟨S1024x2048, .f32⟩
  | .hbm, ⟨9, _⟩ => ⟨S1024x4x512, .f32⟩
  | .hbm, ⟨10, _⟩ => ⟨S4x1024x512, .f32⟩
  | .hbm, ⟨11, _⟩ => ⟨S4x1024x512, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InX.lean ====
abbrev S8192x2048 : Shape := ⟨2, ![8192, 2048]⟩
abbrev S1x1024x2048 : Shape := ⟨3, ![1, 1024, 2048]⟩
abbrev S8192x1024 : Shape := ⟨2, ![8192, 1024]⟩
abbrev S1x1024 : Shape := ⟨2, ![1, 1024]⟩
abbrev S8x1024 : Shape := ⟨2, ![8, 1024]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S1x1024x2048, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S8x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InXRefIdeal.lean ====
abbrev S8192x2048 : Shape := ⟨2, ![8192, 2048]⟩
abbrev S1x1024x2048 : Shape := ⟨3, ![1, 1024, 2048]⟩
abbrev S8192x1024 : Shape := ⟨2, ![8192, 1024]⟩
abbrev S1x1024 : Shape := ⟨2, ![1, 1024]⟩
abbrev S1024x1x2048 : Shape := ⟨3, ![1024, 1, 2048]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x1024x2048, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024x2048, .f32⟩
  | .hbm, ⟨6, _⟩ => ⟨S1024x1x2048, .f32⟩
  | .hbm, ⟨7, _⟩ => ⟨S1024x2048, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x2048, .f32⟩
  | .hbm, ⟨28, _⟩ => ⟨S8192x2048, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S7x1024, .f32⟩
  | .hbm, ⟨56, _⟩ => ⟨S8x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== MemX.lean ====
abbrev S256x2048 : Shape := ⟨2, ![256, 2048]⟩
abbrev S4x1024x512 : Shape := ⟨3, ![4, 1024, 512]⟩
abbrev S256x1024 : Shape := ⟨2, ![256, 1024]⟩
abbrev S1x1024 : Shape := ⟨2, ![1, 1024]⟩
abbrev S_ : Shape := ⟨0, ![]⟩
abbrev S8x1024 : Shape := ⟨2, ![8, 1024]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 8
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S4x1024x512, .bf16⟩
  | .hbm, ⟨2, _⟩ => ⟨S256x1024, .f32⟩
  | .hbm, ⟨3, _⟩ => ⟨S1x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S8x1024, .f32⟩
  | .local _ .vmem, ⟨0, _⟩ => ⟨S256x2048, .bf16⟩
  | .local _ .vmem, ⟨1, _⟩ => ⟨S4x1024x512, .bf16⟩
  | .local _ .vmem, ⟨2, _⟩ => ⟨S256x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MemXRefIdeal.lean ====
abbrev S256x2048 : Shape := ⟨2, ![256, 2048]⟩
abbrev S4x1024x512 : Shape := ⟨3, ![4, 1024, 512]⟩
abbrev S256x1024 : Shape := ⟨2, ![256, 1024]⟩
abbrev S1x1024 : Shape := ⟨2, ![1, 1024]⟩
abbrev S_ : Shape := ⟨0, ![]⟩
abbrev S1024x4x512 : Shape := ⟨3, ![1024, 4, 512]⟩
abbrev S1024x2048 : Shape := ⟨2, ![1024, 2048]⟩
abbrev S256 : Shape := ⟨1, ![256]⟩
abbrev S256x1 : Shape := ⟨2, ![256, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S4x1024x512, .bf16⟩
  | .hbm, ⟨2, _⟩ => ⟨S256x1024, .f32⟩
  | .hbm, ⟨3, _⟩ => ⟨S1x1024, .f32⟩
  | .hbm, ⟨4, _⟩ => ⟨S_, .f32⟩
  | .hbm, ⟨5, _⟩ => ⟨S256x1024, .f32⟩
  | .hbm, ⟨6, _⟩ => ⟨S4x1024x512, .f32⟩
  | .hbm, ⟨7, _⟩ => ⟨S1024x4x512, .f32⟩
  | .hbm, ⟨8, _⟩ => ⟨S1024x2048, .f32⟩
  | .hbm, ⟨9, _⟩ => ⟨S256x1024, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S_, .f32⟩
  | .hbm, ⟨22, _⟩ => ⟨S256x1, .f32⟩
  | .hbm, ⟨23, _⟩ => ⟨S256x1, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x2048, .f32⟩
  | .hbm, ⟨29, _⟩ => ⟨S256x2048, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256, .f32⟩
  | .hbm, ⟨40, _⟩ => ⟨S256x1, .f32⟩
  | .hbm, ⟨41, _⟩ => ⟨S256x1024, .f32⟩
  | .hbm, ⟨42, _⟩ => ⟨S256x1024, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S_, .f32⟩
  | .hbm, ⟨48, _⟩ => ⟨S256, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S256x1024, .f32⟩
  | .hbm, ⟨53, _⟩ => ⟨S256x1024, .f32⟩
  | .hbm, ⟨54, _⟩ => ⟨S256x1024, .f32⟩
  | .hbm, ⟨55, _⟩ => ⟨S_, .f32⟩
  | .hbm, ⟨56, _⟩ => ⟨S7x1024, .f32⟩
  | .hbm, ⟨57, _⟩ => ⟨S8x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Xattn.lean ====
abbrev S8192x1024 : Shape := ⟨2, ![8192, 1024]⟩
abbrev S1x1024x1024 : Shape := ⟨3, ![1, 1024, 1024]⟩
abbrev S256x1024 : Shape := ⟨2, ![256, 1024]⟩
abbrev S1x256 : Shape := ⟨2, ![1, 256]⟩
abbrev S1x1024 : Shape := ⟨2, ![1, 1024]⟩
abbrev S8192x512 : Shape := ⟨2, ![8192, 512]⟩
abbrev S1x512 : Shape := ⟨2, ![1, 512]⟩
abbrev S8x256 : Shape := ⟨2, ![8, 256]⟩
abbrev S8x1024 : Shape := ⟨2, ![8, 1024]⟩
abbrev S512x1024 : Shape := ⟨2, ![512, 1024]⟩
abbrev S512x512 : Shape := ⟨2, ![512, 512]⟩
abbrev S1024x1024 : Shape := ⟨2, ![1024, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S256 : Shape := ⟨1, ![256]⟩
abbrev S1024 : Shape := ⟨1, ![1024]⟩

abbrev nBuf : Space → Nat
  | .hbm => 23
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .bf16⟩
  | .hbm, ⟨2, _⟩ => ⟨S8192x1024, .f32⟩
  | .hbm, ⟨3, _⟩ => ⟨S256x1024, .bf16⟩
  | .hbm, ⟨4, _⟩ => ⟨S256x1024, .bf16⟩
  | .hbm, ⟨5, _⟩ => ⟨S1x256, .f32⟩
  | .hbm, ⟨6, _⟩ => ⟨S1x1024x1024, .bf16⟩
  | .hbm, ⟨7, _⟩ => ⟨S8192x1024, .f32⟩
  | .hbm, ⟨8, _⟩ => ⟨S1x1024, .f32⟩
  | .hbm, ⟨9, _⟩ => ⟨S1x1024x1024, .bf16⟩
  | .hbm, ⟨10, _⟩ => ⟨S8192x512, .f32⟩
  | .hbm, ⟨11, _⟩ => ⟨S8192x512, .f32⟩
  | .hbm, ⟨12, _⟩ => ⟨S1x512, .f32⟩
  | .hbm, ⟨13, _⟩ => ⟨S1x512, .f32⟩
  | .hbm, ⟨14, _⟩ => ⟨S8192x1024, .bf16⟩
  | .hbm, ⟨15, _⟩ => ⟨S8192x1024, .f32⟩
  | .hbm, ⟨16, _⟩ => ⟨S256x1024, .f32⟩
  | .hbm, ⟨17, _⟩ => ⟨S256x1024, .f32⟩
  | .hbm, ⟨18, _⟩ => ⟨S8x256, .f32⟩
  | .hbm, ⟨19, _⟩ => ⟨S8x1024, .f32⟩
  | .hbm, ⟨20, _⟩ => ⟨S8192x512, .f32⟩
  | .hbm, ⟨21, _⟩ => ⟨S8192x512, .f32⟩
  | .hbm, ⟨22, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S256x1024, .bf16⟩
  | .local _ .vmem, ⟨6, _⟩ => ⟨S256x1024, .bf16⟩
  | .local _ .vmem, ⟨7, _⟩ => ⟨S1x256, .f32⟩
  | .local _ .vmem, ⟨8, _⟩ => ⟨S1x1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024x1024, .bf16⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S1x512, .f32⟩
  | .local _ .vmem, ⟨18, _⟩ => ⟨S1x512, .f32⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S256x1024, .f32⟩
  | .local _ .vmem, ⟨24, _⟩ => ⟨S256x1024, .f32⟩
  | .local _ .vmem, ⟨25, _⟩ => ⟨S8x256, .f32⟩
  | .local _ .vmem, ⟨26, _⟩ => ⟨S8x1024, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S8x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== XattnRefIdeal.lean ====
abbrev S8192x1024 : Shape := ⟨2, ![8192, 1024]⟩
abbrev S1x1024x1024 : Shape := ⟨3, ![1, 1024, 1024]⟩
abbrev S256x1024 : Shape := ⟨2, ![256, 1024]⟩
abbrev S1x256 : Shape := ⟨2, ![1, 256]⟩
abbrev S1x1024 : Shape := ⟨2, ![1, 1024]⟩
abbrev S8192x512 : Shape := ⟨2, ![8192, 512]⟩
abbrev S1x512 : Shape := ⟨2, ![1, 512]⟩
abbrev S8192x4x256 : Shape := ⟨3, ![8192, 4, 256]⟩
abbrev S_ : Shape := ⟨0, ![]⟩
abbrev S8192x4 : Shape := ⟨2, ![8192, 4]⟩
abbrev S8192x4x1 : Shape := ⟨3, ![8192, 4, 1]⟩
abbrev S1x1x256 : Shape := ⟨3, ![1, 1, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S1024x1024 : Shape := ⟨2, ![1024, 1024]⟩
abbrev S8192 : Shape := ⟨1, ![8192]⟩
abbrev S8192x1 : Shape := ⟨2, ![8192, 1]⟩
abbrev S4x256x256 : Shape := ⟨3, ![4, 256, 256]⟩
abbrev S256 : Shape := ⟨1, ![256]⟩
abbrev S1024 : Shape := ⟨1, ![1024]⟩
abbrev S512 : Shape := ⟨1, ![512]⟩
abbrev S7x256 : Shape := ⟨2, ![7, 256]⟩
abbrev S8x256 : Shape := ⟨2, ![8, 256]⟩
abbrev S7x1024 : Shape := ⟨2, ![7, 1024]⟩
abbrev S8x1024 : Shape := ⟨2, ![8, 1024]⟩

abbrev nBuf : Space → Nat
  | .hbm => 292
  | .vmem => 0
  | .smem => 0
  | _ => 0

abbrev hbmTy0_0 (i : Nat) : BufTy := match i % 128 with
  | 0 => ⟨S8192x1024, .f32⟩
  | 1 => ⟨S1x1024x1024, .bf16⟩
  | 2 => ⟨S8192x1024, .f32⟩
  | 3 => ⟨S256x1024, .bf16⟩
  | 4 => ⟨S256x1024, .bf16⟩
  | 5 => ⟨S1x256, .f32⟩
  | 6 => ⟨S1x1024x1024, .bf16⟩
  | 7 => ⟨S8192x1024, .f32⟩
  | 8 => ⟨S1x1024, .f32⟩
  | 9 => ⟨S1x1024x1024, .bf16⟩
  | 10 => ⟨S8192x512, .f32⟩
  | 11 => ⟨S8192x512, .f32⟩
  | 12 => ⟨S1x512, .f32⟩
  | 13 => ⟨S1x512, .f32⟩
  | 14 => ⟨S256x1024, .f32⟩
  | 15 => ⟨S256x1024, .f32⟩
  | 16 => ⟨S8192x4x256, .f32⟩
  | 17 => ⟨S8192x4x256, .f32⟩
  | 18 => ⟨S_, .f32⟩
  | 19 => ⟨S8192x4, .f32⟩
  | 20 => ⟨S8192x4x1, .f32⟩
  | 21 => ⟨S_, .f32⟩
  | 22 => ⟨S8192x4x1, .f32⟩
  | 23 => ⟨S8192x4x1, .f32⟩
  | 24 => ⟨S_, .f32⟩
  | 25 => ⟨S8192x4x1, .f32⟩
  | 26 => ⟨S8192x4x1, .f32⟩
  | 27 => ⟨S8192x4x1, .f32⟩
  | 28 => ⟨S8192x4x1, .f32⟩
  | 29 => ⟨S_, .f32⟩
  | 30 => ⟨S8192x4x1, .f32⟩
  | 31 => ⟨S8192x4x1, .f32⟩
  | 32 => ⟨S8192x4x256, .f32⟩
  | 33 => ⟨S8192x4x256, .f32⟩
  | 34 => ⟨S1x1x256, .f32⟩
  | 35 => ⟨S8192x4x256, .f32⟩
  | 36 => ⟨S8192x4x256, .f32⟩
  | 37 => ⟨S256x4x256, .f32⟩
  | 38 => ⟨S256x4x256, .f32⟩
  | 39 => ⟨S4x8192x256, .f32⟩
  | 40 => ⟨S_, .f32⟩
  | 41 => ⟨S4x8192x256, .f32⟩
  | 42 => ⟨S4x8192x256, .f32⟩
  | 43 => ⟨S_, .f32⟩
  | 44 => ⟨S4x8192, .f32⟩
  | 45 => ⟨S4x8192x1, .f32⟩
  | 46 => ⟨S4x8192x256, .f32⟩
  | 47 => ⟨S4x8192x256, .i1⟩
  | 48 => ⟨S4x8192x256, .f32⟩
  | 49 => ⟨S_, .f32⟩
  | 50 => ⟨S4x8192, .f32⟩
  | 51 => ⟨S_, .f32⟩
  | 52 => ⟨S4x8192, .f32⟩
  | 53 => ⟨S4x8192, .f32⟩
  | 54 => ⟨S_, .f32⟩
  | 55 => ⟨S4x8192, .f32⟩
  | 56 => ⟨S4x8192, .i1⟩
  | 57 => ⟨S_, .f32⟩
  | 58 => ⟨S4x8192, .f32⟩
  | 59 => ⟨S4x8192, .i1⟩
  | 60 => ⟨S_, .f32⟩
  | 61 => ⟨S4x8192, .f32⟩
  | 62 => ⟨S_, .f32⟩
  | 63 => ⟨S4x8192, .f32⟩
  | 64 => ⟨S_, .f32⟩
  | 65 => ⟨S4x8192, .f32⟩
  | 66 => ⟨S4x8192, .f32⟩
  | 67 => ⟨S4x8192, .f32⟩
  | 68 => ⟨S4x8192x1, .f32⟩
  | 69 => ⟨S4x8192x256, .f32⟩
  | 70 => ⟨S4x8192x256, .f32⟩
  | 71 => ⟨S4x8192x256, .f32⟩
  | 72 => ⟨S_, .f32⟩
  | 73 => ⟨S4x8192, .f32⟩
  | 74 => ⟨S4x8192x1, .f32⟩
  | 75 => ⟨S4x8192x256, .f32⟩
  | 76 => ⟨S4x8192x256, .f32⟩
  | 77 => ⟨S4x8192x1, .f32⟩
  | 78 => ⟨S_, .f32⟩
  | 79 => ⟨S4x8192x1, .f32⟩
  | 80 => ⟨S4x8192x1, .f32⟩
  | 81 => ⟨S4x256x8192, .f32⟩
  | 82 => ⟨S8192x4x256, .f32⟩
  | 83 => ⟨S8192x1024, .f32⟩
  | 84 => ⟨S1024x1024, .bf16⟩
  | 85 => ⟨S1024x1024, .f32⟩
  | 86 => ⟨S8192x1024, .f32⟩
  | 87 => ⟨S8192x1024, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S_, .f32⟩
  | 95 => ⟨S8192x1, .f32⟩
  | 96 => ⟨S8192x1, .f32⟩
  | 97 => ⟨S8192x1, .f32⟩
  | 98 => ⟨S8192x1, .f32⟩
  | 99 => ⟨S_, .f32⟩
  | 100 => ⟨S8192x1, .f32⟩
  | 101 => ⟨S8192x1, .f32⟩
  | 102 => ⟨S8192x1024, .f32⟩
  | 103 => ⟨S8192x1024, .f32⟩
  | 104 => ⟨S8192x1024, .f32⟩
  | 105 => ⟨S8192x1024, .f32⟩
  | 106 => ⟨S1024x1024, .bf16⟩
  | 107 => ⟨S1024x1024, .f32⟩
  | 108 => ⟨S8192x1024, .f32⟩
  | 109 => ⟨S8192x512, .f32⟩
  | 110 => ⟨S_, .f32⟩
  | 111 => ⟨S8192, .f32⟩
  | 112 => ⟨S8192x1, .f32⟩
  | 113 => ⟨S_, .f32⟩
  | 114 => ⟨S8192x1, .f32⟩
  | 115 => ⟨S8192x1, .f32⟩
  | 116 => ⟨S_, .f32⟩
  | 117 => ⟨S8192x1, .f32⟩
  | 118 => ⟨S8192x1, .f32⟩
  | 119 => ⟨S8192x1, .f32⟩
  | 120 => ⟨S8192x1, .f32⟩
  | 121 => ⟨S_, .f32⟩
  | 122 => ⟨S8192x1, .f32⟩
  | 123 => ⟨S8192x1, .f32⟩
  | 124 => ⟨S8192x512, .f32⟩
  | 125 => ⟨S8192x512, .f32⟩
  | 126 => ⟨S8192x512, .f32⟩
  | 127 => ⟨S8192x512, .f32⟩
  | _ => ⟨S8192x1024, .f32⟩

abbrev hbmTy0_1 (i : Nat) : BufTy := match i % 128 with
  | 0 => ⟨S8192x512, .f32⟩
  | 1 => ⟨S_, .f32⟩
  | 2 => ⟨S8192, .f32⟩
  | 3 => ⟨S8192x1, .f32⟩
  | 4 => ⟨S_, .f32⟩
  | 5 => ⟨S8192x1, .f32⟩
  | 6 => ⟨S8192x1, .f32⟩
  | 7 => ⟨S_, .f32⟩
  | 8 => ⟨S8192x1, .f32⟩
  | 9 => ⟨S8192x1, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S8192x512, .f32⟩
  | 16 => ⟨S8192x512, .f32⟩
  | 17 => ⟨S8192x512, .f32⟩
  | 18 => ⟨S8192x512, .f32⟩
  | 19 => ⟨S8192x1024, .f32⟩
  | 20 => ⟨S1024x1024, .bf16⟩
  | 21 => ⟨S1024x1024, .f32⟩
  | 22 => ⟨S8192x1024, .f32⟩
  | 23 => ⟨S8192x1024, .f32⟩
  | 24 => ⟨S8192x4x256, .f32⟩
  | 25 => ⟨S4x256x8192, .f32⟩
  | 26 => ⟨S4x8192x256, .f32⟩
  | 27 => ⟨S4x256x256, .f32⟩
  | 28 => ⟨S256x4x256, .f32⟩
  | 29 => ⟨S4x8192x256, .f32⟩
  | 30 => ⟨S4x8192x256, .f32⟩
  | 31 => ⟨S4x8192x256, .f32⟩
  | 32 => ⟨S_, .f32⟩
  | 33 => ⟨S4x8192, .f32⟩
  | 34 => ⟨S4x8192x1, .f32⟩
  | 35 => ⟨S4x8192x1, .f32⟩
  | 36 => ⟨S4x8192x256, .f32⟩
  | 37 => ⟨S4x8192x256, .f32⟩
  | 38 => ⟨S_, .f32⟩
  | 39 => ⟨S4x8192, .f32⟩
  | 40 => ⟨S4x8192x256, .f32⟩
  | 41 => ⟨S4x8192x256, .f32⟩
  | 42 => ⟨S4x8192x256, .f32⟩
  | 43 => ⟨S_, .f32⟩
  | 44 => ⟨S4x8192x256, .f32⟩
  | 45 => ⟨S4x8192x256, .f32⟩
  | 46 => ⟨S4x256x256, .f32⟩
  | 47 => ⟨S256x4x256, .f32⟩
  | 48 => ⟨S4x8192x256, .f32⟩
  | 49 => ⟨S8192x4x256, .f32⟩
  | 50 => ⟨S256x1024, .f32⟩
  | 51 => ⟨S256x1024, .f32⟩
  | 52 => ⟨S8192x4x256, .f32⟩
  | 53 => ⟨S_, .f32⟩
  | 54 => ⟨S256, .f32⟩
  | 55 => ⟨S1x1x256, .f32⟩
  | 56 => ⟨S8192x4x256, .f32⟩
  | 57 => ⟨S8192x4x256, .f32⟩
  | 58 => ⟨S_, .f32⟩
  | 59 => ⟨S256, .f32⟩
  | 60 => ⟨S1x256, .f32⟩
  | 61 => ⟨S8192x4x256, .f32⟩
  | 62 => ⟨S_, .f32⟩
  | 63 => ⟨S8192x4, .f32⟩
  | 64 => ⟨S8192x4x1, .f32⟩
  | 65 => ⟨S8192x4x256, .f32⟩
  | 66 => ⟨S8192x4x256, .f32⟩
  | 67 => ⟨S8192x4x1, .f32⟩
  | 68 => ⟨S_, .f32⟩
  | 69 => ⟨S8192x4x1, .f32⟩
  | 70 => ⟨S8192x4x1, .f32⟩
  | 71 => ⟨S_, .f32⟩
  | 72 => ⟨S8192x4, .f32⟩
  | 73 => ⟨S8192x4x256, .f32⟩
  | 74 => ⟨S8192x4x256, .f32⟩
  | 75 => ⟨S8192x4x256, .f32⟩
  | 76 => ⟨S8192x4x256, .f32⟩
  | 77 => ⟨S8192x4x256, .f32⟩
  | 78 => ⟨S8192x1024, .f32⟩
  | 79 => ⟨S8192x1024, .f32⟩
  | 80 => ⟨S8192x1024, .f32⟩
  | 81 => ⟨S_, .f32⟩
  | 82 => ⟨S1024, .f32⟩
  | 83 => ⟨S1x1024, .f32⟩
  | 84 => ⟨S8192x1024, .f32⟩
  | 85 => ⟨S8192x1024, .f32⟩
  | 86 => ⟨S8192x1024, .f32⟩
  | 87 => ⟨S_, .f32⟩
  | 88 => ⟨S8192, .f32⟩
  | 89 => ⟨S8192x1, .f32⟩
  | 90 => ⟨S8192x1024, .f32⟩
  | 91 => ⟨S8192x1024, .f32⟩
  | 92 => ⟨S8192x1, .f32⟩
  | 93 => ⟨S_, .f32⟩
  | 94 => ⟨S8192x1, .f32⟩
  | 95 => ⟨S8192x1, .f32⟩
  | 96 => ⟨S_, .f32⟩
  | 97 => ⟨S8192, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x512, .f32⟩
  | 106 => ⟨S8192x512, .f32⟩
  | 107 => ⟨S8192x512, .f32⟩
  | 108 => ⟨S_, .f32⟩
  | 109 => ⟨S512, .f32⟩
  | 110 => ⟨S1x512, .f32⟩
  | 111 => ⟨S8192x512, .f32⟩
  | 112 => ⟨S8192x512, .f32⟩
  | 113 => ⟨S8192x512, .f32⟩
  | 114 => ⟨S_, .f32⟩
  | 115 => ⟨S8192, .f32⟩
  | 116 => ⟨S8192x1, .f32⟩
  | 117 => ⟨S8192x512, .f32⟩
  | 118 => ⟨S8192x512, .f32⟩
  | 119 => ⟨S8192x1, .f32⟩
  | 120 => ⟨S_, .f32⟩
  | 121 => ⟨S8192x1, .f32⟩
  | 122 => ⟨S8192x1, .f32⟩
  | 123 => ⟨S_, .f32⟩
  | 124 => ⟨S8192, .f32⟩
  | 125 => ⟨S8192x512, .f32⟩
  | 126 => ⟨S8192x512, .f32⟩
  | 127 => ⟨S8192x512, .f32⟩
  | _ => ⟨S8192x1024, .f32⟩

abbrev hbmTy0_2 (i : Nat) : BufTy := match i % 128 with
  | 0 => ⟨S8192x512, .f32⟩
  | 1 => ⟨S8192x512, .f32⟩
  | 2 => ⟨S8192x512, .f32⟩
  | 3 => ⟨S_, .f32⟩
  | 4 => ⟨S512, .f32⟩
  | 5 => ⟨S1x512, .f32⟩
  | 6 => ⟨S8192x512, .f32⟩
  | 7 => ⟨S8192x512, .f32⟩
  | 8 => ⟨S8192x512, .f32⟩
  | 9 => ⟨S_, .f32⟩
  | 10 => ⟨S8192, .f32⟩
  | 11 => ⟨S8192x1, .f32⟩
  | 12 => ⟨S8192x512, .f32⟩
  | 13 => ⟨S8192x512, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192, .f32⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S8192x1024, .bf16⟩
  | 26 => ⟨S_, .f32⟩
  | 27 => ⟨S7x256, .f32⟩
  | 28 => ⟨S8x256, .f32⟩
  | 29 => ⟨S_, .f32⟩
  | 30 => ⟨S7x1024, .f32⟩
  | 31 => ⟨S8x1024, .f32⟩
  | 32 => ⟨S1x1024, .f32⟩
  | 33 => ⟨S_, .f32⟩
  | 34 => ⟨S7x1024, .f32⟩
  | 35 => ⟨S8x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_cst_10 : Ref sig .tc := ⟨.hbm, 62, rfl⟩
abbrev main_v37 : Ref sig .tc := ⟨.hbm, 63, rfl⟩
abbrev main_cst_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_13 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_14 : Ref sig .tc := ⟨.hbm, 88, rfl⟩
abbrev main_v59 : Ref sig .tc := ⟨.hbm, 89, rfl⟩
abbrev main_v60 : Ref sig .tc := ⟨.hbm, 90, rfl⟩
abbrev main_cst_15 : Ref sig .tc := ⟨.hbm, 91, rfl⟩
abbrev main_v61 : Ref sig .tc := ⟨.hbm, 92, rfl⟩
abbrev main_v62 : Ref sig .tc := ⟨.hbm, 93, rfl⟩
abbrev main_cst_16 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_17 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_18 : Ref sig .tc := ⟨.hbm, 110, rfl⟩
abbrev main_v77 : Ref sig .tc := ⟨.hbm, 111, rfl⟩
abbrev main_v78 : Ref sig .tc := ⟨.hbm, 112, rfl⟩
abbrev main_cst_19 : Ref sig .tc := ⟨.hbm, 113, rfl⟩
abbrev main_v79 : Ref sig .tc := ⟨.hbm, 114, rfl⟩
abbrev main_v80 : Ref sig .tc := ⟨.hbm, 115, rfl⟩
abbrev main_cst_20 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_21 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_22 : Ref sig .tc := ⟨.hbm, 129, rfl⟩
abbrev main_v92 : Ref sig .tc := ⟨.hbm, 130, rfl⟩
abbrev main_v93 : Ref sig .tc := ⟨.hbm, 131, rfl⟩
abbrev main_cst_23 : Ref sig .tc := ⟨.hbm, 132, rfl⟩
abbrev main_v94 : Ref sig .tc := ⟨.hbm, 133, rfl⟩
abbrev main_v95 : Ref sig .tc := ⟨.hbm, 134, rfl⟩
abbrev main_cst_24 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_25 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_26 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_27 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_28 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_cst_29 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_30 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_31 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_32 : Ref sig .tc := ⟨.hbm, 196, rfl⟩
abbrev main_v149 : Ref sig .tc := ⟨.hbm, 197, rfl⟩
abbrev main_v150 : Ref sig .tc := ⟨.hbm, 198, rfl⟩
abbrev main_cst_33 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_cst_34 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_cst_35 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_cst_36 : Ref sig .tc := ⟨.hbm, 221, rfl⟩
abbrev main_v170 : Ref sig .tc := ⟨.hbm, 222, rfl⟩
abbrev main_v171 : Ref sig .tc := ⟨.hbm, 223, rfl⟩
abbrev main_cst_37 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_cst_38 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_cst_39 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_cst_40 : Ref sig .tc := ⟨.hbm, 248, rfl⟩
abbrev main_v193 : Ref sig .tc := ⟨.hbm, 249, rfl⟩
abbrev main_v194 : Ref sig .tc := ⟨.hbm, 250, rfl⟩
abbrev main_cst_41 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_cst_42 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_cst_43 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_cst_44 : Ref sig .tc := ⟨.hbm, 271, rfl⟩
abbrev main_v212 : Ref sig .tc := ⟨.hbm, 272, rfl⟩
abbrev main_v213 : Ref sig .tc := ⟨.hbm, 273, rfl⟩
abbrev main_cst_45 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_cst_46 : Ref sig .tc := ⟨.hbm, 282, rfl⟩
abbrev main_v221 : Ref sig .tc := ⟨.hbm, 283, rfl⟩
abbrev main_v222 : Ref sig .tc := ⟨.hbm, 284, rfl⟩
abbrev main_cst_47 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_cst_48 : Ref sig .tc := ⟨.hbm, 289, rfl⟩
abbrev main_v226 : Ref sig .tc := ⟨.hbm, 290, rfl⟩
abbrev main_v227 : Ref sig .tc := ⟨.hbm, 291, rfl⟩

abbrev nD : Nat := 1
abbrev τ : Topo := Topo.v7x

variable {F : FTy → Type} [FloatOps F]
-- ==== Ffn.lean ====
abbrev S8192x1024 : Shape := ⟨2, ![8192, 1024]⟩
abbrev S1x1024 : Shape := ⟨2, ![1, 1024]⟩
abbrev S4x1024x1408 : Shape := ⟨3, ![4, 1024, 1408]⟩
abbrev S3x5632 : Shape := ⟨2, ![3, 5632]⟩
abbrev S1x5632 : Shape := ⟨2, ![1, 5632]⟩
abbrev S2816x1024 : Shape := ⟨2, ![2816, 1024]⟩
abbrev S8192x5632 : Shape := ⟨2, ![8192, 5632]⟩
abbrev S8192x2816 : Shape := ⟨2, ![8192, 2816]⟩
abbrev S8x128 : Shape := ⟨2, ![8, 128]⟩
abbrev S256x1024 : Shape := ⟨2, ![256, 1024]⟩
abbrev S256x5632 : Shape := ⟨2, ![256, 5632]⟩
abbrev S256x2816 : Shape := ⟨2, ![256, 2816]⟩
abbrev S8x5632 : Shape := ⟨2, ![8, 5632]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S8x1408 : Shape := ⟨2, ![8, 1408]⟩
abbrev S1x1408 : Shape := ⟨2, ![1, 1408]⟩
abbrev S248x1408 : Shape := ⟨2, ![248, 1408]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 12
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x1408, .bf16⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S8192x1024, .f32⟩
  | .hbm, ⟨7, _⟩ => ⟨S8192x1024, .bf16⟩
  | .hbm, ⟨8, _⟩ => ⟨S8192x5632, .f32⟩
  | .hbm, ⟨9, _⟩ => ⟨S8192x2816, .bf16⟩
  | .hbm, ⟨10, _⟩ => ⟨S8192x1024, .f32⟩
  | .hbm, ⟨11, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1408, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x5632, .f32⟩
  | .local _ .vmem, ⟨12, _⟩ => ⟨S256x5632, .f32⟩
  | .local _ .vmem, ⟨13, _⟩ => ⟨S256x2816, .bf16⟩
  | .local _ .vmem, ⟨14, _⟩ => ⟨S256x2816, .bf16⟩
  | .local _ .vmem, ⟨15, _⟩ => ⟨S256x1024, .f32⟩
  | .local _ .vmem, ⟨16, _⟩ => ⟨S256x1024, .f32⟩
  | .local _ .vmem, ⟨17, _⟩ => ⟨S8x128, .f32⟩
  | .local _ .vmem, ⟨18, _⟩ => ⟨S8x5632, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnRefIdeal.lean ====
abbrev S8192x1024 : Shape := ⟨2, ![8192, 1024]⟩
abbrev S1x1024 : Shape := ⟨2, ![1, 1024]⟩
abbrev S4x1024x1408 : Shape := ⟨3, ![4, 1024, 1408]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024x4x1408 : Shape := ⟨3, ![1024, 4, 1408]⟩
abbrev S1024x5632 : Shape := ⟨2, ![1024, 5632]⟩
abbrev S8192x5632 : Shape := ⟨2, ![8192, 5632]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S8x128 : Shape := ⟨2, ![8, 128]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x1408, .bf16⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S4x1024x1408, .f32⟩
  | .hbm, ⟨23, _⟩ => ⟨S1024x4x1408, .f32⟩
  | .hbm, ⟨24, _⟩ => ⟨S1024x5632, .f32⟩
  | .hbm, ⟨25, _⟩ => ⟨S8192x5632, .f32⟩
  | .hbm, ⟨26, _⟩ => ⟨S_, .f32⟩
  | .hbm, ⟨27, _⟩ => ⟨S2x5632, .f32⟩
  | .hbm, ⟨28, _⟩ => ⟨S8194x5632, .f32⟩
  | .hbm, ⟨29, _⟩ => ⟨S8192x5632, .f32⟩
  | .hbm, ⟨30, _⟩ => ⟨S1x5632, .f32⟩
  | .hbm, ⟨31, _⟩ => ⟨S5632, .f32⟩
  | .hbm, ⟨32, _⟩ => ⟨S1x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S1x5632, .f32⟩
  | .hbm, ⟨37, _⟩ => ⟨S5632, .f32⟩
  | .hbm, ⟨38, _⟩ => ⟨S1x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S1x5632, .f32⟩
  | .hbm, ⟨44, _⟩ => ⟨S5632, .f32⟩
  | .hbm, ⟨45, _⟩ => ⟨S1x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S_, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S_, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S_, .f32⟩
  | .hbm, ⟨64, _⟩ => ⟨S8192x2816, .f32⟩
  | .hbm, ⟨65, _⟩ => ⟨S8192x2816, .f32⟩
  | .hbm, ⟨66, _⟩ => ⟨S_, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S2816x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S8192, .f32⟩
  | .hbm, ⟨81, _⟩ => ⟨S_, .f32⟩
  | .hbm, ⟨82, _⟩ => ⟨S8192, .f32⟩
  | .hbm, ⟨83, _⟩ => ⟨S8192, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S8192, .f32⟩
  | .hbm, ⟨92, _⟩ => ⟨S_, .f32⟩
  | .hbm, ⟨93, _⟩ => ⟨S8192, .f32⟩
  | .hbm, ⟨94, _⟩ => ⟨S8192, .f32⟩
  | .hbm, ⟨95, _⟩ => ⟨S8192x1024, .f32⟩
  | .hbm, ⟨96, _⟩ => ⟨S8192x1024, .f32⟩
  | .hbm, ⟨97, _⟩ => ⟨S8192x1024, .bf16⟩
  | .hbm, ⟨98, _⟩ => ⟨S8192x2816, .bf16⟩
  | .hbm, ⟨99, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_7 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_cst_10 : Ref sig .tc := ⟨.hbm, 84, rfl⟩
abbrev main_v66 : Ref sig .tc := ⟨.hbm, 85, rfl⟩
abbrev main_cst_11 : Ref sig .tc := ⟨.hbm, 86, rfl⟩
abbrev main_v67 : Ref sig .tc := ⟨.hbm, 87, rfl⟩
abbrev main_cst_12 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_cst_14 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩

abbrev nD : Nat := 1
abbrev τ : Topo := Topo.v7x

variable {F : FTy → Type} [FloatOps F]
-- ==== KeyNorm.lean ====
abbrev S256x2048 : Shape := ⟨2, ![256, 2048]⟩
abbrev S256x1024 : Shape := ⟨2, ![256, 1024]⟩
abbrev S1x256 : Shape := ⟨2, ![1, 256]⟩
abbrev S8x256 : Shape := ⟨2, ![8, 256]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S256x1024, .f32⟩
  | .hbm, ⟨3, _⟩ => ⟨S1x256, .f32⟩
  | .hbm, ⟨4, _⟩ => ⟨S256x2048, .bf16⟩
  | .hbm, ⟨5, _⟩ => ⟨S8x256, .f32⟩
  | .local _ .vmem, ⟨0, _⟩ => ⟨S256x2048, .f32⟩
  | .local _ .vmem, ⟨1, _⟩ => ⟨S256x1024, .f32⟩
  | .local _ .vmem, ⟨2, _⟩ => ⟨S256x1024, .f32⟩
  | .local _ .vmem, ⟨3, _⟩ => ⟨S1x256, .f32⟩
  | .local _ .vmem, ⟨4, _⟩ => ⟨S256x2048, .bf16⟩
  | .local _ .vmem, ⟨5, _⟩ => ⟨S8x256, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KeyNormRefIdeal.lean ====
abbrev S256x2048 : Shape := ⟨2, ![256, 2048]⟩
abbrev S256x1024 : Shape := ⟨2, ![256, 1024]⟩
abbrev S1x256 : Shape := ⟨2, ![1, 256]⟩
abbrev S256x4x256 : Shape := ⟨3, ![256, 4, 256]⟩
abbrev S_ : Shape := ⟨0, ![]⟩
abbrev S256x4 : Shape := ⟨2, ![256, 4]⟩
abbrev S256x4x1 : Shape := ⟨3, ![256, 4, 1]⟩
abbrev S1x1x256 : Shape := ⟨3, ![1, 1, 256]⟩
abbrev S256 : Shape := ⟨1, ![256]⟩
abbrev S7x256 : Shape := ⟨2, ![7, 256]⟩
abbrev S8x256 : Shape := ⟨2, ![8, 256]⟩

abbrev nBuf : Space → Nat
  | .hbm => 61
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S256x1024, .f32⟩
  | .hbm, ⟨3, _⟩ => ⟨S1x256, .f32⟩
  | .hbm, ⟨4, _⟩ => ⟨S256x1024, .f32⟩
  | .hbm, ⟨5, _⟩ => ⟨S256x1024, .f32⟩
  | .hbm, ⟨6, _⟩ => ⟨S256x4x256, .f32⟩
  | .hbm, ⟨7, _⟩ => ⟨S256x4x256, .f32⟩
  | .hbm, ⟨8, _⟩ => ⟨S_, .f32⟩
  | .hbm, ⟨9, _⟩ => ⟨S256x4, .f32⟩
  | .hbm, ⟨10, _⟩ => ⟨S256x4x1, .f32⟩
  | .hbm, ⟨11, _⟩ => ⟨S_, .f32⟩
  | .hbm, ⟨12, _⟩ => ⟨S256x4x1, .f32⟩
  | .hbm, ⟨13, _⟩ => ⟨S256x4x1, .f32⟩
  | .hbm, ⟨14, _⟩ => ⟨S_, .f32⟩
  | .hbm, ⟨15, _⟩ => ⟨S256x4x1, .f32⟩
  | .hbm, ⟨16, _⟩ => ⟨S256x4x1, .f32⟩
  | .hbm, ⟨17, _⟩ => ⟨S256x4x1, .f32⟩
  | .hbm, ⟨18, _⟩ => ⟨S256x4x1, .f32⟩
  | .hbm, ⟨19, _⟩ => ⟨S_, .f32⟩
  | .hbm, ⟨20, _⟩ => ⟨S256x4x1, .f32⟩
  | .hbm, ⟨21, _⟩ => ⟨S256x4x1, .f32⟩
  | .hbm, ⟨22, _⟩ => ⟨S256x4x256, .f32⟩
  | .hbm, ⟨23, _⟩ => ⟨S256x4x256, .f32⟩
  | .hbm, ⟨24, _⟩ => ⟨S1x1x256, .f32⟩
  | .hbm, ⟨25, _⟩ => ⟨S256x4x256, .f32⟩
  | .hbm, ⟨26, _⟩ => ⟨S256x4x256, .f32⟩
  | .hbm, ⟨27, _⟩ => ⟨S256x1024, .f32⟩
  | .hbm, ⟨28, _⟩ => ⟨S256x4x256, .f32⟩
  | .hbm, ⟨29, _⟩ => ⟨S256x4x256, .f32⟩
  | .hbm, ⟨30, _⟩ => ⟨S_, .f32⟩
  | .hbm, ⟨31, _⟩ => ⟨S256, .f32⟩
  | .hbm, ⟨32, _⟩ => ⟨S1x1x256, .f32⟩
  | .hbm, ⟨33, _⟩ => ⟨S256x4x256, .f32⟩
  | .hbm, ⟨34, _⟩ => ⟨S256x4x256, .f32⟩
  | .hbm, ⟨35, _⟩ => ⟨S_, .f32⟩
  | .hbm, ⟨36, _⟩ => ⟨S256, .f32⟩
  | .hbm, ⟨37, _⟩ => ⟨S1x256, .f32⟩
  | .hbm, ⟨38, _⟩ => ⟨S256x4x256, .f32⟩
  | .hbm, ⟨39, _⟩ => ⟨S_, .f32⟩
  | .hbm, ⟨40, _⟩ => ⟨S256x4, .f32⟩
  | .hbm, ⟨41, _⟩ => ⟨S256x4x1, .f32⟩
  | .hbm, ⟨42, _⟩ => ⟨S256x4x256, .f32⟩
  | .hbm, ⟨43, _⟩ => ⟨S256x4x256, .f32⟩
  | .hbm, ⟨44, _⟩ => ⟨S256x4x1, .f32⟩
  | .hbm, ⟨45, _⟩ => ⟨S_, .f32⟩
  | .hbm, ⟨46, _⟩ => ⟨S256x4x1, .f32⟩
  | .hbm, ⟨47, _⟩ => ⟨S256x4x1, .f32⟩
  | .hbm, ⟨48, _⟩ => ⟨S_, .f32⟩
  | .hbm, ⟨49, _⟩ => ⟨S256x4, .f32⟩
  | .hbm, ⟨50, _⟩ => ⟨S256x4x256, .f32⟩
  | .hbm, ⟨51, _⟩ => ⟨S256x4x256, .f32⟩
  | .hbm, ⟨52, _⟩ => ⟨S256x4x256, .f32⟩
  | .hbm, ⟨53, _⟩ => ⟨S256x4x256, .f32⟩
  | .hbm, ⟨54, _⟩ => ⟨S256x4x256, .f32⟩
  | .hbm, ⟨55, _⟩ => ⟨S256x1024, .f32⟩
  | .hbm, ⟨56, _⟩ => ⟨S256x2048, .f32⟩
  | .hbm, ⟨57, _⟩ => ⟨S256x2048, .bf16⟩
  | .hbm, ⟨58, _⟩ => ⟨S_, .f32⟩
  | .hbm, ⟨59, _⟩ => ⟨S7x256, .f32⟩
  | .hbm, ⟨60, _⟩ => ⟨S8x256, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== MemPre.lean ====
abbrev S256x2048 : Shape := ⟨2, ![256, 2048]⟩
abbrev S1x256 : Shape := ⟨2, ![1, 256]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S1x256, .f32⟩
  | .hbm, ⟨2, _⟩ => ⟨S256x1024, .bf16⟩
  | .hbm, ⟨3, _⟩ => ⟨S256x1024, .bf16⟩
  | .local _ .vmem, ⟨0, _⟩ => ⟨S256x2048, .f32⟩
  | .local _ .vmem, ⟨1, _⟩ => ⟨S1x256, .f32⟩
  | .local _ .vmem, ⟨2, _⟩ => ⟨S256x1024, .bf16⟩
  | .local _ .vmem, ⟨3, _⟩ => ⟨S256x1024, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MemPreRefIdeal.lean ====
abbrev S256x2048 : Shape := ⟨2, ![256, 2048]⟩
abbrev S1x256 : Shape := ⟨2, ![1, 256]⟩
abbrev S256x1024 : Shape := ⟨2, ![256, 1024]⟩
abbrev S256x4x256 : Shape := ⟨3, ![256, 4, 256]⟩
abbrev S_ : Shape := ⟨0, ![]⟩
abbrev S256x4 : Shape := ⟨2, ![256, 4]⟩
abbrev S256x4x1 : Shape := ⟨3, ![256, 4, 1]⟩
abbrev S1x1x256 : Shape := ⟨3, ![1, 1, 256]⟩

abbrev nBuf : Space → Nat
  | .hbm => 24
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x256, .f32⟩
  | .hbm, ⟨2, _⟩ => ⟨S256x1024, .f32⟩
  | .hbm, ⟨3, _⟩ => ⟨S256x1024, .f32⟩
  | .hbm, ⟨4, _⟩ => ⟨S256x4x256, .f32⟩
  | .hbm, ⟨5, _⟩ => ⟨S256x4x256, .f32⟩
  | .hbm, ⟨6, _⟩ => ⟨S_, .f32⟩
  | .hbm, ⟨7, _⟩ => ⟨S256x4, .f32⟩
  | .hbm, ⟨8, _⟩ => ⟨S256x4x1, .f32⟩
  | .hbm, ⟨9, _⟩ => ⟨S_, .f32⟩
  | .hbm, ⟨10, _⟩ => ⟨S256x4x1, .f32⟩
  | .hbm, ⟨11, _⟩ => ⟨S256x4x1, .f32⟩
  | .hbm, ⟨12, _⟩ => ⟨S_, .f32⟩
  | .hbm, ⟨13, _⟩ => ⟨S256x4x1, .f32⟩
  | .hbm, ⟨14, _⟩ => ⟨S256x4x1, .f32⟩
  | .hbm, ⟨15, _⟩ => ⟨S256x4x1, .f32⟩
  | .hbm, ⟨16, _⟩ => ⟨S256x4x256, .f32⟩
  | .hbm, ⟨17, _⟩ => ⟨S256x4x256, .f32⟩
  | .hbm, ⟨18, _⟩ => ⟨S1x1x256, .f32⟩
  | .hbm, ⟨19, _⟩ => ⟨S256x4x256, .f32⟩
  | .hbm, ⟨20, _⟩ => ⟨S256x4x256, .f32⟩
  | .hbm, ⟨21, _⟩ => ⟨S256x1024, .f32⟩
  | .hbm, ⟨22, _⟩ => ⟨S256x1024, .bf16⟩
  | .hbm, ⟨23, _⟩ => ⟨S256x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== MixIn.lean ====
abbrev S8192x1024 : Shape := ⟨2, ![8192, 1024]⟩
abbrev S1x1024 : Shape := ⟨2, ![1, 1024]⟩
abbrev S1x1024x2048 : Shape := ⟨3, ![1, 1024, 2048]⟩
abbrev S8192x2048 : Shape := ⟨2, ![8192, 2048]⟩
abbrev S1024x1024 : Shape := ⟨2, ![1024, 1024]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2048, .bf16⟩
  | .hbm, ⟨3, _⟩ => ⟨S8192x1024, .bf16⟩
  | .hbm, ⟨4, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .f32⟩
  | .local _ .vmem, ⟨7, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def k0_off1 (i : grid0.Coords) : Fin 3 → Nat :=
  let arg1 : BitVec 32 := BitVec.ofNat 32 (i 1).val
  let v18 : Index := Scalar.indexCast arg1
  let c0_9 : Index := 0#32
  let c0_10 : Index := 0#32
  ![v18.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixInRefIdeal.lean ====
abbrev S8192x1024 : Shape := ⟨2, ![8192, 1024]⟩
abbrev S1x1024 : Shape := ⟨2, ![1, 1024]⟩
abbrev S1x1024x2048 : Shape := ⟨3, ![1, 1024, 2048]⟩
abbrev S_ : Shape := ⟨0, ![]⟩
abbrev S8192 : Shape := ⟨1, ![8192]⟩
abbrev S8192x1 : Shape := ⟨2, ![8192, 1]⟩
abbrev S1024x1x2048 : Shape := ⟨3, ![1024, 1, 2048]⟩
abbrev S1024x2048 : Shape := ⟨2, ![1024, 2048]⟩
abbrev S8192x2048 : Shape := ⟨2, ![8192, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2048, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1x1024x2048, .f32⟩
  | .hbm, ⟨19, _⟩ => ⟨S1024x1x2048, .f32⟩
  | .hbm, ⟨20, _⟩ => ⟨S1024x2048, .f32⟩
  | .hbm, ⟨21, _⟩ => ⟨S8192x1024, .bf16⟩
  | .hbm, ⟨22, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Cross.lean ====
abbrev S8192x1024 : Shape := ⟨2, ![8192, 1024]⟩
abbrev S1024x1024 : Shape := ⟨2, ![1024, 1024]⟩
abbrev S1x1024 : Shape := ⟨2, ![1, 1024]⟩
abbrev S256x1024 : Shape := ⟨2, ![256, 1024]⟩
abbrev S1x256 : Shape := ⟨2, ![1, 256]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 14
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1024x1024, .bf16⟩
  | .hbm, ⟨5, _⟩ => ⟨S256x1024, .bf16⟩
  | .hbm, ⟨6, _⟩ => ⟨S256x1024, .bf16⟩
  | .hbm, ⟨7, _⟩ => ⟨S1x256, .f32⟩
  | .hbm, ⟨8, _⟩ => ⟨S1024x1024, .bf16⟩
  | .hbm, ⟨9, _⟩ => ⟨S8192x1024, .f32⟩
  | .hbm, ⟨10, _⟩ => ⟨S8192x1024, .bf16⟩
  | .hbm, ⟨11, _⟩ => ⟨S8192x1024, .f32⟩
  | .hbm, ⟨12, _⟩ => ⟨S8192x1024, .bf16⟩
  | .hbm, ⟨13, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1024x1024, .bf16⟩
  | .local _ .vmem, ⟨7, _⟩ => ⟨S256x1024, .bf16⟩
  | .local _ .vmem, ⟨8, _⟩ => ⟨S256x1024, .bf16⟩
  | .local _ .vmem, ⟨9, _⟩ => ⟨S1x256, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== CrossRefIdeal.lean ====
abbrev S8192x1024 : Shape := ⟨2, ![8192, 1024]⟩
abbrev S1024x1024 : Shape := ⟨2, ![1024, 1024]⟩
abbrev S1x1024 : Shape := ⟨2, ![1, 1024]⟩
abbrev S256x1024 : Shape := ⟨2, ![256, 1024]⟩
abbrev S1x256 : Shape := ⟨2, ![1, 256]⟩
abbrev S_ : Shape := ⟨0, ![]⟩
abbrev S8192 : Shape := ⟨1, ![8192]⟩
abbrev S8192x1 : Shape := ⟨2, ![8192, 1]⟩
abbrev S8192x4x256 : Shape := ⟨3, ![8192, 4, 256]⟩
abbrev S8192x4 : Shape := ⟨2, ![8192, 4]⟩
abbrev S8192x4x1 : Shape := ⟨3, ![8192, 4, 1]⟩
abbrev S1x1x256 : Shape := ⟨3, ![1, 1, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1024x1024, .bf16⟩
  | .hbm, ⟨5, _⟩ => ⟨S256x1024, .bf16⟩
  | .hbm, ⟨6, _⟩ => ⟨S256x1024, .bf16⟩
  | .hbm, ⟨7, _⟩ => ⟨S1x256, .f32⟩
  | .hbm, ⟨8, _⟩ => ⟨S1024x1024, .bf16⟩
  | .hbm, ⟨9, _⟩ => ⟨S8192x1024, .f32⟩
  | .hbm, ⟨10, _⟩ => ⟨S1024x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024x1024, .f32⟩
  | .hbm, ⟨29, _⟩ => ⟨S8192x1024, .f32⟩
  | .hbm, ⟨30, _⟩ => ⟨S256x1024, .f32⟩
  | .hbm, ⟨31, _⟩ => ⟨S256x1024, .f32⟩
  | .hbm, ⟨32, _⟩ => ⟨S8192x4x256, .f32⟩
  | .hbm, ⟨33, _⟩ => ⟨S8192x4x256, .f32⟩
  | .hbm, ⟨34, _⟩ => ⟨S_, .f32⟩
  | .hbm, ⟨35, _⟩ => ⟨S8192x4, .f32⟩
  | .hbm, ⟨36, _⟩ => ⟨S8192x4x1, .f32⟩
  | .hbm, ⟨37, _⟩ => ⟨S_, .f32⟩
  | .hbm, ⟨38, _⟩ => ⟨S8192x4x1, .f32⟩
  | .hbm, ⟨39, _⟩ => ⟨S8192x4x1, .f32⟩
  | .hbm, ⟨40, _⟩ => ⟨S_, .f32⟩
  | .hbm, ⟨41, _⟩ => ⟨S8192x4x1, .f32⟩
  | .hbm, ⟨42, _⟩ => ⟨S8192x4x1, .f32⟩
  | .hbm, ⟨43, _⟩ => ⟨S8192x4x1, .f32⟩
  | .hbm, ⟨44, _⟩ => ⟨S8192x4x256, .f32⟩
  | .hbm, ⟨45, _⟩ => ⟨S8192x4x256, .f32⟩
  | .hbm, ⟨46, _⟩ => ⟨S1x1x256, .f32⟩
  | .hbm, ⟨47, _⟩ => ⟨S8192x4x256, .f32⟩
  | .hbm, ⟨48, _⟩ => ⟨S8192x4x256, .f32⟩
  | .hbm, ⟨49, _⟩ => ⟨S256x4x256, .f32⟩
  | .hbm, ⟨50, _⟩ => ⟨S256x4x256, .f32⟩
  | .hbm, ⟨51, _⟩ => ⟨S4x8192x256, .f32⟩
  | .hbm, ⟨52, _⟩ => ⟨S_, .f32⟩
  | .hbm, ⟨53, _⟩ => ⟨S4x8192x256, .f32⟩
  | .hbm, ⟨54, _⟩ => ⟨S4x8192x256, .f32⟩
  | .hbm, ⟨55, _⟩ => ⟨S_, .f32⟩
  | .hbm, ⟨56, _⟩ => ⟨S4x8192, .f32⟩
  | .hbm, ⟨57, _⟩ => ⟨S_, .f32⟩
  | .hbm, ⟨58, _⟩ => ⟨S4x8192, .f32⟩
  | .hbm, ⟨59, _⟩ => ⟨S4x8192, .f32⟩
  | .hbm, ⟨60, _⟩ => ⟨S4x8192x1, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x256, .f32⟩
  | .hbm, ⟨68, _⟩ => ⟨S4x8192x256, .f32⟩
  | .hbm, ⟨69, _⟩ => ⟨S4x256x8192, .f32⟩
  | .hbm, ⟨70, _⟩ => ⟨S8192x4x256, .f32⟩
  | .hbm, ⟨71, _⟩ => ⟨S8192x1024, .f32⟩
  | .hbm, ⟨72, _⟩ => ⟨S1024x1024, .f32⟩
  | .hbm, ⟨73, _⟩ => ⟨S8192x1024, .f32⟩
  | .hbm, ⟨74, _⟩ => ⟨S8192x1024, .f32⟩
  | .hbm, ⟨75, _⟩ => ⟨S8192x1024, .bf16⟩
  | .hbm, ⟨76, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== AdamIn.lean ====
abbrev S1x1024x448 : Shape := ⟨3, ![1, 1024, 448]⟩
abbrev S512x448 : Shape := ⟨2, ![512, 448]⟩
abbrev S1 : Shape := ⟨1, ![1]⟩
abbrev S1x256x448 : Shape := ⟨3, ![1, 256, 448]⟩
abbrev S256x448 : Shape := ⟨2, ![256, 448]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x448, .f32⟩
  | .hbm, ⟨1, _⟩ => ⟨S1x1024x448, .f32⟩
  | .hbm, ⟨2, _⟩ => ⟨S1x1024x448, .f32⟩
  | .hbm, ⟨3, _⟩ => ⟨S512x448, .f32⟩
  | .hbm, ⟨4, _⟩ => ⟨S512x448, .f32⟩
  | .hbm, ⟨5, _⟩ => ⟨S1x1024x448, .f32⟩
  | .hbm, ⟨6, _⟩ => ⟨S1x1024x448, .f32⟩
  | .hbm, ⟨7, _⟩ => ⟨S1x1024x448, .f32⟩
  | .hbm, ⟨8, _⟩ => ⟨S1x1024x448, .f32⟩
  | .local _ .vmem, ⟨0, _⟩ => ⟨S1x256x448, .f32⟩
  | .local _ .vmem, ⟨1, _⟩ => ⟨S1x256x448, .f32⟩
  | .local _ .vmem, ⟨2, _⟩ => ⟨S1x256x448, .f32⟩
  | .local _ .vmem, ⟨3, _⟩ => ⟨S1x256x448, .f32⟩
  | .local _ .vmem, ⟨4, _⟩ => ⟨S1x256x448, .f32⟩
  | .local _ .vmem, ⟨5, _⟩ => ⟨S1x256x448, .f32⟩
  | .local _ .vmem, ⟨6, _⟩ => ⟨S256x448, .f32⟩
  | .local _ .vmem, ⟨7, _⟩ => ⟨S256x448, .f32⟩
  | .local _ .vmem, ⟨8, _⟩ => ⟨S256x448, .f32⟩
  | .local _ .vmem, ⟨9, _⟩ => ⟨S256x448, .f32⟩
  | .local _ .vmem, ⟨10, _⟩ => ⟨S1x256x448, .f32⟩
  | .local _ .vmem, ⟨11, _⟩ => ⟨S1x256x448, .f32⟩
  | .local _ .vmem, ⟨12, _⟩ => ⟨S1x256x448, .f32⟩
  | .local _ .vmem, ⟨13, _⟩ => ⟨S1x256x448, .f32⟩
  | .local _ .vmem, ⟨14, _⟩ => ⟨S1x256x448, .f32⟩
  | .local _ .vmem, ⟨15, _⟩ => ⟨S1x256x448, .f32⟩
  | .local _ .vmem, ⟨16, _⟩ => ⟨S1x256x448, .f32⟩
  | .local _ .vmem, ⟨17, _⟩ => ⟨S1x256x448, .f32⟩
  | .local _ .smem, ⟨0, _⟩ => ⟨S1, .i32⟩
  | _, _ => ⟨S1x1024x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x448 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x448 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInRefIdeal.lean ====
abbrev S1x1024x448 : Shape := ⟨3, ![1, 1024, 448]⟩
abbrev S512x448 : Shape := ⟨2, ![512, 448]⟩
abbrev S1 : Shape := ⟨1, ![1]⟩
abbrev S_ : Shape := ⟨0, ![]⟩
abbrev S1024x448 : Shape := ⟨2, ![1024, 448]⟩

abbrev nBuf : Space → Nat
  | .hbm => 49
  | .vmem => 0
  | .smem => 0
  | _ => 0

abbrev bufTy : (tb : Table) → Fin (tcTables nBuf tb) → BufTy
  | .hbm, ⟨0, _⟩ => ⟨S1x1024x448, .f32⟩
  | .hbm, ⟨1, _⟩ => ⟨S1x1024x448, .f32⟩
  | .hbm, ⟨2, _⟩ => ⟨S1x1024x448, .f32⟩
  | .hbm, ⟨3, _⟩ => ⟨S512x448, .f32⟩
  | .hbm, ⟨4, _⟩ => ⟨S512x448, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x448, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x448, .f32⟩
  | .hbm, ⟨14, _⟩ => ⟨S1024x448, .f32⟩
  | .hbm, ⟨15, _⟩ => ⟨S1x1024x448, .f32⟩
  | .hbm, ⟨16, _⟩ => ⟨S_, .f32⟩
  | .hbm, ⟨17, _⟩ => ⟨S1x1024x448, .f32⟩
  | .hbm, ⟨18, _⟩ => ⟨S1x1024x448, .f32⟩
  | .hbm, ⟨19, _⟩ => ⟨S_, .f32⟩
  | .hbm, ⟨20, _⟩ => ⟨S1x1024x448, .f32⟩
  | .hbm, ⟨21, _⟩ => ⟨S1x1024x448, .f32⟩
  | .hbm, ⟨22, _⟩ => ⟨S1x1024x448, .f32⟩
  | .hbm, ⟨23, _⟩ => ⟨S_, .f32⟩
  | .hbm, ⟨24, _⟩ => ⟨S1x1024x448, .f32⟩
  | .hbm, ⟨25, _⟩ => ⟨S1x1024x448, .f32⟩
  | .hbm, ⟨26, _⟩ => ⟨S1x1024x448, .f32⟩
  | .hbm, ⟨27, _⟩ => ⟨S_, .f32⟩
  | .hbm, ⟨28, _⟩ => ⟨S1x1024x448, .f32⟩
  | .hbm, ⟨29, _⟩ => ⟨S1x1024x448, .f32⟩
  | .hbm, ⟨30, _⟩ => ⟨S1x1024x448, .f32⟩
  | .hbm, ⟨31, _⟩ => ⟨S_, .f32⟩
  | .hbm, ⟨32, _⟩ => ⟨S1x1024x448, .f32⟩
  | .hbm, ⟨33, _⟩ => ⟨S1x1024x448, .f32⟩
  | .hbm, ⟨34, _⟩ => ⟨S_, .f32⟩
  | .hbm, ⟨35, _⟩ => ⟨S1x1024x448, .f32⟩
  | .hbm, ⟨36, _⟩ => ⟨S1x1024x448, .f32⟩
  | .hbm, ⟨37, _⟩ => ⟨S1x1024x448, .f32⟩
  | .hbm, ⟨38, _⟩ => ⟨S_, .f32⟩
  | .hbm, ⟨39, _⟩ => ⟨S1x1024x448, .f32⟩
  | .hbm, ⟨40, _⟩ => ⟨S1x1024x448, .f32⟩
  | .hbm, ⟨41, _⟩ => ⟨S1x1024x448, .f32⟩
  | .hbm, ⟨42, _⟩ => ⟨S_, .f32⟩
  | .hbm, ⟨43, _⟩ => ⟨S1x1024x448, .f32⟩
  | .hbm, ⟨44, _⟩ => ⟨S1x1024x448, .f32⟩
  | .hbm, ⟨45, _⟩ => ⟨S1x1024x448, .f32⟩
  | .hbm, ⟨46, _⟩ => ⟨S_, .f32⟩
  | .hbm, ⟨47, _⟩ => ⟨S1x1024x448, .f32⟩
  | .hbm, ⟨48, _⟩ => ⟨S1x1024x448, .f32⟩
  | _, _ => ⟨S1x1024x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamOut.lean ====
abbrev S1x256x1024 : Shape := ⟨3, ![1, 256, 1024]⟩
abbrev S128x1024 : Shape := ⟨2, ![128, 1024]⟩
abbrev S1 : Shape := ⟨1, ![1]⟩
abbrev S1x128x1024 : Shape := ⟨3, ![1, 128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S128x1024, .f32⟩
  | .hbm, ⟨4, _⟩ => ⟨S128x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S128x1024, .f32⟩
  | .local _ .vmem, ⟨7, _⟩ => ⟨S128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .smem, ⟨0, _⟩ => ⟨S1, .i32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutRefIdeal.lean ====
abbrev S1x256x1024 : Shape := ⟨3, ![1, 256, 1024]⟩
abbrev S128x1024 : Shape := ⟨2, ![128, 1024]⟩
abbrev S1 : Shape := ⟨1, ![1]⟩
abbrev S_ : Shape := ⟨0, ![]⟩
abbrev S256x1024 : Shape := ⟨2, ![256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S128x1024, .f32⟩
  | .hbm, ⟨4, _⟩ => ⟨S128x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S128x1024, .f32⟩
  | .hbm, ⟨14, _⟩ => ⟨S256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S_, .f32⟩
  | .hbm, ⟨39, _⟩ => ⟨S1x256x1024, .f32⟩
  | .hbm, ⟨40, _⟩ => ⟨S1x256x1024, .f32⟩
  | .hbm, ⟨41, _⟩ => ⟨S1x256x1024, .f32⟩
  | .hbm, ⟨42, _⟩ => ⟨S_, .f32⟩
  | .hbm, ⟨43, _⟩ => ⟨S1x256x1024, .f32⟩
  | .hbm, ⟨44, _⟩ => ⟨S1x256x1024, .f32⟩
  | .hbm, ⟨45, _⟩ => ⟨S1x256x1024, .f32⟩
  | .hbm, ⟨46, _⟩ => ⟨S_, .f32⟩
  | .hbm, ⟨47, _⟩ => ⟨S1x256x1024, .f32⟩
  | .hbm, ⟨48, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamKv.lean ====
abbrev S1x1024x512 : Shape := ⟨3, ![1, 1024, 512]⟩
abbrev S512x512 : Shape := ⟨2, ![512, 512]⟩
abbrev S1 : Shape := ⟨1, ![1]⟩
abbrev S1x256x512 : Shape := ⟨3, ![1, 256, 512]⟩
abbrev S256x512 : Shape := ⟨2, ![256, 512]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S512x512, .f32⟩
  | .hbm, ⟨4, _⟩ => ⟨S512x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .hbm, ⟨8, _⟩ => ⟨S1x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .smem, ⟨0, _⟩ => ⟨S1, .i32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamKvRefIdeal.lean ====
abbrev S1x1024x512 : Shape := ⟨3, ![1, 1024, 512]⟩
abbrev S512x512 : Shape := ⟨2, ![512, 512]⟩
abbrev S1 : Shape := ⟨1, ![1]⟩
abbrev S_ : Shape := ⟨0, ![]⟩
abbrev S1024x512 : Shape := ⟨2, ![1024, 512]⟩

abbrev nBuf : Space → Nat
  | .hbm => 49
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S512x512, .f32⟩
  | .hbm, ⟨4, _⟩ => ⟨S512x512, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x512, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x512, .f32⟩
  | .hbm, ⟨14, _⟩ => ⟨S1024x512, .f32⟩
  | .hbm, ⟨15, _⟩ => ⟨S1x1024x512, .f32⟩
  | .hbm, ⟨16, _⟩ => ⟨S_, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S_, .f32⟩
  | .hbm, ⟨24, _⟩ => ⟨S1x1024x512, .f32⟩
  | .hbm, ⟨25, _⟩ => ⟨S1x1024x512, .f32⟩
  | .hbm, ⟨26, _⟩ => ⟨S1x1024x512, .f32⟩
  | .hbm, ⟨27, _⟩ => ⟨S_, .f32⟩
  | .hbm, ⟨28, _⟩ => ⟨S1x1024x512, .f32⟩
  | .hbm, ⟨29, _⟩ => ⟨S1x1024x512, .f32⟩
  | .hbm, ⟨30, _⟩ => ⟨S1x1024x512, .f32⟩
  | .hbm, ⟨31, _⟩ => ⟨S_, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S1x1024x512, .f32⟩
  | .hbm, ⟨38, _⟩ => ⟨S_, .f32⟩
  | .hbm, ⟨39, _⟩ => ⟨S1x1024x512, .f32⟩
  | .hbm, ⟨40, _⟩ => ⟨S1x1024x512, .f32⟩
  | .hbm, ⟨41, _⟩ => ⟨S1x1024x512, .f32⟩
  | .hbm, ⟨42, _⟩ => ⟨S_, .f32⟩
  | .hbm, ⟨43, _⟩ => ⟨S1x1024x512, .f32⟩
  | .hbm, ⟨44, _⟩ => ⟨S1x1024x512, .f32⟩
  | .hbm, ⟨45, _⟩ => ⟨S1x1024x512, .f32⟩
  | .hbm, ⟨46, _⟩ => ⟨S_, .f32⟩
  | .hbm, ⟨47, _⟩ => ⟨S1x1024x512, .f32⟩
  | .hbm, ⟨48, _⟩ => ⟨S1x1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamUp.lean ====
abbrev S1x1024x1408 : Shape := ⟨3, ![1, 1024, 1408]⟩
abbrev S512x1408 : Shape := ⟨2, ![512, 1408]⟩
abbrev S1 : Shape := ⟨1, ![1]⟩
abbrev S1x256x1408 : Shape := ⟨3, ![1, 256, 1408]⟩
abbrev S256x1408 : Shape := ⟨2, ![256, 1408]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S512x1408, .f32⟩
  | .hbm, ⟨4, _⟩ => ⟨S512x1408, .f32⟩
  | .hbm, ⟨5, _⟩ => ⟨S1x1024x1408, .f32⟩
  | .hbm, ⟨6, _⟩ => ⟨S1x1024x1408, .f32⟩
  | .hbm, ⟨7, _⟩ => ⟨S1x1024x1408, .f32⟩
  | .hbm, ⟨8, _⟩ => ⟨S1x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .smem, ⟨0, _⟩ => ⟨S1, .i32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpRefIdeal.lean ====
abbrev S1x1024x1408 : Shape := ⟨3, ![1, 1024, 1408]⟩
abbrev S512x1408 : Shape := ⟨2, ![512, 1408]⟩
abbrev S1 : Shape := ⟨1, ![1]⟩
abbrev S_ : Shape := ⟨0, ![]⟩
abbrev S1024x1408 : Shape := ⟨2, ![1024, 1408]⟩

abbrev nBuf : Space → Nat
  | .hbm => 49
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S512x1408, .f32⟩
  | .hbm, ⟨4, _⟩ => ⟨S512x1408, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x1408, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x1408, .f32⟩
  | .hbm, ⟨14, _⟩ => ⟨S1024x1408, .f32⟩
  | .hbm, ⟨15, _⟩ => ⟨S1x1024x1408, .f32⟩
  | .hbm, ⟨16, _⟩ => ⟨S_, .f32⟩
  | .hbm, ⟨17, _⟩ => ⟨S1x1024x1408, .f32⟩
  | .hbm, ⟨18, _⟩ => ⟨S1x1024x1408, .f32⟩
  | .hbm, ⟨19, _⟩ => ⟨S_, .f32⟩
  | .hbm, ⟨20, _⟩ => ⟨S1x1024x1408, .f32⟩
  | .hbm, ⟨21, _⟩ => ⟨S1x1024x1408, .f32⟩
  | .hbm, ⟨22, _⟩ => ⟨S1x1024x1408, .f32⟩
  | .hbm, ⟨23, _⟩ => ⟨S_, .f32⟩
  | .hbm, ⟨24, _⟩ => ⟨S1x1024x1408, .f32⟩
  | .hbm, ⟨25, _⟩ => ⟨S1x1024x1408, .f32⟩
  | .hbm, ⟨26, _⟩ => ⟨S1x1024x1408, .f32⟩
  | .hbm, ⟨27, _⟩ => ⟨S_, .f32⟩
  | .hbm, ⟨28, _⟩ => ⟨S1x1024x1408, .f32⟩
  | .hbm, ⟨29, _⟩ => ⟨S1x1024x1408, .f32⟩
  | .hbm, ⟨30, _⟩ => ⟨S1x1024x1408, .f32⟩
  | .hbm, ⟨31, _⟩ => ⟨S_, .f32⟩
  | .hbm, ⟨32, _⟩ => ⟨S1x1024x1408, .f32⟩
  | .hbm, ⟨33, _⟩ => ⟨S1x1024x1408, .f32⟩
  | .hbm, ⟨34, _⟩ => ⟨S_, .f32⟩
  | .hbm, ⟨35, _⟩ => ⟨S1x1024x1408, .f32⟩
  | .hbm, ⟨36, _⟩ => ⟨S1x1024x1408, .f32⟩
  | .hbm, ⟨37, _⟩ => ⟨S1x1024x1408, .f32⟩
  | .hbm, ⟨38, _⟩ => ⟨S_, .f32⟩
  | .hbm, ⟨39, _⟩ => ⟨S1x1024x1408, .f32⟩
  | .hbm, ⟨40, _⟩ => ⟨S1x1024x1408, .f32⟩
  | .hbm, ⟨41, _⟩ => ⟨S1x1024x1408, .f32⟩
  | .hbm, ⟨42, _⟩ => ⟨S_, .f32⟩
  | .hbm, ⟨43, _⟩ => ⟨S1x1024x1408, .f32⟩
  | .hbm, ⟨44, _⟩ => ⟨S1x1024x1408, .f32⟩
  | .hbm, ⟨45, _⟩ => ⟨S1x1024x1408, .f32⟩
  | .hbm, ⟨46, _⟩ => ⟨S_, .f32⟩
  | .hbm, ⟨47, _⟩ => ⟨S1x1024x1408, .f32⟩
  | .hbm, ⟨48, _⟩ => ⟨S1x1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamDown.lean ====
abbrev S1x704x1024 : Shape := ⟨3, ![1, 704, 1024]⟩
abbrev S352x1024 : Shape := ⟨2, ![352, 1024]⟩
abbrev S1 : Shape := ⟨1, ![1]⟩
abbrev S1x176x1024 : Shape := ⟨3, ![1, 176, 1024]⟩
abbrev S176x1024 : Shape := ⟨2, ![176, 1024]⟩

abbrev nBuf : Space → Nat
  | .hbm => 9
  | .vmem => 18
  | .smem => 1
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S352x1024, .f32⟩
  | .hbm, ⟨4, _⟩ => ⟨S352x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .hbm, ⟨8, _⟩ => ⟨S1x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .smem, ⟨0, _⟩ => ⟨S1, .i32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownRefIdeal.lean ====
abbrev S1x704x1024 : Shape := ⟨3, ![1, 704, 1024]⟩
abbrev S352x1024 : Shape := ⟨2, ![352, 1024]⟩
abbrev S1 : Shape := ⟨1, ![1]⟩
abbrev S_ : Shape := ⟨0, ![]⟩
abbrev S704x1024 : Shape := ⟨2, ![704, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S352x1024, .f32⟩
  | .hbm, ⟨4, _⟩ => ⟨S352x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S352x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S352x1024, .f32⟩
  | .hbm, ⟨14, _⟩ => ⟨S704x1024, .f32⟩
  | .hbm, ⟨15, _⟩ => ⟨S1x704x1024, .f32⟩
  | .hbm, ⟨16, _⟩ => ⟨S_, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S1x704x1024, .f32⟩
  | .hbm, ⟨23, _⟩ => ⟨S_, .f32⟩
  | .hbm, ⟨24, _⟩ => ⟨S1x704x1024, .f32⟩
  | .hbm, ⟨25, _⟩ => ⟨S1x704x1024, .f32⟩
  | .hbm, ⟨26, _⟩ => ⟨S1x704x1024, .f32⟩
  | .hbm, ⟨27, _⟩ => ⟨S_, .f32⟩
  | .hbm, ⟨28, _⟩ => ⟨S1x704x1024, .f32⟩
  | .hbm, ⟨29, _⟩ => ⟨S1x704x1024, .f32⟩
  | .hbm, ⟨30, _⟩ => ⟨S1x704x1024, .f32⟩
  | .hbm, ⟨31, _⟩ => ⟨S_, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | .hbm, ⟨37, _⟩ => ⟨S1x704x1024, .f32⟩
  | .hbm, ⟨38, _⟩ => ⟨S_, .f32⟩
  | .hbm, ⟨39, _⟩ => ⟨S1x704x1024, .f32⟩
  | .hbm, ⟨40, _⟩ => ⟨S1x704x1024, .f32⟩
  | .hbm, ⟨41, _⟩ => ⟨S1x704x1024, .f32⟩
  | .hbm, ⟨42, _⟩ => ⟨S_, .f32⟩
  | .hbm, ⟨43, _⟩ => ⟨S1x704x1024, .f32⟩
  | .hbm, ⟨44, _⟩ => ⟨S1x704x1024, .f32⟩
  | .hbm, ⟨45, _⟩ => ⟨S1x704x1024, .f32⟩
  | .hbm, ⟨46, _⟩ => ⟨S_, .f32⟩
  | .hbm, ⟨47, _⟩ => ⟨S1x704x1024, .f32⟩
  | .hbm, ⟨48, _⟩ => ⟨S1x704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Proof.GateSpec.lean ====
module

public import Idealize.ShloMosaic.Lib.Pipeline.ValueKit

@[expose] public section

noncomputable section

/-! The values of the gated half's gradient, over the extended reals: one function of the argument
arrays for each result. -/

namespace Cert.GateSpec

open Idealize.ShloMosaic

/-- The row `e` rows before row `s`, zero before the first row. -/
def rowBack (a : Fin 8192 → Fin 5632 → EReal) (s : Fin 8192) (e : ℕ) (k : Fin 5632) : EReal :=
  if h : e ≤ s.val then a ⟨s.val - e, by omega⟩ k else 0

/-- The causal convolution of three taps with its bias. -/
def conv (a : Fin 8192 → Fin 5632 → EReal) (w : Fin 3 → Fin 5632 → EReal) (b : Fin 5632 → EReal) (s : Fin 8192) (k : Fin 5632) : EReal :=
  w 2 k * a s k + w 1 k * rowBack a s 1 k + w 0 k * rowBack a s 2 k + b k

/-- The gradient that reaches the gated product. -/
def df (dx : Fin 8192 → Fin 1024 → EReal) (w : Fin 2816 → Fin 1024 → EReal) (s : Fin 8192) (j : Fin 2816) : EReal :=
  ∑ n, dx s n * w j n

/-- The hyperbolic tangent inside the gate's function, for the folded factor `q`. -/
def th (q x : EReal) : EReal := Ideal.tanh (x * (q * (x * x) + Ideal.ofBits .f32 0x3F4C422A#32))

/-- The gradient of the gate's input `x`, beside the value `u` and below the gradient `f`, for the
folded factors `q` and `q3`. -/
def dgate (q q3 x u f : EReal) : EReal :=
  f * u * (Ideal.ofBits .f32 0x3F000000#32 * th q x + Ideal.ofBits .f32 0x3F000000#32
    + Ideal.ofBits .f32 0x3F000000#32 * x * (Ideal.ofBits .f32 0x3F800000#32 - th q x * th q x)
      * (q3 * (x * x) + Ideal.ofBits .f32 0x3F4C422A#32))

/-- The gradient of the value beside the gate. -/
def dup (q x f : EReal) : EReal :=
  f * (Ideal.ofBits .f32 0x3F000000#32 * x * th q x + Ideal.ofBits .f32 0x3F000000#32 * x)

/-- The gradient of the convolution's result: the gate's half, then the value's. -/
def dc (q q3 : EReal) (c : Fin 8192 → Fin 5632 → EReal) (f : Fin 8192 → Fin 2816 → EReal) (s : Fin 8192) (k : Fin 5632) : EReal :=
  if h : k.val < 2816 then dgate q q3 (c s k) (c s ⟨k.val + 2816, by omega⟩) (f s ⟨k.val, h⟩)
  else dup q (c s ⟨k.val - 2816, by omega⟩) (f s ⟨k.val - 2816, by omega⟩)

/-- What one row adds to the gradient of the taps (rows 0 to 2) and of the bias (row 3). -/
def tapGrad (d a : Fin 8192 → Fin 5632 → EReal) (s : Fin 8192) (j : ℕ) (k : Fin 5632) : EReal :=
  if j < 3 then d s k * rowBack a s (2 - j) k else if j = 3 then d s k else 0

/-- No row back is the row itself. -/
theorem rowBack_zero (a : Fin 8192 → Fin 5632 → EReal) (s : Fin 8192) (k : Fin 5632) : rowBack a s 0 k = a s k := by
  unfold rowBack
  rw [dif_pos (Nat.zero_le _)]
  rfl

end Cert.GateSpec

end
-- ==== Proof.GatePieces.lean ====
module

public import proofs.«01_k».proof.Proof.Gen.GateIdeal.Value
public import proofs.«01_k».proof.Proof.GateSpec
public import Idealize.ShloMosaic.Lib.WordCmp

@[expose] public section

set_option maxRecDepth 16384

noncomputable section

namespace Cert.GateIdeal.Point

open Cert.GateIdeal Cert.GateIdeal.Gen Idealize.ShloMosaic Idealize.ShloMosaic.TcCoe Idealize.SL.Sem

/-- The folded factor of the cubic term. -/
def q1 : EReal := (Named.named κ "k0k1" 0x3D122279#32 : Ideal .f32)
/-- Three times the folded factor. -/
def q3 : EReal := (Named.named κ "k0k1x3" 0x3DDB33B6#32 : Ideal .f32)

/-- A choice by an equation of small numbers written as words. -/
theorem select_ofNat {α : Type} (a b : ℕ) (ha : a < 2 ^ 32) (hb : b < 2 ^ 32) (x y : α) :
    Scalar.select (IntOp.cmpi .eq (BitVec.ofNat 32 a) (BitVec.ofNat 32 b)) x y = if a = b then x else y := by
  rw [WordCmp.cmpi_eq_ofNat ha hb]
  by_cases h : a = b <;> simp [Scalar.select, h]

/-- The rows of a block and, before its first, the rows `h7` and `h6`, both zero at the first block. -/
def back (z : BitVec 1) (h6 h7 : Vec Ideal S1x1408 .f32) (a : Vec Ideal S256x1408 .f32) (r e : ℕ) (l : Fin 1408) : EReal :=
  if h : e ≤ r ∧ r < 256 then a (ix2 ⟨r - e, by omega⟩ l) else Scalar.select z 0 (if r + 1 = e then h7 (ix2 0 l) else h6 (ix2 0 l))

/-- The block moved down by one row. -/
theorem pay41_apply (z : BitVec 1) (h6 h7 : Vec Ideal S1x1408 .f32) (a : Vec Ideal S256x1408 .f32) (r : Fin 256) (l : Fin 1408) :
    k0_pay41 z a h7 (ix2 r l) = back z h6 h7 a r.val 1 l := by
  pointwise [k0_pay41, k0_pay40]
  unfold back
  by_cases hr : r.val < 8
  · rw [dif_pos hr, select_ofNat _ 0 (by omega) (by norm_num)]
    by_cases h0 : r.val = 0
    · rw [if_pos h0, dif_neg (by omega), if_pos (by omega)]
    · rw [if_neg h0, dif_pos (by omega)]
      exact congrArg (fun b => a (ix2 b l)) (Fin.ext (show _ = r.val - 1 by simp; omega))
  · rw [dif_neg hr, dif_pos (by omega)]
    exact congrArg (fun b => a (ix2 b l)) (Fin.ext (show _ = r.val - 1 by simp; omega))

/-- The block moved down by two rows. -/
theorem pay42_apply (z : BitVec 1) (h6 h7 : Vec Ideal S1x1408 .f32) (a : Vec Ideal S256x1408 .f32) (r : Fin 256) (l : Fin 1408) :
    k0_pay42 z a h6 h7 (ix2 r l) = back z h6 h7 a r.val 2 l := by
  pointwise [k0_pay42, k0_pay40]
  unfold back
  by_cases hr : r.val < 8
  · rw [dif_pos hr, select_ofNat _ 0 (by omega) (by norm_num), select_ofNat _ 1 (by omega) (by norm_num)]
    by_cases h0 : r.val = 0
    · rw [if_pos h0, dif_neg (by omega), if_neg (by omega)]
    · rw [if_neg h0]
      by_cases h1 : r.val = 1
      · rw [if_pos h1, dif_neg (by omega), if_pos (by omega)]
      · rw [if_neg h1, dif_pos (by omega)]
        exact congrArg (fun b => a (ix2 b l)) (Fin.ext (show _ = r.val - 2 by simp; omega))
  · rw [dif_neg hr, dif_pos (by omega)]
    exact congrArg (fun b => a (ix2 b l)) (Fin.ext (show _ = r.val - 2 by simp; omega))

/-- The convolution of one block of 1408 columns, from the two rows before it, the block, the taps
2, 1 and 0 and the bias. The flag `z` tells the first block. -/
def convB (z : BitVec 1) (h6 h7 : Vec Ideal S1x1408 .f32) (a : Vec Ideal S256x1408 .f32)
    (w2 w1 w0 b : Vec Ideal S1x1408 .f32) : FVec Ideal S256x1408 .f32 :=
  k0_pay44 (k0_pay42 z a h6 h7) (k0_pay43 z a h7 w2 w1) w0 b

/-- The gate's gradient of one block, from the two convolutions and the gradient above. -/
def gateB (cg cu f : FVec Ideal S256x1408 .f32) : FVec Ideal S256x1408 .f32 :=
  k0_pay28 cu f (k0_pay22 cg) (k0_pay24 cg) (k0_pay26 cg) (k0_pay27 cg)

/-- The value's gradient of one block. -/
def upB (cg f : FVec Ideal S256x1408 .f32) : FVec Ideal S256x1408 .f32 := k0_pay29 f (k0_pay25 cg)

/-- One entry of the convolution. -/
theorem convB_apply (z : BitVec 1) (h6 h7 : Vec Ideal S1x1408 .f32) (a : Vec Ideal S256x1408 .f32)
    (w2 w1 w0 b : Vec Ideal S1x1408 .f32) (r : Fin 256) (l : Fin 1408) :
    convB z h6 h7 a w2 w1 w0 b (ix2 r l) = w2 (ix2 0 l) * a (ix2 r l) + w1 (ix2 0 l) * back z h6 h7 a r.val 1 l
      + w0 (ix2 0 l) * back z h6 h7 a r.val 2 l + b (ix2 0 l) := by
  rw [← pay41_apply, ← pay42_apply]
  pointwise [convB, k0_pay43, k0_pay44]

/-- One entry of the gate's gradient. -/
theorem gateB_apply (cg cu f : FVec Ideal S256x1408 .f32) (r : Fin 256) (l : Fin 1408) :
    gateB cg cu f (ix2 r l) = GateSpec.dgate q1 q3 (cg (ix2 r l)) (cu (ix2 r l)) (f (ix2 r l)) := by
  pointwise [gateB, k0_pay28, k0_pay22, k0_pay24, k0_pay26, k0_pay27, k0_pay23, GateSpec.dgate, GateSpec.th, q1, q3]

/-- One entry of the value's gradient. -/
theorem upB_apply (cg f : FVec Ideal S256x1408 .f32) (r : Fin 256) (l : Fin 1408) :
    upB cg f (ix2 r l) = GateSpec.dup q1 (cg (ix2 r l)) (f (ix2 r l)) := by
  pointwise [upB, k0_pay29, k0_pay25, k0_pay24, k0_pay23, k0_pay22, GateSpec.dup, GateSpec.th, q1]

/-- The first gate block's convolution is the same function of what it loads. -/
theorem pay15_eq (i : grid0.Coords) (h6 h7 : Vec Ideal S1x1408 .f32) (a : Vec Ideal S256x1408 .f32) (w2 w1 w0 b : Vec Ideal S1x1408 .f32) :
    k0_pay15 a (k0_pay7 i h6) (k0_pay8 i h7) (k0_pay9 a) (k0_pay10 i a h7) k0_pay11 k0_pay12 (k0_pay13 a) w2 w1 w0 b
      = convB (Scalar.cmpi CmpIPredicate.eq (BitVec.ofNat 32 (i 0).val) 0#32) h6 h7 a w2 w1 w0 b := rfl

/-- The first value block's convolution is the same function of what it loads. -/
theorem pay21_eq (z : BitVec 1) (h6 h7 : Vec Ideal S1x1408 .f32) (a : Vec Ideal S256x1408 .f32) (w2 w1 w0 b : Vec Ideal S1x1408 .f32) :
    k0_pay21 a (iota Kind.tc S8x1408 32 [0] iota_S8x1408_d0_w32) (k0_pay16 z h6) (k0_pay17 z h7) (k0_pay18 a) (k0_pay19 z a h7)
      0#32 w2 w1 w0 b = convB z h6 h7 a w2 w1 w0 b := rfl

/-- The second gate block's convolution is the same function of what it loads. -/
theorem pay44_eq (z : BitVec 1) (h6 h7 : Vec Ideal S1x1408 .f32) (a : Vec Ideal S256x1408 .f32) (w2 w1 w0 b : Vec Ideal S1x1408 .f32) :
    k0_pay44 (k0_pay42 z a h6 h7) (k0_pay43 z a h7 w2 w1) w0 b = convB z h6 h7 a w2 w1 w0 b := rfl

/-- The first gate block's gradient. -/
theorem pay28_eq (cg cu f : FVec Ideal S256x1408 .f32) :
    k0_pay28 cu f (k0_pay22 cg) (k0_pay24 cg) (k0_pay26 cg) (k0_pay27 cg) = gateB cg cu f := rfl

/-- The first value block's gradient. -/
theorem pay29_eq (cg f : FVec Ideal S256x1408 .f32) : k0_pay29 f (k0_pay25 cg) = upB cg f := rfl

/-- The second gate block's gradient is the same function of what it loads. -/
theorem pay52_eq (z : BitVec 1) (h6 h7 : Vec Ideal S1x1408 .f32) (a : Vec Ideal S256x1408 .f32) (w2 w1 w0 b : Vec Ideal S1x1408 .f32)
    (cg f : FVec Ideal S256x1408 .f32) :
    k0_pay52 cg (k0_pay46 z a h7) (k0_pay47 z a h6 h7) (k0_pay48 a w2) w1 w0 b f = gateB cg (convB z h6 h7 a w2 w1 w0 b) f := rfl

/-- The second value block's gradient is the same function of what it loads. -/
theorem pay53_eq (cg f : FVec Ideal S256x1408 .f32) : k0_pay53 cg f = upB cg f := rfl

/-- The first block's rows moved down by one, in the gate's half. -/
theorem pay10_eq (i : grid0.Coords) (h7 : Vec Ideal S1x1408 .f32) (a : Vec Ideal S256x1408 .f32) :
    k0_pay10 i a h7 = k0_pay41 (Scalar.cmpi CmpIPredicate.eq (BitVec.ofNat 32 (i 0).val) 0#32) a h7 := rfl

/-- The first block's rows moved down by two, in the gate's half. -/
theorem pay14_eq (i : grid0.Coords) (h6 h7 : Vec Ideal S1x1408 .f32) (a : Vec Ideal S256x1408 .f32) :
    k0_pay14 (k0_pay7 i h6) (k0_pay8 i h7) (k0_pay9 a) k0_pay11 k0_pay12 (k0_pay13 a)
      = k0_pay42 (Scalar.cmpi CmpIPredicate.eq (BitVec.ofNat 32 (i 0).val) 0#32) a h6 h7 := rfl

/-- The first block's rows moved down by one, in the value's half. -/
theorem pay19_eq (z : BitVec 1) (h7 : Vec Ideal S1x1408 .f32) (a : Vec Ideal S256x1408 .f32) : k0_pay19 z a h7 = k0_pay41 z a h7 := rfl

/-- The first block's rows moved down by two, in the value's half. -/
theorem pay20_eq (z : BitVec 1) (h6 h7 : Vec Ideal S1x1408 .f32) (a : Vec Ideal S256x1408 .f32) :
    k0_pay20 (iota Kind.tc S8x1408 32 [0] iota_S8x1408_d0_w32) (k0_pay16 z h6) (k0_pay17 z h7) (k0_pay18 a) 0#32
      = k0_pay42 z a h6 h7 := rfl

/-- The second block's rows moved down by one, in the value's half. -/
theorem pay46_eq (z : BitVec 1) (h7 : Vec Ideal S1x1408 .f32) (a : Vec Ideal S256x1408 .f32) : k0_pay46 z a h7 = k0_pay41 z a h7 := rfl

/-- The second block's rows moved down by two, in the value's half. -/
theorem pay47_eq (z : BitVec 1) (h6 h7 : Vec Ideal S1x1408 .f32) (a : Vec Ideal S256x1408 .f32) : k0_pay47 z a h6 h7 = k0_pay42 z a h6 h7 := rfl

/-- The product of the gradient above with the transposed weights. -/
theorem pay6_apply (x : Vec Ideal S256x1024 .f32) (w : Vec Ideal S1x2816x1024 .bf16) (r : Fin 256) (j : Fin 2816) :
    k0_pay6 x w (ix2 r j) = ∑ n, x (ix2 r n) * w (ix3 0 j n) := by
  pointwise [k0_pay6]

/-- One row of the running sums takes in the rows of a block. -/
def accB (v : FVec Ideal S256x1408 .f32) (o : Vec Ideal S1x1408 .f32) : FVec Ideal S1x1408 .f32 := k0_pay33 v o

/-- One entry of a row of the running sums. -/
theorem accB_apply (v : FVec Ideal S256x1408 .f32) (o : Vec Ideal S1x1408 .f32) (l : Fin 1408) :
    accB v o (ix2 0 l) = o (ix2 0 l) + ∑ r, v (ix2 r l) := by
  pointwise [accB, k0_pay33]

/-- A row of the taps' sums, from the part of each row of the block. -/
theorem acc_tap (d p : FVec Ideal S256x1408 .f32) (o : Vec Ideal S1x1408 .f32) (l : Fin 1408) (P : EReal) (T : Fin 256 → EReal)
    (ho : o (ix2 0 l) = P) (hd : ∀ r, d (ix2 r l) * p (ix2 r l) = T r) :
    accB (mulf d p) o (ix2 0 l) = P + ∑ r, T r := by
  rw [accB_apply, ho]
  refine Ideal.add_congr rfl (Finset.sum_congr rfl fun r _ => ?_)
  rw [← hd r]
  rfl

/-- A row of the bias' sums, from the part of each row of the block. -/
theorem acc_bias (d : FVec Ideal S256x1408 .f32) (o : Vec Ideal S1x1408 .f32) (l : Fin 1408) (P : EReal) (T : Fin 256 → EReal)
    (ho : o (ix2 0 l) = P) (hd : ∀ r, d (ix2 r l) = T r) :
    accB d o (ix2 0 l) = P + ∑ r, T r := by
  rw [accB_apply, ho]
  exact Ideal.add_congr rfl (Finset.sum_congr rfl fun r _ => hd r)

/-- A tap's sum in the first gate block. -/
theorem pay30_eq (cg cu f p : FVec Ideal S256x1408 .f32) (o : Vec Ideal S1x1408 .f32) :
    k0_pay30 p cu f (k0_pay22 cg) (k0_pay24 cg) (k0_pay26 cg) (k0_pay27 cg) o = accB (mulf (gateB cg cu f) p) o := rfl

/-- A tap's sum in the first gate block. -/
theorem pay31_eq (cg cu f p : FVec Ideal S256x1408 .f32) (o : Vec Ideal S1x1408 .f32) :
    k0_pay31 p cu f (k0_pay22 cg) (k0_pay24 cg) (k0_pay26 cg) (k0_pay27 cg) o = accB (mulf (gateB cg cu f) p) o := rfl

/-- A tap's sum in the first gate block. -/
theorem pay32_eq (cg cu f p : FVec Ideal S256x1408 .f32) (o : Vec Ideal S1x1408 .f32) :
    k0_pay32 p cu f (k0_pay22 cg) (k0_pay24 cg) (k0_pay26 cg) (k0_pay27 cg) o = accB (mulf (gateB cg cu f) p) o := rfl

/-- The bias' sum in the first gate block. -/
theorem pay33_eq (d : FVec Ideal S256x1408 .f32) (o : Vec Ideal S1x1408 .f32) :
    k0_pay33 d o = accB d o := rfl

/-- A tap's sum in the first value block. -/
theorem pay34_eq (d p : FVec Ideal S256x1408 .f32) (o : Vec Ideal S1x1408 .f32) :
    k0_pay34 p d o = accB (mulf d p) o := rfl

/-- A tap's sum in the first value block. -/
theorem pay35_eq (d p : FVec Ideal S256x1408 .f32) (o : Vec Ideal S1x1408 .f32) :
    k0_pay35 p d o = accB (mulf d p) o := rfl

/-- A tap's sum in the first value block. -/
theorem pay36_eq (d p : FVec Ideal S256x1408 .f32) (o : Vec Ideal S1x1408 .f32) :
    k0_pay36 p d o = accB (mulf d p) o := rfl

/-- The bias' sum in the first value block. -/
theorem pay39_eq (d : FVec Ideal S256x1408 .f32) (o : Vec Ideal S1x1408 .f32) :
    k0_pay39 (k0_pay37 o) (k0_pay38 d) = accB d o := rfl

/-- A tap's sum in the second gate block. -/
theorem pay54_eq (d p : FVec Ideal S256x1408 .f32) (o : Vec Ideal S1x1408 .f32) :
    k0_pay54 p d o = accB (mulf d p) o := rfl

/-- A tap's sum in the second gate block. -/
theorem pay55_eq (d p : FVec Ideal S256x1408 .f32) (o : Vec Ideal S1x1408 .f32) :
    k0_pay55 p d o = accB (mulf d p) o := rfl

/-- A tap's sum in the second gate block. -/
theorem pay56_eq (d p : FVec Ideal S256x1408 .f32) (o : Vec Ideal S1x1408 .f32) :
    k0_pay56 p d o = accB (mulf d p) o := rfl

/-- The bias' sum in the second gate block. -/
theorem pay57_eq (d : FVec Ideal S256x1408 .f32) (o : Vec Ideal S1x1408 .f32) :
    k0_pay57 d o = accB d o := rfl

/-- A tap's sum in the second value block. -/
theorem pay1_eq (d p : FVec Ideal S256x1408 .f32) (o : Vec Ideal S1x1408 .f32) :
    k0_pay1 (k0_pay58 o) (k0_pay59 p d) = accB (mulf d p) o := rfl

/-- A tap's sum in the second value block. -/
theorem pay2_eq (d p : FVec Ideal S256x1408 .f32) (o : Vec Ideal S1x1408 .f32) :
    k0_pay2 p d o = accB (mulf d p) o := rfl

/-- A tap's sum in the second value block. -/
theorem pay3_eq (d p : FVec Ideal S256x1408 .f32) (o : Vec Ideal S1x1408 .f32) :
    k0_pay3 p d o = accB (mulf d p) o := rfl

/-- The bias' sum in the second value block. -/
theorem pay4_eq (d : FVec Ideal S256x1408 .f32) (o : Vec Ideal S1x1408 .f32) :
    k0_pay4 d o = accB d o := rfl

end Cert.GateIdeal.Point
end
-- ==== Proof.GateKernel.lean ====
module

public import proofs.«01_k».proof.Proof.GatePieces
public import Idealize.ShloMosaic.Lib.Pipeline.ReadBack

@[expose] public section

set_option maxRecDepth 16384

noncomputable section

namespace Cert.GateIdeal.Point

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at each point. -/
theorem idx : ∀ t : Fin cfg0.N, win0_0.index t = ![t.val, 0] ∧ win0_1.index t = ![t.val, 1]
    ∧ win0_2.index t = ![t.val * 32 - 1, 0] ∧ win0_3.index t = ![t.val * 32 - 1, 1]
    ∧ win0_4.index t = ![0, 0] ∧ win0_5.index t = ![0, 1] ∧ win0_6.index t = ![0, 0] ∧ win0_7.index t = ![0, 1]
    ∧ win0_8.index t = ![t.val, 0] ∧ win0_9.index t = ![0, 0, 0] ∧ win0_10.index t = ![t.val, 0] ∧ win0_11.index t = ![0, 0]
    ∧ (grid0.coords t 0).val = t.val ∧ t.val < 32 :=
  (by decide +kernel : ∀ t : Fin grid0.N, _)

/-- The convolution's input, by row and column. -/
def argA (c : Dev nD) (s : Fin 8192) (k : Fin 5632) : EReal := m ((c : Thread nD τ).loc main_arg0) (ix2 s k)
/-- The gradient of the layer's result. -/
def argX (c : Dev nD) (s : Fin 8192) (n : Fin 1024) : EReal := m ((c : Thread nD τ).loc main_arg1) (ix2 s n)
/-- The weights of the down-projection. -/
def argW (c : Dev nD) (j : Fin 2816) (n : Fin 1024) : EReal := m ((c : Thread nD τ).loc main_arg2) (ix2 j n)
/-- The convolution's taps. -/
def argC (c : Dev nD) (i : Fin 3) (k : Fin 5632) : EReal := m ((c : Thread nD τ).loc main_arg3) (ix2 i k)
/-- The convolution's bias. -/
def argB (c : Dev nD) (k : Fin 5632) : EReal := m ((c : Thread nD τ).loc main_arg4) (ix2 0 k)

/-- The convolution's result. -/
def resC (c : Dev nD) (s : Fin 8192) (k : Fin 5632) : EReal := GateSpec.conv (argA m c) (argC m c) (argB m c) s k
/-- The gradient of the gated product. -/
def resF (c : Dev nD) (s : Fin 8192) (j : Fin 2816) : EReal := GateSpec.df (argX m c) (argW m c) s j
/-- The gradient of the convolution's result. -/
def resD (c : Dev nD) (s : Fin 8192) (k : Fin 5632) : EReal := GateSpec.dc q1 q3 (resC m c) (resF m c) s k
/-- The first result. -/
def resDc (c : Dev nD) (j : S8192x5632.Idx) : EReal := resD m c (j 0) (j 1)

/-- The flag of the first point chooses zero. -/
theorem select_first (t : Fin cfg0.N) (x : EReal) :
    Scalar.select (Scalar.cmpi CmpIPredicate.eq (BitVec.ofNat 32 (grid0.coords t 0).val) 0#32) 0 x
      = if t.val = 0 then 0 else x := by
  obtain ⟨-, -, -, -, -, -, -, -, -, -, -, -, h, h'⟩ := idx t
  rw [WordCmp.scalar_cmpi_eq, h]
  exact select_ofNat _ 0 (by omega) (by norm_num) _ _

theorem blockAg (c : Dev nD) (t : Fin cfg0.N) (r : Fin 256) (j : Fin 2816) (k : Fin 5632) (hk : k.val = j.val) (hb : 256 * t.val + r.val < 8192) :
    iblk m c 0 t (ix2 r j) = argA m c ⟨256 * t.val + r.val, hb⟩ k := by
  unfold argA
  blk_point [iblk, V, idx t]

theorem blockAu (c : Dev nD) (t : Fin cfg0.N) (r : Fin 256) (j : Fin 2816) (k : Fin 5632) (hk : k.val = 2816 + j.val) (hb : 256 * t.val + r.val < 8192) :
    iblk m c 1 t (ix2 r j) = argA m c ⟨256 * t.val + r.val, hb⟩ k := by
  unfold argA
  blk_point [iblk, V, idx t]

/-- The last rows of the eight before the block, zero at the first point. -/
theorem blockHg (c : Dev nD) (t : Fin cfg0.N) (e : Fin 8) (j : Fin 2816) (k : Fin 5632) (hk : k.val = j.val) (x : EReal)
    (hx : x = iblk m c 2 t (ix2 e j)) (s : Fin 8192) (d : ℕ) (hs : 256 * t.val + e.val + d = s.val + 8) (hd : s.val < 256 * t.val + d) :
    Scalar.select (Scalar.cmpi CmpIPredicate.eq (BitVec.ofNat 32 (grid0.coords t 0).val) 0#32) 0 x
      = GateSpec.rowBack (argA m c) s d k := by
  obtain ⟨-, -, -, -, -, -, -, -, -, -, -, -, -, h'⟩ := idx t
  rw [select_first]
  unfold GateSpec.rowBack
  by_cases h : t.val = 0
  · rw [if_pos h, dif_neg (by omega)]
  · rw [if_neg h, dif_pos (by omega), hx]
    unfold argA
    blk_point [iblk, V, idx t]

/-- The last rows of the eight before the block in the value's half, zero at the first point. -/
theorem blockHu (c : Dev nD) (t : Fin cfg0.N) (e : Fin 8) (j : Fin 2816) (k : Fin 5632) (hk : k.val = 2816 + j.val) (x : EReal)
    (hx : x = iblk m c 3 t (ix2 e j)) (s : Fin 8192) (d : ℕ) (hs : 256 * t.val + e.val + d = s.val + 8) (hd : s.val < 256 * t.val + d) :
    Scalar.select (Scalar.cmpi CmpIPredicate.eq (BitVec.ofNat 32 (grid0.coords t 0).val) 0#32) 0 x
      = GateSpec.rowBack (argA m c) s d k := by
  obtain ⟨-, -, -, -, -, -, -, -, -, -, -, -, -, h'⟩ := idx t
  rw [select_first]
  unfold GateSpec.rowBack
  by_cases h : t.val = 0
  · rw [if_pos h, dif_neg (by omega)]
  · rw [if_neg h, dif_pos (by omega), hx]
    unfold argA
    blk_point [iblk, V, idx t]

theorem blockCg (c : Dev nD) (t : Fin cfg0.N) (i : Fin 3) (j : Fin 2816) (k : Fin 5632) (hk : k.val = j.val) :
    iblk m c 4 t (ix2 i j) = argC m c i k := by
  unfold argC
  blk_point [iblk, V, idx t]

theorem blockCu (c : Dev nD) (t : Fin cfg0.N) (i : Fin 3) (j : Fin 2816) (k : Fin 5632) (hk : k.val = 2816 + j.val) :
    iblk m c 5 t (ix2 i j) = argC m c i k := by
  unfold argC
  blk_point [iblk, V, idx t]

theorem blockBg (c : Dev nD) (t : Fin cfg0.N) (j : Fin 2816) (k : Fin 5632) (hk : k.val = j.val) :
    iblk m c 6 t (ix2 0 j) = argB m c k := by
  unfold argB
  blk_point [iblk, V, idx t]

theorem blockBu (c : Dev nD) (t : Fin cfg0.N) (j : Fin 2816) (k : Fin 5632) (hk : k.val = 2816 + j.val) :
    iblk m c 7 t (ix2 0 j) = argB m c k := by
  unfold argB
  blk_point [iblk, V, idx t]

theorem blockX (c : Dev nD) (t : Fin cfg0.N) (r : Fin 256) (n : Fin 1024) (hb : 256 * t.val + r.val < 8192) :
    iblk m c 8 t (ix2 r n) = argX m c ⟨256 * t.val + r.val, hb⟩ n := by
  unfold argX
  blk_point [iblk, V, idx t]

/-- The weights as the call finds them: one more axis of one. -/
theorem weights (c : Dev nD) (j : Fin 2816) (n : Fin 1024) : V m c main_v0 (ix3 0 j n) = argW m c j n := by
  unfold argW
  entry_read
  pointwise

theorem blockW (c : Dev nD) (t : Fin cfg0.N) (j : Fin 2816) (n : Fin 1024) :
    iblk m c 9 t (ix3 0 j n) = argW m c j n := by
  rw [← weights]
  blk_point [iblk, V, idx t]

/-- The rows of a block moved down, from the reads of its loads in the gate's half. -/
theorem back_g (c : Dev nD) (t : Fin cfg0.N) (h6 h7 : Vec Ideal S1x1408 .f32) (a : Vec Ideal S256x1408 .f32)
    (r : Fin 256) (l : Fin 1408) (j : Fin 2816) (s : Fin 8192) (k : Fin 5632) (hs : s.val = 256 * t.val + r.val) (hk : k.val = j.val)
    (ha : ∀ q : Fin 256, a (ix2 q l) = iblk m c 0 t (ix2 q j))
    (hh6 : h6 (ix2 0 l) = iblk m c 2 t (ix2 6 j)) (hh7 : h7 (ix2 0 l) = iblk m c 2 t (ix2 7 j)) (e : ℕ) (he : e = 1 ∨ e = 2) :
    back (Scalar.cmpi CmpIPredicate.eq (BitVec.ofNat 32 (grid0.coords t 0).val) 0#32) h6 h7 a r.val e l
      = GateSpec.rowBack (argA m c) s e k := by
  have hr := r.isLt
  have hsl := s.isLt
  unfold back
  by_cases h : e ≤ r.val
  · rw [dif_pos ⟨h, hr⟩, ha, blockAg m c t _ j k hk (by simp; omega), GateSpec.rowBack, dif_pos (by omega)]
    exact congrArg (fun b => argA m c b k) (Fin.ext (show 256 * t.val + (r.val - e) = s.val - e by omega))
  · rw [dif_neg (by omega)]
    by_cases h1 : r.val + 1 = e
    · rw [if_pos h1]
      exact blockHg m c t 7 j k hk _ hh7 s e (show 256 * t.val + 7 + e = _ by omega) (by omega)
    · rw [if_neg h1]
      exact blockHg m c t 6 j k hk _ hh6 s e (show 256 * t.val + 6 + e = _ by omega) (by omega)

/-- The rows of a block moved down, from the reads of its loads in the value's half. -/
theorem back_u (c : Dev nD) (t : Fin cfg0.N) (h6 h7 : Vec Ideal S1x1408 .f32) (a : Vec Ideal S256x1408 .f32)
    (r : Fin 256) (l : Fin 1408) (j : Fin 2816) (s : Fin 8192) (k : Fin 5632) (hs : s.val = 256 * t.val + r.val) (hk : k.val = 2816 + j.val)
    (ha : ∀ q : Fin 256, a (ix2 q l) = iblk m c 1 t (ix2 q j))
    (hh6 : h6 (ix2 0 l) = iblk m c 3 t (ix2 6 j)) (hh7 : h7 (ix2 0 l) = iblk m c 3 t (ix2 7 j)) (e : ℕ) (he : e = 1 ∨ e = 2) :
    back (Scalar.cmpi CmpIPredicate.eq (BitVec.ofNat 32 (grid0.coords t 0).val) 0#32) h6 h7 a r.val e l
      = GateSpec.rowBack (argA m c) s e k := by
  have hr := r.isLt
  have hsl := s.isLt
  unfold back
  by_cases h : e ≤ r.val
  · rw [dif_pos ⟨h, hr⟩, ha, blockAu m c t _ j k hk (by simp; omega), GateSpec.rowBack, dif_pos (by omega)]
    exact congrArg (fun b => argA m c b k) (Fin.ext (show 256 * t.val + (r.val - e) = s.val - e by omega))
  · rw [dif_neg (by omega)]
    by_cases h1 : r.val + 1 = e
    · rw [if_pos h1]
      exact blockHu m c t 7 j k hk _ hh7 s e (show 256 * t.val + 7 + e = _ by omega) (by omega)
    · rw [if_neg h1]
      exact blockHu m c t 6 j k hk _ hh6 s e (show 256 * t.val + 6 + e = _ by omega) (by omega)

/-- One entry of the convolution, from the reads of its loads in the gate's half. -/
theorem conv_g (c : Dev nD) (t : Fin cfg0.N) (h6 h7 : Vec Ideal S1x1408 .f32) (a : Vec Ideal S256x1408 .f32)
    (w2 w1 w0 b : Vec Ideal S1x1408 .f32)
    (r : Fin 256) (l : Fin 1408) (j : Fin 2816) (s : Fin 8192) (k : Fin 5632) (hs : s.val = 256 * t.val + r.val) (hk : k.val = j.val)
    (ha : ∀ q : Fin 256, a (ix2 q l) = iblk m c 0 t (ix2 q j))
    (hh6 : h6 (ix2 0 l) = iblk m c 2 t (ix2 6 j)) (hh7 : h7 (ix2 0 l) = iblk m c 2 t (ix2 7 j))
    (hw2 : w2 (ix2 0 l) = iblk m c 4 t (ix2 2 j)) (hw1 : w1 (ix2 0 l) = iblk m c 4 t (ix2 1 j)) (hw0 : w0 (ix2 0 l) = iblk m c 4 t (ix2 0 j))
    (hb : b (ix2 0 l) = iblk m c 6 t (ix2 0 j)) :
    convB (Scalar.cmpi CmpIPredicate.eq (BitVec.ofNat 32 (grid0.coords t 0).val) 0#32) h6 h7 a w2 w1 w0 b (ix2 r l) = resC m c s k := by
  have hsl := s.isLt
  rw [convB_apply, back_g m c t h6 h7 a r l j s k hs hk ha hh6 hh7 1 (Or.inl rfl),
    back_g m c t h6 h7 a r l j s k hs hk ha hh6 hh7 2 (Or.inr rfl), hw2, hw1, hw0, hb, blockCg m c t 2 j k hk, blockCg m c t 1 j k hk,
    blockCg m c t 0 j k hk, blockBg m c t j k hk, ha, blockAg m c t r j k hk (by omega)]
  have : (⟨256 * t.val + r.val, by omega⟩ : Fin 8192) = s := Fin.ext hs.symm
  rw [this]
  rfl

/-- One entry of the convolution, from the reads of its loads in the value's half. -/
theorem conv_u (c : Dev nD) (t : Fin cfg0.N) (h6 h7 : Vec Ideal S1x1408 .f32) (a : Vec Ideal S256x1408 .f32)
    (w2 w1 w0 b : Vec Ideal S1x1408 .f32)
    (r : Fin 256) (l : Fin 1408) (j : Fin 2816) (s : Fin 8192) (k : Fin 5632) (hs : s.val = 256 * t.val + r.val) (hk : k.val = 2816 + j.val)
    (ha : ∀ q : Fin 256, a (ix2 q l) = iblk m c 1 t (ix2 q j))
    (hh6 : h6 (ix2 0 l) = iblk m c 3 t (ix2 6 j)) (hh7 : h7 (ix2 0 l) = iblk m c 3 t (ix2 7 j))
    (hw2 : w2 (ix2 0 l) = iblk m c 5 t (ix2 2 j)) (hw1 : w1 (ix2 0 l) = iblk m c 5 t (ix2 1 j)) (hw0 : w0 (ix2 0 l) = iblk m c 5 t (ix2 0 j))
    (hb : b (ix2 0 l) = iblk m c 7 t (ix2 0 j)) :
    convB (Scalar.cmpi CmpIPredicate.eq (BitVec.ofNat 32 (grid0.coords t 0).val) 0#32) h6 h7 a w2 w1 w0 b (ix2 r l) = resC m c s k := by
  have hsl := s.isLt
  rw [convB_apply, back_u m c t h6 h7 a r l j s k hs hk ha hh6 hh7 1 (Or.inl rfl),
    back_u m c t h6 h7 a r l j s k hs hk ha hh6 hh7 2 (Or.inr rfl), hw2, hw1, hw0, hb, blockCu m c t 2 j k hk, blockCu m c t 1 j k hk,
    blockCu m c t 0 j k hk, blockBu m c t j k hk, ha, blockAu m c t r j k hk (by omega)]
  have : (⟨256 * t.val + r.val, by omega⟩ : Fin 8192) = s := Fin.ext hs.symm
  rw [this]
  rfl

/-- The gradient of the gated product at a point. -/
theorem df_res (c : Dev nD) (t : Fin cfg0.N) (f : FVec Ideal S256x1408 .f32) (r : Fin 256) (l : Fin 1408) (j : Fin 2816) (s : Fin 8192)
    (hs : s.val = 256 * t.val + r.val) (hf : f (ix2 r l) = k0_pay6 (iblk m c 8 t) (iblk m c 9 t) (ix2 r j)) :
    f (ix2 r l) = resF m c s j := by
  have hsl := s.isLt
  rw [hf, pay6_apply]
  unfold resF GateSpec.df
  refine Finset.sum_congr rfl fun n _ => ?_
  refine Ideal.mul_congr ?_ (blockW m c t j n)
  rw [blockX m c t r n (by omega)]
  exact congrArg (fun b => argX m c b n) (Fin.ext hs.symm)

/-- One entry of the gate's gradient, from the convolutions and the gradient above. -/
theorem gate_res (c : Dev nD) (cg cu f : FVec Ideal S256x1408 .f32) (r : Fin 256) (l : Fin 1408) (s : Fin 8192) (k k' : Fin 5632)
    (j : Fin 2816) (hk : k.val = j.val) (hk' : k'.val = 2816 + j.val)
    (hg : cg (ix2 r l) = resC m c s k) (hu : cu (ix2 r l) = resC m c s k') (hf : f (ix2 r l) = resF m c s j) :
    gateB cg cu f (ix2 r l) = resD m c s k := by
  have hj := j.isLt
  rw [gateB_apply, hg, hu, hf]
  unfold resD GateSpec.dc
  rw [dif_pos (by omega)]
  have e1 : k' = ⟨k.val + 2816, by omega⟩ := Fin.ext (show k'.val = k.val + 2816 by omega)
  have e2 : j = ⟨k.val, by omega⟩ := Fin.ext hk.symm
  exact congrArg₂ (fun a b => GateSpec.dgate q1 q3 (resC m c s k) (resC m c s a) (resF m c s b)) e1 e2

/-- One entry of the value's gradient, from the gate's convolution and the gradient above. -/
theorem up_res (c : Dev nD) (cg f : FVec Ideal S256x1408 .f32) (r : Fin 256) (l : Fin 1408) (s : Fin 8192) (k k' : Fin 5632)
    (j : Fin 2816) (hk : k.val = j.val) (hk' : k'.val = 2816 + j.val)
    (hg : cg (ix2 r l) = resC m c s k) (hf : f (ix2 r l) = resF m c s j) :
    upB cg f (ix2 r l) = resD m c s k' := by
  have hj := j.isLt
  rw [upB_apply, hg, hf]
  unfold resD GateSpec.dc
  rw [dif_neg (by omega)]
  have e1 : k = ⟨k'.val - 2816, by omega⟩ := Fin.ext (show k.val = k'.val - 2816 by omega)
  have e2 : j = ⟨k'.val - 2816, by omega⟩ := Fin.ext (show j.val = k'.val - 2816 by omega)
  exact congrArg₂ (fun a b => GateSpec.dup q1 (resC m c s a) (resF m c s b)) e1 e2

set_option maxHeartbeats 1600000 in
/-- The first result's array. -/
theorem final10 (c : Dev nD) : (dats m 0 c).arrAt 10 (cfgs 0).N = resDc m c := by
  refine (dats m 0 c).arrAt_eq_of_covers 10 _ (by decide +kernel) fun t hf y => ?_
  idx_vars y
  obtain ⟨-, -, -, -, -, -, -, -, -, -, h10, -, -, h'⟩ := idx t
  have hy := y0.isLt
  have he : ((cfg0.win 10).blk t).view.emb (ix2 y0 y1) = ix2 ⟨256 * t.val + y0.val, by omega⟩ y1 := by
    blk_ext [h10]
  blk_simp
  refine Eq.trans ?_ (congrArg (resDc m c) he).symm
  rw [after0_10]
  change _ = resD m c ⟨256 * t.val + y0.val, _⟩ y1
  by_cases h : t.val % 32 = 0
  all_goals
    first | rw [outsAt0_A m c t h] | rw [outsAt0_B m c t h]
    frame_open
    simp (disch := decide) only [↓ View.readCov_skip, ↓ View.readCov_cons_toLoadRect, ↓ View.readCov_fill]
    frame_out
    canon_tiles x hx
    all_goals idx_vars x
    all_goals simp only [pay15_eq, pay21_eq, pay44_eq]
    all_goals
      first
      | rw [pay28_eq]
        refine gate_res m c _ _ _ x0 x1 _ _ ⟨y1.val + 2816, by omega⟩ ⟨y1.val, by omega⟩ rfl (Nat.add_comm _ _)
          (conv_g m c t _ _ _ _ _ _ _ _ _ ⟨y1.val, by omega⟩ _ _ (congrArg (256 * t.val + ·) hx0) rfl (fun q => ?_) ?_ ?_ ?_ ?_ ?_ ?_)
          (conv_u m c t _ _ _ _ _ _ _ _ _ ⟨y1.val, by omega⟩ _ _ (congrArg (256 * t.val + ·) hx0) (Nat.add_comm _ _) (fun q => ?_) ?_ ?_ ?_ ?_ ?_ ?_)
          (df_res m c t _ _ _ _ _ (congrArg (256 * t.val + ·) hx0) ?_)
      | rw [pay52_eq]
        refine gate_res m c _ _ _ x0 x1 _ _ ⟨y1.val + 2816, by omega⟩ ⟨y1.val, by omega⟩ rfl (Nat.add_comm _ _)
          (conv_g m c t _ _ _ _ _ _ _ _ _ ⟨y1.val, by omega⟩ _ _ (congrArg (256 * t.val + ·) hx0) rfl (fun q => ?_) ?_ ?_ ?_ ?_ ?_ ?_)
          (conv_u m c t _ _ _ _ _ _ _ _ _ ⟨y1.val, by omega⟩ _ _ (congrArg (256 * t.val + ·) hx0) (Nat.add_comm _ _) (fun q => ?_) ?_ ?_ ?_ ?_ ?_ ?_)
          (df_res m c t _ _ _ _ _ (congrArg (256 * t.val + ·) hx0) ?_)
      | first | rw [pay29_eq] | rw [pay53_eq]
        refine up_res m c _ _ x0 x1 _ ⟨y1.val - 2816, by omega⟩ _ ⟨y1.val - 2816, by omega⟩ rfl (show y1.val = 2816 + (y1.val - 2816) by omega)
          (conv_g m c t _ _ _ _ _ _ _ _ _ ⟨y1.val - 2816, by omega⟩ _ _ (congrArg (256 * t.val + ·) hx0) rfl (fun q => ?_) ?_ ?_ ?_ ?_ ?_ ?_)
          (df_res m c t _ _ _ _ _ (congrArg (256 * t.val + ·) hx0) ?_)
    all_goals pointwise
    all_goals blk_ext

end Cert.GateIdeal.Point
end
-- ==== Proof.GateTaps.lean ====
module

public import proofs.«01_k».proof.Proof.GateKernel
public import Idealize.ShloMosaic.Lib.WritesUnit

@[expose] public section

set_option maxRecDepth 16384

noncomputable section

namespace Cert.GateIdeal.Point

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ)

/-- What the rows of one point add to the gradient of the taps and the bias. -/
def term (c : Dev nD) (t : Fin cfg0.N) (j : S8x5632.Idx) : EReal :=
  ∑ r : Fin 256, GateSpec.tapGrad (resD m c) (argA m c) ⟨256 * t.val + r.val, by have := t.isLt; have : cfg0.N = 32 := rfl; omega⟩ (j 0).val (j 1)

/-- The second result: the gradients of the three taps, of the bias, and zero below. -/
def resGw (c : Dev nD) (j : S8x5632.Idx) : EReal :=
  ∑ s, GateSpec.tapGrad (resD m c) (argA m c) s (j 0).val (j 1)

/-- An entry after one more row's piece is stored: the piece's where it lies, the rest's elsewhere. -/
theorem step_piece {κ : Kind} {sp : Space} (w : View sig κ sp S8x5632 .f32) (o0 o1 : ℕ)
    (i : ∀ a, (![o0, o1] : Fin 2 → ℕ) a + (![1, 1408] : Fin 2 → ℕ) a ≤ S8x5632.size a)
    (f : w.ty.Contents (Elt Ideal)) (u : FVec Ideal S1x1408 .f32) (L : List (View.Piece (Elt Ideal) S8x5632 .f32))
    (a : Fin 8) (n : Fin 5632) (x : EReal)
    (hin : ∀ l : Fin 1408, a.val = o0 → n.val = o1 + l.val → u (ix2 0 l) = x)
    (hout : ¬ (a.val = o0 ∧ o1 ≤ n.val ∧ n.val < o1 + 1408) → w.read (Elt Ideal) (w.writes (Elt Ideal) f L) (ix2 a n) = x) :
    w.read (Elt Ideal) (w.writes (Elt Ideal) f (⟨Rect.unit ![o0, o1] ![1, 1408] i, u⟩ :: L)) (ix2 a n) = x := by
  by_cases h : a.val = o0 ∧ o1 ≤ n.val ∧ n.val < o1 + 1408
  · obtain ⟨h0, h1, h2⟩ := h
    rw [← hin ⟨n.val - o1, by omega⟩ h0 (show n.val = o1 + (n.val - o1) by omega)]
    exact View.read_writes_cons_unit_of_mem w f i u L (ix2 a n) (ix2 0 ⟨n.val - o1, by omega⟩) rfl (by
      intro b
      fin_cases b
      · simpa using h0
      · simp
        omega)
  · by_cases h0 : a.val = o0
    · rw [View.read_writes_cons_unit_of_not_mem w f i u L (ix2 a n) rfl 1 (show n.val < o1 ∨ o1 + 1408 ≤ n.val by omega)]
      exact hout h
    · rw [View.read_writes_cons_unit_of_not_mem w f i u L (ix2 a n) rfl 0 (show a.val < o0 ∨ o0 + 1 ≤ a.val by omega)]
      exact hout h

/-- An entry of the pieces stored since the start after one more. -/
theorem canon_piece (o0 o1 : ℕ)
    (i : ∀ a, (![o0, o1] : Fin 2 → ℕ) a + (![1, 1408] : Fin 2 → ℕ) a ≤ S8x5632.size a)
    (u : FVec Ideal S1x1408 .f32) (L : List (View.Piece (Elt Ideal) S8x5632 .f32))
    (a : Fin 8) (n : Fin 5632) (x : EReal)
    (hin : ∀ l : Fin 1408, a.val = o0 → n.val = o1 + l.val → u (ix2 0 l) = x)
    (hout : ¬ (a.val = o0 ∧ o1 ≤ n.val ∧ n.val < o1 + 1408) → View.canon L (ix2 a n) = x) :
    View.canon (Val := Elt Ideal) (s := S8x5632) (e := .f32) (⟨Rect.unit ![o0, o1] ![1, 1408] i, u⟩ :: L) (ix2 a n) = x := by
  by_cases h : a.val = o0 ∧ o1 ≤ n.val ∧ n.val < o1 + 1408
  · obtain ⟨h0, h1, h2⟩ := h
    rw [← hin ⟨n.val - o1, by omega⟩ h0 (show n.val = o1 + (n.val - o1) by omega)]
    have : (ix2 a n : S8x5632.Idx) = (Rect.unit (s := S8x5632) ![o0, o1] ![1, 1408] i).emb (ix2 0 ⟨n.val - o1, by omega⟩) := by
      blk_ext
    rw [this]
    exact View.canon_cons_emb _ _ _ _
  · rw [View.canon_cons_of_not_mem]
    · exact hout h
    · rw [Rect.mem_set_unit]
      intro hall
      have h0 : o0 ≤ a.val ∧ a.val < o0 + 1 := hall 0
      have h1 : o1 ≤ n.val ∧ n.val < o1 + 1408 := hall 1
      omega

/-- The start: zero everywhere. -/
theorem canon_base (i : ∀ a, (![0, 0] : Fin 2 → ℕ) a + (![8, 5632] : Fin 2 → ℕ) a ≤ S8x5632.size a) (a : Fin 8) (n : Fin 5632) :
    View.canon (Val := Elt Ideal) (s := S8x5632) (e := .f32) [⟨Rect.unit ![0, 0] ![8, 5632] i, k0_pay5 (F := Ideal)⟩] (ix2 a n) = 0 := by
  have : (ix2 a n : S8x5632.Idx) = (Rect.unit (s := S8x5632) ![0, 0] ![8, 5632] i).emb (ix2 a n) := by blk_ext
  rw [this]
  refine (View.canon_cons_emb _ _ _ _).trans ?_
  pointwise [k0_pay5]

/-- The convolution of the gate's block of columns that begins at `o`. -/
theorem conv_g_ld (c : Dev nD) (t : Fin cfg0.N) (o : ℕ) (r : Fin 256) (l : Fin 1408) (s : Fin 8192) (k : Fin 5632) (hk : k.val = o + l.val) (hs : s.val = 256 * t.val + r.val) (ho : o + l.val < 2816)
    {i1 : ∀ a, (![6, o] : Fin 2 → ℕ) a + (![1, 1408] : Fin 2 → ℕ) a ≤ S8x2816.size a}
    {i2 : ∀ a, (![7, o] : Fin 2 → ℕ) a + (![1, 1408] : Fin 2 → ℕ) a ≤ S8x2816.size a}
    {i3 : ∀ a, (![0, o] : Fin 2 → ℕ) a + (![256, 1408] : Fin 2 → ℕ) a ≤ S256x2816.size a}
    {i4 : ∀ a, (![2, o] : Fin 2 → ℕ) a + (![1, 1408] : Fin 2 → ℕ) a ≤ S3x2816.size a}
    {i5 : ∀ a, (![1, o] : Fin 2 → ℕ) a + (![1, 1408] : Fin 2 → ℕ) a ≤ S3x2816.size a}
    {i6 : ∀ a, (![0, o] : Fin 2 → ℕ) a + (![1, 1408] : Fin 2 → ℕ) a ≤ S3x2816.size a}
    {i7 : ∀ a, (![0, o] : Fin 2 → ℕ) a + (![1, 1408] : Fin 2 → ℕ) a ≤ S1x2816.size a} :
    convB (Scalar.cmpi CmpIPredicate.eq (BitVec.ofNat 32 (grid0.coords t 0).val) 0#32) (View.ld (iblk m c 2 t) (Rect.unit ![6, o] ![1, 1408] i1)) (View.ld (iblk m c 2 t) (Rect.unit ![7, o] ![1, 1408] i2)) (View.ld (iblk m c 0 t) (Rect.unit ![0, o] ![256, 1408] i3)) (View.ld (iblk m c 4 t) (Rect.unit ![2, o] ![1, 1408] i4)) (View.ld (iblk m c 4 t) (Rect.unit ![1, o] ![1, 1408] i5)) (View.ld (iblk m c 4 t) (Rect.unit ![0, o] ![1, 1408] i6)) (View.ld (iblk m c 6 t) (Rect.unit ![0, o] ![1, 1408] i7)) (ix2 r l) = resC m c s k := by
  refine conv_g m c t _ _ _ _ _ _ _ r l ⟨o + l.val, ho⟩ s k hs hk (fun q => ?_) ?_ ?_ ?_ ?_ ?_ ?_
  all_goals pointwise
  all_goals blk_ext

/-- The gate's block of columns that begins at `o`, moved down by 1. -/
theorem back1_g_ld (c : Dev nD) (t : Fin cfg0.N) (o : ℕ) (r : Fin 256) (l : Fin 1408) (s : Fin 8192) (k : Fin 5632) (hk : k.val = o + l.val) (hs : s.val = 256 * t.val + r.val) (ho : o + l.val < 2816)
    {i8 : ∀ a, (![0, o] : Fin 2 → ℕ) a + (![256, 1408] : Fin 2 → ℕ) a ≤ S256x2816.size a}
    {i9 : ∀ a, (![7, o] : Fin 2 → ℕ) a + (![1, 1408] : Fin 2 → ℕ) a ≤ S8x2816.size a} :
    k0_pay41 (Scalar.cmpi CmpIPredicate.eq (BitVec.ofNat 32 (grid0.coords t 0).val) 0#32) (View.ld (iblk m c 0 t) (Rect.unit ![0, o] ![256, 1408] i8)) (View.ld (iblk m c 2 t) (Rect.unit ![7, o] ![1, 1408] i9)) (ix2 r l) = GateSpec.rowBack (argA m c) s 1 k := by
  rw [pay41_apply _ (fun _ => iblk m c 2 t (ix2 6 ⟨o + l.val, ho⟩))]
  refine back_g m c t _ _ _ r l ⟨o + l.val, ho⟩ s k hs hk (fun q => ?_) ?_ ?_ 1 (Or.inl rfl)
  all_goals (try rfl)
  all_goals pointwise
  all_goals blk_ext

/-- The gate's block of columns that begins at `o`, moved down by 2. -/
theorem back2_g_ld (c : Dev nD) (t : Fin cfg0.N) (o : ℕ) (r : Fin 256) (l : Fin 1408) (s : Fin 8192) (k : Fin 5632) (hk : k.val = o + l.val) (hs : s.val = 256 * t.val + r.val) (ho : o + l.val < 2816)
    {i10 : ∀ a, (![0, o] : Fin 2 → ℕ) a + (![256, 1408] : Fin 2 → ℕ) a ≤ S256x2816.size a}
    {i11 : ∀ a, (![6, o] : Fin 2 → ℕ) a + (![1, 1408] : Fin 2 → ℕ) a ≤ S8x2816.size a}
    {i12 : ∀ a, (![7, o] : Fin 2 → ℕ) a + (![1, 1408] : Fin 2 → ℕ) a ≤ S8x2816.size a} :
    k0_pay42 (Scalar.cmpi CmpIPredicate.eq (BitVec.ofNat 32 (grid0.coords t 0).val) 0#32) (View.ld (iblk m c 0 t) (Rect.unit ![0, o] ![256, 1408] i10)) (View.ld (iblk m c 2 t) (Rect.unit ![6, o] ![1, 1408] i11)) (View.ld (iblk m c 2 t) (Rect.unit ![7, o] ![1, 1408] i12)) (ix2 r l) = GateSpec.rowBack (argA m c) s 2 k := by
  rw [pay42_apply]
  refine back_g m c t _ _ _ r l ⟨o + l.val, ho⟩ s k hs hk (fun q => ?_) ?_ ?_ 2 (Or.inr rfl)
  all_goals pointwise
  all_goals blk_ext

/-- The gate's block of columns that begins at `o`. -/
theorem back0_g_ld (c : Dev nD) (t : Fin cfg0.N) (o : ℕ) (r : Fin 256) (l : Fin 1408) (s : Fin 8192) (k : Fin 5632) (hk : k.val = o + l.val) (hs : s.val = 256 * t.val + r.val) (ho : o + l.val < 2816)
    {i13 : ∀ a, (![0, o] : Fin 2 → ℕ) a + (![256, 1408] : Fin 2 → ℕ) a ≤ S256x2816.size a} :
    (View.ld (iblk m c 0 t) (Rect.unit ![0, o] ![256, 1408] i13)) (ix2 r l) = GateSpec.rowBack (argA m c) s 0 k := by
  have hsl := s.isLt
  rw [GateSpec.rowBack_zero]
  refine Eq.trans (?_ : _ = iblk m c 0 t (ix2 r ⟨o + l.val, ho⟩)) ((blockAg m c t r ⟨o + l.val, ho⟩ k hk (by omega)).trans
    (congrArg (fun b => argA m c b k) (Fin.ext hs.symm)))
  pointwise
  blk_ext

/-- The convolution of the value's block of columns that begins at `o`. -/
theorem conv_u_ld (c : Dev nD) (t : Fin cfg0.N) (o : ℕ) (r : Fin 256) (l : Fin 1408) (s : Fin 8192) (k : Fin 5632) (hk : k.val = 2816 + (o + l.val)) (hs : s.val = 256 * t.val + r.val) (ho : o + l.val < 2816)
    {i14 : ∀ a, (![6, o] : Fin 2 → ℕ) a + (![1, 1408] : Fin 2 → ℕ) a ≤ S8x2816.size a}
    {i15 : ∀ a, (![7, o] : Fin 2 → ℕ) a + (![1, 1408] : Fin 2 → ℕ) a ≤ S8x2816.size a}
    {i16 : ∀ a, (![0, o] : Fin 2 → ℕ) a + (![256, 1408] : Fin 2 → ℕ) a ≤ S256x2816.size a}
    {i17 : ∀ a, (![2, o] : Fin 2 → ℕ) a + (![1, 1408] : Fin 2 → ℕ) a ≤ S3x2816.size a}
    {i18 : ∀ a, (![1, o] : Fin 2 → ℕ) a + (![1, 1408] : Fin 2 → ℕ) a ≤ S3x2816.size a}
    {i19 : ∀ a, (![0, o] : Fin 2 → ℕ) a + (![1, 1408] : Fin 2 → ℕ) a ≤ S3x2816.size a}
    {i20 : ∀ a, (![0, o] : Fin 2 → ℕ) a + (![1, 1408] : Fin 2 → ℕ) a ≤ S1x2816.size a} :
    convB (Scalar.cmpi CmpIPredicate.eq (BitVec.ofNat 32 (grid0.coords t 0).val) 0#32) (View.ld (iblk m c 3 t) (Rect.unit ![6, o] ![1, 1408] i14)) (View.ld (iblk m c 3 t) (Rect.unit ![7, o] ![1, 1408] i15)) (View.ld (iblk m c 1 t) (Rect.unit ![0, o] ![256, 1408] i16)) (View.ld (iblk m c 5 t) (Rect.unit ![2, o] ![1, 1408] i17)) (View.ld (iblk m c 5 t) (Rect.unit ![1, o] ![1, 1408] i18)) (View.ld (iblk m c 5 t) (Rect.unit ![0, o] ![1, 1408] i19)) (View.ld (iblk m c 7 t) (Rect.unit ![0, o] ![1, 1408] i20)) (ix2 r l) = resC m c s k := by
  refine conv_u m c t _ _ _ _ _ _ _ r l ⟨o + l.val, ho⟩ s k hs hk (fun q => ?_) ?_ ?_ ?_ ?_ ?_ ?_
  all_goals pointwise
  all_goals blk_ext

/-- The value's block of columns that begins at `o`, moved down by 1. -/
theorem back1_u_ld (c : Dev nD) (t : Fin cfg0.N) (o : ℕ) (r : Fin 256) (l : Fin 1408) (s : Fin 8192) (k : Fin 5632) (hk : k.val = 2816 + (o + l.val)) (hs : s.val = 256 * t.val + r.val) (ho : o + l.val < 2816)
    {i21 : ∀ a, (![0, o] : Fin 2 → ℕ) a + (![256, 1408] : Fin 2 → ℕ) a ≤ S256x2816.size a}
    {i22 : ∀ a, (![7, o] : Fin 2 → ℕ) a + (![1, 1408] : Fin 2 → ℕ) a ≤ S8x2816.size a} :
    k0_pay41 (Scalar.cmpi CmpIPredicate.eq (BitVec.ofNat 32 (grid0.coords t 0).val) 0#32) (View.ld (iblk m c 1 t) (Rect.unit ![0, o] ![256, 1408] i21)) (View.ld (iblk m c 3 t) (Rect.unit ![7, o] ![1, 1408] i22)) (ix2 r l) = GateSpec.rowBack (argA m c) s 1 k := by
  rw [pay41_apply _ (fun _ => iblk m c 3 t (ix2 6 ⟨o + l.val, ho⟩))]
  refine back_u m c t _ _ _ r l ⟨o + l.val, ho⟩ s k hs hk (fun q => ?_) ?_ ?_ 1 (Or.inl rfl)
  all_goals (try rfl)
  all_goals pointwise
  all_goals blk_ext

/-- The value's block of columns that begins at `o`, moved down by 2. -/
theorem back2_u_ld (c : Dev nD) (t : Fin cfg0.N) (o : ℕ) (r : Fin 256) (l : Fin 1408) (s : Fin 8192) (k : Fin 5632) (hk : k.val = 2816 + (o + l.val)) (hs : s.val = 256 * t.val + r.val) (ho : o + l.val < 2816)
    {i23 : ∀ a, (![0, o] : Fin 2 → ℕ) a + (![256, 1408] : Fin 2 → ℕ) a ≤ S256x2816.size a}
    {i24 : ∀ a, (![6, o] : Fin 2 → ℕ) a + (![1, 1408] : Fin 2 → ℕ) a ≤ S8x2816.size a}
    {i25 : ∀ a, (![7, o] : Fin 2 → ℕ) a + (![1, 1408] : Fin 2 → ℕ) a ≤ S8x2816.size a} :
    k0_pay42 (Scalar.cmpi CmpIPredicate.eq (BitVec.ofNat 32 (grid0.coords t 0).val) 0#32) (View.ld (iblk m c 1 t) (Rect.unit ![0, o] ![256, 1408] i23)) (View.ld (iblk m c 3 t) (Rect.unit ![6, o] ![1, 1408] i24)) (View.ld (iblk m c 3 t) (Rect.unit ![7, o] ![1, 1408] i25)) (ix2 r l) = GateSpec.rowBack (argA m c) s 2 k := by
  rw [pay42_apply]
  refine back_u m c t _ _ _ r l ⟨o + l.val, ho⟩ s k hs hk (fun q => ?_) ?_ ?_ 2 (Or.inr rfl)
  all_goals pointwise
  all_goals blk_ext

/-- The value's block of columns that begins at `o`. -/
theorem back0_u_ld (c : Dev nD) (t : Fin cfg0.N) (o : ℕ) (r : Fin 256) (l : Fin 1408) (s : Fin 8192) (k : Fin 5632) (hk : k.val = 2816 + (o + l.val)) (hs : s.val = 256 * t.val + r.val) (ho : o + l.val < 2816)
    {i26 : ∀ a, (![0, o] : Fin 2 → ℕ) a + (![256, 1408] : Fin 2 → ℕ) a ≤ S256x2816.size a} :
    (View.ld (iblk m c 1 t) (Rect.unit ![0, o] ![256, 1408] i26)) (ix2 r l) = GateSpec.rowBack (argA m c) s 0 k := by
  have hsl := s.isLt
  rw [GateSpec.rowBack_zero]
  refine Eq.trans (?_ : _ = iblk m c 1 t (ix2 r ⟨o + l.val, ho⟩)) ((blockAu m c t r ⟨o + l.val, ho⟩ k hk (by omega)).trans
    (congrArg (fun b => argA m c b k) (Fin.ext hs.symm)))
  pointwise
  blk_ext

/-- The gradient of the gated product in the block of columns that begins at `o`. -/
theorem df_ld (c : Dev nD) (t : Fin cfg0.N) (o : ℕ) (r : Fin 256) (l : Fin 1408) (s : Fin 8192)  (hs : s.val = 256 * t.val + r.val) (ho : o + l.val < 2816)
    {i27 : ∀ a, (![0, o] : Fin 2 → ℕ) a + (![256, 1408] : Fin 2 → ℕ) a ≤ S256x2816.size a} :
    (View.ld (Val := Elt Ideal) (e' := .f32) (k0_pay6 (iblk m c 8 t) (iblk m c 9 t)) (Rect.unit ![0, o] ![256, 1408] i27)) (ix2 r l) = resF m c s ⟨o + l.val, ho⟩ := by
  refine df_res m c t _ r l _ s hs ?_
  pointwise [k0_pay6]
  blk_ext

/-- The gate's gradient in the block of columns that begins at `o`. -/
theorem gate_ld (c : Dev nD) (t : Fin cfg0.N) (o : ℕ) (r : Fin 256) (l : Fin 1408) (s : Fin 8192) (k : Fin 5632) (hk : k.val = o + l.val) (hs : s.val = 256 * t.val + r.val) (ho : o + l.val < 2816)
    {i28 : ∀ a, (![6, o] : Fin 2 → ℕ) a + (![1, 1408] : Fin 2 → ℕ) a ≤ S8x2816.size a}
    {i29 : ∀ a, (![7, o] : Fin 2 → ℕ) a + (![1, 1408] : Fin 2 → ℕ) a ≤ S8x2816.size a}
    {i30 : ∀ a, (![0, o] : Fin 2 → ℕ) a + (![256, 1408] : Fin 2 → ℕ) a ≤ S256x2816.size a}
    {i31 : ∀ a, (![2, o] : Fin 2 → ℕ) a + (![1, 1408] : Fin 2 → ℕ) a ≤ S3x2816.size a}
    {i32 : ∀ a, (![1, o] : Fin 2 → ℕ) a + (![1, 1408] : Fin 2 → ℕ) a ≤ S3x2816.size a}
    {i33 : ∀ a, (![0, o] : Fin 2 → ℕ) a + (![1, 1408] : Fin 2 → ℕ) a ≤ S3x2816.size a}
    {i34 : ∀ a, (![0, o] : Fin 2 → ℕ) a + (![1, 1408] : Fin 2 → ℕ) a ≤ S1x2816.size a}
    {i35 : ∀ a, (![6, o] : Fin 2 → ℕ) a + (![1, 1408] : Fin 2 → ℕ) a ≤ S8x2816.size a}
    {i36 : ∀ a, (![7, o] : Fin 2 → ℕ) a + (![1, 1408] : Fin 2 → ℕ) a ≤ S8x2816.size a}
    {i37 : ∀ a, (![0, o] : Fin 2 → ℕ) a + (![256, 1408] : Fin 2 → ℕ) a ≤ S256x2816.size a}
    {i38 : ∀ a, (![2, o] : Fin 2 → ℕ) a + (![1, 1408] : Fin 2 → ℕ) a ≤ S3x2816.size a}
    {i39 : ∀ a, (![1, o] : Fin 2 → ℕ) a + (![1, 1408] : Fin 2 → ℕ) a ≤ S3x2816.size a}
    {i40 : ∀ a, (![0, o] : Fin 2 → ℕ) a + (![1, 1408] : Fin 2 → ℕ) a ≤ S3x2816.size a}
    {i41 : ∀ a, (![0, o] : Fin 2 → ℕ) a + (![1, 1408] : Fin 2 → ℕ) a ≤ S1x2816.size a}
    {i42 : ∀ a, (![0, o] : Fin 2 → ℕ) a + (![256, 1408] : Fin 2 → ℕ) a ≤ S256x2816.size a} :
    gateB (convB (Scalar.cmpi CmpIPredicate.eq (BitVec.ofNat 32 (grid0.coords t 0).val) 0#32) (View.ld (iblk m c 2 t) (Rect.unit ![6, o] ![1, 1408] i28)) (View.ld (iblk m c 2 t) (Rect.unit ![7, o] ![1, 1408] i29)) (View.ld (iblk m c 0 t) (Rect.unit ![0, o] ![256, 1408] i30)) (View.ld (iblk m c 4 t) (Rect.unit ![2, o] ![1, 1408] i31)) (View.ld (iblk m c 4 t) (Rect.unit ![1, o] ![1, 1408] i32)) (View.ld (iblk m c 4 t) (Rect.unit ![0, o] ![1, 1408] i33)) (View.ld (iblk m c 6 t) (Rect.unit ![0, o] ![1, 1408] i34))) (convB (Scalar.cmpi CmpIPredicate.eq (BitVec.ofNat 32 (grid0.coords t 0).val) 0#32) (View.ld (iblk m c 3 t) (Rect.unit ![6, o] ![1, 1408] i35)) (View.ld (iblk m c 3 t) (Rect.unit ![7, o] ![1, 1408] i36)) (View.ld (iblk m c 1 t) (Rect.unit ![0, o] ![256, 1408] i37)) (View.ld (iblk m c 5 t) (Rect.unit ![2, o] ![1, 1408] i38)) (View.ld (iblk m c 5 t) (Rect.unit ![1, o] ![1, 1408] i39)) (View.ld (iblk m c 5 t) (Rect.unit ![0, o] ![1, 1408] i40)) (View.ld (iblk m c 7 t) (Rect.unit ![0, o] ![1, 1408] i41))) (View.ld (Val := Elt Ideal) (e' := .f32) (k0_pay6 (iblk m c 8 t) (iblk m c 9 t)) (Rect.unit ![0, o] ![256, 1408] i42)) (ix2 r l) = resD m c s k := by
  exact gate_res m c _ _ _ r l s k ⟨2816 + (o + l.val), by omega⟩ ⟨o + l.val, ho⟩ hk rfl (conv_g_ld m c t o r l s k hk hs ho)
    (conv_u_ld m c t o r l s _ rfl hs ho) (df_ld m c t o r l s hs ho)

/-- The value's gradient in the block of columns that begins at `o`. -/
theorem up_ld (c : Dev nD) (t : Fin cfg0.N) (o : ℕ) (r : Fin 256) (l : Fin 1408) (s : Fin 8192) (k : Fin 5632) (hk : k.val = 2816 + (o + l.val)) (hs : s.val = 256 * t.val + r.val) (ho : o + l.val < 2816)
    {i43 : ∀ a, (![6, o] : Fin 2 → ℕ) a + (![1, 1408] : Fin 2 → ℕ) a ≤ S8x2816.size a}
    {i44 : ∀ a, (![7, o] : Fin 2 → ℕ) a + (![1, 1408] : Fin 2 → ℕ) a ≤ S8x2816.size a}
    {i45 : ∀ a, (![0, o] : Fin 2 → ℕ) a + (![256, 1408] : Fin 2 → ℕ) a ≤ S256x2816.size a}
    {i46 : ∀ a, (![2, o] : Fin 2 → ℕ) a + (![1, 1408] : Fin 2 → ℕ) a ≤ S3x2816.size a}
    {i47 : ∀ a, (![1, o] : Fin 2 → ℕ) a + (![1, 1408] : Fin 2 → ℕ) a ≤ S3x2816.size a}
    {i48 : ∀ a, (![0, o] : Fin 2 → ℕ) a + (![1, 1408] : Fin 2 → ℕ) a ≤ S3x2816.size a}
    {i49 : ∀ a, (![0, o] : Fin 2 → ℕ) a + (![1, 1408] : Fin 2 → ℕ) a ≤ S1x2816.size a}
    {i50 : ∀ a, (![0, o] : Fin 2 → ℕ) a + (![256, 1408] : Fin 2 → ℕ) a ≤ S256x2816.size a} :
    upB (convB (Scalar.cmpi CmpIPredicate.eq (BitVec.ofNat 32 (grid0.coords t 0).val) 0#32) (View.ld (iblk m c 2 t) (Rect.unit ![6, o] ![1, 1408] i43)) (View.ld (iblk m c 2 t) (Rect.unit ![7, o] ![1, 1408] i44)) (View.ld (iblk m c 0 t) (Rect.unit ![0, o] ![256, 1408] i45)) (View.ld (iblk m c 4 t) (Rect.unit ![2, o] ![1, 1408] i46)) (View.ld (iblk m c 4 t) (Rect.unit ![1, o] ![1, 1408] i47)) (View.ld (iblk m c 4 t) (Rect.unit ![0, o] ![1, 1408] i48)) (View.ld (iblk m c 6 t) (Rect.unit ![0, o] ![1, 1408] i49))) (View.ld (Val := Elt Ideal) (e' := .f32) (k0_pay6 (iblk m c 8 t) (iblk m c 9 t)) (Rect.unit ![0, o] ![256, 1408] i50)) (ix2 r l) = resD m c s k := by
  exact up_res m c _ _ r l s ⟨o + l.val, by omega⟩ k ⟨o + l.val, ho⟩ rfl hk (conv_g_ld m c t o r l s _ rfl hs ho)
    (df_ld m c t o r l s hs ho)

/-- A row of the taps' part of a point. -/
theorem term_tap (c : Dev nD) (t : Fin cfg0.N) (a : Fin 8) (n : Fin 5632) (j : ℕ) (hj : j < 3) (ha : a.val = j) :
    term m c t (ix2 a n) = ∑ r : Fin 256, resD m c ⟨256 * t.val + r.val, by have := t.isLt; have : cfg0.N = 32 := rfl; omega⟩ n
      * GateSpec.rowBack (argA m c) ⟨256 * t.val + r.val, by have := t.isLt; have : cfg0.N = 32 := rfl; omega⟩ (2 - j) n := by
  unfold term GateSpec.tapGrad
  refine Finset.sum_congr rfl fun r _ => ?_
  subst ha
  exact if_pos hj

/-- The bias' row of the part of a point. -/
theorem term_bias (c : Dev nD) (t : Fin cfg0.N) (a : Fin 8) (n : Fin 5632) (ha : a.val = 3) :
    term m c t (ix2 a n) = ∑ r : Fin 256, resD m c ⟨256 * t.val + r.val, by have := t.isLt; have : cfg0.N = 32 := rfl; omega⟩ n := by
  unfold term GateSpec.tapGrad
  refine Finset.sum_congr rfl fun r _ => ?_
  exact (if_neg (show ¬ a.val < 3 by omega)).trans (if_pos ha)

/-- The other rows take in nothing. -/
theorem term_rest (c : Dev nD) (t : Fin cfg0.N) (a : Fin 8) (n : Fin 5632) (ha : 3 < a.val) : term m c t (ix2 a n) = 0 := by
  unfold term GateSpec.tapGrad
  exact Finset.sum_eq_zero fun r _ => (if_neg (show ¬ a.val < 3 by omega)).trans (if_neg (show ¬ a.val = 3 by omega))

/-- A row of the running sums in the block of columns that begins at `o` takes in what one point adds. -/
theorem gate_tap0 (c : Dev nD) (t : Fin cfg0.N) (o : ℕ) (l : Fin 1408) (p : Vec Ideal S1x1408 .f32) (y0 : Fin 8) (y1 : Fin 5632)
    (ha : y0.val = 0) (hn : y1.val = o + l.val) (ho : o + l.val < 2816)
    {i28 : ∀ a, (![6, o] : Fin 2 → ℕ) a + (![1, 1408] : Fin 2 → ℕ) a ≤ S8x2816.size a}
    {i29 : ∀ a, (![7, o] : Fin 2 → ℕ) a + (![1, 1408] : Fin 2 → ℕ) a ≤ S8x2816.size a}
    {i30 : ∀ a, (![0, o] : Fin 2 → ℕ) a + (![256, 1408] : Fin 2 → ℕ) a ≤ S256x2816.size a}
    {i31 : ∀ a, (![2, o] : Fin 2 → ℕ) a + (![1, 1408] : Fin 2 → ℕ) a ≤ S3x2816.size a}
    {i32 : ∀ a, (![1, o] : Fin 2 → ℕ) a + (![1, 1408] : Fin 2 → ℕ) a ≤ S3x2816.size a}
    {i33 : ∀ a, (![0, o] : Fin 2 → ℕ) a + (![1, 1408] : Fin 2 → ℕ) a ≤ S3x2816.size a}
    {i34 : ∀ a, (![0, o] : Fin 2 → ℕ) a + (![1, 1408] : Fin 2 → ℕ) a ≤ S1x2816.size a}
    {i35 : ∀ a, (![6, o] : Fin 2 → ℕ) a + (![1, 1408] : Fin 2 → ℕ) a ≤ S8x2816.size a}
    {i36 : ∀ a, (![7, o] : Fin 2 → ℕ) a + (![1, 1408] : Fin 2 → ℕ) a ≤ S8x2816.size a}
    {i37 : ∀ a, (![0, o] : Fin 2 → ℕ) a + (![256, 1408] : Fin 2 → ℕ) a ≤ S256x2816.size a}
    {i38 : ∀ a, (![2, o] : Fin 2 → ℕ) a + (![1, 1408] : Fin 2 → ℕ) a ≤ S3x2816.size a}
    {i39 : ∀ a, (![1, o] : Fin 2 → ℕ) a + (![1, 1408] : Fin 2 → ℕ) a ≤ S3x2816.size a}
    {i40 : ∀ a, (![0, o] : Fin 2 → ℕ) a + (![1, 1408] : Fin 2 → ℕ) a ≤ S3x2816.size a}
    {i41 : ∀ a, (![0, o] : Fin 2 → ℕ) a + (![1, 1408] : Fin 2 → ℕ) a ≤ S1x2816.size a}
    {i42 : ∀ a, (![0, o] : Fin 2 → ℕ) a + (![256, 1408] : Fin 2 → ℕ) a ≤ S256x2816.size a}
    {i10 : ∀ a, (![0, o] : Fin 2 → ℕ) a + (![256, 1408] : Fin 2 → ℕ) a ≤ S256x2816.size a}
    {i11 : ∀ a, (![6, o] : Fin 2 → ℕ) a + (![1, 1408] : Fin 2 → ℕ) a ≤ S8x2816.size a}
    {i12 : ∀ a, (![7, o] : Fin 2 → ℕ) a + (![1, 1408] : Fin 2 → ℕ) a ≤ S8x2816.size a} :
    accB (mulf (gateB (convB (Scalar.cmpi CmpIPredicate.eq (BitVec.ofNat 32 (grid0.coords t 0).val) 0#32) (View.ld (iblk m c 2 t) (Rect.unit ![6, o] ![1, 1408] i28)) (View.ld (iblk m c 2 t) (Rect.unit ![7, o] ![1, 1408] i29)) (View.ld (iblk m c 0 t) (Rect.unit ![0, o] ![256, 1408] i30)) (View.ld (iblk m c 4 t) (Rect.unit ![2, o] ![1, 1408] i31)) (View.ld (iblk m c 4 t) (Rect.unit ![1, o] ![1, 1408] i32)) (View.ld (iblk m c 4 t) (Rect.unit ![0, o] ![1, 1408] i33)) (View.ld (iblk m c 6 t) (Rect.unit ![0, o] ![1, 1408] i34))) (convB (Scalar.cmpi CmpIPredicate.eq (BitVec.ofNat 32 (grid0.coords t 0).val) 0#32) (View.ld (iblk m c 3 t) (Rect.unit ![6, o] ![1, 1408] i35)) (View.ld (iblk m c 3 t) (Rect.unit ![7, o] ![1, 1408] i36)) (View.ld (iblk m c 1 t) (Rect.unit ![0, o] ![256, 1408] i37)) (View.ld (iblk m c 5 t) (Rect.unit ![2, o] ![1, 1408] i38)) (View.ld (iblk m c 5 t) (Rect.unit ![1, o] ![1, 1408] i39)) (View.ld (iblk m c 5 t) (Rect.unit ![0, o] ![1, 1408] i40)) (View.ld (iblk m c 7 t) (Rect.unit ![0, o] ![1, 1408] i41))) (View.ld (Val := Elt Ideal) (e' := .f32) (k0_pay6 (iblk m c 8 t) (iblk m c 9 t)) (Rect.unit ![0, o] ![256, 1408] i42))) (k0_pay42 (Scalar.cmpi CmpIPredicate.eq (BitVec.ofNat 32 (grid0.coords t 0).val) 0#32) (View.ld (iblk m c 0 t) (Rect.unit ![0, o] ![256, 1408] i10)) (View.ld (iblk m c 2 t) (Rect.unit ![6, o] ![1, 1408] i11)) (View.ld (iblk m c 2 t) (Rect.unit ![7, o] ![1, 1408] i12)))) p (ix2 0 l) = p (ix2 0 l) + term m c t (ix2 y0 y1) := by
  rw [term_tap m c t y0 y1 0 (by norm_num) ha]
  exact acc_tap _ _ _ _ _ _ rfl fun r => Ideal.mul_congr (gate_ld m c t o r l _ _ hn rfl ho) (back2_g_ld m c t o r l _ _ hn rfl ho)

/-- A row of the running sums in the block of columns that begins at `o` takes in what one point adds. -/
theorem gate_tap1 (c : Dev nD) (t : Fin cfg0.N) (o : ℕ) (l : Fin 1408) (p : Vec Ideal S1x1408 .f32) (y0 : Fin 8) (y1 : Fin 5632)
    (ha : y0.val = 1) (hn : y1.val = o + l.val) (ho : o + l.val < 2816)
    {i28 : ∀ a, (![6, o] : Fin 2 → ℕ) a + (![1, 1408] : Fin 2 → ℕ) a ≤ S8x2816.size a}
    {i29 : ∀ a, (![7, o] : Fin 2 → ℕ) a + (![1, 1408] : Fin 2 → ℕ) a ≤ S8x2816.size a}
    {i30 : ∀ a, (![0, o] : Fin 2 → ℕ) a + (![256, 1408] : Fin 2 → ℕ) a ≤ S256x2816.size a}
    {i31 : ∀ a, (![2, o] : Fin 2 → ℕ) a + (![1, 1408] : Fin 2 → ℕ) a ≤ S3x2816.size a}
    {i32 : ∀ a, (![1, o] : Fin 2 → ℕ) a + (![1, 1408] : Fin 2 → ℕ) a ≤ S3x2816.size a}
    {i33 : ∀ a, (![0, o] : Fin 2 → ℕ) a + (![1, 1408] : Fin 2 → ℕ) a ≤ S3x2816.size a}
    {i34 : ∀ a, (![0, o] : Fin 2 → ℕ) a + (![1, 1408] : Fin 2 → ℕ) a ≤ S1x2816.size a}
    {i35 : ∀ a, (![6, o] : Fin 2 → ℕ) a + (![1, 1408] : Fin 2 → ℕ) a ≤ S8x2816.size a}
    {i36 : ∀ a, (![7, o] : Fin 2 → ℕ) a + (![1, 1408] : Fin 2 → ℕ) a ≤ S8x2816.size a}
    {i37 : ∀ a, (![0, o] : Fin 2 → ℕ) a + (![256, 1408] : Fin 2 → ℕ) a ≤ S256x2816.size a}
    {i38 : ∀ a, (![2, o] : Fin 2 → ℕ) a + (![1, 1408] : Fin 2 → ℕ) a ≤ S3x2816.size a}
    {i39 : ∀ a, (![1, o] : Fin 2 → ℕ) a + (![1, 1408] : Fin 2 → ℕ) a ≤ S3x2816.size a}
    {i40 : ∀ a, (![0, o] : Fin 2 → ℕ) a + (![1, 1408] : Fin 2 → ℕ) a ≤ S3x2816.size a}
    {i41 : ∀ a, (![0, o] : Fin 2 → ℕ) a + (![1, 1408] : Fin 2 → ℕ) a ≤ S1x2816.size a}
    {i42 : ∀ a, (![0, o] : Fin 2 → ℕ) a + (![256, 1408] : Fin 2 → ℕ) a ≤ S256x2816.size a}
    {i8 : ∀ a, (![0, o] : Fin 2 → ℕ) a + (![256, 1408] : Fin 2 → ℕ) a ≤ S256x2816.size a}
    {i9 : ∀ a, (![7, o] : Fin 2 → ℕ) a + (![1, 1408] : Fin 2 → ℕ) a ≤ S8x2816.size a} :
    accB (mulf (gateB (convB (Scalar.cmpi CmpIPredicate.eq (BitVec.ofNat 32 (grid0.coords t 0).val) 0#32) (View.ld (iblk m c 2 t) (Rect.unit ![6, o] ![1, 1408] i28)) (View.ld (iblk m c 2 t) (Rect.unit ![7, o] ![1, 1408] i29)) (View.ld (iblk m c 0 t) (Rect.unit ![0, o] ![256, 1408] i30)) (View.ld (iblk m c 4 t) (Rect.unit ![2, o] ![1, 1408] i31)) (View.ld (iblk m c 4 t) (Rect.unit ![1, o] ![1, 1408] i32)) (View.ld (iblk m c 4 t) (Rect.unit ![0, o] ![1, 1408] i33)) (View.ld (iblk m c 6 t) (Rect.unit ![0, o] ![1, 1408] i34))) (convB (Scalar.cmpi CmpIPredicate.eq (BitVec.ofNat 32 (grid0.coords t 0).val) 0#32) (View.ld (iblk m c 3 t) (Rect.unit ![6, o] ![1, 1408] i35)) (View.ld (iblk m c 3 t) (Rect.unit ![7, o] ![1, 1408] i36)) (View.ld (iblk m c 1 t) (Rect.unit ![0, o] ![256, 1408] i37)) (View.ld (iblk m c 5 t) (Rect.unit ![2, o] ![1, 1408] i38)) (View.ld (iblk m c 5 t) (Rect.unit ![1, o] ![1, 1408] i39)) (View.ld (iblk m c 5 t) (Rect.unit ![0, o] ![1, 1408] i40)) (View.ld (iblk m c 7 t) (Rect.unit ![0, o] ![1, 1408] i41))) (View.ld (Val := Elt Ideal) (e' := .f32) (k0_pay6 (iblk m c 8 t) (iblk m c 9 t)) (Rect.unit ![0, o] ![256, 1408] i42))) (k0_pay41 (Scalar.cmpi CmpIPredicate.eq (BitVec.ofNat 32 (grid0.coords t 0).val) 0#32) (View.ld (iblk m c 0 t) (Rect.unit ![0, o] ![256, 1408] i8)) (View.ld (iblk m c 2 t) (Rect.unit ![7, o] ![1, 1408] i9)))) p (ix2 0 l) = p (ix2 0 l) + term m c t (ix2 y0 y1) := by
  rw [term_tap m c t y0 y1 1 (by norm_num) ha]
  exact acc_tap _ _ _ _ _ _ rfl fun r => Ideal.mul_congr (gate_ld m c t o r l _ _ hn rfl ho) (back1_g_ld m c t o r l _ _ hn rfl ho)

/-- A row of the running sums in the block of columns that begins at `o` takes in what one point adds. -/
theorem gate_tap2 (c : Dev nD) (t : Fin cfg0.N) (o : ℕ) (l : Fin 1408) (p : Vec Ideal S1x1408 .f32) (y0 : Fin 8) (y1 : Fin 5632)
    (ha : y0.val = 2) (hn : y1.val = o + l.val) (ho : o + l.val < 2816)
    {i28 : ∀ a, (![6, o] : Fin 2 → ℕ) a + (![1, 1408] : Fin 2 → ℕ) a ≤ S8x2816.size a}
    {i29 : ∀ a, (![7, o] : Fin 2 → ℕ) a + (![1, 1408] : Fin 2 → ℕ) a ≤ S8x2816.size a}
    {i30 : ∀ a, (![0, o] : Fin 2 → ℕ) a + (![256, 1408] : Fin 2 → ℕ) a ≤ S256x2816.size a}
    {i31 : ∀ a, (![2, o] : Fin 2 → ℕ) a + (![1, 1408] : Fin 2 → ℕ) a ≤ S3x2816.size a}
    {i32 : ∀ a, (![1, o] : Fin 2 → ℕ) a + (![1, 1408] : Fin 2 → ℕ) a ≤ S3x2816.size a}
    {i33 : ∀ a, (![0, o] : Fin 2 → ℕ) a + (![1, 1408] : Fin 2 → ℕ) a ≤ S3x2816.size a}
    {i34 : ∀ a, (![0, o] : Fin 2 → ℕ) a + (![1, 1408] : Fin 2 → ℕ) a ≤ S1x2816.size a}
    {i35 : ∀ a, (![6, o] : Fin 2 → ℕ) a + (![1, 1408] : Fin 2 → ℕ) a ≤ S8x2816.size a}
    {i36 : ∀ a, (![7, o] : Fin 2 → ℕ) a + (![1, 1408] : Fin 2 → ℕ) a ≤ S8x2816.size a}
    {i37 : ∀ a, (![0, o] : Fin 2 → ℕ) a + (![256, 1408] : Fin 2 → ℕ) a ≤ S256x2816.size a}
    {i38 : ∀ a, (![2, o] : Fin 2 → ℕ) a + (![1, 1408] : Fin 2 → ℕ) a ≤ S3x2816.size a}
    {i39 : ∀ a, (![1, o] : Fin 2 → ℕ) a + (![1, 1408] : Fin 2 → ℕ) a ≤ S3x2816.size a}
    {i40 : ∀ a, (![0, o] : Fin 2 → ℕ) a + (![1, 1408] : Fin 2 → ℕ) a ≤ S3x2816.size a}
    {i41 : ∀ a, (![0, o] : Fin 2 → ℕ) a + (![1, 1408] : Fin 2 → ℕ) a ≤ S1x2816.size a}
    {i42 : ∀ a, (![0, o] : Fin 2 → ℕ) a + (![256, 1408] : Fin 2 → ℕ) a ≤ S256x2816.size a}
    {i13 : ∀ a, (![0, o] : Fin 2 → ℕ) a + (![256, 1408] : Fin 2 → ℕ) a ≤ S256x2816.size a} :
    accB (mulf (gateB (convB (Scalar.cmpi CmpIPredicate.eq (BitVec.ofNat 32 (grid0.coords t 0).val) 0#32) (View.ld (iblk m c 2 t) (Rect.unit ![6, o] ![1, 1408] i28)) (View.ld (iblk m c 2 t) (Rect.unit ![7, o] ![1, 1408] i29)) (View.ld (iblk m c 0 t) (Rect.unit ![0, o] ![256, 1408] i30)) (View.ld (iblk m c 4 t) (Rect.unit ![2, o] ![1, 1408] i31)) (View.ld (iblk m c 4 t) (Rect.unit ![1, o] ![1, 1408] i32)) (View.ld (iblk m c 4 t) (Rect.unit ![0, o] ![1, 1408] i33)) (View.ld (iblk m c 6 t) (Rect.unit ![0, o] ![1, 1408] i34))) (convB (Scalar.cmpi CmpIPredicate.eq (BitVec.ofNat 32 (grid0.coords t 0).val) 0#32) (View.ld (iblk m c 3 t) (Rect.unit ![6, o] ![1, 1408] i35)) (View.ld (iblk m c 3 t) (Rect.unit ![7, o] ![1, 1408] i36)) (View.ld (iblk m c 1 t) (Rect.unit ![0, o] ![256, 1408] i37)) (View.ld (iblk m c 5 t) (Rect.unit ![2, o] ![1, 1408] i38)) (View.ld (iblk m c 5 t) (Rect.unit ![1, o] ![1, 1408] i39)) (View.ld (iblk m c 5 t) (Rect.unit ![0, o] ![1, 1408] i40)) (View.ld (iblk m c 7 t) (Rect.unit ![0, o] ![1, 1408] i41))) (View.ld (Val := Elt Ideal) (e' := .f32) (k0_pay6 (iblk m c 8 t) (iblk m c 9 t)) (Rect.unit ![0, o] ![256, 1408] i42))) ((View.ld (iblk m c 0 t) (Rect.unit ![0, o] ![256, 1408] i13)))) p (ix2 0 l) = p (ix2 0 l) + term m c t (ix2 y0 y1) := by
  rw [term_tap m c t y0 y1 2 (by norm_num) ha]
  exact acc_tap _ _ _ _ _ _ rfl fun r => Ideal.mul_congr (gate_ld m c t o r l _ _ hn rfl ho) (back0_g_ld m c t o r l _ _ hn rfl ho)

/-- A row of the running sums in the block of columns that begins at `o` takes in what one point adds. -/
theorem gate_tap3 (c : Dev nD) (t : Fin cfg0.N) (o : ℕ) (l : Fin 1408) (p : Vec Ideal S1x1408 .f32) (y0 : Fin 8) (y1 : Fin 5632)
    (ha : y0.val = 3) (hn : y1.val = o + l.val) (ho : o + l.val < 2816)
    {i28 : ∀ a, (![6, o] : Fin 2 → ℕ) a + (![1, 1408] : Fin 2 → ℕ) a ≤ S8x2816.size a}
    {i29 : ∀ a, (![7, o] : Fin 2 → ℕ) a + (![1, 1408] : Fin 2 → ℕ) a ≤ S8x2816.size a}
    {i30 : ∀ a, (![0, o] : Fin 2 → ℕ) a + (![256, 1408] : Fin 2 → ℕ) a ≤ S256x2816.size a}
    {i31 : ∀ a, (![2, o] : Fin 2 → ℕ) a + (![1, 1408] : Fin 2 → ℕ) a ≤ S3x2816.size a}
    {i32 : ∀ a, (![1, o] : Fin 2 → ℕ) a + (![1, 1408] : Fin 2 → ℕ) a ≤ S3x2816.size a}
    {i33 : ∀ a, (![0, o] : Fin 2 → ℕ) a + (![1, 1408] : Fin 2 → ℕ) a ≤ S3x2816.size a}
    {i34 : ∀ a, (![0, o] : Fin 2 → ℕ) a + (![1, 1408] : Fin 2 → ℕ) a ≤ S1x2816.size a}
    {i35 : ∀ a, (![6, o] : Fin 2 → ℕ) a + (![1, 1408] : Fin 2 → ℕ) a ≤ S8x2816.size a}
    {i36 : ∀ a, (![7, o] : Fin 2 → ℕ) a + (![1, 1408] : Fin 2 → ℕ) a ≤ S8x2816.size a}
    {i37 : ∀ a, (![0, o] : Fin 2 → ℕ) a + (![256, 1408] : Fin 2 → ℕ) a ≤ S256x2816.size a}
    {i38 : ∀ a, (![2, o] : Fin 2 → ℕ) a + (![1, 1408] : Fin 2 → ℕ) a ≤ S3x2816.size a}
    {i39 : ∀ a, (![1, o] : Fin 2 → ℕ) a + (![1, 1408] : Fin 2 → ℕ) a ≤ S3x2816.size a}
    {i40 : ∀ a, (![0, o] : Fin 2 → ℕ) a + (![1, 1408] : Fin 2 → ℕ) a ≤ S3x2816.size a}
    {i41 : ∀ a, (![0, o] : Fin 2 → ℕ) a + (![1, 1408] : Fin 2 → ℕ) a ≤ S1x2816.size a}
    {i42 : ∀ a, (![0, o] : Fin 2 → ℕ) a + (![256, 1408] : Fin 2 → ℕ) a ≤ S256x2816.size a} :
    accB (gateB (convB (Scalar.cmpi CmpIPredicate.eq (BitVec.ofNat 32 (grid0.coords t 0).val) 0#32) (View.ld (iblk m c 2 t) (Rect.unit ![6, o] ![1, 1408] i28)) (View.ld (iblk m c 2 t) (Rect.unit ![7, o] ![1, 1408] i29)) (View.ld (iblk m c 0 t) (Rect.unit ![0, o] ![256, 1408] i30)) (View.ld (iblk m c 4 t) (Rect.unit ![2, o] ![1, 1408] i31)) (View.ld (iblk m c 4 t) (Rect.unit ![1, o] ![1, 1408] i32)) (View.ld (iblk m c 4 t) (Rect.unit ![0, o] ![1, 1408] i33)) (View.ld (iblk m c 6 t) (Rect.unit ![0, o] ![1, 1408] i34))) (convB (Scalar.cmpi CmpIPredicate.eq (BitVec.ofNat 32 (grid0.coords t 0).val) 0#32) (View.ld (iblk m c 3 t) (Rect.unit ![6, o] ![1, 1408] i35)) (View.ld (iblk m c 3 t) (Rect.unit ![7, o] ![1, 1408] i36)) (View.ld (iblk m c 1 t) (Rect.unit ![0, o] ![256, 1408] i37)) (View.ld (iblk m c 5 t) (Rect.unit ![2, o] ![1, 1408] i38)) (View.ld (iblk m c 5 t) (Rect.unit ![1, o] ![1, 1408] i39)) (View.ld (iblk m c 5 t) (Rect.unit ![0, o] ![1, 1408] i40)) (View.ld (iblk m c 7 t) (Rect.unit ![0, o] ![1, 1408] i41))) (View.ld (Val := Elt Ideal) (e' := .f32) (k0_pay6 (iblk m c 8 t) (iblk m c 9 t)) (Rect.unit ![0, o] ![256, 1408] i42))) p (ix2 0 l) = p (ix2 0 l) + term m c t (ix2 y0 y1) := by
  rw [term_bias m c t y0 y1 ha]
  exact acc_bias _ _ _ _ _ rfl fun r => gate_ld m c t o r l _ _ hn rfl ho

/-- A row of the running sums in the block of columns that begins at `o` takes in what one point adds. -/
theorem up_tap0 (c : Dev nD) (t : Fin cfg0.N) (o : ℕ) (l : Fin 1408) (p : Vec Ideal S1x1408 .f32) (y0 : Fin 8) (y1 : Fin 5632)
    (ha : y0.val = 0) (hn : y1.val = 2816 + (o + l.val)) (ho : o + l.val < 2816)
    {i43 : ∀ a, (![6, o] : Fin 2 → ℕ) a + (![1, 1408] : Fin 2 → ℕ) a ≤ S8x2816.size a}
    {i44 : ∀ a, (![7, o] : Fin 2 → ℕ) a + (![1, 1408] : Fin 2 → ℕ) a ≤ S8x2816.size a}
    {i45 : ∀ a, (![0, o] : Fin 2 → ℕ) a + (![256, 1408] : Fin 2 → ℕ) a ≤ S256x2816.size a}
    {i46 : ∀ a, (![2, o] : Fin 2 → ℕ) a + (![1, 1408] : Fin 2 → ℕ) a ≤ S3x2816.size a}
    {i47 : ∀ a, (![1, o] : Fin 2 → ℕ) a + (![1, 1408] : Fin 2 → ℕ) a ≤ S3x2816.size a}
    {i48 : ∀ a, (![0, o] : Fin 2 → ℕ) a + (![1, 1408] : Fin 2 → ℕ) a ≤ S3x2816.size a}
    {i49 : ∀ a, (![0, o] : Fin 2 → ℕ) a + (![1, 1408] : Fin 2 → ℕ) a ≤ S1x2816.size a}
    {i50 : ∀ a, (![0, o] : Fin 2 → ℕ) a + (![256, 1408] : Fin 2 → ℕ) a ≤ S256x2816.size a}
    {i23 : ∀ a, (![0, o] : Fin 2 → ℕ) a + (![256, 1408] : Fin 2 → ℕ) a ≤ S256x2816.size a}
    {i24 : ∀ a, (![6, o] : Fin 2 → ℕ) a + (![1, 1408] : Fin 2 → ℕ) a ≤ S8x2816.size a}
    {i25 : ∀ a, (![7, o] : Fin 2 → ℕ) a + (![1, 1408] : Fin 2 → ℕ) a ≤ S8x2816.size a} :
    accB (mulf (upB (convB (Scalar.cmpi CmpIPredicate.eq (BitVec.ofNat 32 (grid0.coords t 0).val) 0#32) (View.ld (iblk m c 2 t) (Rect.unit ![6, o] ![1, 1408] i43)) (View.ld (iblk m c 2 t) (Rect.unit ![7, o] ![1, 1408] i44)) (View.ld (iblk m c 0 t) (Rect.unit ![0, o] ![256, 1408] i45)) (View.ld (iblk m c 4 t) (Rect.unit ![2, o] ![1, 1408] i46)) (View.ld (iblk m c 4 t) (Rect.unit ![1, o] ![1, 1408] i47)) (View.ld (iblk m c 4 t) (Rect.unit ![0, o] ![1, 1408] i48)) (View.ld (iblk m c 6 t) (Rect.unit ![0, o] ![1, 1408] i49))) (View.ld (Val := Elt Ideal) (e' := .f32) (k0_pay6 (iblk m c 8 t) (iblk m c 9 t)) (Rect.unit ![0, o] ![256, 1408] i50))) (k0_pay42 (Scalar.cmpi CmpIPredicate.eq (BitVec.ofNat 32 (grid0.coords t 0).val) 0#32) (View.ld (iblk m c 1 t) (Rect.unit ![0, o] ![256, 1408] i23)) (View.ld (iblk m c 3 t) (Rect.unit ![6, o] ![1, 1408] i24)) (View.ld (iblk m c 3 t) (Rect.unit ![7, o] ![1, 1408] i25)))) p (ix2 0 l) = p (ix2 0 l) + term m c t (ix2 y0 y1) := by
  rw [term_tap m c t y0 y1 0 (by norm_num) ha]
  exact acc_tap _ _ _ _ _ _ rfl fun r => Ideal.mul_congr (up_ld m c t o r l _ _ hn rfl ho) (back2_u_ld m c t o r l _ _ hn rfl ho)

/-- A row of the running sums in the block of columns that begins at `o` takes in what one point adds. -/
theorem up_tap1 (c : Dev nD) (t : Fin cfg0.N) (o : ℕ) (l : Fin 1408) (p : Vec Ideal S1x1408 .f32) (y0 : Fin 8) (y1 : Fin 5632)
    (ha : y0.val = 1) (hn : y1.val = 2816 + (o + l.val)) (ho : o + l.val < 2816)
    {i43 : ∀ a, (![6, o] : Fin 2 → ℕ) a + (![1, 1408] : Fin 2 → ℕ) a ≤ S8x2816.size a}
    {i44 : ∀ a, (![7, o] : Fin 2 → ℕ) a + (![1, 1408] : Fin 2 → ℕ) a ≤ S8x2816.size a}
    {i45 : ∀ a, (![0, o] : Fin 2 → ℕ) a + (![256, 1408] : Fin 2 → ℕ) a ≤ S256x2816.size a}
    {i46 : ∀ a, (![2, o] : Fin 2 → ℕ) a + (![1, 1408] : Fin 2 → ℕ) a ≤ S3x2816.size a}
    {i47 : ∀ a, (![1, o] : Fin 2 → ℕ) a + (![1, 1408] : Fin 2 → ℕ) a ≤ S3x2816.size a}
    {i48 : ∀ a, (![0, o] : Fin 2 → ℕ) a + (![1, 1408] : Fin 2 → ℕ) a ≤ S3x2816.size a}
    {i49 : ∀ a, (![0, o] : Fin 2 → ℕ) a + (![1, 1408] : Fin 2 → ℕ) a ≤ S1x2816.size a}
    {i50 : ∀ a, (![0, o] : Fin 2 → ℕ) a + (![256, 1408] : Fin 2 → ℕ) a ≤ S256x2816.size a}
    {i21 : ∀ a, (![0, o] : Fin 2 → ℕ) a + (![256, 1408] : Fin 2 → ℕ) a ≤ S256x2816.size a}
    {i22 : ∀ a, (![7, o] : Fin 2 → ℕ) a + (![1, 1408] : Fin 2 → ℕ) a ≤ S8x2816.size a} :
    accB (mulf (upB (convB (Scalar.cmpi CmpIPredicate.eq (BitVec.ofNat 32 (grid0.coords t 0).val) 0#32) (View.ld (iblk m c 2 t) (Rect.unit ![6, o] ![1, 1408] i43)) (View.ld (iblk m c 2 t) (Rect.unit ![7, o] ![1, 1408] i44)) (View.ld (iblk m c 0 t) (Rect.unit ![0, o] ![256, 1408] i45)) (View.ld (iblk m c 4 t) (Rect.unit ![2, o] ![1, 1408] i46)) (View.ld (iblk m c 4 t) (Rect.unit ![1, o] ![1, 1408] i47)) (View.ld (iblk m c 4 t) (Rect.unit ![0, o] ![1, 1408] i48)) (View.ld (iblk m c 6 t) (Rect.unit ![0, o] ![1, 1408] i49))) (View.ld (Val := Elt Ideal) (e' := .f32) (k0_pay6 (iblk m c 8 t) (iblk m c 9 t)) (Rect.unit ![0, o] ![256, 1408] i50))) (k0_pay41 (Scalar.cmpi CmpIPredicate.eq (BitVec.ofNat 32 (grid0.coords t 0).val) 0#32) (View.ld (iblk m c 1 t) (Rect.unit ![0, o] ![256, 1408] i21)) (View.ld (iblk m c 3 t) (Rect.unit ![7, o] ![1, 1408] i22)))) p (ix2 0 l) = p (ix2 0 l) + term m c t (ix2 y0 y1) := by
  rw [term_tap m c t y0 y1 1 (by norm_num) ha]
  exact acc_tap _ _ _ _ _ _ rfl fun r => Ideal.mul_congr (up_ld m c t o r l _ _ hn rfl ho) (back1_u_ld m c t o r l _ _ hn rfl ho)

/-- A row of the running sums in the block of columns that begins at `o` takes in what one point adds. -/
theorem up_tap2 (c : Dev nD) (t : Fin cfg0.N) (o : ℕ) (l : Fin 1408) (p : Vec Ideal S1x1408 .f32) (y0 : Fin 8) (y1 : Fin 5632)
    (ha : y0.val = 2) (hn : y1.val = 2816 + (o + l.val)) (ho : o + l.val < 2816)
    {i43 : ∀ a, (![6, o] : Fin 2 → ℕ) a + (![1, 1408] : Fin 2 → ℕ) a ≤ S8x2816.size a}
    {i44 : ∀ a, (![7, o] : Fin 2 → ℕ) a + (![1, 1408] : Fin 2 → ℕ) a ≤ S8x2816.size a}
    {i45 : ∀ a, (![0, o] : Fin 2 → ℕ) a + (![256, 1408] : Fin 2 → ℕ) a ≤ S256x2816.size a}
    {i46 : ∀ a, (![2, o] : Fin 2 → ℕ) a + (![1, 1408] : Fin 2 → ℕ) a ≤ S3x2816.size a}
    {i47 : ∀ a, (![1, o] : Fin 2 → ℕ) a + (![1, 1408] : Fin 2 → ℕ) a ≤ S3x2816.size a}
    {i48 : ∀ a, (![0, o] : Fin 2 → ℕ) a + (![1, 1408] : Fin 2 → ℕ) a ≤ S3x2816.size a}
    {i49 : ∀ a, (![0, o] : Fin 2 → ℕ) a + (![1, 1408] : Fin 2 → ℕ) a ≤ S1x2816.size a}
    {i50 : ∀ a, (![0, o] : Fin 2 → ℕ) a + (![256, 1408] : Fin 2 → ℕ) a ≤ S256x2816.size a}
    {i26 : ∀ a, (![0, o] : Fin 2 → ℕ) a + (![256, 1408] : Fin 2 → ℕ) a ≤ S256x2816.size a} :
    accB (mulf (upB (convB (Scalar.cmpi CmpIPredicate.eq (BitVec.ofNat 32 (grid0.coords t 0).val) 0#32) (View.ld (iblk m c 2 t) (Rect.unit ![6, o] ![1, 1408] i43)) (View.ld (iblk m c 2 t) (Rect.unit ![7, o] ![1, 1408] i44)) (View.ld (iblk m c 0 t) (Rect.unit ![0, o] ![256, 1408] i45)) (View.ld (iblk m c 4 t) (Rect.unit ![2, o] ![1, 1408] i46)) (View.ld (iblk m c 4 t) (Rect.unit ![1, o] ![1, 1408] i47)) (View.ld (iblk m c 4 t) (Rect.unit ![0, o] ![1, 1408] i48)) (View.ld (iblk m c 6 t) (Rect.unit ![0, o] ![1, 1408] i49))) (View.ld (Val := Elt Ideal) (e' := .f32) (k0_pay6 (iblk m c 8 t) (iblk m c 9 t)) (Rect.unit ![0, o] ![256, 1408] i50))) ((View.ld (iblk m c 1 t) (Rect.unit ![0, o] ![256, 1408] i26)))) p (ix2 0 l) = p (ix2 0 l) + term m c t (ix2 y0 y1) := by
  rw [term_tap m c t y0 y1 2 (by norm_num) ha]
  exact acc_tap _ _ _ _ _ _ rfl fun r => Ideal.mul_congr (up_ld m c t o r l _ _ hn rfl ho) (back0_u_ld m c t o r l _ _ hn rfl ho)

/-- A row of the running sums in the block of columns that begins at `o` takes in what one point adds. -/
theorem up_tap3 (c : Dev nD) (t : Fin cfg0.N) (o : ℕ) (l : Fin 1408) (p : Vec Ideal S1x1408 .f32) (y0 : Fin 8) (y1 : Fin 5632)
    (ha : y0.val = 3) (hn : y1.val = 2816 + (o + l.val)) (ho : o + l.val < 2816)
    {i43 : ∀ a, (![6, o] : Fin 2 → ℕ) a + (![1, 1408] : Fin 2 → ℕ) a ≤ S8x2816.size a}
    {i44 : ∀ a, (![7, o] : Fin 2 → ℕ) a + (![1, 1408] : Fin 2 → ℕ) a ≤ S8x2816.size a}
    {i45 : ∀ a, (![0, o] : Fin 2 → ℕ) a + (![256, 1408] : Fin 2 → ℕ) a ≤ S256x2816.size a}
    {i46 : ∀ a, (![2, o] : Fin 2 → ℕ) a + (![1, 1408] : Fin 2 → ℕ) a ≤ S3x2816.size a}
    {i47 : ∀ a, (![1, o] : Fin 2 → ℕ) a + (![1, 1408] : Fin 2 → ℕ) a ≤ S3x2816.size a}
    {i48 : ∀ a, (![0, o] : Fin 2 → ℕ) a + (![1, 1408] : Fin 2 → ℕ) a ≤ S3x2816.size a}
    {i49 : ∀ a, (![0, o] : Fin 2 → ℕ) a + (![1, 1408] : Fin 2 → ℕ) a ≤ S1x2816.size a}
    {i50 : ∀ a, (![0, o] : Fin 2 → ℕ) a + (![256, 1408] : Fin 2 → ℕ) a ≤ S256x2816.size a} :
    accB (upB (convB (Scalar.cmpi CmpIPredicate.eq (BitVec.ofNat 32 (grid0.coords t 0).val) 0#32) (View.ld (iblk m c 2 t) (Rect.unit ![6, o] ![1, 1408] i43)) (View.ld (iblk m c 2 t) (Rect.unit ![7, o] ![1, 1408] i44)) (View.ld (iblk m c 0 t) (Rect.unit ![0, o] ![256, 1408] i45)) (View.ld (iblk m c 4 t) (Rect.unit ![2, o] ![1, 1408] i46)) (View.ld (iblk m c 4 t) (Rect.unit ![1, o] ![1, 1408] i47)) (View.ld (iblk m c 4 t) (Rect.unit ![0, o] ![1, 1408] i48)) (View.ld (iblk m c 6 t) (Rect.unit ![0, o] ![1, 1408] i49))) (View.ld (Val := Elt Ideal) (e' := .f32) (k0_pay6 (iblk m c 8 t) (iblk m c 9 t)) (Rect.unit ![0, o] ![256, 1408] i50))) p (ix2 0 l) = p (ix2 0 l) + term m c t (ix2 y0 y1) := by
  rw [term_bias m c t y0 y1 ha]
  exact acc_bias _ _ _ _ _ rfl fun r => up_ld m c t o r l _ _ hn rfl ho

set_option maxHeartbeats 1600000 in
/-- At the first point the sums start from zero. -/
theorem acc_first (c : Dev nD) (t : Fin cfg0.N) (h : t.val % 32 = 0) (y : S8x5632.Idx) :
    (outsAt0 m c t.val t.isLt).2 y = 0 + term m c t y := by
  idx_vars y
  rw [outsAt0_A m c t h]
  frame_open
  simp (disch := decide) only [↓ View.readCov_skip, ↓ View.readCov_cons_toLoadRect, ↓ View.readCov_fill]
  frame_out
  simp only [pay15_eq, pay21_eq, pay44_eq, pay28_eq, pay29_eq, pay52_eq, pay53_eq, pay10_eq, pay14_eq, pay19_eq, pay20_eq, pay46_eq, pay47_eq,
    pay30_eq, pay31_eq, pay32_eq, pay33_eq, pay34_eq, pay35_eq, pay36_eq, pay39_eq, pay54_eq, pay55_eq, pay56_eq, pay57_eq, pay1_eq,
    pay2_eq, pay3_eq, pay4_eq]
  iterate 16 (refine canon_piece _ _ _ _ _ _ _ _ (fun l ha hn => ?_) (fun h => ?_); rotate_left)
  rename_i e0 e1 e2 e3 e4 e5 e6 e7 e8 e9 e10 e11 e12 e13 e14 e15
  · have hrow : 3 < y0.val := by
      by_contra hlt
      have h0 : y0.val = 0 ∨ y0.val = 1 ∨ y0.val = 2 ∨ y0.val = 3 := by omega
      have hn := y1.isLt
      have h1 : y1.val < 1408 ∨ (1408 ≤ y1.val ∧ y1.val < 2816) ∨ (2816 ≤ y1.val ∧ y1.val < 4224) ∨ 4224 ≤ y1.val := by omega
      rcases h0 with h0 | h0 | h0 | h0 <;> rcases h1 with h1 | h1 | h1 | h1 <;>
      first
      | exact e0 ⟨h0, by omega, by omega⟩
      | exact e1 ⟨h0, by omega, by omega⟩
      | exact e2 ⟨h0, by omega, by omega⟩
      | exact e3 ⟨h0, by omega, by omega⟩
      | exact e4 ⟨h0, by omega, by omega⟩
      | exact e5 ⟨h0, by omega, by omega⟩
      | exact e6 ⟨h0, by omega, by omega⟩
      | exact e7 ⟨h0, by omega, by omega⟩
      | exact e8 ⟨h0, by omega, by omega⟩
      | exact e9 ⟨h0, by omega, by omega⟩
      | exact e10 ⟨h0, by omega, by omega⟩
      | exact e11 ⟨h0, by omega, by omega⟩
      | exact e12 ⟨h0, by omega, by omega⟩
      | exact e13 ⟨h0, by omega, by omega⟩
      | exact e14 ⟨h0, by omega, by omega⟩
      | exact e15 ⟨h0, by omega, by omega⟩
    rw [term_rest m c t y0 y1 hrow, add_zero]
    exact canon_base _ y0 y1
  all_goals first
    | (have hj : y0.val = 0 := ha; have hk : y1.val = 0 + l.val := hn.trans (by omega); refine (gate_tap0 m c t 0 l _ y0 y1 hj hk (by omega)).trans (congrArg (· + _) ?_))
    | (have hj : y0.val = 0 := ha; have hk : y1.val = 1408 + l.val := hn.trans (by omega); refine (gate_tap0 m c t 1408 l _ y0 y1 hj hk (by omega)).trans (congrArg (· + _) ?_))
    | (have hj : y0.val = 1 := ha; have hk : y1.val = 0 + l.val := hn.trans (by omega); refine (gate_tap1 m c t 0 l _ y0 y1 hj hk (by omega)).trans (congrArg (· + _) ?_))
    | (have hj : y0.val = 1 := ha; have hk : y1.val = 1408 + l.val := hn.trans (by omega); refine (gate_tap1 m c t 1408 l _ y0 y1 hj hk (by omega)).trans (congrArg (· + _) ?_))
    | (have hj : y0.val = 2 := ha; have hk : y1.val = 0 + l.val := hn.trans (by omega); refine (gate_tap2 m c t 0 l _ y0 y1 hj hk (by omega)).trans (congrArg (· + _) ?_))
    | (have hj : y0.val = 2 := ha; have hk : y1.val = 1408 + l.val := hn.trans (by omega); refine (gate_tap2 m c t 1408 l _ y0 y1 hj hk (by omega)).trans (congrArg (· + _) ?_))
    | (have hj : y0.val = 3 := ha; have hk : y1.val = 0 + l.val := hn.trans (by omega); refine (gate_tap3 m c t 0 l _ y0 y1 hj hk (by omega)).trans (congrArg (· + _) ?_))
    | (have hj : y0.val = 3 := ha; have hk : y1.val = 1408 + l.val := hn.trans (by omega); refine (gate_tap3 m c t 1408 l _ y0 y1 hj hk (by omega)).trans (congrArg (· + _) ?_))
    | (have hj : y0.val = 0 := ha; have hk : y1.val = 2816 + (0 + l.val) := hn.trans (by omega); refine (up_tap0 m c t 0 l _ y0 y1 hj hk (by omega)).trans (congrArg (· + _) ?_))
    | (have hj : y0.val = 0 := ha; have hk : y1.val = 2816 + (1408 + l.val) := hn.trans (by omega); refine (up_tap0 m c t 1408 l _ y0 y1 hj hk (by omega)).trans (congrArg (· + _) ?_))
    | (have hj : y0.val = 1 := ha; have hk : y1.val = 2816 + (0 + l.val) := hn.trans (by omega); refine (up_tap1 m c t 0 l _ y0 y1 hj hk (by omega)).trans (congrArg (· + _) ?_))
    | (have hj : y0.val = 1 := ha; have hk : y1.val = 2816 + (1408 + l.val) := hn.trans (by omega); refine (up_tap1 m c t 1408 l _ y0 y1 hj hk (by omega)).trans (congrArg (· + _) ?_))
    | (have hj : y0.val = 2 := ha; have hk : y1.val = 2816 + (0 + l.val) := hn.trans (by omega); refine (up_tap2 m c t 0 l _ y0 y1 hj hk (by omega)).trans (congrArg (· + _) ?_))
    | (have hj : y0.val = 2 := ha; have hk : y1.val = 2816 + (1408 + l.val) := hn.trans (by omega); refine (up_tap2 m c t 1408 l _ y0 y1 hj hk (by omega)).trans (congrArg (· + _) ?_))
    | (have hj : y0.val = 3 := ha; have hk : y1.val = 2816 + (0 + l.val) := hn.trans (by omega); refine (up_tap3 m c t 0 l _ y0 y1 hj hk (by omega)).trans (congrArg (· + _) ?_))
    | (have hj : y0.val = 3 := ha; have hk : y1.val = 2816 + (1408 + l.val) := hn.trans (by omega); refine (up_tap3 m c t 1408 l _ y0 y1 hj hk (by omega)).trans (congrArg (· + _) ?_))
  all_goals pointwise [k0_pay5]

set_option maxHeartbeats 1600000 in
/-- At a later point the sums take in the point's part. -/
theorem acc_step (c : Dev nD) (t : Fin cfg0.N) (h : ¬ t.val % 32 = 0) (y : S8x5632.Idx) :
    (outsAt0 m c t.val t.isLt).2 y
      = (outsAt0 m c (t.val - 1) (Nat.lt_of_le_of_lt (Nat.sub_le _ _) t.isLt)).2 y + term m c t y := by
  idx_vars y
  rw [outsAt0_B m c t h]
  frame_open
  simp (disch := decide) only [↓ View.readCov_skip, ↓ View.readCov_cons_toLoadRect, ↓ View.readCov_fill]
  frame_out
  simp only [pay15_eq, pay21_eq, pay44_eq, pay28_eq, pay29_eq, pay52_eq, pay53_eq, pay10_eq, pay14_eq, pay19_eq, pay20_eq, pay46_eq, pay47_eq,
    pay30_eq, pay31_eq, pay32_eq, pay33_eq, pay34_eq, pay35_eq, pay36_eq, pay39_eq, pay54_eq, pay55_eq, pay56_eq, pay57_eq, pay1_eq,
    pay2_eq, pay3_eq, pay4_eq]
  iterate 16 (refine step_piece _ _ _ _ _ _ _ _ _ _ (fun l ha hn => ?_) (fun h => ?_); rotate_left)
  rename_i e0 e1 e2 e3 e4 e5 e6 e7 e8 e9 e10 e11 e12 e13 e14 e15
  · have hrow : 3 < y0.val := by
      by_contra hlt
      have h0 : y0.val = 0 ∨ y0.val = 1 ∨ y0.val = 2 ∨ y0.val = 3 := by omega
      have hn := y1.isLt
      have h1 : y1.val < 1408 ∨ (1408 ≤ y1.val ∧ y1.val < 2816) ∨ (2816 ≤ y1.val ∧ y1.val < 4224) ∨ 4224 ≤ y1.val := by omega
      rcases h0 with h0 | h0 | h0 | h0 <;> rcases h1 with h1 | h1 | h1 | h1 <;>
      first
      | exact e0 ⟨h0, by omega, by omega⟩
      | exact e1 ⟨h0, by omega, by omega⟩
      | exact e2 ⟨h0, by omega, by omega⟩
      | exact e3 ⟨h0, by omega, by omega⟩
      | exact e4 ⟨h0, by omega, by omega⟩
      | exact e5 ⟨h0, by omega, by omega⟩
      | exact e6 ⟨h0, by omega, by omega⟩
      | exact e7 ⟨h0, by omega, by omega⟩
      | exact e8 ⟨h0, by omega, by omega⟩
      | exact e9 ⟨h0, by omega, by omega⟩
      | exact e10 ⟨h0, by omega, by omega⟩
      | exact e11 ⟨h0, by omega, by omega⟩
      | exact e12 ⟨h0, by omega, by omega⟩
      | exact e13 ⟨h0, by omega, by omega⟩
      | exact e14 ⟨h0, by omega, by omega⟩
      | exact e15 ⟨h0, by omega, by omega⟩
    rw [term_rest m c t y0 y1 hrow, add_zero, View.writes_nil]
    exact congrFun (Memref.IsWhole.read_unread _ _) _
  all_goals first
    | (have hj : y0.val = 0 := ha; have hk : y1.val = 0 + l.val := hn.trans (by omega); refine (gate_tap0 m c t 0 l _ y0 y1 hj hk (by omega)).trans (congrArg (· + _) ?_))
    | (have hj : y0.val = 0 := ha; have hk : y1.val = 1408 + l.val := hn.trans (by omega); refine (gate_tap0 m c t 1408 l _ y0 y1 hj hk (by omega)).trans (congrArg (· + _) ?_))
    | (have hj : y0.val = 1 := ha; have hk : y1.val = 0 + l.val := hn.trans (by omega); refine (gate_tap1 m c t 0 l _ y0 y1 hj hk (by omega)).trans (congrArg (· + _) ?_))
    | (have hj : y0.val = 1 := ha; have hk : y1.val = 1408 + l.val := hn.trans (by omega); refine (gate_tap1 m c t 1408 l _ y0 y1 hj hk (by omega)).trans (congrArg (· + _) ?_))
    | (have hj : y0.val = 2 := ha; have hk : y1.val = 0 + l.val := hn.trans (by omega); refine (gate_tap2 m c t 0 l _ y0 y1 hj hk (by omega)).trans (congrArg (· + _) ?_))
    | (have hj : y0.val = 2 := ha; have hk : y1.val = 1408 + l.val := hn.trans (by omega); refine (gate_tap2 m c t 1408 l _ y0 y1 hj hk (by omega)).trans (congrArg (· + _) ?_))
    | (have hj : y0.val = 3 := ha; have hk : y1.val = 0 + l.val := hn.trans (by omega); refine (gate_tap3 m c t 0 l _ y0 y1 hj hk (by omega)).trans (congrArg (· + _) ?_))
    | (have hj : y0.val = 3 := ha; have hk : y1.val = 1408 + l.val := hn.trans (by omega); refine (gate_tap3 m c t 1408 l _ y0 y1 hj hk (by omega)).trans (congrArg (· + _) ?_))
    | (have hj : y0.val = 0 := ha; have hk : y1.val = 2816 + (0 + l.val) := hn.trans (by omega); refine (up_tap0 m c t 0 l _ y0 y1 hj hk (by omega)).trans (congrArg (· + _) ?_))
    | (have hj : y0.val = 0 := ha; have hk : y1.val = 2816 + (1408 + l.val) := hn.trans (by omega); refine (up_tap0 m c t 1408 l _ y0 y1 hj hk (by omega)).trans (congrArg (· + _) ?_))
    | (have hj : y0.val = 1 := ha; have hk : y1.val = 2816 + (0 + l.val) := hn.trans (by omega); refine (up_tap1 m c t 0 l _ y0 y1 hj hk (by omega)).trans (congrArg (· + _) ?_))
    | (have hj : y0.val = 1 := ha; have hk : y1.val = 2816 + (1408 + l.val) := hn.trans (by omega); refine (up_tap1 m c t 1408 l _ y0 y1 hj hk (by omega)).trans (congrArg (· + _) ?_))
    | (have hj : y0.val = 2 := ha; have hk : y1.val = 2816 + (0 + l.val) := hn.trans (by omega); refine (up_tap2 m c t 0 l _ y0 y1 hj hk (by omega)).trans (congrArg (· + _) ?_))
    | (have hj : y0.val = 2 := ha; have hk : y1.val = 2816 + (1408 + l.val) := hn.trans (by omega); refine (up_tap2 m c t 1408 l _ y0 y1 hj hk (by omega)).trans (congrArg (· + _) ?_))
    | (have hj : y0.val = 3 := ha; have hk : y1.val = 2816 + (0 + l.val) := hn.trans (by omega); refine (up_tap3 m c t 0 l _ y0 y1 hj hk (by omega)).trans (congrArg (· + _) ?_))
    | (have hj : y0.val = 3 := ha; have hk : y1.val = 2816 + (1408 + l.val) := hn.trans (by omega); refine (up_tap3 m c t 1408 l _ y0 y1 hj hk (by omega)).trans (congrArg (· + _) ?_))
  all_goals pointwise
  all_goals blk_ext

set_option maxHeartbeats 1600000 in
/-- The second result's array. -/
theorem final11 (c : Dev nD) : (dats m 0 c).arrAt 11 (cfgs 0).N = resGw m c := by
  refine (dats m 0 c).arrAt_eq_of_covers 11 _ (by decide +kernel) fun t hf y => ?_
  idx_vars y
  have he : ((cfg0.win 11).blk t).view.emb (ix2 y0 y1) = ix2 y0 y1 := by
    blk_ext [(idx t).2.2.2.2.2.2.2.2.2.2.2]
  have hf' := (flush0_11 t).mp hf
  have ht : t.val < 32 := t.isLt
  blk_simp
  refine Eq.trans ?_ (congrArg (resGw m c) he).symm
  rw [after0_11, Pipeline.eq_sum_fin_of_reset_step_apply_of_flush (fun n h => (outsAt0 m c n h).2) 32 (fun _ => 0) (term m c)
    (fun t h j => acc_first m c t h j) (fun t h j => acc_step m c t h j) t hf' _]
  change (0 : EReal) + ∑ s : Fin 32, term m c _ (ix2 y0 y1) = _
  rw [zero_add]
  unfold resGw
  rw [Fin.sum_univ_tiles 32 256 rfl]
  refine Finset.sum_congr rfl fun s _ => ?_
  unfold term
  refine Finset.sum_congr rfl fun r _ => ?_
  have hs : 256 * (32 * (t.val / 32) + s.val) + r.val = s.val * 256 + r.val := by omega
  congr 1 <;> exact Fin.ext hs

end Cert.GateIdeal.Point
end
-- ==== Proof.GateReal.lean ====
module

public import proofs.«01_k».proof.Proof.GateSpec

@[expose] public section

noncomputable section

/-! The gate's gradient as the chain rule writes it, and that it is the folded form's value at real numbers. -/

namespace Cert.GateSpec

open Idealize.ShloMosaic

/-- The hyperbolic tangent inside the gate's function as the reference writes it. -/
def thChain (x : EReal) : EReal :=
  Ideal.tanh (Ideal.ofBits .f32 0x3F4C422A#32 * (x + Ideal.ofBits .f32 0x3D372713#32 * (x * x * x)))

/-- The part of the gradient that passes through the hyperbolic tangent. -/
def inner (x g : EReal) : EReal :=
  Ideal.ofBits .f32 0x3F4C422A#32 * (Ideal.ofBits .f32 0x3F000000#32 * (x * g) * ((1 + thChain x) * (1 - thChain x)))

/-- The gradient of the gate's input as the chain rule writes it. -/
def gateChain (x u f : EReal) : EReal :=
  f * u * (Ideal.ofBits .f32 0x3F000000#32 * (1 + thChain x)) + inner x (f * u)
    + Ideal.ofBits .f32 0x3D372713#32 * inner x (f * u) * (Ideal.ofBits .f32 0x40400000#32 * (x * x))

/-- The gradient of the value beside the gate as the chain rule writes it. -/
def upChain (x f : EReal) : EReal := x * (Ideal.ofBits .f32 0x3F000000#32 * (1 + thChain x)) * f

/-- The gradient of the convolution's result as the chain rule writes it. -/
def dcChain (c : Fin 8192 → Fin 5632 → EReal) (f : Fin 8192 → Fin 2816 → EReal) (s : Fin 8192) (k : Fin 5632) : EReal :=
  if h : k.val < 2816 then gateChain (c s k) (c s ⟨k.val + 2816, by omega⟩) (f s ⟨k.val, h⟩)
  else upChain (c s ⟨k.val - 2816, by omega⟩) (f s ⟨k.val - 2816, by omega⟩)

theorem const_half : Ideal.ofBits .f32 0x3F000000#32 = ((1 / 2 : ℝ) : EReal) := by
  simp [Ideal.ofBits, Ideal.ieee, -EReal.coe_mul]
  norm_num

theorem const_one : Ideal.ofBits .f32 0x3F800000#32 = ((1 : ℝ) : EReal) := by
  simp [Ideal.ofBits, Ideal.ieee, -EReal.coe_mul]
  norm_num

theorem const_three : Ideal.ofBits .f32 0x40400000#32 = ((3 : ℝ) : EReal) := by
  simp [Ideal.ofBits, Ideal.ieee, -EReal.coe_mul]
  norm_num

theorem const_k0 : Ideal.ofBits .f32 0x3F4C422A#32 = ((6693141 / 8388608 : ℝ) : EReal) := by
  simp [Ideal.ofBits, Ideal.ieee, -EReal.coe_mul]
  norm_num

theorem const_k1 : Ideal.ofBits .f32 0x3D372713#32 = ((12003091 / 268435456 : ℝ) : EReal) := by
  simp [Ideal.ofBits, Ideal.ieee, -EReal.coe_mul]
  norm_num

/-- The folded factor is the product of the two factors it folds. -/
theorem folded : (80338380498831 / 2251799813685248 : ℝ) = 6693141 / 8388608 * (12003091 / 268435456) := by norm_num

/-- The folded form of the hyperbolic tangent's argument at a real number. -/
theorem th_coe (x : ℝ) : th ((80338380498831 / 2251799813685248 : ℝ) : EReal) x
    = ((Real.tanh (6693141 / 8388608 * (x + 12003091 / 268435456 * (x * x * x))) : ℝ) : EReal) := by
  rw [th, const_k0, folded]
  norm_cast
  rw [Ideal.tanh_coe]
  congr 2
  ring

/-- The chain rule's hyperbolic tangent at a real number. -/
theorem thChain_coe (x : ℝ) : thChain x
    = ((Real.tanh (6693141 / 8388608 * (x + 12003091 / 268435456 * (x * x * x))) : ℝ) : EReal) := by
  rw [thChain, const_k0, const_k1]
  norm_cast

/-- The two forms of the gate's gradient agree at real numbers. -/
theorem gate_eq (x u f : ℝ) : dgate ((80338380498831 / 2251799813685248 : ℝ) : EReal) ((241015141496493 / 2251799813685248 : ℝ) : EReal) x u f
    = gateChain x u f := by
  have h3 : (241015141496493 / 2251799813685248 : ℝ) = 3 * (6693141 / 8388608 * (12003091 / 268435456)) := by norm_num
  rw [dgate, gateChain, inner, th_coe, thChain_coe, const_half, const_one, const_three, const_k0, const_k1, h3,
    ← EReal.coe_one]
  generalize Real.tanh _ = t
  simp only [← EReal.coe_mul, ← EReal.coe_add, ← EReal.coe_sub]
  refine congrArg _ ?_
  ring

/-- The two forms of the value's gradient agree at real numbers. -/
theorem up_eq (x f : ℝ) : dup ((80338380498831 / 2251799813685248 : ℝ) : EReal) x f = upChain x f := by
  rw [dup, upChain, th_coe, thChain_coe, const_half, ← EReal.coe_one]
  generalize Real.tanh _ = t
  simp only [← EReal.coe_mul, ← EReal.coe_add]
  refine congrArg _ ?_
  ring

/-- A sum of real numbers is a real number. -/
theorem sum_real {ι : Type} [Fintype ι] (g : ι → EReal) (h : ∀ i, ∃ r : ℝ, g i = r) : ∃ r : ℝ, ∑ i, g i = r := by
  refine Finset.sum_induction g (fun x => ∃ r : ℝ, x = r) (fun x y hx hy => ?_) ⟨0, rfl⟩ fun i _ => h i
  obtain ⟨a, rfl⟩ := hx
  obtain ⟨b, rfl⟩ := hy
  exact ⟨a + b, (EReal.coe_add a b).symm⟩

/-- The gradient that reaches the gated product is real where its operands are. -/
theorem df_real (dx : Fin 8192 → Fin 1024 → EReal) (w : Fin 2816 → Fin 1024 → EReal) (hx : ∀ s n, ∃ r : ℝ, dx s n = r)
    (hw : ∀ j n, ∃ r : ℝ, w j n = r) (s : Fin 8192) (j : Fin 2816) : ∃ r : ℝ, df dx w s j = r := by
  refine sum_real _ fun n => ?_
  obtain ⟨p, hp⟩ := hx s n
  obtain ⟨q, hq⟩ := hw j n
  exact ⟨p * q, by rw [hp, hq, EReal.coe_mul]⟩

/-- A row back is real where the rows are. -/
theorem rowBack_real (a : Fin 8192 → Fin 5632 → EReal) (ha : ∀ s k, ∃ r : ℝ, a s k = r) (s : Fin 8192) (e : ℕ) (k : Fin 5632) :
    ∃ r : ℝ, rowBack a s e k = r := by
  unfold rowBack
  split
  · exact ha _ _
  · exact ⟨0, rfl⟩

/-- The convolution is real where its operands are. -/
theorem conv_real (a : Fin 8192 → Fin 5632 → EReal) (w : Fin 3 → Fin 5632 → EReal) (b : Fin 5632 → EReal)
    (ha : ∀ s k, ∃ r : ℝ, a s k = r) (hw : ∀ i k, ∃ r : ℝ, w i k = r) (hb : ∀ k, ∃ r : ℝ, b k = r) (s : Fin 8192) (k : Fin 5632) :
    ∃ r : ℝ, conv a w b s k = r := by
  obtain ⟨a0, h0⟩ := ha s k
  obtain ⟨a1, h1⟩ := rowBack_real a ha s 1 k
  obtain ⟨a2, h2⟩ := rowBack_real a ha s 2 k
  obtain ⟨w0, g0⟩ := hw 0 k
  obtain ⟨w1, g1⟩ := hw 1 k
  obtain ⟨w2, g2⟩ := hw 2 k
  obtain ⟨b0, hb0⟩ := hb k
  exact ⟨w2 * a0 + w1 * a1 + w0 * a2 + b0, by rw [conv, h0, h1, h2, g0, g1, g2, hb0]; norm_cast⟩

/-- The folded form of the gradient is the chain rule's where its operands are real. -/
theorem dc_eq (c : Fin 8192 → Fin 5632 → EReal) (f : Fin 8192 → Fin 2816 → EReal) (hc : ∀ s k, ∃ r : ℝ, c s k = r)
    (hf : ∀ s j, ∃ r : ℝ, f s j = r) (s : Fin 8192) (k : Fin 5632) :
    dc ((80338380498831 / 2251799813685248 : ℝ) : EReal) ((241015141496493 / 2251799813685248 : ℝ) : EReal) c f s k = dcChain c f s k := by
  unfold dc dcChain
  split
  · rename_i h
    obtain ⟨x, hx⟩ := hc s k
    obtain ⟨u, hu⟩ := hc s ⟨k.val + 2816, by omega⟩
    obtain ⟨p, hp⟩ := hf s ⟨k.val, h⟩
    rw [hx, hu, hp, gate_eq]
  · rename_i h
    obtain ⟨x, hx⟩ := hc s ⟨k.val - 2816, by omega⟩
    obtain ⟨p, hp⟩ := hf s ⟨k.val - 2816, by omega⟩
    rw [hx, hp, up_eq]

end Cert.GateSpec

end
-- ==== Proof.GateRef.lean ====
module

public import proofs.«01_k».proof.Proof.Gen.GateRefIdeal.Read
public import proofs.«01_k».proof.Proof.GateReal

@[expose] public section

set_option maxRecDepth 16384

noncomputable section

namespace Cert.GateRefIdeal.Point

open Cert.GateRefIdeal Cert.GateRefIdeal.Read Idealize.ShloMosaic Idealize.ShloMosaic.TcCoe Idealize.SL.Sem

variable (x0 : Vec Ideal S8192x5632 .f32) (x1 : Vec Ideal S8192x1024 .f32) (x2 : Vec Ideal S2816x1024 .bf16)
  (x3 : Vec Ideal S3x5632 .f32) (x4 : Vec Ideal S1x5632 .f32)

/-- The reference's rows, two back. -/
theorem ref2 (s : Fin 8192) (k : Fin 5632) : val_main_v2 (F := Ideal) x0 (ix2 s k) = GateSpec.rowBack (fun s k => x0 (ix2 s k)) s 2 k := by
  pointwise [val_main_v2, val_main_v1, val_main_v0, val_main_cst, GateSpec.rowBack]
  by_cases h : s.val < 2
  · rw [dif_pos h, dif_neg (by omega)]
  · rw [dif_neg h, dif_pos (by omega)]

/-- The reference's rows, one back. -/
theorem ref8 (s : Fin 8192) (k : Fin 5632) : val_main_v8 (F := Ideal) x0 (ix2 s k) = GateSpec.rowBack (fun s k => x0 (ix2 s k)) s 1 k := by
  pointwise [val_main_v8, val_main_v1, val_main_v0, val_main_cst, GateSpec.rowBack]
  by_cases h : s.val < 1
  · rw [dif_pos (by omega), dif_neg (by omega)]
  · rw [dif_neg (by omega), dif_pos (by omega)]
    exact congrArg (fun a => x0 (ix2 a k)) (Fin.ext (show 1 + s.val - 2 = s.val - 1 by omega))

/-- The reference's rows. -/
theorem ref15 (s : Fin 8192) (k : Fin 5632) : val_main_v15 (F := Ideal) x0 (ix2 s k) = GateSpec.rowBack (fun s k => x0 (ix2 s k)) s 0 k := by
  pointwise [val_main_v15, val_main_v1, val_main_v0, val_main_cst, GateSpec.rowBack]

/-- The convolution in the reference. -/
theorem ref23 (s : Fin 8192) (k : Fin 5632) : val_main_v23 (F := Ideal) x0 x3 x4 (ix2 s k)
    = GateSpec.conv (fun s k => x0 (ix2 s k)) (fun i k => x3 (ix2 i k)) (fun k => x4 (ix2 0 k)) s k := by
  have : val_main_v23 (F := Ideal) x0 x3 x4 (ix2 s k) = val_main_v2 (F := Ideal) x0 (ix2 s k) * x3 (ix2 0 k)
      + val_main_v8 (F := Ideal) x0 (ix2 s k) * x3 (ix2 1 k) + val_main_v15 (F := Ideal) x0 (ix2 s k) * x3 (ix2 2 k) + x4 (ix2 0 k) := by
    pointwise [val_main_v23, val_main_v22, val_main_v21, val_main_v20, val_main_v19, val_main_v18, val_main_v17, val_main_v16,
      val_main_v14, val_main_v13, val_main_v12, val_main_v11, val_main_v10, val_main_v9, val_main_v7, val_main_v6, val_main_v5,
      val_main_v4, val_main_v3]
  rw [this, ref2, ref8, ref15, GateSpec.rowBack_zero, GateSpec.conv]
  rw [mul_comm (x3 (ix2 2 k)), mul_comm (x3 (ix2 1 k)), mul_comm (x3 (ix2 0 k))]
  abel

/-- The gradient that reaches the gated product in the reference. -/
theorem ref50 (s : Fin 8192) (j : Fin 2816) : val_main_v50 (F := Ideal) x1 x2 (ix2 s j)
    = GateSpec.df (fun s n => x1 (ix2 s n)) (fun j n => x2 (ix2 j n)) s j := by
  pointwise [val_main_v50, val_main_v24, GateSpec.df]

/-- The gate's gradient in the reference. -/
theorem ref64 (s : Fin 8192) (j : Fin 2816) : val_main_v64 (F := Ideal) x0 x1 x2 x3 x4 (ix2 s j)
    = GateSpec.gateChain (val_main_v23 (F := Ideal) x0 x3 x4 (ix2 s ⟨j.val, by omega⟩))
        (val_main_v23 (F := Ideal) x0 x3 x4 (ix2 s ⟨2816 + j.val, by omega⟩)) (val_main_v50 (F := Ideal) x1 x2 (ix2 s j)) := by
  unfold GateSpec.gateChain GateSpec.inner GateSpec.thChain
  pointwise [val_main_v64, val_main_v63, val_main_v62, val_main_v61, val_main_v60, val_main_v59, val_main_v58, val_main_v57,
    val_main_v56, val_main_v55, val_main_v54, val_main_v53, val_main_v52, val_main_v46, val_main_v45, val_main_v44, val_main_v43,
    val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25,
    val_main_cst_0, val_main_cst_1, val_main_cst_2, val_main_cst_3, val_main_cst_4, val_main_cst_5, val_main_cst_6, val_main_cst_7,
    val_main_cst_8, val_main_cst_9]

/-- The value's gradient in the reference. -/
theorem ref51 (s : Fin 8192) (j : Fin 2816) : val_main_v51 (F := Ideal) x0 x1 x2 x3 x4 (ix2 s j)
    = GateSpec.upChain (val_main_v23 (F := Ideal) x0 x3 x4 (ix2 s ⟨j.val, by omega⟩)) (val_main_v50 (F := Ideal) x1 x2 (ix2 s j)) := by
  unfold GateSpec.upChain GateSpec.thChain
  pointwise [val_main_v51, val_main_v47, val_main_v46, val_main_v45, val_main_v44, val_main_v43,
    val_main_v37, val_main_v36, val_main_v35, val_main_v34, val_main_v33, val_main_v32, val_main_v28, val_main_v27, val_main_v25,
    val_main_cst_1, val_main_cst_2, val_main_cst_5, val_main_cst_6]

/-- The first result of the reference. -/
theorem ref65 (s : Fin 8192) (k : Fin 5632) : val_main_v65 (F := Ideal) x0 x1 x2 x3 x4 (ix2 s k)
    = GateSpec.dcChain (GateSpec.conv (fun s k => x0 (ix2 s k)) (fun i k => x3 (ix2 i k)) (fun k => x4 (ix2 0 k)))
        (GateSpec.df (fun s n => x1 (ix2 s n)) (fun j n => x2 (ix2 j n))) s k := by
  unfold GateSpec.dcChain
  simp only [← ref23, ← ref50]
  have hk := k.isLt
  by_cases h : k.val < 2816
  · rw [dif_pos h]
    refine Eq.trans (?_ : _ = val_main_v64 (F := Ideal) x0 x1 x2 x3 x4 (ix2 s ⟨k.val, h⟩)) ?_
    · pointwise [val_main_v65]
      exact dif_pos h
    · rw [ref64]
      congr 1
      exact congrArg (fun a => val_main_v23 (F := Ideal) x0 x3 x4 (ix2 s a)) (Fin.ext (by show 2816 + k.val = k.val + 2816; omega))
  · rw [dif_neg h]
    refine Eq.trans (?_ : _ = val_main_v51 (F := Ideal) x0 x1 x2 x3 x4 (ix2 s ⟨k.val - 2816, by omega⟩)) ?_
    · pointwise [val_main_v65]
      exact dif_neg h
    · rw [ref51]

/-- The second result of the reference. -/
theorem ref89 (a : Fin 8) (k : Fin 5632) : val_main_v89 (F := Ideal) x0 x1 x2 x3 x4 (ix2 a k)
    = ∑ s, GateSpec.tapGrad (fun s k => val_main_v65 (F := Ideal) x0 x1 x2 x3 x4 (ix2 s k)) (fun s k => x0 (ix2 s k)) s a.val k := by
  unfold GateSpec.tapGrad
  pointwise [val_main_v89, val_main_v88, val_main_v87, val_main_v86, val_main_v85, val_main_v84, val_main_v83, val_main_v82, val_main_v81,
    val_main_v80, val_main_v79, val_main_v78, val_main_v77, val_main_v76, val_main_v75, val_main_v74, val_main_v73, val_main_v72,
    val_main_v71, val_main_v70, val_main_v69, val_main_v68, val_main_v67, val_main_v66, val_main_cst_10, val_main_cst_11,
    val_main_cst_12, val_main_cst_13, val_main_cst_14, val_main_cst_15, val_main_cst_16, val_main_cst_17, val_main_cst_18,
    val_main_cst_19, val_main_cst_20]
  have hc : ∀ (f g : Fin 8192 → EReal), ∑ x, f x * g x = ∑ x, g x * f x := fun f g => Finset.sum_congr rfl fun x _ => mul_comm _ _
  have h0 : a.val = 0 ∨ a.val = 1 ∨ a.val = 2 ∨ a.val = 3 ∨ 3 < a.val := by omega
  rcases h0 with h | h | h | h | h
  · simp only [h, ref2, Fin.sum_univ_one]
    norm_num
    exact hc _ _
  · simp only [h, ref8, Fin.sum_univ_one]
    norm_num
    exact hc _ _
  · simp only [h, ref15, Fin.sum_univ_one]
    norm_num
    exact hc _ _
  · simp only [h]
    norm_num
  · rw [dif_neg (show ¬ a.val < 3 by omega), dif_neg (show ¬ a.val - 3 < 1 by omega)]
    exact (Finset.sum_eq_zero fun x _ => (if_neg (show ¬ a.val < 3 by omega)).trans (if_neg (show ¬ a.val = 3 by omega))).symm

end Cert.GateRefIdeal.Point
end
-- ==== Proof.GateClaim.lean ====
module

public import proofs.«01_k».proof.Defs
public import proofs.«01_k».proof.Proof.GateTaps
public import proofs.«01_k».proof.Proof.GateRef
public import proofs.«01_k».proof.Proof.Gen.GateRefIdeal.Run

@[expose] public section

namespace Cert.Proof

open Idealize.ShloMosaic Idealize.ShloMosaic.TcCoe Idealize.SL.Sem

/-- The word of infinity. -/
theorem const_inf : Ideal.ofBits .f32 0x7F800000#32 = ⊤ := by
  simp [Ideal.ofBits, Ideal.ieee]

/-- A value whose absolute value is below infinity is a real number. -/
theorem real_of_lt (a : EReal) (h : (FloatOps.cmpf (F := Ideal) (φ := .f32) .olt (max a (-a)) (Ideal.ofBits .f32 0x7F800000#32)) = 1#1) :
    ∃ r : ℝ, a = r := by
  rw [const_inf] at h
  induction a with
  | bot => simp [FloatOps.cmpf, Ideal.cmp] at h
  | coe r => exact ⟨r, rfl⟩
  | top => simp [FloatOps.cmpf, Ideal.cmp] at h

/-- Under the precondition every argument's elements are real numbers. -/
theorem gate_args_real [hPre : Cert.Pre_finite.Facts] (m : (ℓ : Loc Cert.GateIdeal.nD Cert.GateIdeal.τ Cert.GateIdeal.sig) → Buf (Elt Ideal) ℓ)
    (h : Cert.Pre_GateIdeal_finite m) (c : Dev Cert.GateIdeal.nD) :
    (∀ s k, ∃ r : ℝ, Cert.GateIdeal.Point.argA m c s k = r) ∧ (∀ s k, ∃ r : ℝ, Cert.GateIdeal.Point.argX m c s k = r)
      ∧ (∀ s k, ∃ r : ℝ, Cert.GateIdeal.Point.argW m c s k = r) ∧ (∀ s k, ∃ r : ℝ, Cert.GateIdeal.Point.argC m c s k = r)
      ∧ (∀ k, ∃ r : ℝ, Cert.GateIdeal.Point.argB m c k = r) := by
  obtain ⟨h0, h1, h2, h3, h4⟩ := h c
  refine ⟨fun s k => real_of_lt _ ?_, fun s k => real_of_lt _ ?_, fun s k => real_of_lt _ ?_, fun s k => real_of_lt _ ?_, fun k => real_of_lt _ ?_⟩
  · exact congrFun h0 (ix2 s k)
  · exact congrFun h1 (ix2 s k)
  · exact congrFun h2 (ix2 s k)
  · exact congrFun h3 (ix2 s k)
  · exact congrFun h4 (ix2 0 k)

/-- The named constants' values. -/
theorem gate_q1 : Cert.GateIdeal.Point.q1 = ((80338380498831 / 2251799813685248 : ℝ) : EReal) := by
  exact (IdealRules.named_const.statement Cert.GateIdeal.κ "k0k1" .f32 0x3D122279#32 _ rfl).2.2

/-- The named constants' values. -/
theorem gate_q3 : Cert.GateIdeal.Point.q3 = ((241015141496493 / 2251799813685248 : ℝ) : EReal) := by
  exact (IdealRules.named_const.statement Cert.GateIdeal.κ "k0k1x3" .f32 0x3DDB33B6#32 _ rfl).2.2

/-- Under the precondition the kernel's gradient of the convolution's result is the chain rule's. -/
theorem gate_resD [hPre : Cert.Pre_finite.Facts] (m : (ℓ : Loc Cert.GateIdeal.nD Cert.GateIdeal.τ Cert.GateIdeal.sig) → Buf (Elt Ideal) ℓ)
    (h : Cert.Pre_GateIdeal_finite m) (c : Dev Cert.GateIdeal.nD) (s : Fin 8192) (k : Fin 5632) :
    Cert.GateIdeal.Point.resD m c s k
      = GateSpec.dcChain (Cert.GateIdeal.Point.resC m c) (Cert.GateIdeal.Point.resF m c) s k := by
  obtain ⟨h0, h1, h2, h3, h4⟩ := gate_args_real m h c
  rw [Cert.GateIdeal.Point.resD, gate_q1, gate_q3]
  exact GateSpec.dc_eq _ _ (fun s k => GateSpec.conv_real _ _ _ h0 h3 h4 s k) (fun s j => GateSpec.df_real _ _ h1 h2 s j) s k

/-- The gate's gradient call and the derivative of the reference's lines compute the same two arrays from real arguments. -/
theorem algebraic_gate [hPre : Cert.Pre_finite.Facts] : Cert.algebraic_GateIdeal_GateRefIdeal_pre_finite := by
  intro m g m' g' hpre hagree
  refine ⟨Cert.GateIdeal.Point.resDc m, Cert.GateIdeal.Point.resGw m, ?_, ?_⟩
  · refine (θ_run _ _ _).mono (fun r h c => ?_) (Cert.GateIdeal.Value.run_blocks m g)
    obtain ⟨h10, h11, ha⟩ := h c
    exact ⟨h10.trans (Cert.GateIdeal.Point.final10 m c), h11.trans (Cert.GateIdeal.Point.final11 m c), ha⟩
  · refine (θ_run _ _ _).mono (fun r h c => ?_) (Cert.GateRefIdeal.Value.run m' g')
    obtain ⟨h65, h89, ha⟩ := h c
    obtain ⟨e0, e1, e2, e3, e4⟩ := hagree c
    refine ⟨h65.trans ?_, h89.trans ?_, ha⟩
    · rw [Cert.GateRefIdeal.Read.val_main_v65_eq]
      change Cert.GateRefIdeal.Read.val_main_v65 (F := Ideal) (m' ((c.tc : Thread Cert.GateRefIdeal.nD Cert.GateRefIdeal.τ).loc Cert.GateRefIdeal.main_arg0))
        (m' ((c.tc : Thread Cert.GateRefIdeal.nD Cert.GateRefIdeal.τ).loc Cert.GateRefIdeal.main_arg1))
        (m' ((c.tc : Thread Cert.GateRefIdeal.nD Cert.GateRefIdeal.τ).loc Cert.GateRefIdeal.main_arg2))
        (m' ((c.tc : Thread Cert.GateRefIdeal.nD Cert.GateRefIdeal.τ).loc Cert.GateRefIdeal.main_arg3))
        (m' ((c.tc : Thread Cert.GateRefIdeal.nD Cert.GateRefIdeal.τ).loc Cert.GateRefIdeal.main_arg4)) = _
      rw [e0, e1, e2, e3, e4]
      funext j
      idx_vars j
      rw [Cert.GateRefIdeal.Point.ref65]
      exact (gate_resD m hpre c j0 j1).symm
    · rw [Cert.GateRefIdeal.Read.val_main_v89_eq]
      change Cert.GateRefIdeal.Read.val_main_v89 (F := Ideal) (m' ((c.tc : Thread Cert.GateRefIdeal.nD Cert.GateRefIdeal.τ).loc Cert.GateRefIdeal.main_arg0))
        (m' ((c.tc : Thread Cert.GateRefIdeal.nD Cert.GateRefIdeal.τ).loc Cert.GateRefIdeal.main_arg1))
        (m' ((c.tc : Thread Cert.GateRefIdeal.nD Cert.GateRefIdeal.τ).loc Cert.GateRefIdeal.main_arg2))
        (m' ((c.tc : Thread Cert.GateRefIdeal.nD Cert.GateRefIdeal.τ).loc Cert.GateRefIdeal.main_arg3))
        (m' ((c.tc : Thread Cert.GateRefIdeal.nD Cert.GateRefIdeal.τ).loc Cert.GateRefIdeal.main_arg4)) = _
      rw [e0, e1, e2, e3, e4]
      funext j
      idx_vars j
      rw [Cert.GateRefIdeal.Point.ref89]
      simp only [Cert.GateRefIdeal.Point.ref65]
      unfold Cert.GateIdeal.Point.resGw
      refine Finset.sum_congr rfl fun s _ => ?_
      rw [show Cert.GateIdeal.Point.resD m c = GateSpec.dcChain (Cert.GateIdeal.Point.resC m c) (Cert.GateIdeal.Point.resF m c) from
        funext fun s => funext fun k => gate_resD m hpre c s k]
      rfl

end Cert.Proof
end
-- ==== Proof.UpSpec.lean ====
module

public import Idealize.ShloMosaic.Lib.Pipeline.ValueKit

@[expose] public section

noncomputable section

/-! The values of the normed up-projection's gradient, over the extended reals: one function of the
argument arrays for each result. -/

namespace Cert.UpSpec

open Idealize.ShloMosaic

/-- Row `n` of an array of 8192 rows, zero past its end. -/
def rowOr0 (dc : Fin 8192 → Fin 5632 → EReal) (n : ℕ) (k : Fin 5632) : EReal :=
  if h : n < 8192 then dc ⟨n, h⟩ k else 0

/-- The gradient of the causal convolution's input: each row meets tap 2 at itself, tap 1 at the row
after it and tap 0 two rows after it. -/
def da (dc : Fin 8192 → Fin 5632 → EReal) (cw : Fin 3 → Fin 5632 → EReal) (s : Fin 8192) (k : Fin 5632) : EReal :=
  cw 2 k * dc s k + cw 1 k * rowOr0 dc (s.val + 1) k + cw 0 k * rowOr0 dc (s.val + 2) k

/-- The gradient of the normed rows: the product with the transposed weights. -/
def dh (a : Fin 8192 → Fin 5632 → EReal) (w : Fin 1024 → Fin 5632 → EReal) (s : Fin 8192) (n : Fin 1024) : EReal :=
  ∑ k, a s k * w n k

/-- The reciprocal root mean square of a row. -/
def rstd (x : Fin 1024 → EReal) : EReal :=
  Ideal.rsqrt (Ideal.div (∑ n, x n * x n) (Ideal.ofBits .f32 0x44800000#32) + Ideal.ofBits .f32 0x358637BD#32)

/-- The gradient of the norm's input, in the form a kernel computes it: `r·h − x·r³·mean(h·x)` for
the scaled gradient `h` of the row `x` and its reciprocal root mean square `r`. -/
def normGrad (x h : Fin 1024 → EReal) (n : Fin 1024) : EReal :=
  rstd x * h n - x n * (rstd x * rstd x * rstd x) * Ideal.div (∑ j, h j * x j) (Ideal.ofBits .f32 0x44800000#32)

/-- One row's contribution to the gradient of the norm's scale. -/
def scaleGrad (x h : Fin 1024 → EReal) (n : Fin 1024) : EReal := h n * x n * rstd x

end Cert.UpSpec

end
-- ==== Proof.UpPieces.lean ====
module

public import proofs.«01_k».proof.Proof.Gen.UpIdeal.Value
public import proofs.«01_k».proof.Proof.UpSpec
public import Idealize.ShloMosaic.Lib.WordCmp

@[expose] public section

set_option maxRecDepth 16384

noncomputable section

namespace Cert.UpIdeal.Point

open Cert.UpIdeal Cert.UpIdeal.Gen Idealize.ShloMosaic Idealize.ShloMosaic.TcCoe Idealize.SL.Sem

/-- A choice by an equation of small numbers written as words. -/
theorem select_ofNat {α : Type} (a b : ℕ) (ha : a < 2 ^ 32) (hb : b < 2 ^ 32) (x y : α) :
    Scalar.select (IntOp.cmpi .eq (BitVec.ofNat 32 a) (BitVec.ofNat 32 b)) x y = if a = b then x else y := by
  rw [WordCmp.cmpi_eq_ofNat ha hb]
  by_cases h : a = b <;> simp [Scalar.select, h]

/-- The transposed convolution of one block of 1408 columns: from the two rows that follow the
block, the block itself and the taps 2, 1 and 0. The flag `z` tells the last block. -/
def piece (z : BitVec 1) (n0 n1 : Vec Ideal S1x1408 .f32) (d : Vec Ideal S256x1408 .f32)
    (w2 w1 w0 : Vec Ideal S1x1408 .f32) : FVec Ideal S256x1408 .bf16 :=
  k0_pay11 d (k0_pay9 z (iota Kind.tc S8x1408 32 [0] iota_S8x1408_d0_w32) n0 d)
    (k0_pay10 z (iota Kind.tc S8x1408 32 [0] iota_S8x1408_d0_w32) n0 n1 d) w2 w1 w0

/-- The rows of a block, then the row `n0` and the row `n1`, both zero at the last block. -/
def follow (z : BitVec 1) (n0 n1 : Vec Ideal S1x1408 .f32) (d : Vec Ideal S256x1408 .f32) (r : ℕ) (l : Fin 1408) : EReal :=
  if h : r < 256 then d (ix2 ⟨r, h⟩ l) else Scalar.select z 0 (if r = 256 then n0 (ix2 0 l) else n1 (ix2 0 l))

/-- The block moved up by one row. -/
theorem pay9_apply (z : BitVec 1) (n0 n1 : Vec Ideal S1x1408 .f32) (d : Vec Ideal S256x1408 .f32) (r : Fin 256) (l : Fin 1408) :
    k0_pay9 z (iota Kind.tc S8x1408 32 [0] iota_S8x1408_d0_w32) n0 d (ix2 r l) = follow z n0 n1 d (r.val + 1) l := by
  pointwise [k0_pay9, k0_pay8]
  unfold follow
  by_cases hr : r.val < 248
  · rw [dif_pos hr, dif_pos (by omega)]
    exact congrArg (fun a => d (ix2 a l)) (Fin.ext (show (r.val + 256 - 255) % 256 = r.val + 1 by omega))
  · rw [dif_neg hr, select_ofNat _ 7 (by omega) (by norm_num)]
    by_cases h7 : r.val - 248 = 7
    · rw [if_pos h7, dif_neg (by omega), if_pos (show r.val + 1 = 256 by omega)]
    · rw [if_neg h7, dif_pos (by omega)]
      exact congrArg (fun a => d (ix2 a l)) (Fin.ext (show (248 + (r.val - 248) + 256 - 255) % 256 = r.val + 1 by omega))

/-- The block moved up by two rows. -/
theorem pay10_apply (z : BitVec 1) (n0 n1 : Vec Ideal S1x1408 .f32) (d : Vec Ideal S256x1408 .f32) (r : Fin 256) (l : Fin 1408) :
    k0_pay10 z (iota Kind.tc S8x1408 32 [0] iota_S8x1408_d0_w32) n0 n1 d (ix2 r l) = follow z n0 n1 d (r.val + 2) l := by
  pointwise [k0_pay10, k0_pay8]
  unfold follow
  by_cases hr : r.val < 248
  · rw [dif_pos hr, dif_pos (by omega)]
    exact congrArg (fun a => d (ix2 a l)) (Fin.ext (show (r.val + 256 - 254) % 256 = r.val + 2 by omega))
  · rw [dif_neg hr, select_ofNat _ 7 (by omega) (by norm_num), select_ofNat _ 6 (by omega) (by norm_num)]
    by_cases h7 : r.val - 248 = 7
    · rw [if_pos h7, dif_neg (by omega), if_neg (show ¬ r.val + 2 = 256 by omega)]
    · rw [if_neg h7]
      by_cases h6 : r.val - 248 = 6
      · rw [if_pos h6, dif_neg (by omega), if_pos (show r.val + 2 = 256 by omega)]
      · rw [if_neg h6, dif_pos (by omega)]
        exact congrArg (fun a => d (ix2 a l)) (Fin.ext (show (248 + (r.val - 248) + 256 - 254) % 256 = r.val + 2 by omega))

/-- One entry of a block of the transposed convolution. -/
theorem piece_apply (z : BitVec 1) (n0 n1 : Vec Ideal S1x1408 .f32) (d : Vec Ideal S256x1408 .f32)
    (w2 w1 w0 : Vec Ideal S1x1408 .f32) (r : Fin 256) (l : Fin 1408) :
    piece z n0 n1 d w2 w1 w0 (ix2 r l) = w2 (ix2 0 l) * d (ix2 r l) + w1 (ix2 0 l) * follow z n0 n1 d (r.val + 1) l
      + w0 (ix2 0 l) * follow z n0 n1 d (r.val + 2) l := by
  rw [← pay9_apply, ← pay10_apply]
  pointwise [piece, k0_pay11]

/-- The payload of the first column block. -/
theorem pay7_eq (i : grid0.Coords) (n0 n1 : Vec Ideal S1x1408 .f32) (d : Vec Ideal S256x1408 .f32)
    (w2 w1 w0 : Vec Ideal S1x1408 .f32) (j : S256x1408.Idx) :
    k0_pay7 (k0_pay4 i n0 d) (k0_pay5 i n0 n1 d) (k0_pay6 d w2) w1 w0 j
      = piece (Scalar.cmpi CmpIPredicate.eq (BitVec.ofNat 32 (i 0).val) 31#32) n0 n1 d w2 w1 w0 j := rfl

/-- The payload of the second column block is the same function of what it loads. -/
theorem pay11_eq (z : BitVec 1) (n0 n1 : Vec Ideal S1x1408 .f32) (d : Vec Ideal S256x1408 .f32)
    (w2 w1 w0 : Vec Ideal S1x1408 .f32) (j : S256x1408.Idx) :
    k0_pay11 d (k0_pay9 z (iota Kind.tc S8x1408 32 [0] iota_S8x1408_d0_w32) n0 d)
      (k0_pay10 z (iota Kind.tc S8x1408 32 [0] iota_S8x1408_d0_w32) n0 n1 d) w2 w1 w0 j
      = piece z n0 n1 d w2 w1 w0 j := rfl

/-- The payload of the third column block is the same function of what it loads. -/
theorem pay19_eq (z : BitVec 1) (n0 n1 : Vec Ideal S1x1408 .f32) (d : Vec Ideal S256x1408 .f32)
    (w2 w1 w0 : Vec Ideal S1x1408 .f32) (j : S256x1408.Idx) :
    k0_pay19 d (k0_pay14 z (iota Kind.tc S8x1408 32 [0] iota_S8x1408_d0_w32) n0 d)
      (k0_pay15 d) (k0_pay16 (iota Kind.tc S8x1408 32 [0] iota_S8x1408_d0_w32))
      (k0_pay17 z (iota Kind.tc S8x1408 32 [0] iota_S8x1408_d0_w32) n0 d) (k0_pay18 z n1) w2 w1 w0 j
      = piece z n0 n1 d w2 w1 w0 j := rfl

/-- The payload of the fourth column block is the same function of what it loads. -/
theorem pay27_eq (z : BitVec 1) (n0 n1 : Vec Ideal S1x1408 .f32) (d : Vec Ideal S256x1408 .f32)
    (w2 w1 w0 : Vec Ideal S1x1408 .f32) (j : S256x1408.Idx) :
    k0_pay27 (k0_pay20 z n0) (k0_pay21 z n1) d (k0_pay22 d)
      (k0_pay23 z (iota Kind.tc S8x1408 32 [0] iota_S8x1408_d0_w32) n0 d)
      (k0_pay24 d) (k0_pay25 (iota Kind.tc S8x1408 32 [0] iota_S8x1408_d0_w32))
      (k0_pay26 (iota Kind.tc S8x1408 32 [0] iota_S8x1408_d0_w32)) w2 w1 w0 j
      = piece z n0 n1 d w2 w1 w0 j := rfl

/-- A block of the transposed convolution holds the gradient's entries, once the block, the two rows
after it and the taps are read in their arrays. -/
theorem piece_da (z : BitVec 1) (n0 n1 : Vec Ideal S1x1408 .f32) (d : Vec Ideal S256x1408 .f32)
    (w2 w1 w0 : Vec Ideal S1x1408 .f32) (D : Fin 8192 → Fin 5632 → EReal) (W : Fin 3 → Fin 5632 → EReal)
    (r : Fin 256) (l : Fin 1408) (b : ℕ) (s : Fin 8192) (k : Fin 5632) (hs : s.val = 256 * b + r.val)
    (hd : ∀ (q : Fin 256) (h : 256 * b + q.val < 8192), d (ix2 q l) = D ⟨256 * b + q.val, h⟩ k)
    (h0 : Scalar.select z 0 (n0 (ix2 0 l)) = UpSpec.rowOr0 D (256 * b + 256) k)
    (h1 : Scalar.select z 0 (n1 (ix2 0 l)) = UpSpec.rowOr0 D (256 * b + 257) k)
    (hw2 : w2 (ix2 0 l) = W 2 k) (hw1 : w1 (ix2 0 l) = W 1 k) (hw0 : w0 (ix2 0 l) = W 0 k) :
    piece z n0 n1 d w2 w1 w0 (ix2 r l) = UpSpec.da D W s k := by
  have hr := r.isLt
  have hsl := s.isLt
  have hf : ∀ e : ℕ, (e = 1 ∨ e = 2) → follow z n0 n1 d (r.val + e) l = UpSpec.rowOr0 D (s.val + e) k := by
    intro e he
    unfold follow
    by_cases h : r.val + e < 256
    · have hb : 256 * b + (r.val + e) < 8192 := by omega
      rw [dif_pos h, hd ⟨r.val + e, h⟩ hb, UpSpec.rowOr0, dif_pos (by omega)]
      exact congrArg (fun a => D a k) (Fin.ext (show 256 * b + (r.val + e) = s.val + e by omega))
    · rw [dif_neg h]
      by_cases h6 : r.val + e = 256
      · rw [if_pos h6, h0, show s.val + e = 256 * b + 256 by omega]
      · rw [if_neg h6, h1, show s.val + e = 256 * b + 257 by omega]
  rw [piece_apply, hf 1 (Or.inl rfl), hf 2 (Or.inr rfl), hw2, hw1, hw0, hd r (by omega), UpSpec.da]
  have : (⟨256 * b + r.val, by omega⟩ : Fin 8192) = s := Fin.ext hs.symm
  rw [this]

/-- The product of a block with the transposed weights, the contraction cut into four chunks. -/
theorem prod_apply (a0 a1 a2 a3 : Vec Ideal S256x1408 .bf16) (w0 w1 w2 w3 : Vec Ideal S1x1024x1408 .bf16)
    (r : Fin 256) (n : Fin 1024) :
    k0_pay30 (k0_pay28 a0 w0 a1 w1) (k0_pay29 a2) w2 a3 w3 (ix2 r n)
      = (∑ l, a0 (ix2 r l) * w0 (ix3 0 n l)) + (∑ l, a1 (ix2 r l) * w1 (ix3 0 n l))
        + (∑ l, a2 (ix2 r l) * w2 (ix3 0 n l)) + ∑ l, a3 (ix2 r l) * w3 (ix3 0 n l) := by
  pointwise [k0_pay30, k0_pay28, k0_pay29]

/-- The four chunks make one contraction over all the columns. -/
theorem prod_dh (a0 a1 a2 a3 : Vec Ideal S256x1408 .bf16) (w0 w1 w2 w3 : Vec Ideal S1x1024x1408 .bf16)
    (A : Fin 5632 → EReal) (W : Fin 5632 → EReal) (r : Fin 256) (n : Fin 1024)
    (ha0 : ∀ (l : Fin 1408) (h : l.val < 5632), a0 (ix2 r l) = A ⟨l.val, h⟩)
    (ha1 : ∀ (l : Fin 1408) (h : 1408 + l.val < 5632), a1 (ix2 r l) = A ⟨1408 + l.val, h⟩)
    (ha2 : ∀ (l : Fin 1408) (h : 2816 + l.val < 5632), a2 (ix2 r l) = A ⟨2816 + l.val, h⟩)
    (ha3 : ∀ (l : Fin 1408) (h : 4224 + l.val < 5632), a3 (ix2 r l) = A ⟨4224 + l.val, h⟩)
    (hw0 : ∀ (l : Fin 1408) (h : l.val < 5632), w0 (ix3 0 n l) = W ⟨l.val, h⟩)
    (hw1 : ∀ (l : Fin 1408) (h : 1408 + l.val < 5632), w1 (ix3 0 n l) = W ⟨1408 + l.val, h⟩)
    (hw2 : ∀ (l : Fin 1408) (h : 2816 + l.val < 5632), w2 (ix3 0 n l) = W ⟨2816 + l.val, h⟩)
    (hw3 : ∀ (l : Fin 1408) (h : 4224 + l.val < 5632), w3 (ix3 0 n l) = W ⟨4224 + l.val, h⟩) :
    k0_pay30 (k0_pay28 a0 w0 a1 w1) (k0_pay29 a2) w2 a3 w3 (ix2 r n) = ∑ k, A k * W k := by
  rw [prod_apply, Fin.sum_univ_tiles 4 1408 rfl fun k : Fin 5632 => A k * W k, Fin.sum_univ_four]
  refine Ideal.add_congr (Ideal.add_congr (Ideal.add_congr ?_ ?_) ?_) ?_ <;> refine Finset.sum_congr rfl fun l _ => ?_
  · rw [ha0 l (by omega), hw0 l (by omega)]
    simp
  · rw [ha1 l (by omega), hw1 l (by omega)]
    simp
  · rw [ha2 l (by omega), hw2 l (by omega)]
    simp
  · rw [ha3 l (by omega), hw3 l (by omega)]
    simp

/-- The reciprocal root mean square of a row of a block. -/
theorem pay31_apply (x : Vec Ideal S256x1024 .f32) (r : Fin 256) :
    k0_pay31 x (ix2 r 0) = UpSpec.rstd fun n => x (ix2 r n) := by
  pointwise [k0_pay31, UpSpec.rstd]

/-- A row's contribution to the gradient of the scale. -/
theorem pay32_apply (x : Vec Ideal S256x1024 .f32) (v : FVec Ideal S256x1024 .f32) (b : FVec Ideal S256x1408 .bf16)
    (w2 : Vec Ideal S1x1024x1408 .bf16) (a3 : Vec Ideal S256x1408 .bf16) (w3 : Vec Ideal S1x1024x1408 .bf16)
    (r : Fin 256) (n : Fin 1024) :
    k0_pay32 x v b w2 a3 w3 (ix2 r n)
      = UpSpec.scaleGrad (fun j => x (ix2 r j)) (fun j => k0_pay30 v b w2 a3 w3 (ix2 r j)) n := by
  rw [UpSpec.scaleGrad, ← pay31_apply]
  pointwise [k0_pay32]

/-- A row of the gradient of the norm's input, added to the residual's. -/
theorem pay33_apply (x : Vec Ideal S256x1024 .f32) (v : FVec Ideal S256x1024 .f32) (b : FVec Ideal S256x1408 .bf16)
    (w2 : Vec Ideal S1x1024x1408 .bf16) (a3 : Vec Ideal S256x1408 .bf16) (w3 : Vec Ideal S1x1024x1408 .bf16)
    (g : Vec Ideal S1x1024 .f32) (dr : Vec Ideal S256x1024 .f32) (r : Fin 256) (n : Fin 1024) :
    k0_pay33 x v b w2 a3 w3 g dr (ix2 r n)
      = dr (ix2 r n) + UpSpec.normGrad (fun j => x (ix2 r j))
          (fun j => k0_pay30 v b w2 a3 w3 (ix2 r j) * g (ix2 0 j)) n := by
  rw [UpSpec.normGrad, ← pay31_apply]
  pointwise [k0_pay33]

/-- The running sum of the scale's gradient takes in the rows of one block. -/
theorem pay1_apply (v : FVec Ideal S256x1024 .f32) (o : Vec Ideal S1x1024 .f32) (n : Fin 1024) :
    k0_pay1 v o (ix2 0 n) = o (ix2 0 n) + ∑ r, v (ix2 r n) := by
  pointwise [k0_pay1]

end Cert.UpIdeal.Point
end
-- ==== Proof.UpKernel.lean ====
module

public import proofs.«01_k».proof.Proof.UpPieces
public import Idealize.ShloMosaic.Lib.Pipeline.ReadBack

@[expose] public section

set_option maxRecDepth 16384

noncomputable section

namespace Cert.UpIdeal.Point

open Cert.UpIdeal Cert.UpIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at each point. -/
theorem idx : ∀ t : Fin cfg0.N, win0_0.index t = ![t.val, 0] ∧ win0_1.index t = ![min ((t.val + 1) * 32) 1023, 0]
    ∧ win0_2.index t = ![0, 0] ∧ win0_3.index t = ![0, 0, 0] ∧ win0_4.index t = ![t.val, 0] ∧ win0_5.index t = ![0, 0]
    ∧ win0_6.index t = ![t.val, 0] ∧ win0_7.index t = ![t.val, 0] ∧ win0_8.index t = ![t.val, 0] ∧ win0_9.index t = ![0, 0]
    ∧ (grid0.coords t 0).val = t.val ∧ t.val < 32 :=
  (by decide +kernel : ∀ t : Fin grid0.N, _)

/-- The convolution's output gradient, by row and column. -/
def argD (c : Dev nD) (s : Fin 8192) (k : Fin 5632) : EReal := m ((c : Thread nD τ).loc main_arg0) (ix2 s k)
/-- The convolution's taps. -/
def argC (c : Dev nD) (i : Fin 3) (k : Fin 5632) : EReal := m ((c : Thread nD τ).loc main_arg1) (ix2 i k)
/-- The weights, their columns counted through the four chunks. -/
def argW (c : Dev nD) (n : Fin 1024) (k : Fin 5632) : EReal :=
  m ((c : Thread nD τ).loc main_arg2) (ix3 ⟨k.val / 1408, by omega⟩ n ⟨k.val % 1408, by omega⟩)
/-- The norm's input. -/
def argX (c : Dev nD) (s : Fin 8192) (n : Fin 1024) : EReal := m ((c : Thread nD τ).loc main_arg3) (ix2 s n)
/-- The norm's scale. -/
def argG (c : Dev nD) (n : Fin 1024) : EReal := m ((c : Thread nD τ).loc main_arg4) (ix2 0 n)
/-- The gradient that reaches the norm's input past the layer. -/
def argR (c : Dev nD) (s : Fin 8192) (n : Fin 1024) : EReal := m ((c : Thread nD τ).loc main_arg5) (ix2 s n)

/-- The first result: the gradient of the convolution's input. -/
def resDa (c : Dev nD) (j : S8192x5632.Idx) : EReal := UpSpec.da (argD m c) (argC m c) (j 0) (j 1)
/-- The product of a row of the first result with the transposed weights. -/
def resDh (c : Dev nD) (s : Fin 8192) (n : Fin 1024) : EReal := UpSpec.dh (UpSpec.da (argD m c) (argC m c)) (argW m c) s n
/-- The second result: the gradient of the norm's input. -/
def resDx (c : Dev nD) (j : S8192x1024.Idx) : EReal :=
  argR m c (j 0) (j 1) + UpSpec.normGrad (argX m c (j 0)) (fun n => resDh m c (j 0) n * argG m c n) (j 1)

/-- The flag of the last point chooses zero. -/
theorem select_last (t : Fin cfg0.N) (x : EReal) :
    Scalar.select (Scalar.cmpi CmpIPredicate.eq (BitVec.ofNat 32 (grid0.coords t 0).val) 31#32) 0 x
      = if t.val = 31 then 0 else x := by
  obtain ⟨-, -, -, -, -, -, -, -, -, -, h, h'⟩ := idx t
  rw [WordCmp.scalar_cmpi_eq, h]
  exact select_ofNat _ 31 (by omega) (by norm_num) _ _

theorem blockD (c : Dev nD) (t : Fin cfg0.N) (r : Fin 256) (k : Fin 5632) (hb : 256 * t.val + r.val < 8192) :
    iblk m c 0 t (ix2 r k) = argD m c ⟨256 * t.val + r.val, hb⟩ k := by
  unfold argD
  blk_point [iblk, V, idx t]

/-- The row `e` of the eight rows after the block, zero at the last point. -/
theorem blockN (c : Dev nD) (t : Fin cfg0.N) (e : Fin 8) (k : Fin 5632) (x : EReal) (hx : x = iblk m c 1 t (ix2 e k)) :
    Scalar.select (Scalar.cmpi CmpIPredicate.eq (BitVec.ofNat 32 (grid0.coords t 0).val) 31#32) 0 x
      = UpSpec.rowOr0 (argD m c) (256 * t.val + 256 + e.val) k := by
  obtain ⟨-, -, -, -, -, -, -, -, -, -, -, h'⟩ := idx t
  rw [select_last]
  unfold UpSpec.rowOr0
  by_cases h : t.val = 31
  · rw [if_pos h, dif_neg (by omega)]
  · rw [if_neg h, dif_pos (by omega), hx]
    unfold argD
    blk_point [iblk, V, idx t]

theorem blockC (c : Dev nD) (t : Fin cfg0.N) (i : Fin 3) (k : Fin 5632) : iblk m c 2 t (ix2 i k) = argC m c i k := by
  unfold argC
  blk_point [iblk, V, idx t]

theorem blockW (c : Dev nD) (t : Fin cfg0.N) (q : Fin 4) (n : Fin 1024) (l : Fin 1408) (k : Fin 5632) (hk : k.val = 1408 * q.val + l.val) :
    iblk m c 3 t (ix3 q n l) = argW m c n k := by
  unfold argW
  blk_point [iblk, V, idx t]

theorem blockX (c : Dev nD) (t : Fin cfg0.N) (r : Fin 256) (n : Fin 1024) (hb : 256 * t.val + r.val < 8192) :
    iblk m c 4 t (ix2 r n) = argX m c ⟨256 * t.val + r.val, hb⟩ n := by
  unfold argX
  blk_point [iblk, V, idx t]

theorem blockG (c : Dev nD) (t : Fin cfg0.N) (n : Fin 1024) : iblk m c 5 t (ix2 0 n) = argG m c n := by
  unfold argG
  blk_point [iblk, V, idx t]

theorem blockR (c : Dev nD) (t : Fin cfg0.N) (r : Fin 256) (n : Fin 1024) (hb : 256 * t.val + r.val < 8192) :
    iblk m c 6 t (ix2 r n) = argR m c ⟨256 * t.val + r.val, hb⟩ n := by
  unfold argR
  blk_point [iblk, V, idx t]

/-- One piece of the first result, from the reads of its loads. -/
theorem piece_res (c : Dev nD) (t : Fin cfg0.N) (n0 n1 : Vec Ideal S1x1408 .f32) (d : Vec Ideal S256x1408 .f32)
    (w2 w1 w0 : Vec Ideal S1x1408 .f32) (r : Fin 256) (l : Fin 1408) (s : Fin 8192) (k : Fin 5632)
    (hs : s.val = 256 * t.val + r.val)
    (hd : ∀ q : Fin 256, d (ix2 q l) = iblk m c 0 t (ix2 q k))
    (h0 : n0 (ix2 0 l) = iblk m c 1 t (ix2 0 k)) (h1 : n1 (ix2 0 l) = iblk m c 1 t (ix2 1 k))
    (hw2 : w2 (ix2 0 l) = iblk m c 2 t (ix2 2 k)) (hw1 : w1 (ix2 0 l) = iblk m c 2 t (ix2 1 k))
    (hw0 : w0 (ix2 0 l) = iblk m c 2 t (ix2 0 k)) :
    piece (Scalar.cmpi CmpIPredicate.eq (BitVec.ofNat 32 (grid0.coords t 0).val) 31#32) n0 n1 d w2 w1 w0 (ix2 r l)
      = UpSpec.da (argD m c) (argC m c) s k :=
  piece_da _ _ _ _ _ _ _ (argD m c) (argC m c) r l t.val s k hs (fun q h => (hd q).trans (blockD m c t q k h))
    (blockN m c t 0 k _ h0) (blockN m c t 1 k _ h1) (hw2.trans (blockC m c t 2 k)) (hw1.trans (blockC m c t 1 k))
    (hw0.trans (blockC m c t 0 k))

set_option maxHeartbeats 1600000 in
/-- The first result's array. -/
theorem final7 (c : Dev nD) : (dats m 0 c).arrAt 7 (cfgs 0).N = resDa m c := by
  refine (dats m 0 c).arrAt_eq_of_covers 7 _ (by decide +kernel) fun t hf y => ?_
  idx_vars y
  obtain ⟨-, -, -, -, -, -, -, h7, -, -, -, h'⟩ := idx t
  have hy := y0.isLt
  have he : ((cfg0.win 7).blk t).view.emb (ix2 y0 y1) = ix2 ⟨256 * t.val + y0.val, by omega⟩ y1 := by
    blk_ext [h7]
  blk_simp
  refine Eq.trans ?_ (congrArg (resDa m c) he).symm
  rw [after0_7]
  change _ = UpSpec.da (argD m c) (argC m c) ⟨256 * t.val + y0.val, _⟩ y1
  by_cases h : t.val % 32 = 0
  all_goals
    first | rw [outsAt0_A m c t h] | rw [outsAt0_B m c t h]
    frame_out
    canon_tiles x hx
    all_goals idx_vars x
    all_goals first | rw [pay27_eq] | rw [pay19_eq] | rw [pay11_eq] | rw [pay7_eq]
    all_goals
      refine piece_res m c t _ _ _ _ _ _ _ _ _ _ (congrArg (256 * t.val + ·) hx0) (fun q => ?_) ?_ ?_ ?_ ?_ ?_
      all_goals pointwise
      all_goals blk_ext

/-- The norm's gradient depends on its rows' entries only. -/
theorem normGrad_congr {x x' h h' : Fin 1024 → EReal} (hx : ∀ j, x j = x' j) (hh : ∀ j, h j = h' j) (n : Fin 1024) :
    UpSpec.normGrad x h n = UpSpec.normGrad x' h' n := by
  rw [funext hx, funext hh]

set_option maxHeartbeats 1600000 in
/-- The second result's array. -/
theorem final8 (c : Dev nD) : (dats m 0 c).arrAt 8 (cfgs 0).N = resDx m c := by
  refine (dats m 0 c).arrAt_eq_of_covers 8 _ (by decide +kernel) fun t hf y => ?_
  idx_vars y
  obtain ⟨-, -, -, -, -, -, -, -, h8, -, -, h'⟩ := idx t
  have hy := y0.isLt
  have he : ((cfg0.win 8).blk t).view.emb (ix2 y0 y1) = ix2 ⟨256 * t.val + y0.val, by omega⟩ y1 := by
    blk_ext [h8]
  blk_simp
  refine Eq.trans ?_ (congrArg (resDx m c) he).symm
  rw [after0_8]
  change _ = argR m c ⟨256 * t.val + y0.val, _⟩ y1
    + UpSpec.normGrad (argX m c ⟨256 * t.val + y0.val, _⟩) (fun n => resDh m c ⟨256 * t.val + y0.val, _⟩ n * argG m c n) y1
  by_cases h : t.val % 32 = 0
  all_goals
    first | rw [outsAt0_A m c t h] | rw [outsAt0_B m c t h]
    frame_open
    simp (disch := decide) only [↓ View.readCov_skip, ↓ View.readCov_cons_toLoadRect, ↓ View.readCov_fill]
    frame_out
    rw [pay33_apply]
    refine Ideal.add_congr (blockR m c t y0 y1 _) (normGrad_congr (fun j => blockX m c t y0 j _)
      (fun j => Ideal.mul_congr (prod_dh _ _ _ _ _ _ _ _ (UpSpec.da (argD m c) (argC m c) _) (argW m c j) y0 j
        (fun l hl => ?_) (fun l hl => ?_) (fun l hl => ?_) (fun l hl => ?_)
        (fun l hl => (?_ : _ = iblk m c 3 t (ix3 0 j l)).trans (blockW m c t 0 j l _ (by simp)))
        (fun l hl => (?_ : _ = iblk m c 3 t (ix3 1 j l)).trans (blockW m c t 1 j l _ (by simp)))
        (fun l hl => (?_ : _ = iblk m c 3 t (ix3 2 j l)).trans (blockW m c t 2 j l _ (by simp)))
        (fun l hl => (?_ : _ = iblk m c 3 t (ix3 3 j l)).trans (blockW m c t 3 j l _ (by simp)))) (blockG m c t j)) y1)
    all_goals
      first
      | rw [pay27_eq]
        refine piece_res m c t _ _ _ _ _ _ _ _ _ _ rfl (fun q => ?_) ?_ ?_ ?_ ?_ ?_
      | rw [pay19_eq]
        refine piece_res m c t _ _ _ _ _ _ _ _ _ _ rfl (fun q => ?_) ?_ ?_ ?_ ?_ ?_
      | rw [pay11_eq]
        refine piece_res m c t _ _ _ _ _ _ _ _ _ _ rfl (fun q => ?_) ?_ ?_ ?_ ?_ ?_
      | rw [pay7_eq]
        refine piece_res m c t _ _ _ _ _ _ _ _ _ _ rfl (fun q => ?_) ?_ ?_ ?_ ?_ ?_
      | skip
      all_goals pointwise
      all_goals blk_ext

end Cert.UpIdeal.Point
-- ==== Proof.UpScale.lean ====
module

public import proofs.«01_k».proof.Proof.UpKernel
public import Idealize.ShloMosaic.Lib.WritesUnit

@[expose] public section

set_option maxRecDepth 16384

noncomputable section

namespace Cert.UpIdeal.Point

open Cert.UpIdeal Cert.UpIdeal.Gen Idealize.ShloMosaic Idealize.ShloMosaic.TcCoe Idealize.SL.Sem
open Idealize.ShloMosaic.Pipeline (Dat)

variable (m : (ℓ : Loc nD τ sig) → Buf (Elt Ideal) ℓ)

/-- The scale's contribution depends on its rows' entries only. -/
theorem scaleGrad_congr {x x' h h' : Fin 1024 → EReal} (hx : ∀ j, x j = x' j) (hh : ∀ j, h j = h' j) (n : Fin 1024) :
    UpSpec.scaleGrad x h n = UpSpec.scaleGrad x' h' n := by
  rw [funext hx, funext hh]

/-- What the rows of one point add to the gradient of the scale. -/
def part (c : Dev nD) (t : Fin cfg0.N) (n : Fin 1024) : EReal :=
  ∑ r : Fin 256, UpSpec.scaleGrad (argX m c ⟨256 * t.val + r.val, by have := t.isLt; have : cfg0.N = 32 := rfl; omega⟩)
    (resDh m c ⟨256 * t.val + r.val, by have := t.isLt; have : cfg0.N = 32 := rfl; omega⟩) n

/-- The part of a point that reaches an entry of the eight accumulated rows: only the first row collects. -/
def term (c : Dev nD) (t : Fin cfg0.N) (j : S8x1024.Idx) : EReal := if (j 0).val = 0 then part m c t (j 1) else 0

/-- The third result: the gradient of the scale in its first row, zero below. -/
def resDg (c : Dev nD) (j : S8x1024.Idx) : EReal :=
  if (j 0).val = 0 then ∑ s, UpSpec.scaleGrad (argX m c s) (resDh m c s) (j 1) else 0

/-- The first row of the accumulator over the rest. -/
theorem canon_top (i₁ : ∀ a, (![0, 0] : Fin 2 → ℕ) a + (![1, 1024] : Fin 2 → ℕ) a ≤ S8x1024.size a)
    (i₂ : ∀ a, (![0, 0] : Fin 2 → ℕ) a + (![8, 1024] : Fin 2 → ℕ) a ≤ S8x1024.size a)
    (w : FVec Ideal S1x1024 .f32) (u : FVec Ideal S8x1024 .f32) (a : Fin 8) (n : Fin 1024) :
    View.canon (Val := Elt Ideal) (s := S8x1024) (e := .f32)
      [⟨Rect.unit ![0, 0] ![1, 1024] i₁, w⟩, ⟨Rect.unit ![0, 0] ![8, 1024] i₂, u⟩] (ix2 a n)
      = if a = 0 then w (ix2 0 n) else u (ix2 a n) := by
  by_cases h : a = 0
  · subst h
    rw [if_pos rfl, View.canon_cons]
    have : (ix2 0 n : S8x1024.Idx) = (Rect.unit (s := S8x1024) ![0, 0] ![1, 1024] i₁).emb (ix2 0 n) := by blk_ext
    rw [this]
    exact Rect.overlay_emb _ _ _ _
  · have h0 : 0 < a.val := Nat.pos_of_ne_zero fun e => h (Fin.ext e)
    rw [if_neg h, View.canon_cons_of_not_mem]
    · have : (ix2 a n : S8x1024.Idx) = (Rect.unit (s := S8x1024) ![0, 0] ![8, 1024] i₂).emb (ix2 a n) := by blk_ext
      conv_lhs => rw [this]
      exact View.canon_cons_emb _ _ _ _
    · rw [Rect.mem_set_unit]
      intro hall
      have h1 : a.val < 0 + 1 := (hall 0).2
      omega

/-- The accumulator after the first point, from the part `q` of the point. -/
theorem first_form (i₁ : ∀ a, (![0, 0] : Fin 2 → ℕ) a + (![1, 1024] : Fin 2 → ℕ) a ≤ S8x1024.size a)
    (i₂ : ∀ a, (![0, 0] : Fin 2 → ℕ) a + (![8, 1024] : Fin 2 → ℕ) a ≤ S8x1024.size a)
    (u : FVec Ideal S1x1024 .f32) (a : Fin 8) (n : Fin 1024) (q : EReal) (hu : u (ix2 0 n) = 0 + q) :
    View.canon (Val := Elt Ideal) (s := S8x1024) (e := .f32)
      [⟨Rect.unit ![0, 0] ![1, 1024] i₁, u⟩, ⟨Rect.unit ![0, 0] ![8, 1024] i₂, k0_pay2 (F := Ideal)⟩] (ix2 a n)
      = 0 + if a.val = 0 then q else 0 := by
  have hz : ∀ j : S8x1024.Idx, k0_pay2 (F := Ideal) j = 0 := by
    intro j
    pointwise [k0_pay2]
  refine (canon_top i₁ i₂ u (k0_pay2 (F := Ideal)) a n).trans ?_
  by_cases h0 : a = 0
  · subst h0
    rw [if_pos rfl, if_pos (show ((0 : Fin 8) : ℕ) = 0 from rfl), hu]
  · rw [if_neg h0, if_neg (show ¬ a.val = 0 from fun e => h0 (Fin.ext e)), hz, add_zero]

/-- The accumulator after a later point, from the part `q` of the point and what it held. -/
theorem step_form {κ : Kind} {sp : Space} (w : View sig κ sp S8x1024 .f32)
    (i₁ : ∀ a, (![0, 0] : Fin 2 → ℕ) a + (![1, 1024] : Fin 2 → ℕ) a ≤ S8x1024.size a)
    (f : w.ty.Contents (Elt Ideal)) (p : FVec Ideal S8x1024 .f32) (hf : w.read (Elt Ideal) f = p)
    (u : FVec Ideal S1x1024 .f32) (a : Fin 8) (n : Fin 1024) (q : EReal) (hu : u (ix2 0 n) = p (ix2 0 n) + q) :
    w.read (Elt Ideal) (w.writes (Elt Ideal) f [⟨Rect.unit ![0, 0] ![1, 1024] i₁, u⟩]) (ix2 a n)
      = p (ix2 a n) + if a.val = 0 then q else 0 := by
  by_cases h0 : a = 0
  · subst h0
    rw [if_pos (show ((0 : Fin 8) : ℕ) = 0 from rfl), ← hu]
    exact View.read_writes_cons_unit_of_mem w f i₁ u [] (ix2 0 n) (ix2 0 n) rfl (by
      intro b
      fin_cases b <;> simp)
  · rw [if_neg (show ¬ a.val = 0 from fun e => h0 (Fin.ext e)), add_zero]
    have h1 : 0 + 1 ≤ a.val := Nat.one_le_iff_ne_zero.mpr fun e => h0 (Fin.ext e)
    rw [View.read_writes_cons_unit_of_not_mem w f i₁ u [] (ix2 a n) rfl 0 (Or.inr h1), View.writes_nil, hf]

set_option maxHeartbeats 1600000 in
/-- At the first point the accumulator starts from zero. -/
theorem acc_first (c : Dev nD) (t : Fin cfg0.N) (h : t.val % 32 = 0) (y : S8x1024.Idx) :
    (outsAt0 m c t.val t.isLt).2.2 y = 0 + term m c t y := by
  idx_vars y
  rw [outsAt0_A m c t h]
  frame_open
  simp (disch := decide) only [↓ View.readCov_skip, ↓ View.readCov_cons_toLoadRect, ↓ View.readCov_fill]
  frame_out
  refine first_form _ _ _ y0 y1 (part m c t y1) ?_
  rw [pay1_apply]
  refine Ideal.add_congr (by pointwise [k0_pay2]) (Finset.sum_congr rfl fun r _ => ?_)
  rw [pay32_apply]
  refine scaleGrad_congr (fun j => blockX m c t r j _)
    (fun j => prod_dh _ _ _ _ _ _ _ _ (UpSpec.da (argD m c) (argC m c) _) (argW m c j) r j
      (fun l hl => ?_) (fun l hl => ?_) (fun l hl => ?_) (fun l hl => ?_)
      (fun l hl => (?_ : _ = iblk m c 3 t (ix3 0 j l)).trans (blockW m c t 0 j l _ (by simp)))
      (fun l hl => (?_ : _ = iblk m c 3 t (ix3 1 j l)).trans (blockW m c t 1 j l _ (by simp)))
      (fun l hl => (?_ : _ = iblk m c 3 t (ix3 2 j l)).trans (blockW m c t 2 j l _ (by simp)))
      (fun l hl => (?_ : _ = iblk m c 3 t (ix3 3 j l)).trans (blockW m c t 3 j l _ (by simp)))) y1
  all_goals
    first
    | rw [pay27_eq]
      refine piece_res m c t _ _ _ _ _ _ _ _ _ _ rfl (fun q => ?_) ?_ ?_ ?_ ?_ ?_
    | rw [pay19_eq]
      refine piece_res m c t _ _ _ _ _ _ _ _ _ _ rfl (fun q => ?_) ?_ ?_ ?_ ?_ ?_
    | rw [pay11_eq]
      refine piece_res m c t _ _ _ _ _ _ _ _ _ _ rfl (fun q => ?_) ?_ ?_ ?_ ?_ ?_
    | rw [pay7_eq]
      refine piece_res m c t _ _ _ _ _ _ _ _ _ _ rfl (fun q => ?_) ?_ ?_ ?_ ?_ ?_
    | skip
    all_goals pointwise
    all_goals blk_ext

set_option maxHeartbeats 1600000 in
/-- At a later point the accumulator takes in the point's part. -/
theorem acc_step (c : Dev nD) (t : Fin cfg0.N) (h : ¬ t.val % 32 = 0) (y : S8x1024.Idx) :
    (outsAt0 m c t.val t.isLt).2.2 y
      = (outsAt0 m c (t.val - 1) (Nat.lt_of_le_of_lt (Nat.sub_le _ _) t.isLt)).2.2 y + term m c t y := by
  idx_vars y
  rw [outsAt0_B m c t h]
  frame_open
  simp (disch := decide) only [↓ View.readCov_skip, ↓ View.readCov_cons_toLoadRect, ↓ View.readCov_fill]
  frame_out
  refine step_form _ _ _ _ (Memref.IsWhole.read_unread _ _) _ y0 y1 (part m c t y1) ?_
  rw [pay1_apply]
  refine Ideal.add_congr (by pointwise; blk_ext) (Finset.sum_congr rfl fun r _ => ?_)
  rw [pay32_apply]
  refine scaleGrad_congr (fun j => blockX m c t r j _)
    (fun j => prod_dh _ _ _ _ _ _ _ _ (UpSpec.da (argD m c) (argC m c) _) (argW m c j) r j
      (fun l hl => ?_) (fun l hl => ?_) (fun l hl => ?_) (fun l hl => ?_)
      (fun l hl => (?_ : _ = iblk m c 3 t (ix3 0 j l)).trans (blockW m c t 0 j l _ (by simp)))
      (fun l hl => (?_ : _ = iblk m c 3 t (ix3 1 j l)).trans (blockW m c t 1 j l _ (by simp)))
      (fun l hl => (?_ : _ = iblk m c 3 t (ix3 2 j l)).trans (blockW m c t 2 j l _ (by simp)))
      (fun l hl => (?_ : _ = iblk m c 3 t (ix3 3 j l)).trans (blockW m c t 3 j l _ (by simp)))) y1
  all_goals
    first
    | rw [pay27_eq]
      refine piece_res m c t _ _ _ _ _ _ _ _ _ _ rfl (fun q => ?_) ?_ ?_ ?_ ?_ ?_
    | rw [pay19_eq]
      refine piece_res m c t _ _ _ _ _ _ _ _ _ _ rfl (fun q => ?_) ?_ ?_ ?_ ?_ ?_
    | rw [pay11_eq]
      refine piece_res m c t _ _ _ _ _ _ _ _ _ _ rfl (fun q => ?_) ?_ ?_ ?_ ?_ ?_
    | rw [pay7_eq]
      refine piece_res m c t _ _ _ _ _ _ _ _ _ _ rfl (fun q => ?_) ?_ ?_ ?_ ?_ ?_
    | skip
    all_goals pointwise
    all_goals blk_ext

set_option maxHeartbeats 1600000 in
/-- The third result's array. -/
theorem final9 (c : Dev nD) : (dats m 0 c).arrAt 9 (cfgs 0).N = resDg m c := by
  refine (dats m 0 c).arrAt_eq_of_covers 9 _ (by decide +kernel) fun t hf y => ?_
  idx_vars y
  have he : ((cfg0.win 9).blk t).view.emb (ix2 y0 y1) = ix2 y0 y1 := by
    obtain ⟨-, -, -, -, -, -, -, -, -, h9, -, h'⟩ := idx t
    blk_ext [h9]
  have hf' := (flush0_9 t).mp hf
  have ht : t.val < 32 := t.isLt
  blk_simp
  refine Eq.trans ?_ (congrArg (resDg m c) he).symm
  rw [after0_9, Pipeline.eq_sum_fin_of_reset_step_apply_of_flush (fun n h => (outsAt0 m c n h).2.2) 32 (fun _ => 0) (term m c)
    (fun t h j => acc_first m c t h j) (fun t h j => acc_step m c t h j) t hf' _]
  change (0 : EReal) + ∑ s : Fin 32, term m c _ (ix2 y0 y1) = if y0.val = 0 then _ else _
  rw [zero_add]
  by_cases h0 : y0.val = 0
  · rw [if_pos h0, Fin.sum_univ_tiles 32 256 rfl]
    refine Finset.sum_congr rfl fun s _ => ?_
    refine (if_pos h0).trans ?_
    unfold part
    refine Finset.sum_congr rfl fun r _ => ?_
    have hs : 256 * (32 * (t.val / 32) + s.val) + r.val = s.val * 256 + r.val := by omega
    congr 2 <;> exact Fin.ext hs
  · rw [if_neg h0]
    exact Finset.sum_eq_zero fun s _ => if_neg h0

end Cert.UpIdeal.Point
-- ==== Proof.UpNorm.lean ====
module

public import proofs.«01_k».proof.Proof.UpSpec
public import Idealize.ShloMosaic.Lib.IdealHost

@[expose] public section

noncomputable section

/-! The gradient of a root-mean-square norm in two forms: as the chain rule writes it, and with its
factors collected. They agree at every row of extended reals. -/

namespace Cert.UpSpec

open Idealize.ShloMosaic

theorem const_1024 : Ideal.ofBits .f32 0x44800000#32 = ((1024 : ℝ) : EReal) := by
  simp [Ideal.ofBits, Ideal.ieee, -EReal.coe_mul]
  norm_num

theorem const_neg_half : Ideal.ofBits .f32 0xBF000000#32 = ((-(1 / 2) : ℝ) : EReal) := by
  simp [Ideal.ofBits, Ideal.ieee, -EReal.coe_mul, -EReal.coe_neg]
  norm_num

theorem const_eps : Ideal.ofBits .f32 0x358637BD#32 = ((8796093 / 2 ^ 43 : ℝ) : EReal) := by
  simp [Ideal.ofBits, Ideal.ieee, -EReal.coe_mul]
  norm_num

/-- The mean square of a row and the norm's epsilon. -/
def meanSq (x : Fin 1024 → EReal) : EReal :=
  Ideal.div (∑ n, x n * x n) (Ideal.ofBits .f32 0x44800000#32) + Ideal.ofBits .f32 0x358637BD#32

/-- The gradient of the norm's input as the chain rule writes it: the scaled gradient `h` through the
factor `r`, then twice the gradient through the mean square. -/
def chainGrad (x h : Fin 1024 → EReal) (n : Fin 1024) : EReal :=
  h n * rstd x
    + x n * Ideal.div ((∑ j, x j * h j) * (Ideal.ofBits .f32 0xBF000000#32 * Ideal.div (rstd x) (meanSq x)))
        (Ideal.ofBits .f32 0x44800000#32)
    + Ideal.div ((∑ j, x j * h j) * (Ideal.ofBits .f32 0xBF000000#32 * Ideal.div (rstd x) (meanSq x)))
        (Ideal.ofBits .f32 0x44800000#32) * x n

theorem sq_nonneg (x : EReal) : 0 ≤ x * x := by
  rcases le_total 0 x with h | h
  · exact mul_nonneg h h
  · rw [← neg_mul_neg]
    exact mul_nonneg (EReal.neg_nonneg.mpr h) (EReal.neg_nonneg.mpr h)

/-- An extended real times a sum of two equal reals. -/
theorem mul_add_self (s : EReal) (b : ℝ) : s * (b : EReal) + s * (b : EReal) = s * ((b + b : ℝ) : EReal) := by
  have key : ∀ (s : EReal) (c : ℝ), 0 ≤ c → s * (c : EReal) + s * (c : EReal) = s * ((c + c : ℝ) : EReal) := by
    intro s c h
    rw [mul_comm s, mul_comm s, EReal.coe_add]
    exact (EReal.right_distrib_of_nonneg (EReal.coe_nonneg.mpr h) (EReal.coe_nonneg.mpr h)).symm
  rcases le_total 0 b with h | h
  · exact key s b h
  · have := key (-s) (-b) (neg_nonneg.mpr h)
    rwa [← neg_add, EReal.coe_neg, EReal.coe_neg, neg_mul_neg, neg_mul_neg] at this

/-- Either the mean square is infinite, or the row is real and the mean square a positive real. -/
theorem meanSq_cases (x : Fin 1024 → EReal) :
    meanSq x = ⊤ ∨ ((∀ n, ∃ a : ℝ, x n = a) ∧ ∃ p : ℝ, 0 < p ∧ meanSq x = p) := by
  obtain ⟨e, he, hc⟩ : ∃ e : ℝ, 0 < e ∧ Ideal.ofBits .f32 0x358637BD#32 = (e : EReal) := ⟨_, by positivity, const_eps⟩
  have h0 : 0 ≤ ∑ n, x n * x n := Finset.sum_nonneg fun n _ => sq_nonneg (x n)
  unfold meanSq
  rw [const_1024, hc, Ideal.div_coe (by norm_num)]
  by_cases ht : ∑ n, x n * x n = ⊤
  · left
    rw [ht, EReal.top_mul_coe_of_pos (by norm_num), EReal.top_add_coe]
  · right
    constructor
    · intro n
      have hn : x n * x n ≠ ⊤ := fun h => ht (top_le_iff.mp (h ▸ Finset.single_le_sum (f := fun n => x n * x n) (fun i _ => sq_nonneg (x i)) (Finset.mem_univ n)))
      refine ⟨(x n).toReal, (EReal.coe_toReal ?_ ?_).symm⟩
      · intro h
        exact hn (by rw [h]; rfl)
      · intro h
        exact hn (by rw [h]; rfl)
    · lift ∑ n, x n * x n to ℝ using ⟨ht, fun h => by rw [h] at h0; exact absurd h0 (by simp)⟩ with s
      refine ⟨s * (1 / 1024) + e, ?_, by norm_cast⟩
      have : 0 ≤ s := EReal.coe_nonneg.mp h0
      positivity

/-- The two forms agree. -/
theorem chainGrad_eq (x h : Fin 1024 → EReal) (n : Fin 1024) : chainGrad x h n = normGrad x h n := by
  have hr : rstd x = Ideal.rsqrt (meanSq x) := rfl
  unfold chainGrad normGrad
  rw [hr, const_1024, const_neg_half, Ideal.div_coe (by norm_num), Ideal.div_coe (by norm_num),
    Finset.sum_congr rfl fun j _ => mul_comm (h j) (x j)]
  generalize ∑ j, x j * h j = s
  rcases meanSq_cases x with ht | ⟨hx, p, hp, hm⟩
  · rw [ht, Ideal.rsqrt_top]
    simp [Ideal.div]
  · obtain ⟨a, ha⟩ := hx n
    rw [hm, Ideal.rsqrt_coe, if_neg hp.not_gt, if_neg hp.ne', Ideal.div_coe hp.ne', ha, mul_comm (h n), add_assoc]
    have h2 : (Real.sqrt p)⁻¹ * (1 / p) = (Real.sqrt p)⁻¹ * (Real.sqrt p)⁻¹ * (Real.sqrt p)⁻¹ := by
      have := Real.mul_self_sqrt hp.le
      have hs : Real.sqrt p ≠ 0 := (Real.sqrt_pos.mpr hp).ne'
      field_simp
      nlinarith
    rw [sub_eq_add_neg]
    refine congrArg _ ?_
    have h3 : s * (((-(1 / 2) : ℝ) : EReal) * (((Real.sqrt p)⁻¹ : ℝ) * ((1 / p : ℝ) : EReal))) * ((1 / 1024 : ℝ) : EReal) * (a : EReal)
        = s * ((-(1 / 2) * ((Real.sqrt p)⁻¹ * (1 / p)) * (1 / 1024) * a : ℝ) : EReal) := by
      push_cast
      simp only [mul_assoc]
    rw [mul_comm (a : EReal) (_ * _), h3, mul_add_self, h2, ← EReal.neg_mul, ← EReal.coe_mul, ← EReal.coe_mul, ← EReal.coe_mul,
      ← EReal.coe_neg, mul_comm ((-_ : ℝ) : EReal), mul_assoc s ((1 / 1024 : ℝ) : EReal), ← EReal.coe_mul]
    refine congrArg (fun b : ℝ => s * (b : EReal)) ?_
    ring

end Cert.UpSpec

end
-- ==== Proof.UpRef.lean ====
module

public import proofs.«01_k».proof.Proof.Gen.UpRefIdeal.Read
public import proofs.«01_k».proof.Proof.UpSpec
public import proofs.«01_k».proof.Proof.UpNorm

@[expose] public section

set_option maxRecDepth 16384

noncomputable section

namespace Cert.UpRefIdeal.Point

open Cert.UpRefIdeal Cert.UpRefIdeal.Read Idealize.ShloMosaic Idealize.ShloMosaic.TcCoe Idealize.SL.Sem

variable (x0 : Vec Ideal S8192x5632 .f32) (x1 : Vec Ideal S3x5632 .f32) (x2 : Vec Ideal S4x1024x1408 .bf16)
  (x3 : Vec Ideal S8192x1024 .f32) (x4 : Vec Ideal S1x1024 .f32) (x5 : Vec Ideal S8192x1024 .f32)

/-- The gradient of the convolution's input in the reference. -/
theorem ref56 (s : Fin 8192) (k : Fin 5632) :
    val_main_v56 (F := Ideal) x0 x1 (ix2 s k) = UpSpec.da (fun s k => x0 (ix2 s k)) (fun i k => x1 (ix2 i k)) s k := by
  pointwise [val_main_v56, val_main_v54, val_main_v53, val_main_v52, val_main_v51, val_main_v50, val_main_v49, val_main_v48,
    val_main_v47, val_main_v46, val_main_v45, val_main_v44, val_main_v43, val_main_v42, val_main_v38, val_main_v37, val_main_v36,
    val_main_v31, val_main_v30, val_main_v29, val_main_v25, val_main_v24, val_main_v23, val_main_cst_5, val_main_cst_6, val_main_cst_7, UpSpec.da, UpSpec.rowOr0]
  refine Ideal.add_congr (Ideal.add_congr (mul_comm _ _) ?_) ?_
  · by_cases h : s.val + 1 < 8192
    · rw [dif_pos (by omega), dif_pos h, mul_comm]
      exact congrArg (fun a => x1 (ix2 1 k) * x0 (ix2 a k)) (Fin.ext (show 2 + s.val - 1 = s.val + 1 by omega))
    · rw [dif_neg (by omega), dif_neg h, mul_zero]
  · by_cases h : s.val + 2 < 8192
    · rw [dif_pos (by omega), dif_pos h, mul_comm]
      exact congrArg (fun a => x1 (ix2 0 k) * x0 (ix2 a k)) (Fin.ext (show 2 + s.val = s.val + 2 by omega))
    · rw [dif_neg (by omega), dif_neg h, mul_zero]

/-- The reciprocal root mean square of a row in the reference. -/
theorem ref10 (s : Fin 8192) : val_main_v10 (F := Ideal) x3 (ix2 s 0) = UpSpec.rstd fun n => x3 (ix2 s n) := by
  pointwise [val_main_v10, val_main_v9, val_main_v8, val_main_v7, val_main_v6, val_main_v5, val_main_v4, val_main_v3, val_main_cst,
    val_main_cst_0, val_main_cst_1, UpSpec.rstd]

/-- The gradient through the mean square, before the row's sum meets it. -/
theorem ref13 (s : Fin 8192) : val_main_v13 (F := Ideal) x3 (ix2 s 0)
    = Ideal.ofBits .f32 0xBF000000#32 * Ideal.div (UpSpec.rstd fun n => x3 (ix2 s n)) (UpSpec.meanSq fun n => x3 (ix2 s n)) := by
  rw [← ref10]
  pointwise [val_main_v13, val_main_v12, val_main_v11, val_main_cst_2, val_main_v9, val_main_v8, val_main_v7, val_main_v6, val_main_v5,
    val_main_v4, val_main_v3, val_main_cst, val_main_cst_0, val_main_cst_1, UpSpec.meanSq]

/-- The gradient of the normed rows in the reference. -/
theorem ref57 (s : Fin 8192) (n : Fin 1024) :
    val_main_v57 (F := Ideal) x0 x1 x2 (ix2 s n)
      = UpSpec.dh (UpSpec.da (fun s k => x0 (ix2 s k)) (fun i k => x1 (ix2 i k)))
          (fun n k => x2 (ix3 ⟨k.val / 1408, by omega⟩ n ⟨k.val % 1408, by omega⟩)) s n := by
  have : val_main_v57 (F := Ideal) x0 x1 x2 (ix2 s n) = ∑ k, val_main_v56 (F := Ideal) x0 x1 (ix2 s k) *
       x2 (ix3 ⟨k.val / 1408, by omega⟩ n ⟨k.val % 1408, by omega⟩) := by
    pointwise [val_main_v57, val_main_v2, val_main_v1, val_main_v0]
  rw [this, UpSpec.dh]
  exact Finset.sum_congr rfl fun k _ => by rw [ref56]

/-- The second result of the reference. -/
theorem ref78 (s : Fin 8192) (n : Fin 1024) :
    val_main_v78 (F := Ideal) x0 x1 x2 x3 x4 x5 (ix2 s n)
      = x5 (ix2 s n) + UpSpec.normGrad (fun j => x3 (ix2 s j))
          (fun j => val_main_v57 (F := Ideal) x0 x1 x2 (ix2 s j) * x4 (ix2 0 j)) n := by
  rw [← UpSpec.chainGrad_eq, UpSpec.chainGrad, ← ref13, ← ref10]
  pointwise [val_main_v78, val_main_v76, val_main_v75, val_main_v74, val_main_v73, val_main_v72, val_main_v71, val_main_v70, val_main_v69,
    val_main_v68, val_main_v67, val_main_v66, val_main_v65, val_main_v64, val_main_v63, val_main_v62, val_main_v61, val_main_cst_9,
    val_main_cst_10, val_main_cst_11]
  simp only [Fin.sum_univ_one]

/-- The third result of the reference. -/
theorem ref80 (a : Fin 8) (n : Fin 1024) :
    val_main_v80 (F := Ideal) x0 x1 x2 x3 (ix2 a n)
      = if a.val = 0 then ∑ s, UpSpec.scaleGrad (fun j => x3 (ix2 s j)) (fun j => val_main_v57 (F := Ideal) x0 x1 x2 (ix2 s j)) n else 0 := by
  unfold UpSpec.scaleGrad
  simp only [← ref10]
  pointwise [val_main_v80, val_main_v79, val_main_v60, val_main_v59, val_main_v58, val_main_v15, val_main_v14, val_main_cst_8, val_main_cst_12]
  by_cases h : a.val = 0
  · rw [dif_pos (show a.val < 1 by omega), if_pos h]
    refine Finset.sum_congr rfl fun x _ => ?_
    rw [mul_comm, ← mul_assoc]
  · rw [dif_neg (show ¬ a.val < 1 by omega), if_neg h]

end Cert.UpRefIdeal.Point
end
-- ==== Proof.UpClaim.lean ====
module

public import proofs.«01_k».proof.Defs
public import proofs.«01_k».proof.Proof.UpScale
public import proofs.«01_k».proof.Proof.UpRef
public import proofs.«01_k».proof.Proof.Gen.UpRefIdeal.Run

@[expose] public section

namespace Cert.Proof

open Idealize.ShloMosaic Idealize.ShloMosaic.TcCoe Idealize.SL.Sem

/-- The up-projection's gradient call and the derivative of the reference's lines compute the same three arrays. -/
theorem algebraic_up : Cert.algebraic_UpIdeal_UpRefIdeal := by
  intro m g m' g' hpre hagree
  refine ⟨Cert.UpIdeal.Point.resDa m, Cert.UpIdeal.Point.resDx m, Cert.UpIdeal.Point.resDg m, ?_, ?_⟩
  · refine (θ_run _ _ _).mono (fun r h c => ?_) (Cert.UpIdeal.Value.run_blocks m g)
    obtain ⟨h7, h8, h9, ha⟩ := h c
    exact ⟨h7.trans (Cert.UpIdeal.Point.final7 m c), h8.trans (Cert.UpIdeal.Point.final8 m c),
      h9.trans (Cert.UpIdeal.Point.final9 m c), ha⟩
  · refine (θ_run _ _ _).mono (fun r h c => ?_) (Cert.UpRefIdeal.Value.run m' g')
    obtain ⟨h77, h78, h80, ha⟩ := h c
    obtain ⟨e0, e1, e2, e3, e4, e5⟩ := hagree c
    refine ⟨h77.trans ?_, h78.trans ?_, h80.trans ?_, ha⟩
    · rw [Cert.UpRefIdeal.Read.val_main_v77_eq, e0, e1]
      funext j
      idx_vars j
      exact Cert.UpRefIdeal.Point.ref56 _ _ j0 j1
    · rw [Cert.UpRefIdeal.Read.val_main_v78_eq, e0, e1, e2, e3, e4, e5]
      funext j
      idx_vars j
      rw [Cert.UpRefIdeal.Point.ref78]
      simp only [Cert.UpRefIdeal.Point.ref57]
      rfl
    · rw [Cert.UpRefIdeal.Read.val_main_v80_eq, e0, e1, e2, e3]
      funext j
      idx_vars j
      rw [Cert.UpRefIdeal.Point.ref80]
      simp only [Cert.UpRefIdeal.Point.ref57]
      rfl

end Cert.Proof
end
-- ==== Proof.FfnDownKernel.lean ====
module

public import proofs.«01_k».proof.Proof.Gen.FfnDownIdeal.Value
public import Idealize.ShloMosaic.Lib.Pipeline.ValueKit
public import Idealize.ShloMosaic.Lib.Pipeline.ReadBack

@[expose] public section

set_option maxRecDepth 16384

noncomputable section

namespace Cert.FfnDownIdeal.Point

open Cert.FfnDownIdeal Cert.FfnDownIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at each point. -/
theorem idx : ∀ t : Fin cfg0.N, win0_0.index t = ![t.val % 8, t.val / 8 / 1] ∧ win0_1.index t = ![t.val % 8, t.val / 8 % 1]
    ∧ win0_2.index t = ![t.val / 8 % 1 / 1, t.val / 8 / 1, t.val / 8 % 1 % 1] ∧ t.val < 16 :=
  (by decide +kernel : ∀ t : Fin grid0.N, _)

/-- The rows that the projection took in. -/
def argH (c : Dev nD) (s : Fin 8192) (k : Fin 2816) : EReal := m ((c : Thread nD τ).loc main_arg0) (ix2 s k)
/-- The gradient of the projection's rows. -/
def argY (c : Dev nD) (s : Fin 8192) (n : Fin 1024) : EReal := m ((c : Thread nD τ).loc main_arg1) (ix2 s n)

/-- The result: the gradient of the weights. -/
def res (c : Dev nD) (j : S1x2816x1024.Idx) : EReal := ∑ s, argH m c s (j 1) * argY m c s ⟨1024 * (j 0).val + (j 2).val, by
  have h0 : (j 0).val < 1 := (j 0).isLt
  have h2 : (j 2).val < 1024 := (j 2).isLt
  omega⟩

/-- What the rows of one point add to an entry of the accumulated block. -/
def term (c : Dev nD) (t : Fin cfg0.N) (y : S1408x1024.Idx) : EReal :=
  ∑ r : Fin 1024, argH m c ⟨1024 * (t.val % 8) + r.val, by omega⟩
      ⟨1408 * (t.val / 8 / 1) + (y 0).val, by have := (idx t).2.2.2; have h : (y 0).val < 1408 := (y 0).isLt; omega⟩
    * argY m c ⟨1024 * (t.val % 8) + r.val, by omega⟩
      ⟨1024 * (t.val / 8 % 1) + (y 1).val, by have h : (y 1).val < 1024 := (y 1).isLt; omega⟩

/-- An entry of the projection's rows in the block of a point. -/
theorem blockH (c : Dev nD) (t : Fin cfg0.N) (r : Fin 1024) (a : Fin 1408) (h h') :
    iblk m c 0 t (ix2 r a) = argH m c ⟨1024 * (t.val % 8) + r.val, h⟩ ⟨1408 * (t.val / 8 / 1) + a.val, h'⟩ := by
  obtain ⟨i0, i1, i2, hh⟩ := idx t
  unfold argH
  blk_point [iblk, V, idx t]

/-- An entry of the gradient's rows in the block of a point. -/
theorem blockY (c : Dev nD) (t : Fin cfg0.N) (r : Fin 1024) (b : Fin 1024) (h h') :
    iblk m c 1 t (ix2 r b) = argY m c ⟨1024 * (t.val % 8) + r.val, h⟩ ⟨1024 * (t.val / 8 % 1) + b.val, h'⟩ := by
  obtain ⟨i0, i1, i2, hh⟩ := idx t
  unfold argY
  blk_point [iblk, V, idx t]

set_option maxHeartbeats 1600000 in
/-- At the first row block the accumulator starts from zero. -/
theorem acc_first (c : Dev nD) (t : Fin cfg0.N) (h : t.val % 8 = 0) (y : S1408x1024.Idx) :
    (outsAt0 m c t.val t.isLt).2 y = 0 + term m c t y := by
  idx_vars y
  rw [outsAt0_A m c t h (by omega)]
  frame_open
  simp (disch := decide) only [↓ View.readCov_skip, ↓ View.readCov_cons_toLoadRect, ↓ View.readCov_fill]
  frame_out
  pointwise [k0_pay1, k0_pay2]
  exact Finset.sum_congr rfl fun r _ => Ideal.mul_congr (blockH m c t r y0 _ _) (blockY m c t r y1 _ _)

set_option maxHeartbeats 1600000 in
/-- At a later row block the accumulator takes in the block's part. -/
theorem acc_step (c : Dev nD) (t : Fin cfg0.N) (h : ¬ t.val % 8 = 0) (y : S1408x1024.Idx) :
    (outsAt0 m c t.val t.isLt).2 y
      = (outsAt0 m c (t.val - 1) (Nat.lt_of_le_of_lt (Nat.sub_le _ _) t.isLt)).2 y + term m c t y := by
  idx_vars y
  by_cases h7 : t.val % 8 = 7
  · rw [outsAt0_C m c t h h7]
    frame_open
    simp (disch := decide) only [↓ View.readCov_skip, ↓ View.readCov_cons_toLoadRect, ↓ View.readCov_fill]
    frame_out
    pointwise [k0_pay2]
    exact Ideal.add_congr (congrFun (Memref.IsWhole.read_unread _ _) _)
      (Finset.sum_congr rfl fun r _ => Ideal.mul_congr (blockH m c t r y0 _ _) (blockY m c t r y1 _ _))
  · rw [outsAt0_B m c t h h7]
    frame_open
    simp (disch := decide) only [↓ View.readCov_skip, ↓ View.readCov_cons_toLoadRect, ↓ View.readCov_fill]
    frame_out
    pointwise [k0_pay2]
    exact Ideal.add_congr (congrFun (Memref.IsWhole.read_unread _ _) _)
      (Finset.sum_congr rfl fun r _ => Ideal.mul_congr (blockH m c t r y0 _ _) (blockY m c t r y1 _ _))

set_option maxHeartbeats 1600000 in
/-- The block written back is the accumulator after the last row block. -/
theorem out_last (c : Dev nD) (t : Fin cfg0.N) (h : t.val % 8 = 7) (a : Fin 1408) (b : Fin 1024) :
    (outsAt0 m c t.val t.isLt).1 (ix3 0 a b) = (outsAt0 m c t.val t.isLt).2 (ix2 a b) := by
  rw [outsAt0_C m c t (by omega) h]
  frame_open
  simp (disch := decide) only [↓ View.readCov_skip, ↓ View.readCov_cons_toLoadRect, ↓ View.readCov_fill]
  frame_out
  pointwise [k0_pay3]

set_option maxHeartbeats 1600000 in
/-- The result's array. -/
theorem final2 (c : Dev nD) : (dats m 0 c).arrAt 2 (cfgs 0).N = res m c := by
  refine (dats m 0 c).arrAt_eq_of_covers 2 _ (by decide +kernel) fun t hf y => ?_
  idx_vars y
  obtain ⟨h0, h1, h2, h'⟩ := idx t
  have hy0 := y0.isLt
  have hy1 := y1.isLt
  have hy2 := y2.isLt
  have he : ((cfg0.win 2).blk t).view.emb (ix3 y0 y1 y2)
      = ix3 ⟨t.val / 8 % 1 / 1, by omega⟩ ⟨1408 * (t.val / 8 / 1) + y1.val, by omega⟩ ⟨1024 * (t.val / 8 % 1 % 1) + y2.val, by omega⟩ := by
    blk_ext [h2]
  have hf' := (flush0_2 t).mp hf
  obtain rfl : y0 = 0 := Fin.ext (by omega)
  blk_simp
  refine Eq.trans ?_ (congrArg (res m c) he).symm
  rw [after0_2, out_last m c t hf', Pipeline.eq_sum_fin_of_reset_step_apply_of_flush (fun n h => (outsAt0 m c n h).2) 8 (fun _ => 0) (term m c)
    (fun t h j => acc_first m c t h j) (fun t h j => acc_step m c t h j) t hf' _]
  change (0 : EReal) + ∑ s : Fin 8, term m c _ (ix2 y1 y2) = ∑ s, _
  rw [zero_add, Fin.sum_univ_tiles 8 1024 rfl]
  refine Finset.sum_congr rfl fun s _ => Finset.sum_congr rfl fun r _ => ?_
  refine congrArg₂ (· * ·) (congrArg₂ (argH m c) (Fin.ext ?_) (Fin.ext ?_)) (congrArg₂ (argY m c) (Fin.ext ?_) (Fin.ext ?_))
  all_goals
    simp only [ix2_0, ix2_1, ix3_0, ix3_1, ix3_2]
    omega

end Cert.FfnDownIdeal.Point
-- ==== Proof.FfnDownClaim.lean ====
module

public import proofs.«01_k».proof.Defs
public import proofs.«01_k».proof.Proof.FfnDownKernel
public import proofs.«01_k».proof.Proof.Gen.FfnDownRefIdeal.Run

@[expose] public section

namespace Cert.Proof

open Idealize.ShloMosaic Idealize.ShloMosaic.TcCoe Idealize.SL.Sem

/-- The down-projection's weight gradient call computes the derivative of the product in its weights. -/
theorem algebraic_ffndown : Cert.algebraic_FfnDownIdeal_FfnDownRefIdeal := by
  intro m g m' g' hpre hagree
  refine ⟨Cert.FfnDownIdeal.Point.res m, ?_, ?_⟩
  · refine (θ_run _ _ _).mono (fun r h c => ?_) (Cert.FfnDownIdeal.Value.run_blocks m g)
    obtain ⟨h2, ha⟩ := h c
    exact ⟨h2.trans (Cert.FfnDownIdeal.Point.final2 m c), ha⟩
  · refine (θ_run _ _ _).mono (fun r h c => ?_) (Cert.FfnDownRefIdeal.Value.run m' g')
    obtain ⟨h2, ha⟩ := h c
    obtain ⟨e0, e1⟩ := hagree c
    refine ⟨h2.trans ?_, ha⟩
    rw [e0, e1]
    funext j
    idx_vars j
    pointwise [Cert.FfnDownIdeal.Point.res, Cert.FfnDownIdeal.Point.argH, Cert.FfnDownIdeal.Point.argY]
    refine Finset.sum_congr rfl fun s _ => (mul_comm _ _).trans (congrArg₂ (· * ·) (congrArg _ ?_) (congrArg _ ?_))
    all_goals blk_ext

end Cert.Proof
end
-- ==== Proof.FfnUpKernel.lean ====
module

public import proofs.«01_k».proof.Proof.Gen.FfnUpIdeal.Value
public import Idealize.ShloMosaic.Lib.Pipeline.ValueKit
public import Idealize.ShloMosaic.Lib.Pipeline.ReadBack

@[expose] public section

set_option maxRecDepth 16384

noncomputable section

namespace Cert.FfnUpIdeal.Point

open Cert.FfnUpIdeal Cert.FfnUpIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at each point. -/
theorem idx : ∀ t : Fin cfg0.N, win0_0.index t = ![t.val % 8, t.val / 8 / 4] ∧ win0_1.index t = ![t.val % 8, t.val / 8 % 4]
    ∧ win0_2.index t = ![t.val / 8 % 4 / 1, t.val / 8 / 4, t.val / 8 % 4 % 1] ∧ t.val < 32 :=
  (by decide +kernel : ∀ t : Fin grid0.N, _)

/-- The rows that the projection took in. -/
def argH (c : Dev nD) (s : Fin 8192) (k : Fin 1024) : EReal := m ((c : Thread nD τ).loc main_arg0) (ix2 s k)
/-- The gradient of the projection's rows. -/
def argY (c : Dev nD) (s : Fin 8192) (n : Fin 5632) : EReal := m ((c : Thread nD τ).loc main_arg1) (ix2 s n)

/-- The result: the gradient of the weights. -/
def res (c : Dev nD) (j : S4x1024x1408.Idx) : EReal := ∑ s, argH m c s (j 1) * argY m c s ⟨1408 * (j 0).val + (j 2).val, by
  have h0 : (j 0).val < 4 := (j 0).isLt
  have h2 : (j 2).val < 1408 := (j 2).isLt
  omega⟩

/-- What the rows of one point add to an entry of the accumulated block. -/
def term (c : Dev nD) (t : Fin cfg0.N) (y : S1024x1408.Idx) : EReal :=
  ∑ r : Fin 1024, argH m c ⟨1024 * (t.val % 8) + r.val, by omega⟩
      ⟨1024 * (t.val / 8 / 4) + (y 0).val, by have := (idx t).2.2.2; have h : (y 0).val < 1024 := (y 0).isLt; omega⟩
    * argY m c ⟨1024 * (t.val % 8) + r.val, by omega⟩
      ⟨1408 * (t.val / 8 % 4) + (y 1).val, by have h : (y 1).val < 1408 := (y 1).isLt; omega⟩

/-- An entry of the projection's rows in the block of a point. -/
theorem blockH (c : Dev nD) (t : Fin cfg0.N) (r : Fin 1024) (a : Fin 1024) (h h') :
    iblk m c 0 t (ix2 r a) = argH m c ⟨1024 * (t.val % 8) + r.val, h⟩ ⟨1024 * (t.val / 8 / 4) + a.val, h'⟩ := by
  obtain ⟨i0, i1, i2, hh⟩ := idx t
  unfold argH
  blk_point [iblk, V, idx t]

/-- An entry of the gradient's rows in the block of a point. -/
theorem blockY (c : Dev nD) (t : Fin cfg0.N) (r : Fin 1024) (b : Fin 1408) (h h') :
    iblk m c 1 t (ix2 r b) = argY m c ⟨1024 * (t.val % 8) + r.val, h⟩ ⟨1408 * (t.val / 8 % 4) + b.val, h'⟩ := by
  obtain ⟨i0, i1, i2, hh⟩ := idx t
  unfold argY
  blk_point [iblk, V, idx t]

set_option maxHeartbeats 1600000 in
/-- At the first row block the accumulator starts from zero. -/
theorem acc_first (c : Dev nD) (t : Fin cfg0.N) (h : t.val % 8 = 0) (y : S1024x1408.Idx) :
    (outsAt0 m c t.val t.isLt).2 y = 0 + term m c t y := by
  idx_vars y
  rw [outsAt0_A m c t h (by omega)]
  frame_open
  simp (disch := decide) only [↓ View.readCov_skip, ↓ View.readCov_cons_toLoadRect, ↓ View.readCov_fill]
  frame_out
  pointwise [k0_pay1, k0_pay2]
  exact Finset.sum_congr rfl fun r _ => Ideal.mul_congr (blockH m c t r y0 _ _) (blockY m c t r y1 _ _)

set_option maxHeartbeats 1600000 in
/-- At a later row block the accumulator takes in the block's part. -/
theorem acc_step (c : Dev nD) (t : Fin cfg0.N) (h : ¬ t.val % 8 = 0) (y : S1024x1408.Idx) :
    (outsAt0 m c t.val t.isLt).2 y
      = (outsAt0 m c (t.val - 1) (Nat.lt_of_le_of_lt (Nat.sub_le _ _) t.isLt)).2 y + term m c t y := by
  idx_vars y
  by_cases h7 : t.val % 8 = 7
  · rw [outsAt0_C m c t h h7]
    frame_open
    simp (disch := decide) only [↓ View.readCov_skip, ↓ View.readCov_cons_toLoadRect, ↓ View.readCov_fill]
    frame_out
    pointwise [k0_pay2]
    exact Ideal.add_congr (congrFun (Memref.IsWhole.read_unread _ _) _)
      (Finset.sum_congr rfl fun r _ => Ideal.mul_congr (blockH m c t r y0 _ _) (blockY m c t r y1 _ _))
  · rw [outsAt0_B m c t h h7]
    frame_open
    simp (disch := decide) only [↓ View.readCov_skip, ↓ View.readCov_cons_toLoadRect, ↓ View.readCov_fill]
    frame_out
    pointwise [k0_pay2]
    exact Ideal.add_congr (congrFun (Memref.IsWhole.read_unread _ _) _)
      (Finset.sum_congr rfl fun r _ => Ideal.mul_congr (blockH m c t r y0 _ _) (blockY m c t r y1 _ _))

set_option maxHeartbeats 1600000 in
/-- The block written back is the accumulator after the last row block. -/
theorem out_last (c : Dev nD) (t : Fin cfg0.N) (h : t.val % 8 = 7) (a : Fin 1024) (b : Fin 1408) :
    (outsAt0 m c t.val t.isLt).1 (ix3 0 a b) = (outsAt0 m c t.val t.isLt).2 (ix2 a b) := by
  rw [outsAt0_C m c t (by omega) h]
  frame_open
  simp (disch := decide) only [↓ View.readCov_skip, ↓ View.readCov_cons_toLoadRect, ↓ View.readCov_fill]
  frame_out
  pointwise [k0_pay3]

set_option maxHeartbeats 1600000 in
/-- The result's array. -/
theorem final2 (c : Dev nD) : (dats m 0 c).arrAt 2 (cfgs 0).N = res m c := by
  refine (dats m 0 c).arrAt_eq_of_covers 2 _ (by decide +kernel) fun t hf y => ?_
  idx_vars y
  obtain ⟨h0, h1, h2, h'⟩ := idx t
  have hy0 := y0.isLt
  have hy1 := y1.isLt
  have hy2 := y2.isLt
  have he : ((cfg0.win 2).blk t).view.emb (ix3 y0 y1 y2)
      = ix3 ⟨t.val / 8 % 4 / 1, by omega⟩ ⟨1024 * (t.val / 8 / 4) + y1.val, by omega⟩ ⟨1408 * (t.val / 8 % 4 % 1) + y2.val, by omega⟩ := by
    blk_ext [h2]
  have hf' := (flush0_2 t).mp hf
  obtain rfl : y0 = 0 := Fin.ext (by have : y0.val < 1 := hy0; omega)
  blk_simp
  refine Eq.trans ?_ (congrArg (res m c) he).symm
  rw [after0_2, out_last m c t hf', Pipeline.eq_sum_fin_of_reset_step_apply_of_flush (fun n h => (outsAt0 m c n h).2) 8 (fun _ => 0) (term m c)
    (fun t h j => acc_first m c t h j) (fun t h j => acc_step m c t h j) t hf' _]
  change (0 : EReal) + ∑ s : Fin 8, term m c _ (ix2 y1 y2) = ∑ s, _
  rw [zero_add, Fin.sum_univ_tiles 8 1024 rfl]
  refine Finset.sum_congr rfl fun s _ => Finset.sum_congr rfl fun r _ => ?_
  refine congrArg₂ (· * ·) (congrArg₂ (argH m c) (Fin.ext ?_) (Fin.ext ?_)) (congrArg₂ (argY m c) (Fin.ext ?_) (Fin.ext ?_))
  all_goals
    simp only [ix2_0, ix2_1, ix3_0, ix3_1, ix3_2]
    omega

end Cert.FfnUpIdeal.Point
-- ==== Proof.FfnUpClaim.lean ====
module

public import proofs.«01_k».proof.Defs
public import proofs.«01_k».proof.Proof.FfnUpKernel
public import proofs.«01_k».proof.Proof.Gen.FfnUpRefIdeal.Run

@[expose] public section

namespace Cert.Proof

open Idealize.ShloMosaic Idealize.ShloMosaic.TcCoe Idealize.SL.Sem

/-- The weight gradient call of the feed-forward layer's up-projection computes the derivative of the product in its weights. -/
theorem algebraic_ffnup : Cert.algebraic_FfnUpIdeal_FfnUpRefIdeal := by
  intro m g m' g' hpre hagree
  refine ⟨Cert.FfnUpIdeal.Point.res m, ?_, ?_⟩
  · refine (θ_run _ _ _).mono (fun r h c => ?_) (Cert.FfnUpIdeal.Value.run_blocks m g)
    obtain ⟨h2, ha⟩ := h c
    exact ⟨h2.trans (Cert.FfnUpIdeal.Point.final2 m c), ha⟩
  · refine (θ_run _ _ _).mono (fun r h c => ?_) (Cert.FfnUpRefIdeal.Value.run m' g')
    obtain ⟨h2, ha⟩ := h c
    obtain ⟨e0, e1⟩ := hagree c
    refine ⟨h2.trans ?_, ha⟩
    rw [e0, e1]
    funext j
    idx_vars j
    pointwise [Cert.FfnUpIdeal.Point.res, Cert.FfnUpIdeal.Point.argH, Cert.FfnUpIdeal.Point.argY]
    refine Finset.sum_congr rfl fun s _ => (mul_comm _ _).trans (congrArg₂ (· * ·) (congrArg _ ?_) (congrArg _ ?_))
    all_goals blk_ext

end Cert.Proof
end
-- ==== Proof.OutWKernel.lean ====
module

public import proofs.«01_k».proof.Proof.Gen.OutWIdeal.Value
public import Idealize.ShloMosaic.Lib.Pipeline.ValueKit
public import Idealize.ShloMosaic.Lib.Pipeline.ReadBack

@[expose] public section

set_option maxRecDepth 16384

noncomputable section

namespace Cert.OutWIdeal.Point

open Cert.OutWIdeal Cert.OutWIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at each point. -/
theorem idx : ∀ t : Fin cfg0.N, win0_0.index t = ![t.val % 8, t.val / 8 / 1] ∧ win0_1.index t = ![t.val % 8, t.val / 8 % 1]
    ∧ win0_2.index t = ![t.val / 8 % 1 / 1, t.val / 8 / 1, t.val / 8 % 1 % 1] ∧ t.val < 8 :=
  (by decide +kernel : ∀ t : Fin grid0.N, _)

/-- The rows that the projection took in. -/
def argH (c : Dev nD) (s : Fin 8192) (k : Fin 1024) : EReal := m ((c : Thread nD τ).loc main_arg0) (ix2 s k)
/-- The gradient of the projection's rows. -/
def argY (c : Dev nD) (s : Fin 8192) (n : Fin 1024) : EReal := m ((c : Thread nD τ).loc main_arg1) (ix2 s n)

/-- The result: the gradient of the weights. -/
def res (c : Dev nD) (j : S1x1024x1024.Idx) : EReal := ∑ s, argH m c s (j 1) * argY m c s ⟨1024 * (j 0).val + (j 2).val, by
  have h0 : (j 0).val < 1 := (j 0).isLt
  have h2 : (j 2).val < 1024 := (j 2).isLt
  omega⟩

/-- What the rows of one point add to an entry of the accumulated block. -/
def term (c : Dev nD) (t : Fin cfg0.N) (y : S1024x1024.Idx) : EReal :=
  ∑ r : Fin 1024, argH m c ⟨1024 * (t.val % 8) + r.val, by omega⟩
      ⟨1024 * (t.val / 8 / 1) + (y 0).val, by have := (idx t).2.2.2; have h : (y 0).val < 1024 := (y 0).isLt; omega⟩
    * argY m c ⟨1024 * (t.val % 8) + r.val, by omega⟩
      ⟨1024 * (t.val / 8 % 1) + (y 1).val, by have h : (y 1).val < 1024 := (y 1).isLt; omega⟩

/-- An entry of the projection's rows in the block of a point. -/
theorem blockH (c : Dev nD) (t : Fin cfg0.N) (r : Fin 1024) (a : Fin 1024) (h h') :
    iblk m c 0 t (ix2 r a) = argH m c ⟨1024 * (t.val % 8) + r.val, h⟩ ⟨1024 * (t.val / 8 / 1) + a.val, h'⟩ := by
  obtain ⟨i0, i1, i2, hh⟩ := idx t
  unfold argH
  blk_point [iblk, V, idx t]

/-- An entry of the gradient's rows in the block of a point. -/
theorem blockY (c : Dev nD) (t : Fin cfg0.N) (r : Fin 1024) (b : Fin 1024) (h h') :
    iblk m c 1 t (ix2 r b) = argY m c ⟨1024 * (t.val % 8) + r.val, h⟩ ⟨1024 * (t.val / 8 % 1) + b.val, h'⟩ := by
  obtain ⟨i0, i1, i2, hh⟩ := idx t
  unfold argY
  blk_point [iblk, V, idx t]

set_option maxHeartbeats 1600000 in
/-- At the first row block the accumulator starts from zero. -/
theorem acc_first (c : Dev nD) (t : Fin cfg0.N) (h : t.val % 8 = 0) (y : S1024x1024.Idx) :
    (outsAt0 m c t.val t.isLt).2 y = 0 + term m c t y := by
  idx_vars y
  rw [outsAt0_A m c t h (by omega)]
  frame_open
  simp (disch := decide) only [↓ View.readCov_skip, ↓ View.readCov_cons_toLoadRect, ↓ View.readCov_fill]
  frame_out
  pointwise [k0_pay1, k0_pay2]
  exact Finset.sum_congr rfl fun r _ => Ideal.mul_congr (blockH m c t r y0 _ _) (blockY m c t r y1 _ _)

set_option maxHeartbeats 1600000 in
/-- At a later row block the accumulator takes in the block's part. -/
theorem acc_step (c : Dev nD) (t : Fin cfg0.N) (h : ¬ t.val % 8 = 0) (y : S1024x1024.Idx) :
    (outsAt0 m c t.val t.isLt).2 y
      = (outsAt0 m c (t.val - 1) (Nat.lt_of_le_of_lt (Nat.sub_le _ _) t.isLt)).2 y + term m c t y := by
  idx_vars y
  by_cases h7 : t.val % 8 = 7
  · rw [outsAt0_C m c t h h7]
    frame_open
    simp (disch := decide) only [↓ View.readCov_skip, ↓ View.readCov_cons_toLoadRect, ↓ View.readCov_fill]
    frame_out
    pointwise [k0_pay2]
    exact Ideal.add_congr (congrFun (Memref.IsWhole.read_unread _ _) _)
      (Finset.sum_congr rfl fun r _ => Ideal.mul_congr (blockH m c t r y0 _ _) (blockY m c t r y1 _ _))
  · rw [outsAt0_B m c t h h7]
    frame_open
    simp (disch := decide) only [↓ View.readCov_skip, ↓ View.readCov_cons_toLoadRect, ↓ View.readCov_fill]
    frame_out
    pointwise [k0_pay2]
    exact Ideal.add_congr (congrFun (Memref.IsWhole.read_unread _ _) _)
      (Finset.sum_congr rfl fun r _ => Ideal.mul_congr (blockH m c t r y0 _ _) (blockY m c t r y1 _ _))

set_option maxHeartbeats 1600000 in
/-- The block written back is the accumulator after the last row block. -/
theorem out_last (c : Dev nD) (t : Fin cfg0.N) (h : t.val % 8 = 7) (a : Fin 1024) (b : Fin 1024) :
    (outsAt0 m c t.val t.isLt).1 (ix3 0 a b) = (outsAt0 m c t.val t.isLt).2 (ix2 a b) := by
  rw [outsAt0_C m c t (by omega) h]
  frame_open
  simp (disch := decide) only [↓ View.readCov_skip, ↓ View.readCov_cons_toLoadRect, ↓ View.readCov_fill]
  frame_out
  pointwise [k0_pay3]

set_option maxHeartbeats 1600000 in
/-- The result's array. -/
theorem final2 (c : Dev nD) : (dats m 0 c).arrAt 2 (cfgs 0).N = res m c := by
  refine (dats m 0 c).arrAt_eq_of_covers 2 _ (by decide +kernel) fun t hf y => ?_
  idx_vars y
  obtain ⟨h0, h1, h2, h'⟩ := idx t
  have hy0 := y0.isLt
  have hy1 := y1.isLt
  have hy2 := y2.isLt
  have he : ((cfg0.win 2).blk t).view.emb (ix3 y0 y1 y2)
      = ix3 ⟨t.val / 8 % 1 / 1, by omega⟩ ⟨1024 * (t.val / 8 / 1) + y1.val, by omega⟩ ⟨1024 * (t.val / 8 % 1 % 1) + y2.val, by omega⟩ := by
    blk_ext [h2]
  have hf' := (flush0_2 t).mp hf
  obtain rfl : y0 = 0 := Fin.ext (by have : y0.val < 1 := hy0; omega)
  blk_simp
  refine Eq.trans ?_ (congrArg (res m c) he).symm
  rw [after0_2, out_last m c t hf', Pipeline.eq_sum_fin_of_reset_step_apply_of_flush (fun n h => (outsAt0 m c n h).2) 8 (fun _ => 0) (term m c)
    (fun t h j => acc_first m c t h j) (fun t h j => acc_step m c t h j) t hf' _]
  change (0 : EReal) + ∑ s : Fin 8, term m c _ (ix2 y1 y2) = ∑ s, _
  rw [zero_add, Fin.sum_univ_tiles 8 1024 rfl]
  refine Finset.sum_congr rfl fun s _ => Finset.sum_congr rfl fun r _ => ?_
  refine congrArg₂ (· * ·) (congrArg₂ (argH m c) (Fin.ext ?_) (Fin.ext ?_)) (congrArg₂ (argY m c) (Fin.ext ?_) (Fin.ext ?_))
  all_goals
    simp only [ix2_0, ix2_1, ix3_0, ix3_1, ix3_2]
    omega

end Cert.OutWIdeal.Point
-- ==== Proof.OutWClaim.lean ====
module

public import proofs.«01_k».proof.Defs
public import proofs.«01_k».proof.Proof.OutWKernel
public import proofs.«01_k».proof.Proof.Gen.OutWRefIdeal.Run

@[expose] public section

namespace Cert.Proof

open Idealize.ShloMosaic Idealize.ShloMosaic.TcCoe Idealize.SL.Sem

/-- The weight gradient call of a square output projection computes the derivative of the product in its weights. -/
theorem algebraic_outw : Cert.algebraic_OutWIdeal_OutWRefIdeal := by
  intro m g m' g' hpre hagree
  refine ⟨Cert.OutWIdeal.Point.res m, ?_, ?_⟩
  · refine (θ_run _ _ _).mono (fun r h c => ?_) (Cert.OutWIdeal.Value.run_blocks m g)
    obtain ⟨h2, ha⟩ := h c
    exact ⟨h2.trans (Cert.OutWIdeal.Point.final2 m c), ha⟩
  · refine (θ_run _ _ _).mono (fun r h c => ?_) (Cert.OutWRefIdeal.Value.run m' g')
    obtain ⟨h2, ha⟩ := h c
    obtain ⟨e0, e1⟩ := hagree c
    refine ⟨h2.trans ?_, ha⟩
    rw [e0, e1]
    funext j
    idx_vars j
    pointwise [Cert.OutWIdeal.Point.res, Cert.OutWIdeal.Point.argH, Cert.OutWIdeal.Point.argY]
    refine Finset.sum_congr rfl fun s _ => (mul_comm _ _).trans (congrArg₂ (· * ·) (congrArg _ ?_) (congrArg _ ?_))
    all_goals blk_ext

end Cert.Proof
end
-- ==== Proof.QueryWKernel.lean ====
module

public import proofs.«01_k».proof.Proof.Gen.QueryWIdeal.Value
public import Idealize.ShloMosaic.Lib.Pipeline.ValueKit
public import Idealize.ShloMosaic.Lib.Pipeline.ReadBack

@[expose] public section

set_option maxRecDepth 16384

noncomputable section

namespace Cert.QueryWIdeal.Point

open Cert.QueryWIdeal Cert.QueryWIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at each point. -/
theorem idx : ∀ t : Fin cfg0.N, win0_0.index t = ![t.val % 8, t.val / 8 / 1] ∧ win0_1.index t = ![t.val % 8, t.val / 8 % 1]
    ∧ win0_2.index t = ![t.val / 8 % 1 / 1, t.val / 8 / 1, t.val / 8 % 1 % 1] ∧ t.val < 8 :=
  (by decide +kernel : ∀ t : Fin grid0.N, _)

/-- The rows that the projection took in. -/
def argH (c : Dev nD) (s : Fin 8192) (k : Fin 1024) : EReal := m ((c : Thread nD τ).loc main_arg0) (ix2 s k)
/-- The gradient of the projection's rows. -/
def argY (c : Dev nD) (s : Fin 8192) (n : Fin 1024) : EReal := m ((c : Thread nD τ).loc main_arg1) (ix2 s n)

/-- The result: the gradient of the weights. -/
def res (c : Dev nD) (j : S1x1024x1024.Idx) : EReal := ∑ s, argH m c s (j 1) * argY m c s ⟨1024 * (j 0).val + (j 2).val, by
  have h0 : (j 0).val < 1 := (j 0).isLt
  have h2 : (j 2).val < 1024 := (j 2).isLt
  omega⟩

/-- What the rows of one point add to an entry of the accumulated block. -/
def term (c : Dev nD) (t : Fin cfg0.N) (y : S1024x1024.Idx) : EReal :=
  ∑ r : Fin 1024, argH m c ⟨1024 * (t.val % 8) + r.val, by omega⟩
      ⟨1024 * (t.val / 8 / 1) + (y 0).val, by have := (idx t).2.2.2; have h : (y 0).val < 1024 := (y 0).isLt; omega⟩
    * argY m c ⟨1024 * (t.val % 8) + r.val, by omega⟩
      ⟨1024 * (t.val / 8 % 1) + (y 1).val, by have h : (y 1).val < 1024 := (y 1).isLt; omega⟩

/-- An entry of the projection's rows in the block of a point. -/
theorem blockH (c : Dev nD) (t : Fin cfg0.N) (r : Fin 1024) (a : Fin 1024) (h h') :
    iblk m c 0 t (ix2 r a) = argH m c ⟨1024 * (t.val % 8) + r.val, h⟩ ⟨1024 * (t.val / 8 / 1) + a.val, h'⟩ := by
  obtain ⟨i0, i1, i2, hh⟩ := idx t
  unfold argH
  blk_point [iblk, V, idx t]

/-- An entry of the gradient's rows in the block of a point. -/
theorem blockY (c : Dev nD) (t : Fin cfg0.N) (r : Fin 1024) (b : Fin 1024) (h h') :
    iblk m c 1 t (ix2 r b) = argY m c ⟨1024 * (t.val % 8) + r.val, h⟩ ⟨1024 * (t.val / 8 % 1) + b.val, h'⟩ := by
  obtain ⟨i0, i1, i2, hh⟩ := idx t
  unfold argY
  blk_point [iblk, V, idx t]

set_option maxHeartbeats 1600000 in
/-- At the first row block the accumulator starts from zero. -/
theorem acc_first (c : Dev nD) (t : Fin cfg0.N) (h : t.val % 8 = 0) (y : S1024x1024.Idx) :
    (outsAt0 m c t.val t.isLt).2 y = 0 + term m c t y := by
  idx_vars y
  rw [outsAt0_A m c t h (by omega)]
  frame_open
  simp (disch := decide) only [↓ View.readCov_skip, ↓ View.readCov_cons_toLoadRect, ↓ View.readCov_fill]
  frame_out
  pointwise [k0_pay1, k0_pay2]
  exact Finset.sum_congr rfl fun r _ => Ideal.mul_congr (blockH m c t r y0 _ _) (blockY m c t r y1 _ _)

set_option maxHeartbeats 1600000 in
/-- At a later row block the accumulator takes in the block's part. -/
theorem acc_step (c : Dev nD) (t : Fin cfg0.N) (h : ¬ t.val % 8 = 0) (y : S1024x1024.Idx) :
    (outsAt0 m c t.val t.isLt).2 y
      = (outsAt0 m c (t.val - 1) (Nat.lt_of_le_of_lt (Nat.sub_le _ _) t.isLt)).2 y + term m c t y := by
  idx_vars y
  by_cases h7 : t.val % 8 = 7
  · rw [outsAt0_C m c t h h7]
    frame_open
    simp (disch := decide) only [↓ View.readCov_skip, ↓ View.readCov_cons_toLoadRect, ↓ View.readCov_fill]
    frame_out
    pointwise [k0_pay2]
    exact Ideal.add_congr (congrFun (Memref.IsWhole.read_unread _ _) _)
      (Finset.sum_congr rfl fun r _ => Ideal.mul_congr (blockH m c t r y0 _ _) (blockY m c t r y1 _ _))
  · rw [outsAt0_B m c t h h7]
    frame_open
    simp (disch := decide) only [↓ View.readCov_skip, ↓ View.readCov_cons_toLoadRect, ↓ View.readCov_fill]
    frame_out
    pointwise [k0_pay2]
    exact Ideal.add_congr (congrFun (Memref.IsWhole.read_unread _ _) _)
      (Finset.sum_congr rfl fun r _ => Ideal.mul_congr (blockH m c t r y0 _ _) (blockY m c t r y1 _ _))

set_option maxHeartbeats 1600000 in
/-- The block written back is the accumulator after the last row block. -/
theorem out_last (c : Dev nD) (t : Fin cfg0.N) (h : t.val % 8 = 7) (a : Fin 1024) (b : Fin 1024) :
    (outsAt0 m c t.val t.isLt).1 (ix3 0 a b) = (outsAt0 m c t.val t.isLt).2 (ix2 a b) := by
  rw [outsAt0_C m c t (by omega) h]
  frame_open
  simp (disch := decide) only [↓ View.readCov_skip, ↓ View.readCov_cons_toLoadRect, ↓ View.readCov_fill]
  frame_out
  pointwise [k0_pay3]

set_option maxHeartbeats 1600000 in
/-- The result's array. -/
theorem final2 (c : Dev nD) : (dats m 0 c).arrAt 2 (cfgs 0).N = res m c := by
  refine (dats m 0 c).arrAt_eq_of_covers 2 _ (by decide +kernel) fun t hf y => ?_
  idx_vars y
  obtain ⟨h0, h1, h2, h'⟩ := idx t
  have hy0 := y0.isLt
  have hy1 := y1.isLt
  have hy2 := y2.isLt
  have he : ((cfg0.win 2).blk t).view.emb (ix3 y0 y1 y2)
      = ix3 ⟨t.val / 8 % 1 / 1, by omega⟩ ⟨1024 * (t.val / 8 / 1) + y1.val, by omega⟩ ⟨1024 * (t.val / 8 % 1 % 1) + y2.val, by omega⟩ := by
    blk_ext [h2]
  have hf' := (flush0_2 t).mp hf
  obtain rfl : y0 = 0 := Fin.ext (by have : y0.val < 1 := hy0; omega)
  blk_simp
  refine Eq.trans ?_ (congrArg (res m c) he).symm
  rw [after0_2, out_last m c t hf', Pipeline.eq_sum_fin_of_reset_step_apply_of_flush (fun n h => (outsAt0 m c n h).2) 8 (fun _ => 0) (term m c)
    (fun t h j => acc_first m c t h j) (fun t h j => acc_step m c t h j) t hf' _]
  change (0 : EReal) + ∑ s : Fin 8, term m c _ (ix2 y1 y2) = ∑ s, _
  rw [zero_add, Fin.sum_univ_tiles 8 1024 rfl]
  refine Finset.sum_congr rfl fun s _ => Finset.sum_congr rfl fun r _ => ?_
  refine congrArg₂ (· * ·) (congrArg₂ (argH m c) (Fin.ext ?_) (Fin.ext ?_)) (congrArg₂ (argY m c) (Fin.ext ?_) (Fin.ext ?_))
  all_goals
    simp only [ix2_0, ix2_1, ix3_0, ix3_1, ix3_2]
    omega

end Cert.QueryWIdeal.Point
-- ==== Proof.QueryWClaim.lean ====
module

public import proofs.«01_k».proof.Defs
public import proofs.«01_k».proof.Proof.QueryWKernel
public import proofs.«01_k».proof.Proof.Gen.QueryWRefIdeal.Run

@[expose] public section

namespace Cert.Proof

open Idealize.ShloMosaic Idealize.ShloMosaic.TcCoe Idealize.SL.Sem

/-- The weight gradient call of the cross-attention's query projection computes the derivative of the product in its weights. -/
theorem algebraic_queryw : Cert.algebraic_QueryWIdeal_QueryWRefIdeal := by
  intro m g m' g' hpre hagree
  refine ⟨Cert.QueryWIdeal.Point.res m, ?_, ?_⟩
  · refine (θ_run _ _ _).mono (fun r h c => ?_) (Cert.QueryWIdeal.Value.run_blocks m g)
    obtain ⟨h2, ha⟩ := h c
    exact ⟨h2.trans (Cert.QueryWIdeal.Point.final2 m c), ha⟩
  · refine (θ_run _ _ _).mono (fun r h c => ?_) (Cert.QueryWRefIdeal.Value.run m' g')
    obtain ⟨h2, ha⟩ := h c
    obtain ⟨e0, e1⟩ := hagree c
    refine ⟨h2.trans ?_, ha⟩
    rw [e0, e1]
    funext j
    idx_vars j
    pointwise [Cert.QueryWIdeal.Point.res, Cert.QueryWIdeal.Point.argH, Cert.QueryWIdeal.Point.argY]
    refine Finset.sum_congr rfl fun s _ => (mul_comm _ _).trans (congrArg₂ (· * ·) (congrArg _ ?_) (congrArg _ ?_))
    all_goals blk_ext

end Cert.Proof
end
-- ==== Proof.InWKernel.lean ====
module

public import proofs.«01_k».proof.Proof.Gen.InWIdeal.Value
public import Idealize.ShloMosaic.Lib.Pipeline.ValueKit
public import Idealize.ShloMosaic.Lib.Pipeline.ReadBack

@[expose] public section

set_option maxRecDepth 16384

noncomputable section

namespace Cert.InWIdeal.Point

open Cert.InWIdeal Cert.InWIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at each point. -/
theorem idx : ∀ t : Fin cfg0.N, win0_0.index t = ![t.val % 8, t.val / 8 / 2] ∧ win0_1.index t = ![t.val % 8, t.val / 8 % 2]
    ∧ win0_2.index t = ![t.val / 8 % 2 / 2, t.val / 8 / 2, t.val / 8 % 2 % 2] ∧ t.val < 16 :=
  (by decide +kernel : ∀ t : Fin grid0.N, _)

/-- The rows that the projection took in. -/
def argH (c : Dev nD) (s : Fin 8192) (k : Fin 1024) : EReal := m ((c : Thread nD τ).loc main_arg0) (ix2 s k)
/-- The gradient of the projection's rows. -/
def argY (c : Dev nD) (s : Fin 8192) (n : Fin 2048) : EReal := m ((c : Thread nD τ).loc main_arg1) (ix2 s n)

/-- The result: the gradient of the weights. -/
def res (c : Dev nD) (j : S1x1024x2048.Idx) : EReal := ∑ s, argH m c s (j 1) * argY m c s ⟨2048 * (j 0).val + (j 2).val, by
  have h0 : (j 0).val < 1 := (j 0).isLt
  have h2 : (j 2).val < 2048 := (j 2).isLt
  omega⟩

/-- What the rows of one point add to an entry of the accumulated block. -/
def term (c : Dev nD) (t : Fin cfg0.N) (y : S1024x1024.Idx) : EReal :=
  ∑ r : Fin 1024, argH m c ⟨1024 * (t.val % 8) + r.val, by omega⟩
      ⟨1024 * (t.val / 8 / 2) + (y 0).val, by have := (idx t).2.2.2; have h : (y 0).val < 1024 := (y 0).isLt; omega⟩
    * argY m c ⟨1024 * (t.val % 8) + r.val, by omega⟩
      ⟨1024 * (t.val / 8 % 2) + (y 1).val, by have h : (y 1).val < 1024 := (y 1).isLt; omega⟩

/-- An entry of the projection's rows in the block of a point. -/
theorem blockH (c : Dev nD) (t : Fin cfg0.N) (r : Fin 1024) (a : Fin 1024) (h h') :
    iblk m c 0 t (ix2 r a) = argH m c ⟨1024 * (t.val % 8) + r.val, h⟩ ⟨1024 * (t.val / 8 / 2) + a.val, h'⟩ := by
  obtain ⟨i0, i1, i2, hh⟩ := idx t
  unfold argH
  blk_point [iblk, V, idx t]

/-- An entry of the gradient's rows in the block of a point. -/
theorem blockY (c : Dev nD) (t : Fin cfg0.N) (r : Fin 1024) (b : Fin 1024) (h h') :
    iblk m c 1 t (ix2 r b) = argY m c ⟨1024 * (t.val % 8) + r.val, h⟩ ⟨1024 * (t.val / 8 % 2) + b.val, h'⟩ := by
  obtain ⟨i0, i1, i2, hh⟩ := idx t
  unfold argY
  blk_point [iblk, V, idx t]

set_option maxHeartbeats 1600000 in
/-- At the first row block the accumulator starts from zero. -/
theorem acc_first (c : Dev nD) (t : Fin cfg0.N) (h : t.val % 8 = 0) (y : S1024x1024.Idx) :
    (outsAt0 m c t.val t.isLt).2 y = 0 + term m c t y := by
  idx_vars y
  rw [outsAt0_A m c t h (by omega)]
  frame_open
  simp (disch := decide) only [↓ View.readCov_skip, ↓ View.readCov_cons_toLoadRect, ↓ View.readCov_fill]
  frame_out
  pointwise [k0_pay1, k0_pay2]
  exact Finset.sum_congr rfl fun r _ => Ideal.mul_congr (blockH m c t r y0 _ _) (blockY m c t r y1 _ _)

set_option maxHeartbeats 1600000 in
/-- At a later row block the accumulator takes in the block's part. -/
theorem acc_step (c : Dev nD) (t : Fin cfg0.N) (h : ¬ t.val % 8 = 0) (y : S1024x1024.Idx) :
    (outsAt0 m c t.val t.isLt).2 y
      = (outsAt0 m c (t.val - 1) (Nat.lt_of_le_of_lt (Nat.sub_le _ _) t.isLt)).2 y + term m c t y := by
  idx_vars y
  by_cases h7 : t.val % 8 = 7
  · rw [outsAt0_C m c t h h7]
    frame_open
    simp (disch := decide) only [↓ View.readCov_skip, ↓ View.readCov_cons_toLoadRect, ↓ View.readCov_fill]
    frame_out
    pointwise [k0_pay2]
    exact Ideal.add_congr (congrFun (Memref.IsWhole.read_unread _ _) _)
      (Finset.sum_congr rfl fun r _ => Ideal.mul_congr (blockH m c t r y0 _ _) (blockY m c t r y1 _ _))
  · rw [outsAt0_B m c t h h7]
    frame_open
    simp (disch := decide) only [↓ View.readCov_skip, ↓ View.readCov_cons_toLoadRect, ↓ View.readCov_fill]
    frame_out
    pointwise [k0_pay2]
    exact Ideal.add_congr (congrFun (Memref.IsWhole.read_unread _ _) _)
      (Finset.sum_congr rfl fun r _ => Ideal.mul_congr (blockH m c t r y0 _ _) (blockY m c t r y1 _ _))

set_option maxHeartbeats 1600000 in
/-- The block written back is the accumulator after the last row block. -/
theorem out_last (c : Dev nD) (t : Fin cfg0.N) (h : t.val % 8 = 7) (a : Fin 1024) (b : Fin 1024) :
    (outsAt0 m c t.val t.isLt).1 (ix3 0 a b) = (outsAt0 m c t.val t.isLt).2 (ix2 a b) := by
  rw [outsAt0_C m c t (by omega) h]
  frame_open
  simp (disch := decide) only [↓ View.readCov_skip, ↓ View.readCov_cons_toLoadRect, ↓ View.readCov_fill]
  frame_out
  pointwise [k0_pay3]

set_option maxHeartbeats 1600000 in
/-- The result's array. -/
theorem final2 (c : Dev nD) : (dats m 0 c).arrAt 2 (cfgs 0).N = res m c := by
  refine (dats m 0 c).arrAt_eq_of_covers 2 _ (by decide +kernel) fun t hf y => ?_
  idx_vars y
  obtain ⟨h0, h1, h2, h'⟩ := idx t
  have hy0 := y0.isLt
  have hy1 := y1.isLt
  have hy2 := y2.isLt
  have he : ((cfg0.win 2).blk t).view.emb (ix3 y0 y1 y2)
      = ix3 ⟨t.val / 8 % 2 / 2, by omega⟩ ⟨1024 * (t.val / 8 / 2) + y1.val, by omega⟩ ⟨1024 * (t.val / 8 % 2 % 2) + y2.val, by omega⟩ := by
    blk_ext [h2]
  have hf' := (flush0_2 t).mp hf
  obtain rfl : y0 = 0 := Fin.ext (by have : y0.val < 1 := hy0; omega)
  blk_simp
  refine Eq.trans ?_ (congrArg (res m c) he).symm
  rw [after0_2, out_last m c t hf', Pipeline.eq_sum_fin_of_reset_step_apply_of_flush (fun n h => (outsAt0 m c n h).2) 8 (fun _ => 0) (term m c)
    (fun t h j => acc_first m c t h j) (fun t h j => acc_step m c t h j) t hf' _]
  change (0 : EReal) + ∑ s : Fin 8, term m c _ (ix2 y1 y2) = ∑ s, _
  rw [zero_add, Fin.sum_univ_tiles 8 1024 rfl]
  refine Finset.sum_congr rfl fun s _ => Finset.sum_congr rfl fun r _ => ?_
  refine congrArg₂ (· * ·) (congrArg₂ (argH m c) (Fin.ext ?_) (Fin.ext ?_)) (congrArg₂ (argY m c) (Fin.ext ?_) (Fin.ext ?_))
  all_goals
    simp only [ix2_0, ix2_1, ix3_0, ix3_1, ix3_2]
    omega

end Cert.InWIdeal.Point
-- ==== Proof.InWClaim.lean ====
module

public import proofs.«01_k».proof.Defs
public import proofs.«01_k».proof.Proof.InWKernel
public import proofs.«01_k».proof.Proof.Gen.InWRefIdeal.Run

@[expose] public section

namespace Cert.Proof

open Idealize.ShloMosaic Idealize.ShloMosaic.TcCoe Idealize.SL.Sem

/-- The weight gradient call of the mixer's input projection computes the derivative of the product in its weights. -/
theorem algebraic_inw : Cert.algebraic_InWIdeal_InWRefIdeal := by
  intro m g m' g' hpre hagree
  refine ⟨Cert.InWIdeal.Point.res m, ?_, ?_⟩
  · refine (θ_run _ _ _).mono (fun r h c => ?_) (Cert.InWIdeal.Value.run_blocks m g)
    obtain ⟨h2, ha⟩ := h c
    exact ⟨h2.trans (Cert.InWIdeal.Point.final2 m c), ha⟩
  · refine (θ_run _ _ _).mono (fun r h c => ?_) (Cert.InWRefIdeal.Value.run m' g')
    obtain ⟨h2, ha⟩ := h c
    obtain ⟨e0, e1⟩ := hagree c
    refine ⟨h2.trans ?_, ha⟩
    rw [e0, e1]
    funext j
    idx_vars j
    pointwise [Cert.InWIdeal.Point.res, Cert.InWIdeal.Point.argH, Cert.InWIdeal.Point.argY]
    refine Finset.sum_congr rfl fun s _ => (mul_comm _ _).trans (congrArg₂ (· * ·) (congrArg _ ?_) (congrArg _ ?_))
    all_goals blk_ext

end Cert.Proof
end
-- ==== Proof.MemWKernel.lean ====
module

public import proofs.«01_k».proof.Proof.Gen.MemWIdeal.Value
public import Idealize.ShloMosaic.Lib.Pipeline.ValueKit
public import Idealize.ShloMosaic.Lib.Pipeline.ReadBack

@[expose] public section

set_option maxRecDepth 16384

noncomputable section

namespace Cert.MemWIdeal.Point

open Cert.MemWIdeal Cert.MemWIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at each point. -/
theorem idx : ∀ t : Fin cfg0.N, win0_0.index t = ![0, 0] ∧ win0_1.index t = ![0, t.val]
    ∧ win0_2.index t = ![t.val, 0, 0] ∧ t.val < 4 :=
  (by decide +kernel : ∀ t : Fin grid0.N, _)

/-- The rows that the projection took in. -/
def argH (c : Dev nD) (s : Fin 256) (k : Fin 1024) : EReal := m ((c : Thread nD τ).loc main_arg0) (ix2 s k)
/-- The gradient of the projection's rows. -/
def argY (c : Dev nD) (s : Fin 256) (n : Fin 2048) : EReal := m ((c : Thread nD τ).loc main_arg1) (ix2 s n)

/-- The result: the gradient of the weights. -/
def res (c : Dev nD) (j : S4x1024x512.Idx) : EReal := ∑ s, argH m c s (j 1) * argY m c s ⟨512 * (j 0).val + (j 2).val, by
  have h0 : (j 0).val < 4 := (j 0).isLt
  have h2 : (j 2).val < 512 := (j 2).isLt
  omega⟩

/-- An entry of the projection's rows in the block of a point. -/
theorem blockH (c : Dev nD) (t : Fin cfg0.N) (r : Fin 256) (a : Fin 1024) :
    iblk m c 0 t (ix2 r a) = argH m c r a := by
  obtain ⟨i0, i1, i2, hh⟩ := idx t
  unfold argH
  blk_point [iblk, V, idx t]

/-- An entry of the gradient's rows in the block of a point. -/
theorem blockY (c : Dev nD) (t : Fin cfg0.N) (r : Fin 256) (b : Fin 512) (h') :
    iblk m c 1 t (ix2 r b) = argY m c r ⟨512 * t.val + b.val, h'⟩ := by
  obtain ⟨i0, i1, i2, hh⟩ := idx t
  unfold argY
  blk_point [iblk, V, idx t]

set_option maxHeartbeats 1600000 in
/-- The block that a point writes back. -/
theorem out_block (c : Dev nD) (t : Fin cfg0.N) (a : Fin 1024) (b : Fin 512) :
    outsAt0 m c t (ix3 0 a b) = ∑ r, argH m c r a * argY m c r ⟨512 * t.val + b.val, by have := (idx t).2.2.2; omega⟩ := by
  unfold outsAt0
  frame_open
  simp (disch := decide) only [↓ View.readCov_skip, ↓ View.readCov_cons_toLoadRect, ↓ View.readCov_fill]
  frame_out
  pointwise [k0_pay1, k0_pay2, k0_pay3]
  exact Finset.sum_congr rfl fun r _ => Ideal.mul_congr (blockH m c t r a) (blockY m c t r b _)

set_option maxHeartbeats 1600000 in
/-- The result's array. -/
theorem final2 (c : Dev nD) : (dats m 0 c).arrAt 2 (cfgs 0).N = res m c := by
  refine (dats m 0 c).arrAt_eq_of_covers 2 _ (by decide +kernel) fun t hf y => ?_
  idx_vars y
  obtain ⟨h0, h1, h2, h'⟩ := idx t
  have hy0 := y0.isLt
  have hy1 := y1.isLt
  have hy2 := y2.isLt
  have he : ((cfg0.win 2).blk t).view.emb (ix3 y0 y1 y2) = ix3 ⟨t.val, h'⟩ y1 y2 := by
    blk_ext [h2]
  obtain rfl : y0 = 0 := Fin.ext (by have : y0.val < 1 := hy0; omega)
  blk_simp
  refine Eq.trans ?_ (congrArg (res m c) he).symm
  rw [after0_2]
  exact out_block m c t y1 y2

end Cert.MemWIdeal.Point
-- ==== Proof.MemWClaim.lean ====
module

public import proofs.«01_k».proof.Defs
public import proofs.«01_k».proof.Proof.MemWKernel
public import proofs.«01_k».proof.Proof.Gen.MemWRefIdeal.Run

@[expose] public section

namespace Cert.Proof

open Idealize.ShloMosaic Idealize.ShloMosaic.TcCoe Idealize.SL.Sem

/-- The weight gradient call of the cross-attention's key and value projection computes the derivative of the product in its weights. -/
theorem algebraic_memw : Cert.algebraic_MemWIdeal_MemWRefIdeal := by
  intro m g m' g' hpre hagree
  refine ⟨Cert.MemWIdeal.Point.res m, ?_, ?_⟩
  · refine (θ_run _ _ _).mono (fun r h c => ?_) (Cert.MemWIdeal.Value.run_blocks m g)
    obtain ⟨h2, ha⟩ := h c
    exact ⟨h2.trans (Cert.MemWIdeal.Point.final2 m c), ha⟩
  · refine (θ_run _ _ _).mono (fun r h c => ?_) (Cert.MemWRefIdeal.Value.run m' g')
    obtain ⟨h2, ha⟩ := h c
    obtain ⟨e0, e1⟩ := hagree c
    refine ⟨h2.trans ?_, ha⟩
    rw [e0, e1]
    funext j
    idx_vars j
    pointwise [Cert.MemWIdeal.Point.res, Cert.MemWIdeal.Point.argH, Cert.MemWIdeal.Point.argY]
    refine Finset.sum_congr rfl fun s _ => (mul_comm _ _).trans (congrArg₂ (· * ·) (congrArg _ ?_) (congrArg _ ?_))
    all_goals blk_ext

end Cert.Proof
end
-- ==== Proof.RowNorm.lean ====
module

public import proofs.«01_k».proof.Proof.UpNorm

@[expose] public section

noncomputable section

/-! The gradient of a root-mean-square norm over rows of any width, in the form a kernel computes it and
in the form the chain rule writes. The word `w` spells the width as a float. -/

namespace Cert.RowNorm

open Idealize.ShloMosaic

variable {n : ℕ} (w : BitVec 32)

/-- The mean square of a row and the norm's epsilon. -/
def meanSq (x : Fin n → EReal) : EReal :=
  Ideal.div (∑ j, x j * x j) (Ideal.ofBits .f32 w) + Ideal.ofBits .f32 0x358637BD#32

/-- The reciprocal root mean square of a row. -/
def rstd (x : Fin n → EReal) : EReal := Ideal.rsqrt (meanSq w x)

/-- The gradient of the norm's input, in the form a kernel computes it. -/
def normGrad (x h : Fin n → EReal) (j : Fin n) : EReal :=
  rstd w x * h j - x j * (rstd w x * rstd w x * rstd w x) * Ideal.div (∑ i, h i * x i) (Ideal.ofBits .f32 w)

/-- One row's contribution to the gradient of the norm's scale. -/
def scaleGrad (x h : Fin n → EReal) (j : Fin n) : EReal := h j * x j * rstd w x

/-- The factor of the gradient through the mean square. -/
def meanFactor (x : Fin n → EReal) : EReal := Ideal.ofBits .f32 0xBF000000#32 * Ideal.div (rstd w x) (meanSq w x)

/-- The gradient of the norm's input as the chain rule writes it. -/
def chainGrad (x h : Fin n → EReal) (j : Fin n) : EReal :=
  h j * rstd w x
    + x j * Ideal.div ((∑ i, x i * h i) * meanFactor w x) (Ideal.ofBits .f32 w)
    + Ideal.div ((∑ i, x i * h i) * meanFactor w x) (Ideal.ofBits .f32 w) * x j

theorem normGrad_congr {x x' h h' : Fin n → EReal} (hx : ∀ j, x j = x' j) (hh : ∀ j, h j = h' j) (j : Fin n) :
    normGrad w x h j = normGrad w x' h' j := by
  rw [funext hx, funext hh]

theorem scaleGrad_congr {x x' h h' : Fin n → EReal} (hx : ∀ j, x j = x' j) (hh : h = h') (j : Fin n) :
    scaleGrad w x h j = scaleGrad w x' h' j := by
  rw [funext hx, hh]

/-- Either the mean square is infinite, or the row is real and the mean square a positive real. -/
theorem meanSq_cases (k : ℝ) (hk : 0 < k) (hw : Ideal.ofBits .f32 w = (k : EReal)) (x : Fin n → EReal) :
    meanSq w x = ⊤ ∨ ((∀ j, ∃ a : ℝ, x j = a) ∧ ∃ p : ℝ, 0 < p ∧ meanSq w x = p) := by
  obtain ⟨e, he, hc⟩ : ∃ e : ℝ, 0 < e ∧ Ideal.ofBits .f32 0x358637BD#32 = (e : EReal) :=
    ⟨_, by positivity, UpSpec.const_eps⟩
  have h0 : 0 ≤ ∑ j, x j * x j := Finset.sum_nonneg fun j _ => UpSpec.sq_nonneg (x j)
  unfold meanSq
  rw [hw, hc, Ideal.div_coe hk.ne']
  by_cases ht : ∑ j, x j * x j = ⊤
  · left
    rw [ht, EReal.top_mul_coe_of_pos (by positivity), EReal.top_add_coe]
  · right
    constructor
    · intro j
      have hn : x j * x j ≠ ⊤ := fun h => ht (top_le_iff.mp
        (h ▸ Finset.single_le_sum (f := fun j => x j * x j) (fun i _ => UpSpec.sq_nonneg (x i)) (Finset.mem_univ j)))
      refine ⟨(x j).toReal, (EReal.coe_toReal ?_ ?_).symm⟩
      · intro h
        exact hn (by rw [h]; rfl)
      · intro h
        exact hn (by rw [h]; rfl)
    · lift ∑ j, x j * x j to ℝ using ⟨ht, fun h => by rw [h] at h0; exact absurd h0 (by simp)⟩ with s
      refine ⟨s * (1 / k) + e, ?_, by norm_cast⟩
      have : 0 ≤ s := EReal.coe_nonneg.mp h0
      positivity

/-- The two forms agree. -/
theorem chainGrad_eq (k : ℝ) (hk : 0 < k) (hw : Ideal.ofBits .f32 w = (k : EReal)) (x h : Fin n → EReal) (j : Fin n) :
    chainGrad w x h j = normGrad w x h j := by
  have hr : rstd w x = Ideal.rsqrt (meanSq w x) := rfl
  unfold chainGrad normGrad meanFactor
  rw [hr, hw, UpSpec.const_neg_half, Ideal.div_coe hk.ne', Ideal.div_coe hk.ne',
    Finset.sum_congr rfl fun i _ => mul_comm (h i) (x i)]
  generalize ∑ i, x i * h i = s
  rcases meanSq_cases w k hk hw x with ht | ⟨hx, p, hp, hm⟩
  · rw [ht, Ideal.rsqrt_top]
    simp [Ideal.div]
  · obtain ⟨a, ha⟩ := hx j
    rw [hm, Ideal.rsqrt_coe, if_neg hp.not_gt, if_neg hp.ne', Ideal.div_coe hp.ne', ha, mul_comm (h j), add_assoc]
    have h2 : (Real.sqrt p)⁻¹ * (1 / p) = (Real.sqrt p)⁻¹ * (Real.sqrt p)⁻¹ * (Real.sqrt p)⁻¹ := by
      have := Real.mul_self_sqrt hp.le
      have hs : Real.sqrt p ≠ 0 := (Real.sqrt_pos.mpr hp).ne'
      field_simp
      nlinarith
    rw [sub_eq_add_neg]
    refine congrArg _ ?_
    have h3 : s * (((-(1 / 2) : ℝ) : EReal) * (((Real.sqrt p)⁻¹ : ℝ) * ((1 / p : ℝ) : EReal))) * ((1 / k : ℝ) : EReal) * (a : EReal)
        = s * ((-(1 / 2) * ((Real.sqrt p)⁻¹ * (1 / p)) * (1 / k) * a : ℝ) : EReal) := by
      push_cast
      simp only [mul_assoc]
    rw [mul_comm (a : EReal) (_ * _), h3, UpSpec.mul_add_self, h2, ← EReal.neg_mul, ← EReal.coe_mul, ← EReal.coe_mul,
      ← EReal.coe_mul, ← EReal.coe_neg, mul_comm ((-_ : ℝ) : EReal), mul_assoc s ((1 / k : ℝ) : EReal), ← EReal.coe_mul]
    refine congrArg (fun b : ℝ => s * (b : EReal)) ?_
    ring

end Cert.RowNorm

end
-- ==== Proof.FirstRow.lean ====
module

public import Idealize.ShloMosaic.Lib.Pipeline.ValueKit
public import Idealize.ShloMosaic.Lib.WritesUnit

@[expose] public section

noncomputable section

/-! An accumulator of eight rows whose first row alone collects. -/

namespace Cert.FirstRow

open Idealize.ShloMosaic Idealize.ShloMosaic.TcCoe Idealize.SL.Sem

/-- Eight rows of `n` columns. -/
abbrev Rows (n : ℕ) : Shape := ⟨2, ![8, n]⟩
/-- One row of `n` columns. -/
abbrev Row (n : ℕ) : Shape := ⟨2, ![1, n]⟩

variable {n : ℕ}

/-- The first row of the accumulator over the rest. -/
theorem canon_top (i₁ : ∀ a, (![0, 0] : Fin 2 → ℕ) a + (![1, n] : Fin 2 → ℕ) a ≤ (Rows n).size a)
    (i₂ : ∀ a, (![0, 0] : Fin 2 → ℕ) a + (![8, n] : Fin 2 → ℕ) a ≤ (Rows n).size a)
    (w : FVec Ideal (Row n) .f32) (u : FVec Ideal (Rows n) .f32) (a : Fin 8) (l : Fin n) :
    View.canon (Val := Elt Ideal) (s := Rows n) (e := .f32)
      [⟨Rect.unit ![0, 0] ![1, n] i₁, w⟩, ⟨Rect.unit ![0, 0] ![8, n] i₂, u⟩] (ix2 a l)
      = if a = 0 then w (ix2 0 l) else u (ix2 a l) := by
  by_cases h : a = 0
  · subst h
    rw [if_pos rfl, View.canon_cons]
    have : (ix2 0 l : (Rows n).Idx) = (Rect.unit (s := Rows n) ![0, 0] ![1, n] i₁).emb (ix2 0 l) := by blk_ext
    rw [this]
    exact Rect.overlay_emb _ _ _ _
  · have h0 : 0 < a.val := Nat.pos_of_ne_zero fun e => h (Fin.ext e)
    rw [if_neg h, View.canon_cons_of_not_mem]
    · have : (ix2 a l : (Rows n).Idx) = (Rect.unit (s := Rows n) ![0, 0] ![8, n] i₂).emb (ix2 a l) := by blk_ext
      conv_lhs => rw [this]
      exact View.canon_cons_emb _ _ _ _
    · rw [Rect.mem_set_unit]
      intro hall
      have h1 : a.val < 0 + 1 := (hall 0).2
      omega

/-- The accumulator after the first point, from the part `q` of the point. -/
theorem first_form (i₁ : ∀ a, (![0, 0] : Fin 2 → ℕ) a + (![1, n] : Fin 2 → ℕ) a ≤ (Rows n).size a)
    (i₂ : ∀ a, (![0, 0] : Fin 2 → ℕ) a + (![8, n] : Fin 2 → ℕ) a ≤ (Rows n).size a)
    (u : FVec Ideal (Row n) .f32) (z : FVec Ideal (Rows n) .f32) (hz : ∀ j, z j = 0) (a : Fin 8) (l : Fin n) (q : EReal)
    (hu : u (ix2 0 l) = 0 + q) :
    View.canon (Val := Elt Ideal) (s := Rows n) (e := .f32)
      [⟨Rect.unit ![0, 0] ![1, n] i₁, u⟩, ⟨Rect.unit ![0, 0] ![8, n] i₂, z⟩] (ix2 a l)
      = 0 + if a.val = 0 then q else 0 := by
  refine (canon_top i₁ i₂ u z a l).trans ?_
  by_cases h0 : a = 0
  · subst h0
    rw [if_pos rfl, if_pos (show ((0 : Fin 8) : ℕ) = 0 from rfl), hu]
  · rw [if_neg h0, if_neg (show ¬ a.val = 0 from fun e => h0 (Fin.ext e)), hz, add_zero]

/-- The accumulator after a later point, from the part `q` of the point and what it held. -/
theorem step_form {Λ : RefSig} {κ : Kind} {sp : Space} (w : View Λ κ sp (Rows n) .f32)
    (i₁ : ∀ a, (![0, 0] : Fin 2 → ℕ) a + (![1, n] : Fin 2 → ℕ) a ≤ (Rows n).size a)
    (f : w.ty.Contents (Elt Ideal)) (p : FVec Ideal (Rows n) .f32) (hf : w.read (Elt Ideal) f = p)
    (u : FVec Ideal (Row n) .f32) (a : Fin 8) (l : Fin n) (q : EReal) (hu : u (ix2 0 l) = p (ix2 0 l) + q) :
    w.read (Elt Ideal) (w.writes (Elt Ideal) f [⟨Rect.unit ![0, 0] ![1, n] i₁, u⟩]) (ix2 a l)
      = p (ix2 a l) + if a.val = 0 then q else 0 := by
  by_cases h0 : a = 0
  · subst h0
    rw [if_pos (show ((0 : Fin 8) : ℕ) = 0 from rfl), ← hu]
    exact View.read_writes_cons_unit_of_mem w f i₁ u [] (ix2 0 l) (ix2 0 l) rfl (by
      intro b
      fin_cases b <;> simp)
  · rw [if_neg (show ¬ a.val = 0 from fun e => h0 (Fin.ext e)), add_zero]
    have h1 : 0 + 1 ≤ a.val := Nat.one_le_iff_ne_zero.mpr fun e => h0 (Fin.ext e)
    rw [View.read_writes_cons_unit_of_not_mem w f i₁ u [] (ix2 a l) rfl 0 (Or.inr h1), View.writes_nil, hf]

/-- An entry of the pieces stored since the start after one more piece of the first row. -/
theorem canon_piece (o k : ℕ) (i : ∀ a, (![0, o] : Fin 2 → ℕ) a + (![1, k] : Fin 2 → ℕ) a ≤ (Rows n).size a)
    (u : FVec Ideal (Row k) .f32) (L : List (View.Piece (Elt Ideal) (Rows n) .f32)) (a : Fin 8) (l : Fin n) (x : EReal)
    (hin : ∀ d : Fin k, a.val = 0 → l.val = o + d.val → u (ix2 0 d) = x)
    (hout : ¬ (a.val = 0 ∧ o ≤ l.val ∧ l.val < o + k) → View.canon L (ix2 a l) = x) :
    View.canon (Val := Elt Ideal) (s := Rows n) (e := .f32) (⟨Rect.unit ![0, o] ![1, k] i, u⟩ :: L) (ix2 a l) = x := by
  by_cases h : a.val = 0 ∧ o ≤ l.val ∧ l.val < o + k
  · obtain ⟨h0, h1, h2⟩ := h
    rw [← hin ⟨l.val - o, by omega⟩ h0 (show l.val = o + (l.val - o) by omega)]
    have : (ix2 a l : (Rows n).Idx) = (Rect.unit (s := Rows n) ![0, o] ![1, k] i).emb (ix2 0 ⟨l.val - o, by omega⟩) := by
      blk_ext
    rw [this]
    exact View.canon_cons_emb _ _ _ _
  · rw [View.canon_cons_of_not_mem]
    · exact hout h
    · rw [Rect.mem_set_unit]
      intro hall
      have h0 : 0 ≤ a.val ∧ a.val < 0 + 1 := hall 0
      have h1 : o ≤ l.val ∧ l.val < o + k := hall 1
      omega

/-- An entry of what was held after one more piece of the first row. -/
theorem writes_piece {Λ : RefSig} {κ : Kind} {sp : Space} (w : View Λ κ sp (Rows n) .f32) (o k : ℕ)
    (i : ∀ a, (![0, o] : Fin 2 → ℕ) a + (![1, k] : Fin 2 → ℕ) a ≤ (Rows n).size a)
    (f : w.ty.Contents (Elt Ideal)) (u : FVec Ideal (Row k) .f32) (L : List (View.Piece (Elt Ideal) (Rows n) .f32))
    (a : Fin 8) (l : Fin n) (x : EReal)
    (hin : ∀ d : Fin k, a.val = 0 → l.val = o + d.val → u (ix2 0 d) = x)
    (hout : ¬ (a.val = 0 ∧ o ≤ l.val ∧ l.val < o + k) → w.read (Elt Ideal) (w.writes (Elt Ideal) f L) (ix2 a l) = x) :
    w.read (Elt Ideal) (w.writes (Elt Ideal) f (⟨Rect.unit ![0, o] ![1, k] i, u⟩ :: L)) (ix2 a l) = x := by
  by_cases h : a.val = 0 ∧ o ≤ l.val ∧ l.val < o + k
  · obtain ⟨h0, h1, h2⟩ := h
    rw [← hin ⟨l.val - o, by omega⟩ h0 (show l.val = o + (l.val - o) by omega)]
    exact View.read_writes_cons_unit_of_mem w f i u L (ix2 a l) (ix2 0 ⟨l.val - o, by omega⟩) rfl (by
      intro b
      fin_cases b
      · simpa using h0
      · simp
        omega)
  · by_cases h0 : a.val = 0
    · rw [View.read_writes_cons_unit_of_not_mem w f i u L (ix2 a l) rfl 1 (show l.val < o ∨ o + k ≤ l.val by omega)]
      exact hout h
    · rw [View.read_writes_cons_unit_of_not_mem w f i u L (ix2 a l) rfl 0 (show a.val < 0 ∨ 0 + 1 ≤ a.val by omega)]
      exact hout h

/-- An entry the start alone reaches. -/
theorem canon_base (i : ∀ a, (![0, 0] : Fin 2 → ℕ) a + (![8, n] : Fin 2 → ℕ) a ≤ (Rows n).size a)
    (z : FVec Ideal (Rows n) .f32) (a : Fin 8) (l : Fin n) :
    View.canon (Val := Elt Ideal) (s := Rows n) (e := .f32) [⟨Rect.unit ![0, 0] ![8, n] i, z⟩] (ix2 a l) = z (ix2 a l) := by
  have : (ix2 a l : (Rows n).Idx) = (Rect.unit (s := Rows n) ![0, 0] ![8, n] i).emb (ix2 a l) := by blk_ext
  conv_lhs => rw [this]
  exact View.canon_cons_emb _ _ _ _

/-- Rows of 1024 columns. -/
abbrev Wide (k : ℕ) : Shape := ⟨2, ![k, 1024]⟩
/-- Rows of 256 columns. -/
abbrev Narrow (k : ℕ) : Shape := ⟨2, ![k, 256]⟩

/-- An entry of the pieces stored so far after one more block of columns. -/
theorem canon_cols {R : ℕ} {e : EltTy} (o : ℕ) (i : ∀ a, (![0, o] : Fin 2 → ℕ) a + (![R, 256] : Fin 2 → ℕ) a ≤ (Wide R).size a)
    (u : (Narrow R).Idx → Elt Ideal e) (L : List (View.Piece (Elt Ideal) (Wide R) e)) (a : Fin R) (l : Fin 1024) (x : Elt Ideal e)
    (hin : ∀ d : Fin 256, l.val = o + d.val → u (ix2 a d) = x)
    (hout : ¬ (o ≤ l.val ∧ l.val < o + 256) → View.canon L (ix2 a l) = x) :
    View.canon (Val := Elt Ideal) (s := Wide R) (e := e) (⟨Rect.unit ![0, o] ![R, 256] i, u⟩ :: L) (ix2 a l) = x := by
  by_cases h : o ≤ l.val ∧ l.val < o + 256
  · obtain ⟨h1, h2⟩ := h
    rw [← hin ⟨l.val - o, by omega⟩ (show l.val = o + (l.val - o) by omega)]
    have : (ix2 a l : (Wide R).Idx) = (Rect.unit (s := Wide R) ![0, o] ![R, 256] i).emb (ix2 a ⟨l.val - o, by omega⟩) := by
      blk_ext
    rw [this]
    exact View.canon_cons_emb _ _ _ _
  · rw [View.canon_cons_of_not_mem]
    · exact hout h
    · rw [Rect.mem_set_unit]
      intro hall
      exact h (hall 1)

/-- An entry of four blocks of columns that cover the rest. -/
theorem canon_heads {R : ℕ} {e : EltTy}
    (i3 : ∀ a, (![0, 768] : Fin 2 → ℕ) a + (![R, 256] : Fin 2 → ℕ) a ≤ (Wide R).size a)
    (i2 : ∀ a, (![0, 512] : Fin 2 → ℕ) a + (![R, 256] : Fin 2 → ℕ) a ≤ (Wide R).size a)
    (i1 : ∀ a, (![0, 256] : Fin 2 → ℕ) a + (![R, 256] : Fin 2 → ℕ) a ≤ (Wide R).size a)
    (i0 : ∀ a, (![0, 0] : Fin 2 → ℕ) a + (![R, 256] : Fin 2 → ℕ) a ≤ (Wide R).size a)
    (u3 u2 u1 u0 : (Narrow R).Idx → Elt Ideal e) (L : List (View.Piece (Elt Ideal) (Wide R) e)) (a : Fin R) (l : Fin 1024)
    (x : Elt Ideal e)
    (h3 : ∀ d : Fin 256, l.val = 768 + d.val → u3 (ix2 a d) = x) (h2 : ∀ d : Fin 256, l.val = 512 + d.val → u2 (ix2 a d) = x)
    (h1 : ∀ d : Fin 256, l.val = 256 + d.val → u1 (ix2 a d) = x) (h0 : ∀ d : Fin 256, l.val = 0 + d.val → u0 (ix2 a d) = x) :
    View.canon (Val := Elt Ideal) (s := Wide R) (e := e)
      (⟨Rect.unit ![0, 768] ![R, 256] i3, u3⟩ :: ⟨Rect.unit ![0, 512] ![R, 256] i2, u2⟩
        :: ⟨Rect.unit ![0, 256] ![R, 256] i1, u1⟩ :: ⟨Rect.unit ![0, 0] ![R, 256] i0, u0⟩ :: L) (ix2 a l) = x :=
  canon_cols 768 i3 u3 _ a l x h3 fun n3 => canon_cols 512 i2 u2 _ a l x h2 fun n2 => canon_cols 256 i1 u1 _ a l x h1 fun n1 =>
    canon_cols 0 i0 u0 _ a l x h0 fun n0 => by have := l.isLt; omega

end Cert.FirstRow

end
-- ==== Proof.InXKernel.lean ====
module

public import proofs.«01_k».proof.Proof.Gen.InXIdeal.Value
public import proofs.«01_k».proof.Proof.RowNorm
public import proofs.«01_k».proof.Proof.FirstRow
public import Idealize.ShloMosaic.Lib.Pipeline.ReadBack

@[expose] public section

set_option maxRecDepth 16384

noncomputable section

namespace Cert.InXIdeal.Point

open Cert.InXIdeal Cert.InXIdeal.Gen Idealize.ShloMosaic Idealize.ShloMosaic.TcCoe Idealize.SL.Sem
open Idealize.ShloMosaic.Pipeline (Dat)

variable (m : (ℓ : Loc nD τ sig) → Buf (Elt Ideal) ℓ)

/-- The product of a block with the transposed weights. -/
theorem pay3_apply (a : Vec Ideal S1024x2048 .bf16) (w : Vec Ideal S1x1024x2048 .bf16) (r n : Fin 1024) :
    k0_pay3 a w (ix2 r n) = ∑ k, a (ix2 r k) * w (ix3 0 n k) := by
  pointwise [k0_pay3]

/-- The reciprocal root mean square of a row of a block. -/
theorem pay4_apply (x : Vec Ideal S1024x1024 .f32) (r : Fin 1024) :
    k0_pay4 x (ix2 r 0) = RowNorm.rstd 0x44800000#32 fun n => x (ix2 r n) := by
  pointwise [k0_pay4, RowNorm.rstd, RowNorm.meanSq]

/-- A row's contribution to the gradient of the scale. -/
theorem pay5_apply (x : Vec Ideal S1024x1024 .f32) (a : Vec Ideal S1024x2048 .bf16) (w : Vec Ideal S1x1024x2048 .bf16)
    (r n : Fin 1024) :
    k0_pay5 x a w (ix2 r n) = RowNorm.scaleGrad 0x44800000#32 (fun j => x (ix2 r j)) (fun j => k0_pay3 a w (ix2 r j)) n := by
  rw [RowNorm.scaleGrad, ← pay4_apply]
  pointwise [k0_pay5]

/-- A row of the gradient of the norm's input, added to the gradient that reaches it besides. -/
theorem pay6_apply (x : Vec Ideal S1024x1024 .f32) (a : Vec Ideal S1024x2048 .bf16) (w : Vec Ideal S1x1024x2048 .bf16)
    (g : Vec Ideal S1x1024 .f32) (d : Vec Ideal S1024x1024 .f32) (r n : Fin 1024) :
    k0_pay6 x a w g d (ix2 r n)
      = d (ix2 r n) + RowNorm.normGrad 0x44800000#32 (fun j => x (ix2 r j)) (fun j => k0_pay3 a w (ix2 r j) * g (ix2 0 j)) n := by
  rw [RowNorm.normGrad, ← pay4_apply]
  pointwise [k0_pay6]

/-- The running sum of the scale's gradient takes in the rows of one block. -/
theorem pay1_apply (v : FVec Ideal S1024x1024 .f32) (o : Vec Ideal S1x1024 .f32) (n : Fin 1024) :
    k0_pay1 v o (ix2 0 n) = o (ix2 0 n) + ∑ r, v (ix2 r n) := by
  pointwise [k0_pay1]

theorem pay2_apply (j : S8x1024.Idx) : k0_pay2 (F := Ideal) j = 0 := by
  pointwise [k0_pay2]

/-- Where each window's block lies at each point. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0]
    ∧ t.val < 8 :=
  (by decide +kernel : ∀ t : Fin grid0.N, _)

/-- The product's gradient, by row and column. -/
def argD (c : Dev nD) (s : Fin 8192) (k : Fin 2048) : EReal := m ((c : Thread nD τ).loc main_arg0) (ix2 s k)
/-- The weights. -/
def argW (c : Dev nD) (n : Fin 1024) (k : Fin 2048) : EReal := m ((c : Thread nD τ).loc main_arg1) (ix3 0 n k)
/-- The norm's input. -/
def argX (c : Dev nD) (s : Fin 8192) (n : Fin 1024) : EReal := m ((c : Thread nD τ).loc main_arg2) (ix2 s n)
/-- The norm's scale. -/
def argG (c : Dev nD) (n : Fin 1024) : EReal := m ((c : Thread nD τ).loc main_arg3) (ix2 0 n)
/-- The gradient that reaches the norm's input besides. -/
def argR (c : Dev nD) (s : Fin 8192) (n : Fin 1024) : EReal := m ((c : Thread nD τ).loc main_arg4) (ix2 s n)

/-- The gradient of the normed rows: the product with the transposed weights. -/
def resDh (c : Dev nD) (s : Fin 8192) (n : Fin 1024) : EReal := ∑ k, argD m c s k * argW m c n k
/-- The first result: the gradient of the norm's input. -/
def resDx (c : Dev nD) (j : S8192x1024.Idx) : EReal :=
  argR m c (j 0) (j 1) + RowNorm.normGrad 0x44800000#32 (argX m c (j 0)) (fun n => resDh m c (j 0) n * argG m c n) (j 1)
/-- The second result: the gradient of the scale in its first row, zero below. -/
def resDg (c : Dev nD) (j : S8x1024.Idx) : EReal :=
  if (j 0).val = 0 then ∑ s, RowNorm.scaleGrad 0x44800000#32 (argX m c s) (resDh m c s) (j 1) else 0

theorem blockD (c : Dev nD) (t : Fin cfg0.N) (r : Fin 1024) (k : Fin 2048) (hb : 1024 * t.val + r.val < 8192) :
    iblk m c 0 t (ix2 r k) = argD m c ⟨1024 * t.val + r.val, hb⟩ k := by
  unfold argD
  blk_point [iblk, V, idx t]

theorem blockW (c : Dev nD) (t : Fin cfg0.N) (n : Fin 1024) (k : Fin 2048) :
    iblk m c 1 t (ix3 0 n k) = argW m c n k := by
  unfold argW
  blk_point [iblk, V, idx t]

theorem blockX (c : Dev nD) (t : Fin cfg0.N) (r n : Fin 1024) (hb : 1024 * t.val + r.val < 8192) :
    iblk m c 2 t (ix2 r n) = argX m c ⟨1024 * t.val + r.val, hb⟩ n := by
  unfold argX
  blk_point [iblk, V, idx t]

theorem blockG (c : Dev nD) (t : Fin cfg0.N) (n : Fin 1024) : iblk m c 3 t (ix2 0 n) = argG m c n := by
  unfold argG
  blk_point [iblk, V, idx t]

theorem blockR (c : Dev nD) (t : Fin cfg0.N) (r n : Fin 1024) (hb : 1024 * t.val + r.val < 8192) :
    iblk m c 4 t (ix2 r n) = argR m c ⟨1024 * t.val + r.val, hb⟩ n := by
  unfold argR
  blk_point [iblk, V, idx t]

/-- A row of the product of a block's reads. -/
theorem prod_dh (c : Dev nD) (t : Fin cfg0.N) (a : Vec Ideal S1024x2048 .bf16) (w : Vec Ideal S1x1024x2048 .bf16) (r n : Fin 1024)
    (hb : 1024 * t.val + r.val < 8192) (ha : ∀ k, a (ix2 r k) = iblk m c 0 t (ix2 r k))
    (hw : ∀ k, w (ix3 0 n k) = iblk m c 1 t (ix3 0 n k)) :
    k0_pay3 a w (ix2 r n) = resDh m c ⟨1024 * t.val + r.val, hb⟩ n := by
  rw [pay3_apply]
  exact Finset.sum_congr rfl fun k _ =>
    Ideal.mul_congr ((ha k).trans (blockD m c t r k hb)) ((hw k).trans (blockW m c t n k))

/-- What the rows of one point add to the gradient of the scale. -/
def part (c : Dev nD) (t : Fin cfg0.N) (n : Fin 1024) : EReal :=
  ∑ r : Fin 1024, RowNorm.scaleGrad 0x44800000#32
    (argX m c ⟨1024 * t.val + r.val, by have := t.isLt; have : cfg0.N = 8 := rfl; omega⟩)
    (resDh m c ⟨1024 * t.val + r.val, by have := t.isLt; have : cfg0.N = 8 := rfl; omega⟩) n

/-- The part of a point that reaches an entry of the eight accumulated rows. -/
def term (c : Dev nD) (t : Fin cfg0.N) (j : S8x1024.Idx) : EReal := if (j 0).val = 0 then part m c t (j 1) else 0

/-- The first result's array. -/
theorem final5 (c : Dev nD) : (dats m 0 c).arrAt 5 (cfgs 0).N = resDx m c := by
  refine (dats m 0 c).arrAt_eq_of_covers 5 _ (by decide +kernel) fun t hf y => ?_
  idx_vars y
  obtain ⟨-, -, -, -, -, h5, -, h'⟩ := idx t
  have hy := y0.isLt
  have he : ((cfg0.win 5).blk t).view.emb (ix2 y0 y1) = ix2 ⟨1024 * t.val + y0.val, by omega⟩ y1 := by
    blk_ext [h5]
  blk_simp
  refine Eq.trans ?_ (congrArg (resDx m c) he).symm
  rw [after0_5]
  change _ = argR m c ⟨1024 * t.val + y0.val, _⟩ y1
    + RowNorm.normGrad 0x44800000#32 (argX m c ⟨1024 * t.val + y0.val, _⟩)
        (fun n => resDh m c ⟨1024 * t.val + y0.val, _⟩ n * argG m c n) y1
  by_cases h : t.val % 8 = 0
  all_goals
    first | rw [outsAt0_A m c t h] | rw [outsAt0_B m c t h]
    frame_open
    simp (disch := decide) only [↓ View.readCov_skip, ↓ View.readCov_cons_toLoadRect, ↓ View.readCov_fill]
    frame_out
    rw [pay6_apply]
    refine Ideal.add_congr ((?_ : _ = iblk m c 4 t (ix2 y0 y1)).trans (blockR m c t y0 y1 _))
      (RowNorm.normGrad_congr _ (fun j => (?_ : _ = iblk m c 2 t (ix2 y0 j)).trans (blockX m c t y0 j _))
      (fun j => Ideal.mul_congr (prod_dh m c t _ _ y0 j _ (fun k => ?_) (fun k => ?_))
        ((?_ : _ = iblk m c 3 t (ix2 0 j)).trans (blockG m c t j))) y1)
    all_goals pointwise
    all_goals blk_ext

/-- At the first point the accumulator starts from zero. -/
theorem acc_first (c : Dev nD) (t : Fin cfg0.N) (h : t.val % 8 = 0) (y : S8x1024.Idx) :
    (outsAt0 m c t.val t.isLt).2 y = 0 + term m c t y := by
  idx_vars y
  rw [outsAt0_A m c t h]
  frame_open
  simp (disch := decide) only [↓ View.readCov_skip, ↓ View.readCov_cons_toLoadRect, ↓ View.readCov_fill]
  frame_out
  refine FirstRow.first_form _ _ _ _ pay2_apply y0 y1 (part m c t y1) ?_
  rw [pay1_apply]
  refine Ideal.add_congr (by pointwise [k0_pay2]) (Finset.sum_congr rfl fun r _ => ?_)
  rw [pay5_apply]
  refine RowNorm.scaleGrad_congr _ (fun j => (?_ : _ = iblk m c 2 t (ix2 r j)).trans (blockX m c t r j _))
    (funext fun j => prod_dh m c t _ _ r j _ (fun k => ?_) (fun k => ?_)) y1
  all_goals pointwise
  all_goals blk_ext

/-- At a later point the accumulator takes in the point's part. -/
theorem acc_step (c : Dev nD) (t : Fin cfg0.N) (h : ¬ t.val % 8 = 0) (y : S8x1024.Idx) :
    (outsAt0 m c t.val t.isLt).2 y
      = (outsAt0 m c (t.val - 1) (Nat.lt_of_le_of_lt (Nat.sub_le _ _) t.isLt)).2 y + term m c t y := by
  idx_vars y
  rw [outsAt0_B m c t h]
  frame_open
  simp (disch := decide) only [↓ View.readCov_skip, ↓ View.readCov_cons_toLoadRect, ↓ View.readCov_fill]
  frame_out
  refine FirstRow.step_form _ _ _ _ (Memref.IsWhole.read_unread _ _) _ y0 y1 (part m c t y1) ?_
  rw [pay1_apply]
  refine Ideal.add_congr (by pointwise; blk_ext) (Finset.sum_congr rfl fun r _ => ?_)
  rw [pay5_apply]
  refine RowNorm.scaleGrad_congr _ (fun j => (?_ : _ = iblk m c 2 t (ix2 r j)).trans (blockX m c t r j _))
    (funext fun j => prod_dh m c t _ _ r j _ (fun k => ?_) (fun k => ?_)) y1
  all_goals pointwise
  all_goals blk_ext

/-- The second result's array. -/
theorem final6 (c : Dev nD) : (dats m 0 c).arrAt 6 (cfgs 0).N = resDg m c := by
  refine (dats m 0 c).arrAt_eq_of_covers 6 _ (by decide +kernel) fun t hf y => ?_
  idx_vars y
  have he : ((cfg0.win 6).blk t).view.emb (ix2 y0 y1) = ix2 y0 y1 := by
    obtain ⟨-, -, -, -, -, -, h6, h'⟩ := idx t
    blk_ext [h6]
  have hf' := (flush0_6 t).mp hf
  have ht : t.val < 8 := t.isLt
  blk_simp
  refine Eq.trans ?_ (congrArg (resDg m c) he).symm
  rw [after0_6, Pipeline.eq_sum_fin_of_reset_step_apply_of_flush (fun n h => (outsAt0 m c n h).2) 8 (fun _ => 0) (term m c)
    (fun t h j => acc_first m c t h j) (fun t h j => acc_step m c t h j) t hf' _]
  change (0 : EReal) + ∑ s : Fin 8, term m c _ (ix2 y0 y1) = if y0.val = 0 then _ else _
  rw [zero_add]
  by_cases h0 : y0.val = 0
  · rw [if_pos h0, Fin.sum_univ_tiles 8 1024 rfl]
    refine Finset.sum_congr rfl fun s _ => ?_
    refine (if_pos h0).trans ?_
    unfold part
    refine Finset.sum_congr rfl fun r _ => ?_
    have hs : 1024 * (8 * (t.val / 8) + s.val) + r.val = s.val * 1024 + r.val := by omega
    congr 2 <;> exact Fin.ext hs
  · rw [if_neg h0]
    exact Finset.sum_eq_zero fun s _ => if_neg h0

end Cert.InXIdeal.Point
end
-- ==== Proof.InXClaim.lean ====
module

public import proofs.«01_k».proof.Defs
public import proofs.«01_k».proof.Proof.InXKernel
public import proofs.«01_k».proof.Proof.Gen.InXRefIdeal.Read
public import proofs.«01_k».proof.Proof.Gen.InXRefIdeal.Run

@[expose] public section

set_option maxRecDepth 16384

namespace Cert.InXRefIdeal.Point

open Cert.InXRefIdeal Cert.InXRefIdeal.Read Idealize.ShloMosaic Idealize.ShloMosaic.TcCoe Idealize.SL.Sem

variable (x0 : Vec Ideal S8192x2048 .bf16) (x1 : Vec Ideal S1x1024x2048 .bf16)
  (x2 : Vec Ideal S8192x1024 .f32) (x3 : Vec Ideal S1x1024 .f32) (x4 : Vec Ideal S8192x1024 .f32)

/-- The reciprocal root mean square of a row in the reference. -/
theorem ref10 (s : Fin 8192) : val_main_v10 (F := Ideal) x2 (ix2 s 0) = RowNorm.rstd 0x44800000#32 fun n => x2 (ix2 s n) := by
  pointwise [val_main_v10, val_main_v9, val_main_v8, val_main_v7, val_main_v6, val_main_v5, val_main_v4, val_main_v3, val_main_cst,
    val_main_cst_0, val_main_cst_1, RowNorm.rstd, RowNorm.meanSq]

/-- The gradient through the mean square, before the row's sum meets it. -/
theorem ref13 (s : Fin 8192) : val_main_v13 (F := Ideal) x2 (ix2 s 0) = RowNorm.meanFactor 0x44800000#32 fun n => x2 (ix2 s n) := by
  rw [RowNorm.meanFactor, ← ref10]
  pointwise [val_main_v13, val_main_v12, val_main_v11, val_main_cst_2, val_main_v9, val_main_v8, val_main_v7, val_main_v6, val_main_v5,
    val_main_v4, val_main_v3, val_main_cst, val_main_cst_0, val_main_cst_1, RowNorm.meanSq]

/-- The gradient of the normed rows in the reference. -/
theorem ref20 (s : Fin 8192) (n : Fin 1024) :
    val_main_v20 (F := Ideal) x0 x1 (ix2 s n) = ∑ k, x0 (ix2 s k) * x1 (ix3 0 n k) := by
  pointwise [val_main_v20, val_main_v19, val_main_v2, val_main_v1, val_main_v0]

/-- The first result of the reference. -/
theorem ref40 (s : Fin 8192) (n : Fin 1024) :
    val_main_v40 (F := Ideal) x0 x1 x2 x3 x4 (ix2 s n)
      = x4 (ix2 s n) + RowNorm.normGrad 0x44800000#32 (fun j => x2 (ix2 s j))
          (fun j => val_main_v20 (F := Ideal) x0 x1 (ix2 s j) * x3 (ix2 0 j)) n := by
  rw [← RowNorm.chainGrad_eq _ 1024 (by norm_num) UpSpec.const_1024, RowNorm.chainGrad, ← ref13, ← ref10]
  pointwise [val_main_v40, val_main_v39, val_main_v38, val_main_v37, val_main_v36, val_main_v35, val_main_v34, val_main_v33, val_main_v32,
    val_main_v31, val_main_v30, val_main_v29, val_main_v28, val_main_v27, val_main_v26, val_main_v25, val_main_v24, val_main_cst_4,
    val_main_cst_5, val_main_cst_6]
  simp only [Fin.sum_univ_one]

/-- The second result of the reference. -/
theorem ref42 (a : Fin 8) (n : Fin 1024) :
    val_main_v42 (F := Ideal) x0 x1 x2 (ix2 a n)
      = if a.val = 0 then ∑ s, RowNorm.scaleGrad 0x44800000#32 (fun j => x2 (ix2 s j))
          (fun j => val_main_v20 (F := Ideal) x0 x1 (ix2 s j)) n else 0 := by
  unfold RowNorm.scaleGrad
  simp only [← ref10]
  pointwise [val_main_v42, val_main_v41, val_main_v23, val_main_v22, val_main_v21, val_main_v15, val_main_v14, val_main_cst_3, val_main_cst_7]
  by_cases h : a.val = 0
  · rw [dif_pos (show a.val < 1 by omega), if_pos h]
    refine Finset.sum_congr rfl fun x _ => ?_
    rw [mul_comm, ← mul_assoc]
  · rw [dif_neg (show ¬ a.val < 1 by omega), if_neg h]

end Cert.InXRefIdeal.Point

namespace Cert.Proof

open Idealize.ShloMosaic Idealize.ShloMosaic.TcCoe Idealize.SL.Sem

/-- The gradient call of the normed input projection and the derivative of the reference's lines compute the same two arrays. -/
theorem algebraic_in_x : Cert.algebraic_InXIdeal_InXRefIdeal := by
  intro m g m' g' hpre hagree
  refine ⟨Cert.InXIdeal.Point.resDx m, Cert.InXIdeal.Point.resDg m, ?_, ?_⟩
  · refine (θ_run _ _ _).mono (fun r h c => ?_) (Cert.InXIdeal.Value.run_blocks m g)
    obtain ⟨h5, h6, ha⟩ := h c
    exact ⟨h5.trans (Cert.InXIdeal.Point.final5 m c), h6.trans (Cert.InXIdeal.Point.final6 m c), ha⟩
  · refine (θ_run _ _ _).mono (fun r h c => ?_) (Cert.InXRefIdeal.Value.run m' g')
    obtain ⟨h40, h42, ha⟩ := h c
    obtain ⟨e0, e1, e2, e3, e4⟩ := hagree c
    refine ⟨h40.trans ?_, h42.trans ?_, ha⟩
    · rw [Cert.InXRefIdeal.Read.val_main_v40_eq, e0, e1, e2, e3, e4]
      funext j
      idx_vars j
      rw [Cert.InXRefIdeal.Point.ref40]
      simp only [Cert.InXRefIdeal.Point.ref20]
      rfl
    · rw [Cert.InXRefIdeal.Read.val_main_v42_eq, e0, e1, e2]
      funext j
      idx_vars j
      rw [Cert.InXRefIdeal.Point.ref42]
      simp only [Cert.InXRefIdeal.Point.ref20]
      rfl

end Cert.Proof
end
-- ==== Proof.MemXKernel.lean ====
module

public import proofs.«01_k».proof.Proof.Gen.MemXIdeal.Value
public import proofs.«01_k».proof.Proof.RowNorm
public import proofs.«01_k».proof.Proof.FirstRow
public import Idealize.ShloMosaic.Lib.Pipeline.ReadBack

@[expose] public section

set_option maxRecDepth 16384

noncomputable section

namespace Cert.MemXIdeal.Point

open Cert.MemXIdeal Cert.MemXIdeal.Gen Idealize.ShloMosaic Idealize.ShloMosaic.TcCoe Idealize.SL.Sem
open Idealize.ShloMosaic.Pipeline (Dat)

variable (m : (ℓ : Loc nD τ sig) → Buf (Elt Ideal) ℓ)

/-- The product of a block with the transposed weights, the contraction cut into four chunks. -/
theorem pay5_apply (a0 a1 a2 a3 : Vec Ideal S256x512 .bf16) (w0 w1 w2 w3 : Vec Ideal S1x1024x512 .bf16) (r : Fin 256) (n : Fin 1024) :
    k0_pay5 a0 w0 a1 w1 a2 w2 a3 w3 (ix2 r n)
      = (∑ l, a0 (ix2 r l) * w0 (ix3 0 n l)) + (∑ l, a1 (ix2 r l) * w1 (ix3 0 n l))
        + (∑ l, a2 (ix2 r l) * w2 (ix3 0 n l)) + ∑ l, a3 (ix2 r l) * w3 (ix3 0 n l) := by
  pointwise [k0_pay5]

/-- The reciprocal root mean square of a row of a block. -/
theorem pay1_apply (x : Vec Ideal S256x1024 .f32) (r : Fin 256) :
    k0_pay1 (k0_pay6 x) (ix2 r 0) = RowNorm.rstd 0x44800000#32 fun n => x (ix2 r n) := by
  pointwise [k0_pay1, k0_pay6, RowNorm.rstd, RowNorm.meanSq]

/-- The gradient of the scale takes in the rows' contributions. -/
theorem pay3_apply (x v : Vec Ideal S256x1024 .f32) (o : Vec Ideal S1x1024 .f32) (n : Fin 1024) :
    k0_pay3 x v (k0_pay6 x) o (ix2 0 n)
      = o (ix2 0 n) + ∑ r, RowNorm.scaleGrad 0x44800000#32 (fun j => x (ix2 r j)) (fun j => v (ix2 r j)) n := by
  unfold RowNorm.scaleGrad
  simp only [← pay1_apply]
  pointwise [k0_pay3]

/-- A row of the gradient of the norm's input, added to the gradient that reaches it besides. -/
theorem pay2_apply (x v : Vec Ideal S256x1024 .f32) (g : Vec Ideal S1x1024 .f32) (d : Vec Ideal S256x1024 .f32) (r : Fin 256) (n : Fin 1024) :
    k0_pay2 x v g (k0_pay6 x) d (ix2 r n)
      = d (ix2 r n) + RowNorm.normGrad 0x44800000#32 (fun j => x (ix2 r j)) (fun j => v (ix2 r j) * g (ix2 0 j)) n := by
  rw [RowNorm.normGrad, ← pay1_apply]
  pointwise [k0_pay2]

theorem pay4_apply (j : S8x1024.Idx) : k0_pay4 (F := Ideal) j = 0 := by
  pointwise [k0_pay4]

/-- Where each window's block lies at the one point. -/
theorem idx : ∀ t : Fin cfg0.N, win0_0.index t = ![0, 0] ∧ win0_1.index t = ![0, 0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The product's gradient, by row and column. -/
def argD (c : Dev nD) (s : Fin 256) (k : Fin 2048) : EReal := m ((c : Thread nD τ).loc main_arg0) (ix2 s k)
/-- The weights, their columns counted through the four chunks. -/
def argW (c : Dev nD) (n : Fin 1024) (k : Fin 2048) : EReal :=
  m ((c : Thread nD τ).loc main_arg1) (ix3 ⟨k.val / 512, by omega⟩ n ⟨k.val % 512, by omega⟩)
/-- The norm's input. -/
def argX (c : Dev nD) (s : Fin 256) (n : Fin 1024) : EReal := m ((c : Thread nD τ).loc main_arg2) (ix2 s n)
/-- The norm's scale. -/
def argG (c : Dev nD) (n : Fin 1024) : EReal := m ((c : Thread nD τ).loc main_arg3) (ix2 0 n)
/-- The gradient of the normed rows: the product with the transposed weights. -/
def resDh (c : Dev nD) (s : Fin 256) (n : Fin 1024) : EReal := ∑ k, argD m c s k * argW m c n k
/-- The first result: the gradient of the norm's input. -/
def resDx (c : Dev nD) (j : S256x1024.Idx) : EReal :=
  RowNorm.normGrad 0x44800000#32 (argX m c (j 0)) (fun n => resDh m c (j 0) n * argG m c n) (j 1)
/-- The second result: the gradient of the scale in its first row, zero below. -/
def resDg (c : Dev nD) (j : S8x1024.Idx) : EReal :=
  if (j 0).val = 0 then ∑ s, RowNorm.scaleGrad 0x44800000#32 (argX m c s) (resDh m c s) (j 1) else 0

theorem blockD (c : Dev nD) (t : Fin cfg0.N) (r : Fin 256) (k : Fin 2048) : iblk m c 0 t (ix2 r k) = argD m c r k := by
  unfold argD
  blk_point [iblk, V, idx t]

theorem blockW (c : Dev nD) (t : Fin cfg0.N) (q : Fin 4) (n : Fin 1024) (l : Fin 512) (k : Fin 2048) (hk : k.val = q.val * 512 + l.val) :
    iblk m c 1 t (ix3 q n l) = argW m c n k := by
  unfold argW
  blk_point [iblk, V, idx t]

theorem blockX (c : Dev nD) (t : Fin cfg0.N) (r : Fin 256) (n : Fin 1024) : iblk m c 2 t (ix2 r n) = argX m c r n := by
  unfold argX
  blk_point [iblk, V, idx t]

theorem blockG (c : Dev nD) (t : Fin cfg0.N) (n : Fin 1024) : iblk m c 3 t (ix2 0 n) = argG m c n := by
  unfold argG
  blk_point [iblk, V, idx t]

/-- Nothing reaches the norm's input besides. -/
theorem blockR (c : Dev nD) (t : Fin cfg0.N) (r : Fin 256) (n : Fin 1024) : iblk m c 4 t (ix2 r n) = (0 : EReal) := by
  blk_point [iblk, V, idx t]

/-- A row of the product of the block's reads. -/
theorem prod_dh (c : Dev nD) (t : Fin cfg0.N) (a0 a1 a2 a3 : Vec Ideal S256x512 .bf16) (w0 w1 w2 w3 : Vec Ideal S1x1024x512 .bf16)
    (r : Fin 256) (n : Fin 1024)
    (ha0 : ∀ (l : Fin 512) (h : 0 * 512 + l.val < 2048), a0 (ix2 r l) = iblk m c 0 t (ix2 r ⟨0 * 512 + l.val, h⟩))
    (ha1 : ∀ (l : Fin 512) (h : 1 * 512 + l.val < 2048), a1 (ix2 r l) = iblk m c 0 t (ix2 r ⟨1 * 512 + l.val, h⟩))
    (ha2 : ∀ (l : Fin 512) (h : 2 * 512 + l.val < 2048), a2 (ix2 r l) = iblk m c 0 t (ix2 r ⟨2 * 512 + l.val, h⟩))
    (ha3 : ∀ (l : Fin 512) (h : 3 * 512 + l.val < 2048), a3 (ix2 r l) = iblk m c 0 t (ix2 r ⟨3 * 512 + l.val, h⟩))
    (hw0 : ∀ l : Fin 512, w0 (ix3 0 n l) = iblk m c 1 t (ix3 0 n l))
    (hw1 : ∀ l : Fin 512, w1 (ix3 0 n l) = iblk m c 1 t (ix3 1 n l))
    (hw2 : ∀ l : Fin 512, w2 (ix3 0 n l) = iblk m c 1 t (ix3 2 n l))
    (hw3 : ∀ l : Fin 512, w3 (ix3 0 n l) = iblk m c 1 t (ix3 3 n l)) :
    k0_pay5 a0 w0 a1 w1 a2 w2 a3 w3 (ix2 r n) = resDh m c r n := by
  rw [pay5_apply, resDh, Fin.sum_univ_tiles 4 512 rfl fun k : Fin 2048 => argD m c r k * argW m c n k, Fin.sum_univ_four]
  refine Ideal.add_congr (Ideal.add_congr (Ideal.add_congr ?_ ?_) ?_) ?_ <;> refine Finset.sum_congr rfl fun l _ => Ideal.mul_congr ?_ ?_
  · exact (ha0 l (by omega)).trans (blockD m c t r _)
  · exact (hw0 l).trans (blockW m c t 0 n l _ rfl)
  · exact (ha1 l (by omega)).trans (blockD m c t r _)
  · exact (hw1 l).trans (blockW m c t 1 n l _ rfl)
  · exact (ha2 l (by omega)).trans (blockD m c t r _)
  · exact (hw2 l).trans (blockW m c t 2 n l _ rfl)
  · exact (ha3 l (by omega)).trans (blockD m c t r _)
  · exact (hw3 l).trans (blockW m c t 3 n l _ rfl)

/-- The first result's array. -/
theorem final5 (c : Dev nD) : (dats m 0 c).arrAt 5 (cfgs 0).N = resDx m c := by
  refine (dats m 0 c).arrAt_eq_of_covers 5 _ (by decide +kernel) fun t hf y => ?_
  idx_vars y
  obtain ⟨-, -, -, -, -, h5, -⟩ := idx t
  have he : ((cfg0.win 5).blk t).view.emb (ix2 y0 y1) = ix2 y0 y1 := by
    blk_ext [h5]
  blk_simp
  refine Eq.trans ?_ (congrArg (resDx m c) he).symm
  rw [after0_5]
  change _ = RowNorm.normGrad 0x44800000#32 (argX m c y0) (fun n => resDh m c y0 n * argG m c n) y1
  rw [← zero_add (RowNorm.normGrad _ _ _ _)]
  unfold outsAt0
  frame_open
  simp (disch := decide) only [↓ View.readCov_skip, ↓ View.readCov_cons_toLoadRect, ↓ View.readCov_fill]
  frame_out
  rw [pay2_apply]
  refine Ideal.add_congr ((?_ : _ = iblk m c 4 t (ix2 y0 y1)).trans (blockR m c t y0 y1))
    (RowNorm.normGrad_congr _ (fun j => (?_ : _ = iblk m c 2 t (ix2 y0 j)).trans (blockX m c t y0 j))
    (fun j => Ideal.mul_congr (prod_dh m c t _ _ _ _ _ _ _ _ y0 j (fun l h => ?_) (fun l h => ?_) (fun l h => ?_) (fun l h => ?_)
      (fun l => ?_) (fun l => ?_) (fun l => ?_) (fun l => ?_)) ((?_ : _ = iblk m c 3 t (ix2 0 j)).trans (blockG m c t j))) y1)
  all_goals pointwise
  all_goals blk_ext

/-- The second result's array. -/
theorem final6 (c : Dev nD) : (dats m 0 c).arrAt 6 (cfgs 0).N = resDg m c := by
  refine (dats m 0 c).arrAt_eq_of_covers 6 _ (by decide +kernel) fun t hf y => ?_
  idx_vars y
  obtain ⟨-, -, -, -, -, -, h6⟩ := idx t
  have he : ((cfg0.win 6).blk t).view.emb (ix2 y0 y1) = ix2 y0 y1 := by
    blk_ext [h6]
  blk_simp
  refine Eq.trans ?_ (congrArg (resDg m c) he).symm
  rw [after0_6]
  change _ = if y0.val = 0 then ∑ s, RowNorm.scaleGrad 0x44800000#32 (argX m c s) (resDh m c s) y1 else 0
  rw [← zero_add (ite _ _ _)]
  unfold outsAt0
  frame_open
  simp (disch := decide) only [↓ View.readCov_skip, ↓ View.readCov_cons_toLoadRect, ↓ View.readCov_fill]
  frame_out
  refine FirstRow.first_form _ _ _ _ pay4_apply y0 y1 _ ?_
  rw [pay3_apply]
  refine Ideal.add_congr (by pointwise [k0_pay4]) (Finset.sum_congr rfl fun r _ => ?_)
  refine RowNorm.scaleGrad_congr _ (fun j => (?_ : _ = iblk m c 2 t (ix2 r j)).trans (blockX m c t r j))
    (funext fun j => prod_dh m c t _ _ _ _ _ _ _ _ r j (fun l h => ?_) (fun l h => ?_) (fun l h => ?_) (fun l h => ?_)
      (fun l => ?_) (fun l => ?_) (fun l => ?_) (fun l => ?_)) y1
  all_goals pointwise
  all_goals blk_ext

end Cert.MemXIdeal.Point
end
-- ==== Proof.MemXClaim.lean ====
module

public import proofs.«01_k».proof.Defs
public import proofs.«01_k».proof.Proof.MemXKernel
public import proofs.«01_k».proof.Proof.Gen.MemXRefIdeal.Read
public import proofs.«01_k».proof.Proof.Gen.MemXRefIdeal.Run

@[expose] public section

set_option maxRecDepth 16384

namespace Cert.MemXRefIdeal.Point

open Cert.MemXRefIdeal Cert.MemXRefIdeal.Read Idealize.ShloMosaic Idealize.ShloMosaic.TcCoe Idealize.SL.Sem

variable (x0 : Vec Ideal S256x2048 .bf16) (x1 : Vec Ideal S4x1024x512 .bf16)
  (x2 : Vec Ideal S256x1024 .f32) (x3 : Vec Ideal S1x1024 .f32)

/-- The reciprocal root mean square of a row in the reference. -/
theorem ref10 (s : Fin 256) : val_main_v11 (F := Ideal) x2 (ix2 s 0) = RowNorm.rstd 0x44800000#32 fun n => x2 (ix2 s n) := by
  pointwise [val_main_v11, val_main_v10, val_main_v9, val_main_v8, val_main_v7, val_main_v6, val_main_v5, val_main_v4,
    val_main_cst_0, val_main_cst_1, val_main_cst_2, RowNorm.rstd, RowNorm.meanSq]

/-- The gradient through the mean square, before the row's sum meets it. -/
theorem ref13 (s : Fin 256) : val_main_v14 (F := Ideal) x2 (ix2 s 0) = RowNorm.meanFactor 0x44800000#32 fun n => x2 (ix2 s n) := by
  rw [RowNorm.meanFactor, ← ref10]
  pointwise [val_main_v14, val_main_v13, val_main_v12, val_main_cst_3, val_main_v10, val_main_v9, val_main_v8, val_main_v7, val_main_v6,
    val_main_v5, val_main_v4, val_main_cst_0, val_main_cst_1, val_main_cst_2, RowNorm.meanSq]

/-- The gradient of the normed rows in the reference. -/
theorem ref20 (s : Fin 256) (n : Fin 1024) :
    val_main_v21 (F := Ideal) x0 x1 (ix2 s n) = ∑ k, x0 (ix2 s k) * x1 (ix3 ⟨k.val / 512, by omega⟩ n ⟨k.val % 512, by omega⟩) := by
  pointwise [val_main_v21, val_main_v20, val_main_v3, val_main_v2, val_main_v1]

/-- The first result of the reference. -/
theorem ref40 (s : Fin 256) (n : Fin 1024) :
    val_main_v41 (F := Ideal) x0 x1 x2 x3 (ix2 s n)
      = RowNorm.normGrad 0x44800000#32 (fun j => x2 (ix2 s j))
          (fun j => val_main_v21 (F := Ideal) x0 x1 (ix2 s j) * x3 (ix2 0 j)) n := by
  rw [← RowNorm.chainGrad_eq _ 1024 (by norm_num) UpSpec.const_1024, RowNorm.chainGrad, ← ref13, ← ref10]
  pointwise [val_main_v41, val_main_v40, val_main_v39, val_main_v38, val_main_v37, val_main_v36, val_main_v35, val_main_v34, val_main_v33,
    val_main_v32, val_main_v31, val_main_v30, val_main_v29, val_main_v28, val_main_v27, val_main_v26, val_main_v25, val_main_cst_5,
    val_main_cst_6, val_main_cst_7]
  simp only [Fin.sum_univ_one]
  rw [show val_main_v0 (F := Ideal) (ix2 s n) = (0 : EReal) by pointwise [val_main_v0, val_main_cst], zero_add]

/-- The second result of the reference. -/
theorem ref42 (a : Fin 8) (n : Fin 1024) :
    val_main_v43 (F := Ideal) x0 x1 x2 (ix2 a n)
      = if a.val = 0 then ∑ s, RowNorm.scaleGrad 0x44800000#32 (fun j => x2 (ix2 s j))
          (fun j => val_main_v21 (F := Ideal) x0 x1 (ix2 s j)) n else 0 := by
  unfold RowNorm.scaleGrad
  simp only [← ref10]
  pointwise [val_main_v43, val_main_v42, val_main_v24, val_main_v23, val_main_v22, val_main_v16, val_main_v15, val_main_cst_4, val_main_cst_8]
  by_cases h : a.val = 0
  · rw [dif_pos (show a.val < 1 by omega), if_pos h]
    refine Finset.sum_congr rfl fun x _ => ?_
    rw [mul_comm, ← mul_assoc]
  · rw [dif_neg (show ¬ a.val < 1 by omega), if_neg h]

end Cert.MemXRefIdeal.Point

namespace Cert.Proof

open Idealize.ShloMosaic Idealize.ShloMosaic.TcCoe Idealize.SL.Sem

/-- The gradient call of the normed key and value projection of the memory and the derivative of the reference's lines compute the same two arrays. -/
theorem algebraic_mem_x : Cert.algebraic_MemXIdeal_MemXRefIdeal := by
  intro m g m' g' hpre hagree
  refine ⟨Cert.MemXIdeal.Point.resDx m, Cert.MemXIdeal.Point.resDg m, ?_, ?_⟩
  · refine (θ_run _ _ _).mono (fun r h c => ?_) (Cert.MemXIdeal.Value.run_blocks m g)
    obtain ⟨h5, h6, ha⟩ := h c
    exact ⟨h5.trans (Cert.MemXIdeal.Point.final5 m c), h6.trans (Cert.MemXIdeal.Point.final6 m c), ha⟩
  · refine (θ_run _ _ _).mono (fun r h c => ?_) (Cert.MemXRefIdeal.Value.run m' g')
    obtain ⟨h40, h42, ha⟩ := h c
    obtain ⟨e0, e1, e2, e3⟩ := hagree c
    refine ⟨h40.trans ?_, h42.trans ?_, ha⟩
    · rw [Cert.MemXRefIdeal.Read.val_main_v41_eq, e0, e1, e2, e3]
      funext j
      idx_vars j
      rw [Cert.MemXRefIdeal.Point.ref40]
      simp only [Cert.MemXRefIdeal.Point.ref20]
      rfl
    · rw [Cert.MemXRefIdeal.Read.val_main_v43_eq, e0, e1, e2]
      funext j
      idx_vars j
      rw [Cert.MemXRefIdeal.Point.ref42]
      simp only [Cert.MemXRefIdeal.Point.ref20]
      rfl

end Cert.Proof
end
-- ==== Proof.XattnSpec.lean ====
module

public import proofs.«01_k».proof.Proof.RowNorm

@[expose] public section

noncomputable section

/-! The backward pass of one attention head for one query row, in the form the kernel computes it. -/

namespace Cert.Xattn

open Idealize.ShloMosaic

/-- One row of a head. -/
abbrev Vec1 := Fin 256 → EReal
/-- The keys or the values of a head: one row per memory slot. -/
abbrev Mat := Fin 256 → Fin 256 → EReal

/-- The scores' scale, one sixteenth. -/
def scale : EReal := Ideal.ofBits .f32 0x3D800000#32

/-- The normed query. -/
def qn (g q : Vec1) (d : Fin 256) : EReal := q d * RowNorm.rstd 0x43800000#32 q * g d

/-- The scores of a query. -/
def score (g q : Vec1) (K : Mat) (j : Fin 256) : EReal := (∑ d, qn g q d * K j d) * scale

/-- The largest score. -/
def peak (s : Vec1) : EReal := Finset.univ.fold max (Ideal.ofBits .f32 0xFF800000#32) s

/-- The exponential of a score less the largest. -/
def expo (s : Vec1) (j : Fin 256) : EReal := Ideal.exp (s j - peak s)

/-- The attention weights. -/
def prob (s : Vec1) (j : Fin 256) : EReal := expo s j * Ideal.div (Ideal.ofBits .f32 0x3F800000#32) (∑ i, expo s i)

/-- The gradient of the weights. -/
def dprob (o : Vec1) (V : Mat) (j : Fin 256) : EReal := ∑ d, o d * V j d

/-- The gradient of the scores from the weights and their gradient. -/
def dsoft (p dp : Vec1) (j : Fin 256) : EReal := p j * (dp j - ∑ i, dp i * p i) * scale

/-- The gradient of the scores. -/
def dscore (g q o : Vec1) (K V : Mat) (j : Fin 256) : EReal := dsoft (prob (score g q K)) (dprob o V) j

/-- The gradient of the normed query. -/
def dqn (g q o : Vec1) (K V : Mat) (d : Fin 256) : EReal := ∑ j, dscore g q o K V j * K j d

/-- The gradient of the query. -/
def dq (g q o : Vec1) (K V : Mat) (d : Fin 256) : EReal :=
  RowNorm.normGrad 0x43800000#32 q (fun d => dqn g q o K V d * g d) d

/-- What a query adds to the gradient of the norm's scale. -/
def dgq (g q o : Vec1) (K V : Mat) (d : Fin 256) : EReal := RowNorm.scaleGrad 0x43800000#32 q (dqn g q o K V) d

/-- What a query adds to the gradient of the keys. -/
def dk (g q o : Vec1) (K V : Mat) (j d : Fin 256) : EReal := dscore g q o K V j * qn g q d

/-- What a query adds to the gradient of the values. -/
def dv (g q o : Vec1) (K : Mat) (j d : Fin 256) : EReal := prob (score g q K) j * o d

end Cert.Xattn

end
-- ==== Proof.XattnHeads.lean ====
module

public import proofs.«01_k».proof.Proof.Gen.XattnIdeal.Skeleton
public import proofs.«01_k».proof.Proof.XattnSpec
public import Idealize.ShloMosaic.Lib.Pipeline.ValueKit

@[expose] public section

set_option maxRecDepth 16384

noncomputable section

namespace Cert.XattnIdeal.Point

open Cert.XattnIdeal Cert.XattnIdeal.Gen Idealize.ShloMosaic Idealize.ShloMosaic.TcCoe

variable (g : Vec Ideal S1x256 .f32) (q o : Vec Ideal S512x256 .f32) (K K' V : Vec Ideal S256x256 .bf16)

/-! ## One head's block, as the first head spells it -/

/-- The normed queries. -/
abbrev headQn : FVec Ideal S512x256 .f32 := k0_pay9 g q
/-- The attention weights. -/
abbrev headP : FVec Ideal S512x256 .f32 := k0_pay13 (k0_pay10 g q K) (k0_pay11 g q K) k0_pay12
/-- The gradient of the scores. -/
abbrev headDs : FVec Ideal S512x256 .f32 := k0_pay14 o (k0_pay10 g q K) (k0_pay11 g q K) k0_pay12 V
/-- The gradient of the normed queries. -/
abbrev headDqn : FVec Ideal S512x256 .f32 := k0_pay15 o (k0_pay10 g q K) (k0_pay11 g q K) k0_pay12 V K'
/-- The keys' gradient over what was there. -/
abbrev headDk (old : Vec Ideal S256x256 .f32) : FVec Ideal S256x256 .f32 :=
  k0_pay16 o (k0_pay9 g q) (k0_pay10 g q K) (k0_pay11 g q K) k0_pay12 V old
/-- The values' gradient over what was there. -/
abbrev headDv (old : Vec Ideal S256x256 .f32) : FVec Ideal S256x256 .f32 :=
  k0_pay17 o (k0_pay10 g q K) (k0_pay11 g q K) k0_pay12 old
/-- The queries' gradient. -/
abbrev headDq : FVec Ideal S512x256 .bf16 :=
  k0_pay22 (k0_pay19 g o (k0_pay8 q) (k0_pay10 g q K) (k0_pay11 g q K) k0_pay12 V K') (k0_pay20 q (k0_pay8 q))
    (k0_pay21 g q o (k0_pay10 g q K) (k0_pay11 g q K) k0_pay12 V K')
/-- The gradient of the norm's scale over what was there. -/
abbrev headDgq (old : Vec Ideal S1x256 .f32) : FVec Ideal S1x256 .f32 := k0_pay23 q (k0_pay8 q) (headDqn g q o K K' V) old

/-! ## The block's entries -/

theorem pay8_apply (r : Fin 512) : k0_pay8 q (ix2 r 0) = RowNorm.rstd 0x43800000#32 fun d => q (ix2 r d) := by
  pointwise [k0_pay8, RowNorm.rstd, RowNorm.meanSq]

theorem headQn_apply (r : Fin 512) (d : Fin 256) :
    headQn g q (ix2 r d) = Xattn.qn (fun d => g (ix2 0 d)) (fun d => q (ix2 r d)) d := by
  rw [Xattn.qn, ← pay8_apply]
  pointwise [k0_pay9]

theorem expo_apply (r : Fin 512) (j : Fin 256) :
    k0_pay10 g q K (ix2 r j)
      = Xattn.expo (Xattn.score (fun d => g (ix2 0 d)) (fun d => q (ix2 r d)) fun j d => K (ix2 j d)) j := by
  unfold Xattn.expo Xattn.peak Xattn.score Xattn.scale
  simp only [← headQn_apply]
  pointwise [k0_pay10]

theorem headP_apply (r : Fin 512) (j : Fin 256) :
    headP g q K (ix2 r j)
      = Xattn.prob (Xattn.score (fun d => g (ix2 0 d)) (fun d => q (ix2 r d)) fun j d => K (ix2 j d)) j := by
  unfold Xattn.prob
  simp only [← expo_apply]
  pointwise [k0_pay11, k0_pay12, k0_pay13]

theorem headDs_apply (r : Fin 512) (j : Fin 256) :
    headDs g q o K V (ix2 r j)
      = Xattn.dscore (fun d => g (ix2 0 d)) (fun d => q (ix2 r d)) (fun d => o (ix2 r d)) (fun j d => K (ix2 j d))
          (fun j d => V (ix2 j d)) j := by
  unfold Xattn.dscore Xattn.dsoft Xattn.dprob Xattn.scale
  simp only [← headP_apply]
  pointwise [k0_pay14]

theorem headDqn_apply (r : Fin 512) (d : Fin 256) :
    headDqn g q o K K V (ix2 r d)
      = Xattn.dqn (fun d => g (ix2 0 d)) (fun d => q (ix2 r d)) (fun d => o (ix2 r d)) (fun j d => K (ix2 j d))
          (fun j d => V (ix2 j d)) d := by
  unfold Xattn.dqn
  simp only [← headDs_apply]
  pointwise [k0_pay15]

theorem headDk_apply (old : Vec Ideal S256x256 .f32) (j d : Fin 256) :
    headDk g q o K V old (ix2 j d)
      = old (ix2 j d) + ∑ r : Fin 512, Xattn.dk (fun d => g (ix2 0 d)) (fun d => q (ix2 r d)) (fun d => o (ix2 r d))
          (fun j d => K (ix2 j d)) (fun j d => V (ix2 j d)) j d := by
  unfold Xattn.dk
  simp only [← headDs_apply, ← headQn_apply]
  pointwise [k0_pay16]

theorem headDv_apply (old : Vec Ideal S256x256 .f32) (j d : Fin 256) :
    headDv g q o K old (ix2 j d)
      = old (ix2 j d) + ∑ r : Fin 512, Xattn.dv (fun d => g (ix2 0 d)) (fun d => q (ix2 r d)) (fun d => o (ix2 r d))
          (fun j d => K (ix2 j d)) j d := by
  unfold Xattn.dv
  simp only [← headP_apply]
  pointwise [k0_pay17]

theorem headDq_apply (r : Fin 512) (d : Fin 256) :
    headDq g q o K K V (ix2 r d)
      = Xattn.dq (fun d => g (ix2 0 d)) (fun d => q (ix2 r d)) (fun d => o (ix2 r d)) (fun j d => K (ix2 j d))
          (fun j d => V (ix2 j d)) d := by
  unfold Xattn.dq RowNorm.normGrad
  simp only [← headDqn_apply, ← pay8_apply]
  pointwise [k0_pay18, k0_pay19, k0_pay20, k0_pay21, k0_pay22]

theorem headDgq_apply (old : Vec Ideal S1x256 .f32) (d : Fin 256) :
    headDgq g q o K K V old (ix2 0 d)
      = old (ix2 0 d) + ∑ r : Fin 512, Xattn.dgq (fun d => g (ix2 0 d)) (fun d => q (ix2 r d)) (fun d => o (ix2 r d))
          (fun j d => K (ix2 j d)) (fun j d => V (ix2 j d)) d := by
  unfold Xattn.dgq RowNorm.scaleGrad
  simp only [← headDqn_apply, ← pay8_apply]
  pointwise [k0_pay23]

/-! ## The other heads compute the same -/

theorem dk1 (old : Vec Ideal S256x256 .f32) :
    k0_pay32 o (k0_pay26 g q) (k0_pay27 g q K) (k0_pay28 g q K) V old = headDk g q o K V old := rfl
theorem dv1 (old : Vec Ideal S256x256 .f32) :
    k0_pay33 o (k0_pay27 g q K) (k0_pay28 g q K) old = headDv g q o K old := rfl
theorem dq1 :
    k0_pay35 q (k0_pay25 q) (k0_pay31 o (k0_pay27 g q K) (k0_pay28 g q K) V K') (k0_pay34 g) = headDq g q o K K' V := rfl
theorem dgq1 (old : Vec Ideal S1x256 .f32) :
    k0_pay36 q (k0_pay25 q) (k0_pay31 o (k0_pay27 g q K) (k0_pay28 g q K) V K') old = headDgq g q o K K' V old := rfl

theorem dk2 (old : Vec Ideal S256x256 .f32) :
    k0_pay44 o K (k0_pay39 g q) (k0_pay40 g q) V old = headDk g q o K V old := rfl
theorem dv2 (old : Vec Ideal S256x256 .f32) :
    k0_pay48 (k0_pay45 old) (k0_pay46 K (k0_pay40 g q)) (k0_pay47 o) = headDv g q o K old := rfl
theorem dq2 : k0_pay49 g q (k0_pay38 q) (k0_pay43 o K (k0_pay40 g q) V K') = headDq g q o K K' V := rfl
theorem dgq2 (old : Vec Ideal S1x256 .f32) :
    k0_pay50 q (k0_pay38 q) (k0_pay43 o K (k0_pay40 g q) V K') old = headDgq g q o K K' V old := rfl

/-- The norm's epsilon. -/
abbrev eps : Ideal .f32 := FloatOps.ofBits .f32 0x358637BD#32

theorem dk3 (old : Vec Ideal S256x256 .f32) :
    k0_pay58 g q o K (k0_pay52 q) eps V old = headDk g q o K V old := rfl
theorem dv3 (old : Vec Ideal S256x256 .f32) :
    k0_pay59 o (k0_pay55 g q K (k0_pay52 q) eps) old = headDv g q o K old := rfl
theorem dq3 :
    k0_pay60 g q (k0_pay53 (k0_pay52 q) eps) (k0_pay57 g q o K (k0_pay52 q) eps V K') = headDq g q o K K' V := rfl
theorem dgq3 (old : Vec Ideal S1x256 .f32) :
    k0_pay61 q (k0_pay53 (k0_pay52 q) eps) (k0_pay57 g q o K (k0_pay52 q) eps V K') old = headDgq g q o K K' V old := rfl

end Cert.XattnIdeal.Point
end
-- ==== Proof.XattnTail.lean ====
module

public import proofs.«01_k».proof.Proof.Gen.XattnIdeal.Skeleton
public import proofs.«01_k».proof.Proof.RowNorm
public import Idealize.ShloMosaic.Lib.Pipeline.ValueKit

@[expose] public section

set_option maxRecDepth 16384

noncomputable section

/-! The products and the two norms around the heads: what each payload holds at an entry. -/

namespace Cert.XattnIdeal.Point

open Cert.XattnIdeal Cert.XattnIdeal.Gen Idealize.ShloMosaic Idealize.ShloMosaic.TcCoe

theorem pay1_apply (j : S256x1024.Idx) : k0_pay1 (F := Ideal) j = 0 := by pointwise [k0_pay1]
theorem pay2_apply (j : S256x1024.Idx) : k0_pay2 (F := Ideal) j = 0 := by pointwise [k0_pay2]
theorem pay3_apply (j : S8x256.Idx) : k0_pay3 (F := Ideal) j = 0 := by pointwise [k0_pay3]
theorem pay4_apply (j : S8x1024.Idx) : k0_pay4 (F := Ideal) j = 0 := by pointwise [k0_pay4]
theorem pay5_apply (j : S8x1024.Idx) : k0_pay5 (F := Ideal) j = 0 := by pointwise [k0_pay5]

/-- The gradient of the heads' outputs: the product with the transposed output weights. -/
theorem pay6_apply (a : Vec Ideal S512x1024 .f32) (w : Vec Ideal S1x1024x1024 .bf16) (r : Fin 512) (n : Fin 1024) :
    k0_pay6 a w (ix2 r n) = ∑ k, a (ix2 r k) * w (ix3 0 n k) := by
  pointwise [k0_pay6]

theorem slice0 (a : Vec Ideal S512x1024 .f32) (w : Vec Ideal S1x1024x1024 .bf16) (r : Fin 512) (d : Fin 256) :
    k0_pay7 a w (ix2 r d) = k0_pay6 a w (ix2 r ⟨256 * 0 + d.val, by omega⟩) := by
  pointwise [k0_pay7]
  blk_ext
theorem slice1 (v : FVec Ideal S512x1024 .f32) (r : Fin 512) (d : Fin 256) :
    k0_pay24 v (ix2 r d) = v (ix2 r ⟨256 * 1 + d.val, by omega⟩) := by
  pointwise [k0_pay24]
  blk_ext
theorem slice2 (v : FVec Ideal S512x1024 .f32) (r : Fin 512) (d : Fin 256) :
    k0_pay37 v (ix2 r d) = v (ix2 r ⟨256 * 2 + d.val, by omega⟩) := by
  pointwise [k0_pay37]
  blk_ext
theorem slice3 (v : FVec Ideal S512x1024 .f32) (r : Fin 512) (d : Fin 256) :
    k0_pay51 v (ix2 r d) = v (ix2 r ⟨256 * 3 + d.val, by omega⟩) := by
  pointwise [k0_pay51]
  blk_ext

theorem pay63_apply (a : Vec Ideal S512x1024 .bf16) (w : Vec Ideal S1x1024x1024 .bf16) (r : Fin 512) (n : Fin 1024) :
    k0_pay63 (k0_pay62 a) w (ix2 r n) = ∑ k, a (ix2 r k) * w (ix3 0 n k) := by
  pointwise [k0_pay63, k0_pay62]

theorem pay64_apply (x : Vec Ideal S512x1024 .f32) (r : Fin 512) :
    k0_pay64 x (ix2 r 0) = RowNorm.rstd 0x44800000#32 fun n => x (ix2 r n) := by
  pointwise [k0_pay64, RowNorm.rstd, RowNorm.meanSq]

/-- The gradient of the residual stream: the norm's gradient over the gradient that passes it. -/
theorem pay65_apply (x : Vec Ideal S512x1024 .f32) (a : FVec Ideal S512x1024 .bf16) (w : Vec Ideal S1x1024x1024 .bf16)
    (g : Vec Ideal S1x1024 .f32) (d : Vec Ideal S512x1024 .f32) (r : Fin 512) (n : Fin 1024) :
    k0_pay65 x a w g d (ix2 r n)
      = d (ix2 r n) + RowNorm.normGrad 0x44800000#32 (fun j => x (ix2 r j)) (fun j => k0_pay63 a w (ix2 r j) * g (ix2 0 j)) n := by
  rw [RowNorm.normGrad, ← pay64_apply]
  pointwise [k0_pay65]

theorem pay66_apply (x : Vec Ideal S512x1024 .f32) (a : FVec Ideal S512x1024 .bf16) (w : Vec Ideal S1x1024x1024 .bf16)
    (old : Vec Ideal S1x1024 .f32) (n : Fin 1024) :
    k0_pay66 x a w old (ix2 0 n)
      = old (ix2 0 n) + ∑ r : Fin 512, RowNorm.scaleGrad 0x44800000#32 (fun j => x (ix2 r j)) (fun j => k0_pay63 a w (ix2 r j)) n := by
  unfold RowNorm.scaleGrad
  simp only [← pay64_apply]
  pointwise [k0_pay66]

/-- The gradient of the mixer's two normed outputs side by side. -/
theorem pay67_apply (a : FVec Ideal S512x1024 .f32) (w : Vec Ideal S1x1024x1024 .bf16) (r : Fin 512) (n : Fin 1024) :
    k0_pay67 a w (ix2 r n) = ∑ k, a (ix2 r k) * w (ix3 0 n k) := by
  pointwise [k0_pay67]

theorem pay68_apply (a : FVec Ideal S512x1024 .f32) (w : Vec Ideal S1x1024x1024 .bf16) (r n : Fin 512) :
    k0_pay68 a w (ix2 r n) = k0_pay67 a w (ix2 r ⟨n.val, by omega⟩) := by
  pointwise [k0_pay68]
  blk_ext

theorem pay72_apply (a : FVec Ideal S512x1024 .f32) (w : Vec Ideal S1x1024x1024 .bf16) (r n : Fin 512) :
    k0_pay72 a w (ix2 r n) = k0_pay67 a w (ix2 r ⟨512 + n.val, by omega⟩) := by
  pointwise [k0_pay72]
  blk_ext

theorem pay69_apply (x : Vec Ideal S512x512 .f32) (r : Fin 512) :
    k0_pay69 x (ix2 r 0) = RowNorm.rstd 0x44000000#32 fun n => x (ix2 r n) := by
  pointwise [k0_pay69, RowNorm.rstd, RowNorm.meanSq]

theorem pay74_apply (x : Vec Ideal S512x512 .f32) (r : Fin 512) :
    k0_pay74 (k0_pay73 x) (ix2 r 0) = RowNorm.rstd 0x44000000#32 fun n => x (ix2 r n) := by
  pointwise [k0_pay74, k0_pay73, RowNorm.rstd, RowNorm.meanSq]

theorem pay70_apply (a : FVec Ideal S512x1024 .f32) (w : Vec Ideal S1x1024x1024 .bf16) (x : Vec Ideal S512x512 .f32)
    (g : Vec Ideal S1x512 .f32) (r n : Fin 512) :
    k0_pay70 a w x g (ix2 r n)
      = RowNorm.normGrad 0x44000000#32 (fun j => x (ix2 r j)) (fun j => k0_pay68 a w (ix2 r j) * g (ix2 0 j)) n := by
  rw [RowNorm.normGrad, ← pay69_apply]
  pointwise [k0_pay70]

theorem pay75_apply (x : Vec Ideal S512x512 .f32) (u : FVec Ideal S512x512 .f32) (g : Vec Ideal S1x512 .f32) (r n : Fin 512) :
    k0_pay75 x u g (k0_pay73 x) (ix2 r n)
      = RowNorm.normGrad 0x44000000#32 (fun j => x (ix2 r j)) (fun j => u (ix2 r j) * g (ix2 0 j)) n := by
  rw [RowNorm.normGrad, ← pay74_apply]
  pointwise [k0_pay75]

theorem pay76_apply (a : FVec Ideal S512x1024 .f32) (w : Vec Ideal S1x1024x1024 .bf16) (x : Vec Ideal S512x512 .f32)
    (old : Vec Ideal S1x512 .f32) (n : Fin 512) :
    k0_pay76 (k0_pay71 a w x) old (ix2 0 n)
      = old (ix2 0 n) + ∑ r : Fin 512, RowNorm.scaleGrad 0x44000000#32 (fun j => x (ix2 r j)) (fun j => k0_pay68 a w (ix2 r j)) n := by
  unfold RowNorm.scaleGrad
  simp only [← pay69_apply]
  pointwise [k0_pay76, k0_pay71]

theorem pay77_apply (x : Vec Ideal S512x512 .f32) (u : FVec Ideal S512x512 .f32) (old : Vec Ideal S1x512 .f32) (n : Fin 512) :
    k0_pay77 x u (k0_pay73 x) old (ix2 0 n)
      = old (ix2 0 n) + ∑ r : Fin 512, RowNorm.scaleGrad 0x44000000#32 (fun j => x (ix2 r j)) (fun j => u (ix2 r j)) n := by
  unfold RowNorm.scaleGrad
  simp only [← pay74_apply]
  pointwise [k0_pay77]

end Cert.XattnIdeal.Point
end
-- ==== Proof.XattnBlocks.lean ====
module

public import proofs.«01_k».proof.Proof.Gen.XattnIdeal.Value
public import proofs.«01_k».proof.Proof.XattnHeads
public import proofs.«01_k».proof.Proof.XattnTail
public import proofs.«01_k».proof.Proof.FirstRow
public import Idealize.ShloMosaic.Lib.Pipeline.ReadBack

@[expose] public section

set_option maxRecDepth 16384

noncomputable section

/-! The arguments by row and column, the blocks of a point, and the results' values. -/

namespace Cert.XattnIdeal.Point

open Cert.XattnIdeal Cert.XattnIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at each point. -/
theorem idx : ∀ t : Fin cfg0.N, win0_0.index t = ![t.val, 0] ∧ win0_1.index t = ![0, 0, 0] ∧ win0_2.index t = ![t.val, 0]
    ∧ win0_3.index t = ![0, 0] ∧ win0_4.index t = ![0, 0] ∧ win0_5.index t = ![0, 0] ∧ win0_6.index t = ![0, 0, 0]
    ∧ win0_7.index t = ![t.val, 0] ∧ win0_8.index t = ![0, 0] ∧ win0_9.index t = ![0, 0, 0] ∧ win0_10.index t = ![t.val, 0]
    ∧ win0_11.index t = ![t.val, 0] ∧ win0_12.index t = ![0, 0] ∧ win0_13.index t = ![0, 0] ∧ t.val < 16 :=
  (by decide +kernel : ∀ t : Fin grid0.N, _)

/-- Where each result's block lies at each point. -/
theorem idxO : ∀ t : Fin cfg0.N, win0_14.index t = ![t.val, 0] ∧ win0_15.index t = ![t.val, 0] ∧ win0_16.index t = ![0, 0]
    ∧ win0_17.index t = ![0, 0] ∧ win0_18.index t = ![0, 0] ∧ win0_19.index t = ![0, 0] ∧ win0_20.index t = ![t.val, 0]
    ∧ win0_21.index t = ![t.val, 0] ∧ win0_22.index t = ![0, 0] ∧ t.val < 16 :=
  (by decide +kernel : ∀ t : Fin grid0.N, _)

/-- The gradient that reaches the residual stream. -/
def argD (c : Dev nD) (s : Fin 8192) (n : Fin 1024) : EReal := m ((c : Thread nD τ).loc main_arg0) (ix2 s n)
/-- The heads' output weights. -/
def argWo (c : Dev nD) (n k : Fin 1024) : EReal := m ((c : Thread nD τ).loc main_arg1) (ix3 0 n k)
/-- The queries. -/
def argQ (c : Dev nD) (s : Fin 8192) (n : Fin 1024) : EReal := m ((c : Thread nD τ).loc main_arg2) (ix2 s n)
/-- The normed keys. -/
def argK (c : Dev nD) (j : Fin 256) (n : Fin 1024) : EReal := m ((c : Thread nD τ).loc main_arg3) (ix2 j n)
/-- The values. -/
def argV (c : Dev nD) (j : Fin 256) (n : Fin 1024) : EReal := m ((c : Thread nD τ).loc main_arg4) (ix2 j n)
/-- The scale of the queries' norm. -/
def argGq (c : Dev nD) (d : Fin 256) : EReal := m ((c : Thread nD τ).loc main_arg5) (ix2 0 d)
/-- The query weights. -/
def argWq (c : Dev nD) (n k : Fin 1024) : EReal := m ((c : Thread nD τ).loc main_arg6) (ix3 0 n k)
/-- The residual stream the queries are made of. -/
def argX (c : Dev nD) (s : Fin 8192) (n : Fin 1024) : EReal := m ((c : Thread nD τ).loc main_arg7) (ix2 s n)
/-- The scale of the residual stream's norm. -/
def argG (c : Dev nD) (n : Fin 1024) : EReal := m ((c : Thread nD τ).loc main_arg8) (ix2 0 n)
/-- The mixer's output weights. -/
def argWx (c : Dev nD) (n k : Fin 1024) : EReal := m ((c : Thread nD τ).loc main_arg9) (ix3 0 n k)
/-- The mixer's attention output. -/
def argA (c : Dev nD) (s : Fin 8192) (n : Fin 512) : EReal := m ((c : Thread nD τ).loc main_arg10) (ix2 s n)
/-- The mixer's group output. -/
def argM (c : Dev nD) (s : Fin 8192) (n : Fin 512) : EReal := m ((c : Thread nD τ).loc main_arg11) (ix2 s n)
/-- The scale of the attention output's norm. -/
def argGa (c : Dev nD) (n : Fin 512) : EReal := m ((c : Thread nD τ).loc main_arg12) (ix2 0 n)
/-- The scale of the group output's norm. -/
def argGm (c : Dev nD) (n : Fin 512) : EReal := m ((c : Thread nD τ).loc main_arg13) (ix2 0 n)

/-- A head's column among all the columns. -/
def col (h : Fin 4) (d : Fin 256) : Fin 1024 := ⟨256 * h.val + d.val, by omega⟩
/-- The head of a column. -/
def headOf (n : Fin 1024) : Fin 4 := ⟨n.val / 256, by omega⟩
/-- A column's place in its head. -/
def inHead (n : Fin 1024) : Fin 256 := ⟨n.val % 256, by omega⟩

/-- The gradient of the heads' outputs. -/
def resO (c : Dev nD) (s : Fin 8192) (n : Fin 1024) : EReal := ∑ k, argD m c s k * argWo m c n k
/-- A head's queries. -/
def hQ (c : Dev nD) (s : Fin 8192) (h : Fin 4) : Xattn.Vec1 := fun d => argQ m c s (col h d)
/-- The gradient of a head's outputs. -/
def hO (c : Dev nD) (s : Fin 8192) (h : Fin 4) : Xattn.Vec1 := fun d => resO m c s (col h d)
/-- A head's keys. -/
def hK (c : Dev nD) (h : Fin 4) : Xattn.Mat := fun j d => argK m c j (col h d)
/-- A head's values. -/
def hV (c : Dev nD) (h : Fin 4) : Xattn.Mat := fun j d => argV m c j (col h d)

/-- A row of the queries' gradient. -/
def rowDq (c : Dev nD) (s : Fin 8192) (n : Fin 1024) : EReal :=
  Xattn.dq (argGq m c) (hQ m c s (headOf n)) (hO m c s (headOf n)) (hK m c (headOf n)) (hV m c (headOf n)) (inHead n)
/-- A row of the gradient of the normed residual stream. -/
def rowDh (c : Dev nD) (s : Fin 8192) (n : Fin 1024) : EReal := ∑ k, rowDq m c s k * argWq m c n k
/-- A row of the gradient of the residual stream. -/
def rowDx (c : Dev nD) (s : Fin 8192) (n : Fin 1024) : EReal :=
  argD m c s n + RowNorm.normGrad 0x44800000#32 (argX m c s) (fun n => rowDh m c s n * argG m c n) n
/-- A row of the gradient of the mixer's normed outputs. -/
def rowDy (c : Dev nD) (s : Fin 8192) (n : Fin 1024) : EReal := ∑ k, rowDx m c s k * argWx m c n k
/-- The part that reaches the normed attention output. -/
def rowLo (c : Dev nD) (s : Fin 8192) (n : Fin 512) : EReal := rowDy m c s ⟨n.val, by omega⟩
/-- The part that reaches the normed group output. -/
def rowHi (c : Dev nD) (s : Fin 8192) (n : Fin 512) : EReal := rowDy m c s ⟨512 + n.val, by omega⟩
/-- What a row adds to the gradients of the two mixer norms' scales, side by side. -/
def rowGy (c : Dev nD) (s : Fin 8192) (n : Fin 1024) : EReal :=
  if h : n.val < 512 then RowNorm.scaleGrad 0x44000000#32 (argA m c s) (rowLo m c s) ⟨n.val, h⟩
  else RowNorm.scaleGrad 0x44000000#32 (argM m c s) (rowHi m c s) ⟨n.val - 512, by omega⟩

/-- The queries' gradient. -/
def resDq (c : Dev nD) (j : S8192x1024.Idx) : EReal := rowDq m c (j 0) (j 1)
/-- The residual stream's gradient. -/
def resDx (c : Dev nD) (j : S8192x1024.Idx) : EReal := rowDx m c (j 0) (j 1)
/-- The keys' gradient. -/
def resDk (c : Dev nD) (j : S256x1024.Idx) : EReal :=
  ∑ s, Xattn.dk (argGq m c) (hQ m c s (headOf (j 1))) (hO m c s (headOf (j 1))) (hK m c (headOf (j 1))) (hV m c (headOf (j 1)))
    (j 0) (inHead (j 1))
/-- The values' gradient. -/
def resDv (c : Dev nD) (j : S256x1024.Idx) : EReal :=
  ∑ s, Xattn.dv (argGq m c) (hQ m c s (headOf (j 1))) (hO m c s (headOf (j 1))) (hK m c (headOf (j 1))) (j 0) (inHead (j 1))
/-- What a row adds to the gradient of the queries' norm's scale, over the heads. -/
def rowGq (c : Dev nD) (s : Fin 8192) (d : Fin 256) : EReal :=
  ∑ h : Fin 4, Xattn.dgq (argGq m c) (hQ m c s h) (hO m c s h) (hK m c h) (hV m c h) d
/-- The gradient of the queries' norm's scale in its first row, zero below. -/
def resGq (c : Dev nD) (j : S8x256.Idx) : EReal := if (j 0).val = 0 then ∑ s, rowGq m c s (j 1) else 0
/-- The gradient of the residual stream's norm's scale in its first row, zero below. -/
def resDg (c : Dev nD) (j : S8x1024.Idx) : EReal :=
  if (j 0).val = 0 then ∑ s, RowNorm.scaleGrad 0x44800000#32 (argX m c s) (rowDh m c s) (j 1) else 0
/-- The attention output's gradient. -/
def resDa (c : Dev nD) (j : S8192x512.Idx) : EReal :=
  RowNorm.normGrad 0x44000000#32 (argA m c (j 0)) (fun n => rowLo m c (j 0) n * argGa m c n) (j 1)
/-- The group output's gradient. -/
def resDm (c : Dev nD) (j : S8192x512.Idx) : EReal :=
  RowNorm.normGrad 0x44000000#32 (argM m c (j 0)) (fun n => rowHi m c (j 0) n * argGm m c n) (j 1)
/-- The gradients of the two mixer norms' scales in the first row, zero below. -/
def resGy (c : Dev nD) (j : S8x1024.Idx) : EReal := if (j 0).val = 0 then ∑ s, rowGy m c s (j 1) else 0

variable (c : Dev nD) (t : Fin cfg0.N)

/-- A row of a point's block among all the rows. -/
def row (t : Fin cfg0.N) (r : Fin 512) : Fin 8192 :=
  ⟨512 * t.val + r.val, by have := t.isLt; have : cfg0.N = 16 := rfl; omega⟩

theorem blockD (r : Fin 512) (n : Fin 1024) : iblk m c 0 t (ix2 r n) = argD m c (row t r) n := by
  unfold argD row
  blk_point [iblk, V, idx t]
theorem blockWo (n k : Fin 1024) : iblk m c 1 t (ix3 0 n k) = argWo m c n k := by
  unfold argWo
  blk_point [iblk, V, idx t]
theorem blockQ (r : Fin 512) (n : Fin 1024) : iblk m c 2 t (ix2 r n) = argQ m c (row t r) n := by
  unfold argQ row
  blk_point [iblk, V, idx t]
theorem blockK (j : Fin 256) (n : Fin 1024) : iblk m c 3 t (ix2 j n) = argK m c j n := by
  unfold argK
  blk_point [iblk, V, idx t]
theorem blockV (j : Fin 256) (n : Fin 1024) : iblk m c 4 t (ix2 j n) = argV m c j n := by
  unfold argV
  blk_point [iblk, V, idx t]
theorem blockGq (d : Fin 256) : iblk m c 5 t (ix2 0 d) = argGq m c d := by
  unfold argGq
  blk_point [iblk, V, idx t]
theorem blockWq (n k : Fin 1024) : iblk m c 6 t (ix3 0 n k) = argWq m c n k := by
  unfold argWq
  blk_point [iblk, V, idx t]
theorem blockX (r : Fin 512) (n : Fin 1024) : iblk m c 7 t (ix2 r n) = argX m c (row t r) n := by
  unfold argX row
  blk_point [iblk, V, idx t]
theorem blockG (n : Fin 1024) : iblk m c 8 t (ix2 0 n) = argG m c n := by
  unfold argG
  blk_point [iblk, V, idx t]
theorem blockWx (n k : Fin 1024) : iblk m c 9 t (ix3 0 n k) = argWx m c n k := by
  unfold argWx
  blk_point [iblk, V, idx t]
theorem blockA (r n : Fin 512) : iblk m c 10 t (ix2 r n) = argA m c (row t r) n := by
  unfold argA row
  blk_point [iblk, V, idx t]
theorem blockM (r n : Fin 512) : iblk m c 11 t (ix2 r n) = argM m c (row t r) n := by
  unfold argM row
  blk_point [iblk, V, idx t]
theorem blockGa (n : Fin 512) : iblk m c 12 t (ix2 0 n) = argGa m c n := by
  unfold argGa
  blk_point [iblk, V, idx t]
theorem blockGm (n : Fin 512) : iblk m c 13 t (ix2 0 n) = argGm m c n := by
  unfold argGm
  blk_point [iblk, V, idx t]

end Cert.XattnIdeal.Point
end
-- ==== Proof.XattnOuts.lean ====
module

public import proofs.«01_k».proof.Proof.XattnBlocks

@[expose] public section

set_option maxRecDepth 16384

noncomputable section

/-! One head's block at a point, from the point's reads, and what the products and norms around the heads make of it. -/

namespace Cert.XattnIdeal.Point

open Cert.XattnIdeal Cert.XattnIdeal.Gen Idealize.ShloMosaic Idealize.ShloMosaic.TcCoe Idealize.SL.Sem

variable (m : (ℓ : Loc nD τ sig) → Buf (Elt Ideal) ℓ) (c : Dev nD) (t : Fin cfg0.N)

theorem headOf_col (h : Fin 4) (d : Fin 256) : headOf (col h d) = h := Fin.ext (by unfold headOf col; dsimp only; omega)
theorem inHead_col (h : Fin 4) (d : Fin 256) : inHead (col h d) = d := Fin.ext (by unfold inHead col; dsimp only; omega)
theorem eq_col (n : Fin 1024) (h : Fin 4) (d : Fin 256) (e : n.val = 256 * h.val + d.val) : n = col h d := Fin.ext e

/-- The product that gives the gradient of the heads' outputs. -/
theorem prodO (r : Fin 512) (n : Fin 1024) : k0_pay6 (iblk m c 0 t) (iblk m c 1 t) (ix2 r n) = resO m c (row t r) n :=
  (pay6_apply _ _ r n).trans (Finset.sum_congr rfl fun k _ => Ideal.mul_congr (blockD m c t r k) (blockWo m c t n k))

theorem out0 (r : Fin 512) (d : Fin 256) : k0_pay7 (iblk m c 0 t) (iblk m c 1 t) (ix2 r d) = hO m c (row t r) 0 d :=
  (slice0 _ _ r d).trans (prodO m c t r _)
theorem out1 (r : Fin 512) (d : Fin 256) : k0_pay24 (k0_pay6 (iblk m c 0 t) (iblk m c 1 t)) (ix2 r d) = hO m c (row t r) 1 d :=
  (slice1 _ r d).trans (prodO m c t r _)
theorem out2 (r : Fin 512) (d : Fin 256) : k0_pay37 (k0_pay6 (iblk m c 0 t) (iblk m c 1 t)) (ix2 r d) = hO m c (row t r) 2 d :=
  (slice2 _ r d).trans (prodO m c t r _)
theorem out3 (r : Fin 512) (d : Fin 256) : k0_pay51 (k0_pay6 (iblk m c 0 t) (iblk m c 1 t)) (ix2 r d) = hO m c (row t r) 3 d :=
  (slice3 _ r d).trans (prodO m c t r _)

section Head

variable {o : ℕ} (h : Fin 4) (ho : o = 256 * h.val) (O : FVec Ideal S512x256 .f32)
  (hO' : ∀ (r : Fin 512) (d : Fin 256), O (ix2 r d) = hO m c (row t r) h d)
  (iq : ∀ a, (![0, o] : Fin 2 → ℕ) a + (![512, 256] : Fin 2 → ℕ) a ≤ S512x1024.size a)
  (ik : ∀ a, (![0, o] : Fin 2 → ℕ) a + (![256, 256] : Fin 2 → ℕ) a ≤ S256x1024.size a)

/-- A head's columns of the block of queries. -/
abbrev ldQ : Vec Ideal S512x256 .f32 := View.ld (iblk m c 2 t) (Rect.unit ![0, o] ![512, 256] iq)
/-- A head's columns of the keys. -/
abbrev ldK : Vec Ideal S256x256 .bf16 := View.ld (iblk m c 3 t) (Rect.unit ![0, o] ![256, 256] ik)
/-- A head's columns of the values. -/
abbrev ldV : Vec Ideal S256x256 .bf16 := View.ld (iblk m c 4 t) (Rect.unit ![0, o] ![256, 256] ik)

theorem fun_g : (fun d => iblk m c 5 t (ix2 0 d)) = argGq m c := funext fun d => blockGq m c t d

include ho in
theorem fun_q (r : Fin 512) : (fun d => ldQ m c t iq (ix2 r d)) = hQ m c (row t r) h := by
  funext d
  refine Eq.trans ?_ (blockQ m c t r (col h d))
  subst ho
  unfold ldQ col
  pointwise
  blk_ext

include ho in
theorem fun_k : (fun j d => ldK m c t ik (ix2 j d)) = hK m c h := by
  funext j d
  refine Eq.trans ?_ (blockK m c t j (col h d))
  subst ho
  unfold ldK col
  pointwise
  blk_ext

include ho in
theorem fun_v : (fun j d => ldV m c t ik (ix2 j d)) = hV m c h := by
  funext j d
  refine Eq.trans ?_ (blockV m c t j (col h d))
  subst ho
  unfold ldV col
  pointwise
  blk_ext

include ho hO' in
theorem headDq_ld (r : Fin 512) (d : Fin 256) (s : Fin 8192) (n : Fin 1024) (hs : s = row t r) (hn : n.val = o + d.val) :
    headDq (iblk m c 5 t) (ldQ m c t iq) O (ldK m c t ik) (ldK m c t ik) (ldV m c t ik) (ix2 r d) = rowDq m c s n := by
  have e := eq_col n h d (by omega)
  subst e hs
  rw [headDq_apply, rowDq, headOf_col, inHead_col, fun_q m c t h ho, fun_k m c t h ho, fun_v m c t h ho, fun_g,
    show (fun d => O (ix2 r d)) = hO m c (row t r) h from funext (hO' r)]

include ho hO' in
theorem headDk_ld (old : Vec Ideal S256x256 .f32) (j d : Fin 256) :
    headDk (iblk m c 5 t) (ldQ m c t iq) O (ldK m c t ik) (ldV m c t ik) old (ix2 j d)
      = old (ix2 j d) + ∑ r : Fin 512, Xattn.dk (argGq m c) (hQ m c (row t r) h) (hO m c (row t r) h) (hK m c h) (hV m c h) j d := by
  rw [headDk_apply]
  refine Ideal.add_congr rfl (Finset.sum_congr rfl fun r _ => ?_)
  rw [fun_q m c t h ho, fun_k m c t h ho, fun_v m c t h ho, fun_g,
    show (fun d => O (ix2 r d)) = hO m c (row t r) h from funext (hO' r)]

include ho hO' in
theorem headDv_ld (old : Vec Ideal S256x256 .f32) (j d : Fin 256) :
    headDv (iblk m c 5 t) (ldQ m c t iq) O (ldK m c t ik) old (ix2 j d)
      = old (ix2 j d) + ∑ r : Fin 512, Xattn.dv (argGq m c) (hQ m c (row t r) h) (hO m c (row t r) h) (hK m c h) j d := by
  rw [headDv_apply]
  refine Ideal.add_congr rfl (Finset.sum_congr rfl fun r _ => ?_)
  rw [fun_q m c t h ho, fun_k m c t h ho, fun_g, show (fun d => O (ix2 r d)) = hO m c (row t r) h from funext (hO' r)]

include ho hO' in
theorem headDgq_ld (old : Vec Ideal S1x256 .f32) (d : Fin 256) :
    headDgq (iblk m c 5 t) (ldQ m c t iq) O (ldK m c t ik) (ldK m c t ik) (ldV m c t ik) old (ix2 0 d)
      = old (ix2 0 d) + ∑ r : Fin 512, Xattn.dgq (argGq m c) (hQ m c (row t r) h) (hO m c (row t r) h) (hK m c h) (hV m c h) d := by
  rw [headDgq_apply]
  refine Ideal.add_congr rfl (Finset.sum_congr rfl fun r _ => ?_)
  rw [fun_q m c t h ho, fun_k m c t h ho, fun_v m c t h ho, fun_g,
    show (fun d => O (ix2 r d)) = hO m c (row t r) h from funext (hO' r)]

end Head

/-- The four heads' stores of the queries' gradient. -/
abbrev dqPieces : List (View.Piece (Elt Ideal) S512x1024 .bf16) :=
  [⟨Rect.unit ![0, 768] ![512, 256] inb_S512x1024_S512x256_0_768,
  k0_pay60 (iblk m c 5 t)
  (View.ld (iblk m c 2 t) (Rect.unit ![0, 768] ![512, 256] inb_S512x1024_S512x256_0_768))
  (k0_pay53 (k0_pay52 (View.ld (iblk m c 2 t) (Rect.unit ![0, 768] ![512, 256] inb_S512x1024_S512x256_0_768)))
  (FloatOps.ofBits FTy.f32 897988541#32))
  (k0_pay57 (iblk m c 5 t)
  (View.ld (iblk m c 2 t) (Rect.unit ![0, 768] ![512, 256] inb_S512x1024_S512x256_0_768))
  (k0_pay51 (k0_pay6 (iblk m c 0 t) (iblk m c 1 t)))
  (View.ld (iblk m c 3 t) (Rect.unit ![0, 768] ![256, 256] inb_S256x1024_S256x256_0_768))
  (k0_pay52 (View.ld (iblk m c 2 t) (Rect.unit ![0, 768] ![512, 256] inb_S512x1024_S512x256_0_768)))
  (FloatOps.ofBits FTy.f32 897988541#32)
  (View.ld (iblk m c 4 t) (Rect.unit ![0, 768] ![256, 256] inb_S256x1024_S256x256_0_768))
  (View.ld (iblk m c 3 t) (Rect.unit ![0, 768] ![256, 256] inb_S256x1024_S256x256_0_768)))⟩,
  ⟨Rect.unit ![0, 512] ![512, 256] inb_S512x1024_S512x256_0_512,
  k0_pay49 (iblk m c 5 t)
  (View.ld (iblk m c 2 t) (Rect.unit ![0, 512] ![512, 256] inb_S512x1024_S512x256_0_512))
  (k0_pay38 (View.ld (iblk m c 2 t) (Rect.unit ![0, 512] ![512, 256] inb_S512x1024_S512x256_0_512)))
  (k0_pay43 (k0_pay37 (k0_pay6 (iblk m c 0 t) (iblk m c 1 t)))
  (View.ld (iblk m c 3 t) (Rect.unit ![0, 512] ![256, 256] inb_S256x1024_S256x256_0_512))
  (k0_pay40 (iblk m c 5 t)
  (View.ld (iblk m c 2 t) (Rect.unit ![0, 512] ![512, 256] inb_S512x1024_S512x256_0_512)))
  (View.ld (iblk m c 4 t) (Rect.unit ![0, 512] ![256, 256] inb_S256x1024_S256x256_0_512))
  (View.ld (iblk m c 3 t) (Rect.unit ![0, 512] ![256, 256] inb_S256x1024_S256x256_0_512)))⟩,
  ⟨Rect.unit ![0, 256] ![512, 256] inb_S512x1024_S512x256_0_256,
  k0_pay35 (View.ld (iblk m c 2 t) (Rect.unit ![0, 256] ![512, 256] inb_S512x1024_S512x256_0_256))
  (k0_pay25 (View.ld (iblk m c 2 t) (Rect.unit ![0, 256] ![512, 256] inb_S512x1024_S512x256_0_256)))
  (k0_pay31 (k0_pay24 (k0_pay6 (iblk m c 0 t) (iblk m c 1 t)))
  (k0_pay27 (iblk m c 5 t)
  (View.ld (iblk m c 2 t) (Rect.unit ![0, 256] ![512, 256] inb_S512x1024_S512x256_0_256))
  (View.ld (iblk m c 3 t) (Rect.unit ![0, 256] ![256, 256] inb_S256x1024_S256x256_0_256)))
  (k0_pay28 (iblk m c 5 t)
  (View.ld (iblk m c 2 t) (Rect.unit ![0, 256] ![512, 256] inb_S512x1024_S512x256_0_256))
  (View.ld (iblk m c 3 t) (Rect.unit ![0, 256] ![256, 256] inb_S256x1024_S256x256_0_256)))
  (View.ld (iblk m c 4 t) (Rect.unit ![0, 256] ![256, 256] inb_S256x1024_S256x256_0_256))
  (View.ld (iblk m c 3 t) (Rect.unit ![0, 256] ![256, 256] inb_S256x1024_S256x256_0_256)))
  (k0_pay34 (iblk m c 5 t))⟩,
  ⟨Rect.unit ![0, 0] ![512, 256] inb_S512x1024_S512x256_0_0,
  k0_pay22
  (k0_pay19 (iblk m c 5 t) (k0_pay7 (iblk m c 0 t) (iblk m c 1 t))
  (k0_pay8 (View.ld (iblk m c 2 t) (Rect.unit ![0, 0] ![512, 256] inb_S512x1024_S512x256_0_0)))
  (k0_pay10 (iblk m c 5 t)
  (View.ld (iblk m c 2 t) (Rect.unit ![0, 0] ![512, 256] inb_S512x1024_S512x256_0_0))
  (View.ld (iblk m c 3 t) (Rect.unit ![0, 0] ![256, 256] inb_S256x1024_S256x256_0_0)))
  (k0_pay11 (iblk m c 5 t)
  (View.ld (iblk m c 2 t) (Rect.unit ![0, 0] ![512, 256] inb_S512x1024_S512x256_0_0))
  (View.ld (iblk m c 3 t) (Rect.unit ![0, 0] ![256, 256] inb_S256x1024_S256x256_0_0)))
  k0_pay12 (View.ld (iblk m c 4 t) (Rect.unit ![0, 0] ![256, 256] inb_S256x1024_S256x256_0_0))
  (View.ld (iblk m c 3 t) (Rect.unit ![0, 0] ![256, 256] inb_S256x1024_S256x256_0_0)))
  (k0_pay20 (View.ld (iblk m c 2 t) (Rect.unit ![0, 0] ![512, 256] inb_S512x1024_S512x256_0_0))
  (k0_pay8 (View.ld (iblk m c 2 t) (Rect.unit ![0, 0] ![512, 256] inb_S512x1024_S512x256_0_0))))
  (k0_pay21 (iblk m c 5 t) (View.ld (iblk m c 2 t) (Rect.unit ![0, 0] ![512, 256] inb_S512x1024_S512x256_0_0))
  (k0_pay7 (iblk m c 0 t) (iblk m c 1 t))
  (k0_pay10 (iblk m c 5 t)
  (View.ld (iblk m c 2 t) (Rect.unit ![0, 0] ![512, 256] inb_S512x1024_S512x256_0_0))
  (View.ld (iblk m c 3 t) (Rect.unit ![0, 0] ![256, 256] inb_S256x1024_S256x256_0_0)))
  (k0_pay11 (iblk m c 5 t)
  (View.ld (iblk m c 2 t) (Rect.unit ![0, 0] ![512, 256] inb_S512x1024_S512x256_0_0))
  (View.ld (iblk m c 3 t) (Rect.unit ![0, 0] ![256, 256] inb_S256x1024_S256x256_0_0)))
  k0_pay12 (View.ld (iblk m c 4 t) (Rect.unit ![0, 0] ![256, 256] inb_S256x1024_S256x256_0_0))
  (View.ld (iblk m c 3 t) (Rect.unit ![0, 0] ![256, 256] inb_S256x1024_S256x256_0_0)))⟩]

theorem dq_canon (r : Fin 512) (n : Fin 1024) :
    View.canon (dqPieces m c t) (ix2 r n) = rowDq m c (row t r) n := by
  refine FirstRow.canon_heads _ _ _ _ _ _ _ _ _ r n _ (fun d e => ?_) (fun d e => ?_) (fun d e => ?_) (fun d e => ?_)
  · rw [dq3]
    exact headDq_ld m c t 3 rfl _ (out3 m c t) _ _ r d _ n rfl e
  · rw [dq2]
    exact headDq_ld m c t 2 rfl _ (out2 m c t) _ _ r d _ n rfl e
  · rw [dq1]
    exact headDq_ld m c t 1 rfl _ (out1 m c t) _ _ r d _ n rfl e
  · exact headDq_ld m c t 0 rfl _ (out0 m c t) _ _ r d _ n rfl e

/-- The queries' gradient read back after it is stored. -/
abbrev dqBack {κ : Kind} {sp : Space} (v : View sig κ sp S512x1024 .bf16)
    (i : ∀ a, (![0, 0] : Fin 2 → ℕ) a + (![512, 1024] : Fin 2 → ℕ) a ≤ S512x1024.size a) : Vec Ideal S512x1024 .bf16 :=
  v.readCov (dqPieces m c t) (Rect.unit (s := S512x1024) ![0, 0] ![512, 1024] i).toLoadRect

theorem dq_back {κ : Kind} {sp : Space} (v : View sig κ sp S512x1024 .bf16)
    (i : ∀ a, (![0, 0] : Fin 2 → ℕ) a + (![512, 1024] : Fin 2 → ℕ) a ≤ S512x1024.size a) (r : Fin 512) (n : Fin 1024) :
    dqBack m c t v i (ix2 r n) = rowDq m c (row t r) n := by
  unfold dqBack
  rw [View.readCov_eq_canon']
  refine Eq.trans (congrArg (View.canon (dqPieces m c t)) ?_) (dq_canon m c t r n)
  change (Rect.unit (s := S512x1024) ![0, 0] ![512, 1024] i).emb (ix2 r n) = ix2 r n
  blk_ext

section Tail

variable (a : Vec Ideal S512x1024 .bf16) (ha : ∀ (r : Fin 512) (n : Fin 1024), a (ix2 r n) = rowDq m c (row t r) n)

include ha in
theorem dh_row (r : Fin 512) (n : Fin 1024) : k0_pay63 (k0_pay62 a) (iblk m c 6 t) (ix2 r n) = rowDh m c (row t r) n :=
  (pay63_apply _ _ r n).trans (Finset.sum_congr rfl fun k _ => Ideal.mul_congr (ha r k) (blockWq m c t n k))

/-- The residual stream's gradient at a point. -/
abbrev dxBlock : FVec Ideal S512x1024 .f32 :=
  k0_pay65 (iblk m c 7 t) (k0_pay62 a) (iblk m c 6 t) (iblk m c 8 t) (iblk m c 0 t)

include ha in
theorem dx_row (r : Fin 512) (n : Fin 1024) : dxBlock m c t a (ix2 r n) = rowDx m c (row t r) n :=
  (pay65_apply _ _ _ _ _ r n).trans (Ideal.add_congr (blockD m c t r n)
    (RowNorm.normGrad_congr _ (fun j => blockX m c t r j)
      (fun j => Ideal.mul_congr (dh_row m c t a ha r j) (blockG m c t j)) n))

include ha in
theorem dg_row (old : Vec Ideal S1x1024 .f32) (n : Fin 1024) :
    k0_pay66 (iblk m c 7 t) (k0_pay62 a) (iblk m c 6 t) old (ix2 0 n)
      = old (ix2 0 n) + ∑ r : Fin 512, RowNorm.scaleGrad 0x44800000#32 (argX m c (row t r)) (rowDh m c (row t r)) n := by
  rw [pay66_apply]
  exact Ideal.add_congr rfl (Finset.sum_congr rfl fun r _ => RowNorm.scaleGrad_congr _ (fun j => blockX m c t r j)
    (funext fun j => dh_row m c t a ha r j) n)

include ha in
theorem dy_row (r : Fin 512) (n : Fin 1024) : k0_pay67 (dxBlock m c t a) (iblk m c 9 t) (ix2 r n) = rowDy m c (row t r) n :=
  (pay67_apply _ _ r n).trans (Finset.sum_congr rfl fun k _ => Ideal.mul_congr (dx_row m c t a ha r k) (blockWx m c t n k))

include ha in
theorem lo_row (r n : Fin 512) : k0_pay68 (dxBlock m c t a) (iblk m c 9 t) (ix2 r n) = rowLo m c (row t r) n :=
  (pay68_apply _ _ r n).trans (dy_row m c t a ha r _)

include ha in
theorem hi_row (r n : Fin 512) : k0_pay72 (dxBlock m c t a) (iblk m c 9 t) (ix2 r n) = rowHi m c (row t r) n :=
  (pay72_apply _ _ r n).trans (dy_row m c t a ha r _)

include ha in
theorem da_row (r n : Fin 512) :
    k0_pay70 (dxBlock m c t a) (iblk m c 9 t) (iblk m c 10 t) (iblk m c 12 t) (ix2 r n) = resDa m c (ix2 (row t r) n) :=
  (pay70_apply _ _ _ _ r n).trans (RowNorm.normGrad_congr _ (fun j => blockA m c t r j)
    (fun j => Ideal.mul_congr (lo_row m c t a ha r j) (blockGa m c t j)) n)

include ha in
theorem dm_row (r n : Fin 512) :
    k0_pay75 (iblk m c 11 t) (k0_pay72 (dxBlock m c t a) (iblk m c 9 t)) (iblk m c 13 t) (k0_pay73 (iblk m c 11 t)) (ix2 r n)
      = resDm m c (ix2 (row t r) n) :=
  (pay75_apply _ _ _ r n).trans (RowNorm.normGrad_congr _ (fun j => blockM m c t r j)
    (fun j => Ideal.mul_congr (hi_row m c t a ha r j) (blockGm m c t j)) n)

include ha in
theorem gLo_row (old : Vec Ideal S1x512 .f32) (n : Fin 512) (k : Fin 1024) (hk : k.val = 0 + n.val) :
    k0_pay76 (k0_pay71 (dxBlock m c t a) (iblk m c 9 t) (iblk m c 10 t)) old (ix2 0 n)
      = old (ix2 0 n) + ∑ r : Fin 512, rowGy m c (row t r) k := by
  rw [pay76_apply]
  refine Ideal.add_congr rfl (Finset.sum_congr rfl fun r _ => ?_)
  rw [rowGy, dif_pos (show k.val < 512 by omega)]
  refine (RowNorm.scaleGrad_congr _ (fun j => blockA m c t r j) (funext fun j => lo_row m c t a ha r j) n).trans ?_
  exact congrArg _ (Fin.ext (show n.val = k.val by omega))

include ha in
theorem gHi_row (old : Vec Ideal S1x512 .f32) (n : Fin 512) (k : Fin 1024) (hk : k.val = 512 + n.val) :
    k0_pay77 (iblk m c 11 t) (k0_pay72 (dxBlock m c t a) (iblk m c 9 t)) (k0_pay73 (iblk m c 11 t)) old (ix2 0 n)
      = old (ix2 0 n) + ∑ r : Fin 512, rowGy m c (row t r) k := by
  rw [pay77_apply]
  refine Ideal.add_congr rfl (Finset.sum_congr rfl fun r _ => ?_)
  rw [rowGy, dif_neg (show ¬ k.val < 512 by omega)]
  refine (RowNorm.scaleGrad_congr _ (fun j => blockM m c t r j) (funext fun j => hi_row m c t a ha r j) n).trans ?_
  exact congrArg _ (Fin.ext (show n.val = k.val - 512 by omega))

end Tail

end Cert.XattnIdeal.Point
end
-- ==== Proof.XattnKernel.lean ====
module

public import proofs.«01_k».proof.Proof.XattnOuts

@[expose] public section

set_option maxRecDepth 16384

noncomputable section

/-! The nine results' arrays after the run. -/

namespace Cert.XattnIdeal.Point

open Cert.XattnIdeal Cert.XattnIdeal.Gen Idealize.ShloMosaic Idealize.ShloMosaic.TcCoe Idealize.SL.Sem
open Idealize.ShloMosaic.Pipeline (Dat)

variable (m : (ℓ : Loc nD τ sig) → Buf (Elt Ideal) ℓ)

/-- The queries' gradient. -/
theorem final14 (c : Dev nD) : (dats m 0 c).arrAt 14 (cfgs 0).N = resDq m c := by
  refine (dats m 0 c).arrAt_eq_of_covers 14 _ (by decide +kernel) fun t hf y => ?_
  idx_vars y
  have he : ((cfg0.win 14).blk t).view.emb (ix2 y0 y1) = ix2 (row t y0) y1 := by
    unfold row
    blk_ext [idxO t]
  blk_simp
  refine Eq.trans ?_ (congrArg (resDq m c) he).symm
  rw [after0_14]
  by_cases h : t.val % 16 = 0
  all_goals
    first | rw [outsAt0_A m c t h] | rw [outsAt0_B m c t h]
    frame_open
    simp (disch := decide) only [↓ View.readCov_skip, ↓ View.readCov_cons_toLoadRect, ↓ View.readCov_fill]
    frame_out
    exact dq_canon m c t y0 y1

/-- The residual stream's gradient. -/
theorem final15 (c : Dev nD) : (dats m 0 c).arrAt 15 (cfgs 0).N = resDx m c := by
  refine (dats m 0 c).arrAt_eq_of_covers 15 _ (by decide +kernel) fun t hf y => ?_
  idx_vars y
  have he : ((cfg0.win 15).blk t).view.emb (ix2 y0 y1) = ix2 (row t y0) y1 := by
    unfold row
    blk_ext [idxO t]
  blk_simp
  refine Eq.trans ?_ (congrArg (resDx m c) he).symm
  rw [after0_15]
  by_cases h : t.val % 16 = 0
  all_goals
    first | rw [outsAt0_A m c t h] | rw [outsAt0_B m c t h]
    frame_open
    simp (disch := decide) only [↓ View.readCov_skip, ↓ View.readCov_cons_toLoadRect, ↓ View.readCov_fill]
    frame_out
    exact dx_row m c t (dqBack m c t _ _) (dq_back m c t _ _) y0 y1

/-- The attention output's gradient. -/
theorem final20 (c : Dev nD) : (dats m 0 c).arrAt 20 (cfgs 0).N = resDa m c := by
  refine (dats m 0 c).arrAt_eq_of_covers 20 _ (by decide +kernel) fun t hf y => ?_
  idx_vars y
  have he : ((cfg0.win 20).blk t).view.emb (ix2 y0 y1) = ix2 (row t y0) y1 := by
    unfold row
    blk_ext [idxO t]
  blk_simp
  refine Eq.trans ?_ (congrArg (resDa m c) he).symm
  rw [after0_20]
  by_cases h : t.val % 16 = 0
  all_goals
    first | rw [outsAt0_A m c t h] | rw [outsAt0_B m c t h]
    frame_open
    simp (disch := decide) only [↓ View.readCov_skip, ↓ View.readCov_cons_toLoadRect, ↓ View.readCov_fill]
    frame_out
    exact da_row m c t (dqBack m c t _ _) (dq_back m c t _ _) y0 y1

/-- The group output's gradient. -/
theorem final21 (c : Dev nD) : (dats m 0 c).arrAt 21 (cfgs 0).N = resDm m c := by
  refine (dats m 0 c).arrAt_eq_of_covers 21 _ (by decide +kernel) fun t hf y => ?_
  idx_vars y
  have he : ((cfg0.win 21).blk t).view.emb (ix2 y0 y1) = ix2 (row t y0) y1 := by
    unfold row
    blk_ext [idxO t]
  blk_simp
  refine Eq.trans ?_ (congrArg (resDm m c) he).symm
  rw [after0_21]
  by_cases h : t.val % 16 = 0
  all_goals
    first | rw [outsAt0_A m c t h] | rw [outsAt0_B m c t h]
    frame_open
    simp (disch := decide) only [↓ View.readCov_skip, ↓ View.readCov_cons_toLoadRect, ↓ View.readCov_fill]
    frame_out
    exact dm_row m c t (dqBack m c t _ _) (dq_back m c t _ _) y0 y1

end Cert.XattnIdeal.Point
end
-- ==== Proof.XattnSums.lean ====
module

public import proofs.«01_k».proof.Proof.XattnOuts

@[expose] public section

set_option maxRecDepth 16384

noncomputable section

/-! The accumulated results: what each point adds, and the arrays after the run. -/

namespace Cert.XattnIdeal.Point

open Cert.XattnIdeal Cert.XattnIdeal.Gen Idealize.ShloMosaic Idealize.ShloMosaic.TcCoe Idealize.SL.Sem
open Idealize.ShloMosaic.Pipeline (Dat)

variable (m : (ℓ : Loc nD τ sig) → Buf (Elt Ideal) ℓ)

/-- The points' rows are all the rows. -/
theorem sum_rows (f : Fin 8192 → EReal) (g : Fin 16 → Fin cfg0.N) (hg : ∀ s, (g s).val = s.val) :
    ∑ s, ∑ r : Fin 512, f (row (g s) r) = ∑ s, f s := by
  rw [Fin.sum_univ_tiles 16 512 rfl]
  refine Finset.sum_congr rfl fun s _ => Finset.sum_congr rfl fun r _ => congrArg f (Fin.ext ?_)
  change 512 * (g s).val + r.val = s.val * 512 + r.val
  rw [hg]
  omega

/-- The same in the first of eight rows. -/
theorem sum_first (f : Fin 8192 → EReal) (g : Fin 16 → Fin cfg0.N) (hg : ∀ s, (g s).val = s.val) (p : Prop) [Decidable p] :
    ∑ s, (if p then ∑ r : Fin 512, f (row (g s) r) else 0) = if p then ∑ s, f s else 0 := by
  by_cases h : p
  · simp only [if_pos h]
    exact sum_rows f g hg
  · simp only [if_neg h, Finset.sum_const_zero]

/-- What the rows of one point add to an entry of the keys' gradient. -/
def term16 (c : Dev nD) (t : Fin cfg0.N) (j : S256x1024.Idx) : EReal :=
  ∑ r : Fin 512, Xattn.dk (argGq m c) (hQ m c (row t r) (headOf (j 1))) (hO m c (row t r) (headOf (j 1))) (hK m c (headOf (j 1))) (hV m c (headOf (j 1)))
    (j 0) (inHead (j 1))

theorem term16_col (c : Dev nD) (t : Fin cfg0.N) (h : Fin 4) (a d : Fin 256) (n : Fin 1024) (hn : n.val = 256 * h.val + d.val) :
    term16 m c t (ix2 a n)
      = ∑ r : Fin 512, Xattn.dk (argGq m c) (hQ m c (row t r) h) (hO m c (row t r) h) (hK m c h) (hV m c h) a d := by
  have e := eq_col n h d hn
  subst e
  have h1 := headOf_col h d
  have h2 := inHead_col h d
  unfold term16
  dsimp only [ix2]
  change ∑ r : Fin 512, Xattn.dk _ (hQ m c (row t r) (headOf (col h d))) (hO m c (row t r) (headOf (col h d))) (hK m c (headOf (col h d))) (hV m c (headOf (col h d))) a (inHead (col h d)) = _
  rw [h1, h2]

theorem first16 (c : Dev nD) (t : Fin cfg0.N) (h : t.val % 16 = 0) (y : S256x1024.Idx) :
    (outsAt0 m c t.val t.isLt).2.2.1 y = 0 + term16 m c t y := by
  idx_vars y
  rw [outsAt0_A m c t h]
  frame_open
  simp (disch := decide) only [↓ View.readCov_skip, ↓ View.readCov_cons_toLoadRect, ↓ View.readCov_fill]
  frame_out
  refine FirstRow.canon_heads _ _ _ _ _ _ _ _ _ y0 y1 _ (fun d e => ?_) (fun d e => ?_) (fun d e => ?_) (fun d e => ?_)
  · rw [dk3, term16_col m c t 3 y0 d y1 e]
    refine (headDk_ld m c t 3 rfl _ (out3 m c t) _ _ _ y0 d).trans (Ideal.add_congr ?_ rfl)
    pointwise [k0_pay1]
  · rw [dk2, term16_col m c t 2 y0 d y1 e]
    refine (headDk_ld m c t 2 rfl _ (out2 m c t) _ _ _ y0 d).trans (Ideal.add_congr ?_ rfl)
    pointwise [k0_pay1]
  · rw [dk1, term16_col m c t 1 y0 d y1 e]
    refine (headDk_ld m c t 1 rfl _ (out1 m c t) _ _ _ y0 d).trans (Ideal.add_congr ?_ rfl)
    pointwise [k0_pay1]
  · rw [term16_col m c t 0 y0 d y1 e]
    refine (headDk_ld m c t 0 rfl _ (out0 m c t) _ _ _ y0 d).trans (Ideal.add_congr ?_ rfl)
    pointwise [k0_pay1]

theorem step16 (c : Dev nD) (t : Fin cfg0.N) (h : ¬ t.val % 16 = 0) (y : S256x1024.Idx) :
    (outsAt0 m c t.val t.isLt).2.2.1 y = (outsAt0 m c (t.val - 1) (Nat.lt_of_le_of_lt (Nat.sub_le _ _) t.isLt)).2.2.1 y + term16 m c t y := by
  idx_vars y
  rw [outsAt0_B m c t h]
  frame_open
  simp (disch := decide) only [↓ View.readCov_skip, ↓ View.readCov_cons_toLoadRect, ↓ View.readCov_fill]
  frame_out
  refine FirstRow.canon_heads _ _ _ _ _ _ _ _ _ y0 y1 _ (fun d e => ?_) (fun d e => ?_) (fun d e => ?_) (fun d e => ?_)
  · rw [dk3, term16_col m c t 3 y0 d y1 e]
    refine (headDk_ld m c t 3 rfl _ (out3 m c t) _ _ _ y0 d).trans (Ideal.add_congr ?_ rfl)
    pointwise
    blk_ext
  · rw [dk2, term16_col m c t 2 y0 d y1 e]
    refine (headDk_ld m c t 2 rfl _ (out2 m c t) _ _ _ y0 d).trans (Ideal.add_congr ?_ rfl)
    pointwise
    blk_ext
  · rw [dk1, term16_col m c t 1 y0 d y1 e]
    refine (headDk_ld m c t 1 rfl _ (out1 m c t) _ _ _ y0 d).trans (Ideal.add_congr ?_ rfl)
    pointwise
    blk_ext
  · rw [term16_col m c t 0 y0 d y1 e]
    refine (headDk_ld m c t 0 rfl _ (out0 m c t) _ _ _ y0 d).trans (Ideal.add_congr ?_ rfl)
    pointwise
    blk_ext

/-- The keys' gradient. -/
theorem final16 (c : Dev nD) : (dats m 0 c).arrAt 16 (cfgs 0).N = resDk m c := by
  refine (dats m 0 c).arrAt_eq_of_covers 16 _ (by decide +kernel) fun t hf y => ?_
  idx_vars y
  have he : ((cfg0.win 16).blk t).view.emb (ix2 y0 y1) = ix2 y0 y1 := by
    blk_ext [idxO t]
  have hf' := (flush0_16 t).mp hf
  have ht : t.val < 16 := t.isLt
  blk_simp
  refine Eq.trans ?_ (congrArg (resDk m c) he).symm
  rw [after0_16, Pipeline.eq_sum_fin_of_reset_step_apply_of_flush (fun n h => (outsAt0 m c n h).2.2.1) 16 (fun _ => 0) (term16 m c)
    (fun t h j => first16 m c t h j) (fun t h j => step16 m c t h j) t hf' _]
  change (0 : EReal) + _ = _
  rw [zero_add]
  exact sum_rows (fun s => Xattn.dk (argGq m c) (hQ m c s (headOf y1)) (hO m c s (headOf y1)) (hK m c (headOf y1)) (hV m c (headOf y1)) y0 (inHead y1))
    (fun s => ⟨16 * (t.val / 16) + s.val, by have := s.isLt; have hN : cfg0.N = 16 := rfl; omega⟩) fun s => by
      change 16 * (t.val / 16) + s.val = s.val
      omega

/-- What the rows of one point add to an entry of the values' gradient. -/
def term17 (c : Dev nD) (t : Fin cfg0.N) (j : S256x1024.Idx) : EReal :=
  ∑ r : Fin 512, Xattn.dv (argGq m c) (hQ m c (row t r) (headOf (j 1))) (hO m c (row t r) (headOf (j 1))) (hK m c (headOf (j 1)))
    (j 0) (inHead (j 1))

theorem term17_col (c : Dev nD) (t : Fin cfg0.N) (h : Fin 4) (a d : Fin 256) (n : Fin 1024) (hn : n.val = 256 * h.val + d.val) :
    term17 m c t (ix2 a n)
      = ∑ r : Fin 512, Xattn.dv (argGq m c) (hQ m c (row t r) h) (hO m c (row t r) h) (hK m c h) a d := by
  have e := eq_col n h d hn
  subst e
  have h1 := headOf_col h d
  have h2 := inHead_col h d
  unfold term17
  dsimp only [ix2]
  change ∑ r : Fin 512, Xattn.dv _ (hQ m c (row t r) (headOf (col h d))) (hO m c (row t r) (headOf (col h d))) (hK m c (headOf (col h d))) a (inHead (col h d)) = _
  rw [h1, h2]

theorem first17 (c : Dev nD) (t : Fin cfg0.N) (h : t.val % 16 = 0) (y : S256x1024.Idx) :
    (outsAt0 m c t.val t.isLt).2.2.2.1 y = 0 + term17 m c t y := by
  idx_vars y
  rw [outsAt0_A m c t h]
  frame_open
  simp (disch := decide) only [↓ View.readCov_skip, ↓ View.readCov_cons_toLoadRect, ↓ View.readCov_fill]
  frame_out
  refine FirstRow.canon_heads _ _ _ _ _ _ _ _ _ y0 y1 _ (fun d e => ?_) (fun d e => ?_) (fun d e => ?_) (fun d e => ?_)
  · rw [dv3, term17_col m c t 3 y0 d y1 e]
    refine (headDv_ld m c t 3 rfl _ (out3 m c t) _ _ _ y0 d).trans (Ideal.add_congr ?_ rfl)
    pointwise [k0_pay2]
  · rw [dv2, term17_col m c t 2 y0 d y1 e]
    refine (headDv_ld m c t 2 rfl _ (out2 m c t) _ _ _ y0 d).trans (Ideal.add_congr ?_ rfl)
    pointwise [k0_pay2]
  · rw [dv1, term17_col m c t 1 y0 d y1 e]
    refine (headDv_ld m c t 1 rfl _ (out1 m c t) _ _ _ y0 d).trans (Ideal.add_congr ?_ rfl)
    pointwise [k0_pay2]
  · rw [term17_col m c t 0 y0 d y1 e]
    refine (headDv_ld m c t 0 rfl _ (out0 m c t) _ _ _ y0 d).trans (Ideal.add_congr ?_ rfl)
    pointwise [k0_pay2]

theorem step17 (c : Dev nD) (t : Fin cfg0.N) (h : ¬ t.val % 16 = 0) (y : S256x1024.Idx) :
    (outsAt0 m c t.val t.isLt).2.2.2.1 y = (outsAt0 m c (t.val - 1) (Nat.lt_of_le_of_lt (Nat.sub_le _ _) t.isLt)).2.2.2.1 y + term17 m c t y := by
  idx_vars y
  rw [outsAt0_B m c t h]
  frame_open
  simp (disch := decide) only [↓ View.readCov_skip, ↓ View.readCov_cons_toLoadRect, ↓ View.readCov_fill]
  frame_out
  refine FirstRow.canon_heads _ _ _ _ _ _ _ _ _ y0 y1 _ (fun d e => ?_) (fun d e => ?_) (fun d e => ?_) (fun d e => ?_)
  · rw [dv3, term17_col m c t 3 y0 d y1 e]
    refine (headDv_ld m c t 3 rfl _ (out3 m c t) _ _ _ y0 d).trans (Ideal.add_congr ?_ rfl)
    pointwise
    blk_ext
  · rw [dv2, term17_col m c t 2 y0 d y1 e]
    refine (headDv_ld m c t 2 rfl _ (out2 m c t) _ _ _ y0 d).trans (Ideal.add_congr ?_ rfl)
    pointwise
    blk_ext
  · rw [dv1, term17_col m c t 1 y0 d y1 e]
    refine (headDv_ld m c t 1 rfl _ (out1 m c t) _ _ _ y0 d).trans (Ideal.add_congr ?_ rfl)
    pointwise
    blk_ext
  · rw [term17_col m c t 0 y0 d y1 e]
    refine (headDv_ld m c t 0 rfl _ (out0 m c t) _ _ _ y0 d).trans (Ideal.add_congr ?_ rfl)
    pointwise
    blk_ext

/-- The values' gradient. -/
theorem final17 (c : Dev nD) : (dats m 0 c).arrAt 17 (cfgs 0).N = resDv m c := by
  refine (dats m 0 c).arrAt_eq_of_covers 17 _ (by decide +kernel) fun t hf y => ?_
  idx_vars y
  have he : ((cfg0.win 17).blk t).view.emb (ix2 y0 y1) = ix2 y0 y1 := by
    blk_ext [idxO t]
  have hf' := (flush0_17 t).mp hf
  have ht : t.val < 16 := t.isLt
  blk_simp
  refine Eq.trans ?_ (congrArg (resDv m c) he).symm
  rw [after0_17, Pipeline.eq_sum_fin_of_reset_step_apply_of_flush (fun n h => (outsAt0 m c n h).2.2.2.1) 16 (fun _ => 0) (term17 m c)
    (fun t h j => first17 m c t h j) (fun t h j => step17 m c t h j) t hf' _]
  change (0 : EReal) + _ = _
  rw [zero_add]
  exact sum_rows (fun s => Xattn.dv (argGq m c) (hQ m c s (headOf y1)) (hO m c s (headOf y1)) (hK m c (headOf y1)) y0 (inHead y1))
    (fun s => ⟨16 * (t.val / 16) + s.val, by have := s.isLt; have hN : cfg0.N = 16 := rfl; omega⟩) fun s => by
      change 16 * (t.val / 16) + s.val = s.val
      omega

end Cert.XattnIdeal.Point
end
-- ==== Proof.XattnRows.lean ====
module

public import proofs.«01_k».proof.Proof.XattnSums

@[expose] public section

set_option maxRecDepth 16384

noncomputable section

/-! The results accumulated in a first row: what each point adds, and the arrays after the run. -/

namespace Cert.XattnIdeal.Point

open Cert.XattnIdeal Cert.XattnIdeal.Gen Idealize.ShloMosaic Idealize.ShloMosaic.TcCoe Idealize.SL.Sem
open Idealize.ShloMosaic.Pipeline (Dat)

variable (m : (ℓ : Loc nD τ sig) → Buf (Elt Ideal) ℓ)

/-- What the rows of one point add to an entry of the gradient of the residual stream's norm's scale. -/
def term19 (c : Dev nD) (t : Fin cfg0.N) (j : S8x1024.Idx) : EReal :=
  if (j 0).val = 0 then ∑ r : Fin 512, RowNorm.scaleGrad 0x44800000#32 (argX m c (row t r)) (rowDh m c (row t r)) (j 1) else 0

theorem first19 (c : Dev nD) (t : Fin cfg0.N) (h : t.val % 16 = 0) (y : S8x1024.Idx) :
    (outsAt0 m c t.val t.isLt).2.2.2.2.2.1 y = 0 + term19 m c t y := by
  idx_vars y
  rw [outsAt0_A m c t h]
  frame_open
  simp (disch := decide) only [↓ View.readCov_skip, ↓ View.readCov_cons_toLoadRect, ↓ View.readCov_fill]
  frame_out
  refine FirstRow.first_form _ _ _ _ pay4_apply y0 y1 (∑ r : Fin 512, RowNorm.scaleGrad 0x44800000#32 (argX m c (row t r)) (rowDh m c (row t r)) (y1)) ?_
  refine (dg_row m c t (dqBack m c t _ _) (dq_back m c t _ _) _ y1).trans (Ideal.add_congr ?_ rfl)
  pointwise [k0_pay4]

theorem step19 (c : Dev nD) (t : Fin cfg0.N) (h : ¬ t.val % 16 = 0) (y : S8x1024.Idx) :
    (outsAt0 m c t.val t.isLt).2.2.2.2.2.1 y = (outsAt0 m c (t.val - 1) (Nat.lt_of_le_of_lt (Nat.sub_le _ _) t.isLt)).2.2.2.2.2.1 y + term19 m c t y := by
  idx_vars y
  rw [outsAt0_B m c t h]
  frame_open
  simp (disch := decide) only [↓ View.readCov_skip, ↓ View.readCov_cons_toLoadRect, ↓ View.readCov_fill]
  frame_out
  refine FirstRow.step_form _ _ _ _ (Memref.IsWhole.read_unread _ _) _ y0 y1 (∑ r : Fin 512, RowNorm.scaleGrad 0x44800000#32 (argX m c (row t r)) (rowDh m c (row t r)) (y1)) ?_
  refine (dg_row m c t (dqBack m c t _ _) (dq_back m c t _ _) _ y1).trans (Ideal.add_congr ?_ rfl)
  pointwise
  blk_ext

/-- The gradient of the residual stream's norm's scale. -/
theorem final19 (c : Dev nD) : (dats m 0 c).arrAt 19 (cfgs 0).N = resDg m c := by
  refine (dats m 0 c).arrAt_eq_of_covers 19 _ (by decide +kernel) fun t hf y => ?_
  idx_vars y
  have he : ((cfg0.win 19).blk t).view.emb (ix2 y0 y1) = ix2 y0 y1 := by
    blk_ext [idxO t]
  have hf' := (flush0_19 t).mp hf
  have ht : t.val < 16 := t.isLt
  blk_simp
  refine Eq.trans ?_ (congrArg (resDg m c) he).symm
  rw [after0_19, Pipeline.eq_sum_fin_of_reset_step_apply_of_flush (fun n h => (outsAt0 m c n h).2.2.2.2.2.1) 16 (fun _ => 0) (term19 m c)
    (fun t h j => first19 m c t h j) (fun t h j => step19 m c t h j) t hf' _]
  change (0 : EReal) + _ = _
  rw [zero_add]
  exact sum_first (fun s => RowNorm.scaleGrad 0x44800000#32 (argX m c s) (rowDh m c s) (y1))
    (fun s => ⟨16 * (t.val / 16) + s.val, by have := s.isLt; have hN : cfg0.N = 16 := rfl; omega⟩) (fun s => by
      change 16 * (t.val / 16) + s.val = s.val
      omega) _

/-- What the rows of one point add to an entry of the gradient of the queries' norm's scale. -/
def term18 (c : Dev nD) (t : Fin cfg0.N) (j : S8x256.Idx) : EReal :=
  if (j 0).val = 0 then ∑ r : Fin 512, rowGq m c (row t r) (j 1) else 0

/-- The four heads' parts over what was there. -/
theorem heads_gq (c : Dev nD) (t : Fin cfg0.N) (d : Fin 256) (x x0 : EReal) (hx : x = x0) :
    x + (∑ r : Fin 512, Xattn.dgq (argGq m c) (hQ m c (row t r) 0) (hO m c (row t r) 0) (hK m c 0) (hV m c 0) d)
      + (∑ r : Fin 512, Xattn.dgq (argGq m c) (hQ m c (row t r) 1) (hO m c (row t r) 1) (hK m c 1) (hV m c 1) d)
      + (∑ r : Fin 512, Xattn.dgq (argGq m c) (hQ m c (row t r) 2) (hO m c (row t r) 2) (hK m c 2) (hV m c 2) d)
      + (∑ r : Fin 512, Xattn.dgq (argGq m c) (hQ m c (row t r) 3) (hO m c (row t r) 3) (hK m c 3) (hV m c 3) d)
      = x0 + ∑ r : Fin 512, rowGq m c (row t r) d := by
  unfold rowGq
  simp only [Fin.sum_univ_four, Finset.sum_add_distrib, hx, add_assoc]

theorem first18 (c : Dev nD) (t : Fin cfg0.N) (h : t.val % 16 = 0) (y : S8x256.Idx) :
    (outsAt0 m c t.val t.isLt).2.2.2.2.1 y = 0 + term18 m c t y := by
  idx_vars y
  rw [outsAt0_A m c t h]
  frame_open
  simp (disch := decide) only [↓ View.readCov_skip, ↓ View.readCov_cons_toLoadRect, ↓ View.readCov_fill]
  frame_out
  refine FirstRow.canon_piece 0 256 _ _ _ y0 y1 _ (fun d h0 e => ?_) fun n => ?_
  · have e1 : y1 = d := Fin.ext (by omega)
    have e0 : y0 = 0 := Fin.ext h0
    subst e1 e0
    refine Eq.trans ?_ (Ideal.add_congr rfl (if_pos (show ((0 : Fin 8) : ℕ) = 0 from rfl)).symm)
    rw [dgq3, dgq2, dgq1]
    refine (headDgq_ld m c t 3 rfl _ (out3 m c t) _ _ _ y1).trans ?_
    refine (Ideal.add_congr (headDgq_ld m c t 2 rfl _ (out2 m c t) _ _ _ y1) rfl).trans ?_
    refine (Ideal.add_congr (Ideal.add_congr (headDgq_ld m c t 1 rfl _ (out1 m c t) _ _ _ y1) rfl) rfl).trans ?_
    refine (Ideal.add_congr (Ideal.add_congr (Ideal.add_congr (headDgq_ld m c t 0 rfl _ (out0 m c t) _ _ _ y1) rfl) rfl) rfl).trans ?_
    refine heads_gq m c t y1 _ _ ?_
    pointwise [k0_pay3]
  · have h0 : ¬ y0.val = 0 := fun e => n ⟨e, Nat.zero_le _, by have := y1.isLt; omega⟩
    refine FirstRow.canon_piece 0 256 _ _ _ y0 y1 _ (fun d e _ => absurd e h0) fun _ => ?_
    refine FirstRow.canon_piece 0 256 _ _ _ y0 y1 _ (fun d e _ => absurd e h0) fun _ => ?_
    refine FirstRow.canon_piece 0 256 _ _ _ y0 y1 _ (fun d e _ => absurd e h0) fun _ => ?_
    refine (FirstRow.canon_base _ _ y0 y1).trans ((pay3_apply _).trans ?_)
    exact ((zero_add _).trans (if_neg h0)).symm

theorem step18 (c : Dev nD) (t : Fin cfg0.N) (h : ¬ t.val % 16 = 0) (y : S8x256.Idx) :
    (outsAt0 m c t.val t.isLt).2.2.2.2.1 y = (outsAt0 m c (t.val - 1) (Nat.lt_of_le_of_lt (Nat.sub_le _ _) t.isLt)).2.2.2.2.1 y + term18 m c t y := by
  idx_vars y
  rw [outsAt0_B m c t h]
  frame_open
  simp (disch := decide) only [↓ View.readCov_skip, ↓ View.readCov_cons_toLoadRect, ↓ View.readCov_fill]
  frame_out
  refine FirstRow.writes_piece _ 0 256 _ _ _ _ y0 y1 _ (fun d h0 e => ?_) fun n => ?_
  · have e1 : y1 = d := Fin.ext (by omega)
    have e0 : y0 = 0 := Fin.ext h0
    subst e1 e0
    refine Eq.trans ?_ (Ideal.add_congr rfl (if_pos (show ((0 : Fin 8) : ℕ) = 0 from rfl)).symm)
    rw [dgq3, dgq2, dgq1]
    refine (headDgq_ld m c t 3 rfl _ (out3 m c t) _ _ _ y1).trans ?_
    refine (Ideal.add_congr (headDgq_ld m c t 2 rfl _ (out2 m c t) _ _ _ y1) rfl).trans ?_
    refine (Ideal.add_congr (Ideal.add_congr (headDgq_ld m c t 1 rfl _ (out1 m c t) _ _ _ y1) rfl) rfl).trans ?_
    refine (Ideal.add_congr (Ideal.add_congr (Ideal.add_congr (headDgq_ld m c t 0 rfl _ (out0 m c t) _ _ _ y1) rfl) rfl) rfl).trans ?_
    refine heads_gq m c t y1 _ _ ?_
    pointwise
    blk_ext
  · have h0 : ¬ y0.val = 0 := fun e => n ⟨e, Nat.zero_le _, by have := y1.isLt; omega⟩
    refine FirstRow.writes_piece _ 0 256 _ _ _ _ y0 y1 _ (fun d e _ => absurd e h0) fun _ => ?_
    refine FirstRow.writes_piece _ 0 256 _ _ _ _ y0 y1 _ (fun d e _ => absurd e h0) fun _ => ?_
    refine FirstRow.writes_piece _ 0 256 _ _ _ _ y0 y1 _ (fun d e _ => absurd e h0) fun _ => ?_
    rw [View.writes_nil, Memref.IsWhole.read_unread]
    exact ((congrArg _ (if_neg h0)).trans (add_zero _)).symm

/-- The gradient of the queries' norm's scale. -/
theorem final18 (c : Dev nD) : (dats m 0 c).arrAt 18 (cfgs 0).N = resGq m c := by
  refine (dats m 0 c).arrAt_eq_of_covers 18 _ (by decide +kernel) fun t hf y => ?_
  idx_vars y
  have he : ((cfg0.win 18).blk t).view.emb (ix2 y0 y1) = ix2 y0 y1 := by
    blk_ext [idxO t]
  have hf' := (flush0_18 t).mp hf
  have ht : t.val < 16 := t.isLt
  blk_simp
  refine Eq.trans ?_ (congrArg (resGq m c) he).symm
  rw [after0_18, Pipeline.eq_sum_fin_of_reset_step_apply_of_flush (fun n h => (outsAt0 m c n h).2.2.2.2.1) 16 (fun _ => 0) (term18 m c)
    (fun t h j => first18 m c t h j) (fun t h j => step18 m c t h j) t hf' _]
  change (0 : EReal) + _ = _
  rw [zero_add]
  exact sum_first (fun s => rowGq m c s y1)
    (fun s => ⟨16 * (t.val / 16) + s.val, by have := s.isLt; have hN : cfg0.N = 16 := rfl; omega⟩) (fun s => by
      change 16 * (t.val / 16) + s.val = s.val
      omega) _

/-- What the rows of one point add to an entry of the gradients of the mixer's two norms' scales. -/
def term22 (c : Dev nD) (t : Fin cfg0.N) (j : S8x1024.Idx) : EReal :=
  if (j 0).val = 0 then ∑ r : Fin 512, rowGy m c (row t r) (j 1) else 0

theorem first22 (c : Dev nD) (t : Fin cfg0.N) (h : t.val % 16 = 0) (y : S8x1024.Idx) :
    (outsAt0 m c t.val t.isLt).2.2.2.2.2.2.2.2 y = 0 + term22 m c t y := by
  idx_vars y
  rw [outsAt0_A m c t h]
  frame_open
  simp (disch := decide) only [↓ View.readCov_skip, ↓ View.readCov_cons_toLoadRect, ↓ View.readCov_fill]
  frame_out
  refine FirstRow.canon_piece 512 512 _ _ _ y0 y1 _ (fun d h0 e => ?_) fun n1 => ?_
  · have e0 : y0 = 0 := Fin.ext h0
    subst e0
    refine Eq.trans ?_ (Ideal.add_congr rfl (if_pos (show ((0 : Fin 8) : ℕ) = 0 from rfl)).symm)
    refine (gHi_row m c t (dqBack m c t _ _) (dq_back m c t _ _) _ d y1 e).trans (Ideal.add_congr ?_ rfl)
    pointwise [k0_pay5]
  refine FirstRow.canon_piece 0 512 _ _ _ y0 y1 _ (fun d h0 e => ?_) fun n2 => ?_
  · have e0 : y0 = 0 := Fin.ext h0
    subst e0
    refine Eq.trans ?_ (Ideal.add_congr rfl (if_pos (show ((0 : Fin 8) : ℕ) = 0 from rfl)).symm)
    refine (gLo_row m c t (dqBack m c t _ _) (dq_back m c t _ _) _ d y1 e).trans (Ideal.add_congr ?_ rfl)
    pointwise [k0_pay5]
  · have h0 : ¬ y0.val = 0 := fun e => by have := y1.isLt; omega
    refine (FirstRow.canon_base _ _ y0 y1).trans ((pay5_apply _).trans ?_)
    exact ((zero_add _).trans (if_neg h0)).symm

theorem step22 (c : Dev nD) (t : Fin cfg0.N) (h : ¬ t.val % 16 = 0) (y : S8x1024.Idx) :
    (outsAt0 m c t.val t.isLt).2.2.2.2.2.2.2.2 y = (outsAt0 m c (t.val - 1) (Nat.lt_of_le_of_lt (Nat.sub_le _ _) t.isLt)).2.2.2.2.2.2.2.2 y + term22 m c t y := by
  idx_vars y
  rw [outsAt0_B m c t h]
  frame_open
  simp (disch := decide) only [↓ View.readCov_skip, ↓ View.readCov_cons_toLoadRect, ↓ View.readCov_fill]
  frame_out
  refine FirstRow.writes_piece _ 512 512 _ _ _ _ y0 y1 _ (fun d h0 e => ?_) fun n1 => ?_
  · have e0 : y0 = 0 := Fin.ext h0
    subst e0
    refine Eq.trans ?_ (Ideal.add_congr rfl (if_pos (show ((0 : Fin 8) : ℕ) = 0 from rfl)).symm)
    refine (gHi_row m c t (dqBack m c t _ _) (dq_back m c t _ _) _ d y1 e).trans (Ideal.add_congr ?_ rfl)
    pointwise
    blk_ext
  refine FirstRow.writes_piece _ 0 512 _ _ _ _ y0 y1 _ (fun d h0 e => ?_) fun n2 => ?_
  · have e0 : y0 = 0 := Fin.ext h0
    subst e0
    refine Eq.trans ?_ (Ideal.add_congr rfl (if_pos (show ((0 : Fin 8) : ℕ) = 0 from rfl)).symm)
    refine (gLo_row m c t (dqBack m c t _ _) (dq_back m c t _ _) _ d y1 e).trans (Ideal.add_congr ?_ rfl)
    pointwise
    blk_ext
  · have h0 : ¬ y0.val = 0 := fun e => by have := y1.isLt; omega
    rw [View.writes_nil, Memref.IsWhole.read_unread]
    exact ((congrArg _ (if_neg h0)).trans (add_zero _)).symm

/-- The gradients of the mixer's two norms' scales. -/
theorem final22 (c : Dev nD) : (dats m 0 c).arrAt 22 (cfgs 0).N = resGy m c := by
  refine (dats m 0 c).arrAt_eq_of_covers 22 _ (by decide +kernel) fun t hf y => ?_
  idx_vars y
  have he : ((cfg0.win 22).blk t).view.emb (ix2 y0 y1) = ix2 y0 y1 := by
    blk_ext [idxO t]
  have hf' := (flush0_22 t).mp hf
  have ht : t.val < 16 := t.isLt
  blk_simp
  refine Eq.trans ?_ (congrArg (resGy m c) he).symm
  rw [after0_22, Pipeline.eq_sum_fin_of_reset_step_apply_of_flush (fun n h => (outsAt0 m c n h).2.2.2.2.2.2.2.2) 16 (fun _ => 0) (term22 m c)
    (fun t h j => first22 m c t h j) (fun t h j => step22 m c t h j) t hf' _]
  change (0 : EReal) + _ = _
  rw [zero_add]
  exact sum_first (fun s => rowGy m c s y1)
    (fun s => ⟨16 * (t.val / 16) + s.val, by have := s.isLt; have hN : cfg0.N = 16 := rfl; omega⟩) (fun s => by
      change 16 * (t.val / 16) + s.val = s.val
      omega) _

end Cert.XattnIdeal.Point
end
-- ==== Proof.XattnReal.lean ====
module

public import proofs.«01_k».proof.Proof.XattnSpec
public import proofs.«01_k».proof.Proof.GateReal

@[expose] public section

noncomputable section

/-! The attention weights and the gradient of the scores over the reals: the chain rule's form and the kernel's agree. -/

namespace Cert.Xattn

open Idealize.ShloMosaic

/-- A sum of reals among the extended reals. -/
theorem coe_total {ι : Type} [Fintype ι] (a : ι → ℝ) : ∑ i, (a i : EReal) = ((∑ i, a i : ℝ) : EReal) :=
  (map_sum (⟨⟨Real.toEReal, EReal.coe_zero⟩, EReal.coe_add⟩ : ℝ →+ EReal) a Finset.univ).symm

theorem const_256 : Ideal.ofBits .f32 0x43800000#32 = ((256 : ℝ) : EReal) := by
  simp [Ideal.ofBits, Ideal.ieee, -EReal.coe_mul]
  norm_num

theorem const_512 : Ideal.ofBits .f32 0x44000000#32 = ((512 : ℝ) : EReal) := by
  simp [Ideal.ofBits, Ideal.ieee, -EReal.coe_mul]
  norm_num

theorem const_scale : scale = ((1 / 16 : ℝ) : EReal) := by
  simp [scale, Ideal.ofBits, Ideal.ieee, -EReal.coe_mul]
  norm_num

theorem const_bot : Ideal.ofBits .f32 0xFF800000#32 = ⊥ := by
  simp [Ideal.ofBits, Ideal.ieee]

/-- The normed query is real where the norm's scale is: an infinite query has an infinite mean square, and its norm is zero. -/
theorem qn_real (g q : Vec1) (hg : ∀ d, ∃ r : ℝ, g d = r) (d : Fin 256) : ∃ r : ℝ, qn g q d = r := by
  obtain ⟨b, hb⟩ := hg d
  unfold qn RowNorm.rstd
  rcases RowNorm.meanSq_cases _ 256 (by norm_num) const_256 q with ht | ⟨hx, p, hp, hm⟩
  · exact ⟨0, by rw [ht, Ideal.rsqrt_top, mul_zero, zero_mul]; rfl⟩
  · obtain ⟨a, ha⟩ := hx d
    refine ⟨a * (Real.sqrt p)⁻¹ * b, ?_⟩
    rw [hm, Ideal.rsqrt_coe, if_neg hp.not_gt, if_neg hp.ne', ha, hb, ← EReal.coe_mul, ← EReal.coe_mul]

/-- Real keys and a real scale of the queries' norm give real scores. -/
theorem score_real (g q : Vec1) (K : Mat) (hg : ∀ d, ∃ r : ℝ, g d = r) (hK : ∀ j d, ∃ r : ℝ, K j d = r) (j : Fin 256) :
    ∃ r : ℝ, score g q K j = r := by
  obtain ⟨x, hx⟩ := GateSpec.sum_real (fun d => qn g q d * K j d) fun d => by
    obtain ⟨a, ha⟩ := qn_real g q hg d
    obtain ⟨k, hk⟩ := hK j d
    exact ⟨a * k, by rw [ha, hk, ← EReal.coe_mul]⟩
  exact ⟨x * (1 / 16), by rw [score, hx, const_scale, ← EReal.coe_mul]⟩

/-- The largest of real scores is a real number. -/
theorem peak_real (s : Vec1) (hs : ∀ j, ∃ r : ℝ, s j = r) : ∃ r : ℝ, peak s = r := by
  refine ⟨(peak s).toReal, (EReal.coe_toReal (ne_of_lt ?_) (ne_of_gt ?_)).symm⟩
  · refine (Finset.fold_max_lt _).mpr ⟨by rw [const_bot]; exact bot_lt_top, fun j _ => ?_⟩
    obtain ⟨r, hr⟩ := hs j
    rw [hr]
    exact EReal.coe_lt_top r
  · obtain ⟨r, hr⟩ := hs 0
    refine (Finset.lt_fold_max _).mpr (Or.inr ⟨0, Finset.mem_univ _, ?_⟩)
    rw [hr]
    exact EReal.bot_lt_coe r

/-- The exponentials of real scores are positive real numbers. -/
theorem expo_real (s : Vec1) (hs : ∀ j, ∃ r : ℝ, s j = r) : ∃ a : Fin 256 → ℝ, (∀ j, 0 < a j) ∧ ∀ j, expo s j = (a j : EReal) := by
  obtain ⟨p, hp⟩ := peak_real s hs
  choose r hr using hs
  refine ⟨fun j => Real.exp (r j - p), fun j => Real.exp_pos _, fun j => ?_⟩
  rw [expo, hp, hr, ← EReal.coe_sub, Ideal.exp_coe]

/-- The sum of the exponentials of real scores is a positive real number. -/
theorem total_real (a : Fin 256 → ℝ) (ha : ∀ j, 0 < a j) : 0 < ∑ j, a j :=
  Finset.sum_pos (fun j _ => ha j) ⟨0, Finset.mem_univ _⟩

/-- The weights as the quotient of the reference. -/
theorem prob_eq (s : Vec1) (hs : ∀ j, ∃ r : ℝ, s j = r) (j : Fin 256) :
    Ideal.div (expo s j) (∑ i, expo s i) = prob s j := by
  obtain ⟨a, ha, he⟩ := expo_real s hs
  have hS := total_real a ha
  unfold prob
  simp only [he]
  rw [coe_total, GateSpec.const_one, Ideal.div_coe hS.ne', Ideal.div_coe hS.ne', EReal.coe_one, one_mul]

/-- The gradient of the scores as the chain rule writes it. -/
def dsoftChain (s dp : Vec1) (j : Fin 256) : EReal :=
  (Ideal.div (dp j) (∑ i, expo s i)
      + -(∑ i, dp i * Ideal.div (Ideal.ofBits .f32 0x3F800000#32) ((∑ k, expo s k) * (∑ k, expo s k)) * expo s i)) * expo s j * scale

/-- A nonnegative real factor may be taken out of a sum. -/
theorem sum_mul_coe {ι : Type} (u : Finset ι) (f : ι → EReal) (c : ℝ) (hc : 0 ≤ c) :
    ∑ i ∈ u, f i * (c : EReal) = (∑ i ∈ u, f i) * (c : EReal) := by
  classical
  induction u using Finset.induction_on with
  | empty => simp
  | insert i u hi ih =>
    rw [Finset.sum_insert hi, Finset.sum_insert hi, ih,
      EReal.right_distrib_of_nonneg_of_ne_top (EReal.coe_nonneg.mpr hc) (EReal.coe_ne_top c)]

/-- The two forms of the gradient of the scores agree. -/
theorem dsoft_eq (s dp : Vec1) (hs : ∀ j, ∃ r : ℝ, s j = r) (j : Fin 256) : dsoftChain s dp j = dsoft (prob s) dp j := by
  obtain ⟨a, ha, he⟩ := expo_real s hs
  have hS := total_real a ha
  unfold dsoftChain dsoft prob
  simp only [he]
  rw [coe_total, GateSpec.const_one, ← EReal.coe_mul (∑ i, a i), Ideal.div_coe (mul_pos hS hS).ne', Ideal.div_coe hS.ne',
    Ideal.div_coe hS.ne']
  generalize ∑ i, a i = S at hS
  simp only [EReal.coe_one, one_mul]
  have h1 : ∑ i, dp i * ((1 / (S * S) : ℝ) : EReal) * (a i : EReal)
      = (∑ i, dp i * ((a i : EReal) * ((1 / S : ℝ) : EReal))) * ((1 / S : ℝ) : EReal) := by
    rw [← sum_mul_coe _ _ _ (by positivity)]
    refine Finset.sum_congr rfl fun i _ => ?_
    rw [mul_assoc, mul_assoc, ← EReal.coe_mul, ← EReal.coe_mul, ← EReal.coe_mul]
    refine congrArg (fun b : ℝ => dp i * (b : EReal)) ?_
    field_simp
  rw [h1]
  generalize ∑ i, dp i * ((a i : EReal) * ((1 / S : ℝ) : EReal)) = D
  rw [← EReal.neg_mul, ← EReal.right_distrib_of_nonneg_of_ne_top (EReal.coe_nonneg.mpr (by positivity)) (EReal.coe_ne_top _), ← sub_eq_add_neg,
    mul_comm (a j : EReal), mul_comm _ (dp j - D), ← mul_assoc]

end Cert.Xattn

end
-- ==== Proof.XattnRef.lean ====
module

public import proofs.«01_k».proof.Proof.XattnBlocks
public import proofs.«01_k».proof.Proof.XattnReal
public import proofs.«01_k».proof.Proof.Gen.XattnRefIdeal.Read

@[expose] public section

set_option maxRecDepth 16384

noncomputable section

/-! The reference's attention gradients per head and row, in the kernel's form. -/

namespace Cert.XattnRefIdeal.Point

open Cert.XattnRefIdeal Cert.XattnRefIdeal.Read Idealize.ShloMosaic Idealize.ShloMosaic.TcCoe Idealize.SL.Sem
open Cert.XattnIdeal.Point (col headOf inHead)

variable (x0 : Vec Ideal S8192x1024 .f32) (x1 : Vec Ideal S1x1024x1024 .bf16) (x2 : Vec Ideal S8192x1024 .f32)
  (x3 x4 : Vec Ideal S256x1024 .bf16) (x5 : Vec Ideal S1x256 .f32)

/-- The scale of the queries' norm. -/
abbrev gq : Xattn.Vec1 := fun d => x5 (ix2 0 d)
/-- A head's queries. -/
abbrev hq (s : Fin 8192) (h : Fin 4) : Xattn.Vec1 := fun d => x2 (ix2 s (col h d))
/-- A head's keys or values. -/
abbrev hm (h : Fin 4) : Xattn.Mat := fun j d => x3 (ix2 j (col h d))
/-- The gradient of a head's outputs. -/
abbrev ho (s : Fin 8192) (h : Fin 4) : Xattn.Vec1 := fun d => ∑ k, x0 (ix2 s k) * x1 (ix3 0 (col h d) k)
/-- A head's scores. -/
abbrev hs (s : Fin 8192) (h : Fin 4) : Xattn.Vec1 := Xattn.score (gq x5) (hq x2 s h) (hm x3 h)

theorem col_eq (h : Fin 4) (d : Fin 256) (p) : (⟨h.val * 256 + d.val, p⟩ : Fin 1024) = col h d := by
  refine Fin.ext ?_
  change h.val * 256 + d.val = 256 * h.val + d.val
  omega

theorem ref2 (s : Fin 8192) (h : Fin 4) (d : Fin 256) : val_main_v2 (F := Ideal) x2 (ix3 s h d) = hq x2 s h d := by
  rw [val_main_v2_apply]
  blk_ext [idx_main_v2, col]

theorem ref10 (s : Fin 8192) (h : Fin 4) : val_main_v10 (F := Ideal) x2 (ix3 s h 0) = RowNorm.rstd 0x43800000#32 (hq x2 s h) := by
  pointwise [val_main_v10, val_main_v9, val_main_v8, val_main_v7, val_main_v6, val_main_v5, val_main_v4, val_main_v3, val_main_cst,
    val_main_cst_0, val_main_cst_1, RowNorm.rstd, RowNorm.meanSq]
  simp only [ref2]

theorem ref13 (s : Fin 8192) (h : Fin 4) : val_main_v13 (F := Ideal) x2 (ix3 s h 0) = RowNorm.meanFactor 0x43800000#32 (hq x2 s h) := by
  rw [RowNorm.meanFactor, ← ref10]
  pointwise [val_main_v13, val_main_v12, val_main_v11, val_main_cst_2, val_main_v9, val_main_v8, val_main_v7, val_main_v6, val_main_v5,
    val_main_v4, val_main_v3, val_main_cst, val_main_cst_0, val_main_cst_1, RowNorm.meanSq]
  simp only [ref2]

theorem ref15 (s : Fin 8192) (h : Fin 4) (d : Fin 256) :
    val_main_v15 (F := Ideal) x2 (ix3 s h d) = hq x2 s h d * RowNorm.rstd 0x43800000#32 (hq x2 s h) := by
  pointwise [val_main_v15, val_main_v14]
  rw [ref2, ref10]

theorem ref18 (s : Fin 8192) (h : Fin 4) (d : Fin 256) :
    val_main_v18 (F := Ideal) x2 x5 (ix3 s h d) = Xattn.qn (gq x5) (hq x2 s h) d := by
  pointwise [val_main_v18, val_main_v17, val_main_v16]
  rw [ref15]
  rfl

theorem ref19 (j : Fin 256) (h : Fin 4) (d : Fin 256) : val_main_v19 (F := Ideal) x3 (ix3 j h d) = hm x3 h j d := by
  pointwise [val_main_v19, val_main_v0]
  rw [col_eq]

theorem ref20 (j : Fin 256) (h : Fin 4) (d : Fin 256) : val_main_v20 (F := Ideal) x4 (ix3 j h d) = hm x4 h j d := by
  pointwise [val_main_v20, val_main_v1]
  rw [col_eq]

theorem ref23 (s : Fin 8192) (h : Fin 4) (j : Fin 256) : val_main_v23 (F := Ideal) x2 x3 x5 (ix3 h s j) = hs x2 x3 x5 s h j := by
  pointwise [val_main_v23, val_main_v22, val_main_v21, val_main_cst_3]
  simp only [ref18, ref19]
  rfl

theorem cst4 : val_main_cst_4 (F := Ideal) (Shape.Idx.first Gen.h_S_) = Ideal.ofBits .f32 0xFF800000#32 := rfl

theorem fold24 (s : Fin 8192) (h : Fin 4) :
    val_main_v24 (F := Ideal) x2 x3 x5 (ix2 h s)
      = Finset.univ.fold max (val_main_cst_4 (F := Ideal) (Shape.Idx.first Gen.h_S_)) (fun j => val_main_v23 (F := Ideal) x2 x3 x5 (ix3 h s j)) := by
  pointwise [val_main_v24]

theorem ref24 (s : Fin 8192) (h : Fin 4) : val_main_v24 (F := Ideal) x2 x3 x5 (ix2 h s) = Xattn.peak (hs x2 x3 x5 s h) := by
  rw [fold24, funext (ref23 x2 x3 x5 s h), cst4, Xattn.peak]

theorem max31 (s : Fin 8192) (h : Fin 4) :
    val_main_v31 (F := Ideal) x2 x3 x5 (ix2 h s) = max (Ideal.ofBits .f32 0xFF800000#32) (val_main_v24 (F := Ideal) x2 x3 x5 (ix2 h s)) := by
  have e : val_main_v30 (F := Ideal) (ix2 h s) = Ideal.ofBits .f32 0xFF800000#32 := by
    pointwise [val_main_v30, val_main_cst_6]
  rw [val_main_v31_apply, e]
  generalize val_main_v24 (F := Ideal) x2 x3 x5 (ix2 h s) = x
  rfl

theorem ref31 (s : Fin 8192) (h : Fin 4) : val_main_v31 (F := Ideal) x2 x3 x5 (ix2 h s) = Xattn.peak (hs x2 x3 x5 s h) := by
  rw [max31, ref24, Xattn.const_bot]
  generalize Xattn.peak (hs x2 x3 x5 s h) = x
  exact max_eq_right bot_le

theorem ref44 (s : Fin 8192) (h : Fin 4) (j : Fin 256) :
    val_main_v44 (F := Ideal) x2 x3 x5 (ix3 h s j) = Xattn.expo (hs x2 x3 x5 s h) j := by
  pointwise [val_main_v44, val_main_v43, val_main_v42, val_main_v41]
  rw [ref23, ref31]
  rfl

theorem ref46 (s : Fin 8192) (h : Fin 4) :
    val_main_v46 (F := Ideal) x2 x3 x5 (ix3 h s 0) = ∑ j, Xattn.expo (hs x2 x3 x5 s h) j := by
  pointwise [val_main_v46, val_main_v45, val_main_cst_12]
  simp only [ref44]

theorem ref112 (s : Fin 8192) (h : Fin 4) (d : Fin 256) : val_main_v112 (F := Ideal) x0 x1 (ix3 h d s) = ho x0 x1 s h d := by
  pointwise [val_main_v112, val_main_v111]
  rw [col_eq]
  pointwise [val_main_v110, val_main_v56, val_main_v55]

theorem ref113 (s : Fin 8192) (h : Fin 4) (j : Fin 256) :
    val_main_v113 (F := Ideal) x0 x1 x4 (ix3 h s j) = Xattn.dprob (ho x0 x1 s h) (hm x4 h) j := by
  pointwise [val_main_v113]
  simp only [ref112, ref20]
  rfl

theorem ref129 (s : Fin 8192) (h : Fin 4) (j : Fin 256) :
    val_main_v129 (F := Ideal) x0 x1 x2 x3 x4 x5 (ix3 h s j)
      = Xattn.dsoftChain (hs x2 x3 x5 s h) (Xattn.dprob (ho x0 x1 s h) (hm x4 h)) j := by
  pointwise [val_main_v129, val_main_v128, val_main_cst_28, val_main_v127, val_main_v126, val_main_v125, val_main_v124, val_main_cst_27,
    val_main_v123, val_main_v122, val_main_v121, val_main_v120, val_main_v119, val_main_cst_26, val_main_v118, val_main_v117, val_main_v116,
    val_main_v51, val_main_v50, val_main_cst_13, val_main_v49]
  simp only [ref44, ref46, ref113]
  rw [Fin.sum_univ_one, Xattn.dsoftChain, GateSpec.const_one, EReal.coe_one]
  rfl

end Cert.XattnRefIdeal.Point
end
-- ==== Proof.XattnRefRows.lean ====
module

public import proofs.«01_k».proof.Proof.XattnRef

@[expose] public section

set_option maxRecDepth 16384

noncomputable section

/-! The reference's results by row and column, in the kernel's form. -/

namespace Cert.XattnRefIdeal.Point

open Cert.XattnRefIdeal Cert.XattnRefIdeal.Read Idealize.ShloMosaic Idealize.ShloMosaic.TcCoe Idealize.SL.Sem
open Cert.XattnIdeal.Point (col headOf inHead)

variable (x0 : Vec Ideal S8192x1024 .f32) (x1 : Vec Ideal S1x1024x1024 .bf16) (x2 : Vec Ideal S8192x1024 .f32)
  (x3 x4 : Vec Ideal S256x1024 .bf16) (x5 : Vec Ideal S1x256 .f32) (x6 : Vec Ideal S1x1024x1024 .bf16) (x7 : Vec Ideal S8192x1024 .f32)
  (x8 : Vec Ideal S1x1024 .f32) (x9 : Vec Ideal S1x1024x1024 .bf16) (x10 x11 : Vec Ideal S8192x512 .f32) (x12 x13 : Vec Ideal S1x512 .f32)

/-- All the scores are real numbers. -/
abbrev RealScores : Prop := ∀ s h j, ∃ r : ℝ, hs x2 x3 x5 s h j = r

theorem ref48 (hS : RealScores x2 x3 x5) (s : Fin 8192) (h : Fin 4) (j : Fin 256) :
    val_main_v48 (F := Ideal) x2 x3 x5 (ix3 h s j) = Xattn.prob (hs x2 x3 x5 s h) j := by
  rw [← Xattn.prob_eq _ (hS s h)]
  pointwise [val_main_v48, val_main_v47]
  rw [ref44, ref46]

theorem refDs (hS : RealScores x2 x3 x5) (s : Fin 8192) (h : Fin 4) (j : Fin 256) :
    val_main_v129 (F := Ideal) x0 x1 x2 x3 x4 x5 (ix3 h s j)
      = Xattn.dscore (gq x5) (hq x2 s h) (ho x0 x1 s h) (hm x3 h) (hm x4 h) j := by
  rw [ref129, Xattn.dsoft_eq _ _ (hS s h)]
  rfl

theorem headOf_eq (n : Fin 1024) (p) : (⟨n.val / 256, p⟩ : Fin 4) = headOf n := rfl
theorem inHead_eq (n : Fin 1024) (p) : (⟨n.val % 256, p⟩ : Fin 256) = inHead n := rfl

theorem ref134 (hS : RealScores x2 x3 x5) (j : Fin 256) (n : Fin 1024) :
    val_main_v134 (F := Ideal) x0 x1 x2 x3 x5 (ix2 j n)
      = ∑ s, Xattn.dv (gq x5) (hq x2 s (headOf n)) (ho x0 x1 s (headOf n)) (hm x3 (headOf n)) j (inHead n) := by
  pointwise [val_main_v134, val_main_v115, val_main_v114]
  simp only [headOf_eq, inHead_eq, ref48 x2 x3 x5 hS, ref112]
  exact Finset.sum_congr rfl fun s _ => mul_comm _ _

theorem ref135 (hS : RealScores x2 x3 x5) (j : Fin 256) (n : Fin 1024) :
    val_main_v135 (F := Ideal) x0 x1 x2 x3 x4 x5 (ix2 j n)
      = ∑ s, Xattn.dk (gq x5) (hq x2 s (headOf n)) (ho x0 x1 s (headOf n)) (hm x3 (headOf n)) (hm x4 (headOf n)) j (inHead n) := by
  pointwise [val_main_v135, val_main_v131, val_main_v130]
  simp only [headOf_eq, inHead_eq, refDs x0 x1 x2 x3 x4 x5 hS, ref18]
  rfl

theorem ref133 (hS : RealScores x2 x3 x5) (s : Fin 8192) (h : Fin 4) (d : Fin 256) :
    val_main_v133 (F := Ideal) x0 x1 x2 x3 x4 x5 (ix3 s h d)
      = Xattn.dqn (gq x5) (hq x2 s h) (ho x0 x1 s h) (hm x3 h) (hm x4 h) d := by
  pointwise [val_main_v133, val_main_v132]
  simp only [refDs x0 x1 x2 x3 x4 x5 hS, ref19]
  rfl

/-- A sum over the first two axes. -/
theorem sum01 {n0 n1 n2 : ℕ} (h : (⟨3, ![n0, n1, n2]⟩ : Shape).ReducesTo [0, 1] ⟨1, ![n2]⟩) (v : (⟨3, ![n0, n1, n2]⟩ : Shape).Idx → EReal)
    (c : EReal) (d : Fin n2) : Ideal.hostReduceAdd h v c (ix1 d) = c + ∑ a, ∑ b, v (ix3 a b d) := by
  refine congrArg (c + ·) ((Finset.sum_filter_eq_sum_of_fiber _ (fun k : Fin n0 × Fin n1 => ix3 k.1 k.2 d)
    (fun _ _ e => Prod.ext (congrFun e 0) (congrFun e 1)) (fun i => ?_) v).trans ?_)
  · constructor
    · intro e
      refine ⟨(i 0, i 1), ?_⟩
      funext a
      apply Fin.ext
      match a with
      | ⟨0, _⟩ => rfl
      | ⟨1, _⟩ => rfl
      | ⟨2, _⟩ => exact (congrArg Fin.val (congrFun e ⟨0, Nat.one_pos⟩)).symm
    · rintro ⟨k, rfl⟩
      funext b
      apply Fin.ext
      match b with
      | ⟨0, _⟩ => rfl
  · simp only [Fintype.sum_prod_type]

theorem ref137 (hS : RealScores x2 x3 x5) (d : Fin 256) :
    val_main_v137 (F := Ideal) x0 x1 x2 x3 x4 x5 (ix1 d)
      = ∑ s, ∑ h, Xattn.dgq (gq x5) (hq x2 s h) (ho x0 x1 s h) (hm x3 h) (hm x4 h) d := by
  have e : val_main_v137 (F := Ideal) x0 x1 x2 x3 x4 x5 (ix1 d)
      = val_main_cst_29 (F := Ideal) (Shape.Idx.first Gen.h_S_) + ∑ s, ∑ h, val_main_v136 (F := Ideal) x0 x1 x2 x3 x4 x5 (ix3 s h d) :=
    sum01 _ _ _ d
  rw [e]
  pointwise [val_main_cst_29, val_main_v136]
  simp only [ref15, ref133 x0 x1 x2 x3 x4 x5 hS]
  refine Finset.sum_congr rfl fun s _ => Finset.sum_congr rfl fun h _ => ?_
  rw [Xattn.dgq, RowNorm.scaleGrad, mul_comm, ← mul_assoc]

theorem ref141 (hS : RealScores x2 x3 x5) (d : Fin 256) :
    val_main_v141 (F := Ideal) x0 x1 x2 x3 x4 x5 (ix1 d)
      = ∑ s, ∑ h, Xattn.dgq (gq x5) (hq x2 s h) (ho x0 x1 s h) (hm x3 h) (hm x4 h) d := by
  have e : val_main_v141 (F := Ideal) x0 x1 x2 x3 x4 x5 (ix1 d)
      = val_main_cst_30 (F := Ideal) (Shape.Idx.first Gen.h_S_)
        + ∑ a : Fin 1, ∑ b : Fin 1, val_main_v138 (F := Ideal) x0 x1 x2 x3 x4 x5 (ix3 a b d) :=
    sum01 _ _ _ d
  rw [e, Fin.sum_univ_one, Fin.sum_univ_one, ← ref137 x0 x1 x2 x3 x4 x5 hS]
  pointwise [val_main_cst_30, val_main_v138]

theorem ref222 (hS : RealScores x2 x3 x5) (a : Fin 8) (d : Fin 256) :
    val_main_v222 (F := Ideal) x0 x1 x2 x3 x4 x5 (ix2 a d)
      = if a.val = 0 then ∑ s, ∑ h, Xattn.dgq (gq x5) (hq x2 s h) (ho x0 x1 s h) (hm x3 h) (hm x4 h) d else 0 := by
  rw [← ref141 x0 x1 x2 x3 x4 x5 hS]
  pointwise [val_main_v222, val_main_v221, val_main_cst_46, val_main_v142]
  by_cases h : a.val = 0
  · rw [dif_pos (show a.val < 1 by omega), if_pos h]
  · rw [dif_neg (show ¬ a.val < 1 by omega), if_neg h]

/-- A row of the queries' gradient in the reference. -/
abbrev rq (s : Fin 8192) (n : Fin 1024) : EReal :=
  Xattn.dq (gq x5) (hq x2 s (headOf n)) (ho x0 x1 s (headOf n)) (hm x3 (headOf n)) (hm x4 (headOf n)) (inHead n)

theorem ref140 (hS : RealScores x2 x3 x5) (s : Fin 8192) (h : Fin 4) (d : Fin 256) :
    val_main_v140 (F := Ideal) x0 x1 x2 x3 x4 x5 (ix3 s h d)
      = Xattn.dqn (gq x5) (hq x2 s h) (ho x0 x1 s h) (hm x3 h) (hm x4 h) d * gq x5 d := by
  pointwise [val_main_v140, val_main_v139, val_main_v16]
  rw [ref133 x0 x1 x2 x3 x4 x5 hS]

theorem ref156 (hS : RealScores x2 x3 x5) (s : Fin 8192) (h : Fin 4) (d : Fin 256) :
    val_main_v156 (F := Ideal) x0 x1 x2 x3 x4 x5 (ix3 s h d)
      = Xattn.dq (gq x5) (hq x2 s h) (ho x0 x1 s h) (hm x3 h) (hm x4 h) d := by
  rw [Xattn.dq, ← RowNorm.chainGrad_eq _ 256 (by norm_num) Xattn.const_256, RowNorm.chainGrad, ← ref13, ← ref10]
  pointwise [val_main_v156, val_main_v155, val_main_v154, val_main_v153, val_main_v152, val_main_v151, val_main_cst_33, val_main_v150,
    val_main_v149, val_main_cst_32, val_main_v148, val_main_v147, val_main_v146, val_main_v145, val_main_v144, val_main_cst_31, val_main_v143]
  simp only [Fin.sum_univ_one, ref2, ref140 x0 x1 x2 x3 x4 x5 hS]

theorem ref157 (hS : RealScores x2 x3 x5) (s : Fin 8192) (n : Fin 1024) :
    val_main_v157 (F := Ideal) x0 x1 x2 x3 x4 x5 (ix2 s n) = rq x0 x1 x2 x3 x4 x5 s n := by
  pointwise [val_main_v157]
  rw [ref156 x0 x1 x2 x3 x4 x5 hS]
  rfl

/-- A row of the gradient of the normed residual stream in the reference. -/
abbrev rh (s : Fin 8192) (n : Fin 1024) : EReal := ∑ k, rq x0 x1 x2 x3 x4 x5 s k * x6 (ix3 0 n k)

theorem ref158 (hS : RealScores x2 x3 x5) (s : Fin 8192) (n : Fin 1024) :
    val_main_v158 (F := Ideal) x0 x1 x2 x3 x4 x5 x6 (ix2 s n) = rh x0 x1 x2 x3 x4 x5 x6 s n := by
  pointwise [val_main_v158, val_main_v74, val_main_v73]
  simp only [ref157 x0 x1 x2 x3 x4 x5 hS]

theorem ref65 (s : Fin 8192) : val_main_v65 (F := Ideal) x7 (ix2 s 0) = RowNorm.rstd 0x44800000#32 fun n => x7 (ix2 s n) := by
  pointwise [val_main_v65, val_main_v64, val_main_v63, val_main_v62, val_main_v61, val_main_v60, val_main_v59, val_main_v58,
    val_main_cst_14, val_main_cst_15, val_main_cst_16, RowNorm.rstd, RowNorm.meanSq]

theorem ref68 (s : Fin 8192) : val_main_v68 (F := Ideal) x7 (ix2 s 0) = RowNorm.meanFactor 0x44800000#32 fun n => x7 (ix2 s n) := by
  rw [RowNorm.meanFactor, ← ref65]
  pointwise [val_main_v68, val_main_v67, val_main_v66, val_main_cst_17, val_main_v64, val_main_v63, val_main_v62, val_main_v61, val_main_v60,
    val_main_v59, val_main_v58, val_main_cst_14, val_main_cst_15, val_main_cst_16, RowNorm.meanSq]

theorem ref224 (hS : RealScores x2 x3 x5) (a : Fin 8) (n : Fin 1024) :
    val_main_v224 (F := Ideal) x0 x1 x2 x3 x4 x5 x6 x7 (ix2 a n)
      = if a.val = 0 then ∑ s, RowNorm.scaleGrad 0x44800000#32 (fun j => x7 (ix2 s j)) (rh x0 x1 x2 x3 x4 x5 x6 s) n else 0 := by
  unfold RowNorm.scaleGrad
  simp only [← ref65, ← ref158 x0 x1 x2 x3 x4 x5 x6 hS]
  pointwise [val_main_v224, val_main_v223, val_main_cst_47, val_main_v161, val_main_v160, val_main_cst_34, val_main_v159, val_main_v70,
    val_main_v69]
  by_cases h : a.val = 0
  · rw [dif_pos (show a.val < 1 by omega), if_pos h]
    refine Finset.sum_congr rfl fun x _ => ?_
    rw [mul_comm, ← mul_assoc]
  · rw [dif_neg (show ¬ a.val < 1 by omega), if_neg h]

/-- A row of the gradient of the residual stream in the reference. -/
abbrev rx (s : Fin 8192) (n : Fin 1024) : EReal :=
  x0 (ix2 s n) + RowNorm.normGrad 0x44800000#32 (fun j => x7 (ix2 s j)) (fun j => rh x0 x1 x2 x3 x4 x5 x6 s j * x8 (ix2 0 j)) n

theorem ref178 (hS : RealScores x2 x3 x5) (s : Fin 8192) (n : Fin 1024) :
    val_main_v178 (F := Ideal) x0 x1 x2 x3 x4 x5 x6 x7 x8 (ix2 s n) = rx x0 x1 x2 x3 x4 x5 x6 x7 x8 s n := by
  rw [rx, ← RowNorm.chainGrad_eq _ 1024 (by norm_num) UpSpec.const_1024, RowNorm.chainGrad, ← ref68, ← ref65]
  simp only [← ref158 x0 x1 x2 x3 x4 x5 x6 hS]
  pointwise [val_main_v178, val_main_v177, val_main_v176, val_main_v175, val_main_v174, val_main_v173, val_main_v172, val_main_cst_37,
    val_main_v171, val_main_v170, val_main_cst_36, val_main_v169, val_main_v168, val_main_v167, val_main_v166, val_main_v165,
    val_main_cst_35, val_main_v164, val_main_v163, val_main_v162]
  simp only [Fin.sum_univ_one]

/-- A row of the gradient of the mixer's normed outputs in the reference. -/
abbrev ry (s : Fin 8192) (n : Fin 1024) : EReal := ∑ k, rx x0 x1 x2 x3 x4 x5 x6 x7 x8 s k * x9 (ix3 0 n k)

theorem ref179 (hS : RealScores x2 x3 x5) (s : Fin 8192) (n : Fin 1024) :
    val_main_v179 (F := Ideal) x0 x1 x2 x3 x4 x5 x6 x7 x8 x9 (ix2 s n) = ry x0 x1 x2 x3 x4 x5 x6 x7 x8 x9 s n := by
  pointwise [val_main_v179, val_main_v108, val_main_v107]
  simp only [ref178 x0 x1 x2 x3 x4 x5 x6 x7 x8 hS]

/-- Its first half. -/
abbrev rlo (s : Fin 8192) (n : Fin 512) : EReal := ry x0 x1 x2 x3 x4 x5 x6 x7 x8 x9 s ⟨n.val, by omega⟩
/-- Its second half. -/
abbrev rhi (s : Fin 8192) (n : Fin 512) : EReal := ry x0 x1 x2 x3 x4 x5 x6 x7 x8 x9 s ⟨512 + n.val, by omega⟩

theorem ref180 (hS : RealScores x2 x3 x5) (s : Fin 8192) (n : Fin 512) :
    val_main_v180 (F := Ideal) x0 x1 x2 x3 x4 x5 x6 x7 x8 x9 (ix2 s n) = rlo x0 x1 x2 x3 x4 x5 x6 x7 x8 x9 s n := by
  rw [rlo, ← ref179 x0 x1 x2 x3 x4 x5 x6 x7 x8 x9 hS]
  pointwise [val_main_v180]

theorem ref181 (hS : RealScores x2 x3 x5) (s : Fin 8192) (n : Fin 512) :
    val_main_v181 (F := Ideal) x0 x1 x2 x3 x4 x5 x6 x7 x8 x9 (ix2 s n) = rhi x0 x1 x2 x3 x4 x5 x6 x7 x8 x9 s n := by
  rw [rhi, ← ref179 x0 x1 x2 x3 x4 x5 x6 x7 x8 x9 hS]
  pointwise [val_main_v181]

theorem ref83 (s : Fin 8192) : val_main_v83 (F := Ideal) x10 (ix2 s 0) = RowNorm.rstd 0x44000000#32 fun n => x10 (ix2 s n) := by
  pointwise [val_main_v83, val_main_v82, val_main_v81, val_main_v80, val_main_v79, val_main_v78, val_main_v77, val_main_v76,
    val_main_cst_18, val_main_cst_19, val_main_cst_20, RowNorm.rstd, RowNorm.meanSq]

theorem ref86 (s : Fin 8192) : val_main_v86 (F := Ideal) x10 (ix2 s 0) = RowNorm.meanFactor 0x44000000#32 fun n => x10 (ix2 s n) := by
  rw [RowNorm.meanFactor, ← ref83]
  pointwise [val_main_v86, val_main_v85, val_main_v84, val_main_cst_21, val_main_v82, val_main_v81, val_main_v80, val_main_v79, val_main_v78,
    val_main_v77, val_main_v76, val_main_cst_18, val_main_cst_19, val_main_cst_20, RowNorm.meanSq]

theorem ref98 (s : Fin 8192) : val_main_v98 (F := Ideal) x11 (ix2 s 0) = RowNorm.rstd 0x44000000#32 fun n => x11 (ix2 s n) := by
  pointwise [val_main_v98, val_main_v97, val_main_v96, val_main_v95, val_main_v94, val_main_v93, val_main_v92, val_main_v91,
    val_main_cst_22, val_main_cst_23, val_main_cst_24, RowNorm.rstd, RowNorm.meanSq]

theorem ref101 (s : Fin 8192) : val_main_v101 (F := Ideal) x11 (ix2 s 0) = RowNorm.meanFactor 0x44000000#32 fun n => x11 (ix2 s n) := by
  rw [RowNorm.meanFactor, ← ref98]
  pointwise [val_main_v101, val_main_v100, val_main_v99, val_main_cst_25, val_main_v97, val_main_v96, val_main_v95, val_main_v94, val_main_v93,
    val_main_v92, val_main_v91, val_main_cst_22, val_main_cst_23, val_main_cst_24, RowNorm.meanSq]

theorem ref219 (hS : RealScores x2 x3 x5) (s : Fin 8192) (n : Fin 512) :
    val_main_v219 (F := Ideal) x0 x1 x2 x3 x4 x5 x6 x7 x8 x9 x10 x12 (ix2 s n)
      = RowNorm.normGrad 0x44000000#32 (fun j => x10 (ix2 s j)) (fun j => rlo x0 x1 x2 x3 x4 x5 x6 x7 x8 x9 s j * x12 (ix2 0 j)) n := by
  rw [← RowNorm.chainGrad_eq _ 512 (by norm_num) Xattn.const_512, RowNorm.chainGrad, ← ref86, ← ref83]
  simp only [← ref180 x0 x1 x2 x3 x4 x5 x6 x7 x8 x9 hS]
  pointwise [val_main_v219, val_main_v218, val_main_v217, val_main_v216, val_main_v215, val_main_v214, val_main_cst_45, val_main_v213,
    val_main_v212, val_main_cst_44, val_main_v211, val_main_v210, val_main_v209, val_main_v208, val_main_v207, val_main_cst_43,
    val_main_v206, val_main_v205, val_main_v204]
  simp only [Fin.sum_univ_one]

theorem ref200 (hS : RealScores x2 x3 x5) (s : Fin 8192) (n : Fin 512) :
    val_main_v200 (F := Ideal) x0 x1 x2 x3 x4 x5 x6 x7 x8 x9 x11 x13 (ix2 s n)
      = RowNorm.normGrad 0x44000000#32 (fun j => x11 (ix2 s j)) (fun j => rhi x0 x1 x2 x3 x4 x5 x6 x7 x8 x9 s j * x13 (ix2 0 j)) n := by
  rw [← RowNorm.chainGrad_eq _ 512 (by norm_num) Xattn.const_512, RowNorm.chainGrad, ← ref101, ← ref98]
  simp only [← ref181 x0 x1 x2 x3 x4 x5 x6 x7 x8 x9 hS]
  pointwise [val_main_v200, val_main_v199, val_main_v198, val_main_v197, val_main_v196, val_main_v195, val_main_cst_41, val_main_v194,
    val_main_v193, val_main_cst_40, val_main_v192, val_main_v191, val_main_v190, val_main_v189, val_main_v188, val_main_cst_39,
    val_main_v187, val_main_v186, val_main_v185]
  simp only [Fin.sum_univ_one]

theorem ref227 (hS : RealScores x2 x3 x5) (a : Fin 8) (n : Fin 1024) :
    val_main_v227 (F := Ideal) x0 x1 x2 x3 x4 x5 x6 x7 x8 x9 x10 x11 (ix2 a n)
      = if a.val = 0 then ∑ s, (if h : n.val < 512
            then RowNorm.scaleGrad 0x44000000#32 (fun j => x10 (ix2 s j)) (rlo x0 x1 x2 x3 x4 x5 x6 x7 x8 x9 s) ⟨n.val, h⟩
            else RowNorm.scaleGrad 0x44000000#32 (fun j => x11 (ix2 s j)) (rhi x0 x1 x2 x3 x4 x5 x6 x7 x8 x9 s) ⟨n.val - 512, by omega⟩)
          else 0 := by
  unfold RowNorm.scaleGrad
  simp only [← ref83, ← ref98, ← ref180 x0 x1 x2 x3 x4 x5 x6 x7 x8 x9 hS, ← ref181 x0 x1 x2 x3 x4 x5 x6 x7 x8 x9 hS]
  pointwise [val_main_v227, val_main_v226, val_main_cst_48, val_main_v225, val_main_v203, val_main_v202, val_main_cst_42, val_main_v201,
    val_main_v88, val_main_v87, val_main_v184, val_main_v183, val_main_cst_38, val_main_v182, val_main_v103, val_main_v102]
  by_cases h : a.val = 0
  · rw [dif_pos (show a.val < 1 by omega), if_pos h]
    by_cases hn : n.val < 512
    · simp only [dif_pos hn]
      refine Finset.sum_congr rfl fun x _ => ?_
      rw [mul_comm, ← mul_assoc]
    · simp only [dif_neg hn]
      refine Finset.sum_congr rfl fun x _ => ?_
      rw [mul_comm, ← mul_assoc, ref98, ref83]
  · rw [dif_neg (show ¬ a.val < 1 by omega), if_neg h]

end Cert.XattnRefIdeal.Point
end
-- ==== Proof.XattnClaim.lean ====
module

public import proofs.«01_k».proof.Defs
public import proofs.«01_k».proof.Proof.XattnKernel
public import proofs.«01_k».proof.Proof.XattnSums
public import proofs.«01_k».proof.Proof.XattnRows
public import proofs.«01_k».proof.Proof.XattnRefRows
public import proofs.«01_k».proof.Proof.GateClaim
public import proofs.«01_k».proof.Proof.Gen.XattnRefIdeal.Run

@[expose] public section

set_option maxRecDepth 16384

/-! The attention block's gradient call and the derivative of the reference's lines compute the same arrays. -/

namespace Cert.Proof

open Idealize.ShloMosaic Idealize.ShloMosaic.TcCoe Idealize.SL.Sem
open Cert.XattnIdeal.Point Cert.XattnRefIdeal.Point

/-- Under the precondition the scores are real numbers. -/
theorem xattn_scores [hPre : Cert.Pre_finite_block.Facts] (m : (ℓ : Loc Cert.XattnIdeal.nD Cert.XattnIdeal.τ Cert.XattnIdeal.sig) → Buf (Elt Ideal) ℓ)
    (h : Cert.Pre_XattnIdeal_finite_block m) (c : Dev Cert.XattnIdeal.nD) :
    RealScores (m ((c : Thread Cert.XattnIdeal.nD Cert.XattnIdeal.τ).loc Cert.XattnIdeal.main_arg2))
      (m ((c : Thread Cert.XattnIdeal.nD Cert.XattnIdeal.τ).loc Cert.XattnIdeal.main_arg3))
      (m ((c : Thread Cert.XattnIdeal.nD Cert.XattnIdeal.τ).loc Cert.XattnIdeal.main_arg5)) := by
  obtain ⟨h3, h5⟩ := h c
  have hK : ∀ j n, ∃ r : ℝ, argK m c j n = r := fun j n => real_of_lt _ (congrFun h3 (ix2 j n))
  have hG : ∀ d, ∃ r : ℝ, argGq m c d = r := fun d => real_of_lt _ (congrFun h5 (ix2 0 d))
  exact fun s k j => Xattn.score_real _ _ _ hG (fun i d => hK i (col k d)) j

/-- The attention block's gradient call and the derivative of the reference's lines compute the same nine arrays, from real keys
and a real scale of the queries' norm. -/
theorem algebraic_xattn [hPre : Cert.Pre_finite_block.Facts] : Cert.algebraic_XattnIdeal_XattnRefIdeal_pre_finite_block := by
  intro m g m' g' hpre hagree
  refine ⟨Cert.XattnIdeal.Point.resDq m, Cert.XattnIdeal.Point.resDx m, Cert.XattnIdeal.Point.resDk m, Cert.XattnIdeal.Point.resDv m, Cert.XattnIdeal.Point.resGq m, Cert.XattnIdeal.Point.resDg m, Cert.XattnIdeal.Point.resDa m, Cert.XattnIdeal.Point.resDm m, Cert.XattnIdeal.Point.resGy m, ?_, ?_⟩
  · refine (θ_run _ _ _).mono (fun r h c => ?_) (Cert.XattnIdeal.Value.run_blocks m g)
    obtain ⟨h14, h15, h16, h17, h18, h19, h20, h21, h22, ha⟩ := h c
    exact ⟨h14.trans (final14 m c), h15.trans (final15 m c), h16.trans (final16 m c), h17.trans (final17 m c), h18.trans (final18 m c), h19.trans (final19 m c), h20.trans (final20 m c), h21.trans (final21 m c), h22.trans (final22 m c), ha⟩
  · refine (θ_run _ _ _).mono (fun r h c => ?_) (Cert.XattnRefIdeal.Value.run m' g')
    obtain ⟨h220, h178, h135, h134, h222, h224, h219, h200, h227, ha⟩ := h c
    obtain ⟨e0, e1, e2, e3, e4, e5, e6, e7, e8, e9, e10, e11, e12, e13⟩ := hagree c
    have hS := xattn_scores m hpre c
    refine ⟨h220.trans ?_, h178.trans ?_, h135.trans ?_, h134.trans ?_, h222.trans ?_, h224.trans ?_, h219.trans ?_, h200.trans ?_, h227.trans ?_, ha⟩
    · rw [Cert.XattnRefIdeal.Read.val_main_v220_eq]
      change Cert.XattnRefIdeal.Read.val_main_v220 (F := Ideal)
        (m' ((c.tc : Thread Cert.XattnRefIdeal.nD Cert.XattnRefIdeal.τ).loc Cert.XattnRefIdeal.main_arg0))
        (m' ((c.tc : Thread Cert.XattnRefIdeal.nD Cert.XattnRefIdeal.τ).loc Cert.XattnRefIdeal.main_arg1))
        (m' ((c.tc : Thread Cert.XattnRefIdeal.nD Cert.XattnRefIdeal.τ).loc Cert.XattnRefIdeal.main_arg2))
        (m' ((c.tc : Thread Cert.XattnRefIdeal.nD Cert.XattnRefIdeal.τ).loc Cert.XattnRefIdeal.main_arg3))
        (m' ((c.tc : Thread Cert.XattnRefIdeal.nD Cert.XattnRefIdeal.τ).loc Cert.XattnRefIdeal.main_arg4))
        (m' ((c.tc : Thread Cert.XattnRefIdeal.nD Cert.XattnRefIdeal.τ).loc Cert.XattnRefIdeal.main_arg5)) = _
      rw [e0, e1, e2, e3, e4, e5]
      funext j
      idx_vars j
      refine (Cert.XattnRefIdeal.Read.val_main_v220_apply ..).trans ?_
      exact ref157 _ _ _ _ _ _ hS j0 j1
    · rw [Cert.XattnRefIdeal.Read.val_main_v178_eq]
      change Cert.XattnRefIdeal.Read.val_main_v178 (F := Ideal)
        (m' ((c.tc : Thread Cert.XattnRefIdeal.nD Cert.XattnRefIdeal.τ).loc Cert.XattnRefIdeal.main_arg0))
        (m' ((c.tc : Thread Cert.XattnRefIdeal.nD Cert.XattnRefIdeal.τ).loc Cert.XattnRefIdeal.main_arg1))
        (m' ((c.tc : Thread Cert.XattnRefIdeal.nD Cert.XattnRefIdeal.τ).loc Cert.XattnRefIdeal.main_arg2))
        (m' ((c.tc : Thread Cert.XattnRefIdeal.nD Cert.XattnRefIdeal.τ).loc Cert.XattnRefIdeal.main_arg3))
        (m' ((c.tc : Thread Cert.XattnRefIdeal.nD Cert.XattnRefIdeal.τ).loc Cert.XattnRefIdeal.main_arg4))
        (m' ((c.tc : Thread Cert.XattnRefIdeal.nD Cert.XattnRefIdeal.τ).loc Cert.XattnRefIdeal.main_arg5))
        (m' ((c.tc : Thread Cert.XattnRefIdeal.nD Cert.XattnRefIdeal.τ).loc Cert.XattnRefIdeal.main_arg6))
        (m' ((c.tc : Thread Cert.XattnRefIdeal.nD Cert.XattnRefIdeal.τ).loc Cert.XattnRefIdeal.main_arg7))
        (m' ((c.tc : Thread Cert.XattnRefIdeal.nD Cert.XattnRefIdeal.τ).loc Cert.XattnRefIdeal.main_arg8)) = _
      rw [e0, e1, e2, e3, e4, e5, e6, e7, e8]
      funext j
      idx_vars j
      exact ref178 _ _ _ _ _ _ _ _ _ hS j0 j1
    · rw [Cert.XattnRefIdeal.Read.val_main_v135_eq]
      change Cert.XattnRefIdeal.Read.val_main_v135 (F := Ideal)
        (m' ((c.tc : Thread Cert.XattnRefIdeal.nD Cert.XattnRefIdeal.τ).loc Cert.XattnRefIdeal.main_arg0))
        (m' ((c.tc : Thread Cert.XattnRefIdeal.nD Cert.XattnRefIdeal.τ).loc Cert.XattnRefIdeal.main_arg1))
        (m' ((c.tc : Thread Cert.XattnRefIdeal.nD Cert.XattnRefIdeal.τ).loc Cert.XattnRefIdeal.main_arg2))
        (m' ((c.tc : Thread Cert.XattnRefIdeal.nD Cert.XattnRefIdeal.τ).loc Cert.XattnRefIdeal.main_arg3))
        (m' ((c.tc : Thread Cert.XattnRefIdeal.nD Cert.XattnRefIdeal.τ).loc Cert.XattnRefIdeal.main_arg4))
        (m' ((c.tc : Thread Cert.XattnRefIdeal.nD Cert.XattnRefIdeal.τ).loc Cert.XattnRefIdeal.main_arg5)) = _
      rw [e0, e1, e2, e3, e4, e5]
      funext j
      idx_vars j
      exact ref135 _ _ _ _ _ _ hS j0 j1
    · rw [Cert.XattnRefIdeal.Read.val_main_v134_eq]
      change Cert.XattnRefIdeal.Read.val_main_v134 (F := Ideal)
        (m' ((c.tc : Thread Cert.XattnRefIdeal.nD Cert.XattnRefIdeal.τ).loc Cert.XattnRefIdeal.main_arg0))
        (m' ((c.tc : Thread Cert.XattnRefIdeal.nD Cert.XattnRefIdeal.τ).loc Cert.XattnRefIdeal.main_arg1))
        (m' ((c.tc : Thread Cert.XattnRefIdeal.nD Cert.XattnRefIdeal.τ).loc Cert.XattnRefIdeal.main_arg2))
        (m' ((c.tc : Thread Cert.XattnRefIdeal.nD Cert.XattnRefIdeal.τ).loc Cert.XattnRefIdeal.main_arg3))
        (m' ((c.tc : Thread Cert.XattnRefIdeal.nD Cert.XattnRefIdeal.τ).loc Cert.XattnRefIdeal.main_arg5)) = _
      rw [e0, e1, e2, e3, e5]
      funext j
      idx_vars j
      exact ref134 _ _ _ _ _ hS j0 j1
    · rw [Cert.XattnRefIdeal.Read.val_main_v222_eq]
      change Cert.XattnRefIdeal.Read.val_main_v222 (F := Ideal)
        (m' ((c.tc : Thread Cert.XattnRefIdeal.nD Cert.XattnRefIdeal.τ).loc Cert.XattnRefIdeal.main_arg0))
        (m' ((c.tc : Thread Cert.XattnRefIdeal.nD Cert.XattnRefIdeal.τ).loc Cert.XattnRefIdeal.main_arg1))
        (m' ((c.tc : Thread Cert.XattnRefIdeal.nD Cert.XattnRefIdeal.τ).loc Cert.XattnRefIdeal.main_arg2))
        (m' ((c.tc : Thread Cert.XattnRefIdeal.nD Cert.XattnRefIdeal.τ).loc Cert.XattnRefIdeal.main_arg3))
        (m' ((c.tc : Thread Cert.XattnRefIdeal.nD Cert.XattnRefIdeal.τ).loc Cert.XattnRefIdeal.main_arg4))
        (m' ((c.tc : Thread Cert.XattnRefIdeal.nD Cert.XattnRefIdeal.τ).loc Cert.XattnRefIdeal.main_arg5)) = _
      rw [e0, e1, e2, e3, e4, e5]
      funext j
      idx_vars j
      exact ref222 _ _ _ _ _ _ hS j0 j1
    · rw [Cert.XattnRefIdeal.Read.val_main_v224_eq]
      change Cert.XattnRefIdeal.Read.val_main_v224 (F := Ideal)
        (m' ((c.tc : Thread Cert.XattnRefIdeal.nD Cert.XattnRefIdeal.τ).loc Cert.XattnRefIdeal.main_arg0))
        (m' ((c.tc : Thread Cert.XattnRefIdeal.nD Cert.XattnRefIdeal.τ).loc Cert.XattnRefIdeal.main_arg1))
        (m' ((c.tc : Thread Cert.XattnRefIdeal.nD Cert.XattnRefIdeal.τ).loc Cert.XattnRefIdeal.main_arg2))
        (m' ((c.tc : Thread Cert.XattnRefIdeal.nD Cert.XattnRefIdeal.τ).loc Cert.XattnRefIdeal.main_arg3))
        (m' ((c.tc : Thread Cert.XattnRefIdeal.nD Cert.XattnRefIdeal.τ).loc Cert.XattnRefIdeal.main_arg4))
        (m' ((c.tc : Thread Cert.XattnRefIdeal.nD Cert.XattnRefIdeal.τ).loc Cert.XattnRefIdeal.main_arg5))
        (m' ((c.tc : Thread Cert.XattnRefIdeal.nD Cert.XattnRefIdeal.τ).loc Cert.XattnRefIdeal.main_arg6))
        (m' ((c.tc : Thread Cert.XattnRefIdeal.nD Cert.XattnRefIdeal.τ).loc Cert.XattnRefIdeal.main_arg7)) = _
      rw [e0, e1, e2, e3, e4, e5, e6, e7]
      funext j
      idx_vars j
      exact ref224 _ _ _ _ _ _ _ _ hS j0 j1
    · rw [Cert.XattnRefIdeal.Read.val_main_v219_eq]
      change Cert.XattnRefIdeal.Read.val_main_v219 (F := Ideal)
        (m' ((c.tc : Thread Cert.XattnRefIdeal.nD Cert.XattnRefIdeal.τ).loc Cert.XattnRefIdeal.main_arg0))
        (m' ((c.tc : Thread Cert.XattnRefIdeal.nD Cert.XattnRefIdeal.τ).loc Cert.XattnRefIdeal.main_arg1))
        (m' ((c.tc : Thread Cert.XattnRefIdeal.nD Cert.XattnRefIdeal.τ).loc Cert.XattnRefIdeal.main_arg2))
        (m' ((c.tc : Thread Cert.XattnRefIdeal.nD Cert.XattnRefIdeal.τ).loc Cert.XattnRefIdeal.main_arg3))
        (m' ((c.tc : Thread Cert.XattnRefIdeal.nD Cert.XattnRefIdeal.τ).loc Cert.XattnRefIdeal.main_arg4))
        (m' ((c.tc : Thread Cert.XattnRefIdeal.nD Cert.XattnRefIdeal.τ).loc Cert.XattnRefIdeal.main_arg5))
        (m' ((c.tc : Thread Cert.XattnRefIdeal.nD Cert.XattnRefIdeal.τ).loc Cert.XattnRefIdeal.main_arg6))
        (m' ((c.tc : Thread Cert.XattnRefIdeal.nD Cert.XattnRefIdeal.τ).loc Cert.XattnRefIdeal.main_arg7))
        (m' ((c.tc : Thread Cert.XattnRefIdeal.nD Cert.XattnRefIdeal.τ).loc Cert.XattnRefIdeal.main_arg8))
        (m' ((c.tc : Thread Cert.XattnRefIdeal.nD Cert.XattnRefIdeal.τ).loc Cert.XattnRefIdeal.main_arg9))
        (m' ((c.tc : Thread Cert.XattnRefIdeal.nD Cert.XattnRefIdeal.τ).loc Cert.XattnRefIdeal.main_arg10))
        (m' ((c.tc : Thread Cert.XattnRefIdeal.nD Cert.XattnRefIdeal.τ).loc Cert.XattnRefIdeal.main_arg12)) = _
      rw [e0, e1, e2, e3, e4, e5, e6, e7, e8, e9, e10, e12]
      funext j
      idx_vars j
      exact ref219 _ _ _ _ _ _ _ _ _ _ _ _ hS j0 j1
    · rw [Cert.XattnRefIdeal.Read.val_main_v200_eq]
      change Cert.XattnRefIdeal.Read.val_main_v200 (F := Ideal)
        (m' ((c.tc : Thread Cert.XattnRefIdeal.nD Cert.XattnRefIdeal.τ).loc Cert.XattnRefIdeal.main_arg0))
        (m' ((c.tc : Thread Cert.XattnRefIdeal.nD Cert.XattnRefIdeal.τ).loc Cert.XattnRefIdeal.main_arg1))
        (m' ((c.tc : Thread Cert.XattnRefIdeal.nD Cert.XattnRefIdeal.τ).loc Cert.XattnRefIdeal.main_arg2))
        (m' ((c.tc : Thread Cert.XattnRefIdeal.nD Cert.XattnRefIdeal.τ).loc Cert.XattnRefIdeal.main_arg3))
        (m' ((c.tc : Thread Cert.XattnRefIdeal.nD Cert.XattnRefIdeal.τ).loc Cert.XattnRefIdeal.main_arg4))
        (m' ((c.tc : Thread Cert.XattnRefIdeal.nD Cert.XattnRefIdeal.τ).loc Cert.XattnRefIdeal.main_arg5))
        (m' ((c.tc : Thread Cert.XattnRefIdeal.nD Cert.XattnRefIdeal.τ).loc Cert.XattnRefIdeal.main_arg6))
        (m' ((c.tc : Thread Cert.XattnRefIdeal.nD Cert.XattnRefIdeal.τ).loc Cert.XattnRefIdeal.main_arg7))
        (m' ((c.tc : Thread Cert.XattnRefIdeal.nD Cert.XattnRefIdeal.τ).loc Cert.XattnRefIdeal.main_arg8))
        (m' ((c.tc : Thread Cert.XattnRefIdeal.nD Cert.XattnRefIdeal.τ).loc Cert.XattnRefIdeal.main_arg9))
        (m' ((c.tc : Thread Cert.XattnRefIdeal.nD Cert.XattnRefIdeal.τ).loc Cert.XattnRefIdeal.main_arg11))
        (m' ((c.tc : Thread Cert.XattnRefIdeal.nD Cert.XattnRefIdeal.τ).loc Cert.XattnRefIdeal.main_arg13)) = _
      rw [e0, e1, e2, e3, e4, e5, e6, e7, e8, e9, e11, e13]
      funext j
      idx_vars j
      exact ref200 _ _ _ _ _ _ _ _ _ _ _ _ hS j0 j1
    · rw [Cert.XattnRefIdeal.Read.val_main_v227_eq]
      change Cert.XattnRefIdeal.Read.val_main_v227 (F := Ideal)
        (m' ((c.tc : Thread Cert.XattnRefIdeal.nD Cert.XattnRefIdeal.τ).loc Cert.XattnRefIdeal.main_arg0))
        (m' ((c.tc : Thread Cert.XattnRefIdeal.nD Cert.XattnRefIdeal.τ).loc Cert.XattnRefIdeal.main_arg1))
        (m' ((c.tc : Thread Cert.XattnRefIdeal.nD Cert.XattnRefIdeal.τ).loc Cert.XattnRefIdeal.main_arg2))
        (m' ((c.tc : Thread Cert.XattnRefIdeal.nD Cert.XattnRefIdeal.τ).loc Cert.XattnRefIdeal.main_arg3))
        (m' ((c.tc : Thread Cert.XattnRefIdeal.nD Cert.XattnRefIdeal.τ).loc Cert.XattnRefIdeal.main_arg4))
        (m' ((c.tc : Thread Cert.XattnRefIdeal.nD Cert.XattnRefIdeal.τ).loc Cert.XattnRefIdeal.main_arg5))
        (m' ((c.tc : Thread Cert.XattnRefIdeal.nD Cert.XattnRefIdeal.τ).loc Cert.XattnRefIdeal.main_arg6))
        (m' ((c.tc : Thread Cert.XattnRefIdeal.nD Cert.XattnRefIdeal.τ).loc Cert.XattnRefIdeal.main_arg7))
        (m' ((c.tc : Thread Cert.XattnRefIdeal.nD Cert.XattnRefIdeal.τ).loc Cert.XattnRefIdeal.main_arg8))
        (m' ((c.tc : Thread Cert.XattnRefIdeal.nD Cert.XattnRefIdeal.τ).loc Cert.XattnRefIdeal.main_arg9))
        (m' ((c.tc : Thread Cert.XattnRefIdeal.nD Cert.XattnRefIdeal.τ).loc Cert.XattnRefIdeal.main_arg10))
        (m' ((c.tc : Thread Cert.XattnRefIdeal.nD Cert.XattnRefIdeal.τ).loc Cert.XattnRefIdeal.main_arg11)) = _
      rw [e0, e1, e2, e3, e4, e5, e6, e7, e8, e9, e10, e11]
      funext j
      idx_vars j
      exact ref227 _ _ _ _ _ _ _ _ _ _ _ _ hS j0 j1

end Cert.Proof
end
-- ==== Proof.FfnSpec.lean ====
module

public import proofs.«01_k».proof.Proof.RowNorm
public import proofs.«01_k».proof.Proof.GateSpec

@[expose] public section

noncomputable section

/-! The values of the feed-forward layer's forward pass and of the loss, over the extended reals: one
function of the argument arrays for each result. -/

namespace Cert.FfnSpec

open Idealize.ShloMosaic

/-- One entry of the normed input. -/
def normed (x : Fin 8192 → Fin 1024 → EReal) (g : Fin 1024 → EReal) (s : Fin 8192) (n : Fin 1024) : EReal :=
  x s n * RowNorm.rstd 0x44800000#32 (x s) * g n

/-- The up-projection, whose weights lie in four chunks of columns. -/
def up (h : Fin 8192 → Fin 1024 → EReal) (w : Fin 4 → Fin 1024 → Fin 1408 → EReal) (s : Fin 8192) (k : Fin 5632) : EReal :=
  ∑ n, h s n * w ⟨k.val / 1408, by omega⟩ n ⟨k.val % 1408, by omega⟩

/-- The gate's function. -/
def gelu (x : EReal) : EReal :=
  Ideal.ofBits .f32 0x3F000000#32 * x
    * (Ideal.ofBits .f32 0x3F800000#32
      + Ideal.tanh (Ideal.ofBits .f32 0x3F4C422A#32 * (x + Ideal.ofBits .f32 0x3D372713#32 * x * x * x)))

/-- The gated product. -/
def gated (c : Fin 8192 → Fin 5632 → EReal) (s : Fin 8192) (j : Fin 2816) : EReal :=
  gelu (c s ⟨j.val, by omega⟩) * c s ⟨2816 + j.val, by omega⟩

/-- The layer's result less the target. -/
def err (f : Fin 8192 → Fin 2816 → EReal) (w : Fin 2816 → Fin 1024 → EReal) (x t : Fin 8192 → Fin 1024 → EReal)
    (s : Fin 8192) (n : Fin 1024) : EReal :=
  ∑ j, f s j * w j n + x s n - t s n

/-- The sum of a row's squared errors. -/
def rowSq (e : Fin 8192 → Fin 1024 → EReal) (s : Fin 8192) : EReal := ∑ n, e s n * e s n

end Cert.FfnSpec

end
-- ==== Proof.FfnPieces.lean ====
module

public import proofs.«01_k».proof.Proof.Gen.FfnIdeal.Value
public import proofs.«01_k».proof.Proof.FfnSpec
public import Idealize.ShloMosaic.Lib.WordCmp

@[expose] public section

set_option maxRecDepth 16384

noncomputable section

/-! The stored values of one point of the grid, entry by entry. -/

namespace Cert.FfnIdeal.Point

open Cert.FfnIdeal Cert.FfnIdeal.Gen Idealize.ShloMosaic Idealize.ShloMosaic.TcCoe Idealize.SL.Sem

/-- A choice by an equation of small numbers written as words. -/
theorem select_ofNat {α : Type} (a b : ℕ) (ha : a < 2 ^ 32) (hb : b < 2 ^ 32) (x y : α) :
    Scalar.select (IntOp.cmpi .eq (BitVec.ofNat 32 a) (BitVec.ofNat 32 b)) x y = if a = b then x else y := by
  rw [WordCmp.cmpi_eq_ofNat ha hb]
  by_cases h : a = b <;> simp [Scalar.select, h]

/-- The rows of a block and, before its first, the rows `h7` and `h6`, both zero at the first block. -/
def back (z : BitVec 1) (h6 h7 : Vec Ideal S1x1408 .f32) (a : Vec Ideal S256x1408 .f32) (r e : ℕ) (l : Fin 1408) : EReal :=
  if h : e ≤ r ∧ r < 256 then a (ix2 ⟨r - e, by omega⟩ l) else Scalar.select z 0 (if r + 1 = e then h7 (ix2 0 l) else h6 (ix2 0 l))

/-- The block moved down by one row. -/
theorem pay30_apply (z : BitVec 1) (h6 h7 : Vec Ideal S1x1408 .f32) (a : Vec Ideal S256x1408 .f32) (r : Fin 256) (l : Fin 1408) :
    k0_pay30 z a h7 (ix2 r l) = back z h6 h7 a r.val 1 l := by
  pointwise [k0_pay30, k0_pay28, k0_pay29]
  unfold back
  by_cases hr : r.val < 8
  · rw [dif_pos hr, select_ofNat _ 0 (by omega) (by norm_num)]
    by_cases h0 : r.val = 0
    · rw [if_pos h0, dif_neg (by omega), if_pos (by omega)]
    · rw [if_neg h0, dif_pos (by omega)]
      exact congrArg (fun b => a (ix2 b l)) (Fin.ext (show _ = r.val - 1 by simp; omega))
  · rw [dif_neg hr, dif_pos (by omega)]
    exact congrArg (fun b => a (ix2 b l)) (Fin.ext (show _ = r.val - 1 by simp; omega))

/-- The block moved down by two rows. -/
theorem pay31_apply (z : BitVec 1) (h6 h7 : Vec Ideal S1x1408 .f32) (a : Vec Ideal S256x1408 .f32) (r : Fin 256) (l : Fin 1408) :
    k0_pay31 z a h6 h7 (ix2 r l) = back z h6 h7 a r.val 2 l := by
  pointwise [k0_pay31, k0_pay28, k0_pay29]
  unfold back
  by_cases hr : r.val < 8
  · rw [dif_pos hr, select_ofNat _ 0 (by omega) (by norm_num), select_ofNat _ 1 (by omega) (by norm_num)]
    by_cases h0 : r.val = 0
    · rw [if_pos h0, dif_neg (by omega), if_neg (by omega)]
    · rw [if_neg h0]
      by_cases h1 : r.val = 1
      · rw [if_pos h1, dif_neg (by omega), if_pos (by omega)]
      · rw [if_neg h1, dif_pos (by omega)]
        exact congrArg (fun b => a (ix2 b l)) (Fin.ext (show _ = r.val - 2 by simp; omega))
  · rw [dif_neg hr, dif_pos (by omega)]
    exact congrArg (fun b => a (ix2 b l)) (Fin.ext (show _ = r.val - 2 by simp; omega))

/-- The convolution of one block of 1408 columns, from the two rows before it, the block, the taps
2, 1 and 0 and the bias. The flag `z` tells the first block. -/
def convB (z : BitVec 1) (h6 h7 : Vec Ideal S1x1408 .f32) (a : Vec Ideal S256x1408 .f32)
    (w2 w1 w0 b : Vec Ideal S1x1408 .f32) : FVec Ideal S256x1408 .f32 :=
  k0_pay33 (k0_pay30 z a h7) (k0_pay31 z a h6 h7) (k0_pay32 a w2) w1 w0 b

/-- One entry of the convolution. -/
theorem convB_apply (z : BitVec 1) (h6 h7 : Vec Ideal S1x1408 .f32) (a : Vec Ideal S256x1408 .f32)
    (w2 w1 w0 b : Vec Ideal S1x1408 .f32) (r : Fin 256) (l : Fin 1408) :
    convB z h6 h7 a w2 w1 w0 b (ix2 r l) = w2 (ix2 0 l) * a (ix2 r l) + w1 (ix2 0 l) * back z h6 h7 a r.val 1 l
      + w0 (ix2 0 l) * back z h6 h7 a r.val 2 l + b (ix2 0 l) := by
  rw [← pay30_apply, ← pay31_apply]
  pointwise [convB, k0_pay33, k0_pay32, k0_pay28]

/-- The gated product of one block, from the two convolutions. -/
def gatedB (cg cu : FVec Ideal S256x1408 .f32) : FVec Ideal S256x1408 .bf16 := k0_pay27 cu (k0_pay25 cg) (k0_pay26 cg)

/-- One entry of the gated product. -/
theorem gatedB_apply (cg cu : FVec Ideal S256x1408 .f32) (r : Fin 256) (l : Fin 1408) :
    gatedB cg cu (ix2 r l) = FfnSpec.gelu (cg (ix2 r l)) * cu (ix2 r l) := by
  pointwise [gatedB, k0_pay27, k0_pay25, k0_pay26, FfnSpec.gelu]

/-- The first gate block's convolution is the same function of what it loads. -/
theorem pay19_eq (z : BitVec 1) (h6 h7 : Vec Ideal S1x1408 .f32) (a : Vec Ideal S256x1408 .f32) (w2 w1 w0 b : Vec Ideal S1x1408 .f32) :
    k0_pay19 (k0_pay11 a) (iota Kind.tc S8x1408 32 [0] iota_S8x1408_d0_w32) (k0_pay12 z h6) (k0_pay13 z h7) (k0_pay14 a) (k0_pay15 a)
      k0_pay16 (k0_pay17 a) (k0_pay18 z h7) w2 w1 w0 b = convB z h6 h7 a w2 w1 w0 b := rfl

/-- The first value block's convolution is the same function of what it loads. -/
theorem pay24_eq (z : BitVec 1) (h6 h7 : Vec Ideal S1x1408 .f32) (a : Vec Ideal S256x1408 .f32) (w2 w1 w0 b : Vec Ideal S1x1408 .f32) :
    k0_pay24 (k0_pay20 a) (iota Kind.tc S8x1408 32 [0] iota_S8x1408_d0_w32) (k0_pay21 z h6) (k0_pay22 z h7) (k0_pay23 a) 2#32
      w2 w1 w0 b = convB z h6 h7 a w2 w1 w0 b := rfl

/-- The second block's gated product is the same function of what it loads. -/
theorem pay39_eq (z : BitVec 1) (h6 h7 : Vec Ideal S1x1408 .f32) (a : Vec Ideal S256x1408 .f32) (w2 w1 w0 b : Vec Ideal S1x1408 .f32)
    (cg : FVec Ideal S256x1408 .f32) :
    k0_pay39 cg (k0_pay34 a) (k0_pay36 a) (k0_pay37 z a h7) (k0_pay38 z a h6 h7) w2 w1 w0 b
      = gatedB cg (convB z h6 h7 a w2 w1 w0 b) := rfl

/-- The second gate block's convolution is the same function of what it loads. -/
theorem pay33_eq (z : BitVec 1) (h6 h7 : Vec Ideal S1x1408 .f32) (a : Vec Ideal S256x1408 .f32) (w2 w1 w0 b : Vec Ideal S1x1408 .f32) :
    k0_pay33 (k0_pay30 z a h7) (k0_pay31 z a h6 h7) (k0_pay32 a w2) w1 w0 b = convB z h6 h7 a w2 w1 w0 b := rfl

/-- The first block's gated product is the same function of the two convolutions. -/
theorem pay27_eq (cg cu : FVec Ideal S256x1408 .f32) : k0_pay27 cu (k0_pay25 cg) (k0_pay26 cg) = gatedB cg cu := rfl

/-- A row of the normed input. -/
theorem pay6_apply (x : Vec Ideal S256x1024 .f32) (g : Vec Ideal S1x1024 .f32) (r : Fin 256) (n : Fin 1024) :
    k0_pay6 x g (ix2 r n) = x (ix2 r n) * RowNorm.rstd 0x44800000#32 (fun j => x (ix2 r j)) * g (ix2 0 n) := by
  pointwise [k0_pay6, RowNorm.rstd, RowNorm.meanSq]

/-- The product of a block of normed rows with one chunk of the weights. -/
theorem pay7_apply (h : Vec Ideal S256x1024 .bf16) (w : Vec Ideal S1x1024x1408 .bf16) (r : Fin 256) (l : Fin 1408) :
    k0_pay7 h w (ix2 r l) = ∑ n, h (ix2 r n) * w (ix3 0 n l) := by
  pointwise [k0_pay7]

theorem pay8_eq (h : Vec Ideal S256x1024 .bf16) (w : Vec Ideal S1x1024x1408 .bf16) : k0_pay8 h w = k0_pay7 h w := rfl
theorem pay9_eq (h : Vec Ideal S256x1024 .bf16) (w : Vec Ideal S1x1024x1408 .bf16) : k0_pay9 h w = k0_pay7 h w := rfl
theorem pay10_eq (h : Vec Ideal S256x1024 .bf16) (w : Vec Ideal S1x1024x1408 .bf16) : k0_pay10 h w = k0_pay7 h w := rfl

/-- The layer's result less the target. -/
theorem pay1_apply (x : Vec Ideal S256x1024 .f32) (f : Vec Ideal S256x2816 .bf16) (w : Vec Ideal S2816x1024 .bf16) (t : Vec Ideal S256x1024 .f32)
    (r : Fin 256) (n : Fin 1024) :
    k0_pay1 x f w t (ix2 r n) = ∑ j, f (ix2 r j) * w (ix2 j n) + x (ix2 r n) - t (ix2 r n) := by
  pointwise [k0_pay1]

/-- The loss's gradient. -/
theorem pay2_apply (x : Vec Ideal S256x1024 .f32) (f : Vec Ideal S256x2816 .bf16) (w : Vec Ideal S2816x1024 .bf16) (t : Vec Ideal S256x1024 .f32)
    (r : Fin 256) (n : Fin 1024) :
    k0_pay2 x f w t (ix2 r n) = k0_pay1 x f w t (ix2 r n) * Ideal.ofBits .f32 0x3A800000#32 := by
  pointwise [k0_pay2]

/-- The loss after a point: the point's squared errors, summed and scaled, added to what it was. -/
theorem pay3_apply (x : Vec Ideal S256x1024 .f32) (f : Vec Ideal S256x2816 .bf16) (w : Vec Ideal S2816x1024 .bf16) (t : Vec Ideal S256x1024 .f32)
    (v : Vec Ideal S8x128 .f32) (a : Fin 8) (b : Fin 128) :
    k0_pay3 x f w t v (ix2 a b)
      = v (ix2 a b) + (∑ r, ∑ n, k0_pay1 x f w t (ix2 r n) * k0_pay1 x f w t (ix2 r n)) * Ideal.ofBits .f32 0x3A000000#32 := by
  unfold k0_pay3
  generalize k0_pay1 x f w t = y
  pointwise

theorem pay4_apply (j : S8x128.Idx) : k0_pay4 (F := Ideal) j = 0 := by
  pointwise [k0_pay4]

/-- The carried rows are stored as they are read. -/
theorem pay40_apply (v : Vec Ideal S8x5632 .f32) (e : Fin 8) (k : Fin 5632) : k0_pay40 v (ix2 e k) = v (ix2 e k) := by
  pointwise [k0_pay40]

end Cert.FfnIdeal.Point
end
-- ==== Proof.FfnBlocks.lean ====
module

public import proofs.«01_k».proof.Proof.FfnPieces
public import proofs.«01_k».proof.Proof.FirstRow
public import Idealize.ShloMosaic.Lib.Pipeline.ReadBack

@[expose] public section

set_option maxRecDepth 16384

noncomputable section

/-! What one point of the grid loads, and the up-projection's rows that it stores. -/

namespace Cert.FfnIdeal.Point

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- Where each input window's block lies at each point. -/
theorem idx : ∀ t : Fin cfg0.N, win0_0.index t = ![t.val, 0] ∧ win0_1.index t = ![0, 0] ∧ win0_2.index t = ![0, 0, 0]
    ∧ win0_3.index t = ![0, 0] ∧ win0_4.index t = ![0, 0] ∧ win0_5.index t = ![0, 0] ∧ win0_6.index t = ![t.val, 0]
    ∧ (grid0.coords t 0).val = t.val ∧ t.val < 32 :=
  (by decide +kernel : ∀ t : Fin grid0.N, _)

/-- Where each output window's block lies at each point. -/
theorem idxO : ∀ t : Fin cfg0.N, win0_7.index t = ![t.val, 0] ∧ win0_8.index t = ![t.val, 0] ∧ win0_9.index t = ![t.val, 0]
    ∧ win0_10.index t = ![t.val, 0] ∧ win0_11.index t = ![0, 0] ∧ t.val < 32 :=
  (by decide +kernel : ∀ t : Fin grid0.N, _)

/-- The array's row that lies at row `r` of a point's block. -/
def row (t : Fin cfg0.N) (r : Fin 256) : Fin 8192 := ⟨256 * t.val + r.val, by have := t.isLt; have : cfg0.N = 32 := rfl; omega⟩

/-- The layer's input, by row and column. -/
def argX (c : Dev nD) (s : Fin 8192) (n : Fin 1024) : EReal := m ((c : Thread nD τ).loc main_arg0) (ix2 s n)
/-- The norm's scale. -/
def argG (c : Dev nD) (n : Fin 1024) : EReal := m ((c : Thread nD τ).loc main_arg1) (ix2 0 n)
/-- The up-projection's weights, in four chunks of columns. -/
def argU (c : Dev nD) (q : Fin 4) (n : Fin 1024) (l : Fin 1408) : EReal := m ((c : Thread nD τ).loc main_arg2) (ix3 q n l)
/-- The convolution's taps. -/
def argC (c : Dev nD) (i : Fin 3) (k : Fin 5632) : EReal := m ((c : Thread nD τ).loc main_arg3) (ix2 i k)
/-- The convolution's bias. -/
def argB (c : Dev nD) (k : Fin 5632) : EReal := m ((c : Thread nD τ).loc main_arg4) (ix2 0 k)
/-- The down-projection's weights. -/
def argD (c : Dev nD) (j : Fin 2816) (n : Fin 1024) : EReal := m ((c : Thread nD τ).loc main_arg5) (ix2 j n)
/-- The target. -/
def argT (c : Dev nD) (s : Fin 8192) (n : Fin 1024) : EReal := m ((c : Thread nD τ).loc main_arg6) (ix2 s n)

/-- The normed input. -/
def resH (c : Dev nD) : Fin 8192 → Fin 1024 → EReal := FfnSpec.normed (argX m c) (argG m c)
/-- The up-projection. -/
def resA (c : Dev nD) : Fin 8192 → Fin 5632 → EReal := FfnSpec.up (resH m c) (argU m c)
/-- The convolution. -/
def resC (c : Dev nD) : Fin 8192 → Fin 5632 → EReal := GateSpec.conv (resA m c) (argC m c) (argB m c)
/-- The gated product. -/
def resF (c : Dev nD) : Fin 8192 → Fin 2816 → EReal := FfnSpec.gated (resC m c)
/-- The layer's result less the target. -/
def resE (c : Dev nD) : Fin 8192 → Fin 1024 → EReal := FfnSpec.err (resF m c) (argD m c) (argX m c) (argT m c)

theorem blockX (c : Dev nD) (t : Fin cfg0.N) (r : Fin 256) (n : Fin 1024) : iblk m c 0 t (ix2 r n) = argX m c (row t r) n := by
  unfold argX row
  blk_point [iblk, V, idx t]

theorem blockG (c : Dev nD) (t : Fin cfg0.N) (n : Fin 1024) : iblk m c 1 t (ix2 0 n) = argG m c n := by
  unfold argG
  blk_point [iblk, V, idx t]

theorem blockU (c : Dev nD) (t : Fin cfg0.N) (q : Fin 4) (n : Fin 1024) (l : Fin 1408) : iblk m c 2 t (ix3 q n l) = argU m c q n l := by
  unfold argU
  blk_point [iblk, V, idx t]

theorem blockC (c : Dev nD) (t : Fin cfg0.N) (i : Fin 3) (k : Fin 5632) : iblk m c 3 t (ix2 i k) = argC m c i k := by
  unfold argC
  blk_point [iblk, V, idx t]

theorem blockB (c : Dev nD) (t : Fin cfg0.N) (k : Fin 5632) : iblk m c 4 t (ix2 0 k) = argB m c k := by
  unfold argB
  blk_point [iblk, V, idx t]

theorem blockD (c : Dev nD) (t : Fin cfg0.N) (j : Fin 2816) (n : Fin 1024) : iblk m c 5 t (ix2 j n) = argD m c j n := by
  unfold argD
  blk_point [iblk, V, idx t]

theorem blockT (c : Dev nD) (t : Fin cfg0.N) (r : Fin 256) (n : Fin 1024) : iblk m c 6 t (ix2 r n) = argT m c (row t r) n := by
  unfold argT row
  blk_point [iblk, V, idx t]

/-- The normed rows of a point. -/
theorem hB (c : Dev nD) (t : Fin cfg0.N) (r : Fin 256) (n : Fin 1024) :
    k0_pay6 (iblk m c 0 t) (iblk m c 1 t) (ix2 r n) = resH m c (row t r) n := by
  rw [pay6_apply, blockG, blockX]
  simp only [blockX]
  rfl

/-- One chunk of the up-projection of a point's rows. -/
def aB (c : Dev nD) (t : Fin cfg0.N) (q : ℕ) (i : ∀ a, (![q, 0, 0] : Fin 3 → ℕ) a + (![1, 1024, 1408] : Fin 3 → ℕ) a ≤ S4x1024x1408.size a) :
    FVec Ideal S256x1408 .f32 :=
  k0_pay7 (k0_pay6 (iblk m c 0 t) (iblk m c 1 t)) (View.ld (iblk m c 2 t) (Rect.unit ![q, 0, 0] ![1, 1024, 1408] i))

/-- One entry of a chunk of the up-projection. -/
theorem aB_apply (c : Dev nD) (t : Fin cfg0.N) (q : ℕ) (i : ∀ a, (![q, 0, 0] : Fin 3 → ℕ) a + (![1, 1024, 1408] : Fin 3 → ℕ) a ≤ S4x1024x1408.size a)
    (r : Fin 256) (l : Fin 1408) (k : Fin 5632) (hk : k.val = 1408 * q + l.val) :
    aB m c t q i (ix2 r l) = resA m c (row t r) k := by
  have hq : q < 4 := by have := k.isLt; omega
  unfold aB resA FfnSpec.up
  rw [pay7_apply]
  refine Finset.sum_congr rfl fun n _ => Ideal.mul_congr (hB m c t r n) ?_
  have e1 : (⟨k.val / 1408, by omega⟩ : Fin 4) = ⟨q, hq⟩ := Fin.ext (by show k.val / 1408 = q; omega)
  have e2 : (⟨k.val % 1408, by omega⟩ : Fin 1408) = l := Fin.ext (by show k.val % 1408 = l.val; omega)
  rw [e1, e2, ← blockU m c t]
  pointwise
  blk_ext

/-- A matrix of any size. -/
abbrev Mat (r n : ℕ) : Shape := ⟨2, ![r, n]⟩

/-- An entry of the pieces stored so far after one more block of columns. -/
theorem canon_block {R N W : ℕ} {e : EltTy} (o : ℕ) (i : ∀ a, (![0, o] : Fin 2 → ℕ) a + (![R, W] : Fin 2 → ℕ) a ≤ (Mat R N).size a)
    (u : (Mat R W).Idx → Elt Ideal e) (L : List (View.Piece (Elt Ideal) (Mat R N) e)) (a : Fin R) (l : Fin N) (x : Elt Ideal e)
    (hin : ∀ d : Fin W, l.val = o + d.val → u (ix2 a d) = x)
    (hout : ¬ (o ≤ l.val ∧ l.val < o + W) → View.canon L (ix2 a l) = x) :
    View.canon (Val := Elt Ideal) (s := Mat R N) (e := e) (⟨Rect.unit ![0, o] ![R, W] i, u⟩ :: L) (ix2 a l) = x := by
  by_cases h : o ≤ l.val ∧ l.val < o + W
  · obtain ⟨h1, h2⟩ := h
    rw [← hin ⟨l.val - o, by omega⟩ (show l.val = o + (l.val - o) by omega)]
    have : (ix2 a l : (Mat R N).Idx) = (Rect.unit (s := Mat R N) ![0, o] ![R, W] i).emb (ix2 a ⟨l.val - o, by omega⟩) := by
      blk_ext
    rw [this]
    exact View.canon_cons_emb _ _ _ _
  · rw [View.canon_cons_of_not_mem]
    · exact hout h
    · rw [Rect.mem_set_unit]
      intro hall
      exact h (hall 1)

/-- Four pieces of columns, entry by entry. -/
theorem canon_cols {R N W : ℕ} {e : EltTy} (o3 o2 o1 o0 : ℕ)
    {i3 : ∀ a, (![0, o3] : Fin 2 → ℕ) a + (![R, W] : Fin 2 → ℕ) a ≤ (Mat R N).size a}
    {i2 : ∀ a, (![0, o2] : Fin 2 → ℕ) a + (![R, W] : Fin 2 → ℕ) a ≤ (Mat R N).size a}
    {i1 : ∀ a, (![0, o1] : Fin 2 → ℕ) a + (![R, W] : Fin 2 → ℕ) a ≤ (Mat R N).size a}
    {i0 : ∀ a, (![0, o0] : Fin 2 → ℕ) a + (![R, W] : Fin 2 → ℕ) a ≤ (Mat R N).size a}
    (u3 u2 u1 u0 : (Mat R W).Idx → Elt Ideal e) (G : Fin R → Fin N → Elt Ideal e)
    (h3 : ∀ r l k, k.val = o3 + l.val → u3 (ix2 r l) = G r k)
    (h2 : ∀ r l k, k.val = o2 + l.val → u2 (ix2 r l) = G r k)
    (h1 : ∀ r l k, k.val = o1 + l.val → u1 (ix2 r l) = G r k)
    (h0 : ∀ r l k, k.val = o0 + l.val → u0 (ix2 r l) = G r k)
    (hc : ∀ k : Fin N, (o3 ≤ k.val ∧ k.val < o3 + W) ∨ (o2 ≤ k.val ∧ k.val < o2 + W) ∨ (o1 ≤ k.val ∧ k.val < o1 + W) ∨ (o0 ≤ k.val ∧ k.val < o0 + W)) (r : Fin R) (k : Fin N) :
    View.canon (Val := Elt Ideal) (s := Mat R N) (e := e) [⟨Rect.unit ![0, o3] ![R, W] i3, u3⟩,
      ⟨Rect.unit ![0, o2] ![R, W] i2, u2⟩,
      ⟨Rect.unit ![0, o1] ![R, W] i1, u1⟩,
      ⟨Rect.unit ![0, o0] ![R, W] i0, u0⟩] (ix2 r k) = G r k :=
  canon_block o3 i3 u3 _ r k _ (fun d h => h3 r d k h) fun n3 =>
    canon_block o2 i2 u2 _ r k _ (fun d h => h2 r d k h) fun n2 =>
    canon_block o1 i1 u1 _ r k _ (fun d h => h1 r d k h) fun n1 =>
    canon_block o0 i0 u0 _ r k _ (fun d h => h0 r d k h) fun n0 => by
      have := hc k
      tauto

/-- Two pieces of columns, entry by entry. -/
theorem canon_halves {R N W : ℕ} {e : EltTy} (o1 o0 : ℕ)
    {i1 : ∀ a, (![0, o1] : Fin 2 → ℕ) a + (![R, W] : Fin 2 → ℕ) a ≤ (Mat R N).size a}
    {i0 : ∀ a, (![0, o0] : Fin 2 → ℕ) a + (![R, W] : Fin 2 → ℕ) a ≤ (Mat R N).size a}
    (u1 u0 : (Mat R W).Idx → Elt Ideal e) (G : Fin R → Fin N → Elt Ideal e)
    (h1 : ∀ r l k, k.val = o1 + l.val → u1 (ix2 r l) = G r k)
    (h0 : ∀ r l k, k.val = o0 + l.val → u0 (ix2 r l) = G r k)
    (hc : ∀ k : Fin N, (o1 ≤ k.val ∧ k.val < o1 + W) ∨ (o0 ≤ k.val ∧ k.val < o0 + W)) (r : Fin R) (k : Fin N) :
    View.canon (Val := Elt Ideal) (s := Mat R N) (e := e) [⟨Rect.unit ![0, o1] ![R, W] i1, u1⟩,
      ⟨Rect.unit ![0, o0] ![R, W] i0, u0⟩] (ix2 r k) = G r k :=
  canon_block o1 i1 u1 _ r k _ (fun d h => h1 r d k h) fun n1 =>
    canon_block o0 i0 u0 _ r k _ (fun d h => h0 r d k h) fun n0 => by
      have := hc k
      tauto

end Cert.FfnIdeal.Point
end
-- ==== Proof.FfnOuts.lean ====
module

public import proofs.«01_k».proof.Proof.FfnBlocks

@[expose] public section

set_option maxRecDepth 16384

noncomputable section

/-! What one point of the grid computes from its loads and from the rows carried from the point before. -/

namespace Cert.FfnIdeal.Point

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The flag of the first point. -/
abbrev flag : BitVec 1 := Scalar.cmpi CmpIPredicate.eq (BitVec.ofNat 32 (grid0.coords t 0).val) 0#32

/-- The flag of the first point chooses zero. -/
theorem select_first (x : EReal) : Scalar.select (flag t) 0 x = if t.val = 0 then 0 else x := by
  obtain ⟨-, -, -, -, -, -, -, h, h'⟩ := idx t
  unfold flag
  rw [WordCmp.scalar_cmpi_eq, h]
  exact select_ofNat _ 0 (by omega) (by norm_num) _ _

/-- The rows carried into a point: the last eight rows of the point before, where there is one. -/
def Carried (T : Vec Ideal S8x5632 .f32) : Prop :=
  ∀ (e : Fin 8) (k : Fin 5632) (s : Fin 8192), s.val + 8 = 256 * t.val + e.val → T (ix2 e k) = resA m c s k

/-- The columns of one load of one row. -/
theorem ld_row {R N : ℕ} {e : EltTy} (T : (Mat R N).Idx → Elt Ideal e) (i o : ℕ) (a : Fin R) (hi : a.val = i)
    (h : ∀ a, (![i, o] : Fin 2 → ℕ) a + (![1, 1408] : Fin 2 → ℕ) a ≤ (Mat R N).size a) (l : Fin 1408) (k : Fin N) (hk : k.val = o + l.val) :
    View.ld (Val := Elt Ideal) (S := Mat R N) T (Rect.unit ![i, o] ![1, 1408] h) (ix2 0 l) = T (ix2 a k) := by
  have e : (ix2 a k : (Mat R N).Idx) = (Rect.unit (s := Mat R N) ![i, o] ![1, 1408] h).emb (ix2 0 l) := by
    blk_ext
  exact (congrArg T e).symm

/-- A point's rows moved down by one or two, from the reads of its loads. -/
theorem back_res (T : Vec Ideal S8x5632 .f32) (hT : Carried m c t T) (h6 h7 : Vec Ideal S1x1408 .f32) (a : Vec Ideal S256x1408 .f32)
    (r : Fin 256) (l : Fin 1408) (k : Fin 5632) (ha : ∀ q : Fin 256, a (ix2 q l) = resA m c (row t q) k)
    (hh6 : h6 (ix2 0 l) = T (ix2 6 k)) (hh7 : h7 (ix2 0 l) = T (ix2 7 k)) (e : ℕ) (he : e = 1 ∨ e = 2) :
    back (flag t) h6 h7 a r.val e l = GateSpec.rowBack (resA m c) (row t r) e k := by
  have hr := r.isLt
  have ht : t.val < 32 := t.isLt
  have hrow : (row t r).val = 256 * t.val + r.val := rfl
  unfold back
  by_cases h : e ≤ r.val
  · rw [dif_pos ⟨h, hr⟩, ha, GateSpec.rowBack, dif_pos (by omega)]
    exact congrArg (fun b => resA m c b k) (Fin.ext (show 256 * t.val + (r.val - e) = (row t r).val - e by omega))
  · rw [dif_neg (by omega), select_first, GateSpec.rowBack]
    by_cases h0 : t.val = 0
    · rw [if_pos h0, dif_neg (by omega)]
    · rw [if_neg h0, dif_pos (by omega)]
      by_cases h1 : r.val + 1 = e
      · rw [if_pos h1, hh7]
        exact hT 7 k _ (show (row t r).val - e + 8 = 256 * t.val + 7 by omega)
      · rw [if_neg h1, hh6]
        exact hT 6 k _ (show (row t r).val - e + 8 = 256 * t.val + 6 by omega)

/-- The convolution of the block of columns that starts at `o`, as the point loads its parts. -/
def cB (T : Vec Ideal S8x5632 .f32) (q o : ℕ)
    (iq : ∀ a, (![q, 0, 0] : Fin 3 → ℕ) a + (![1, 1024, 1408] : Fin 3 → ℕ) a ≤ S4x1024x1408.size a)
    (i6 : ∀ a, (![6, o] : Fin 2 → ℕ) a + (![1, 1408] : Fin 2 → ℕ) a ≤ S8x5632.size a)
    (i7 : ∀ a, (![7, o] : Fin 2 → ℕ) a + (![1, 1408] : Fin 2 → ℕ) a ≤ S8x5632.size a)
    (i2 : ∀ a, (![2, o] : Fin 2 → ℕ) a + (![1, 1408] : Fin 2 → ℕ) a ≤ S3x5632.size a)
    (i1 : ∀ a, (![1, o] : Fin 2 → ℕ) a + (![1, 1408] : Fin 2 → ℕ) a ≤ S3x5632.size a)
    (i0 : ∀ a, (![0, o] : Fin 2 → ℕ) a + (![1, 1408] : Fin 2 → ℕ) a ≤ S3x5632.size a)
    (ib : ∀ a, (![0, o] : Fin 2 → ℕ) a + (![1, 1408] : Fin 2 → ℕ) a ≤ S1x5632.size a) : FVec Ideal S256x1408 .f32 :=
  convB (flag t) (View.ld T (Rect.unit ![6, o] ![1, 1408] i6)) (View.ld T (Rect.unit ![7, o] ![1, 1408] i7)) (aB m c t q iq)
    (View.ld (iblk m c 3 t) (Rect.unit ![2, o] ![1, 1408] i2)) (View.ld (iblk m c 3 t) (Rect.unit ![1, o] ![1, 1408] i1))
    (View.ld (iblk m c 3 t) (Rect.unit ![0, o] ![1, 1408] i0)) (View.ld (iblk m c 4 t) (Rect.unit ![0, o] ![1, 1408] ib))

/-- One entry of a block of the convolution. -/
theorem cB_apply (T : Vec Ideal S8x5632 .f32) (hT : Carried m c t T) (q o : ℕ) (iq i6 i7 i2 i1 i0 ib) (ho : o = 1408 * q)
    (r : Fin 256) (l : Fin 1408) (k : Fin 5632) (hk : k.val = o + l.val) :
    cB m c t T q o iq i6 i7 i2 i1 i0 ib (ix2 r l) = resC m c (row t r) k := by
  have ha : ∀ p : Fin 256, aB m c t q iq (ix2 p l) = resA m c (row t p) k := fun p => aB_apply m c t q iq p l k (by omega)
  have e6 := ld_row (e := .f32) T 6 o 6 rfl i6 l k hk
  have e7 := ld_row (e := .f32) T 7 o 7 rfl i7 l k hk
  have e2 := ld_row (e := .f32) (iblk m c 3 t) 2 o 2 rfl i2 l k hk
  have e1 := ld_row (e := .f32) (iblk m c 3 t) 1 o 1 rfl i1 l k hk
  have e0 := ld_row (e := .f32) (iblk m c 3 t) 0 o 0 rfl i0 l k hk
  have eb := ld_row (e := .f32) (iblk m c 4 t) 0 o 0 rfl ib l k hk
  unfold cB
  rw [convB_apply, back_res m c t T hT _ _ _ r l k ha e6 e7 1 (Or.inl rfl), back_res m c t T hT _ _ _ r l k ha e6 e7 2 (Or.inr rfl), ha]
  refine Ideal.add_congr (Ideal.add_congr (Ideal.add_congr (Ideal.mul_congr ?_ rfl) (Ideal.mul_congr ?_ rfl)) (Ideal.mul_congr ?_ rfl)) ?_
  · exact e2.trans (blockC m c t 2 k)
  · exact e1.trans (blockC m c t 1 k)
  · exact e0.trans (blockC m c t 0 k)
  · exact eb.trans (blockB m c t k)

/-- One entry of a block of the gated product. -/
theorem gatedB_res (cg cu : FVec Ideal S256x1408 .f32) (r : Fin 256) (l : Fin 1408) (j : Fin 2816)
    (hg : cg (ix2 r l) = resC m c (row t r) ⟨j.val, by omega⟩) (hu : cu (ix2 r l) = resC m c (row t r) ⟨2816 + j.val, by omega⟩) :
    gatedB cg cu (ix2 r l) = resF m c (row t r) j := by
  rw [gatedB_apply, hg, hu]
  rfl

/-- The pieces of the gated product, as the point stores them. -/
abbrev fPieces (T : Vec Ideal S8x5632 .f32) : List (View.Piece (Elt Ideal) S256x2816 .bf16) :=
  [⟨Rect.unit ![0, 1408] ![256, 1408] inb_S256x2816_S256x1408_0_1408,
      gatedB (cB m c t T 1 1408 inb_S4x1024x1408_S1x1024x1408_1_0_0 inb_S8x5632_S1x1408_6_1408 inb_S8x5632_S1x1408_7_1408
          inb_S3x5632_S1x1408_2_1408 inb_S3x5632_S1x1408_1_1408 inb_S3x5632_S1x1408_0_1408 inb_S1x5632_S1x1408_0_1408)
        (cB m c t T 3 4224 inb_S4x1024x1408_S1x1024x1408_3_0_0 inb_S8x5632_S1x1408_6_4224 inb_S8x5632_S1x1408_7_4224
          inb_S3x5632_S1x1408_2_4224 inb_S3x5632_S1x1408_1_4224 inb_S3x5632_S1x1408_0_4224 inb_S1x5632_S1x1408_0_4224)⟩,
    ⟨Rect.unit ![0, 0] ![256, 1408] inb_S256x2816_S256x1408_0_0,
      gatedB (cB m c t T 0 0 inb_S4x1024x1408_S1x1024x1408_0_0_0 inb_S8x5632_S1x1408_6_0 inb_S8x5632_S1x1408_7_0
          inb_S3x5632_S1x1408_2_0 inb_S3x5632_S1x1408_1_0 inb_S3x5632_S1x1408_0_0 inb_S1x5632_S1x1408_0_0)
        (cB m c t T 2 2816 inb_S4x1024x1408_S1x1024x1408_2_0_0 inb_S8x5632_S1x1408_6_2816 inb_S8x5632_S1x1408_7_2816
          inb_S3x5632_S1x1408_2_2816 inb_S3x5632_S1x1408_1_2816 inb_S3x5632_S1x1408_0_2816 inb_S1x5632_S1x1408_0_2816)⟩]

/-- One entry of the stored gated product. -/
theorem f_canon (T : Vec Ideal S8x5632 .f32) (hT : Carried m c t T) (r : Fin 256) (j : Fin 2816) :
    View.canon (fPieces m c t T) (ix2 r j) = resF m c (row t r) j := by
  refine canon_halves (R := 256) (N := 2816) (W := 1408) (e := .bf16) 1408 0 _ _ (fun r j => resF m c (row t r) j)
    (fun r l k h => ?_) (fun r l k h => ?_) (fun k => ?_) r j
  · exact gatedB_res m c t _ _ r l k (cB_apply m c t T hT 1 1408 _ _ _ _ _ _ _ rfl r l _ h)
      (cB_apply m c t T hT 3 4224 _ _ _ _ _ _ _ rfl r l _ (show 2816 + k.val = 4224 + l.val by omega))
  · exact gatedB_res m c t _ _ r l k (cB_apply m c t T hT 0 0 _ _ _ _ _ _ _ rfl r l _ h)
      (cB_apply m c t T hT 2 2816 _ _ _ _ _ _ _ rfl r l _ (show 2816 + k.val = 2816 + l.val by omega))
  · have := k.isLt
    omega

/-- The gated product read back after it is stored. -/
abbrev fBack (T : Vec Ideal S8x5632 .f32) {κ : Kind} {sp : Space} (v : View sig κ sp S256x2816 .bf16)
    (i : ∀ a, (![0, 0] : Fin 2 → ℕ) a + (![256, 2816] : Fin 2 → ℕ) a ≤ S256x2816.size a) : Vec Ideal S256x2816 .bf16 :=
  v.readCov (fPieces m c t T) (Rect.unit (s := S256x2816) ![0, 0] ![256, 2816] i).toLoadRect

theorem f_back (T : Vec Ideal S8x5632 .f32) (hT : Carried m c t T) {κ : Kind} {sp : Space} (v : View sig κ sp S256x2816 .bf16)
    (i : ∀ a, (![0, 0] : Fin 2 → ℕ) a + (![256, 2816] : Fin 2 → ℕ) a ≤ S256x2816.size a) (r : Fin 256) (j : Fin 2816) :
    fBack m c t T v i (ix2 r j) = resF m c (row t r) j := by
  unfold fBack
  rw [View.readCov_eq_canon']
  refine Eq.trans (congrArg (View.canon (fPieces m c t T)) ?_) (f_canon m c t T hT r j)
  change (Rect.unit (s := S256x2816) ![0, 0] ![256, 2816] i).emb (ix2 r j) = ix2 r j
  blk_ext

/-- The pieces of the up-projection, as the point stores them. -/
abbrev aPieces : List (View.Piece (Elt Ideal) S256x5632 .f32) :=
  [⟨Rect.unit ![0, 4224] ![256, 1408] inb_S256x5632_S256x1408_0_4224, aB m c t 3 inb_S4x1024x1408_S1x1024x1408_3_0_0⟩,
    ⟨Rect.unit ![0, 2816] ![256, 1408] inb_S256x5632_S256x1408_0_2816, aB m c t 2 inb_S4x1024x1408_S1x1024x1408_2_0_0⟩,
    ⟨Rect.unit ![0, 1408] ![256, 1408] inb_S256x5632_S256x1408_0_1408, aB m c t 1 inb_S4x1024x1408_S1x1024x1408_1_0_0⟩,
    ⟨Rect.unit ![0, 0] ![256, 1408] inb_S256x5632_S256x1408_0_0, aB m c t 0 inb_S4x1024x1408_S1x1024x1408_0_0_0⟩]

/-- One entry of the stored up-projection. -/
theorem a_canon (r : Fin 256) (k : Fin 5632) : View.canon (aPieces m c t) (ix2 r k) = resA m c (row t r) k := by
  refine canon_cols (R := 256) (N := 5632) (W := 1408) (e := .f32) 4224 2816 1408 0 _ _ _ _ (fun r k => resA m c (row t r) k)
    (fun r l k h => aB_apply m c t 3 _ r l k (by omega)) (fun r l k h => aB_apply m c t 2 _ r l k (by omega))
    (fun r l k h => aB_apply m c t 1 _ r l k (by omega)) (fun r l k h => aB_apply m c t 0 _ r l k (by omega)) (fun k => ?_) r k
  have := k.isLt
  omega

/-- The last eight rows of the up-projection read back after it is stored. -/
theorem tail_back {κ : Kind} {sp : Space} (v : View sig κ sp S256x5632 .f32)
    (i : ∀ a, (![248, 0] : Fin 2 → ℕ) a + (![8, 5632] : Fin 2 → ℕ) a ≤ S256x5632.size a) (e : Fin 8) (k : Fin 5632) :
    k0_pay40 (v.readCov (aPieces m c t) (Rect.unit (s := S256x5632) ![248, 0] ![8, 5632] i).toLoadRect) (ix2 e k)
      = resA m c (row t ⟨248 + e.val, by omega⟩) k := by
  rw [pay40_apply, View.readCov_eq_canon']
  refine Eq.trans (congrArg (View.canon (aPieces m c t)) ?_) (a_canon m c t ⟨248 + e.val, by omega⟩ k)
  change (Rect.unit (s := S256x5632) ![248, 0] ![8, 5632] i).emb (ix2 e k) = ix2 _ k
  blk_ext

section Error

variable (f : Vec Ideal S256x2816 .bf16) (hf : ∀ (r : Fin 256) (j : Fin 2816), f (ix2 r j) = resF m c (row t r) j)

include hf in
/-- The layer's result less the target, at a point. -/
theorem err_row (r : Fin 256) (n : Fin 1024) :
    k0_pay1 (iblk m c 0 t) f (iblk m c 5 t) (iblk m c 6 t) (ix2 r n) = resE m c (row t r) n := by
  rw [pay1_apply]
  simp only [hf, blockD, blockX, blockT]
  rfl

include hf in
/-- The loss's gradient at a point. -/
theorem grad_row (r : Fin 256) (n : Fin 1024) :
    k0_pay2 (iblk m c 0 t) f (iblk m c 5 t) (iblk m c 6 t) (ix2 r n) = resE m c (row t r) n * Ideal.ofBits .f32 0x3A800000#32 := by
  rw [pay2_apply, err_row m c t f hf]

/-- What the rows of one point add to the loss. -/
def term11 (j : S8x128.Idx) : EReal := (∑ r, FfnSpec.rowSq (resE m c) (row t r)) * Ideal.ofBits .f32 0x3A000000#32

include hf in
/-- The loss after a point. -/
theorem loss_row (v : Vec Ideal S8x128 .f32) (y : S8x128.Idx) :
    k0_pay3 (iblk m c 0 t) f (iblk m c 5 t) (iblk m c 6 t) v y = v y + term11 m c t y := by
  idx_vars y
  rw [pay3_apply]
  simp only [err_row m c t f hf]
  rfl

end Error

end Cert.FfnIdeal.Point
end
-- ==== Proof.FfnKernel.lean ====
module

public import proofs.«01_k».proof.Proof.FfnOuts
public import proofs.«01_k».proof.Proof.XattnReal

@[expose] public section

set_option maxRecDepth 16384

noncomputable section

/-! The five results' arrays after the run. -/

namespace Cert.FfnIdeal.Point

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The normed input. -/
def outH (c : Dev nD) (j : S8192x1024.Idx) : EReal := resH m c (j 0) (j 1)
/-- The up-projection. -/
def outA (c : Dev nD) (j : S8192x5632.Idx) : EReal := resA m c (j 0) (j 1)
/-- The gated product. -/
def outF (c : Dev nD) (j : S8192x2816.Idx) : EReal := resF m c (j 0) (j 1)
/-- The loss's gradient in the layer's result. -/
def outD (c : Dev nD) (j : S8192x1024.Idx) : EReal := resE m c (j 0) (j 1) * Ideal.ofBits .f32 0x3A800000#32
/-- The loss, in every entry. -/
def outL (c : Dev nD) (_ : S8x128.Idx) : EReal := (∑ s, FfnSpec.rowSq (resE m c) s) * Ideal.ofBits .f32 0x3A000000#32

/-- The rows carried out of a point are its last eight. -/
theorem tail_out (c : Dev nD) (t : Fin cfg0.N) (e : Fin 8) (k : Fin 5632) :
    (outsAt0 m c t.val t.isLt).2.2.2.2.2 (ix2 e k) = resA m c (row t ⟨248 + e.val, by omega⟩) k := by
  by_cases h : t.val % 32 = 0
  all_goals
    first | rw [outsAt0_A m c t h] | rw [outsAt0_B m c t h]
    frame_open
    simp (disch := decide) only [↓ View.readCov_skip, ↓ View.readCov_cons_toLoadRect, ↓ View.readCov_fill]
    frame_out
    exact tail_back m c t _ _ e k

/-- At the first point no rows are carried. -/
theorem carried_first (c : Dev nD) (t : Fin cfg0.N) (h : t.val % 32 = 0) (T : Vec Ideal S8x5632 .f32) : Carried m c t T := by
  intro e k s hs
  have ht : t.val < 32 := t.isLt
  have he := e.isLt
  omega

/-- At a later point the rows of the point before are carried. -/
theorem carried_step (c : Dev nD) (t : Fin cfg0.N) (h : ¬ t.val % 32 = 0) (T : Vec Ideal S8x5632 .f32)
    (hT : T = (outsAt0 m c (t.val - 1) (Nat.lt_of_le_of_lt (Nat.sub_le _ _) t.isLt)).2.2.2.2.2) : Carried m c t T := by
  intro e k s hs
  have ht : t.val < 32 := t.isLt
  have he := e.isLt
  rw [hT]
  refine (tail_out m c ⟨t.val - 1, Nat.lt_of_le_of_lt (Nat.sub_le _ _) t.isLt⟩ e k).trans (congrArg (fun b => resA m c b k) (Fin.ext ?_))
  change 256 * (t.val - 1) + (248 + e.val) = s.val
  omega

/-- The normed input. -/
theorem final7 (c : Dev nD) : (dats m 0 c).arrAt 7 (cfgs 0).N = outH m c := by
  refine (dats m 0 c).arrAt_eq_of_covers 7 _ (by decide +kernel) fun t hf y => ?_
  idx_vars y
  have he : ((cfg0.win 7).blk t).view.emb (ix2 y0 y1) = ix2 (row t y0) y1 := by
    unfold row
    blk_ext [idxO t]
  blk_simp
  refine Eq.trans ?_ (congrArg (outH m c) he).symm
  rw [after0_7]
  by_cases h : t.val % 32 = 0
  all_goals
    first | rw [outsAt0_A m c t h] | rw [outsAt0_B m c t h]
    frame_open
    simp (disch := decide) only [↓ View.readCov_skip, ↓ View.readCov_cons_toLoadRect, ↓ View.readCov_fill]
    frame_out
    exact hB m c t y0 y1

/-- The up-projection. -/
theorem final8 (c : Dev nD) : (dats m 0 c).arrAt 8 (cfgs 0).N = outA m c := by
  refine (dats m 0 c).arrAt_eq_of_covers 8 _ (by decide +kernel) fun t hf y => ?_
  idx_vars y
  have he : ((cfg0.win 8).blk t).view.emb (ix2 y0 y1) = ix2 (row t y0) y1 := by
    unfold row
    blk_ext [idxO t]
  blk_simp
  refine Eq.trans ?_ (congrArg (outA m c) he).symm
  rw [after0_8]
  by_cases h : t.val % 32 = 0
  all_goals
    first | rw [outsAt0_A m c t h] | rw [outsAt0_B m c t h]
    frame_open
    simp (disch := decide) only [↓ View.readCov_skip, ↓ View.readCov_cons_toLoadRect, ↓ View.readCov_fill]
    frame_out
    exact a_canon m c t y0 y1

/-- The gated product. -/
theorem final9 (c : Dev nD) : (dats m 0 c).arrAt 9 (cfgs 0).N = outF m c := by
  refine (dats m 0 c).arrAt_eq_of_covers 9 _ (by decide +kernel) fun t hf y => ?_
  idx_vars y
  have he : ((cfg0.win 9).blk t).view.emb (ix2 y0 y1) = ix2 (row t y0) y1 := by
    unfold row
    blk_ext [idxO t]
  blk_simp
  refine Eq.trans ?_ (congrArg (outF m c) he).symm
  rw [after0_9]
  by_cases h : t.val % 32 = 0
  · rw [outsAt0_A m c t h]
    frame_open
    simp (disch := decide) only [↓ View.readCov_skip, ↓ View.readCov_cons_toLoadRect, ↓ View.readCov_fill]
    frame_out
    simp only [pay19_eq, pay24_eq, pay27_eq, pay33_eq, pay39_eq, pay8_eq, pay9_eq, pay10_eq]
    exact f_canon m c t _ (carried_first m c t h _) y0 y1
  · rw [outsAt0_B m c t h]
    frame_open
    simp (disch := decide) only [↓ View.readCov_skip, ↓ View.readCov_cons_toLoadRect, ↓ View.readCov_fill]
    frame_out
    simp only [pay19_eq, pay24_eq, pay27_eq, pay33_eq, pay39_eq, pay8_eq, pay9_eq, pay10_eq]
    exact f_canon m c t _ (carried_step m c t h _ (Memref.IsWhole.read_unread _ _)) y0 y1

/-- The loss's gradient. -/
theorem final10 (c : Dev nD) : (dats m 0 c).arrAt 10 (cfgs 0).N = outD m c := by
  refine (dats m 0 c).arrAt_eq_of_covers 10 _ (by decide +kernel) fun t hf y => ?_
  idx_vars y
  have he : ((cfg0.win 10).blk t).view.emb (ix2 y0 y1) = ix2 (row t y0) y1 := by
    unfold row
    blk_ext [idxO t]
  blk_simp
  refine Eq.trans ?_ (congrArg (outD m c) he).symm
  rw [after0_10]
  by_cases h : t.val % 32 = 0
  · rw [outsAt0_A m c t h]
    frame_open
    simp (disch := decide) only [↓ View.readCov_skip, ↓ View.readCov_cons_toLoadRect, ↓ View.readCov_fill]
    frame_out
    simp only [pay19_eq, pay24_eq, pay27_eq, pay33_eq, pay39_eq, pay8_eq, pay9_eq, pay10_eq]
    exact grad_row m c t (fBack m c t _ _ _) (f_back m c t _ (carried_first m c t h _) _ _) y0 y1
  · rw [outsAt0_B m c t h]
    frame_open
    simp (disch := decide) only [↓ View.readCov_skip, ↓ View.readCov_cons_toLoadRect, ↓ View.readCov_fill]
    frame_out
    simp only [pay19_eq, pay24_eq, pay27_eq, pay33_eq, pay39_eq, pay8_eq, pay9_eq, pay10_eq]
    exact grad_row m c t (fBack m c t _ _ _) (f_back m c t _ (carried_step m c t h _ (Memref.IsWhole.read_unread _ _)) _ _) y0 y1

theorem first11 (c : Dev nD) (t : Fin cfg0.N) (h : t.val % 32 = 0) (y : S8x128.Idx) :
    (outsAt0 m c t.val t.isLt).2.2.2.2.1 y = 0 + term11 m c t y := by
  rw [outsAt0_A m c t h]
  frame_open
  simp (disch := decide) only [↓ View.readCov_skip, ↓ View.readCov_cons_toLoadRect, ↓ View.readCov_fill]
  frame_out
  simp only [pay19_eq, pay24_eq, pay27_eq, pay33_eq, pay39_eq, pay8_eq, pay9_eq, pay10_eq]
  exact (loss_row m c t (fBack m c t _ _ _) (f_back m c t _ (carried_first m c t h _) _ _) _ y).trans (Ideal.add_congr (pay4_apply y) rfl)

theorem step11 (c : Dev nD) (t : Fin cfg0.N) (h : ¬ t.val % 32 = 0) (y : S8x128.Idx) :
    (outsAt0 m c t.val t.isLt).2.2.2.2.1 y
      = (outsAt0 m c (t.val - 1) (Nat.lt_of_le_of_lt (Nat.sub_le _ _) t.isLt)).2.2.2.2.1 y + term11 m c t y := by
  rw [outsAt0_B m c t h]
  frame_open
  simp (disch := decide) only [↓ View.readCov_skip, ↓ View.readCov_cons_toLoadRect, ↓ View.readCov_fill]
  frame_out
  simp only [pay19_eq, pay24_eq, pay27_eq, pay33_eq, pay39_eq, pay8_eq, pay9_eq, pay10_eq]
  exact loss_row m c t (fBack m c t _ _ _) (f_back m c t _ (carried_step m c t h _ (Memref.IsWhole.read_unread _ _)) _ _) _ y

/-- The points' rows are all the rows. -/
theorem sum_rows (f : Fin 8192 → EReal) (g : Fin 32 → Fin cfg0.N) (hg : ∀ s, (g s).val = s.val) :
    ∑ s, ∑ r : Fin 256, f (row (g s) r) = ∑ s, f s := by
  rw [Fin.sum_univ_tiles 32 256 rfl]
  refine Finset.sum_congr rfl fun s _ => Finset.sum_congr rfl fun r _ => congrArg f (Fin.ext ?_)
  change 256 * (g s).val + r.val = s.val * 256 + r.val
  rw [hg]
  omega

theorem const_2048 : Ideal.ofBits .f32 0x3A000000#32 = ((1 / 2048 : ℝ) : EReal) := by
  simp [Ideal.ofBits, Ideal.ieee, -EReal.coe_mul]
  norm_num

/-- The loss. -/
theorem final11 (c : Dev nD) : (dats m 0 c).arrAt 11 (cfgs 0).N = outL m c := by
  refine (dats m 0 c).arrAt_eq_of_covers 11 _ (by decide +kernel) fun t hf y => ?_
  idx_vars y
  have he : ((cfg0.win 11).blk t).view.emb (ix2 y0 y1) = ix2 y0 y1 := by
    blk_ext [idxO t]
  have hf' := (flush0_11 t).mp hf
  have ht : t.val < 32 := t.isLt
  blk_simp
  refine Eq.trans ?_ (congrArg (outL m c) he).symm
  rw [after0_11, Pipeline.eq_sum_fin_of_reset_step_apply_of_flush (fun n h => (outsAt0 m c n h).2.2.2.2.1) 32 (fun _ => 0) (term11 m c)
    (fun t h j => first11 m c t h j) (fun t h j => step11 m c t h j) t hf' _]
  change (0 : EReal) + _ = _
  rw [zero_add]
  unfold term11 outL
  rw [const_2048, Xattn.sum_mul_coe _ _ _ (by norm_num)]
  exact congrArg (· * _) (sum_rows (FfnSpec.rowSq (resE m c))
    (fun s => ⟨32 * (t.val / 32) + s.val, by have := s.isLt; have hN : cfg0.N = 32 := rfl; omega⟩) fun s => by
      change 32 * (t.val / 32) + s.val = s.val
      omega)

end Cert.FfnIdeal.Point
end
-- ==== Proof.FfnRef.lean ====
module

public import proofs.«01_k».proof.Proof.Gen.FfnRefIdeal.Read
public import proofs.«01_k».proof.Proof.FfnSpec
public import proofs.«01_k».proof.Proof.XattnReal

@[expose] public section

set_option maxRecDepth 16384

noncomputable section

/-! The reference's results, entry by entry. -/

namespace Cert.FfnRefIdeal.Point

open Cert.FfnRefIdeal Cert.FfnRefIdeal.Read Idealize.ShloMosaic Idealize.ShloMosaic.TcCoe Idealize.SL.Sem

variable (x0 : Vec Ideal S8192x1024 .f32) (x1 : Vec Ideal S1x1024 .f32) (x2 : Vec Ideal S4x1024x1408 .bf16)
  (x3 : Vec Ideal S3x5632 .f32) (x4 : Vec Ideal S1x5632 .f32) (x5 : Vec Ideal S2816x1024 .bf16) (x6 : Vec Ideal S8192x1024 .f32)

theorem const_two : Ideal.ofBits .f32 0x40000000#32 = ((2 : ℝ) : EReal) := by
  simp [Ideal.ofBits, Ideal.ieee, -EReal.coe_mul]
  norm_num

theorem const_1024 : Ideal.ofBits .f32 0x44800000#32 = ((1024 : ℝ) : EReal) := by
  simp [Ideal.ofBits, Ideal.ieee, -EReal.coe_mul]
  norm_num

theorem const_inv : Ideal.ofBits .f32 0x3A800000#32 = ((1 / 1024 : ℝ) : EReal) := by
  simp [Ideal.ofBits, Ideal.ieee, -EReal.coe_mul]
  norm_num

theorem const_2048 : Ideal.ofBits .f32 0x3A000000#32 = ((1 / 2048 : ℝ) : EReal) := by
  simp [Ideal.ofBits, Ideal.ieee, -EReal.coe_mul]
  norm_num

/-- The normed input. -/
abbrev rH : Fin 8192 → Fin 1024 → EReal := FfnSpec.normed (fun s n => x0 (ix2 s n)) (fun n => x1 (ix2 0 n))
/-- The up-projection. -/
abbrev rA : Fin 8192 → Fin 5632 → EReal := FfnSpec.up (rH x0 x1) (fun q n l => x2 (ix3 q n l))
/-- The convolution. -/
abbrev rC : Fin 8192 → Fin 5632 → EReal := GateSpec.conv (rA x0 x1 x2) (fun i k => x3 (ix2 i k)) (fun k => x4 (ix2 0 k))
/-- The gated product. -/
abbrev rF : Fin 8192 → Fin 2816 → EReal := FfnSpec.gated (rC x0 x1 x2 x3 x4)
/-- The layer's result less the target. -/
abbrev rE : Fin 8192 → Fin 1024 → EReal :=
  FfnSpec.err (rF x0 x1 x2 x3 x4) (fun j n => x5 (ix2 j n)) (fun s n => x0 (ix2 s n)) (fun s n => x6 (ix2 s n))

/-- The normed input in the reference. -/
theorem ref11 (s : Fin 8192) (n : Fin 1024) : val_main_v11 (F := Ideal) x0 x1 (ix2 s n) = rH x0 x1 s n := by
  unfold rH FfnSpec.normed RowNorm.rstd RowNorm.meanSq
  pointwise [val_main_v11, val_main_v10, val_main_v9, val_main_v8, val_main_v7, val_main_v6, val_main_v5, val_main_v4, val_main_v3,
    val_main_v2, val_main_v1, val_main_v0, val_main_cst, val_main_cst_0, val_main_cst_1]

/-- The weights in the reference: the four chunks side by side. -/
theorem ref14 (n : Fin 1024) (k : Fin 5632) :
    val_main_v14 (F := Ideal) x2 (ix2 n k) = x2 (ix3 ⟨k.val / 1408, by omega⟩ n ⟨k.val % 1408, by omega⟩) := by
  pointwise [val_main_v14, val_main_v13, val_main_v12]

/-- The up-projection in the reference. -/
theorem ref15 (s : Fin 8192) (k : Fin 5632) : val_main_v15 (F := Ideal) x0 x1 x2 (ix2 s k) = rA x0 x1 x2 s k := by
  unfold rA FfnSpec.up
  have : val_main_v15 (F := Ideal) x0 x1 x2 (ix2 s k)
      = ∑ n, val_main_v11 (F := Ideal) x0 x1 (ix2 s n) * val_main_v14 (F := Ideal) x2 (ix2 n k) := by
    pointwise [val_main_v15]
  rw [this]
  exact Finset.sum_congr rfl fun n _ => Ideal.mul_congr (ref11 x0 x1 s n) (ref14 x2 n k)

/-- The reference's rows, two back. -/
theorem ref18 (s : Fin 8192) (k : Fin 5632) : val_main_v18 (F := Ideal) x0 x1 x2 (ix2 s k) = GateSpec.rowBack (rA x0 x1 x2) s 2 k := by
  have e : rA x0 x1 x2 = fun s k => val_main_v15 (F := Ideal) x0 x1 x2 (ix2 s k) := by
    funext s k
    exact (ref15 x0 x1 x2 s k).symm
  rw [e]
  unfold val_main_v18 val_main_v17 val_main_v16 val_main_cst_2
  generalize val_main_v15 (F := Ideal) x0 x1 x2 = a
  pointwise [GateSpec.rowBack]
  by_cases h : s.val < 2
  · rw [dif_pos h, dif_neg (by omega)]
  · rw [dif_neg h, dif_pos (by omega)]

/-- The reference's rows, one back. -/
theorem ref24 (s : Fin 8192) (k : Fin 5632) : val_main_v24 (F := Ideal) x0 x1 x2 (ix2 s k) = GateSpec.rowBack (rA x0 x1 x2) s 1 k := by
  have e : rA x0 x1 x2 = fun s k => val_main_v15 (F := Ideal) x0 x1 x2 (ix2 s k) := by
    funext s k
    exact (ref15 x0 x1 x2 s k).symm
  rw [e]
  unfold val_main_v24 val_main_v17 val_main_v16 val_main_cst_2
  generalize val_main_v15 (F := Ideal) x0 x1 x2 = a
  pointwise [GateSpec.rowBack]
  by_cases h : s.val < 1
  · rw [dif_pos (by omega), dif_neg (by omega)]
  · rw [dif_neg (by omega), dif_pos (by omega)]
    exact congrArg (fun b => a (ix2 b k)) (Fin.ext (show 1 + s.val - 2 = s.val - 1 by omega))

/-- The reference's rows. -/
theorem ref31 (s : Fin 8192) (k : Fin 5632) : val_main_v31 (F := Ideal) x0 x1 x2 (ix2 s k) = GateSpec.rowBack (rA x0 x1 x2) s 0 k := by
  have e : rA x0 x1 x2 = fun s k => val_main_v15 (F := Ideal) x0 x1 x2 (ix2 s k) := by
    funext s k
    exact (ref15 x0 x1 x2 s k).symm
  rw [e]
  unfold val_main_v31 val_main_v17 val_main_v16 val_main_cst_2
  generalize val_main_v15 (F := Ideal) x0 x1 x2 = a
  pointwise [GateSpec.rowBack]

/-- The convolution in the reference. -/
theorem ref39 (s : Fin 8192) (k : Fin 5632) : val_main_v39 (F := Ideal) x0 x1 x2 x3 x4 (ix2 s k) = rC x0 x1 x2 x3 x4 s k := by
  have : val_main_v39 (F := Ideal) x0 x1 x2 x3 x4 (ix2 s k) = val_main_v18 (F := Ideal) x0 x1 x2 (ix2 s k) * x3 (ix2 0 k)
      + val_main_v24 (F := Ideal) x0 x1 x2 (ix2 s k) * x3 (ix2 1 k) + val_main_v31 (F := Ideal) x0 x1 x2 (ix2 s k) * x3 (ix2 2 k) + x4 (ix2 0 k) := by
    unfold val_main_v39 val_main_v37 val_main_v30 val_main_v23 val_main_v29 val_main_v36
    generalize val_main_v18 (F := Ideal) x0 x1 x2 = a
    generalize val_main_v24 (F := Ideal) x0 x1 x2 = b
    generalize val_main_v31 (F := Ideal) x0 x1 x2 = d
    pointwise [val_main_v38, val_main_v35, val_main_v34, val_main_v33, val_main_v32,
      val_main_v28, val_main_v27, val_main_v26, val_main_v25, val_main_v22, val_main_v21, val_main_v20, val_main_v19]
  rw [this, ref18, ref24, ref31, GateSpec.rowBack_zero, rC, GateSpec.conv]
  rw [mul_comm (x3 (ix2 2 k)), mul_comm (x3 (ix2 1 k)), mul_comm (x3 (ix2 0 k))]
  abel

/-- The gated product in the reference. -/
theorem ref55 (s : Fin 8192) (j : Fin 2816) : val_main_v55 (F := Ideal) x0 x1 x2 x3 x4 (ix2 s j) = rF x0 x1 x2 x3 x4 s j := by
  unfold rF FfnSpec.gated
  rw [← ref39, ← ref39]
  unfold val_main_v55 val_main_v54 val_main_v53 val_main_v51 val_main_v49 val_main_v48 val_main_v46 val_main_v45 val_main_v43 val_main_v42
    val_main_v41 val_main_v40
  generalize val_main_v39 (F := Ideal) x0 x1 x2 x3 x4 = a
  pointwise [val_main_v52, val_main_v50, val_main_v47, val_main_v44, val_main_cst_3, val_main_cst_4, val_main_cst_5, val_main_cst_6]
  generalize a (ix2 s ⟨j.val, by omega⟩) = g
  generalize a (ix2 s ⟨2816 + j.val, by omega⟩) = u
  unfold FfnSpec.gelu
  rw [GateSpec.const_one, EReal.coe_one]
  simp only [mul_assoc, mul_left_comm g]

/-- The layer's result less the target in the reference. -/
theorem ref59 (s : Fin 8192) (n : Fin 1024) : val_main_v59 (F := Ideal) x0 x1 x2 x3 x4 x5 x6 (ix2 s n) = rE x0 x1 x2 x3 x4 x5 x6 s n := by
  unfold rE FfnSpec.err
  simp only [← ref55]
  unfold val_main_v59 val_main_v58 val_main_v57
  generalize val_main_v55 (F := Ideal) x0 x1 x2 x3 x4 = a
  pointwise [val_main_v56]
  rw [add_comm]

/-- The loss's gradient in the reference. -/
theorem ref73 (s : Fin 8192) (n : Fin 1024) : val_main_v73 (F := Ideal) x0 x1 x2 x3 x4 x5 x6 (ix2 s n)
    = rE x0 x1 x2 x3 x4 x5 x6 s n * Ideal.ofBits .f32 0x3A800000#32 := by
  rw [← ref59]
  unfold val_main_v73 val_main_v62
  generalize val_main_v59 (F := Ideal) x0 x1 x2 x3 x4 x5 x6 = a
  pointwise [val_main_v72, val_main_v71, val_main_v70, val_main_v69, val_main_v68, val_main_v61, val_main_cst_7, val_main_cst_12, val_main_cst_13,
    val_main_cst_14]
  change Ideal.div (Ideal.ofBits .f32 0x3F000000#32) (Ideal.ofBits .f32 0x44800000#32) * (Ideal.ofBits .f32 0x40000000#32 * a (ix2 s n))
    = a (ix2 s n) * Ideal.ofBits .f32 0x3A800000#32
  rw [GateSpec.const_half, const_1024, const_two, const_inv, Ideal.div_coe (by norm_num), ← mul_assoc, ← EReal.coe_mul, ← EReal.coe_mul, mul_comm]
  norm_num

/-- The loss in the reference. -/
theorem ref76 (i : Fin 8) (j : Fin 128) : val_main_v76 (F := Ideal) x0 x1 x2 x3 x4 x5 x6 (ix2 i j)
    = (∑ s, FfnSpec.rowSq (rE x0 x1 x2 x3 x4 x5 x6) s) * Ideal.ofBits .f32 0x3A000000#32 := by
  unfold FfnSpec.rowSq
  simp only [← ref59]
  unfold val_main_v76 val_main_v67 val_main_v66 val_main_v65 val_main_v63 val_main_v60
  generalize val_main_v59 (F := Ideal) x0 x1 x2 x3 x4 x5 x6 = a
  pointwise [val_main_v64, val_main_cst_8, val_main_cst_9, val_main_cst_10, val_main_cst_11]
  change Ideal.ofBits .f32 0x3F000000#32 * ∑ x, Ideal.div (∑ y, a (ix2 x y) * a (ix2 x y)) (Ideal.ofBits .f32 0x44800000#32)
    = (∑ x, ∑ y, a (ix2 x y) * a (ix2 x y)) * Ideal.ofBits .f32 0x3A000000#32
  rw [GateSpec.const_half, const_1024, const_2048]
  simp only [Ideal.div_coe (show (1024 : ℝ) ≠ 0 by norm_num)]
  rw [Xattn.sum_mul_coe _ _ _ (by norm_num), mul_left_comm, ← EReal.coe_mul]
  norm_num

end Cert.FfnRefIdeal.Point
end
-- ==== Proof.FfnClaim.lean ====
module

public import proofs.«01_k».proof.Defs
public import proofs.«01_k».proof.Proof.FfnKernel
public import proofs.«01_k».proof.Proof.FfnRef
public import proofs.«01_k».proof.Proof.Gen.FfnRefIdeal.Run

@[expose] public section

set_option maxRecDepth 16384

/-! The feed-forward layer's forward call, with the loss and its gradient, and the reference's lines compute the same arrays. -/

namespace Cert.Proof

open Idealize.ShloMosaic Idealize.ShloMosaic.TcCoe Idealize.SL.Sem
open Cert.FfnIdeal.Point Cert.FfnRefIdeal.Point

/-- The feed-forward layer's forward call and the reference's lines compute the same five arrays. -/
theorem algebraic_ffn : Cert.algebraic_FfnIdeal_FfnRefIdeal := by
  intro m g m' g' hpre hagree
  refine ⟨outH m, outA m, outF m, outD m, outL m, ?_, ?_⟩
  · refine (θ_run _ _ _).mono (fun r h c => ?_) (Cert.FfnIdeal.Value.run_blocks m g)
    obtain ⟨h7, h8, h9, h10, h11, ha⟩ := h c
    exact ⟨h7.trans (final7 m c), h8.trans (final8 m c), h9.trans (final9 m c), h10.trans (final10 m c), h11.trans (final11 m c), ha⟩
  · refine (θ_run _ _ _).mono (fun r h c => ?_) (Cert.FfnRefIdeal.Value.run m' g')
    obtain ⟨h74, h15, h75, h73, h76, ha⟩ := h c
    obtain ⟨e0, e1, e2, e3, e4, e5, e6⟩ := hagree c
    refine ⟨h74.trans ?_, h15.trans ?_, h75.trans ?_, h73.trans ?_, h76.trans ?_, ha⟩
    · rw [Cert.FfnRefIdeal.Read.val_main_v74_eq]
      change Cert.FfnRefIdeal.Read.val_main_v74 (F := Ideal)
        (m' ((c.tc : Thread Cert.FfnRefIdeal.nD Cert.FfnRefIdeal.τ).loc Cert.FfnRefIdeal.main_arg0))
        (m' ((c.tc : Thread Cert.FfnRefIdeal.nD Cert.FfnRefIdeal.τ).loc Cert.FfnRefIdeal.main_arg1)) = _
      rw [e0, e1]
      funext j
      idx_vars j
      exact (Cert.FfnRefIdeal.Read.val_main_v74_apply ..).trans (ref11 _ _ j0 j1)
    · rw [Cert.FfnRefIdeal.Read.val_main_v15_eq]
      change Cert.FfnRefIdeal.Read.val_main_v15 (F := Ideal)
        (m' ((c.tc : Thread Cert.FfnRefIdeal.nD Cert.FfnRefIdeal.τ).loc Cert.FfnRefIdeal.main_arg0))
        (m' ((c.tc : Thread Cert.FfnRefIdeal.nD Cert.FfnRefIdeal.τ).loc Cert.FfnRefIdeal.main_arg1))
        (m' ((c.tc : Thread Cert.FfnRefIdeal.nD Cert.FfnRefIdeal.τ).loc Cert.FfnRefIdeal.main_arg2)) = _
      rw [e0, e1, e2]
      funext j
      idx_vars j
      exact ref15 _ _ _ j0 j1
    · rw [Cert.FfnRefIdeal.Read.val_main_v75_eq]
      change Cert.FfnRefIdeal.Read.val_main_v75 (F := Ideal)
        (m' ((c.tc : Thread Cert.FfnRefIdeal.nD Cert.FfnRefIdeal.τ).loc Cert.FfnRefIdeal.main_arg0))
        (m' ((c.tc : Thread Cert.FfnRefIdeal.nD Cert.FfnRefIdeal.τ).loc Cert.FfnRefIdeal.main_arg1))
        (m' ((c.tc : Thread Cert.FfnRefIdeal.nD Cert.FfnRefIdeal.τ).loc Cert.FfnRefIdeal.main_arg2))
        (m' ((c.tc : Thread Cert.FfnRefIdeal.nD Cert.FfnRefIdeal.τ).loc Cert.FfnRefIdeal.main_arg3))
        (m' ((c.tc : Thread Cert.FfnRefIdeal.nD Cert.FfnRefIdeal.τ).loc Cert.FfnRefIdeal.main_arg4)) = _
      rw [e0, e1, e2, e3, e4]
      funext j
      idx_vars j
      exact (Cert.FfnRefIdeal.Read.val_main_v75_apply ..).trans (ref55 _ _ _ _ _ j0 j1)
    · rw [Cert.FfnRefIdeal.Read.val_main_v73_eq]
      change Cert.FfnRefIdeal.Read.val_main_v73 (F := Ideal)
        (m' ((c.tc : Thread Cert.FfnRefIdeal.nD Cert.FfnRefIdeal.τ).loc Cert.FfnRefIdeal.main_arg0))
        (m' ((c.tc : Thread Cert.FfnRefIdeal.nD Cert.FfnRefIdeal.τ).loc Cert.FfnRefIdeal.main_arg1))
        (m' ((c.tc : Thread Cert.FfnRefIdeal.nD Cert.FfnRefIdeal.τ).loc Cert.FfnRefIdeal.main_arg2))
        (m' ((c.tc : Thread Cert.FfnRefIdeal.nD Cert.FfnRefIdeal.τ).loc Cert.FfnRefIdeal.main_arg3))
        (m' ((c.tc : Thread Cert.FfnRefIdeal.nD Cert.FfnRefIdeal.τ).loc Cert.FfnRefIdeal.main_arg4))
        (m' ((c.tc : Thread Cert.FfnRefIdeal.nD Cert.FfnRefIdeal.τ).loc Cert.FfnRefIdeal.main_arg5))
        (m' ((c.tc : Thread Cert.FfnRefIdeal.nD Cert.FfnRefIdeal.τ).loc Cert.FfnRefIdeal.main_arg6)) = _
      rw [e0, e1, e2, e3, e4, e5, e6]
      funext j
      idx_vars j
      exact ref73 _ _ _ _ _ _ _ j0 j1
    · rw [Cert.FfnRefIdeal.Read.val_main_v76_eq]
      change Cert.FfnRefIdeal.Read.val_main_v76 (F := Ideal)
        (m' ((c.tc : Thread Cert.FfnRefIdeal.nD Cert.FfnRefIdeal.τ).loc Cert.FfnRefIdeal.main_arg0))
        (m' ((c.tc : Thread Cert.FfnRefIdeal.nD Cert.FfnRefIdeal.τ).loc Cert.FfnRefIdeal.main_arg1))
        (m' ((c.tc : Thread Cert.FfnRefIdeal.nD Cert.FfnRefIdeal.τ).loc Cert.FfnRefIdeal.main_arg2))
        (m' ((c.tc : Thread Cert.FfnRefIdeal.nD Cert.FfnRefIdeal.τ).loc Cert.FfnRefIdeal.main_arg3))
        (m' ((c.tc : Thread Cert.FfnRefIdeal.nD Cert.FfnRefIdeal.τ).loc Cert.FfnRefIdeal.main_arg4))
        (m' ((c.tc : Thread Cert.FfnRefIdeal.nD Cert.FfnRefIdeal.τ).loc Cert.FfnRefIdeal.main_arg5))
        (m' ((c.tc : Thread Cert.FfnRefIdeal.nD Cert.FfnRefIdeal.τ).loc Cert.FfnRefIdeal.main_arg6)) = _
      rw [e0, e1, e2, e3, e4, e5, e6]
      funext j
      idx_vars j
      exact ref76 _ _ _ _ _ _ _ j0 j1

end Cert.Proof
end
-- ==== Proof.HeadLoad.lean ====
module

public import proofs.«01_k».proof.Proof.XattnBlocks

@[expose] public section

noncomputable section

/-! Loads of one head's columns, and columns among wider rows. -/

namespace Cert.HeadLoad

open Idealize.ShloMosaic Idealize.ShloMosaic.TcCoe Idealize.SL.Sem
open Cert.XattnIdeal.Point (col headOf inHead)

/-- Rows of any width. -/
abbrev Mat (R N : ℕ) : Shape := ⟨2, ![R, N]⟩

/-- An entry of a load of all rows of a block of columns. -/
theorem ld_cols {R N w : ℕ} {e : EltTy} (T : (Mat R N).Idx → Elt Ideal e) (o : ℕ)
    (h : ∀ a, (![0, o] : Fin 2 → ℕ) a + (![R, w] : Fin 2 → ℕ) a ≤ (Mat R N).size a) (r : Fin R) (d : Fin w) (k : Fin N)
    (hk : k.val = o + d.val) :
    View.ld (Val := Elt Ideal) (S := Mat R N) T (Rect.unit ![0, o] ![R, w] h) (ix2 r d) = T (ix2 r k) := by
  have e : (ix2 r k : (Mat R N).Idx) = (Rect.unit (s := Mat R N) ![0, o] ![R, w] h).emb (ix2 r d) := by blk_ext
  exact (congrArg T e).symm

/-- A head's key column among the columns of the keys and the values. -/
def colK (n : Fin 1024) : Fin 2048 := ⟨n.val, by omega⟩
/-- A value column among the columns of the keys and the values. -/
def colV (n : Fin 1024) : Fin 2048 := ⟨1024 + n.val, by omega⟩

/-- A column lies in its head at its place. -/
theorem eq_col (n : Fin 1024) (h : Fin 4) (d : Fin 256) (e : n.val = 256 * h.val + d.val) : n = col h d := Fin.ext e

theorem headOf_col (h : Fin 4) (d : Fin 256) : headOf (col h d) = h := by
  refine Fin.ext ?_
  change (256 * h.val + d.val) / 256 = h.val
  omega

theorem inHead_col (h : Fin 4) (d : Fin 256) : inHead (col h d) = d := by
  refine Fin.ext ?_
  change (256 * h.val + d.val) % 256 = d.val
  omega

theorem col_self (n : Fin 1024) : col (headOf n) (inHead n) = n := by
  refine Fin.ext ?_
  change 256 * (n.val / 256) + n.val % 256 = n.val
  omega

end Cert.HeadLoad

end
-- ==== Proof.MemPreKernel.lean ====
module

public import proofs.«01_k».proof.Proof.Gen.MemPreIdeal.Value
public import proofs.«01_k».proof.Proof.HeadLoad

@[expose] public section

set_option maxRecDepth 16384

noncomputable section

/-! The cross-attention's normed keys and its values, as the kernel computes them. -/

namespace Cert.MemPreIdeal.Point

open Cert.MemPreIdeal Cert.MemPreIdeal.Gen Cert.MemPreIdeal.Value Idealize.ShloMosaic Idealize.ShloMosaic.TcCoe Idealize.SL.Sem
open Cert.XattnIdeal.Point (col headOf inHead)
open Cert.HeadLoad

variable (x : Vec Ideal S256x256 .f32) (g : Vec Ideal S1x256 .f32)

/-- One head's normed keys. -/
theorem pay4_apply (r d : Fin 256) :
    k0_pay4 x g (ix2 r d) = Xattn.qn (fun d => g (ix2 0 d)) (fun d => x (ix2 r d)) d := by
  unfold Xattn.qn RowNorm.rstd RowNorm.meanSq
  pointwise [k0_pay4]

theorem pay5_eq : k0_pay5 x g = k0_pay4 x g := rfl
theorem pay1_eq : k0_pay1 x (k0_pay6 x) g = k0_pay4 x g := rfl
theorem pay2_eq : k0_pay2 x g = k0_pay4 x g := rfl

variable (kv : Vec Ideal S256x2048 .f32)

/-- A head's keys of one memory slot. -/
def headKey (j : Fin 256) (h : Fin 4) : Xattn.Vec1 := fun d => kv (ix2 j (colK (col h d)))

/-- The normed keys. -/
def keys (i : S256x1024.Idx) : EReal := Xattn.qn (fun d => g (ix2 0 d)) (headKey kv (i 0) (headOf (i 1))) (inHead (i 1))

/-- The values. -/
def vals (i : S256x1024.Idx) : EReal := kv (ix2 (i 0) (colV (i 1)))

/-- One head's block of the normed keys. -/
theorem keys_head (o : ℕ) (h : Fin 4) (ho : o = 256 * h.val)
    (i : ∀ a, (![0, o] : Fin 2 → ℕ) a + (![256, 256] : Fin 2 → ℕ) a ≤ S256x2048.size a) (r d : Fin 256) (n : Fin 1024)
    (hn : n.val = o + d.val) :
    k0_pay4 (View.ld (Val := Elt Ideal) (S := S256x2048) (e' := .f32) kv (Rect.unit ![0, o] ![256, 256] i)) g (ix2 r d)
      = keys g kv (ix2 r n) := by
  obtain rfl := eq_col n h d (by omega)
  rw [pay4_apply]
  change _ = Xattn.qn _ (headKey kv r (headOf (col h d))) (inHead (col h d))
  rw [headOf_col, inHead_col]
  refine congrArg (fun q => Xattn.qn _ q d) (funext fun d => ?_)
  exact ld_cols (e := .f32) kv o i r d (colK (col h d)) (by subst ho; rfl)

theorem keys_eq : G2 kv g = keys g kv := by
  funext i
  idx_vars i
  refine FirstRow.canon_heads _ _ _ _ _ _ _ _ _ i0 i1 _ (fun d e => ?_) (fun d e => ?_) (fun d e => ?_) (fun d e => ?_)
  · rw [pay2_eq]
    exact keys_head g kv 768 3 rfl _ i0 d i1 e
  · rw [pay1_eq]
    exact keys_head g kv 512 2 rfl _ i0 d i1 e
  · rw [pay5_eq]
    exact keys_head g kv 256 1 rfl _ i0 d i1 e
  · exact keys_head g kv 0 0 rfl _ i0 d i1 e

theorem vals_eq : G3 kv g = vals kv := by
  funext i
  idx_vars i
  refine Eq.trans ?_ (ld_cols (e := .f32) kv 1024 inb_S256x2048_S256x1024_0_1024 i0 i1 (colV i1) rfl)
  pointwise [k0_pay3]

end Cert.MemPreIdeal.Point
end
-- ==== Proof.KeyNormKernel.lean ====
module

public import proofs.«01_k».proof.Proof.Gen.KeyNormIdeal.Value
public import proofs.«01_k».proof.Proof.HeadLoad
public import proofs.«01_k».proof.Proof.FfnBlocks
public import proofs.«01_k».proof.Proof.MemPreKernel

@[expose] public section

set_option maxRecDepth 16384

noncomputable section

/-! The gradient of the norm of the cross-attention's keys, as the kernel computes it. -/

namespace Cert.KeyNormIdeal.Point

open Cert.KeyNormIdeal Cert.KeyNormIdeal.Gen Idealize.ShloMosaic Idealize.ShloMosaic.TcCoe Idealize.SL.Sem
open Cert.XattnIdeal.Point (col headOf inHead)
open Cert.HeadLoad
open Cert.MemPreIdeal.Point (headKey)

section Head

variable (x d : Vec Ideal S256x256 .f32) (g : Vec Ideal S1x256 .f32)

theorem pay3_apply (r : Fin 256) : k0_pay3 x (ix2 r 0) = RowNorm.rstd 0x43800000#32 fun d => x (ix2 r d) := by
  pointwise [k0_pay3, RowNorm.rstd, RowNorm.meanSq]

/-- One head's block of the keys' gradient. -/
theorem pay4_apply (r l : Fin 256) : k0_pay4 x d g (ix2 r l)
    = RowNorm.normGrad 0x43800000#32 (fun l => x (ix2 r l)) (fun l => d (ix2 r l) * g (ix2 0 l)) l := by
  unfold RowNorm.normGrad
  simp only [← pay3_apply]
  pointwise [k0_pay4]

/-- One head's part of the gradient of the norm's scale over what was there. -/
theorem pay10_apply (old : Vec Ideal S1x256 .f32) (l : Fin 256) : k0_pay10 x d old (ix2 0 l)
    = old (ix2 0 l) + ∑ r : Fin 256, RowNorm.scaleGrad 0x43800000#32 (fun l => x (ix2 r l)) (fun l => d (ix2 r l)) l := by
  unfold RowNorm.scaleGrad
  simp only [← pay3_apply]
  pointwise [k0_pay10, k0_pay8, k0_pay3]

theorem pay7_eq (old : Vec Ideal S1x256 .f32) : k0_pay7 (k0_pay5 old) (k0_pay6 x d) = k0_pay10 x d old := rfl
theorem pay13_eq (old : Vec Ideal S1x256 .f32) : k0_pay13 x d old = k0_pay10 x d old := rfl
theorem pay16_eq (old : Vec Ideal S1x256 .f32) : k0_pay16 x d old = k0_pay10 x d old := rfl
theorem pay9_eq : k0_pay9 x d g = k0_pay4 x d g := rfl
theorem pay12_eq : k0_pay12 x d g = k0_pay4 x d g := rfl
theorem pay15_eq : k0_pay15 x d g = k0_pay4 x d g := rfl

end Head

variable (kv : Vec Ideal S256x2048 .f32) (dk dv : Vec Ideal S256x1024 .f32) (g : Vec Ideal S1x256 .f32)

/-- A head's part of the normed keys' gradient, in one row. -/
def headDk (j : Fin 256) (h : Fin 4) : Xattn.Vec1 := fun d => dk (ix2 j (col h d))

/-- The keys' gradient. -/
def keyGrad (j : Fin 256) (n : Fin 1024) : EReal :=
  RowNorm.normGrad 0x43800000#32 (headKey kv j (headOf n)) (fun d => headDk dk j (headOf n) d * g (ix2 0 d)) (inHead n)

/-- The gradient of the keys and, beside it, of the values. -/
def both (j : Fin 256) (n : Fin 2048) : EReal :=
  if h : n.val < 1024 then keyGrad kv dk g j ⟨n.val, h⟩ else dv (ix2 j ⟨n.val - 1024, by omega⟩)

/-- A head's part of the gradient of the norm's scale. -/
def headG (h : Fin 4) (d : Fin 256) : EReal :=
  ∑ j : Fin 256, RowNorm.scaleGrad 0x43800000#32 (headKey kv j h) (headDk dk j h) d

/-- The gradient of the norm's scale in its first row, zero below. -/
def scaleRow (a : Fin 8) (d : Fin 256) : EReal := if a.val = 0 then ∑ h : Fin 4, headG kv dk h d else 0

section Load

variable (o : ℕ) (h : Fin 4) (ho : o = 256 * h.val)
  (i : ∀ a, (![0, o] : Fin 2 → ℕ) a + (![256, 256] : Fin 2 → ℕ) a ≤ S256x2048.size a)
  (i' : ∀ a, (![0, o] : Fin 2 → ℕ) a + (![256, 256] : Fin 2 → ℕ) a ≤ S256x1024.size a)

/-- A head's keys as the kernel loads them. -/
abbrev ldK : Vec Ideal S256x256 .f32 := View.ld (Val := Elt Ideal) (S := S256x2048) (e' := .f32) kv (Rect.unit ![0, o] ![256, 256] i)
/-- A head's part of the gradient as the kernel loads it. -/
abbrev ldD : Vec Ideal S256x256 .f32 := View.ld (Val := Elt Ideal) (S := S256x1024) (e' := .f32) dk (Rect.unit ![0, o] ![256, 256] i')

include ho in
theorem ldK_row (r : Fin 256) : (fun d => ldK kv o i (ix2 r d)) = headKey kv r h :=
  funext fun d => ld_cols (e := .f32) kv o i r d (colK (col h d)) (by subst ho; rfl)

include ho in
theorem ldD_row (r : Fin 256) (d : Fin 256) : ldD dk o i' (ix2 r d) = headDk dk r h d :=
  ld_cols (e := .f32) dk o i' r d (col h d) (by subst ho; rfl)

include ho in
theorem head_grad (r d : Fin 256) (n : Fin 2048) (hn : n.val = o + d.val) :
    k0_pay4 (ldK kv o i) (ldD dk o i') g (ix2 r d) = both kv dk dv g r n := by
  have hh := h.isLt
  have hd := d.isLt
  obtain rfl : n = colK (col h d) := Fin.ext (by subst ho; exact hn)
  rw [pay4_apply, ldK_row kv o h ho i r]
  unfold both keyGrad
  rw [dif_pos (show (colK (col h d)).val < 1024 from (col h d).isLt)]
  change _ = RowNorm.normGrad _ (headKey kv r (headOf (col h d))) (fun e => headDk dk r (headOf (col h d)) e * _) (inHead (col h d))
  rw [headOf_col, inHead_col]
  exact RowNorm.normGrad_congr _ (fun _ => rfl) (fun l => congrArg (· * _) (ldD_row dk o h ho i' r l)) d

include ho in
theorem head_scale (old : Vec Ideal S1x256 .f32) (d : Fin 256) :
    k0_pay10 (ldK kv o i) (ldD dk o i') old (ix2 0 d) = old (ix2 0 d) + headG kv dk h d := by
  rw [pay10_apply]
  refine congrArg _ (Finset.sum_congr rfl fun r _ => ?_)
  rw [ldK_row kv o h ho i r]
  exact RowNorm.scaleGrad_congr _ (fun _ => rfl) (funext fun l => ldD_row dk o h ho i' r l) d

end Load

variable (m : (ℓ : Loc nD τ sig) → Buf (Elt Ideal) ℓ)

/-- Where each window's block lies at the one point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The keys and values before the norm. -/
abbrev argKv (c : Dev nD) : Vec Ideal S256x2048 .f32 := m ((c : Thread nD τ).loc main_arg0)
/-- The gradient of the normed keys. -/
abbrev argDk (c : Dev nD) : Vec Ideal S256x1024 .f32 := m ((c : Thread nD τ).loc main_arg1)
/-- The gradient of the values. -/
abbrev argDv (c : Dev nD) : Vec Ideal S256x1024 .f32 := m ((c : Thread nD τ).loc main_arg2)
/-- The scale of the norm. -/
abbrev argG (c : Dev nD) : Vec Ideal S1x256 .f32 := m ((c : Thread nD τ).loc main_arg3)

theorem block0 (c : Dev nD) (t : Fin cfg0.N) : iblk m c 0 t = argKv m c := by
  funext j
  idx_vars j
  unfold argKv
  blk_point [iblk, V, idx t]
theorem block1 (c : Dev nD) (t : Fin cfg0.N) : iblk m c 1 t = argDk m c := by
  funext j
  idx_vars j
  unfold argDk
  blk_point [iblk, V, idx t]
theorem block2 (c : Dev nD) (t : Fin cfg0.N) : iblk m c 2 t = argDv m c := by
  funext j
  idx_vars j
  unfold argDv
  blk_point [iblk, V, idx t]
theorem block3 (c : Dev nD) (t : Fin cfg0.N) : iblk m c 3 t = argG m c := by
  funext j
  idx_vars j
  unfold argG
  blk_point [iblk, V, idx t]

/-- The gradient of the keys and the values as an array. -/
def resB (c : Dev nD) (j : S256x2048.Idx) : EReal := both (argKv m c) (argDk m c) (argDv m c) (argG m c) (j 0) (j 1)
/-- The gradient of the norm's scale as an array. -/
def resG (c : Dev nD) (j : S8x256.Idx) : EReal := scaleRow (argKv m c) (argDk m c) (j 0) (j 1)

theorem final4 (c : Dev nD) : (dats m 0 c).arrAt 4 (cfgs 0).N = resB m c := by
  refine (dats m 0 c).arrAt_eq_of_covers 4 _ (by decide +kernel) fun t hf y => ?_
  idx_vars y
  have he : ((cfg0.win 4).blk t).view.emb (ix2 y0 y1) = ix2 y0 y1 := by
    blk_ext [idx t]
  blk_simp
  refine Eq.trans ?_ (congrArg (resB m c) he).symm
  rw [after0_4]
  unfold outsAt0
  rw [block0, block1, block2, block3]
  frame_open
  simp (disch := decide) only [↓ View.readCov_skip, ↓ View.readCov_cons_toLoadRect, ↓ View.readCov_fill]
  frame_out
  refine Cert.FfnIdeal.Point.canon_block 1024 _ _ _ y0 y1 _ (fun d e => ?_) fun n4 => ?_
  · refine Eq.trans (b := argDv m c (ix2 y0 d)) (by pointwise [k0_pay1]) ?_
    have hy := y1.isLt
    change _ = both _ _ _ _ y0 y1
    unfold both
    rw [dif_neg (by omega)]
    exact congrArg (fun n => argDv m c (ix2 y0 n)) (Fin.ext (by change d.val = y1.val - 1024; omega))
  refine Cert.FfnIdeal.Point.canon_block 768 _ _ _ y0 y1 _ (fun d e => ?_) fun n3 => ?_
  · rw [pay15_eq]
    exact head_grad _ _ _ _ 768 3 rfl _ _ y0 d y1 e
  refine Cert.FfnIdeal.Point.canon_block 512 _ _ _ y0 y1 _ (fun d e => ?_) fun n2 => ?_
  · rw [pay12_eq]
    exact head_grad _ _ _ _ 512 2 rfl _ _ y0 d y1 e
  refine Cert.FfnIdeal.Point.canon_block 256 _ _ _ y0 y1 _ (fun d e => ?_) fun n1 => ?_
  · rw [pay9_eq]
    exact head_grad _ _ _ _ 256 1 rfl _ _ y0 d y1 e
  refine Cert.FfnIdeal.Point.canon_block 0 _ _ _ y0 y1 _ (fun d e => ?_) fun n0 => ?_
  · exact head_grad _ _ _ _ 0 0 rfl _ _ y0 d y1 e
  · have := y1.isLt
    omega

theorem final5 (c : Dev nD) : (dats m 0 c).arrAt 5 (cfgs 0).N = resG m c := by
  refine (dats m 0 c).arrAt_eq_of_covers 5 _ (by decide +kernel) fun t hf y => ?_
  idx_vars y
  have he : ((cfg0.win 5).blk t).view.emb (ix2 y0 y1) = ix2 y0 y1 := by
    blk_ext [idx t]
  blk_simp
  refine Eq.trans ?_ (congrArg (resG m c) he).symm
  rw [after0_5]
  unfold outsAt0
  rw [block0, block1, block2, block3]
  frame_open
  simp (disch := decide) only [↓ View.readCov_skip, ↓ View.readCov_cons_toLoadRect, ↓ View.readCov_fill]
  frame_out
  change _ = scaleRow _ _ y0 y1
  refine FirstRow.canon_piece 0 256 _ _ _ y0 y1 _ (fun d h0 e => ?_) fun n => ?_
  · obtain rfl : y1 = d := Fin.ext (by omega)
    unfold scaleRow
    rw [if_pos h0, Fin.sum_univ_four, pay16_eq, pay13_eq, pay7_eq]
    refine (head_scale _ _ 768 3 rfl _ _ _ y1).trans (congrArg (· + _) ?_)
    refine (head_scale _ _ 512 2 rfl _ _ _ y1).trans (congrArg (· + _) ?_)
    refine (head_scale _ _ 256 1 rfl _ _ _ y1).trans (congrArg (· + _) ?_)
    refine (head_scale _ _ 0 0 rfl _ _ _ y1).trans ((congrArg (· + _) ?_).trans (zero_add _))
    pointwise [k0_pay2]
  · have h0 : ¬ y0.val = 0 := fun e => n ⟨e, Nat.zero_le _, by have := y1.isLt; omega⟩
    refine FirstRow.canon_piece 0 256 _ _ _ y0 y1 _ (fun d e _ => absurd e h0) fun _ => ?_
    refine FirstRow.canon_piece 0 256 _ _ _ y0 y1 _ (fun d e _ => absurd e h0) fun _ => ?_
    refine FirstRow.canon_piece 0 256 _ _ _ y0 y1 _ (fun d e _ => absurd e h0) fun _ => ?_
    refine (FirstRow.canon_base _ _ y0 y1).trans ?_
    unfold scaleRow
    rw [if_neg h0]
    pointwise [k0_pay2]

end Cert.KeyNormIdeal.Point
end
-- ==== Proof.KeyNormClaim.lean ====
module

public import proofs.«01_k».proof.Defs
public import proofs.«01_k».proof.Proof.KeyNormKernel
public import proofs.«01_k».proof.Proof.XattnRefRows
public import proofs.«01_k».proof.Proof.Gen.KeyNormRefIdeal.Run
public import proofs.«01_k».proof.Proof.Gen.KeyNormRefIdeal.Read

@[expose] public section

set_option maxRecDepth 16384

/-! The gradient of the norm of the keys and the chain rule's lines compute the same arrays. -/

namespace Cert.KeyNormRefIdeal.Point

open Cert.KeyNormRefIdeal Cert.KeyNormRefIdeal.Read Idealize.ShloMosaic Idealize.ShloMosaic.TcCoe Idealize.SL.Sem
open Cert.XattnIdeal.Point (col headOf inHead)
open Cert.XattnRefIdeal.Point (sum01)
open Cert.HeadLoad
open Cert.MemPreIdeal.Point (headKey)
open Cert.KeyNormIdeal.Point (headDk keyGrad both headG scaleRow)

variable (x0 : Vec Ideal S256x2048 .f32) (x1 x2 : Vec Ideal S256x1024 .f32) (x3 : Vec Ideal S1x256 .f32)

theorem ref2 (j : Fin 256) (h : Fin 4) (d : Fin 256) : val_main_v2 (F := Ideal) x0 (ix3 j h d) = headKey x0 j h d := by
  unfold headKey
  rw [val_main_v2_apply, val_main_v0_apply]
  blk_ext [idx_main_v2, idx_main_v0, col, colK]

theorem ref20 (j : Fin 256) (h : Fin 4) (d : Fin 256) : val_main_v20 (F := Ideal) x1 (ix3 j h d) = headDk x1 j h d := by
  unfold headDk
  rw [val_main_v20_apply]
  blk_ext [idx_main_v20, col]

theorem ref10 (j : Fin 256) (h : Fin 4) :
    val_main_v10 (F := Ideal) x0 (ix3 j h 0) = RowNorm.rstd 0x43800000#32 (headKey x0 j h) := by
  pointwise [val_main_v10, val_main_v9, val_main_v8, val_main_v7, val_main_v6, val_main_v5, val_main_v4, val_main_v3, val_main_cst,
    val_main_cst_0, val_main_cst_1, RowNorm.rstd, RowNorm.meanSq]
  simp only [ref2]

theorem ref13 (j : Fin 256) (h : Fin 4) :
    val_main_v13 (F := Ideal) x0 (ix3 j h 0) = RowNorm.meanFactor 0x43800000#32 (headKey x0 j h) := by
  rw [RowNorm.meanFactor, ← ref10]
  pointwise [val_main_v13, val_main_v12, val_main_v11, val_main_cst_2, val_main_v9, val_main_v8, val_main_v7, val_main_v6, val_main_v5,
    val_main_v4, val_main_v3, val_main_cst, val_main_cst_0, val_main_cst_1, RowNorm.meanSq]
  simp only [ref2]

theorem ref25 (j : Fin 256) (h : Fin 4) (d : Fin 256) :
    val_main_v25 (F := Ideal) x1 x3 (ix3 j h d) = headDk x1 j h d * x3 (ix2 0 d) := by
  pointwise [val_main_v25, val_main_v24, val_main_v16]
  rw [ref20]

/-- The keys' gradient in the reference. -/
theorem ref41 (j : Fin 256) (h : Fin 4) (d : Fin 256) : val_main_v41 (F := Ideal) x0 x1 x3 (ix3 j h d)
    = RowNorm.normGrad 0x43800000#32 (headKey x0 j h) (fun d => headDk x1 j h d * x3 (ix2 0 d)) d := by
  rw [← RowNorm.chainGrad_eq _ 256 (by norm_num) Xattn.const_256, RowNorm.chainGrad, ← ref13, ← ref10]
  pointwise [val_main_v41, val_main_v40, val_main_v39, val_main_v38, val_main_v37, val_main_v36, val_main_cst_7, val_main_v35,
    val_main_v34, val_main_cst_6, val_main_v33, val_main_v32, val_main_v31, val_main_v30, val_main_v29, val_main_cst_5, val_main_v28]
  simp only [Fin.sum_univ_one, ref2, ref25]

theorem ref42 (j : Fin 256) (n : Fin 1024) : val_main_v42 (F := Ideal) x0 x1 x3 (ix2 j n) = keyGrad x0 x1 x3 j n := by
  refine (val_main_v42_apply ..).trans (Eq.trans ?_ (ref41 x0 x1 x3 j (headOf n) (inHead n)))
  blk_ext [idx_main_v42, headOf, inHead]

/-- The two gradients side by side in the reference. -/
theorem ref44 (j : Fin 256) (n : Fin 2048) : val_main_v44 (F := Ideal) x0 x1 x2 x3 (ix2 j n) = both x0 x1 x2 x3 j n := by
  refine (val_main_v44_apply ..).trans ?_
  change val_main_v43 (F := Ideal) x0 x1 x2 x3 (ix2 j n) = _
  unfold val_main_v43 both
  simp only [← ref42]
  generalize val_main_v42 (F := Ideal) x0 x1 x3 = a
  pointwise

/-- One head's rows in the gradient of the scale. -/
theorem ref22 (d : Fin 256) : val_main_v22 (F := Ideal) x0 x1 (ix1 d) = ∑ h, headG x0 x1 h d := by
  have e : val_main_v22 (F := Ideal) x0 x1 (ix1 d)
      = val_main_cst_3 (F := Ideal) (Shape.Idx.first Gen.h_S_) + ∑ s, ∑ h, val_main_v21 (F := Ideal) x0 x1 (ix3 s h d) :=
    sum01 _ _ _ d
  rw [e, Finset.sum_comm]
  pointwise [val_main_cst_3, val_main_v21, val_main_v15, val_main_v14]
  simp only [ref2, ref10, ref20]
  refine Finset.sum_congr rfl fun h _ => Finset.sum_congr rfl fun s _ => ?_
  rw [RowNorm.scaleGrad, mul_comm, ← mul_assoc]

theorem ref26 (d : Fin 256) : val_main_v26 (F := Ideal) x0 x1 (ix1 d) = ∑ h, headG x0 x1 h d := by
  have e : val_main_v26 (F := Ideal) x0 x1 (ix1 d)
      = val_main_cst_4 (F := Ideal) (Shape.Idx.first Gen.h_S_)
        + ∑ a : Fin 1, ∑ b : Fin 1, val_main_v23 (F := Ideal) x0 x1 (ix3 a b d) :=
    sum01 _ _ _ d
  rw [e, Fin.sum_univ_one, Fin.sum_univ_one, ← ref22 x0 x1]
  pointwise [val_main_cst_4, val_main_v23]

/-- The gradient of the norm's scale in the reference. -/
theorem ref46 (a : Fin 8) (d : Fin 256) : val_main_v46 (F := Ideal) x0 x1 (ix2 a d) = scaleRow x0 x1 a d := by
  rw [scaleRow, ← ref26 x0 x1]
  pointwise [val_main_v46, val_main_v45, val_main_cst_8, val_main_v27]
  by_cases h : a.val = 0
  · rw [dif_pos (show a.val < 1 by omega), if_pos h]
  · rw [dif_neg (show ¬ a.val < 1 by omega), if_neg h]

end Cert.KeyNormRefIdeal.Point

namespace Cert.Proof

open Idealize.ShloMosaic Idealize.ShloMosaic.TcCoe Idealize.SL.Sem
open Cert.KeyNormIdeal.Point Cert.KeyNormRefIdeal.Point

/-- The gradient of the norm of the keys and the chain rule's lines compute the same two arrays. -/
theorem algebraic_key_norm : Cert.algebraic_KeyNormIdeal_KeyNormRefIdeal := by
  intro m g m' g' hpre hagree
  refine ⟨resB m, resG m, ?_, ?_⟩
  · refine (θ_run _ _ _).mono (fun r h c => ?_) (Cert.KeyNormIdeal.Value.run_blocks m g)
    obtain ⟨h4, h5, ha⟩ := h c
    exact ⟨h4.trans (final4 m c), h5.trans (final5 m c), ha⟩
  · refine (θ_run _ _ _).mono (fun r h c => ?_) (Cert.KeyNormRefIdeal.Value.run m' g')
    obtain ⟨h44, h46, ha⟩ := h c
    obtain ⟨e0, e1, e2, e3⟩ := hagree c
    refine ⟨h44.trans ?_, h46.trans ?_, ha⟩
    · rw [Cert.KeyNormRefIdeal.Read.val_main_v44_eq]
      change Cert.KeyNormRefIdeal.Read.val_main_v44 (F := Ideal)
        (m' ((c.tc : Thread Cert.KeyNormRefIdeal.nD Cert.KeyNormRefIdeal.τ).loc Cert.KeyNormRefIdeal.main_arg0))
        (m' ((c.tc : Thread Cert.KeyNormRefIdeal.nD Cert.KeyNormRefIdeal.τ).loc Cert.KeyNormRefIdeal.main_arg1))
        (m' ((c.tc : Thread Cert.KeyNormRefIdeal.nD Cert.KeyNormRefIdeal.τ).loc Cert.KeyNormRefIdeal.main_arg2))
        (m' ((c.tc : Thread Cert.KeyNormRefIdeal.nD Cert.KeyNormRefIdeal.τ).loc Cert.KeyNormRefIdeal.main_arg3)) = _
      rw [e0, e1, e2, e3]
      funext j
      idx_vars j
      exact ref44 _ _ _ _ j0 j1
    · rw [Cert.KeyNormRefIdeal.Read.val_main_v46_eq]
      change Cert.KeyNormRefIdeal.Read.val_main_v46 (F := Ideal)
        (m' ((c.tc : Thread Cert.KeyNormRefIdeal.nD Cert.KeyNormRefIdeal.τ).loc Cert.KeyNormRefIdeal.main_arg0))
        (m' ((c.tc : Thread Cert.KeyNormRefIdeal.nD Cert.KeyNormRefIdeal.τ).loc Cert.KeyNormRefIdeal.main_arg1)) = _
      rw [e0, e1]
      funext j
      idx_vars j
      exact ref46 _ _ j0 j1

end Cert.Proof
-- ==== Proof.MemPreClaim.lean ====
module

public import proofs.«01_k».proof.Defs
public import proofs.«01_k».proof.Proof.MemPreKernel
public import proofs.«01_k».proof.Proof.Gen.MemPreRefIdeal.Run
public import proofs.«01_k».proof.Proof.Gen.MemPreRefIdeal.Read

@[expose] public section

set_option maxRecDepth 16384

/-! The cross-attention's normed keys and values and the reference's lines compute the same arrays. -/

namespace Cert.MemPreRefIdeal.Point

open Cert.MemPreRefIdeal Cert.MemPreRefIdeal.Read Idealize.ShloMosaic Idealize.ShloMosaic.TcCoe Idealize.SL.Sem
open Cert.XattnIdeal.Point (col headOf inHead)
open Cert.HeadLoad Cert.MemPreIdeal.Point

variable (x0 : Vec Ideal S256x2048 .f32) (x1 : Vec Ideal S1x256 .f32)

theorem ref2 (j : Fin 256) (h : Fin 4) (d : Fin 256) : val_main_v2 (F := Ideal) x0 (ix3 j h d) = headKey x0 j h d := by
  unfold headKey
  rw [val_main_v2_apply, val_main_v0_apply]
  blk_ext [idx_main_v2, idx_main_v0, col, colK]

theorem ref10 (j : Fin 256) (h : Fin 4) :
    val_main_v10 (F := Ideal) x0 (ix3 j h 0) = RowNorm.rstd 0x43800000#32 (headKey x0 j h) := by
  pointwise [val_main_v10, val_main_v9, val_main_v8, val_main_v7, val_main_v6, val_main_v5, val_main_v4, val_main_v3, val_main_cst,
    val_main_cst_0, val_main_cst_1, RowNorm.rstd, RowNorm.meanSq]
  simp only [ref2]

theorem ref15 (j : Fin 256) (h : Fin 4) (d : Fin 256) :
    val_main_v15 (F := Ideal) x0 x1 (ix3 j h d) = Xattn.qn (fun d => x1 (ix2 0 d)) (headKey x0 j h) d := by
  pointwise [val_main_v15, val_main_v14, val_main_v13, val_main_v12, val_main_v11]
  rw [ref2, ref10]
  rfl

/-- The normed keys in the reference. -/
theorem ref17 (j : Fin 256) (n : Fin 1024) : val_main_v17 (F := Ideal) x0 x1 (ix2 j n) = keys x1 x0 (ix2 j n) := by
  refine Eq.trans ?_ (ref15 x0 x1 j (headOf n) (inHead n))
  refine (val_main_v17_apply ..).trans ((val_main_v16_apply ..).trans ?_)
  blk_ext [idx_main_v16, headOf, inHead]

/-- The values in the reference. -/
theorem ref18 (j : Fin 256) (n : Fin 1024) : val_main_v18 (F := Ideal) x0 (ix2 j n) = vals x0 (ix2 j n) := by
  refine (val_main_v18_apply ..).trans ((val_main_v1_apply ..).trans ?_)
  change _ = x0 (ix2 j (colV n))
  blk_ext [idx_main_v1, colV]

end Cert.MemPreRefIdeal.Point

namespace Cert.Proof

open Idealize.ShloMosaic Idealize.ShloMosaic.TcCoe Idealize.SL.Sem
open Cert.MemPreIdeal.Point Cert.MemPreRefIdeal.Point

/-- The call that norms the keys and the reference's lines compute the same two arrays. -/
theorem algebraic_mem_pre : Cert.algebraic_MemPreIdeal_MemPreRefIdeal := by
  intro m g m' g' hpre hagree
  refine ⟨fun c => keys (m ((c.tc : Thread Cert.MemPreIdeal.nD Cert.MemPreIdeal.τ).loc Cert.MemPreIdeal.main_arg1))
      (m ((c.tc : Thread Cert.MemPreIdeal.nD Cert.MemPreIdeal.τ).loc Cert.MemPreIdeal.main_arg0)),
    fun c => vals (m ((c.tc : Thread Cert.MemPreIdeal.nD Cert.MemPreIdeal.τ).loc Cert.MemPreIdeal.main_arg0)), ?_, ?_⟩
  · refine (θ_run _ _ _).mono (fun r h c => ?_) (Cert.MemPreIdeal.Value.run m g)
    obtain ⟨h2, h3, ha⟩ := h c
    exact ⟨h2.trans (keys_eq _ _), h3.trans (vals_eq _ _), ha⟩
  · refine (θ_run _ _ _).mono (fun r h c => ?_) (Cert.MemPreRefIdeal.Value.run m' g')
    obtain ⟨h17, h18, ha⟩ := h c
    obtain ⟨e0, e1⟩ := hagree c
    refine ⟨h17.trans ?_, h18.trans ?_, ha⟩
    · rw [Cert.MemPreRefIdeal.Read.val_main_v17_eq]
      change Cert.MemPreRefIdeal.Read.val_main_v17 (F := Ideal)
        (m' ((c.tc : Thread Cert.MemPreRefIdeal.nD Cert.MemPreRefIdeal.τ).loc Cert.MemPreRefIdeal.main_arg0))
        (m' ((c.tc : Thread Cert.MemPreRefIdeal.nD Cert.MemPreRefIdeal.τ).loc Cert.MemPreRefIdeal.main_arg1)) = _
      rw [e0, e1]
      funext j
      idx_vars j
      exact ref17 _ _ j0 j1
    · rw [Cert.MemPreRefIdeal.Read.val_main_v18_eq]
      change Cert.MemPreRefIdeal.Read.val_main_v18 (F := Ideal)
        (m' ((c.tc : Thread Cert.MemPreRefIdeal.nD Cert.MemPreRefIdeal.τ).loc Cert.MemPreRefIdeal.main_arg0)) = _
      rw [e0]
      funext j
      idx_vars j
      exact ref18 _ j0 j1

end Cert.Proof
-- ==== Proof.MixInKernel.lean ====
module

public import proofs.«01_k».proof.Proof.Gen.MixInIdeal.Value
public import proofs.«01_k».proof.Proof.RowNorm
public import Idealize.ShloMosaic.Lib.Pipeline.ReadBack

@[expose] public section

set_option maxRecDepth 16384

noncomputable section

/-! The mixer's norm and input projection: what each point stores, and the two arrays after the run. -/

namespace Cert.MixInIdeal.Point

open Cert.MixInIdeal Cert.MixInIdeal.Gen Idealize.ShloMosaic Idealize.ShloMosaic.TcCoe Idealize.SL.Sem
open Idealize.ShloMosaic.Pipeline (Dat)

variable (m : (ℓ : Loc nD τ sig) → Buf (Elt Ideal) ℓ)

/-- A row of the normed input. -/
theorem pay1_apply (x : Vec Ideal S1024x1024 .f32) (g : Vec Ideal S1x1024 .f32) (r n : Fin 1024) :
    k0_pay1 x g (ix2 r n) = x (ix2 r n) * RowNorm.rstd 0x44800000#32 (fun j => x (ix2 r j)) * g (ix2 0 n) := by
  pointwise [k0_pay1, RowNorm.rstd, RowNorm.meanSq]

/-- The product of a block of normed rows with the weights. -/
theorem pay2_apply (h : Vec Ideal S1024x1024 .bf16) (w : Vec Ideal S1x1024x2048 .bf16) (r : Fin 1024) (l : Fin 2048) :
    k0_pay2 h w (ix2 r l) = ∑ n, h (ix2 r n) * w (ix3 0 n l) := by
  pointwise [k0_pay2]

/-- Where each window's block lies at each point. -/
theorem idx : ∀ t : Fin cfg0.N, win0_0.index t = ![t.val, 0] ∧ win0_1.index t = ![0, 0] ∧ win0_2.index t = ![0, 0, 0]
    ∧ win0_3.index t = ![t.val, 0] ∧ win0_4.index t = ![t.val, 0] ∧ (grid0.coords t 1).val = 0 ∧ t.val < 8 :=
  (by decide +kernel : ∀ t : Fin grid0.N, _)

/-- The array's row that lies at row `r` of a point's block. -/
def row (t : Fin cfg0.N) (r : Fin 1024) : Fin 8192 := ⟨1024 * t.val + r.val, by have := t.isLt; have : cfg0.N = 8 := rfl; omega⟩

/-- The layer's input, by row and column. -/
def argX (c : Dev nD) (s : Fin 8192) (n : Fin 1024) : EReal := m ((c : Thread nD τ).loc main_arg0) (ix2 s n)
/-- The norm's scale. -/
def argG (c : Dev nD) (n : Fin 1024) : EReal := m ((c : Thread nD τ).loc main_arg1) (ix2 0 n)
/-- The weights. -/
def argW (c : Dev nD) (n : Fin 1024) (l : Fin 2048) : EReal := m ((c : Thread nD τ).loc main_arg2) (ix3 0 n l)

/-- The normed input. -/
def resH (c : Dev nD) (s : Fin 8192) (n : Fin 1024) : EReal := argX m c s n * RowNorm.rstd 0x44800000#32 (argX m c s) * argG m c n
/-- The projection. -/
def resO (c : Dev nD) (s : Fin 8192) (l : Fin 2048) : EReal := ∑ n, resH m c s n * argW m c n l
/-- The first result's array. -/
def outH (c : Dev nD) (j : S8192x1024.Idx) : EReal := resH m c (j 0) (j 1)
/-- The second result's array. -/
def outO (c : Dev nD) (j : S8192x2048.Idx) : EReal := resO m c (j 0) (j 1)

theorem blockX (c : Dev nD) (t : Fin cfg0.N) (r n : Fin 1024) : iblk m c 0 t (ix2 r n) = argX m c (row t r) n := by
  unfold argX row
  blk_point [iblk, V, idx t]

theorem blockG (c : Dev nD) (t : Fin cfg0.N) (n : Fin 1024) : iblk m c 1 t (ix2 0 n) = argG m c n := by
  unfold argG
  blk_point [iblk, V, idx t]

theorem blockW (c : Dev nD) (t : Fin cfg0.N) (n : Fin 1024) (l : Fin 2048) : iblk m c 2 t (ix3 0 n l) = argW m c n l := by
  unfold argW
  blk_point [iblk, V, idx t]

/-- The normed rows of a point. -/
theorem h_row (c : Dev nD) (t : Fin cfg0.N) (r n : Fin 1024) : k0_pay1 (iblk m c 0 t) (iblk m c 1 t) (ix2 r n) = resH m c (row t r) n := by
  rw [pay1_apply, blockG, blockX]
  simp only [blockX]
  rfl

/-- The projection's rows of a point. -/
theorem o_row (c : Dev nD) (t : Fin cfg0.N) (h : Vec Ideal S1024x1024 .bf16) (w : Vec Ideal S1x1024x2048 .bf16) (r : Fin 1024) (l : Fin 2048)
    (hh : ∀ n, h (ix2 r n) = resH m c (row t r) n) (hw : ∀ n, w (ix3 0 n l) = iblk m c 2 t (ix3 0 n l)) :
    k0_pay2 h w (ix2 r l) = resO m c (row t r) l := by
  rw [pay2_apply]
  exact Finset.sum_congr rfl fun n _ => Ideal.mul_congr (hh n) ((hw n).trans (blockW m c t n l))

/-- The normed input. -/
theorem final3 (c : Dev nD) : (dats m 0 c).arrAt 3 (cfgs 0).N = outH m c := by
  refine (dats m 0 c).arrAt_eq_of_covers 3 _ (by decide +kernel) fun t hf y => ?_
  idx_vars y
  have he : ((cfg0.win 3).blk t).view.emb (ix2 y0 y1) = ix2 (row t y0) y1 := by
    unfold row
    blk_ext [idx t]
  blk_simp
  refine Eq.trans ?_ (congrArg (outH m c) he).symm
  rw [after0_3]
  unfold outsAt0
  frame_open
  simp (disch := decide) only [↓ View.readCov_skip, ↓ View.readCov_cons_toLoadRect, ↓ View.readCov_fill]
  frame_out
  exact h_row m c t y0 y1

/-- The projection. -/
theorem final4 (c : Dev nD) : (dats m 0 c).arrAt 4 (cfgs 0).N = outO m c := by
  refine (dats m 0 c).arrAt_eq_of_covers 4 _ (by decide +kernel) fun t hf y => ?_
  idx_vars y
  have he : ((cfg0.win 4).blk t).view.emb (ix2 y0 y1) = ix2 (row t y0) y1 := by
    unfold row
    blk_ext [idx t]
  blk_simp
  refine Eq.trans ?_ (congrArg (outO m c) he).symm
  rw [after0_4]
  unfold outsAt0
  frame_open
  simp (disch := decide) only [↓ View.readCov_skip, ↓ View.readCov_cons_toLoadRect, ↓ View.readCov_fill]
  frame_out
  refine o_row m c t _ _ y0 y1 (fun n => h_row m c t y0 n) fun n => ?_
  obtain ⟨-, -, -, -, -, h1, -⟩ := idx t
  pointwise
  blk_ext [k0_off1, h1]
  rfl

end Cert.MixInIdeal.Point
end
-- ==== Proof.MixInClaim.lean ====
module

public import proofs.«01_k».proof.Defs
public import proofs.«01_k».proof.Proof.MixInKernel
public import proofs.«01_k».proof.Proof.Gen.MixInRefIdeal.Run
public import proofs.«01_k».proof.Proof.Gen.MixInRefIdeal.Read

@[expose] public section

set_option maxRecDepth 16384

/-! The mixer's norm and input projection and the reference's lines compute the same arrays. -/

namespace Cert.MixInRefIdeal.Point

open Cert.MixInRefIdeal Cert.MixInRefIdeal.Read Idealize.ShloMosaic Idealize.ShloMosaic.TcCoe Idealize.SL.Sem

variable (x0 : Vec Ideal S8192x1024 .f32) (x1 : Vec Ideal S1x1024 .f32) (x2 : Vec Ideal S1x1024x2048 .bf16)

/-- The normed input in the reference. -/
theorem ref11 (s : Fin 8192) (n : Fin 1024) : val_main_v11 (F := Ideal) x0 x1 (ix2 s n)
    = x0 (ix2 s n) * RowNorm.rstd 0x44800000#32 (fun j => x0 (ix2 s j)) * x1 (ix2 0 n) := by
  unfold RowNorm.rstd RowNorm.meanSq
  pointwise [val_main_v11, val_main_v10, val_main_v9, val_main_v8, val_main_v7, val_main_v6, val_main_v5, val_main_v4, val_main_v3,
    val_main_v2, val_main_v1, val_main_v0, val_main_cst, val_main_cst_0, val_main_cst_1]

/-- The projection in the reference. -/
theorem ref16 (s : Fin 8192) (l : Fin 2048) : val_main_v16 (F := Ideal) x0 x1 x2 (ix2 s l)
    = ∑ n, x0 (ix2 s n) * RowNorm.rstd 0x44800000#32 (fun j => x0 (ix2 s j)) * x1 (ix2 0 n) * x2 (ix3 0 n l) := by
  refine Eq.trans ?_ (Finset.sum_congr rfl fun n _ => congrArg (· * x2 (ix3 0 n l)) (ref11 x0 x1 s n))
  unfold val_main_v16
  generalize val_main_v11 (F := Ideal) x0 x1 = a
  pointwise [val_main_v14, val_main_v13, val_main_v12]

end Cert.MixInRefIdeal.Point

namespace Cert.Proof

open Idealize.ShloMosaic Idealize.ShloMosaic.TcCoe Idealize.SL.Sem
open Cert.MixInIdeal.Point Cert.MixInRefIdeal.Point

/-- The mixer's norm and input projection and the reference's lines compute the same two arrays. -/
theorem algebraic_mix_in : Cert.algebraic_MixInIdeal_MixInRefIdeal := by
  intro m g m' g' hpre hagree
  refine ⟨outH m, outO m, ?_, ?_⟩
  · refine (θ_run _ _ _).mono (fun r h c => ?_) (Cert.MixInIdeal.Value.run_blocks m g)
    obtain ⟨h3, h4, ha⟩ := h c
    exact ⟨h3.trans (final3 m c), h4.trans (final4 m c), ha⟩
  · refine (θ_run _ _ _).mono (fun r h c => ?_) (Cert.MixInRefIdeal.Value.run m' g')
    obtain ⟨h15, h16, ha⟩ := h c
    obtain ⟨e0, e1, e2⟩ := hagree c
    refine ⟨h15.trans ?_, h16.trans ?_, ha⟩
    · rw [Cert.MixInRefIdeal.Read.val_main_v15_eq]
      change Cert.MixInRefIdeal.Read.val_main_v15 (F := Ideal)
        (m' ((c.tc : Thread Cert.MixInRefIdeal.nD Cert.MixInRefIdeal.τ).loc Cert.MixInRefIdeal.main_arg0))
        (m' ((c.tc : Thread Cert.MixInRefIdeal.nD Cert.MixInRefIdeal.τ).loc Cert.MixInRefIdeal.main_arg1)) = _
      rw [e0, e1]
      funext j
      idx_vars j
      exact (Cert.MixInRefIdeal.Read.val_main_v15_apply ..).trans (ref11 _ _ j0 j1)
    · rw [Cert.MixInRefIdeal.Read.val_main_v16_eq]
      change Cert.MixInRefIdeal.Read.val_main_v16 (F := Ideal)
        (m' ((c.tc : Thread Cert.MixInRefIdeal.nD Cert.MixInRefIdeal.τ).loc Cert.MixInRefIdeal.main_arg0))
        (m' ((c.tc : Thread Cert.MixInRefIdeal.nD Cert.MixInRefIdeal.τ).loc Cert.MixInRefIdeal.main_arg1))
        (m' ((c.tc : Thread Cert.MixInRefIdeal.nD Cert.MixInRefIdeal.τ).loc Cert.MixInRefIdeal.main_arg2)) = _
      rw [e0, e1, e2]
      funext j
      idx_vars j
      exact ref16 _ _ _ j0 j1

end Cert.Proof
-- ==== Proof.CrossHeads.lean ====
module

public import proofs.«01_k».proof.Proof.Gen.CrossIdeal.Value
public import proofs.«01_k».proof.Proof.XattnSpec
public import proofs.«01_k».proof.Proof.HeadLoad
public import proofs.«01_k».proof.Proof.FirstRow

@[expose] public section

set_option maxRecDepth 16384

noncomputable section

/-! The cross-attention block's forward call: what each step computes from its loads, by entry. -/

namespace Cert.CrossIdeal.Point

open Cert.CrossIdeal Cert.CrossIdeal.Gen Idealize.ShloMosaic Idealize.ShloMosaic.TcCoe Idealize.SL.Sem
open Cert.XattnIdeal.Point (col headOf inHead)
open Cert.HeadLoad

/-- A product of rows with the residual's rows added. -/
theorem pay1_apply (y : Vec Ideal S512x1024 .bf16) (w : Vec Ideal S1024x1024 .bf16) (x : Vec Ideal S512x1024 .f32) (r : Fin 512)
    (n : Fin 1024) : k0_pay1 y w x (ix2 r n) = (∑ k, y (ix2 r k) * w (ix2 k n)) + x (ix2 r n) := by
  pointwise [k0_pay1]

/-- A row of the norm. -/
theorem pay2_apply (v : Vec Ideal S512x1024 .f32) (g : Vec Ideal S1x1024 .f32) (r : Fin 512) (n : Fin 1024) :
    k0_pay2 v g (ix2 r n) = v (ix2 r n) * RowNorm.rstd 0x44800000#32 (fun k => v (ix2 r k)) * g (ix2 0 n) := by
  pointwise [k0_pay2, RowNorm.rstd, RowNorm.meanSq]

/-- The queries. -/
theorem pay3_apply (h : Vec Ideal S512x1024 .bf16) (w : Vec Ideal S1024x1024 .bf16) (r : Fin 512) (n : Fin 1024) :
    k0_pay3 h w (ix2 r n) = ∑ k, h (ix2 r k) * w (ix2 k n) := by
  pointwise [k0_pay3]

/-- The last product with the rows before the attention added. -/
theorem pay13_apply (o : Vec Ideal S512x1024 .bf16) (w : Vec Ideal S1024x1024 .bf16) (x : Vec Ideal S512x1024 .f32) (r : Fin 512)
    (n : Fin 1024) : k0_pay13 o w x (ix2 r n) = (∑ k, o (ix2 r k) * w (ix2 k n)) + x (ix2 r n) := by
  pointwise [k0_pay13]

section Head

variable (q : Vec Ideal S512x256 .f32) (g : Vec Ideal S1x256 .f32) (K V : Vec Ideal S256x256 .bf16)

/-- The mean squares' norm of each query, as a column. -/
def rs : FVec Ideal S512x1 .f32 :=
  rsqrt (addf (divf (shapeCast S512x1 (multiReduction .add [1] S512 (mulf (k0_pay5 q) (k0_pay5 q)) 0x00000000#32 reduces_S512x256_S512
    (.inl rfl) rfl) shapeCasts_S512_S512x1) (broadcast S512x1 (Scalar.ofBits .f32 0x43800000#32)))
    (broadcast S512x1 (Scalar.ofBits .f32 0x358637BD#32)))
/-- The scores of normed queries. -/
def sc (n : FVec Ideal S512x256 .f32) (K : FVec Ideal S256x256 .bf16) : FVec Ideal S512x256 .f32 :=
  mulf (matmul dot_S512x256_S256x256_S512x256_1_1_0_0_n_n none (truncf .bf16 n bitsLt_bf16_f32) K (constant S512x256 .f32 0x00000000#32))
    (broadcast S512x256 (Scalar.ofBits .f32 0x3D800000#32))
/-- The normed queries. -/
def nq : FVec Ideal S512x256 .f32 :=
  mulf (mulf (k0_pay5 q) (broadcastTo S512x256 (rs q) broadcasts_S512x1_S512x256)) (broadcastTo S512x256 g broadcasts_S1x256_S512x256)
/-- The exponentials of the scores less each row's largest. -/
def ex (s : FVec Ideal S512x256 .f32) : FVec Ideal S512x256 .f32 :=
  exp (subf s (broadcastTo S512x256 (shapeCast S512x1 (multiReduction .maximumf [1] S512 s 0xFF800000#32 reduces_S512x256_S512 (.inl rfl) rfl)
    shapeCasts_S512_S512x1) broadcasts_S512x1_S512x256))
/-- The weights from the exponentials. -/
def wt (e : FVec Ideal S512x256 .f32) : FVec Ideal S512x256 .f32 :=
  mulf e (broadcastTo S512x256 (divf (broadcast S512x1 (Scalar.ofBits .f32 0x3F800000#32)) (shapeCast S512x1 (multiReduction .add [1] S512 e
    0x00000000#32 reduces_S512x256_S512 (.inl rfl) rfl) shapeCasts_S512_S512x1)) broadcasts_S512x1_S512x256)
/-- A product of a head's weights with its values. -/
def outOf (p : FVec Ideal S512x256 .f32) (V : FVec Ideal S256x256 .bf16) : FVec Ideal S512x256 .bf16 :=
  truncf .bf16 (matmul dot_S512x256_S256x256_S512x256_1_0_0_1_n_n none (truncf .bf16 p bitsLt_bf16_f32) V
    (constant S512x256 .f32 0x00000000#32)) bitsLt_bf16_f32

theorem pay4_eq : k0_pay4 q g K V = outOf (wt (ex (sc (nq q g) K))) V := rfl

theorem rs_apply (r : Fin 512) : rs q (ix2 r 0) = RowNorm.rstd 0x43800000#32 fun d => q (ix2 r d) := by
  pointwise [rs, k0_pay5, RowNorm.rstd, RowNorm.meanSq]

theorem nq_apply (r : Fin 512) (d : Fin 256) : nq q g (ix2 r d) = Xattn.qn (fun d => g (ix2 0 d)) (fun d => q (ix2 r d)) d := by
  rw [Xattn.qn, ← rs_apply]
  pointwise [nq, k0_pay5]

theorem sc_apply (r : Fin 512) (j : Fin 256) : sc (nq q g) K (ix2 r j)
    = Xattn.score (fun d => g (ix2 0 d)) (fun d => q (ix2 r d)) (fun j d => K (ix2 j d)) j := by
  unfold Xattn.score Xattn.scale
  simp only [← nq_apply]
  pointwise [sc]

theorem ex_apply (s : FVec Ideal S512x256 .f32) (r : Fin 512) (j : Fin 256) : ex s (ix2 r j) = Xattn.expo (fun j => s (ix2 r j)) j := by
  unfold Xattn.expo Xattn.peak
  pointwise [ex]

theorem wt_apply (s : FVec Ideal S512x256 .f32) (r : Fin 512) (j : Fin 256) : wt (ex s) (ix2 r j) = Xattn.prob (fun j => s (ix2 r j)) j := by
  unfold Xattn.prob
  simp only [← ex_apply]
  pointwise [wt]

theorem outOf_apply (p : FVec Ideal S512x256 .f32) (V : FVec Ideal S256x256 .bf16) (r : Fin 512) (d : Fin 256) :
    outOf p V (ix2 r d) = ∑ j, p (ix2 r j) * V (ix2 j d) := by
  pointwise [outOf]

/-- One head's outputs. -/
theorem pay4_apply (r : Fin 512) (d : Fin 256) : k0_pay4 q g K V (ix2 r d)
    = ∑ j, Xattn.prob (Xattn.score (fun d => g (ix2 0 d)) (fun d => q (ix2 r d)) fun j d => K (ix2 j d)) j * V (ix2 j d) := by
  rw [pay4_eq, outOf_apply]
  refine Finset.sum_congr rfl fun j _ => congrArg (· * _) ?_
  rw [wt_apply, funext (sc_apply q g K r)]

theorem pay6_eq : k0_pay6 (k0_pay5 q) g K V = k0_pay4 q g K V := rfl
theorem pay9_eq : k0_pay9 (k0_pay7 q) g K (k0_pay8 q) V = k0_pay4 q g K V := rfl
theorem pay12_eq : k0_pay12 (k0_pay10 q) g K (k0_pay11 q) (Scalar.ofBits .f32 0x43800000#32) V = k0_pay4 q g K V := rfl

end Head

end Cert.CrossIdeal.Point
end
-- ==== Proof.CrossSpec.lean ====
module

public import proofs.«01_k».proof.Proof.XattnBlocks
public import proofs.«01_k».proof.Proof.HeadLoad

@[expose] public section

noncomputable section

/-! The cross-attention block's forward call: its five results by row and column. -/

namespace Cert.Cross

open Idealize.ShloMosaic
open Cert.XattnIdeal.Point (col headOf inHead)
open Cert.HeadLoad (Mat)

variable (y : Vec Ideal (Mat 8192 1024) .bf16) (w : Vec Ideal (Mat 1024 1024) .bf16) (x : Vec Ideal (Mat 8192 1024) .f32)
  (g : Vec Ideal (Mat 1 1024) .f32) (wq : Vec Ideal (Mat 1024 1024) .bf16) (kn vb : Vec Ideal (Mat 256 1024) .bf16)
  (gq : Vec Ideal (Mat 1 256) .f32) (wo : Vec Ideal (Mat 1024 1024) .bf16)

/-- The rows after the mixer: its output projected, the residual added. -/
def x1 (s : Fin 8192) (n : Fin 1024) : EReal := (∑ k, y (ix2 s k) * w (ix2 k n)) + x (ix2 s n)
/-- The normed rows. -/
def h (s : Fin 8192) (n : Fin 1024) : EReal := x1 y w x s n * RowNorm.rstd 0x44800000#32 (x1 y w x s) * g (ix2 0 n)
/-- The queries. -/
def q (s : Fin 8192) (l : Fin 1024) : EReal := ∑ n, h y w x g s n * wq (ix2 n l)
/-- The scale of the queries' norm. -/
def scale : Xattn.Vec1 := fun d => gq (ix2 0 d)
/-- A head's queries in one row. -/
def hq (s : Fin 8192) (i : Fin 4) : Xattn.Vec1 := fun d => q y w x g wq s (col i d)
/-- A head's keys. -/
def hk (i : Fin 4) : Xattn.Mat := fun j d => kn (ix2 j (col i d))
/-- A head's scores in one row. -/
def score (s : Fin 8192) (i : Fin 4) : Xattn.Vec1 := Xattn.score (scale gq) (hq y w x g wq s i) (hk kn i)
/-- The attention's outputs. -/
def o (s : Fin 8192) (n : Fin 1024) : EReal := ∑ j, Xattn.prob (score y w x g wq kn gq s (headOf n)) j * vb (ix2 j n)
/-- The rows after the attention. -/
def x2 (s : Fin 8192) (n : Fin 1024) : EReal := (∑ k, o y w x g wq kn vb gq s k * wo (ix2 k n)) + x1 y w x s n

end Cert.Cross

end
-- ==== Proof.CrossKernel.lean ====
module

public import proofs.«01_k».proof.Proof.CrossHeads
public import proofs.«01_k».proof.Proof.CrossSpec

@[expose] public section

set_option maxRecDepth 16384

noncomputable section

/-! The cross-attention block's forward call: what each point stores, and the five arrays after the run. -/

namespace Cert.CrossIdeal.Point

open Cert.CrossIdeal Cert.CrossIdeal.Gen Idealize.ShloMosaic Idealize.ShloMosaic.TcCoe Idealize.SL.Sem
open Cert.XattnIdeal.Point (col headOf inHead)
open Cert.HeadLoad

variable (m : (ℓ : Loc nD τ sig) → Buf (Elt Ideal) ℓ)

/-- Where each window's block lies at each point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0] ∧ t.val < 16 :=
  (by decide +kernel : ∀ t : Fin grid0.N, _)

/-- The array's row that lies at row `r` of a point's block. -/
def row (t : Fin cfg0.N) (r : Fin 512) : Fin 8192 := ⟨512 * t.val + r.val, by have := t.isLt; have : cfg0.N = 16 := rfl; omega⟩

/-- The mixer's output. -/
abbrev argY (c : Dev nD) : Vec Ideal S8192x1024 .bf16 := m ((c : Thread nD τ).loc main_arg0)
/-- The weights of the mixer's output projection. -/
abbrev argW (c : Dev nD) : Vec Ideal S1024x1024 .bf16 := m ((c : Thread nD τ).loc main_arg1)
/-- The residual. -/
abbrev argX (c : Dev nD) : Vec Ideal S8192x1024 .f32 := m ((c : Thread nD τ).loc main_arg2)
/-- The scale of the rows' norm. -/
abbrev argG (c : Dev nD) : Vec Ideal S1x1024 .f32 := m ((c : Thread nD τ).loc main_arg3)
/-- The weights of the queries. -/
abbrev argWq (c : Dev nD) : Vec Ideal S1024x1024 .bf16 := m ((c : Thread nD τ).loc main_arg4)
/-- The normed keys. -/
abbrev argK (c : Dev nD) : Vec Ideal S256x1024 .bf16 := m ((c : Thread nD τ).loc main_arg5)
/-- The values. -/
abbrev argV (c : Dev nD) : Vec Ideal S256x1024 .bf16 := m ((c : Thread nD τ).loc main_arg6)
/-- The scale of the queries' norm. -/
abbrev argGq (c : Dev nD) : Vec Ideal S1x256 .f32 := m ((c : Thread nD τ).loc main_arg7)
/-- The weights of the attention's output projection. -/
abbrev argWo (c : Dev nD) : Vec Ideal S1024x1024 .bf16 := m ((c : Thread nD τ).loc main_arg8)

theorem block0 (c : Dev nD) (t : Fin cfg0.N) (r : Fin 512) (n : Fin 1024) : iblk m c 0 t (ix2 r n) = argY m c (ix2 (row t r) n) := by
  unfold argY row
  blk_point [iblk, V, idx t]
theorem block2 (c : Dev nD) (t : Fin cfg0.N) (r : Fin 512) (n : Fin 1024) : iblk m c 2 t (ix2 r n) = argX m c (ix2 (row t r) n) := by
  unfold argX row
  blk_point [iblk, V, idx t]
theorem block1 (c : Dev nD) (t : Fin cfg0.N) : iblk m c 1 t = argW m c := by
  funext j
  idx_vars j
  unfold argW
  blk_point [iblk, V, idx t]
theorem block3 (c : Dev nD) (t : Fin cfg0.N) : iblk m c 3 t = argG m c := by
  funext j
  idx_vars j
  unfold argG
  blk_point [iblk, V, idx t]
theorem block4 (c : Dev nD) (t : Fin cfg0.N) : iblk m c 4 t = argWq m c := by
  funext j
  idx_vars j
  unfold argWq
  blk_point [iblk, V, idx t]
theorem block5 (c : Dev nD) (t : Fin cfg0.N) : iblk m c 5 t = argK m c := by
  funext j
  idx_vars j
  unfold argK
  blk_point [iblk, V, idx t]
theorem block6 (c : Dev nD) (t : Fin cfg0.N) : iblk m c 6 t = argV m c := by
  funext j
  idx_vars j
  unfold argV
  blk_point [iblk, V, idx t]
theorem block7 (c : Dev nD) (t : Fin cfg0.N) : iblk m c 7 t = argGq m c := by
  funext j
  idx_vars j
  unfold argGq
  blk_point [iblk, V, idx t]
theorem block8 (c : Dev nD) (t : Fin cfg0.N) : iblk m c 8 t = argWo m c := by
  funext j
  idx_vars j
  unfold argWo
  blk_point [iblk, V, idx t]

/-- The rows after the mixer. -/
abbrev fX1 (c : Dev nD) : Fin 8192 → Fin 1024 → EReal := Cross.x1 (argY m c) (argW m c) (argX m c)
/-- The normed rows. -/
abbrev fH (c : Dev nD) : Fin 8192 → Fin 1024 → EReal := Cross.h (argY m c) (argW m c) (argX m c) (argG m c)
/-- The queries. -/
abbrev fQ (c : Dev nD) : Fin 8192 → Fin 1024 → EReal := Cross.q (argY m c) (argW m c) (argX m c) (argG m c) (argWq m c)
/-- The attention's outputs. -/
abbrev fO (c : Dev nD) : Fin 8192 → Fin 1024 → EReal :=
  Cross.o (argY m c) (argW m c) (argX m c) (argG m c) (argWq m c) (argK m c) (argV m c) (argGq m c)
/-- The rows after the attention. -/
abbrev fX2 (c : Dev nD) : Fin 8192 → Fin 1024 → EReal :=
  Cross.x2 (argY m c) (argW m c) (argX m c) (argG m c) (argWq m c) (argK m c) (argV m c) (argGq m c) (argWo m c)
/-- A function of row and column as an array. -/
def arr (f : Fin 8192 → Fin 1024 → EReal) (j : S8192x1024.Idx) : EReal := f (j 0) (j 1)

section Steps

variable (c : Dev nD) (t : Fin cfg0.N) (r : Fin 512)

/-- What a point stores of the rows after the mixer. -/
abbrev stX1 : FVec Ideal S512x1024 .f32 := k0_pay1 (iblk m c 0 t) (argW m c) (iblk m c 2 t)
/-- What a point stores of the normed rows. -/
abbrev stH : FVec Ideal S512x1024 .bf16 := k0_pay2 (stX1 m c t) (argG m c)
/-- What a point stores of the queries. -/
abbrev stQ : FVec Ideal S512x1024 .f32 := k0_pay3 (stH m c t) (argWq m c)

theorem x1_row (n : Fin 1024) : stX1 m c t (ix2 r n) = fX1 m c (row t r) n := by
  refine (pay1_apply _ _ _ r n).trans ?_
  rw [block2]
  simp only [block0]
  rfl

theorem h_row (n : Fin 1024) : stH m c t (ix2 r n) = fH m c (row t r) n := by
  refine (pay2_apply _ _ r n).trans ?_
  simp only [x1_row]
  rfl

theorem q_row (n : Fin 1024) : stQ m c t (ix2 r n) = fQ m c (row t r) n := by
  refine (pay3_apply _ _ r n).trans ?_
  simp only [h_row]
  rfl

section Head

variable (o : ℕ) (h : Fin 4) (ho : o = 256 * h.val)
  (i : ∀ a, (![0, o] : Fin 2 → ℕ) a + (![512, 256] : Fin 2 → ℕ) a ≤ S512x1024.size a)
  (i' : ∀ a, (![0, o] : Fin 2 → ℕ) a + (![256, 256] : Fin 2 → ℕ) a ≤ S256x1024.size a)

/-- A head's queries as the kernel loads them. -/
abbrev ldQ : Vec Ideal S512x256 .f32 :=
  View.ld (Val := Elt Ideal) (S := S512x1024) (e' := .f32) (stQ m c t) (Rect.unit ![0, o] ![512, 256] i)
/-- A head's keys or values as the kernel loads them. -/
abbrev ldM (a : Vec Ideal S256x1024 .bf16) : Vec Ideal S256x256 .bf16 :=
  View.ld (Val := Elt Ideal) (S := S256x1024) (e' := .bf16) a (Rect.unit ![0, o] ![256, 256] i')

include ho in
theorem ldQ_row : (fun d => ldQ m c t o i (ix2 r d))
    = Cross.hq (argY m c) (argW m c) (argX m c) (argG m c) (argWq m c) (row t r) h :=
  funext fun d => (ld_cols (e := .f32) (stQ m c t) o i r d (col h d) (by subst ho; rfl)).trans (q_row m c t r (col h d))

include ho in
theorem ldM_at (a : Vec Ideal S256x1024 .bf16) (j d : Fin 256) : ldM o i' a (ix2 j d) = a (ix2 j (col h d)) :=
  ld_cols (e := .bf16) a o i' j d (col h d) (by subst ho; rfl)

include ho in
theorem head_out (d : Fin 256) (n : Fin 1024) (hn : n.val = o + d.val) :
    k0_pay4 (ldQ m c t o i) (argGq m c) (ldM o i' (argK m c)) (ldM o i' (argV m c)) (ix2 r d) = fO m c (row t r) n := by
  obtain rfl : n = col h d := Fin.ext (by subst ho; exact hn)
  rw [pay4_apply, ldQ_row m c t r o h ho i, show (fun j d => ldM o i' (argK m c) (ix2 j d)) = Cross.hk (argK m c) h from
    funext fun j => funext fun d => ldM_at o h ho i' _ j d]
  unfold fO Cross.o Cross.score
  rw [headOf_col]
  exact Finset.sum_congr rfl fun j _ => congrArg (_ * ·) (ldM_at o h ho i' _ j d)

end Head

/-- The four heads' outputs as the point stores them. -/
abbrev oPieces : List (View.Piece (Elt Ideal) S512x1024 .bf16) :=
  [⟨Rect.unit ![0, 768] ![512, 256] inb_S512x1024_S512x256_0_768,
      k0_pay12 (k0_pay10 (ldQ m c t 768 inb_S512x1024_S512x256_0_768)) (argGq m c) (ldM 768 inb_S256x1024_S256x256_0_768 (argK m c))
        (k0_pay11 (ldQ m c t 768 inb_S512x1024_S512x256_0_768)) (FloatOps.ofBits FTy.f32 0x43800000#32)
        (ldM 768 inb_S256x1024_S256x256_0_768 (argV m c))⟩,
    ⟨Rect.unit ![0, 512] ![512, 256] inb_S512x1024_S512x256_0_512,
      k0_pay9 (k0_pay7 (ldQ m c t 512 inb_S512x1024_S512x256_0_512)) (argGq m c) (ldM 512 inb_S256x1024_S256x256_0_512 (argK m c))
        (k0_pay8 (ldQ m c t 512 inb_S512x1024_S512x256_0_512)) (ldM 512 inb_S256x1024_S256x256_0_512 (argV m c))⟩,
    ⟨Rect.unit ![0, 256] ![512, 256] inb_S512x1024_S512x256_0_256,
      k0_pay6 (k0_pay5 (ldQ m c t 256 inb_S512x1024_S512x256_0_256)) (argGq m c) (ldM 256 inb_S256x1024_S256x256_0_256 (argK m c))
        (ldM 256 inb_S256x1024_S256x256_0_256 (argV m c))⟩,
    ⟨Rect.unit ![0, 0] ![512, 256] inb_S512x1024_S512x256_0_0,
      k0_pay4 (ldQ m c t 0 inb_S512x1024_S512x256_0_0) (argGq m c) (ldM 0 inb_S256x1024_S256x256_0_0 (argK m c))
        (ldM 0 inb_S256x1024_S256x256_0_0 (argV m c))⟩]

/-- The attention's outputs of a point. -/
theorem o_canon (n : Fin 1024) : View.canon (oPieces m c t) (ix2 r n) = fO m c (row t r) n := by
  refine FirstRow.canon_heads _ _ _ _ _ _ _ _ _ r n _ (fun d e => ?_) (fun d e => ?_) (fun d e => ?_) (fun d e => ?_)
  · exact (congrFun (pay12_eq ..) _).trans (head_out m c t r 768 3 rfl _ _ d n e)
  · exact (congrFun (pay9_eq ..) _).trans (head_out m c t r 512 2 rfl _ _ d n e)
  · exact (congrFun (pay6_eq ..) _).trans (head_out m c t r 256 1 rfl _ _ d n e)
  · exact head_out m c t r 0 0 rfl _ _ d n e

/-- The attention's outputs read back after they are stored. -/
abbrev oBack {κ : Kind} {sp : Space} (v : View sig κ sp S512x1024 .bf16)
    (i : ∀ a, (![0, 0] : Fin 2 → ℕ) a + (![512, 1024] : Fin 2 → ℕ) a ≤ S512x1024.size a) : Vec Ideal S512x1024 .bf16 :=
  v.readCov (oPieces m c t) (Rect.unit (s := S512x1024) ![0, 0] ![512, 1024] i).toLoadRect

theorem o_back {κ : Kind} {sp : Space} (v : View sig κ sp S512x1024 .bf16)
    (i : ∀ a, (![0, 0] : Fin 2 → ℕ) a + (![512, 1024] : Fin 2 → ℕ) a ≤ S512x1024.size a) (n : Fin 1024) :
    oBack m c t v i (ix2 r n) = fO m c (row t r) n := by
  unfold oBack
  rw [View.readCov_eq_canon']
  refine Eq.trans (congrArg (View.canon (oPieces m c t)) ?_) (o_canon m c t r n)
  change (Rect.unit (s := S512x1024) ![0, 0] ![512, 1024] i).emb (ix2 r n) = ix2 r n
  blk_ext

theorem x2_row (a : Vec Ideal S512x1024 .bf16) (ha : ∀ n, a (ix2 r n) = fO m c (row t r) n) (n : Fin 1024) :
    k0_pay13 a (argWo m c) (stX1 m c t) (ix2 r n) = fX2 m c (row t r) n := by
  refine (pay13_apply _ _ _ r n).trans ?_
  rw [x1_row]
  simp only [ha]
  rfl

end Steps

theorem final9 (c : Dev nD) : (dats m 0 c).arrAt 9 (cfgs 0).N = arr (fX1 m c) := by
  refine (dats m 0 c).arrAt_eq_of_covers 9 _ (by decide +kernel) fun t hf y => ?_
  idx_vars y
  have he : ((cfg0.win 9).blk t).view.emb (ix2 y0 y1) = ix2 (row t y0) y1 := by
    unfold row
    blk_ext [idx t]
  blk_simp
  refine Eq.trans ?_ (congrArg (arr (fX1 m c)) he).symm
  rw [after0_9]
  unfold outsAt0
  rw [block1, block3, block4, block5, block6, block7, block8]
  frame_open
  simp (disch := decide) only [↓ View.readCov_skip, ↓ View.readCov_cons_toLoadRect, ↓ View.readCov_fill]
  frame_out
  exact x1_row m c t y0 y1

theorem final10 (c : Dev nD) : (dats m 0 c).arrAt 10 (cfgs 0).N = arr (fH m c) := by
  refine (dats m 0 c).arrAt_eq_of_covers 10 _ (by decide +kernel) fun t hf y => ?_
  idx_vars y
  have he : ((cfg0.win 10).blk t).view.emb (ix2 y0 y1) = ix2 (row t y0) y1 := by
    unfold row
    blk_ext [idx t]
  blk_simp
  refine Eq.trans ?_ (congrArg (arr (fH m c)) he).symm
  rw [after0_10]
  unfold outsAt0
  rw [block1, block3, block4, block5, block6, block7, block8]
  frame_open
  simp (disch := decide) only [↓ View.readCov_skip, ↓ View.readCov_cons_toLoadRect, ↓ View.readCov_fill]
  frame_out
  exact h_row m c t y0 y1

theorem final11 (c : Dev nD) : (dats m 0 c).arrAt 11 (cfgs 0).N = arr (fQ m c) := by
  refine (dats m 0 c).arrAt_eq_of_covers 11 _ (by decide +kernel) fun t hf y => ?_
  idx_vars y
  have he : ((cfg0.win 11).blk t).view.emb (ix2 y0 y1) = ix2 (row t y0) y1 := by
    unfold row
    blk_ext [idx t]
  blk_simp
  refine Eq.trans ?_ (congrArg (arr (fQ m c)) he).symm
  rw [after0_11]
  unfold outsAt0
  rw [block1, block3, block4, block5, block6, block7, block8]
  frame_open
  simp (disch := decide) only [↓ View.readCov_skip, ↓ View.readCov_cons_toLoadRect, ↓ View.readCov_fill]
  frame_out
  exact q_row m c t y0 y1

theorem final12 (c : Dev nD) : (dats m 0 c).arrAt 12 (cfgs 0).N = arr (fO m c) := by
  refine (dats m 0 c).arrAt_eq_of_covers 12 _ (by decide +kernel) fun t hf y => ?_
  idx_vars y
  have he : ((cfg0.win 12).blk t).view.emb (ix2 y0 y1) = ix2 (row t y0) y1 := by
    unfold row
    blk_ext [idx t]
  blk_simp
  refine Eq.trans ?_ (congrArg (arr (fO m c)) he).symm
  rw [after0_12]
  unfold outsAt0
  rw [block1, block3, block4, block5, block6, block7, block8]
  frame_open
  simp (disch := decide) only [↓ View.readCov_skip, ↓ View.readCov_cons_toLoadRect, ↓ View.readCov_fill]
  frame_out
  exact o_canon m c t y0 y1

theorem final13 (c : Dev nD) : (dats m 0 c).arrAt 13 (cfgs 0).N = arr (fX2 m c) := by
  refine (dats m 0 c).arrAt_eq_of_covers 13 _ (by decide +kernel) fun t hf y => ?_
  idx_vars y
  have he : ((cfg0.win 13).blk t).view.emb (ix2 y0 y1) = ix2 (row t y0) y1 := by
    unfold row
    blk_ext [idx t]
  blk_simp
  refine Eq.trans ?_ (congrArg (arr (fX2 m c)) he).symm
  rw [after0_13]
  unfold outsAt0
  rw [block1, block3, block4, block5, block6, block7, block8]
  frame_open
  simp (disch := decide) only [↓ View.readCov_skip, ↓ View.readCov_cons_toLoadRect, ↓ View.readCov_fill]
  frame_out
  exact x2_row m c t y0 _ (fun n => o_back m c t y0 _ _ n) y1

end Cert.CrossIdeal.Point
end
-- ==== Proof.CrossRef.lean ====
module

public import proofs.«01_k».proof.Proof.CrossSpec
public import proofs.«01_k».proof.Proof.XattnRef
public import proofs.«01_k».proof.Proof.Gen.CrossRefIdeal.Read

@[expose] public section

set_option maxRecDepth 16384

noncomputable section

/-! The reference's lines of the cross-attention block, by row and column, in the kernel's form. -/

namespace Cert.CrossRefIdeal.Point

open Cert.CrossRefIdeal Cert.CrossRefIdeal.Read Idealize.ShloMosaic Idealize.ShloMosaic.TcCoe Idealize.SL.Sem
open Cert.XattnIdeal.Point (col headOf inHead)
open Cert.HeadLoad (col_self)
open Cert.XattnRefIdeal.Point (col_eq)

variable (x0 : Vec Ideal S8192x1024 .bf16) (x1 : Vec Ideal S1024x1024 .bf16) (x2 : Vec Ideal S8192x1024 .f32) (x3 : Vec Ideal S1x1024 .f32)
  (x4 : Vec Ideal S1024x1024 .bf16) (x5 x6 : Vec Ideal S256x1024 .bf16) (x7 : Vec Ideal S1x256 .f32) (x8 : Vec Ideal S1024x1024 .bf16)

theorem ref3 (s : Fin 8192) (n : Fin 1024) : val_main_v3 (F := Ideal) x0 x1 x2 (ix2 s n) = Cross.x1 x0 x1 x2 s n := by
  rw [Cross.x1, add_comm]
  pointwise [val_main_v3, val_main_v2, val_main_v1, val_main_v0]

theorem ref11 (s : Fin 8192) :
    val_main_v11 (F := Ideal) x0 x1 x2 (ix2 s 0) = RowNorm.rstd 0x44800000#32 (Cross.x1 x0 x1 x2 s) := by
  pointwise [val_main_v11, val_main_v10, val_main_v9, val_main_v8, val_main_v7, val_main_v6, val_main_v5, val_main_v4, val_main_cst,
    val_main_cst_0, val_main_cst_1, RowNorm.rstd, RowNorm.meanSq]
  simp only [ref3]

theorem ref15 (s : Fin 8192) (n : Fin 1024) : val_main_v15 (F := Ideal) x0 x1 x2 x3 (ix2 s n) = Cross.h x0 x1 x2 x3 s n := by
  pointwise [val_main_v15, val_main_v14, val_main_v13, val_main_v12]
  rw [ref3, ref11]
  rfl

theorem ref17 (s : Fin 8192) (l : Fin 1024) : val_main_v17 (F := Ideal) x0 x1 x2 x3 x4 (ix2 s l) = Cross.q x0 x1 x2 x3 x4 s l := by
  refine Eq.trans ?_ (Finset.sum_congr rfl fun n _ => congrArg (· * x4 (ix2 n l)) (ref15 x0 x1 x2 x3 s n))
  unfold val_main_v17
  generalize val_main_v15 (F := Ideal) x0 x1 x2 x3 = a
  pointwise [val_main_v16]

theorem ref20 (s : Fin 8192) (h : Fin 4) (d : Fin 256) :
    val_main_v20 (F := Ideal) x0 x1 x2 x3 x4 (ix3 s h d) = Cross.hq x0 x1 x2 x3 x4 s h d := by
  unfold Cross.hq
  rw [← ref17, val_main_v20_apply]
  blk_ext [idx_main_v20, col]

theorem ref28 (s : Fin 8192) (h : Fin 4) :
    val_main_v28 (F := Ideal) x0 x1 x2 x3 x4 (ix3 s h 0) = RowNorm.rstd 0x43800000#32 (Cross.hq x0 x1 x2 x3 x4 s h) := by
  pointwise [val_main_v28, val_main_v27, val_main_v26, val_main_v25, val_main_v24, val_main_v23, val_main_v22, val_main_v21, val_main_cst_2,
    val_main_cst_3, val_main_cst_4, RowNorm.rstd, RowNorm.meanSq]
  simp only [ref20]

theorem ref33 (s : Fin 8192) (h : Fin 4) (d : Fin 256) : val_main_v33 (F := Ideal) x0 x1 x2 x3 x4 x7 (ix3 s h d)
    = Xattn.qn (Cross.scale x7) (Cross.hq x0 x1 x2 x3 x4 s h) d := by
  pointwise [val_main_v33, val_main_v32, val_main_v31, val_main_v30, val_main_v29]
  rw [ref20, ref28]
  rfl

theorem ref34 (j : Fin 256) (h : Fin 4) (d : Fin 256) : val_main_v34 (F := Ideal) x5 (ix3 j h d) = Cross.hk x5 h j d := by
  pointwise [val_main_v34, val_main_v18]
  rw [col_eq]
  rfl

theorem ref35 (j : Fin 256) (h : Fin 4) (d : Fin 256) : val_main_v35 (F := Ideal) x6 (ix3 j h d) = x6 (ix2 j (col h d)) := by
  pointwise [val_main_v35, val_main_v19]
  rw [col_eq]

theorem ref36 (s : Fin 8192) (h : Fin 4) (j : Fin 256) : val_main_v36 (F := Ideal) x0 x1 x2 x3 x4 x5 x7 (ix3 h s j)
    = ∑ d, Xattn.qn (Cross.scale x7) (Cross.hq x0 x1 x2 x3 x4 s h) d * Cross.hk x5 h j d := by
  simp only [← ref33, ← ref34]
  unfold val_main_v36
  generalize val_main_v33 (F := Ideal) x0 x1 x2 x3 x4 x7 = a
  generalize val_main_v34 (F := Ideal) x5 = b
  pointwise

theorem ref38 (s : Fin 8192) (h : Fin 4) (j : Fin 256) : val_main_v38 (F := Ideal) x0 x1 x2 x3 x4 x5 x7 (ix3 h s j)
    = Cross.score x0 x1 x2 x3 x4 x5 x7 s h j := by
  rw [Cross.score, Xattn.score, ← ref36, Xattn.scale]
  pointwise [val_main_v38, val_main_v37, val_main_cst_5]

theorem cst6 : val_main_cst_6 (F := Ideal) (Shape.Idx.first Gen.h_S_) = Ideal.ofBits .f32 0xFF800000#32 := rfl

theorem fold39 (s : Fin 8192) (h : Fin 4) : val_main_v39 (F := Ideal) x0 x1 x2 x3 x4 x5 x7 (ix2 h s)
    = Finset.univ.fold max (val_main_cst_6 (F := Ideal) (Shape.Idx.first Gen.h_S_))
        (fun j => val_main_v38 (F := Ideal) x0 x1 x2 x3 x4 x5 x7 (ix3 h s j)) := by
  unfold val_main_v39
  generalize val_main_v38 (F := Ideal) x0 x1 x2 x3 x4 x5 x7 = a
  pointwise

theorem ref39 (s : Fin 8192) (h : Fin 4) :
    val_main_v39 (F := Ideal) x0 x1 x2 x3 x4 x5 x7 (ix2 h s) = Xattn.peak (Cross.score x0 x1 x2 x3 x4 x5 x7 s h) := by
  rw [fold39, funext (ref38 x0 x1 x2 x3 x4 x5 x7 s h), cst6, Xattn.peak]

theorem ref41 (s : Fin 8192) (h : Fin 4) :
    val_main_v41 (F := Ideal) x0 x1 x2 x3 x4 x5 x7 (ix2 h s) = Xattn.peak (Cross.score x0 x1 x2 x3 x4 x5 x7 s h) := by
  have e : val_main_v40 (F := Ideal) (ix2 h s) = Ideal.ofBits .f32 0xFF800000#32 := by
    pointwise [val_main_v40, val_main_cst_7]
  rw [val_main_v41_apply, e, ref39, Xattn.const_bot]
  generalize Xattn.peak (Cross.score x0 x1 x2 x3 x4 x5 x7 s h) = x
  exact max_eq_right bot_le

theorem ref45 (s : Fin 8192) (h : Fin 4) (j : Fin 256) : val_main_v45 (F := Ideal) x0 x1 x2 x3 x4 x5 x7 (ix3 h s j)
    = Xattn.expo (Cross.score x0 x1 x2 x3 x4 x5 x7 s h) j := by
  rw [Xattn.expo, ← ref38, ← ref41]
  pointwise [val_main_v45, val_main_v44, val_main_v43, val_main_v42]

theorem ref47 (s : Fin 8192) (h : Fin 4) : val_main_v47 (F := Ideal) x0 x1 x2 x3 x4 x5 x7 (ix3 h s 0)
    = ∑ j, Xattn.expo (Cross.score x0 x1 x2 x3 x4 x5 x7 s h) j := by
  simp only [← ref45]
  unfold val_main_v47 val_main_v46
  generalize val_main_v45 (F := Ideal) x0 x1 x2 x3 x4 x5 x7 = a
  pointwise [val_main_cst_8]

/-- Every score is a real number. -/
def RealScores : Prop := ∀ s h j, ∃ r : ℝ, Cross.score x0 x1 x2 x3 x4 x5 x7 s h j = r

variable (hS : RealScores x0 x1 x2 x3 x4 x5 x7)

include hS in
theorem ref49 (s : Fin 8192) (h : Fin 4) (j : Fin 256) : val_main_v49 (F := Ideal) x0 x1 x2 x3 x4 x5 x7 (ix3 h s j)
    = Xattn.prob (Cross.score x0 x1 x2 x3 x4 x5 x7 s h) j := by
  rw [← Xattn.prob_eq _ (hS s h) j, ← ref45, ← ref47]
  pointwise [val_main_v49, val_main_v48]

include hS in
theorem ref51 (s : Fin 8192) (h : Fin 4) (d : Fin 256) : val_main_v51 (F := Ideal) x0 x1 x2 x3 x4 x5 x6 x7 (ix3 s h d)
    = ∑ j, Xattn.prob (Cross.score x0 x1 x2 x3 x4 x5 x7 s h) j * x6 (ix2 j (col h d)) := by
  simp only [← ref49 x0 x1 x2 x3 x4 x5 x7 hS, ← ref35]
  unfold val_main_v51 val_main_v50
  generalize val_main_v49 (F := Ideal) x0 x1 x2 x3 x4 x5 x7 = a
  generalize val_main_v35 (F := Ideal) x6 = b
  refine Eq.trans ?_ (Finset.sum_congr rfl fun j _ => mul_comm (b (ix3 j h d)) (a (ix3 h s j)))
  pointwise

include hS in
theorem ref52 (s : Fin 8192) (n : Fin 1024) : val_main_v52 (F := Ideal) x0 x1 x2 x3 x4 x5 x6 x7 (ix2 s n)
    = Cross.o x0 x1 x2 x3 x4 x5 x6 x7 s n := by
  have e : val_main_v52 (F := Ideal) x0 x1 x2 x3 x4 x5 x6 x7 (ix2 s n)
      = val_main_v51 (F := Ideal) x0 x1 x2 x3 x4 x5 x6 x7 (ix3 s (headOf n) (inHead n)) := by
    rw [val_main_v52_apply]
    blk_ext [idx_main_v52, headOf, inHead]
  rw [e, ref51 x0 x1 x2 x3 x4 x5 x6 x7 hS, col_self]
  rfl

include hS in
theorem ref55 (s : Fin 8192) (n : Fin 1024) : val_main_v55 (F := Ideal) x0 x1 x2 x3 x4 x5 x6 x7 x8 (ix2 s n)
    = Cross.x2 x0 x1 x2 x3 x4 x5 x6 x7 x8 s n := by
  rw [Cross.x2, ← ref3, add_comm]
  simp only [← ref52 x0 x1 x2 x3 x4 x5 x6 x7 hS]
  unfold val_main_v55 val_main_v54
  generalize val_main_v52 (F := Ideal) x0 x1 x2 x3 x4 x5 x6 x7 = a
  generalize val_main_v3 (F := Ideal) x0 x1 x2 = b
  pointwise [val_main_v53]

end Cert.CrossRefIdeal.Point
end
-- ==== Proof.CrossClaim.lean ====
module

public import proofs.«01_k».proof.Defs
public import proofs.«01_k».proof.Proof.CrossKernel
public import proofs.«01_k».proof.Proof.CrossRef
public import proofs.«01_k».proof.Proof.GateClaim
public import proofs.«01_k».proof.Proof.Gen.CrossRefIdeal.Run

@[expose] public section

set_option maxRecDepth 16384

/-! The cross-attention block's forward call and the reference's lines compute the same arrays. -/

namespace Cert.Proof

open Idealize.ShloMosaic Idealize.ShloMosaic.TcCoe Idealize.SL.Sem
open Cert.CrossIdeal.Point Cert.CrossRefIdeal.Point

/-- Under the precondition the scores are real numbers. -/
theorem cross_scores [hPre : Cert.Pre_finite_keys.Facts] (m : (ℓ : Loc Cert.CrossIdeal.nD Cert.CrossIdeal.τ Cert.CrossIdeal.sig) → Buf (Elt Ideal) ℓ)
    (h : Cert.Pre_CrossIdeal_finite_keys m) (c : Dev Cert.CrossIdeal.nD) :
    RealScores (argY m c) (argW m c) (argX m c) (argG m c) (argWq m c) (argK m c) (argGq m c) := by
  obtain ⟨h5, h7⟩ := h c
  have hK : ∀ j n, ∃ r : ℝ, argK m c (ix2 j n) = r := fun j n => real_of_lt _ (congrFun h5 (ix2 j n))
  have hG : ∀ d, ∃ r : ℝ, argGq m c (ix2 0 d) = r := fun d => real_of_lt _ (congrFun h7 (ix2 0 d))
  exact fun s i j => Xattn.score_real _ _ _ hG (fun j d => hK j _) j

/-- The cross-attention block's forward call and the reference's lines compute the same five arrays, from real keys and a real scale
of the queries' norm. -/
theorem algebraic_cross [hPre : Cert.Pre_finite_keys.Facts] : Cert.algebraic_CrossIdeal_CrossRefIdeal_pre_finite_keys := by
  intro m g m' g' hpre hagree
  refine ⟨fun c => arr (fX1 m c), fun c => arr (fH m c), fun c => arr (fQ m c), fun c => arr (fO m c), fun c => arr (fX2 m c), ?_, ?_⟩
  · refine (θ_run _ _ _).mono (fun r h c => ?_) (Cert.CrossIdeal.Value.run_blocks m g)
    obtain ⟨h9, h10, h11, h12, h13, ha⟩ := h c
    exact ⟨h9.trans (final9 m c), h10.trans (final10 m c), h11.trans (final11 m c), h12.trans (final12 m c), h13.trans (final13 m c), ha⟩
  · refine (θ_run _ _ _).mono (fun r h c => ?_) (Cert.CrossRefIdeal.Value.run m' g')
    obtain ⟨h3, h56, h17, h57, h55, ha⟩ := h c
    obtain ⟨e0, e1, e2, e3, e4, e5, e6, e7, e8⟩ := hagree c
    have hS := cross_scores m hpre c
    refine ⟨h3.trans ?_, h56.trans ?_, h17.trans ?_, h57.trans ?_, h55.trans ?_, ha⟩
    · rw [Cert.CrossRefIdeal.Read.val_main_v3_eq]
      change Cert.CrossRefIdeal.Read.val_main_v3 (F := Ideal)
        (m' ((c.tc : Thread Cert.CrossRefIdeal.nD Cert.CrossRefIdeal.τ).loc Cert.CrossRefIdeal.main_arg0))
        (m' ((c.tc : Thread Cert.CrossRefIdeal.nD Cert.CrossRefIdeal.τ).loc Cert.CrossRefIdeal.main_arg1))
        (m' ((c.tc : Thread Cert.CrossRefIdeal.nD Cert.CrossRefIdeal.τ).loc Cert.CrossRefIdeal.main_arg2)) = _
      rw [e0, e1, e2]
      funext j
      idx_vars j
      exact ref3 _ _ _ j0 j1
    · rw [Cert.CrossRefIdeal.Read.val_main_v56_eq]
      change Cert.CrossRefIdeal.Read.val_main_v56 (F := Ideal)
        (m' ((c.tc : Thread Cert.CrossRefIdeal.nD Cert.CrossRefIdeal.τ).loc Cert.CrossRefIdeal.main_arg0))
        (m' ((c.tc : Thread Cert.CrossRefIdeal.nD Cert.CrossRefIdeal.τ).loc Cert.CrossRefIdeal.main_arg1))
        (m' ((c.tc : Thread Cert.CrossRefIdeal.nD Cert.CrossRefIdeal.τ).loc Cert.CrossRefIdeal.main_arg2))
        (m' ((c.tc : Thread Cert.CrossRefIdeal.nD Cert.CrossRefIdeal.τ).loc Cert.CrossRefIdeal.main_arg3)) = _
      rw [e0, e1, e2, e3]
      funext j
      idx_vars j
      exact (Cert.CrossRefIdeal.Read.val_main_v56_apply ..).trans (ref15 _ _ _ _ j0 j1)
    · rw [Cert.CrossRefIdeal.Read.val_main_v17_eq]
      change Cert.CrossRefIdeal.Read.val_main_v17 (F := Ideal)
        (m' ((c.tc : Thread Cert.CrossRefIdeal.nD Cert.CrossRefIdeal.τ).loc Cert.CrossRefIdeal.main_arg0))
        (m' ((c.tc : Thread Cert.CrossRefIdeal.nD Cert.CrossRefIdeal.τ).loc Cert.CrossRefIdeal.main_arg1))
        (m' ((c.tc : Thread Cert.CrossRefIdeal.nD Cert.CrossRefIdeal.τ).loc Cert.CrossRefIdeal.main_arg2))
        (m' ((c.tc : Thread Cert.CrossRefIdeal.nD Cert.CrossRefIdeal.τ).loc Cert.CrossRefIdeal.main_arg3))
        (m' ((c.tc : Thread Cert.CrossRefIdeal.nD Cert.CrossRefIdeal.τ).loc Cert.CrossRefIdeal.main_arg4)) = _
      rw [e0, e1, e2, e3, e4]
      funext j
      idx_vars j
      exact ref17 _ _ _ _ _ j0 j1
    · rw [Cert.CrossRefIdeal.Read.val_main_v57_eq]
      change Cert.CrossRefIdeal.Read.val_main_v57 (F := Ideal)
        (m' ((c.tc : Thread Cert.CrossRefIdeal.nD Cert.CrossRefIdeal.τ).loc Cert.CrossRefIdeal.main_arg0))
        (m' ((c.tc : Thread Cert.CrossRefIdeal.nD Cert.CrossRefIdeal.τ).loc Cert.CrossRefIdeal.main_arg1))
        (m' ((c.tc : Thread Cert.CrossRefIdeal.nD Cert.CrossRefIdeal.τ).loc Cert.CrossRefIdeal.main_arg2))
        (m' ((c.tc : Thread Cert.CrossRefIdeal.nD Cert.CrossRefIdeal.τ).loc Cert.CrossRefIdeal.main_arg3))
        (m' ((c.tc : Thread Cert.CrossRefIdeal.nD Cert.CrossRefIdeal.τ).loc Cert.CrossRefIdeal.main_arg4))
        (m' ((c.tc : Thread Cert.CrossRefIdeal.nD Cert.CrossRefIdeal.τ).loc Cert.CrossRefIdeal.main_arg5))
        (m' ((c.tc : Thread Cert.CrossRefIdeal.nD Cert.CrossRefIdeal.τ).loc Cert.CrossRefIdeal.main_arg6))
        (m' ((c.tc : Thread Cert.CrossRefIdeal.nD Cert.CrossRefIdeal.τ).loc Cert.CrossRefIdeal.main_arg7)) = _
      rw [e0, e1, e2, e3, e4, e5, e6, e7]
      funext j
      idx_vars j
      exact (Cert.CrossRefIdeal.Read.val_main_v57_apply ..).trans (ref52 _ _ _ _ _ _ _ _ hS j0 j1)
    · rw [Cert.CrossRefIdeal.Read.val_main_v55_eq]
      change Cert.CrossRefIdeal.Read.val_main_v55 (F := Ideal)
        (m' ((c.tc : Thread Cert.CrossRefIdeal.nD Cert.CrossRefIdeal.τ).loc Cert.CrossRefIdeal.main_arg0))
        (m' ((c.tc : Thread Cert.CrossRefIdeal.nD Cert.CrossRefIdeal.τ).loc Cert.CrossRefIdeal.main_arg1))
        (m' ((c.tc : Thread Cert.CrossRefIdeal.nD Cert.CrossRefIdeal.τ).loc Cert.CrossRefIdeal.main_arg2))
        (m' ((c.tc : Thread Cert.CrossRefIdeal.nD Cert.CrossRefIdeal.τ).loc Cert.CrossRefIdeal.main_arg3))
        (m' ((c.tc : Thread Cert.CrossRefIdeal.nD Cert.CrossRefIdeal.τ).loc Cert.CrossRefIdeal.main_arg4))
        (m' ((c.tc : Thread Cert.CrossRefIdeal.nD Cert.CrossRefIdeal.τ).loc Cert.CrossRefIdeal.main_arg5))
        (m' ((c.tc : Thread Cert.CrossRefIdeal.nD Cert.CrossRefIdeal.τ).loc Cert.CrossRefIdeal.main_arg6))
        (m' ((c.tc : Thread Cert.CrossRefIdeal.nD Cert.CrossRefIdeal.τ).loc Cert.CrossRefIdeal.main_arg7))
        (m' ((c.tc : Thread Cert.CrossRefIdeal.nD Cert.CrossRefIdeal.τ).loc Cert.CrossRefIdeal.main_arg8)) = _
      rw [e0, e1, e2, e3, e4, e5, e6, e7, e8]
      funext j
      idx_vars j
      exact ref55 _ _ _ _ _ _ _ _ _ hS j0 j1

end Cert.Proof
-- ==== Proof.AdamSpec.lean ====
module

public import Idealize.ShloMosaic.Lib.Pointwise

@[expose] public section

noncomputable section

/-! One element of an AdamW step: the moments, and the change of the weight. -/

namespace Cert.Adam

open Idealize.ShloMosaic

/-- A literal of 32 bits as the number it stands for. -/
abbrev lit (b : BitVec 32) : EReal := FloatOps.ofBits (F := Ideal) .f32 b

/-- The gradient's element: of the own half where the half's number is the core's, else of the other. -/
def pick (h : ℕ) (w : BitVec 32) (own other : EReal) : EReal := if BitVec.ofNat 32 h = w then own else other

theorem select_eq (h : ℕ) (w : BitVec 32) (own other : EReal) :
    Scalar.select (Scalar.cmpi .eq (BitVec.ofNat 32 h) w) own other = pick h w own other := by
  unfold pick Scalar.select Scalar.cmpi IntOp.cmpi
  by_cases e : BitVec.ofNat 32 h = w
  · simp [e]
  · have e' : (BitVec.ofNat 32 h == w) = false := by simp [e]
    simp only [e, e', if_false]
    rfl

theorem select_eq' (h : ℕ) (w : BitVec 32) (own other : EReal) :
    Scalar.select (IntOp.cmpi .eq w (BitVec.ofNat 32 h)) own other = pick h w own other := by
  refine Eq.trans ?_ (select_eq h w own other)
  unfold Scalar.cmpi IntOp.cmpi
  simp [eq_comm, Bool.beq_comm]

/-- The first moment. -/
def mom (g m : EReal) : EReal := lit 0x3F666666#32 * m + lit 0x3DCCCCCD#32 * g

/-- The second moment. -/
def var (g v : EReal) : EReal := lit 0x3F7FBE77#32 * v + lit 0x3A83126F#32 * (g * g)

/-- The change of the weight. -/
def delta (w g m v : EReal) : EReal :=
  lit 0xBA83126F#32 * (FloatOps.divf (F := Ideal) (φ := .f32) (FloatOps.divf (F := Ideal) (φ := .f32) (mom g m) (lit 0x3F26BD02#32))
      (FloatOps.sqrt (F := Ideal) (φ := .f32) (FloatOps.divf (F := Ideal) (φ := .f32) (var g v) (lit 0x3C231ACC#32)) + lit 0x322BCC77#32)
    + lit 0x3C23D70A#32 * w)

theorem delta_congr {w w' g g' m m' v v' : EReal} (hw : w = w') (hg : g = g') (hm : m = m') (hv : v = v') :
    delta w g m v = delta w' g' m' v' := by
  rw [hw, hg, hm, hv]

end Cert.Adam
end
-- ==== Proof.AdamInKernel.lean ====
module

public import proofs.«01_k».proof.Proof.Gen.AdamInIdeal.Frame
public import proofs.«01_k».proof.Proof.AdamSpec
public import Idealize.ShloMosaic.Lib.Pipeline.ValueKit
public import Idealize.ShloMosaic.Lib.Pipeline.ReadBack
public import Idealize.ShloMosaic.Lib.Pipeline.Covers

@[expose] public section

set_option maxRecDepth 16384

noncomputable section

/-! The optimiser's step on one matrix: what each point stores, and the four arrays after the run. -/

namespace Cert.AdamInIdeal.Point

open Cert.AdamInIdeal Cert.AdamInIdeal.Gen Idealize.ShloMosaic Idealize.ShloMosaic.TcCoe Idealize.SL.Sem
open Idealize.ShloMosaic.Pipeline (Dat)

variable (i : grid0.Coords) (w : BitVec 32) (own oth : Vec Ideal S256x448 .f32) (a b d : Vec Ideal S1x256x448 .f32) (r : Fin 256) (l : Fin 448)

/-- The gradient's element that a point uses. -/
def grad : EReal := Adam.pick (i 0).val w (own (ix2 r l)) (oth (ix2 r l))

theorem pay5_apply : k0_pay5 i w own oth (ix2 r l) = grad i w own oth r l := by
  pointwise [k0_pay5, grad]
  exact Adam.select_eq ..

theorem pay6_apply : k0_pay6 i w own oth b (ix2 r l) = Adam.mom (grad i w own oth r l) (b (ix3 0 r l)) := by
  rw [← pay5_apply]
  unfold Adam.mom k0_pay6
  generalize k0_pay5 i w own oth = g
  pointwise

theorem pay7_apply : k0_pay7 i w own oth d (ix2 r l) = Adam.var (grad i w own oth r l) (d (ix3 0 r l)) := by
  rw [← pay5_apply]
  unfold Adam.var k0_pay7
  generalize k0_pay5 i w own oth = g
  pointwise

theorem pay8_apply : k0_pay8 i w own oth a b d (ix2 r l)
    = Adam.delta (a (ix3 0 r l)) (grad i w own oth r l) (b (ix3 0 r l)) (d (ix3 0 r l)) := by
  unfold Adam.delta k0_pay8
  rw [← pay6_apply, ← pay7_apply]
  generalize k0_pay6 i w own oth b = p
  generalize k0_pay7 i w own oth d = q
  pointwise

theorem out1 (v : Vec Ideal S256x448 .f32) : k0_pay1 v (ix3 0 r l) = v (ix2 r l) := by
  pointwise [k0_pay1]
theorem out2 (v : FVec Ideal S256x448 .f32) : k0_pay2 v (ix3 0 r l) = v (ix2 r l) := by
  pointwise [k0_pay2]
theorem out3 (v : FVec Ideal S256x448 .f32) : k0_pay3 v (ix3 0 r l) = v (ix2 r l) := by
  pointwise [k0_pay3]
theorem out4 (v : FVec Ideal S256x448 .f32) : k0_pay4 v (ix3 0 r l) = v (ix2 r l) := by
  pointwise [k0_pay4]

/-- Where each window's block lies at each point. -/
theorem maps : ∀ t : Fin grid0.N, cc0_transform_0 (grid0.coords t) = ![0, t.val, 0] ∧ cc0_transform_1 (grid0.coords t) = ![0, t.val, 0]
    ∧ cc0_transform_2 (grid0.coords t) = ![0, t.val, 0] ∧ cc0_transform_3 (grid0.coords t) = ![t.val % 2, 0]
    ∧ cc0_transform_4 (grid0.coords t) = ![t.val % 2, 0] ∧ cc0_transform_5 (grid0.coords t) = ![0, t.val, 0]
    ∧ cc0_transform_6 (grid0.coords t) = ![0, t.val, 0] ∧ cc0_transform_7 (grid0.coords t) = ![0, t.val, 0]
    ∧ cc0_transform_8 (grid0.coords t) = ![0, t.val, 0] ∧ (grid0.coords t 0).val = t.val / 2 ∧ t.val < 4 := by
  decide +kernel

variable (m : (ℓ : Loc nD τ sig) → Buf (Elt Ideal) ℓ)

/-- No index map reads the table, so nothing is asked of its word. -/
theorem ok : Ok m := trivial

/-- The pipeline at the table's word. -/
abbrev cfg : Pipeline.Cfg sig Λ₀ := cfgM m (ok m)

/-- The array's row that lies at row `r` of a point's block. -/
def row (t : Fin grid0.N) (r : Fin 256) : Fin 1024 := ⟨256 * t.val + r.val, by have := t.isLt; have : grid0.N = 4 := rfl; omega⟩
/-- The row of a half of the gradient that lies there. -/
def half (s : Fin 1024) : Fin 512 := ⟨s.val % 512, Nat.mod_lt _ (by decide)⟩

/-- The weights. -/
def argW (c : Dev nD) (s : Fin 1024) (l : Fin 448) : EReal := m ((c : Thread nD τ).loc main_arg0) (ix3 0 s l)
/-- The first moments. -/
def argM (c : Dev nD) (s : Fin 1024) (l : Fin 448) : EReal := m ((c : Thread nD τ).loc main_arg1) (ix3 0 s l)
/-- The second moments. -/
def argV (c : Dev nD) (s : Fin 1024) (l : Fin 448) : EReal := m ((c : Thread nD τ).loc main_arg2) (ix3 0 s l)
/-- The core's number. -/
def core (c : Dev nD) : BitVec 32 := m ((c : Thread nD τ).loc main_arg5) (ix1 0)
/-- The gradient. -/
def resG (c : Dev nD) (s : Fin 1024) (l : Fin 448) : EReal :=
  Adam.pick (s.val / 512) (core m c) (m ((c : Thread nD τ).loc main_arg3) (ix2 (half s) l)) (m ((c : Thread nD τ).loc main_arg4) (ix2 (half s) l))

/-- The gradient's array. -/
def outG (c : Dev nD) (j : S1x1024x448.Idx) : EReal := resG m c (j 1) (j 2)
/-- The array of the weights' changes. -/
def outD (c : Dev nD) (j : S1x1024x448.Idx) : EReal :=
  Adam.delta (argW m c (j 1) (j 2)) (resG m c (j 1) (j 2)) (argM m c (j 1) (j 2)) (argV m c (j 1) (j 2))
/-- The array of the new first moments. -/
def outM (c : Dev nD) (j : S1x1024x448.Idx) : EReal := Adam.mom (resG m c (j 1) (j 2)) (argM m c (j 1) (j 2))
/-- The array of the new second moments. -/
def outV (c : Dev nD) (j : S1x1024x448.Idx) : EReal := Adam.var (resG m c (j 1) (j 2)) (argV m c (j 1) (j 2))

theorem idx (t : Fin (cfg m).N) : ((cfg m).win 0).index t = ![0, t.val, 0] ∧ ((cfg m).win 1).index t = ![0, t.val, 0]
    ∧ ((cfg m).win 2).index t = ![0, t.val, 0] ∧ ((cfg m).win 3).index t = ![t.val % 2, 0]
    ∧ ((cfg m).win 4).index t = ![t.val % 2, 0] ∧ ((cfg m).win 5).index t = ![0, t.val, 0]
    ∧ ((cfg m).win 6).index t = ![0, t.val, 0] ∧ ((cfg m).win 7).index t = ![0, t.val, 0]
    ∧ ((cfg m).win 8).index t = ![0, t.val, 0] ∧ (grid0.coords t 0).val = t.val / 2 ∧ t.val < 4 := maps t

theorem blockW (c : Dev nD) (t : Fin (cfg m).N) (r : Fin 256) (l : Fin 448) : iblk m (ok m) c 0 t (ix3 0 r l) = argW m c (row t r) l := by
  unfold argW row
  blk_point [iblk, V, idx m t]

theorem blockM (c : Dev nD) (t : Fin (cfg m).N) (r : Fin 256) (l : Fin 448) : iblk m (ok m) c 1 t (ix3 0 r l) = argM m c (row t r) l := by
  unfold argM row
  blk_point [iblk, V, idx m t]

theorem blockV (c : Dev nD) (t : Fin (cfg m).N) (r : Fin 256) (l : Fin 448) : iblk m (ok m) c 2 t (ix3 0 r l) = argV m c (row t r) l := by
  unfold argV row
  blk_point [iblk, V, idx m t]

theorem blockG (c : Dev nD) (t : Fin (cfg m).N) (r : Fin 256) (l : Fin 448) :
    grad (grid0.coords t) (core m c) (iblk m (ok m) c 3 t) (iblk m (ok m) c 4 t) r l = resG m c (row t r) l := by
  have h3 : iblk m (ok m) c 3 t (ix2 r l) = m ((c : Thread nD τ).loc main_arg3) (ix2 (half (row t r)) l) := by
    unfold half row
    blk_point [iblk, V, idx m t]
  have h4 : iblk m (ok m) c 4 t (ix2 r l) = m ((c : Thread nD τ).loc main_arg4) (ix2 (half (row t r)) l) := by
    unfold half row
    blk_point [iblk, V, idx m t]
  obtain ⟨-, -, -, -, -, -, -, -, -, h0, hN⟩ := idx m t
  have hrow : (row t r).val / 512 = t.val / 2 := by
    change (256 * t.val + r.val) / 512 = _
    omega
  unfold grad resG
  rw [hrow, h0, h3, h4]

/-- The word that a point loads from the table. -/
theorem word (c : Dev nD) (x : (Rect.unit (s := S1) ![0] ![1] inb_S1_S1_0).shape.Idx) :
    View.readAt (Elt Ideal) (View.whole main_arg5) (Rect.unit ![0] ![1] inb_S1_S1_0).toLoadRect (tbl m 0) x = core m c := by
  obtain rfl : c = 0 := Subsingleton.elim _ _
  unfold core
  exact congrArg (m _) (funext fun (a : Fin 1) => by match a with | 0 => exact Subsingleton.elim (α := Fin 1) _ _)

theorem point (c : Dev nD) (t : Fin (cfg m).N) (r : Fin 256) (l : Fin 448) (x : (Rect.unit (s := S1) ![0] ![1] inb_S1_S1_0).shape.Idx) :
    grad (grid0.coords t) (View.readAt (Elt Ideal) (View.whole main_arg5) (Rect.unit ![0] ![1] inb_S1_S1_0).toLoadRect (tbl m 0) x)
      (View.read (Elt Ideal) (ms0_3 m (ok m) t).view ((hs0_3 m (ok m) t).unread (iblk m (ok m) c 3 t)))
      (View.read (Elt Ideal) (ms0_4 m (ok m) t).view ((hs0_4 m (ok m) t).unread (iblk m (ok m) c 4 t))) r l = resG m c (row t r) l := by
  rw [word m c x]
  exact (congrArg₂ (fun u v => grad (grid0.coords t) (core m c) u v r l) ((hs0_3 m (ok m) t).read_unread _)
    ((hs0_4 m (ok m) t).read_unread _)).trans (blockG m c t r l)

/-- The blocks at the points reach every block of an array. -/
theorem onto : ∀ b : (a : Fin 3) → Fin ((S1x1024x448.size a + S1x256x448.size a - 1) / S1x256x448.size a),
    ∃ t : Fin grid0.N, ∀ a : Fin 3, (![0, t.val, 0] : Fin 3 → ℕ) a = (b a).val := by decide +kernel

theorem covers5 : ((cfg m).win 5).Covers :=
  ((cfg m).win 5).covers_of_index_surj rfl (by decide : ∀ a : Fin 3, 0 < S1x256x448.size a) fun β =>
    (onto β).imp fun t h a => (congrFun (idx m t).2.2.2.2.2.1 a).trans (h a)

theorem covers6 : ((cfg m).win 6).Covers :=
  ((cfg m).win 6).covers_of_index_surj rfl (by decide : ∀ a : Fin 3, 0 < S1x256x448.size a) fun β =>
    (onto β).imp fun t h a => (congrFun (idx m t).2.2.2.2.2.2.1 a).trans (h a)

theorem covers7 : ((cfg m).win 7).Covers :=
  ((cfg m).win 7).covers_of_index_surj rfl (by decide : ∀ a : Fin 3, 0 < S1x256x448.size a) fun β =>
    (onto β).imp fun t h a => (congrFun (idx m t).2.2.2.2.2.2.2.1 a).trans (h a)

theorem covers8 : ((cfg m).win 8).Covers :=
  ((cfg m).win 8).covers_of_index_surj rfl (by decide : ∀ a : Fin 3, 0 < S1x256x448.size a) fun β =>
    (onto β).imp fun t h a => (congrFun (idx m t).2.2.2.2.2.2.2.2.1 a).trans (h a)

/-- The gradient. -/
theorem final5 (c : Dev nD) : (dats m (ok m) 0 c).arrAt 5 (cfg m).N = outG m c := by
  refine (dats m (ok m) 0 c).arrAt_eq_of_covers 5 _ (covers5 m) fun t hf (y : S1x256x448.Idx) => ?_
  idx_vars y
  obtain rfl : y0 = 0 := Subsingleton.elim _ _
  have he : (((cfg m).win 5).blk t).view.emb (ix3 0 y1 y2) = ix3 0 (row t y1) y2 := by
    unfold row
    blk_ext [idx m t]
  blk_simp
  refine Eq.trans ?_ (congrArg (outG m c) he).symm
  rw [after0_5]
  unfold outsAt0
  frame_open
  simp (disch := decide) only [↓ View.readCov_skip, ↓ View.readCov_cons_toLoadRect, ↓ View.readCov_fill]
  frame_out
  refine (out1 y1 y2 _).trans ((pay5_apply _ _ _ _ y1 y2).trans ?_)
  exact point m c t y1 y2 _

/-- The weights' changes. -/
theorem final6 (c : Dev nD) : (dats m (ok m) 0 c).arrAt 6 (cfg m).N = outD m c := by
  refine (dats m (ok m) 0 c).arrAt_eq_of_covers 6 _ (covers6 m) fun t hf (y : S1x256x448.Idx) => ?_
  idx_vars y
  obtain rfl : y0 = 0 := Subsingleton.elim _ _
  have he : (((cfg m).win 6).blk t).view.emb (ix3 0 y1 y2) = ix3 0 (row t y1) y2 := by
    unfold row
    blk_ext [idx m t]
  blk_simp
  refine Eq.trans ?_ (congrArg (outD m c) he).symm
  rw [after0_6]
  unfold outsAt0
  frame_open
  simp (disch := decide) only [↓ View.readCov_skip, ↓ View.readCov_cons_toLoadRect, ↓ View.readCov_fill]
  frame_out
  refine (out2 y1 y2 _).trans ((pay8_apply _ _ _ _ _ _ _ y1 y2).trans ?_)
  exact Adam.delta_congr ((congrFun ((hs0_0 m (ok m) t).read_unread _) _).trans (blockW m c t y1 y2)) (point m c t y1 y2 _)
    ((congrFun ((hs0_1 m (ok m) t).read_unread _) _).trans (blockM m c t y1 y2))
    ((congrFun ((hs0_2 m (ok m) t).read_unread _) _).trans (blockV m c t y1 y2))

/-- The new first moments. -/
theorem final7 (c : Dev nD) : (dats m (ok m) 0 c).arrAt 7 (cfg m).N = outM m c := by
  refine (dats m (ok m) 0 c).arrAt_eq_of_covers 7 _ (covers7 m) fun t hf (y : S1x256x448.Idx) => ?_
  idx_vars y
  obtain rfl : y0 = 0 := Subsingleton.elim _ _
  have he : (((cfg m).win 7).blk t).view.emb (ix3 0 y1 y2) = ix3 0 (row t y1) y2 := by
    unfold row
    blk_ext [idx m t]
  blk_simp
  refine Eq.trans ?_ (congrArg (outM m c) he).symm
  rw [after0_7]
  unfold outsAt0
  frame_open
  simp (disch := decide) only [↓ View.readCov_skip, ↓ View.readCov_cons_toLoadRect, ↓ View.readCov_fill]
  frame_out
  refine (out3 y1 y2 _).trans ((pay6_apply _ _ _ _ _ y1 y2).trans ?_)
  exact congrArg₂ Adam.mom (point m c t y1 y2 _) ((congrFun ((hs0_1 m (ok m) t).read_unread _) _).trans (blockM m c t y1 y2))

/-- The new second moments. -/
theorem final8 (c : Dev nD) : (dats m (ok m) 0 c).arrAt 8 (cfg m).N = outV m c := by
  refine (dats m (ok m) 0 c).arrAt_eq_of_covers 8 _ (covers8 m) fun t hf (y : S1x256x448.Idx) => ?_
  idx_vars y
  obtain rfl : y0 = 0 := Subsingleton.elim _ _
  have he : (((cfg m).win 8).blk t).view.emb (ix3 0 y1 y2) = ix3 0 (row t y1) y2 := by
    unfold row
    blk_ext [idx m t]
  blk_simp
  refine Eq.trans ?_ (congrArg (outV m c) he).symm
  rw [after0_8]
  unfold outsAt0
  frame_open
  simp (disch := decide) only [↓ View.readCov_skip, ↓ View.readCov_cons_toLoadRect, ↓ View.readCov_fill]
  frame_out
  refine (out4 y1 y2 _).trans ((pay7_apply _ _ _ _ _ y1 y2).trans ?_)
  exact congrArg₂ Adam.var (point m c t y1 y2 _) ((congrFun ((hs0_2 m (ok m) t).read_unread _) _).trans (blockV m c t y1 y2))

/-- The run, with the four arrays named and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = outG m c
      ∧ r.2.mem ((c : Thread nD τ).loc main_v0_1) = outD m c
      ∧ r.2.mem ((c : Thread nD τ).loc main_v0_2) = outM m c
      ∧ r.2.mem ((c : Thread nD τ).loc main_v0_3) = outV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
      ⟨((h c).1 5).trans (final5 m c), ((h c).1 6).trans (final6 m c), ((h c).1 7).trans (final7 m c), ((h c).1 8).trans (final8 m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c))),
      ((h c).2 main_arg5 (by decide : main_arg5 ∈ Pipeline.restRefs sig spec0)).trans (V_main_arg5 m c)⟩)
    (run_main m ρ (ok m))

end Cert.AdamInIdeal.Point
end
-- ==== Proof.AdamInClaim.lean ====
module

public import proofs.«01_k».proof.Defs
public import proofs.«01_k».proof.Proof.AdamInKernel
public import proofs.«01_k».proof.Proof.Gen.AdamInRefIdeal.Run
public import proofs.«01_k».proof.Proof.Gen.AdamInRefIdeal.Read

@[expose] public section

set_option maxRecDepth 16384

noncomputable section

/-! The optimiser's step on one matrix and the reference's lines compute the same four arrays. -/

namespace Cert.AdamInRefIdeal.Point

open Cert.AdamInRefIdeal Cert.AdamInRefIdeal.Read Idealize.ShloMosaic Idealize.ShloMosaic.TcCoe Idealize.SL.Sem

variable (x0 x1 x2 : Vec Ideal S1x1024x448 .f32) (x3 x4 : Vec Ideal S512x448 .f32) (x5 : Vec Ideal S1 .i32) (s : Fin 1024) (l : Fin 448)

/-- The gradient's element. -/
def grad : EReal := Adam.pick (s.val / 512) (x5 (ix1 0)) (x3 (ix2 ⟨s.val % 512, Nat.mod_lt _ (by decide)⟩ l)) (x4 (ix2 ⟨s.val % 512, Nat.mod_lt _ (by decide)⟩ l))

/-- The reference's first half. -/
theorem ref2 (r : Fin 512) : val_main_v2 (F := Ideal) x3 x4 x5 (ix2 r l) = Adam.pick 0 (x5 (ix1 0)) (x3 (ix2 r l)) (x4 (ix2 r l)) := by
  refine Eq.trans ?_ (Adam.select_eq' ..)
  pointwise [val_main_v2, val_main_v1, val_main_v0, val_main_c]

/-- The reference's second half. -/
theorem ref5 (r : Fin 512) : val_main_v5 (F := Ideal) x3 x4 x5 (ix2 r l) = Adam.pick 1 (x5 (ix1 0)) (x3 (ix2 r l)) (x4 (ix2 r l)) := by
  refine Eq.trans ?_ (Adam.select_eq' ..)
  pointwise [val_main_v5, val_main_v4, val_main_v3, val_main_c_0]

/-- The gradient in the reference. -/
theorem ref7 : val_main_v7 (F := Ideal) x3 x4 x5 (ix3 0 s l) = grad x3 x4 x5 s l := by
  have hs := s.isLt
  unfold grad
  by_cases h : s.val < 512
  · rw [show s.val / 512 = 0 by omega]
    refine Eq.trans ?_ (ref2 ..)
    unfold val_main_v7 val_main_v6
    generalize val_main_v2 (F := Ideal) x3 x4 x5 = a
    generalize val_main_v5 (F := Ideal) x3 x4 x5 = b
    pointwise
    rw [dif_pos h]
    exact congrArg (fun r => a (ix2 r l)) (Fin.ext (Nat.mod_eq_of_lt h).symm)
  · rw [show s.val / 512 = 1 by omega]
    refine Eq.trans ?_ (ref5 ..)
    unfold val_main_v7 val_main_v6
    generalize val_main_v2 (F := Ideal) x3 x4 x5 = a
    generalize val_main_v5 (F := Ideal) x3 x4 x5 = b
    pointwise
    rw [dif_neg h]
    exact congrArg (fun r => b (ix2 r l)) (Fin.ext (by show s.val - 512 = s.val % 512; omega))

/-- The first moment in the reference. -/
theorem ref12 : val_main_v12 (F := Ideal) x1 x3 x4 x5 (ix3 0 s l) = Adam.mom (grad x3 x4 x5 s l) (x1 (ix3 0 s l)) := by
  rw [← ref7]
  unfold val_main_v12 val_main_v11 Adam.mom
  generalize val_main_v7 (F := Ideal) x3 x4 x5 = g
  pointwise [val_main_v10, val_main_v9, val_main_v8, val_main_cst, val_main_cst_1]

/-- The second moment in the reference. -/
theorem ref18 : val_main_v18 (F := Ideal) x2 x3 x4 x5 (ix3 0 s l) = Adam.var (grad x3 x4 x5 s l) (x2 (ix3 0 s l)) := by
  rw [← ref7]
  unfold val_main_v18 val_main_v17 val_main_v15 Adam.var
  generalize val_main_v7 (F := Ideal) x3 x4 x5 = g
  pointwise [val_main_v16, val_main_v14, val_main_v13, val_main_cst_2, val_main_cst_3]

/-- The change of the weights in the reference. -/
theorem ref31 : val_main_v31 (F := Ideal) x0 x1 x2 x3 x4 x5 (ix3 0 s l)
    = Adam.delta (x0 (ix3 0 s l)) (grad x3 x4 x5 s l) (x1 (ix3 0 s l)) (x2 (ix3 0 s l)) := by
  unfold Adam.delta
  rw [← ref12, ← ref18]
  unfold val_main_v31 val_main_v29 val_main_v26 val_main_v25 val_main_v23 val_main_v22 val_main_v20
  generalize val_main_v12 (F := Ideal) x1 x3 x4 x5 = p
  generalize val_main_v18 (F := Ideal) x2 x3 x4 x5 = q
  pointwise [val_main_v30, val_main_v28, val_main_v27, val_main_v24, val_main_v21, val_main_v19, val_main_cst_4, val_main_cst_5, val_main_cst_6,
    val_main_cst_7, val_main_cst_8]

end Cert.AdamInRefIdeal.Point

namespace Cert.Proof

open Idealize.ShloMosaic Idealize.ShloMosaic.TcCoe Idealize.SL.Sem
open Cert.AdamInIdeal.Point Cert.AdamInRefIdeal.Point

/-- The optimiser's step and the reference's lines compute the same four arrays. -/
theorem algebraic_adam_in : Cert.algebraic_AdamInIdeal_AdamInRefIdeal := by
  intro m g m' g' hpre hagree
  refine ⟨outG m, outD m, outM m, outV m, Cert.AdamInIdeal.Point.run m g, ?_⟩
  refine (θ_run _ _ _).mono (fun r h c => ?_) (Cert.AdamInRefIdeal.Value.run m' g')
  obtain ⟨h7, h31, h12, h18, ha⟩ := h c
  obtain ⟨e0, e1, e2, e3, e4, e5⟩ := hagree c
  refine ⟨h7.trans ?_, h31.trans ?_, h12.trans ?_, h18.trans ?_, ha⟩
  · refine (Cert.AdamInRefIdeal.Read.val_main_v7_eq _ _ _).trans ((congr (congr (congrArg (Cert.AdamInRefIdeal.Read.val_main_v7 (F := Ideal)) e3) e4) e5).trans (funext fun j => ?_))
    idx_vars j
    obtain rfl : j0 = 0 := Subsingleton.elim _ _
    exact ref7 _ _ _ j1 j2
  · refine (Cert.AdamInRefIdeal.Read.val_main_v31_eq _ _ _ _ _ _).trans ((congr (congr (congr (congr (congr (congrArg (Cert.AdamInRefIdeal.Read.val_main_v31 (F := Ideal)) e0) e1) e2) e3) e4) e5).trans (funext fun j => ?_))
    idx_vars j
    obtain rfl : j0 = 0 := Subsingleton.elim _ _
    exact ref31 _ _ _ _ _ _ j1 j2
  · refine (Cert.AdamInRefIdeal.Read.val_main_v12_eq _ _ _ _).trans ((congr (congr (congr (congrArg (Cert.AdamInRefIdeal.Read.val_main_v12 (F := Ideal)) e1) e3) e4) e5).trans (funext fun j => ?_))
    idx_vars j
    obtain rfl : j0 = 0 := Subsingleton.elim _ _
    exact ref12 _ _ _ _ j1 j2
  · refine (Cert.AdamInRefIdeal.Read.val_main_v18_eq _ _ _ _).trans ((congr (congr (congr (congrArg (Cert.AdamInRefIdeal.Read.val_main_v18 (F := Ideal)) e2) e3) e4) e5).trans (funext fun j => ?_))
    idx_vars j
    obtain rfl : j0 = 0 := Subsingleton.elim _ _
    exact ref18 _ _ _ _ j1 j2

end Cert.Proof
end
-- ==== Proof.AdamOutKernel.lean ====
module

public import proofs.«01_k».proof.Proof.Gen.AdamOutIdeal.Frame
public import proofs.«01_k».proof.Proof.AdamSpec
public import Idealize.ShloMosaic.Lib.Pipeline.ValueKit
public import Idealize.ShloMosaic.Lib.Pipeline.ReadBack
public import Idealize.ShloMosaic.Lib.Pipeline.Covers

@[expose] public section

set_option maxRecDepth 16384

noncomputable section

/-! The optimiser's step on one matrix: what each point stores, and the four arrays after the run. -/

namespace Cert.AdamOutIdeal.Point

open Cert.AdamOutIdeal Cert.AdamOutIdeal.Gen Idealize.ShloMosaic Idealize.ShloMosaic.TcCoe Idealize.SL.Sem
open Idealize.ShloMosaic.Pipeline (Dat)

variable (i : grid0.Coords) (w : BitVec 32) (own oth : Vec Ideal S128x1024 .f32) (a b d : Vec Ideal S1x128x1024 .f32) (r : Fin 128) (l : Fin 1024)

/-- The gradient's element that a point uses. -/
def grad : EReal := Adam.pick (i 0).val w (own (ix2 r l)) (oth (ix2 r l))

theorem pay5_apply : k0_pay5 i w own oth (ix2 r l) = grad i w own oth r l := by
  pointwise [k0_pay5, grad]
  exact Adam.select_eq ..

theorem pay6_apply : k0_pay6 i w own oth b (ix2 r l) = Adam.mom (grad i w own oth r l) (b (ix3 0 r l)) := by
  rw [← pay5_apply]
  unfold Adam.mom k0_pay6
  generalize k0_pay5 i w own oth = g
  pointwise

theorem pay7_apply : k0_pay7 i w own oth d (ix2 r l) = Adam.var (grad i w own oth r l) (d (ix3 0 r l)) := by
  rw [← pay5_apply]
  unfold Adam.var k0_pay7
  generalize k0_pay5 i w own oth = g
  pointwise

theorem pay8_apply : k0_pay8 i w own oth a b d (ix2 r l)
    = Adam.delta (a (ix3 0 r l)) (grad i w own oth r l) (b (ix3 0 r l)) (d (ix3 0 r l)) := by
  unfold Adam.delta k0_pay8
  rw [← pay6_apply, ← pay7_apply]
  generalize k0_pay6 i w own oth b = p
  generalize k0_pay7 i w own oth d = q
  pointwise

theorem out1 (v : Vec Ideal S128x1024 .f32) : k0_pay1 v (ix3 0 r l) = v (ix2 r l) := by
  pointwise [k0_pay1]
theorem out2 (v : FVec Ideal S128x1024 .f32) : k0_pay2 v (ix3 0 r l) = v (ix2 r l) := by
  pointwise [k0_pay2]
theorem out3 (v : FVec Ideal S128x1024 .f32) : k0_pay3 v (ix3 0 r l) = v (ix2 r l) := by
  pointwise [k0_pay3]
theorem out4 (v : FVec Ideal S128x1024 .f32) : k0_pay4 v (ix3 0 r l) = v (ix2 r l) := by
  pointwise [k0_pay4]

/-- Where each window's block lies at each point. -/
theorem maps : ∀ t : Fin grid0.N, cc0_transform_0 (grid0.coords t) = ![0, t.val, 0] ∧ cc0_transform_1 (grid0.coords t) = ![0, t.val, 0]
    ∧ cc0_transform_2 (grid0.coords t) = ![0, t.val, 0] ∧ cc0_transform_3 (grid0.coords t) = ![t.val % 1, 0]
    ∧ cc0_transform_4 (grid0.coords t) = ![t.val % 1, 0] ∧ cc0_transform_5 (grid0.coords t) = ![0, t.val, 0]
    ∧ cc0_transform_6 (grid0.coords t) = ![0, t.val, 0] ∧ cc0_transform_7 (grid0.coords t) = ![0, t.val, 0]
    ∧ cc0_transform_8 (grid0.coords t) = ![0, t.val, 0] ∧ (grid0.coords t 0).val = t.val / 1 ∧ t.val < 2 := by
  decide +kernel

variable (m : (ℓ : Loc nD τ sig) → Buf (Elt Ideal) ℓ)

/-- No index map reads the table, so nothing is asked of its word. -/
theorem ok : Ok m := trivial

/-- The pipeline at the table's word. -/
abbrev cfg : Pipeline.Cfg sig Λ₀ := cfgM m (ok m)

/-- The array's row that lies at row `r` of a point's block. -/
def row (t : Fin grid0.N) (r : Fin 128) : Fin 256 := ⟨128 * t.val + r.val, by have := t.isLt; have : grid0.N = 2 := rfl; omega⟩
/-- The row of a half of the gradient that lies there. -/
def half (s : Fin 256) : Fin 128 := ⟨s.val % 128, Nat.mod_lt _ (by decide)⟩

/-- The weights. -/
def argW (c : Dev nD) (s : Fin 256) (l : Fin 1024) : EReal := m ((c : Thread nD τ).loc main_arg0) (ix3 0 s l)
/-- The first moments. -/
def argM (c : Dev nD) (s : Fin 256) (l : Fin 1024) : EReal := m ((c : Thread nD τ).loc main_arg1) (ix3 0 s l)
/-- The second moments. -/
def argV (c : Dev nD) (s : Fin 256) (l : Fin 1024) : EReal := m ((c : Thread nD τ).loc main_arg2) (ix3 0 s l)
/-- The core's number. -/
def core (c : Dev nD) : BitVec 32 := m ((c : Thread nD τ).loc main_arg5) (ix1 0)
/-- The gradient. -/
def resG (c : Dev nD) (s : Fin 256) (l : Fin 1024) : EReal :=
  Adam.pick (s.val / 128) (core m c) (m ((c : Thread nD τ).loc main_arg3) (ix2 (half s) l)) (m ((c : Thread nD τ).loc main_arg4) (ix2 (half s) l))

/-- The gradient's array. -/
def outG (c : Dev nD) (j : S1x256x1024.Idx) : EReal := resG m c (j 1) (j 2)
/-- The array of the weights' changes. -/
def outD (c : Dev nD) (j : S1x256x1024.Idx) : EReal :=
  Adam.delta (argW m c (j 1) (j 2)) (resG m c (j 1) (j 2)) (argM m c (j 1) (j 2)) (argV m c (j 1) (j 2))
/-- The array of the new first moments. -/
def outM (c : Dev nD) (j : S1x256x1024.Idx) : EReal := Adam.mom (resG m c (j 1) (j 2)) (argM m c (j 1) (j 2))
/-- The array of the new second moments. -/
def outV (c : Dev nD) (j : S1x256x1024.Idx) : EReal := Adam.var (resG m c (j 1) (j 2)) (argV m c (j 1) (j 2))

theorem idx (t : Fin (cfg m).N) : ((cfg m).win 0).index t = ![0, t.val, 0] ∧ ((cfg m).win 1).index t = ![0, t.val, 0]
    ∧ ((cfg m).win 2).index t = ![0, t.val, 0] ∧ ((cfg m).win 3).index t = ![t.val % 1, 0]
    ∧ ((cfg m).win 4).index t = ![t.val % 1, 0] ∧ ((cfg m).win 5).index t = ![0, t.val, 0]
    ∧ ((cfg m).win 6).index t = ![0, t.val, 0] ∧ ((cfg m).win 7).index t = ![0, t.val, 0]
    ∧ ((cfg m).win 8).index t = ![0, t.val, 0] ∧ (grid0.coords t 0).val = t.val / 1 ∧ t.val < 2 := maps t

theorem blockW (c : Dev nD) (t : Fin (cfg m).N) (r : Fin 128) (l : Fin 1024) : iblk m (ok m) c 0 t (ix3 0 r l) = argW m c (row t r) l := by
  unfold argW row
  blk_point [iblk, V, idx m t]

theorem blockM (c : Dev nD) (t : Fin (cfg m).N) (r : Fin 128) (l : Fin 1024) : iblk m (ok m) c 1 t (ix3 0 r l) = argM m c (row t r) l := by
  unfold argM row
  blk_point [iblk, V, idx m t]

theorem blockV (c : Dev nD) (t : Fin (cfg m).N) (r : Fin 128) (l : Fin 1024) : iblk m (ok m) c 2 t (ix3 0 r l) = argV m c (row t r) l := by
  unfold argV row
  blk_point [iblk, V, idx m t]

theorem blockG (c : Dev nD) (t : Fin (cfg m).N) (r : Fin 128) (l : Fin 1024) :
    grad (grid0.coords t) (core m c) (iblk m (ok m) c 3 t) (iblk m (ok m) c 4 t) r l = resG m c (row t r) l := by
  have h3 : iblk m (ok m) c 3 t (ix2 r l) = m ((c : Thread nD τ).loc main_arg3) (ix2 (half (row t r)) l) := by
    unfold half row
    blk_point [iblk, V, idx m t]
  have h4 : iblk m (ok m) c 4 t (ix2 r l) = m ((c : Thread nD τ).loc main_arg4) (ix2 (half (row t r)) l) := by
    unfold half row
    blk_point [iblk, V, idx m t]
  obtain ⟨-, -, -, -, -, -, -, -, -, h0, hN⟩ := idx m t
  have hrow : (row t r).val / 128 = t.val / 1 := by
    change (128 * t.val + r.val) / 128 = _
    omega
  unfold grad resG
  rw [hrow, h0, h3, h4]

/-- The word that a point loads from the table. -/
theorem word (c : Dev nD) (x : (Rect.unit (s := S1) ![0] ![1] inb_S1_S1_0).shape.Idx) :
    View.readAt (Elt Ideal) (View.whole main_arg5) (Rect.unit ![0] ![1] inb_S1_S1_0).toLoadRect (tbl m 0) x = core m c := by
  obtain rfl : c = 0 := Subsingleton.elim _ _
  unfold core
  exact congrArg (m _) (funext fun (a : Fin 1) => by match a with | 0 => exact Subsingleton.elim (α := Fin 1) _ _)

theorem point (c : Dev nD) (t : Fin (cfg m).N) (r : Fin 128) (l : Fin 1024) (x : (Rect.unit (s := S1) ![0] ![1] inb_S1_S1_0).shape.Idx) :
    grad (grid0.coords t) (View.readAt (Elt Ideal) (View.whole main_arg5) (Rect.unit ![0] ![1] inb_S1_S1_0).toLoadRect (tbl m 0) x)
      (View.read (Elt Ideal) (ms0_3 m (ok m) t).view ((hs0_3 m (ok m) t).unread (iblk m (ok m) c 3 t)))
      (View.read (Elt Ideal) (ms0_4 m (ok m) t).view ((hs0_4 m (ok m) t).unread (iblk m (ok m) c 4 t))) r l = resG m c (row t r) l := by
  rw [word m c x]
  exact (congrArg₂ (fun u v => grad (grid0.coords t) (core m c) u v r l) ((hs0_3 m (ok m) t).read_unread _)
    ((hs0_4 m (ok m) t).read_unread _)).trans (blockG m c t r l)

/-- The blocks at the points reach every block of an array. -/
theorem onto : ∀ b : (a : Fin 3) → Fin ((S1x256x1024.size a + S1x128x1024.size a - 1) / S1x128x1024.size a),
    ∃ t : Fin grid0.N, ∀ a : Fin 3, (![0, t.val, 0] : Fin 3 → ℕ) a = (b a).val := by decide +kernel

theorem covers5 : ((cfg m).win 5).Covers :=
  ((cfg m).win 5).covers_of_index_surj rfl (by decide : ∀ a : Fin 3, 0 < S1x128x1024.size a) fun β =>
    (onto β).imp fun t h a => (congrFun (idx m t).2.2.2.2.2.1 a).trans (h a)

theorem covers6 : ((cfg m).win 6).Covers :=
  ((cfg m).win 6).covers_of_index_surj rfl (by decide : ∀ a : Fin 3, 0 < S1x128x1024.size a) fun β =>
    (onto β).imp fun t h a => (congrFun (idx m t).2.2.2.2.2.2.1 a).trans (h a)

theorem covers7 : ((cfg m).win 7).Covers :=
  ((cfg m).win 7).covers_of_index_surj rfl (by decide : ∀ a : Fin 3, 0 < S1x128x1024.size a) fun β =>
    (onto β).imp fun t h a => (congrFun (idx m t).2.2.2.2.2.2.2.1 a).trans (h a)

theorem covers8 : ((cfg m).win 8).Covers :=
  ((cfg m).win 8).covers_of_index_surj rfl (by decide : ∀ a : Fin 3, 0 < S1x128x1024.size a) fun β =>
    (onto β).imp fun t h a => (congrFun (idx m t).2.2.2.2.2.2.2.2.1 a).trans (h a)

/-- The gradient. -/
theorem final5 (c : Dev nD) : (dats m (ok m) 0 c).arrAt 5 (cfg m).N = outG m c := by
  refine (dats m (ok m) 0 c).arrAt_eq_of_covers 5 _ (covers5 m) fun t hf (y : S1x128x1024.Idx) => ?_
  idx_vars y
  obtain rfl : y0 = 0 := Subsingleton.elim _ _
  have he : (((cfg m).win 5).blk t).view.emb (ix3 0 y1 y2) = ix3 0 (row t y1) y2 := by
    unfold row
    blk_ext [idx m t]
  blk_simp
  refine Eq.trans ?_ (congrArg (outG m c) he).symm
  rw [after0_5]
  unfold outsAt0
  frame_open
  simp (disch := decide) only [↓ View.readCov_skip, ↓ View.readCov_cons_toLoadRect, ↓ View.readCov_fill]
  frame_out
  refine (out1 y1 y2 _).trans ((pay5_apply _ _ _ _ y1 y2).trans ?_)
  exact point m c t y1 y2 _

/-- The weights' changes. -/
theorem final6 (c : Dev nD) : (dats m (ok m) 0 c).arrAt 6 (cfg m).N = outD m c := by
  refine (dats m (ok m) 0 c).arrAt_eq_of_covers 6 _ (covers6 m) fun t hf (y : S1x128x1024.Idx) => ?_
  idx_vars y
  obtain rfl : y0 = 0 := Subsingleton.elim _ _
  have he : (((cfg m).win 6).blk t).view.emb (ix3 0 y1 y2) = ix3 0 (row t y1) y2 := by
    unfold row
    blk_ext [idx m t]
  blk_simp
  refine Eq.trans ?_ (congrArg (outD m c) he).symm
  rw [after0_6]
  unfold outsAt0
  frame_open
  simp (disch := decide) only [↓ View.readCov_skip, ↓ View.readCov_cons_toLoadRect, ↓ View.readCov_fill]
  frame_out
  refine (out2 y1 y2 _).trans ((pay8_apply _ _ _ _ _ _ _ y1 y2).trans ?_)
  exact Adam.delta_congr ((congrFun ((hs0_0 m (ok m) t).read_unread _) _).trans (blockW m c t y1 y2)) (point m c t y1 y2 _)
    ((congrFun ((hs0_1 m (ok m) t).read_unread _) _).trans (blockM m c t y1 y2))
    ((congrFun ((hs0_2 m (ok m) t).read_unread _) _).trans (blockV m c t y1 y2))

/-- The new first moments. -/
theorem final7 (c : Dev nD) : (dats m (ok m) 0 c).arrAt 7 (cfg m).N = outM m c := by
  refine (dats m (ok m) 0 c).arrAt_eq_of_covers 7 _ (covers7 m) fun t hf (y : S1x128x1024.Idx) => ?_
  idx_vars y
  obtain rfl : y0 = 0 := Subsingleton.elim _ _
  have he : (((cfg m).win 7).blk t).view.emb (ix3 0 y1 y2) = ix3 0 (row t y1) y2 := by
    unfold row
    blk_ext [idx m t]
  blk_simp
  refine Eq.trans ?_ (congrArg (outM m c) he).symm
  rw [after0_7]
  unfold outsAt0
  frame_open
  simp (disch := decide) only [↓ View.readCov_skip, ↓ View.readCov_cons_toLoadRect, ↓ View.readCov_fill]
  frame_out
  refine (out3 y1 y2 _).trans ((pay6_apply _ _ _ _ _ y1 y2).trans ?_)
  exact congrArg₂ Adam.mom (point m c t y1 y2 _) ((congrFun ((hs0_1 m (ok m) t).read_unread _) _).trans (blockM m c t y1 y2))

/-- The new second moments. -/
theorem final8 (c : Dev nD) : (dats m (ok m) 0 c).arrAt 8 (cfg m).N = outV m c := by
  refine (dats m (ok m) 0 c).arrAt_eq_of_covers 8 _ (covers8 m) fun t hf (y : S1x128x1024.Idx) => ?_
  idx_vars y
  obtain rfl : y0 = 0 := Subsingleton.elim _ _
  have he : (((cfg m).win 8).blk t).view.emb (ix3 0 y1 y2) = ix3 0 (row t y1) y2 := by
    unfold row
    blk_ext [idx m t]
  blk_simp
  refine Eq.trans ?_ (congrArg (outV m c) he).symm
  rw [after0_8]
  unfold outsAt0
  frame_open
  simp (disch := decide) only [↓ View.readCov_skip, ↓ View.readCov_cons_toLoadRect, ↓ View.readCov_fill]
  frame_out
  refine (out4 y1 y2 _).trans ((pay7_apply _ _ _ _ _ y1 y2).trans ?_)
  exact congrArg₂ Adam.var (point m c t y1 y2 _) ((congrFun ((hs0_2 m (ok m) t).read_unread _) _).trans (blockV m c t y1 y2))

/-- The run, with the four arrays named and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = outG m c
      ∧ r.2.mem ((c : Thread nD τ).loc main_v0_1) = outD m c
      ∧ r.2.mem ((c : Thread nD τ).loc main_v0_2) = outM m c
      ∧ r.2.mem ((c : Thread nD τ).loc main_v0_3) = outV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
      ⟨((h c).1 5).trans (final5 m c), ((h c).1 6).trans (final6 m c), ((h c).1 7).trans (final7 m c), ((h c).1 8).trans (final8 m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c))),
      ((h c).2 main_arg5 (by decide : main_arg5 ∈ Pipeline.restRefs sig spec0)).trans (V_main_arg5 m c)⟩)
    (run_main m ρ (ok m))

end Cert.AdamOutIdeal.Point
end
-- ==== Proof.AdamOutClaim.lean ====
module

public import proofs.«01_k».proof.Defs
public import proofs.«01_k».proof.Proof.AdamOutKernel
public import proofs.«01_k».proof.Proof.Gen.AdamOutRefIdeal.Run
public import proofs.«01_k».proof.Proof.Gen.AdamOutRefIdeal.Read

@[expose] public section

set_option maxRecDepth 16384

noncomputable section

/-! The optimiser's step on one matrix and the reference's lines compute the same four arrays. -/

namespace Cert.AdamOutRefIdeal.Point

open Cert.AdamOutRefIdeal Cert.AdamOutRefIdeal.Read Idealize.ShloMosaic Idealize.ShloMosaic.TcCoe Idealize.SL.Sem

variable (x0 x1 x2 : Vec Ideal S1x256x1024 .f32) (x3 x4 : Vec Ideal S128x1024 .f32) (x5 : Vec Ideal S1 .i32) (s : Fin 256) (l : Fin 1024)

/-- The gradient's element. -/
def grad : EReal := Adam.pick (s.val / 128) (x5 (ix1 0)) (x3 (ix2 ⟨s.val % 128, Nat.mod_lt _ (by decide)⟩ l)) (x4 (ix2 ⟨s.val % 128, Nat.mod_lt _ (by decide)⟩ l))

/-- The reference's first half. -/
theorem ref2 (r : Fin 128) : val_main_v2 (F := Ideal) x3 x4 x5 (ix2 r l) = Adam.pick 0 (x5 (ix1 0)) (x3 (ix2 r l)) (x4 (ix2 r l)) := by
  refine Eq.trans ?_ (Adam.select_eq' ..)
  pointwise [val_main_v2, val_main_v1, val_main_v0, val_main_c]

/-- The reference's second half. -/
theorem ref5 (r : Fin 128) : val_main_v5 (F := Ideal) x3 x4 x5 (ix2 r l) = Adam.pick 1 (x5 (ix1 0)) (x3 (ix2 r l)) (x4 (ix2 r l)) := by
  refine Eq.trans ?_ (Adam.select_eq' ..)
  pointwise [val_main_v5, val_main_v4, val_main_v3, val_main_c_0]

/-- The gradient in the reference. -/
theorem ref7 : val_main_v7 (F := Ideal) x3 x4 x5 (ix3 0 s l) = grad x3 x4 x5 s l := by
  have hs := s.isLt
  unfold grad
  by_cases h : s.val < 128
  · rw [show s.val / 128 = 0 by omega]
    refine Eq.trans ?_ (ref2 ..)
    unfold val_main_v7 val_main_v6
    generalize val_main_v2 (F := Ideal) x3 x4 x5 = a
    generalize val_main_v5 (F := Ideal) x3 x4 x5 = b
    pointwise
    rw [dif_pos h]
    exact congrArg (fun r => a (ix2 r l)) (Fin.ext (Nat.mod_eq_of_lt h).symm)
  · rw [show s.val / 128 = 1 by omega]
    refine Eq.trans ?_ (ref5 ..)
    unfold val_main_v7 val_main_v6
    generalize val_main_v2 (F := Ideal) x3 x4 x5 = a
    generalize val_main_v5 (F := Ideal) x3 x4 x5 = b
    pointwise
    rw [dif_neg h]
    exact congrArg (fun r => b (ix2 r l)) (Fin.ext (by show s.val - 128 = s.val % 128; omega))

/-- The first moment in the reference. -/
theorem ref12 : val_main_v12 (F := Ideal) x1 x3 x4 x5 (ix3 0 s l) = Adam.mom (grad x3 x4 x5 s l) (x1 (ix3 0 s l)) := by
  rw [← ref7]
  unfold val_main_v12 val_main_v11 Adam.mom
  generalize val_main_v7 (F := Ideal) x3 x4 x5 = g
  pointwise [val_main_v10, val_main_v9, val_main_v8, val_main_cst, val_main_cst_1]

/-- The second moment in the reference. -/
theorem ref18 : val_main_v18 (F := Ideal) x2 x3 x4 x5 (ix3 0 s l) = Adam.var (grad x3 x4 x5 s l) (x2 (ix3 0 s l)) := by
  rw [← ref7]
  unfold val_main_v18 val_main_v17 val_main_v15 Adam.var
  generalize val_main_v7 (F := Ideal) x3 x4 x5 = g
  pointwise [val_main_v16, val_main_v14, val_main_v13, val_main_cst_2, val_main_cst_3]

/-- The change of the weights in the reference. -/
theorem ref31 : val_main_v31 (F := Ideal) x0 x1 x2 x3 x4 x5 (ix3 0 s l)
    = Adam.delta (x0 (ix3 0 s l)) (grad x3 x4 x5 s l) (x1 (ix3 0 s l)) (x2 (ix3 0 s l)) := by
  unfold Adam.delta
  rw [← ref12, ← ref18]
  unfold val_main_v31 val_main_v29 val_main_v26 val_main_v25 val_main_v23 val_main_v22 val_main_v20
  generalize val_main_v12 (F := Ideal) x1 x3 x4 x5 = p
  generalize val_main_v18 (F := Ideal) x2 x3 x4 x5 = q
  pointwise [val_main_v30, val_main_v28, val_main_v27, val_main_v24, val_main_v21, val_main_v19, val_main_cst_4, val_main_cst_5, val_main_cst_6,
    val_main_cst_7, val_main_cst_8]

end Cert.AdamOutRefIdeal.Point

namespace Cert.Proof

open Idealize.ShloMosaic Idealize.ShloMosaic.TcCoe Idealize.SL.Sem
open Cert.AdamOutIdeal.Point Cert.AdamOutRefIdeal.Point

/-- The optimiser's step and the reference's lines compute the same four arrays. -/
theorem algebraic_adam_out : Cert.algebraic_AdamOutIdeal_AdamOutRefIdeal := by
  intro m g m' g' hpre hagree
  refine ⟨outG m, outD m, outM m, outV m, Cert.AdamOutIdeal.Point.run m g, ?_⟩
  refine (θ_run _ _ _).mono (fun r h c => ?_) (Cert.AdamOutRefIdeal.Value.run m' g')
  obtain ⟨h7, h31, h12, h18, ha⟩ := h c
  obtain ⟨e0, e1, e2, e3, e4, e5⟩ := hagree c
  refine ⟨h7.trans ?_, h31.trans ?_, h12.trans ?_, h18.trans ?_, ha⟩
  · refine (Cert.AdamOutRefIdeal.Read.val_main_v7_eq _ _ _).trans ((congr (congr (congrArg (Cert.AdamOutRefIdeal.Read.val_main_v7 (F := Ideal)) e3) e4) e5).trans (funext fun j => ?_))
    idx_vars j
    obtain rfl : j0 = 0 := Subsingleton.elim _ _
    exact ref7 _ _ _ j1 j2
  · refine (Cert.AdamOutRefIdeal.Read.val_main_v31_eq _ _ _ _ _ _).trans ((congr (congr (congr (congr (congr (congrArg (Cert.AdamOutRefIdeal.Read.val_main_v31 (F := Ideal)) e0) e1) e2) e3) e4) e5).trans (funext fun j => ?_))
    idx_vars j
    obtain rfl : j0 = 0 := Subsingleton.elim _ _
    exact ref31 _ _ _ _ _ _ j1 j2
  · refine (Cert.AdamOutRefIdeal.Read.val_main_v12_eq _ _ _ _).trans ((congr (congr (congr (congrArg (Cert.AdamOutRefIdeal.Read.val_main_v12 (F := Ideal)) e1) e3) e4) e5).trans (funext fun j => ?_))
    idx_vars j
    obtain rfl : j0 = 0 := Subsingleton.elim _ _
    exact ref12 _ _ _ _ j1 j2
  · refine (Cert.AdamOutRefIdeal.Read.val_main_v18_eq _ _ _ _).trans ((congr (congr (congr (congrArg (Cert.AdamOutRefIdeal.Read.val_main_v18 (F := Ideal)) e2) e3) e4) e5).trans (funext fun j => ?_))
    idx_vars j
    obtain rfl : j0 = 0 := Subsingleton.elim _ _
    exact ref18 _ _ _ _ j1 j2

end Cert.Proof
end
-- ==== Proof.AdamKvKernel.lean ====
module

public import proofs.«01_k».proof.Proof.Gen.AdamKvIdeal.Frame
public import proofs.«01_k».proof.Proof.AdamSpec
public import Idealize.ShloMosaic.Lib.Pipeline.ValueKit
public import Idealize.ShloMosaic.Lib.Pipeline.ReadBack
public import Idealize.ShloMosaic.Lib.Pipeline.Covers

@[expose] public section

set_option maxRecDepth 16384

noncomputable section

/-! The optimiser's step on one matrix: what each point stores, and the four arrays after the run. -/

namespace Cert.AdamKvIdeal.Point

open Cert.AdamKvIdeal Cert.AdamKvIdeal.Gen Idealize.ShloMosaic Idealize.ShloMosaic.TcCoe Idealize.SL.Sem
open Idealize.ShloMosaic.Pipeline (Dat)

variable (i : grid0.Coords) (w : BitVec 32) (own oth : Vec Ideal S256x512 .f32) (a b d : Vec Ideal S1x256x512 .f32) (r : Fin 256) (l : Fin 512)

/-- The gradient's element that a point uses. -/
def grad : EReal := Adam.pick (i 0).val w (own (ix2 r l)) (oth (ix2 r l))

theorem pay5_apply : k0_pay5 i w own oth (ix2 r l) = grad i w own oth r l := by
  pointwise [k0_pay5, grad]
  exact Adam.select_eq ..

theorem pay6_apply : k0_pay6 i w own oth b (ix2 r l) = Adam.mom (grad i w own oth r l) (b (ix3 0 r l)) := by
  rw [← pay5_apply]
  unfold Adam.mom k0_pay6
  generalize k0_pay5 i w own oth = g
  pointwise

theorem pay7_apply : k0_pay7 i w own oth d (ix2 r l) = Adam.var (grad i w own oth r l) (d (ix3 0 r l)) := by
  rw [← pay5_apply]
  unfold Adam.var k0_pay7
  generalize k0_pay5 i w own oth = g
  pointwise

theorem pay8_apply : k0_pay8 i w own oth a b d (ix2 r l)
    = Adam.delta (a (ix3 0 r l)) (grad i w own oth r l) (b (ix3 0 r l)) (d (ix3 0 r l)) := by
  unfold Adam.delta k0_pay8
  rw [← pay6_apply, ← pay7_apply]
  generalize k0_pay6 i w own oth b = p
  generalize k0_pay7 i w own oth d = q
  pointwise

theorem out1 (v : Vec Ideal S256x512 .f32) : k0_pay1 v (ix3 0 r l) = v (ix2 r l) := by
  pointwise [k0_pay1]
theorem out2 (v : FVec Ideal S256x512 .f32) : k0_pay2 v (ix3 0 r l) = v (ix2 r l) := by
  pointwise [k0_pay2]
theorem out3 (v : FVec Ideal S256x512 .f32) : k0_pay3 v (ix3 0 r l) = v (ix2 r l) := by
  pointwise [k0_pay3]
theorem out4 (v : FVec Ideal S256x512 .f32) : k0_pay4 v (ix3 0 r l) = v (ix2 r l) := by
  pointwise [k0_pay4]

/-- Where each window's block lies at each point. -/
theorem maps : ∀ t : Fin grid0.N, cc0_transform_0 (grid0.coords t) = ![0, t.val, 0] ∧ cc0_transform_1 (grid0.coords t) = ![0, t.val, 0]
    ∧ cc0_transform_2 (grid0.coords t) = ![0, t.val, 0] ∧ cc0_transform_3 (grid0.coords t) = ![t.val % 2, 0]
    ∧ cc0_transform_4 (grid0.coords t) = ![t.val % 2, 0] ∧ cc0_transform_5 (grid0.coords t) = ![0, t.val, 0]
    ∧ cc0_transform_6 (grid0.coords t) = ![0, t.val, 0] ∧ cc0_transform_7 (grid0.coords t) = ![0, t.val, 0]
    ∧ cc0_transform_8 (grid0.coords t) = ![0, t.val, 0] ∧ (grid0.coords t 0).val = t.val / 2 ∧ t.val < 4 := by
  decide +kernel

variable (m : (ℓ : Loc nD τ sig) → Buf (Elt Ideal) ℓ)

/-- No index map reads the table, so nothing is asked of its word. -/
theorem ok : Ok m := trivial

/-- The pipeline at the table's word. -/
abbrev cfg : Pipeline.Cfg sig Λ₀ := cfgM m (ok m)

/-- The array's row that lies at row `r` of a point's block. -/
def row (t : Fin grid0.N) (r : Fin 256) : Fin 1024 := ⟨256 * t.val + r.val, by have := t.isLt; have : grid0.N = 4 := rfl; omega⟩
/-- The row of a half of the gradient that lies there. -/
def half (s : Fin 1024) : Fin 512 := ⟨s.val % 512, Nat.mod_lt _ (by decide)⟩

/-- The weights. -/
def argW (c : Dev nD) (s : Fin 1024) (l : Fin 512) : EReal := m ((c : Thread nD τ).loc main_arg0) (ix3 0 s l)
/-- The first moments. -/
def argM (c : Dev nD) (s : Fin 1024) (l : Fin 512) : EReal := m ((c : Thread nD τ).loc main_arg1) (ix3 0 s l)
/-- The second moments. -/
def argV (c : Dev nD) (s : Fin 1024) (l : Fin 512) : EReal := m ((c : Thread nD τ).loc main_arg2) (ix3 0 s l)
/-- The core's number. -/
def core (c : Dev nD) : BitVec 32 := m ((c : Thread nD τ).loc main_arg5) (ix1 0)
/-- The gradient. -/
def resG (c : Dev nD) (s : Fin 1024) (l : Fin 512) : EReal :=
  Adam.pick (s.val / 512) (core m c) (m ((c : Thread nD τ).loc main_arg3) (ix2 (half s) l)) (m ((c : Thread nD τ).loc main_arg4) (ix2 (half s) l))

/-- The gradient's array. -/
def outG (c : Dev nD) (j : S1x1024x512.Idx) : EReal := resG m c (j 1) (j 2)
/-- The array of the weights' changes. -/
def outD (c : Dev nD) (j : S1x1024x512.Idx) : EReal :=
  Adam.delta (argW m c (j 1) (j 2)) (resG m c (j 1) (j 2)) (argM m c (j 1) (j 2)) (argV m c (j 1) (j 2))
/-- The array of the new first moments. -/
def outM (c : Dev nD) (j : S1x1024x512.Idx) : EReal := Adam.mom (resG m c (j 1) (j 2)) (argM m c (j 1) (j 2))
/-- The array of the new second moments. -/
def outV (c : Dev nD) (j : S1x1024x512.Idx) : EReal := Adam.var (resG m c (j 1) (j 2)) (argV m c (j 1) (j 2))

theorem idx (t : Fin (cfg m).N) : ((cfg m).win 0).index t = ![0, t.val, 0] ∧ ((cfg m).win 1).index t = ![0, t.val, 0]
    ∧ ((cfg m).win 2).index t = ![0, t.val, 0] ∧ ((cfg m).win 3).index t = ![t.val % 2, 0]
    ∧ ((cfg m).win 4).index t = ![t.val % 2, 0] ∧ ((cfg m).win 5).index t = ![0, t.val, 0]
    ∧ ((cfg m).win 6).index t = ![0, t.val, 0] ∧ ((cfg m).win 7).index t = ![0, t.val, 0]
    ∧ ((cfg m).win 8).index t = ![0, t.val, 0] ∧ (grid0.coords t 0).val = t.val / 2 ∧ t.val < 4 := maps t

theorem blockW (c : Dev nD) (t : Fin (cfg m).N) (r : Fin 256) (l : Fin 512) : iblk m (ok m) c 0 t (ix3 0 r l) = argW m c (row t r) l := by
  unfold argW row
  blk_point [iblk, V, idx m t]

theorem blockM (c : Dev nD) (t : Fin (cfg m).N) (r : Fin 256) (l : Fin 512) : iblk m (ok m) c 1 t (ix3 0 r l) = argM m c (row t r) l := by
  unfold argM row
  blk_point [iblk, V, idx m t]

theorem blockV (c : Dev nD) (t : Fin (cfg m).N) (r : Fin 256) (l : Fin 512) : iblk m (ok m) c 2 t (ix3 0 r l) = argV m c (row t r) l := by
  unfold argV row
  blk_point [iblk, V, idx m t]

theorem blockG (c : Dev nD) (t : Fin (cfg m).N) (r : Fin 256) (l : Fin 512) :
    grad (grid0.coords t) (core m c) (iblk m (ok m) c 3 t) (iblk m (ok m) c 4 t) r l = resG m c (row t r) l := by
  have h3 : iblk m (ok m) c 3 t (ix2 r l) = m ((c : Thread nD τ).loc main_arg3) (ix2 (half (row t r)) l) := by
    unfold half row
    blk_point [iblk, V, idx m t]
  have h4 : iblk m (ok m) c 4 t (ix2 r l) = m ((c : Thread nD τ).loc main_arg4) (ix2 (half (row t r)) l) := by
    unfold half row
    blk_point [iblk, V, idx m t]
  obtain ⟨-, -, -, -, -, -, -, -, -, h0, hN⟩ := idx m t
  have hrow : (row t r).val / 512 = t.val / 2 := by
    change (256 * t.val + r.val) / 512 = _
    omega
  unfold grad resG
  rw [hrow, h0, h3, h4]

/-- The word that a point loads from the table. -/
theorem word (c : Dev nD) (x : (Rect.unit (s := S1) ![0] ![1] inb_S1_S1_0).shape.Idx) :
    View.readAt (Elt Ideal) (View.whole main_arg5) (Rect.unit ![0] ![1] inb_S1_S1_0).toLoadRect (tbl m 0) x = core m c := by
  obtain rfl : c = 0 := Subsingleton.elim _ _
  unfold core
  exact congrArg (m _) (funext fun (a : Fin 1) => by match a with | 0 => exact Subsingleton.elim (α := Fin 1) _ _)

theorem point (c : Dev nD) (t : Fin (cfg m).N) (r : Fin 256) (l : Fin 512) (x : (Rect.unit (s := S1) ![0] ![1] inb_S1_S1_0).shape.Idx) :
    grad (grid0.coords t) (View.readAt (Elt Ideal) (View.whole main_arg5) (Rect.unit ![0] ![1] inb_S1_S1_0).toLoadRect (tbl m 0) x)
      (View.read (Elt Ideal) (ms0_3 m (ok m) t).view ((hs0_3 m (ok m) t).unread (iblk m (ok m) c 3 t)))
      (View.read (Elt Ideal) (ms0_4 m (ok m) t).view ((hs0_4 m (ok m) t).unread (iblk m (ok m) c 4 t))) r l = resG m c (row t r) l := by
  rw [word m c x]
  exact (congrArg₂ (fun u v => grad (grid0.coords t) (core m c) u v r l) ((hs0_3 m (ok m) t).read_unread _)
    ((hs0_4 m (ok m) t).read_unread _)).trans (blockG m c t r l)

/-- The blocks at the points reach every block of an array. -/
theorem onto : ∀ b : (a : Fin 3) → Fin ((S1x1024x512.size a + S1x256x512.size a - 1) / S1x256x512.size a),
    ∃ t : Fin grid0.N, ∀ a : Fin 3, (![0, t.val, 0] : Fin 3 → ℕ) a = (b a).val := by decide +kernel

theorem covers5 : ((cfg m).win 5).Covers :=
  ((cfg m).win 5).covers_of_index_surj rfl (by decide : ∀ a : Fin 3, 0 < S1x256x512.size a) fun β =>
    (onto β).imp fun t h a => (congrFun (idx m t).2.2.2.2.2.1 a).trans (h a)

theorem covers6 : ((cfg m).win 6).Covers :=
  ((cfg m).win 6).covers_of_index_surj rfl (by decide : ∀ a : Fin 3, 0 < S1x256x512.size a) fun β =>
    (onto β).imp fun t h a => (congrFun (idx m t).2.2.2.2.2.2.1 a).trans (h a)

theorem covers7 : ((cfg m).win 7).Covers :=
  ((cfg m).win 7).covers_of_index_surj rfl (by decide : ∀ a : Fin 3, 0 < S1x256x512.size a) fun β =>
    (onto β).imp fun t h a => (congrFun (idx m t).2.2.2.2.2.2.2.1 a).trans (h a)

theorem covers8 : ((cfg m).win 8).Covers :=
  ((cfg m).win 8).covers_of_index_surj rfl (by decide : ∀ a : Fin 3, 0 < S1x256x512.size a) fun β =>
    (onto β).imp fun t h a => (congrFun (idx m t).2.2.2.2.2.2.2.2.1 a).trans (h a)

/-- The gradient. -/
theorem final5 (c : Dev nD) : (dats m (ok m) 0 c).arrAt 5 (cfg m).N = outG m c := by
  refine (dats m (ok m) 0 c).arrAt_eq_of_covers 5 _ (covers5 m) fun t hf (y : S1x256x512.Idx) => ?_
  idx_vars y
  obtain rfl : y0 = 0 := Subsingleton.elim _ _
  have he : (((cfg m).win 5).blk t).view.emb (ix3 0 y1 y2) = ix3 0 (row t y1) y2 := by
    unfold row
    blk_ext [idx m t]
  blk_simp
  refine Eq.trans ?_ (congrArg (outG m c) he).symm
  rw [after0_5]
  unfold outsAt0
  frame_open
  simp (disch := decide) only [↓ View.readCov_skip, ↓ View.readCov_cons_toLoadRect, ↓ View.readCov_fill]
  frame_out
  refine (out1 y1 y2 _).trans ((pay5_apply _ _ _ _ y1 y2).trans ?_)
  exact point m c t y1 y2 _

/-- The weights' changes. -/
theorem final6 (c : Dev nD) : (dats m (ok m) 0 c).arrAt 6 (cfg m).N = outD m c := by
  refine (dats m (ok m) 0 c).arrAt_eq_of_covers 6 _ (covers6 m) fun t hf (y : S1x256x512.Idx) => ?_
  idx_vars y
  obtain rfl : y0 = 0 := Subsingleton.elim _ _
  have he : (((cfg m).win 6).blk t).view.emb (ix3 0 y1 y2) = ix3 0 (row t y1) y2 := by
    unfold row
    blk_ext [idx m t]
  blk_simp
  refine Eq.trans ?_ (congrArg (outD m c) he).symm
  rw [after0_6]
  unfold outsAt0
  frame_open
  simp (disch := decide) only [↓ View.readCov_skip, ↓ View.readCov_cons_toLoadRect, ↓ View.readCov_fill]
  frame_out
  refine (out2 y1 y2 _).trans ((pay8_apply _ _ _ _ _ _ _ y1 y2).trans ?_)
  exact Adam.delta_congr ((congrFun ((hs0_0 m (ok m) t).read_unread _) _).trans (blockW m c t y1 y2)) (point m c t y1 y2 _)
    ((congrFun ((hs0_1 m (ok m) t).read_unread _) _).trans (blockM m c t y1 y2))
    ((congrFun ((hs0_2 m (ok m) t).read_unread _) _).trans (blockV m c t y1 y2))

/-- The new first moments. -/
theorem final7 (c : Dev nD) : (dats m (ok m) 0 c).arrAt 7 (cfg m).N = outM m c := by
  refine (dats m (ok m) 0 c).arrAt_eq_of_covers 7 _ (covers7 m) fun t hf (y : S1x256x512.Idx) => ?_
  idx_vars y
  obtain rfl : y0 = 0 := Subsingleton.elim _ _
  have he : (((cfg m).win 7).blk t).view.emb (ix3 0 y1 y2) = ix3 0 (row t y1) y2 := by
    unfold row
    blk_ext [idx m t]
  blk_simp
  refine Eq.trans ?_ (congrArg (outM m c) he).symm
  rw [after0_7]
  unfold outsAt0
  frame_open
  simp (disch := decide) only [↓ View.readCov_skip, ↓ View.readCov_cons_toLoadRect, ↓ View.readCov_fill]
  frame_out
  refine (out3 y1 y2 _).trans ((pay6_apply _ _ _ _ _ y1 y2).trans ?_)
  exact congrArg₂ Adam.mom (point m c t y1 y2 _) ((congrFun ((hs0_1 m (ok m) t).read_unread _) _).trans (blockM m c t y1 y2))

/-- The new second moments. -/
theorem final8 (c : Dev nD) : (dats m (ok m) 0 c).arrAt 8 (cfg m).N = outV m c := by
  refine (dats m (ok m) 0 c).arrAt_eq_of_covers 8 _ (covers8 m) fun t hf (y : S1x256x512.Idx) => ?_
  idx_vars y
  obtain rfl : y0 = 0 := Subsingleton.elim _ _
  have he : (((cfg m).win 8).blk t).view.emb (ix3 0 y1 y2) = ix3 0 (row t y1) y2 := by
    unfold row
    blk_ext [idx m t]
  blk_simp
  refine Eq.trans ?_ (congrArg (outV m c) he).symm
  rw [after0_8]
  unfold outsAt0
  frame_open
  simp (disch := decide) only [↓ View.readCov_skip, ↓ View.readCov_cons_toLoadRect, ↓ View.readCov_fill]
  frame_out
  refine (out4 y1 y2 _).trans ((pay7_apply _ _ _ _ _ y1 y2).trans ?_)
  exact congrArg₂ Adam.var (point m c t y1 y2 _) ((congrFun ((hs0_2 m (ok m) t).read_unread _) _).trans (blockV m c t y1 y2))

/-- The run, with the four arrays named and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = outG m c
      ∧ r.2.mem ((c : Thread nD τ).loc main_v0_1) = outD m c
      ∧ r.2.mem ((c : Thread nD τ).loc main_v0_2) = outM m c
      ∧ r.2.mem ((c : Thread nD τ).loc main_v0_3) = outV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
      ⟨((h c).1 5).trans (final5 m c), ((h c).1 6).trans (final6 m c), ((h c).1 7).trans (final7 m c), ((h c).1 8).trans (final8 m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c))),
      ((h c).2 main_arg5 (by decide : main_arg5 ∈ Pipeline.restRefs sig spec0)).trans (V_main_arg5 m c)⟩)
    (run_main m ρ (ok m))

end Cert.AdamKvIdeal.Point
end
-- ==== Proof.AdamKvClaim.lean ====
module

public import proofs.«01_k».proof.Defs
public import proofs.«01_k».proof.Proof.AdamKvKernel
public import proofs.«01_k».proof.Proof.Gen.AdamKvRefIdeal.Run
public import proofs.«01_k».proof.Proof.Gen.AdamKvRefIdeal.Read

@[expose] public section

set_option maxRecDepth 16384

noncomputable section

/-! The optimiser's step on one matrix and the reference's lines compute the same four arrays. -/

namespace Cert.AdamKvRefIdeal.Point

open Cert.AdamKvRefIdeal Cert.AdamKvRefIdeal.Read Idealize.ShloMosaic Idealize.ShloMosaic.TcCoe Idealize.SL.Sem

variable (x0 x1 x2 : Vec Ideal S1x1024x512 .f32) (x3 x4 : Vec Ideal S512x512 .f32) (x5 : Vec Ideal S1 .i32) (s : Fin 1024) (l : Fin 512)

/-- The gradient's element. -/
def grad : EReal := Adam.pick (s.val / 512) (x5 (ix1 0)) (x3 (ix2 ⟨s.val % 512, Nat.mod_lt _ (by decide)⟩ l)) (x4 (ix2 ⟨s.val % 512, Nat.mod_lt _ (by decide)⟩ l))

/-- The reference's first half. -/
theorem ref2 (r : Fin 512) : val_main_v2 (F := Ideal) x3 x4 x5 (ix2 r l) = Adam.pick 0 (x5 (ix1 0)) (x3 (ix2 r l)) (x4 (ix2 r l)) := by
  refine Eq.trans ?_ (Adam.select_eq' ..)
  pointwise [val_main_v2, val_main_v1, val_main_v0, val_main_c]

/-- The reference's second half. -/
theorem ref5 (r : Fin 512) : val_main_v5 (F := Ideal) x3 x4 x5 (ix2 r l) = Adam.pick 1 (x5 (ix1 0)) (x3 (ix2 r l)) (x4 (ix2 r l)) := by
  refine Eq.trans ?_ (Adam.select_eq' ..)
  pointwise [val_main_v5, val_main_v4, val_main_v3, val_main_c_0]

/-- The gradient in the reference. -/
theorem ref7 : val_main_v7 (F := Ideal) x3 x4 x5 (ix3 0 s l) = grad x3 x4 x5 s l := by
  have hs := s.isLt
  unfold grad
  by_cases h : s.val < 512
  · rw [show s.val / 512 = 0 by omega]
    refine Eq.trans ?_ (ref2 ..)
    unfold val_main_v7 val_main_v6
    generalize val_main_v2 (F := Ideal) x3 x4 x5 = a
    generalize val_main_v5 (F := Ideal) x3 x4 x5 = b
    pointwise
    rw [dif_pos h]
    exact congrArg (fun r => a (ix2 r l)) (Fin.ext (Nat.mod_eq_of_lt h).symm)
  · rw [show s.val / 512 = 1 by omega]
    refine Eq.trans ?_ (ref5 ..)
    unfold val_main_v7 val_main_v6
    generalize val_main_v2 (F := Ideal) x3 x4 x5 = a
    generalize val_main_v5 (F := Ideal) x3 x4 x5 = b
    pointwise
    rw [dif_neg h]
    exact congrArg (fun r => b (ix2 r l)) (Fin.ext (by show s.val - 512 = s.val % 512; omega))

/-- The first moment in the reference. -/
theorem ref12 : val_main_v12 (F := Ideal) x1 x3 x4 x5 (ix3 0 s l) = Adam.mom (grad x3 x4 x5 s l) (x1 (ix3 0 s l)) := by
  rw [← ref7]
  unfold val_main_v12 val_main_v11 Adam.mom
  generalize val_main_v7 (F := Ideal) x3 x4 x5 = g
  pointwise [val_main_v10, val_main_v9, val_main_v8, val_main_cst, val_main_cst_1]

/-- The second moment in the reference. -/
theorem ref18 : val_main_v18 (F := Ideal) x2 x3 x4 x5 (ix3 0 s l) = Adam.var (grad x3 x4 x5 s l) (x2 (ix3 0 s l)) := by
  rw [← ref7]
  unfold val_main_v18 val_main_v17 val_main_v15 Adam.var
  generalize val_main_v7 (F := Ideal) x3 x4 x5 = g
  pointwise [val_main_v16, val_main_v14, val_main_v13, val_main_cst_2, val_main_cst_3]

/-- The change of the weights in the reference. -/
theorem ref31 : val_main_v31 (F := Ideal) x0 x1 x2 x3 x4 x5 (ix3 0 s l)
    = Adam.delta (x0 (ix3 0 s l)) (grad x3 x4 x5 s l) (x1 (ix3 0 s l)) (x2 (ix3 0 s l)) := by
  unfold Adam.delta
  rw [← ref12, ← ref18]
  unfold val_main_v31 val_main_v29 val_main_v26 val_main_v25 val_main_v23 val_main_v22 val_main_v20
  generalize val_main_v12 (F := Ideal) x1 x3 x4 x5 = p
  generalize val_main_v18 (F := Ideal) x2 x3 x4 x5 = q
  pointwise [val_main_v30, val_main_v28, val_main_v27, val_main_v24, val_main_v21, val_main_v19, val_main_cst_4, val_main_cst_5, val_main_cst_6,
    val_main_cst_7, val_main_cst_8]

end Cert.AdamKvRefIdeal.Point

namespace Cert.Proof

open Idealize.ShloMosaic Idealize.ShloMosaic.TcCoe Idealize.SL.Sem
open Cert.AdamKvIdeal.Point Cert.AdamKvRefIdeal.Point

/-- The optimiser's step and the reference's lines compute the same four arrays. -/
theorem algebraic_adam_kv : Cert.algebraic_AdamKvIdeal_AdamKvRefIdeal := by
  intro m g m' g' hpre hagree
  refine ⟨outG m, outD m, outM m, outV m, Cert.AdamKvIdeal.Point.run m g, ?_⟩
  refine (θ_run _ _ _).mono (fun r h c => ?_) (Cert.AdamKvRefIdeal.Value.run m' g')
  obtain ⟨h7, h31, h12, h18, ha⟩ := h c
  obtain ⟨e0, e1, e2, e3, e4, e5⟩ := hagree c
  refine ⟨h7.trans ?_, h31.trans ?_, h12.trans ?_, h18.trans ?_, ha⟩
  · refine (Cert.AdamKvRefIdeal.Read.val_main_v7_eq _ _ _).trans ((congr (congr (congrArg (Cert.AdamKvRefIdeal.Read.val_main_v7 (F := Ideal)) e3) e4) e5).trans (funext fun j => ?_))
    idx_vars j
    obtain rfl : j0 = 0 := Subsingleton.elim _ _
    exact ref7 _ _ _ j1 j2
  · refine (Cert.AdamKvRefIdeal.Read.val_main_v31_eq _ _ _ _ _ _).trans ((congr (congr (congr (congr (congr (congrArg (Cert.AdamKvRefIdeal.Read.val_main_v31 (F := Ideal)) e0) e1) e2) e3) e4) e5).trans (funext fun j => ?_))
    idx_vars j
    obtain rfl : j0 = 0 := Subsingleton.elim _ _
    exact ref31 _ _ _ _ _ _ j1 j2
  · refine (Cert.AdamKvRefIdeal.Read.val_main_v12_eq _ _ _ _).trans ((congr (congr (congr (congrArg (Cert.AdamKvRefIdeal.Read.val_main_v12 (F := Ideal)) e1) e3) e4) e5).trans (funext fun j => ?_))
    idx_vars j
    obtain rfl : j0 = 0 := Subsingleton.elim _ _
    exact ref12 _ _ _ _ j1 j2
  · refine (Cert.AdamKvRefIdeal.Read.val_main_v18_eq _ _ _ _).trans ((congr (congr (congr (congrArg (Cert.AdamKvRefIdeal.Read.val_main_v18 (F := Ideal)) e2) e3) e4) e5).trans (funext fun j => ?_))
    idx_vars j
    obtain rfl : j0 = 0 := Subsingleton.elim _ _
    exact ref18 _ _ _ _ j1 j2

end Cert.Proof
end
-- ==== Proof.AdamUpKernel.lean ====
module

public import proofs.«01_k».proof.Proof.Gen.AdamUpIdeal.Frame
public import proofs.«01_k».proof.Proof.AdamSpec
public import Idealize.ShloMosaic.Lib.Pipeline.ValueKit
public import Idealize.ShloMosaic.Lib.Pipeline.ReadBack
public import Idealize.ShloMosaic.Lib.Pipeline.Covers

@[expose] public section

set_option maxRecDepth 16384

noncomputable section

/-! The optimiser's step on one matrix: what each point stores, and the four arrays after the run. -/

namespace Cert.AdamUpIdeal.Point

open Cert.AdamUpIdeal Cert.AdamUpIdeal.Gen Idealize.ShloMosaic Idealize.ShloMosaic.TcCoe Idealize.SL.Sem
open Idealize.ShloMosaic.Pipeline (Dat)

variable (i : grid0.Coords) (w : BitVec 32) (own oth : Vec Ideal S256x1408 .f32) (a b d : Vec Ideal S1x256x1408 .f32) (r : Fin 256) (l : Fin 1408)

/-- The gradient's element that a point uses. -/
def grad : EReal := Adam.pick (i 0).val w (own (ix2 r l)) (oth (ix2 r l))

theorem pay5_apply : k0_pay5 i w own oth (ix2 r l) = grad i w own oth r l := by
  pointwise [k0_pay5, grad]
  exact Adam.select_eq ..

theorem pay6_apply : k0_pay6 i w own oth b (ix2 r l) = Adam.mom (grad i w own oth r l) (b (ix3 0 r l)) := by
  rw [← pay5_apply]
  unfold Adam.mom k0_pay6
  generalize k0_pay5 i w own oth = g
  pointwise

theorem pay7_apply : k0_pay7 i w own oth d (ix2 r l) = Adam.var (grad i w own oth r l) (d (ix3 0 r l)) := by
  rw [← pay5_apply]
  unfold Adam.var k0_pay7
  generalize k0_pay5 i w own oth = g
  pointwise

theorem pay8_apply : k0_pay8 i w own oth a b d (ix2 r l)
    = Adam.delta (a (ix3 0 r l)) (grad i w own oth r l) (b (ix3 0 r l)) (d (ix3 0 r l)) := by
  unfold Adam.delta k0_pay8
  rw [← pay6_apply, ← pay7_apply]
  generalize k0_pay6 i w own oth b = p
  generalize k0_pay7 i w own oth d = q
  pointwise

theorem out1 (v : Vec Ideal S256x1408 .f32) : k0_pay1 v (ix3 0 r l) = v (ix2 r l) := by
  pointwise [k0_pay1]
theorem out2 (v : FVec Ideal S256x1408 .f32) : k0_pay2 v (ix3 0 r l) = v (ix2 r l) := by
  pointwise [k0_pay2]
theorem out3 (v : FVec Ideal S256x1408 .f32) : k0_pay3 v (ix3 0 r l) = v (ix2 r l) := by
  pointwise [k0_pay3]
theorem out4 (v : FVec Ideal S256x1408 .f32) : k0_pay4 v (ix3 0 r l) = v (ix2 r l) := by
  pointwise [k0_pay4]

/-- Where each window's block lies at each point. -/
theorem maps : ∀ t : Fin grid0.N, cc0_transform_0 (grid0.coords t) = ![0, t.val, 0] ∧ cc0_transform_1 (grid0.coords t) = ![0, t.val, 0]
    ∧ cc0_transform_2 (grid0.coords t) = ![0, t.val, 0] ∧ cc0_transform_3 (grid0.coords t) = ![t.val % 2, 0]
    ∧ cc0_transform_4 (grid0.coords t) = ![t.val % 2, 0] ∧ cc0_transform_5 (grid0.coords t) = ![0, t.val, 0]
    ∧ cc0_transform_6 (grid0.coords t) = ![0, t.val, 0] ∧ cc0_transform_7 (grid0.coords t) = ![0, t.val, 0]
    ∧ cc0_transform_8 (grid0.coords t) = ![0, t.val, 0] ∧ (grid0.coords t 0).val = t.val / 2 ∧ t.val < 4 := by
  decide +kernel

variable (m : (ℓ : Loc nD τ sig) → Buf (Elt Ideal) ℓ)

/-- No index map reads the table, so nothing is asked of its word. -/
theorem ok : Ok m := trivial

/-- The pipeline at the table's word. -/
abbrev cfg : Pipeline.Cfg sig Λ₀ := cfgM m (ok m)

/-- The array's row that lies at row `r` of a point's block. -/
def row (t : Fin grid0.N) (r : Fin 256) : Fin 1024 := ⟨256 * t.val + r.val, by have := t.isLt; have : grid0.N = 4 := rfl; omega⟩
/-- The row of a half of the gradient that lies there. -/
def half (s : Fin 1024) : Fin 512 := ⟨s.val % 512, Nat.mod_lt _ (by decide)⟩

/-- The weights. -/
def argW (c : Dev nD) (s : Fin 1024) (l : Fin 1408) : EReal := m ((c : Thread nD τ).loc main_arg0) (ix3 0 s l)
/-- The first moments. -/
def argM (c : Dev nD) (s : Fin 1024) (l : Fin 1408) : EReal := m ((c : Thread nD τ).loc main_arg1) (ix3 0 s l)
/-- The second moments. -/
def argV (c : Dev nD) (s : Fin 1024) (l : Fin 1408) : EReal := m ((c : Thread nD τ).loc main_arg2) (ix3 0 s l)
/-- The core's number. -/
def core (c : Dev nD) : BitVec 32 := m ((c : Thread nD τ).loc main_arg5) (ix1 0)
/-- The gradient. -/
def resG (c : Dev nD) (s : Fin 1024) (l : Fin 1408) : EReal :=
  Adam.pick (s.val / 512) (core m c) (m ((c : Thread nD τ).loc main_arg3) (ix2 (half s) l)) (m ((c : Thread nD τ).loc main_arg4) (ix2 (half s) l))

/-- The gradient's array. -/
def outG (c : Dev nD) (j : S1x1024x1408.Idx) : EReal := resG m c (j 1) (j 2)
/-- The array of the weights' changes. -/
def outD (c : Dev nD) (j : S1x1024x1408.Idx) : EReal :=
  Adam.delta (argW m c (j 1) (j 2)) (resG m c (j 1) (j 2)) (argM m c (j 1) (j 2)) (argV m c (j 1) (j 2))
/-- The array of the new first moments. -/
def outM (c : Dev nD) (j : S1x1024x1408.Idx) : EReal := Adam.mom (resG m c (j 1) (j 2)) (argM m c (j 1) (j 2))
/-- The array of the new second moments. -/
def outV (c : Dev nD) (j : S1x1024x1408.Idx) : EReal := Adam.var (resG m c (j 1) (j 2)) (argV m c (j 1) (j 2))

theorem idx (t : Fin (cfg m).N) : ((cfg m).win 0).index t = ![0, t.val, 0] ∧ ((cfg m).win 1).index t = ![0, t.val, 0]
    ∧ ((cfg m).win 2).index t = ![0, t.val, 0] ∧ ((cfg m).win 3).index t = ![t.val % 2, 0]
    ∧ ((cfg m).win 4).index t = ![t.val % 2, 0] ∧ ((cfg m).win 5).index t = ![0, t.val, 0]
    ∧ ((cfg m).win 6).index t = ![0, t.val, 0] ∧ ((cfg m).win 7).index t = ![0, t.val, 0]
    ∧ ((cfg m).win 8).index t = ![0, t.val, 0] ∧ (grid0.coords t 0).val = t.val / 2 ∧ t.val < 4 := maps t

theorem blockW (c : Dev nD) (t : Fin (cfg m).N) (r : Fin 256) (l : Fin 1408) : iblk m (ok m) c 0 t (ix3 0 r l) = argW m c (row t r) l := by
  unfold argW row
  blk_point [iblk, V, idx m t]

theorem blockM (c : Dev nD) (t : Fin (cfg m).N) (r : Fin 256) (l : Fin 1408) : iblk m (ok m) c 1 t (ix3 0 r l) = argM m c (row t r) l := by
  unfold argM row
  blk_point [iblk, V, idx m t]

theorem blockV (c : Dev nD) (t : Fin (cfg m).N) (r : Fin 256) (l : Fin 1408) : iblk m (ok m) c 2 t (ix3 0 r l) = argV m c (row t r) l := by
  unfold argV row
  blk_point [iblk, V, idx m t]

theorem blockG (c : Dev nD) (t : Fin (cfg m).N) (r : Fin 256) (l : Fin 1408) :
    grad (grid0.coords t) (core m c) (iblk m (ok m) c 3 t) (iblk m (ok m) c 4 t) r l = resG m c (row t r) l := by
  have h3 : iblk m (ok m) c 3 t (ix2 r l) = m ((c : Thread nD τ).loc main_arg3) (ix2 (half (row t r)) l) := by
    unfold half row
    blk_point [iblk, V, idx m t]
  have h4 : iblk m (ok m) c 4 t (ix2 r l) = m ((c : Thread nD τ).loc main_arg4) (ix2 (half (row t r)) l) := by
    unfold half row
    blk_point [iblk, V, idx m t]
  obtain ⟨-, -, -, -, -, -, -, -, -, h0, hN⟩ := idx m t
  have hrow : (row t r).val / 512 = t.val / 2 := by
    change (256 * t.val + r.val) / 512 = _
    omega
  unfold grad resG
  rw [hrow, h0, h3, h4]

/-- The word that a point loads from the table. -/
theorem word (c : Dev nD) (x : (Rect.unit (s := S1) ![0] ![1] inb_S1_S1_0).shape.Idx) :
    View.readAt (Elt Ideal) (View.whole main_arg5) (Rect.unit ![0] ![1] inb_S1_S1_0).toLoadRect (tbl m 0) x = core m c := by
  obtain rfl : c = 0 := Subsingleton.elim _ _
  unfold core
  exact congrArg (m _) (funext fun (a : Fin 1) => by match a with | 0 => exact Subsingleton.elim (α := Fin 1) _ _)

theorem point (c : Dev nD) (t : Fin (cfg m).N) (r : Fin 256) (l : Fin 1408) (x : (Rect.unit (s := S1) ![0] ![1] inb_S1_S1_0).shape.Idx) :
    grad (grid0.coords t) (View.readAt (Elt Ideal) (View.whole main_arg5) (Rect.unit ![0] ![1] inb_S1_S1_0).toLoadRect (tbl m 0) x)
      (View.read (Elt Ideal) (ms0_3 m (ok m) t).view ((hs0_3 m (ok m) t).unread (iblk m (ok m) c 3 t)))
      (View.read (Elt Ideal) (ms0_4 m (ok m) t).view ((hs0_4 m (ok m) t).unread (iblk m (ok m) c 4 t))) r l = resG m c (row t r) l := by
  rw [word m c x]
  exact (congrArg₂ (fun u v => grad (grid0.coords t) (core m c) u v r l) ((hs0_3 m (ok m) t).read_unread _)
    ((hs0_4 m (ok m) t).read_unread _)).trans (blockG m c t r l)

/-- The blocks at the points reach every block of an array. -/
theorem onto : ∀ b : (a : Fin 3) → Fin ((S1x1024x1408.size a + S1x256x1408.size a - 1) / S1x256x1408.size a),
    ∃ t : Fin grid0.N, ∀ a : Fin 3, (![0, t.val, 0] : Fin 3 → ℕ) a = (b a).val := by decide +kernel

theorem covers5 : ((cfg m).win 5).Covers :=
  ((cfg m).win 5).covers_of_index_surj rfl (by decide : ∀ a : Fin 3, 0 < S1x256x1408.size a) fun β =>
    (onto β).imp fun t h a => (congrFun (idx m t).2.2.2.2.2.1 a).trans (h a)

theorem covers6 : ((cfg m).win 6).Covers :=
  ((cfg m).win 6).covers_of_index_surj rfl (by decide : ∀ a : Fin 3, 0 < S1x256x1408.size a) fun β =>
    (onto β).imp fun t h a => (congrFun (idx m t).2.2.2.2.2.2.1 a).trans (h a)

theorem covers7 : ((cfg m).win 7).Covers :=
  ((cfg m).win 7).covers_of_index_surj rfl (by decide : ∀ a : Fin 3, 0 < S1x256x1408.size a) fun β =>
    (onto β).imp fun t h a => (congrFun (idx m t).2.2.2.2.2.2.2.1 a).trans (h a)

theorem covers8 : ((cfg m).win 8).Covers :=
  ((cfg m).win 8).covers_of_index_surj rfl (by decide : ∀ a : Fin 3, 0 < S1x256x1408.size a) fun β =>
    (onto β).imp fun t h a => (congrFun (idx m t).2.2.2.2.2.2.2.2.1 a).trans (h a)

/-- The gradient. -/
theorem final5 (c : Dev nD) : (dats m (ok m) 0 c).arrAt 5 (cfg m).N = outG m c := by
  refine (dats m (ok m) 0 c).arrAt_eq_of_covers 5 _ (covers5 m) fun t hf (y : S1x256x1408.Idx) => ?_
  idx_vars y
  obtain rfl : y0 = 0 := Subsingleton.elim _ _
  have he : (((cfg m).win 5).blk t).view.emb (ix3 0 y1 y2) = ix3 0 (row t y1) y2 := by
    unfold row
    blk_ext [idx m t]
  blk_simp
  refine Eq.trans ?_ (congrArg (outG m c) he).symm
  rw [after0_5]
  unfold outsAt0
  frame_open
  simp (disch := decide) only [↓ View.readCov_skip, ↓ View.readCov_cons_toLoadRect, ↓ View.readCov_fill]
  frame_out
  refine (out1 y1 y2 _).trans ((pay5_apply _ _ _ _ y1 y2).trans ?_)
  exact point m c t y1 y2 _

/-- The weights' changes. -/
theorem final6 (c : Dev nD) : (dats m (ok m) 0 c).arrAt 6 (cfg m).N = outD m c := by
  refine (dats m (ok m) 0 c).arrAt_eq_of_covers 6 _ (covers6 m) fun t hf (y : S1x256x1408.Idx) => ?_
  idx_vars y
  obtain rfl : y0 = 0 := Subsingleton.elim _ _
  have he : (((cfg m).win 6).blk t).view.emb (ix3 0 y1 y2) = ix3 0 (row t y1) y2 := by
    unfold row
    blk_ext [idx m t]
  blk_simp
  refine Eq.trans ?_ (congrArg (outD m c) he).symm
  rw [after0_6]
  unfold outsAt0
  frame_open
  simp (disch := decide) only [↓ View.readCov_skip, ↓ View.readCov_cons_toLoadRect, ↓ View.readCov_fill]
  frame_out
  refine (out2 y1 y2 _).trans ((pay8_apply _ _ _ _ _ _ _ y1 y2).trans ?_)
  exact Adam.delta_congr ((congrFun ((hs0_0 m (ok m) t).read_unread _) _).trans (blockW m c t y1 y2)) (point m c t y1 y2 _)
    ((congrFun ((hs0_1 m (ok m) t).read_unread _) _).trans (blockM m c t y1 y2))
    ((congrFun ((hs0_2 m (ok m) t).read_unread _) _).trans (blockV m c t y1 y2))

/-- The new first moments. -/
theorem final7 (c : Dev nD) : (dats m (ok m) 0 c).arrAt 7 (cfg m).N = outM m c := by
  refine (dats m (ok m) 0 c).arrAt_eq_of_covers 7 _ (covers7 m) fun t hf (y : S1x256x1408.Idx) => ?_
  idx_vars y
  obtain rfl : y0 = 0 := Subsingleton.elim _ _
  have he : (((cfg m).win 7).blk t).view.emb (ix3 0 y1 y2) = ix3 0 (row t y1) y2 := by
    unfold row
    blk_ext [idx m t]
  blk_simp
  refine Eq.trans ?_ (congrArg (outM m c) he).symm
  rw [after0_7]
  unfold outsAt0
  frame_open
  simp (disch := decide) only [↓ View.readCov_skip, ↓ View.readCov_cons_toLoadRect, ↓ View.readCov_fill]
  frame_out
  refine (out3 y1 y2 _).trans ((pay6_apply _ _ _ _ _ y1 y2).trans ?_)
  exact congrArg₂ Adam.mom (point m c t y1 y2 _) ((congrFun ((hs0_1 m (ok m) t).read_unread _) _).trans (blockM m c t y1 y2))

/-- The new second moments. -/
theorem final8 (c : Dev nD) : (dats m (ok m) 0 c).arrAt 8 (cfg m).N = outV m c := by
  refine (dats m (ok m) 0 c).arrAt_eq_of_covers 8 _ (covers8 m) fun t hf (y : S1x256x1408.Idx) => ?_
  idx_vars y
  obtain rfl : y0 = 0 := Subsingleton.elim _ _
  have he : (((cfg m).win 8).blk t).view.emb (ix3 0 y1 y2) = ix3 0 (row t y1) y2 := by
    unfold row
    blk_ext [idx m t]
  blk_simp
  refine Eq.trans ?_ (congrArg (outV m c) he).symm
  rw [after0_8]
  unfold outsAt0
  frame_open
  simp (disch := decide) only [↓ View.readCov_skip, ↓ View.readCov_cons_toLoadRect, ↓ View.readCov_fill]
  frame_out
  refine (out4 y1 y2 _).trans ((pay7_apply _ _ _ _ _ y1 y2).trans ?_)
  exact congrArg₂ Adam.var (point m c t y1 y2 _) ((congrFun ((hs0_2 m (ok m) t).read_unread _) _).trans (blockV m c t y1 y2))

/-- The run, with the four arrays named and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = outG m c
      ∧ r.2.mem ((c : Thread nD τ).loc main_v0_1) = outD m c
      ∧ r.2.mem ((c : Thread nD τ).loc main_v0_2) = outM m c
      ∧ r.2.mem ((c : Thread nD τ).loc main_v0_3) = outV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
      ⟨((h c).1 5).trans (final5 m c), ((h c).1 6).trans (final6 m c), ((h c).1 7).trans (final7 m c), ((h c).1 8).trans (final8 m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c))),
      ((h c).2 main_arg5 (by decide : main_arg5 ∈ Pipeline.restRefs sig spec0)).trans (V_main_arg5 m c)⟩)
    (run_main m ρ (ok m))

end Cert.AdamUpIdeal.Point
end
-- ==== Proof.AdamUpClaim.lean ====
module

public import proofs.«01_k».proof.Defs
public import proofs.«01_k».proof.Proof.AdamUpKernel
public import proofs.«01_k».proof.Proof.Gen.AdamUpRefIdeal.Run
public import proofs.«01_k».proof.Proof.Gen.AdamUpRefIdeal.Read

@[expose] public section

set_option maxRecDepth 16384

noncomputable section

/-! The optimiser's step on one matrix and the reference's lines compute the same four arrays. -/

namespace Cert.AdamUpRefIdeal.Point

open Cert.AdamUpRefIdeal Cert.AdamUpRefIdeal.Read Idealize.ShloMosaic Idealize.ShloMosaic.TcCoe Idealize.SL.Sem

variable (x0 x1 x2 : Vec Ideal S1x1024x1408 .f32) (x3 x4 : Vec Ideal S512x1408 .f32) (x5 : Vec Ideal S1 .i32) (s : Fin 1024) (l : Fin 1408)

/-- The gradient's element. -/
def grad : EReal := Adam.pick (s.val / 512) (x5 (ix1 0)) (x3 (ix2 ⟨s.val % 512, Nat.mod_lt _ (by decide)⟩ l)) (x4 (ix2 ⟨s.val % 512, Nat.mod_lt _ (by decide)⟩ l))

/-- The reference's first half. -/
theorem ref2 (r : Fin 512) : val_main_v2 (F := Ideal) x3 x4 x5 (ix2 r l) = Adam.pick 0 (x5 (ix1 0)) (x3 (ix2 r l)) (x4 (ix2 r l)) := by
  refine Eq.trans ?_ (Adam.select_eq' ..)
  pointwise [val_main_v2, val_main_v1, val_main_v0, val_main_c]

/-- The reference's second half. -/
theorem ref5 (r : Fin 512) : val_main_v5 (F := Ideal) x3 x4 x5 (ix2 r l) = Adam.pick 1 (x5 (ix1 0)) (x3 (ix2 r l)) (x4 (ix2 r l)) := by
  refine Eq.trans ?_ (Adam.select_eq' ..)
  pointwise [val_main_v5, val_main_v4, val_main_v3, val_main_c_0]

/-- The gradient in the reference. -/
theorem ref7 : val_main_v7 (F := Ideal) x3 x4 x5 (ix3 0 s l) = grad x3 x4 x5 s l := by
  have hs := s.isLt
  unfold grad
  by_cases h : s.val < 512
  · rw [show s.val / 512 = 0 by omega]
    refine Eq.trans ?_ (ref2 ..)
    unfold val_main_v7 val_main_v6
    generalize val_main_v2 (F := Ideal) x3 x4 x5 = a
    generalize val_main_v5 (F := Ideal) x3 x4 x5 = b
    pointwise
    rw [dif_pos h]
    exact congrArg (fun r => a (ix2 r l)) (Fin.ext (Nat.mod_eq_of_lt h).symm)
  · rw [show s.val / 512 = 1 by omega]
    refine Eq.trans ?_ (ref5 ..)
    unfold val_main_v7 val_main_v6
    generalize val_main_v2 (F := Ideal) x3 x4 x5 = a
    generalize val_main_v5 (F := Ideal) x3 x4 x5 = b
    pointwise
    rw [dif_neg h]
    exact congrArg (fun r => b (ix2 r l)) (Fin.ext (by show s.val - 512 = s.val % 512; omega))

/-- The first moment in the reference. -/
theorem ref12 : val_main_v12 (F := Ideal) x1 x3 x4 x5 (ix3 0 s l) = Adam.mom (grad x3 x4 x5 s l) (x1 (ix3 0 s l)) := by
  rw [← ref7]
  unfold val_main_v12 val_main_v11 Adam.mom
  generalize val_main_v7 (F := Ideal) x3 x4 x5 = g
  pointwise [val_main_v10, val_main_v9, val_main_v8, val_main_cst, val_main_cst_1]

/-- The second moment in the reference. -/
theorem ref18 : val_main_v18 (F := Ideal) x2 x3 x4 x5 (ix3 0 s l) = Adam.var (grad x3 x4 x5 s l) (x2 (ix3 0 s l)) := by
  rw [← ref7]
  unfold val_main_v18 val_main_v17 val_main_v15 Adam.var
  generalize val_main_v7 (F := Ideal) x3 x4 x5 = g
  pointwise [val_main_v16, val_main_v14, val_main_v13, val_main_cst_2, val_main_cst_3]

/-- The change of the weights in the reference. -/
theorem ref31 : val_main_v31 (F := Ideal) x0 x1 x2 x3 x4 x5 (ix3 0 s l)
    = Adam.delta (x0 (ix3 0 s l)) (grad x3 x4 x5 s l) (x1 (ix3 0 s l)) (x2 (ix3 0 s l)) := by
  unfold Adam.delta
  rw [← ref12, ← ref18]
  unfold val_main_v31 val_main_v29 val_main_v26 val_main_v25 val_main_v23 val_main_v22 val_main_v20
  generalize val_main_v12 (F := Ideal) x1 x3 x4 x5 = p
  generalize val_main_v18 (F := Ideal) x2 x3 x4 x5 = q
  pointwise [val_main_v30, val_main_v28, val_main_v27, val_main_v24, val_main_v21, val_main_v19, val_main_cst_4, val_main_cst_5, val_main_cst_6,
    val_main_cst_7, val_main_cst_8]

end Cert.AdamUpRefIdeal.Point

namespace Cert.Proof

open Idealize.ShloMosaic Idealize.ShloMosaic.TcCoe Idealize.SL.Sem
open Cert.AdamUpIdeal.Point Cert.AdamUpRefIdeal.Point

/-- The optimiser's step and the reference's lines compute the same four arrays. -/
theorem algebraic_adam_up : Cert.algebraic_AdamUpIdeal_AdamUpRefIdeal := by
  intro m g m' g' hpre hagree
  refine ⟨outG m, outD m, outM m, outV m, Cert.AdamUpIdeal.Point.run m g, ?_⟩
  refine (θ_run _ _ _).mono (fun r h c => ?_) (Cert.AdamUpRefIdeal.Value.run m' g')
  obtain ⟨h7, h31, h12, h18, ha⟩ := h c
  obtain ⟨e0, e1, e2, e3, e4, e5⟩ := hagree c
  refine ⟨h7.trans ?_, h31.trans ?_, h12.trans ?_, h18.trans ?_, ha⟩
  · refine (Cert.AdamUpRefIdeal.Read.val_main_v7_eq _ _ _).trans ((congr (congr (congrArg (Cert.AdamUpRefIdeal.Read.val_main_v7 (F := Ideal)) e3) e4) e5).trans (funext fun j => ?_))
    idx_vars j
    obtain rfl : j0 = 0 := Subsingleton.elim _ _
    exact ref7 _ _ _ j1 j2
  · refine (Cert.AdamUpRefIdeal.Read.val_main_v31_eq _ _ _ _ _ _).trans ((congr (congr (congr (congr (congr (congrArg (Cert.AdamUpRefIdeal.Read.val_main_v31 (F := Ideal)) e0) e1) e2) e3) e4) e5).trans (funext fun j => ?_))
    idx_vars j
    obtain rfl : j0 = 0 := Subsingleton.elim _ _
    exact ref31 _ _ _ _ _ _ j1 j2
  · refine (Cert.AdamUpRefIdeal.Read.val_main_v12_eq _ _ _ _).trans ((congr (congr (congr (congrArg (Cert.AdamUpRefIdeal.Read.val_main_v12 (F := Ideal)) e1) e3) e4) e5).trans (funext fun j => ?_))
    idx_vars j
    obtain rfl : j0 = 0 := Subsingleton.elim _ _
    exact ref12 _ _ _ _ j1 j2
  · refine (Cert.AdamUpRefIdeal.Read.val_main_v18_eq _ _ _ _).trans ((congr (congr (congr (congrArg (Cert.AdamUpRefIdeal.Read.val_main_v18 (F := Ideal)) e2) e3) e4) e5).trans (funext fun j => ?_))
    idx_vars j
    obtain rfl : j0 = 0 := Subsingleton.elim _ _
    exact ref18 _ _ _ _ j1 j2

end Cert.Proof
end
-- ==== Proof.AdamDownKernel.lean ====
module

public import proofs.«01_k».proof.Proof.Gen.AdamDownIdeal.Frame
public import proofs.«01_k».proof.Proof.AdamSpec
public import Idealize.ShloMosaic.Lib.Pipeline.ValueKit
public import Idealize.ShloMosaic.Lib.Pipeline.ReadBack
public import Idealize.ShloMosaic.Lib.Pipeline.Covers

@[expose] public section

set_option maxRecDepth 16384

noncomputable section

/-! The optimiser's step on one matrix: what each point stores, and the four arrays after the run. -/

namespace Cert.AdamDownIdeal.Point

open Cert.AdamDownIdeal Cert.AdamDownIdeal.Gen Idealize.ShloMosaic Idealize.ShloMosaic.TcCoe Idealize.SL.Sem
open Idealize.ShloMosaic.Pipeline (Dat)

variable (i : grid0.Coords) (w : BitVec 32) (own oth : Vec Ideal S176x1024 .f32) (a b d : Vec Ideal S1x176x1024 .f32) (r : Fin 176) (l : Fin 1024)

/-- The gradient's element that a point uses. -/
def grad : EReal := Adam.pick (i 0).val w (own (ix2 r l)) (oth (ix2 r l))

theorem pay5_apply : k0_pay5 i w own oth (ix2 r l) = grad i w own oth r l := by
  pointwise [k0_pay5, grad]
  exact Adam.select_eq ..

theorem pay6_apply : k0_pay6 i w own oth b (ix2 r l) = Adam.mom (grad i w own oth r l) (b (ix3 0 r l)) := by
  rw [← pay5_apply]
  unfold Adam.mom k0_pay6
  generalize k0_pay5 i w own oth = g
  pointwise

theorem pay7_apply : k0_pay7 i w own oth d (ix2 r l) = Adam.var (grad i w own oth r l) (d (ix3 0 r l)) := by
  rw [← pay5_apply]
  unfold Adam.var k0_pay7
  generalize k0_pay5 i w own oth = g
  pointwise

theorem pay8_apply : k0_pay8 i w own oth a b d (ix2 r l)
    = Adam.delta (a (ix3 0 r l)) (grad i w own oth r l) (b (ix3 0 r l)) (d (ix3 0 r l)) := by
  unfold Adam.delta k0_pay8
  rw [← pay6_apply, ← pay7_apply]
  generalize k0_pay6 i w own oth b = p
  generalize k0_pay7 i w own oth d = q
  pointwise

theorem out1 (v : Vec Ideal S176x1024 .f32) : k0_pay1 v (ix3 0 r l) = v (ix2 r l) := by
  pointwise [k0_pay1]
theorem out2 (v : FVec Ideal S176x1024 .f32) : k0_pay2 v (ix3 0 r l) = v (ix2 r l) := by
  pointwise [k0_pay2]
theorem out3 (v : FVec Ideal S176x1024 .f32) : k0_pay3 v (ix3 0 r l) = v (ix2 r l) := by
  pointwise [k0_pay3]
theorem out4 (v : FVec Ideal S176x1024 .f32) : k0_pay4 v (ix3 0 r l) = v (ix2 r l) := by
  pointwise [k0_pay4]

/-- Where each window's block lies at each point. -/
theorem maps : ∀ t : Fin grid0.N, cc0_transform_0 (grid0.coords t) = ![0, t.val, 0] ∧ cc0_transform_1 (grid0.coords t) = ![0, t.val, 0]
    ∧ cc0_transform_2 (grid0.coords t) = ![0, t.val, 0] ∧ cc0_transform_3 (grid0.coords t) = ![t.val % 2, 0]
    ∧ cc0_transform_4 (grid0.coords t) = ![t.val % 2, 0] ∧ cc0_transform_5 (grid0.coords t) = ![0, t.val, 0]
    ∧ cc0_transform_6 (grid0.coords t) = ![0, t.val, 0] ∧ cc0_transform_7 (grid0.coords t) = ![0, t.val, 0]
    ∧ cc0_transform_8 (grid0.coords t) = ![0, t.val, 0] ∧ (grid0.coords t 0).val = t.val / 2 ∧ t.val < 4 := by
  decide +kernel

variable (m : (ℓ : Loc nD τ sig) → Buf (Elt Ideal) ℓ)

/-- No index map reads the table, so nothing is asked of its word. -/
theorem ok : Ok m := trivial

/-- The pipeline at the table's word. -/
abbrev cfg : Pipeline.Cfg sig Λ₀ := cfgM m (ok m)

/-- The array's row that lies at row `r` of a point's block. -/
def row (t : Fin grid0.N) (r : Fin 176) : Fin 704 := ⟨176 * t.val + r.val, by have := t.isLt; have : grid0.N = 4 := rfl; omega⟩
/-- The row of a half of the gradient that lies there. -/
def half (s : Fin 704) : Fin 352 := ⟨s.val % 352, Nat.mod_lt _ (by decide)⟩

/-- The weights. -/
def argW (c : Dev nD) (s : Fin 704) (l : Fin 1024) : EReal := m ((c : Thread nD τ).loc main_arg0) (ix3 0 s l)
/-- The first moments. -/
def argM (c : Dev nD) (s : Fin 704) (l : Fin 1024) : EReal := m ((c : Thread nD τ).loc main_arg1) (ix3 0 s l)
/-- The second moments. -/
def argV (c : Dev nD) (s : Fin 704) (l : Fin 1024) : EReal := m ((c : Thread nD τ).loc main_arg2) (ix3 0 s l)
/-- The core's number. -/
def core (c : Dev nD) : BitVec 32 := m ((c : Thread nD τ).loc main_arg5) (ix1 0)
/-- The gradient. -/
def resG (c : Dev nD) (s : Fin 704) (l : Fin 1024) : EReal :=
  Adam.pick (s.val / 352) (core m c) (m ((c : Thread nD τ).loc main_arg3) (ix2 (half s) l)) (m ((c : Thread nD τ).loc main_arg4) (ix2 (half s) l))

/-- The gradient's array. -/
def outG (c : Dev nD) (j : S1x704x1024.Idx) : EReal := resG m c (j 1) (j 2)
/-- The array of the weights' changes. -/
def outD (c : Dev nD) (j : S1x704x1024.Idx) : EReal :=
  Adam.delta (argW m c (j 1) (j 2)) (resG m c (j 1) (j 2)) (argM m c (j 1) (j 2)) (argV m c (j 1) (j 2))
/-- The array of the new first moments. -/
def outM (c : Dev nD) (j : S1x704x1024.Idx) : EReal := Adam.mom (resG m c (j 1) (j 2)) (argM m c (j 1) (j 2))
/-- The array of the new second moments. -/
def outV (c : Dev nD) (j : S1x704x1024.Idx) : EReal := Adam.var (resG m c (j 1) (j 2)) (argV m c (j 1) (j 2))

theorem idx (t : Fin (cfg m).N) : ((cfg m).win 0).index t = ![0, t.val, 0] ∧ ((cfg m).win 1).index t = ![0, t.val, 0]
    ∧ ((cfg m).win 2).index t = ![0, t.val, 0] ∧ ((cfg m).win 3).index t = ![t.val % 2, 0]
    ∧ ((cfg m).win 4).index t = ![t.val % 2, 0] ∧ ((cfg m).win 5).index t = ![0, t.val, 0]
    ∧ ((cfg m).win 6).index t = ![0, t.val, 0] ∧ ((cfg m).win 7).index t = ![0, t.val, 0]
    ∧ ((cfg m).win 8).index t = ![0, t.val, 0] ∧ (grid0.coords t 0).val = t.val / 2 ∧ t.val < 4 := maps t

theorem blockW (c : Dev nD) (t : Fin (cfg m).N) (r : Fin 176) (l : Fin 1024) : iblk m (ok m) c 0 t (ix3 0 r l) = argW m c (row t r) l := by
  unfold argW row
  blk_point [iblk, V, idx m t]

theorem blockM (c : Dev nD) (t : Fin (cfg m).N) (r : Fin 176) (l : Fin 1024) : iblk m (ok m) c 1 t (ix3 0 r l) = argM m c (row t r) l := by
  unfold argM row
  blk_point [iblk, V, idx m t]

theorem blockV (c : Dev nD) (t : Fin (cfg m).N) (r : Fin 176) (l : Fin 1024) : iblk m (ok m) c 2 t (ix3 0 r l) = argV m c (row t r) l := by
  unfold argV row
  blk_point [iblk, V, idx m t]

theorem blockG (c : Dev nD) (t : Fin (cfg m).N) (r : Fin 176) (l : Fin 1024) :
    grad (grid0.coords t) (core m c) (iblk m (ok m) c 3 t) (iblk m (ok m) c 4 t) r l = resG m c (row t r) l := by
  have h3 : iblk m (ok m) c 3 t (ix2 r l) = m ((c : Thread nD τ).loc main_arg3) (ix2 (half (row t r)) l) := by
    unfold half row
    blk_point [iblk, V, idx m t]
  have h4 : iblk m (ok m) c 4 t (ix2 r l) = m ((c : Thread nD τ).loc main_arg4) (ix2 (half (row t r)) l) := by
    unfold half row
    blk_point [iblk, V, idx m t]
  obtain ⟨-, -, -, -, -, -, -, -, -, h0, hN⟩ := idx m t
  have hrow : (row t r).val / 352 = t.val / 2 := by
    change (176 * t.val + r.val) / 352 = _
    omega
  unfold grad resG
  rw [hrow, h0, h3, h4]

/-- The word that a point loads from the table. -/
theorem word (c : Dev nD) (x : (Rect.unit (s := S1) ![0] ![1] inb_S1_S1_0).shape.Idx) :
    View.readAt (Elt Ideal) (View.whole main_arg5) (Rect.unit ![0] ![1] inb_S1_S1_0).toLoadRect (tbl m 0) x = core m c := by
  obtain rfl : c = 0 := Subsingleton.elim _ _
  unfold core
  exact congrArg (m _) (funext fun (a : Fin 1) => by match a with | 0 => exact Subsingleton.elim (α := Fin 1) _ _)

theorem point (c : Dev nD) (t : Fin (cfg m).N) (r : Fin 176) (l : Fin 1024) (x : (Rect.unit (s := S1) ![0] ![1] inb_S1_S1_0).shape.Idx) :
    grad (grid0.coords t) (View.readAt (Elt Ideal) (View.whole main_arg5) (Rect.unit ![0] ![1] inb_S1_S1_0).toLoadRect (tbl m 0) x)
      (View.read (Elt Ideal) (ms0_3 m (ok m) t).view ((hs0_3 m (ok m) t).unread (iblk m (ok m) c 3 t)))
      (View.read (Elt Ideal) (ms0_4 m (ok m) t).view ((hs0_4 m (ok m) t).unread (iblk m (ok m) c 4 t))) r l = resG m c (row t r) l := by
  rw [word m c x]
  exact (congrArg₂ (fun u v => grad (grid0.coords t) (core m c) u v r l) ((hs0_3 m (ok m) t).read_unread _)
    ((hs0_4 m (ok m) t).read_unread _)).trans (blockG m c t r l)

/-- The blocks at the points reach every block of an array. -/
theorem onto : ∀ b : (a : Fin 3) → Fin ((S1x704x1024.size a + S1x176x1024.size a - 1) / S1x176x1024.size a),
    ∃ t : Fin grid0.N, ∀ a : Fin 3, (![0, t.val, 0] : Fin 3 → ℕ) a = (b a).val := by decide +kernel

theorem covers5 : ((cfg m).win 5).Covers :=
  ((cfg m).win 5).covers_of_index_surj rfl (by decide : ∀ a : Fin 3, 0 < S1x176x1024.size a) fun β =>
    (onto β).imp fun t h a => (congrFun (idx m t).2.2.2.2.2.1 a).trans (h a)

theorem covers6 : ((cfg m).win 6).Covers :=
  ((cfg m).win 6).covers_of_index_surj rfl (by decide : ∀ a : Fin 3, 0 < S1x176x1024.size a) fun β =>
    (onto β).imp fun t h a => (congrFun (idx m t).2.2.2.2.2.2.1 a).trans (h a)

theorem covers7 : ((cfg m).win 7).Covers :=
  ((cfg m).win 7).covers_of_index_surj rfl (by decide : ∀ a : Fin 3, 0 < S1x176x1024.size a) fun β =>
    (onto β).imp fun t h a => (congrFun (idx m t).2.2.2.2.2.2.2.1 a).trans (h a)

theorem covers8 : ((cfg m).win 8).Covers :=
  ((cfg m).win 8).covers_of_index_surj rfl (by decide : ∀ a : Fin 3, 0 < S1x176x1024.size a) fun β =>
    (onto β).imp fun t h a => (congrFun (idx m t).2.2.2.2.2.2.2.2.1 a).trans (h a)

/-- The gradient. -/
theorem final5 (c : Dev nD) : (dats m (ok m) 0 c).arrAt 5 (cfg m).N = outG m c := by
  refine (dats m (ok m) 0 c).arrAt_eq_of_covers 5 _ (covers5 m) fun t hf (y : S1x176x1024.Idx) => ?_
  idx_vars y
  obtain rfl : y0 = 0 := Subsingleton.elim _ _
  have he : (((cfg m).win 5).blk t).view.emb (ix3 0 y1 y2) = ix3 0 (row t y1) y2 := by
    unfold row
    blk_ext [idx m t]
  blk_simp
  refine Eq.trans ?_ (congrArg (outG m c) he).symm
  rw [after0_5]
  unfold outsAt0
  frame_open
  simp (disch := decide) only [↓ View.readCov_skip, ↓ View.readCov_cons_toLoadRect, ↓ View.readCov_fill]
  frame_out
  refine (out1 y1 y2 _).trans ((pay5_apply _ _ _ _ y1 y2).trans ?_)
  exact point m c t y1 y2 _

/-- The weights' changes. -/
theorem final6 (c : Dev nD) : (dats m (ok m) 0 c).arrAt 6 (cfg m).N = outD m c := by
  refine (dats m (ok m) 0 c).arrAt_eq_of_covers 6 _ (covers6 m) fun t hf (y : S1x176x1024.Idx) => ?_
  idx_vars y
  obtain rfl : y0 = 0 := Subsingleton.elim _ _
  have he : (((cfg m).win 6).blk t).view.emb (ix3 0 y1 y2) = ix3 0 (row t y1) y2 := by
    unfold row
    blk_ext [idx m t]
  blk_simp
  refine Eq.trans ?_ (congrArg (outD m c) he).symm
  rw [after0_6]
  unfold outsAt0
  frame_open
  simp (disch := decide) only [↓ View.readCov_skip, ↓ View.readCov_cons_toLoadRect, ↓ View.readCov_fill]
  frame_out
  refine (out2 y1 y2 _).trans ((pay8_apply _ _ _ _ _ _ _ y1 y2).trans ?_)
  exact Adam.delta_congr ((congrFun ((hs0_0 m (ok m) t).read_unread _) _).trans (blockW m c t y1 y2)) (point m c t y1 y2 _)
    ((congrFun ((hs0_1 m (ok m) t).read_unread _) _).trans (blockM m c t y1 y2))
    ((congrFun ((hs0_2 m (ok m) t).read_unread _) _).trans (blockV m c t y1 y2))

/-- The new first moments. -/
theorem final7 (c : Dev nD) : (dats m (ok m) 0 c).arrAt 7 (cfg m).N = outM m c := by
  refine (dats m (ok m) 0 c).arrAt_eq_of_covers 7 _ (covers7 m) fun t hf (y : S1x176x1024.Idx) => ?_
  idx_vars y
  obtain rfl : y0 = 0 := Subsingleton.elim _ _
  have he : (((cfg m).win 7).blk t).view.emb (ix3 0 y1 y2) = ix3 0 (row t y1) y2 := by
    unfold row
    blk_ext [idx m t]
  blk_simp
  refine Eq.trans ?_ (congrArg (outM m c) he).symm
  rw [after0_7]
  unfold outsAt0
  frame_open
  simp (disch := decide) only [↓ View.readCov_skip, ↓ View.readCov_cons_toLoadRect, ↓ View.readCov_fill]
  frame_out
  refine (out3 y1 y2 _).trans ((pay6_apply _ _ _ _ _ y1 y2).trans ?_)
  exact congrArg₂ Adam.mom (point m c t y1 y2 _) ((congrFun ((hs0_1 m (ok m) t).read_unread _) _).trans (blockM m c t y1 y2))

/-- The new second moments. -/
theorem final8 (c : Dev nD) : (dats m (ok m) 0 c).arrAt 8 (cfg m).N = outV m c := by
  refine (dats m (ok m) 0 c).arrAt_eq_of_covers 8 _ (covers8 m) fun t hf (y : S1x176x1024.Idx) => ?_
  idx_vars y
  obtain rfl : y0 = 0 := Subsingleton.elim _ _
  have he : (((cfg m).win 8).blk t).view.emb (ix3 0 y1 y2) = ix3 0 (row t y1) y2 := by
    unfold row
    blk_ext [idx m t]
  blk_simp
  refine Eq.trans ?_ (congrArg (outV m c) he).symm
  rw [after0_8]
  unfold outsAt0
  frame_open
  simp (disch := decide) only [↓ View.readCov_skip, ↓ View.readCov_cons_toLoadRect, ↓ View.readCov_fill]
  frame_out
  refine (out4 y1 y2 _).trans ((pay7_apply _ _ _ _ _ y1 y2).trans ?_)
  exact congrArg₂ Adam.var (point m c t y1 y2 _) ((congrFun ((hs0_2 m (ok m) t).read_unread _) _).trans (blockV m c t y1 y2))

/-- The run, with the four arrays named and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = outG m c
      ∧ r.2.mem ((c : Thread nD τ).loc main_v0_1) = outD m c
      ∧ r.2.mem ((c : Thread nD τ).loc main_v0_2) = outM m c
      ∧ r.2.mem ((c : Thread nD τ).loc main_v0_3) = outV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
      ⟨((h c).1 5).trans (final5 m c), ((h c).1 6).trans (final6 m c), ((h c).1 7).trans (final7 m c), ((h c).1 8).trans (final8 m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c))),
      ((h c).2 main_arg5 (by decide : main_arg5 ∈ Pipeline.restRefs sig spec0)).trans (V_main_arg5 m c)⟩)
    (run_main m ρ (ok m))

end Cert.AdamDownIdeal.Point
end
-- ==== Proof.AdamDownClaim.lean ====
module

public import proofs.«01_k».proof.Defs
public import proofs.«01_k».proof.Proof.AdamDownKernel
public import proofs.«01_k».proof.Proof.Gen.AdamDownRefIdeal.Run
public import proofs.«01_k».proof.Proof.Gen.AdamDownRefIdeal.Read

@[expose] public section

set_option maxRecDepth 16384

noncomputable section

/-! The optimiser's step on one matrix and the reference's lines compute the same four arrays. -/

namespace Cert.AdamDownRefIdeal.Point

open Cert.AdamDownRefIdeal Cert.AdamDownRefIdeal.Read Idealize.ShloMosaic Idealize.ShloMosaic.TcCoe Idealize.SL.Sem

variable (x0 x1 x2 : Vec Ideal S1x704x1024 .f32) (x3 x4 : Vec Ideal S352x1024 .f32) (x5 : Vec Ideal S1 .i32) (s : Fin 704) (l : Fin 1024)

/-- The gradient's element. -/
def grad : EReal := Adam.pick (s.val / 352) (x5 (ix1 0)) (x3 (ix2 ⟨s.val % 352, Nat.mod_lt _ (by decide)⟩ l)) (x4 (ix2 ⟨s.val % 352, Nat.mod_lt _ (by decide)⟩ l))

/-- The reference's first half. -/
theorem ref2 (r : Fin 352) : val_main_v2 (F := Ideal) x3 x4 x5 (ix2 r l) = Adam.pick 0 (x5 (ix1 0)) (x3 (ix2 r l)) (x4 (ix2 r l)) := by
  refine Eq.trans ?_ (Adam.select_eq' ..)
  pointwise [val_main_v2, val_main_v1, val_main_v0, val_main_c]

/-- The reference's second half. -/
theorem ref5 (r : Fin 352) : val_main_v5 (F := Ideal) x3 x4 x5 (ix2 r l) = Adam.pick 1 (x5 (ix1 0)) (x3 (ix2 r l)) (x4 (ix2 r l)) := by
  refine Eq.trans ?_ (Adam.select_eq' ..)
  pointwise [val_main_v5, val_main_v4, val_main_v3, val_main_c_0]

/-- The gradient in the reference. -/
theorem ref7 : val_main_v7 (F := Ideal) x3 x4 x5 (ix3 0 s l) = grad x3 x4 x5 s l := by
  have hs := s.isLt
  unfold grad
  by_cases h : s.val < 352
  · rw [show s.val / 352 = 0 by omega]
    refine Eq.trans ?_ (ref2 ..)
    unfold val_main_v7 val_main_v6
    generalize val_main_v2 (F := Ideal) x3 x4 x5 = a
    generalize val_main_v5 (F := Ideal) x3 x4 x5 = b
    pointwise
    rw [dif_pos h]
    exact congrArg (fun r => a (ix2 r l)) (Fin.ext (Nat.mod_eq_of_lt h).symm)
  · rw [show s.val / 352 = 1 by omega]
    refine Eq.trans ?_ (ref5 ..)
    unfold val_main_v7 val_main_v6
    generalize val_main_v2 (F := Ideal) x3 x4 x5 = a
    generalize val_main_v5 (F := Ideal) x3 x4 x5 = b
    pointwise
    rw [dif_neg h]
    exact congrArg (fun r => b (ix2 r l)) (Fin.ext (by show s.val - 352 = s.val % 352; omega))

/-- The first moment in the reference. -/
theorem ref12 : val_main_v12 (F := Ideal) x1 x3 x4 x5 (ix3 0 s l) = Adam.mom (grad x3 x4 x5 s l) (x1 (ix3 0 s l)) := by
  rw [← ref7]
  unfold val_main_v12 val_main_v11 Adam.mom
  generalize val_main_v7 (F := Ideal) x3 x4 x5 = g
  pointwise [val_main_v10, val_main_v9, val_main_v8, val_main_cst, val_main_cst_1]

/-- The second moment in the reference. -/
theorem ref18 : val_main_v18 (F := Ideal) x2 x3 x4 x5 (ix3 0 s l) = Adam.var (grad x3 x4 x5 s l) (x2 (ix3 0 s l)) := by
  rw [← ref7]
  unfold val_main_v18 val_main_v17 val_main_v15 Adam.var
  generalize val_main_v7 (F := Ideal) x3 x4 x5 = g
  pointwise [val_main_v16, val_main_v14, val_main_v13, val_main_cst_2, val_main_cst_3]

/-- The change of the weights in the reference. -/
theorem ref31 : val_main_v31 (F := Ideal) x0 x1 x2 x3 x4 x5 (ix3 0 s l)
    = Adam.delta (x0 (ix3 0 s l)) (grad x3 x4 x5 s l) (x1 (ix3 0 s l)) (x2 (ix3 0 s l)) := by
  unfold Adam.delta
  rw [← ref12, ← ref18]
  unfold val_main_v31 val_main_v29 val_main_v26 val_main_v25 val_main_v23 val_main_v22 val_main_v20
  generalize val_main_v12 (F := Ideal) x1 x3 x4 x5 = p
  generalize val_main_v18 (F := Ideal) x2 x3 x4 x5 = q
  pointwise [val_main_v30, val_main_v28, val_main_v27, val_main_v24, val_main_v21, val_main_v19, val_main_cst_4, val_main_cst_5, val_main_cst_6,
    val_main_cst_7, val_main_cst_8]

end Cert.AdamDownRefIdeal.Point

namespace Cert.Proof

open Idealize.ShloMosaic Idealize.ShloMosaic.TcCoe Idealize.SL.Sem
open Cert.AdamDownIdeal.Point Cert.AdamDownRefIdeal.Point

/-- The optimiser's step and the reference's lines compute the same four arrays. -/
theorem algebraic_adam_down : Cert.algebraic_AdamDownIdeal_AdamDownRefIdeal := by
  intro m g m' g' hpre hagree
  refine ⟨outG m, outD m, outM m, outV m, Cert.AdamDownIdeal.Point.run m g, ?_⟩
  refine (θ_run _ _ _).mono (fun r h c => ?_) (Cert.AdamDownRefIdeal.Value.run m' g')
  obtain ⟨h7, h31, h12, h18, ha⟩ := h c
  obtain ⟨e0, e1, e2, e3, e4, e5⟩ := hagree c
  refine ⟨h7.trans ?_, h31.trans ?_, h12.trans ?_, h18.trans ?_, ha⟩
  · refine (Cert.AdamDownRefIdeal.Read.val_main_v7_eq _ _ _).trans ((congr (congr (congrArg (Cert.AdamDownRefIdeal.Read.val_main_v7 (F := Ideal)) e3) e4) e5).trans (funext fun j => ?_))
    idx_vars j
    obtain rfl : j0 = 0 := Subsingleton.elim _ _
    exact ref7 _ _ _ j1 j2
  · refine (Cert.AdamDownRefIdeal.Read.val_main_v31_eq _ _ _ _ _ _).trans ((congr (congr (congr (congr (congr (congrArg (Cert.AdamDownRefIdeal.Read.val_main_v31 (F := Ideal)) e0) e1) e2) e3) e4) e5).trans (funext fun j => ?_))
    idx_vars j
    obtain rfl : j0 = 0 := Subsingleton.elim _ _
    exact ref31 _ _ _ _ _ _ j1 j2
  · refine (Cert.AdamDownRefIdeal.Read.val_main_v12_eq _ _ _ _).trans ((congr (congr (congr (congrArg (Cert.AdamDownRefIdeal.Read.val_main_v12 (F := Ideal)) e1) e3) e4) e5).trans (funext fun j => ?_))
    idx_vars j
    obtain rfl : j0 = 0 := Subsingleton.elim _ _
    exact ref12 _ _ _ _ j1 j2
  · refine (Cert.AdamDownRefIdeal.Read.val_main_v18_eq _ _ _ _).trans ((congr (congr (congr (congrArg (Cert.AdamDownRefIdeal.Read.val_main_v18 (F := Ideal)) e2) e3) e4) e5).trans (funext fun j => ?_))
    idx_vars j
    obtain rfl : j0 = 0 := Subsingleton.elim _ _
    exact ref18 _ _ _ _ j1 j2

end Cert.Proof
end
-- ==== Proof.lean ====
module

public import proofs.«01_k».proof.Defs
public import proofs.«01_k».proof.Proof.GateClaim
public import proofs.«01_k».proof.Proof.UpClaim
public import proofs.«01_k».proof.Proof.FfnDownClaim
public import proofs.«01_k».proof.Proof.FfnUpClaim
public import proofs.«01_k».proof.Proof.OutWClaim
public import proofs.«01_k».proof.Proof.QueryWClaim
public import proofs.«01_k».proof.Proof.InWClaim
public import proofs.«01_k».proof.Proof.MemWClaim
public import proofs.«01_k».proof.Proof.InXClaim
public import proofs.«01_k».proof.Proof.MemXClaim
public import proofs.«01_k».proof.Proof.XattnClaim
public import proofs.«01_k».proof.Proof.FfnClaim
public import proofs.«01_k».proof.Proof.KeyNormClaim
public import proofs.«01_k».proof.Proof.MemPreClaim
public import proofs.«01_k».proof.Proof.MixInClaim
public import proofs.«01_k».proof.Proof.CrossClaim
public import proofs.«01_k».proof.Proof.AdamInClaim
public import proofs.«01_k».proof.Proof.AdamOutClaim
public import proofs.«01_k».proof.Proof.AdamKvClaim
public import proofs.«01_k».proof.Proof.AdamUpClaim
public import proofs.«01_k».proof.Proof.AdamDownClaim
public import proofs.«01_k».proof.Proof.Gen.KeyNorm.Frame
public import proofs.«01_k».proof.Proof.Gen.KeyNormIdeal.Frame
public import proofs.«01_k».proof.Proof.Gen.KeyNormIdeal.Value
public import proofs.«01_k».proof.Proof.Gen.KeyNormRefIdeal.Run
public import proofs.«01_k».proof.Proof.Gen.KeyNormRefIdeal.Read
public import proofs.«01_k».proof.Proof.Gen.MemPre.Frame
public import proofs.«01_k».proof.Proof.Gen.MemPreIdeal.Frame
public import proofs.«01_k».proof.Proof.Gen.MemPreIdeal.Value
public import proofs.«01_k».proof.Proof.Gen.MemPreRefIdeal.Run
public import proofs.«01_k».proof.Proof.Gen.MemPreRefIdeal.Read
public import proofs.«01_k».proof.Proof.Gen.MixIn.Frame
public import proofs.«01_k».proof.Proof.Gen.MixInIdeal.Frame
public import proofs.«01_k».proof.Proof.Gen.MixInIdeal.Value
public import proofs.«01_k».proof.Proof.Gen.MixInRefIdeal.Run
public import proofs.«01_k».proof.Proof.Gen.MixInRefIdeal.Read
public import proofs.«01_k».proof.Proof.Gen.Cross.Frame
public import proofs.«01_k».proof.Proof.Gen.CrossIdeal.Frame
public import proofs.«01_k».proof.Proof.Gen.CrossIdeal.Value
public import proofs.«01_k».proof.Proof.Gen.CrossRefIdeal.Run
public import proofs.«01_k».proof.Proof.Gen.CrossRefIdeal.Read
public import proofs.«01_k».proof.Proof.Gen.AdamIn.Frame
public import proofs.«01_k».proof.Proof.Gen.AdamInIdeal.Frame
public import proofs.«01_k».proof.Proof.Gen.AdamInRefIdeal.Run
public import proofs.«01_k».proof.Proof.Gen.AdamInRefIdeal.Read
public import proofs.«01_k».proof.Proof.Gen.AdamOut.Frame
public import proofs.«01_k».proof.Proof.Gen.AdamOutIdeal.Frame
public import proofs.«01_k».proof.Proof.Gen.AdamOutRefIdeal.Run
public import proofs.«01_k».proof.Proof.Gen.AdamOutRefIdeal.Read
public import proofs.«01_k».proof.Proof.Gen.AdamKv.Frame
public import proofs.«01_k».proof.Proof.Gen.AdamKvIdeal.Frame
public import proofs.«01_k».proof.Proof.Gen.AdamKvRefIdeal.Run
public import proofs.«01_k».proof.Proof.Gen.AdamKvRefIdeal.Read
public import proofs.«01_k».proof.Proof.Gen.AdamUp.Frame
public import proofs.«01_k».proof.Proof.Gen.AdamUpIdeal.Frame
public import proofs.«01_k».proof.Proof.Gen.AdamUpRefIdeal.Run
public import proofs.«01_k».proof.Proof.Gen.AdamUpRefIdeal.Read
public import proofs.«01_k».proof.Proof.Gen.AdamDown.Frame
public import proofs.«01_k».proof.Proof.Gen.AdamDownIdeal.Frame
public import proofs.«01_k».proof.Proof.Gen.AdamDownRefIdeal.Run
public import proofs.«01_k».proof.Proof.Gen.AdamDownRefIdeal.Read
public import proofs.«01_k».proof.Proof.Gen.Gate.Frame
public import proofs.«01_k».proof.Proof.Gen.GateIdeal.Frame
public import proofs.«01_k».proof.Proof.Gen.GateRefIdeal.Run
public import proofs.«01_k».proof.Proof.Gen.Up.Frame
public import proofs.«01_k».proof.Proof.Gen.UpIdeal.Frame
public import proofs.«01_k».proof.Proof.Gen.UpRefIdeal.Run
public import proofs.«01_k».proof.Proof.Gen.InX.Frame
public import proofs.«01_k».proof.Proof.Gen.InXIdeal.Frame
public import proofs.«01_k».proof.Proof.Gen.InXIdeal.Value
public import proofs.«01_k».proof.Proof.Gen.InXRefIdeal.Run
public import proofs.«01_k».proof.Proof.Gen.InXRefIdeal.Read
public import proofs.«01_k».proof.Proof.Gen.MemX.Frame
public import proofs.«01_k».proof.Proof.Gen.MemXIdeal.Frame
public import proofs.«01_k».proof.Proof.Gen.MemXIdeal.Value
public import proofs.«01_k».proof.Proof.Gen.MemXRefIdeal.Run
public import proofs.«01_k».proof.Proof.Gen.MemXRefIdeal.Read
public import proofs.«01_k».proof.Proof.Gen.Xattn.Frame
public import proofs.«01_k».proof.Proof.Gen.XattnIdeal.Frame
public import proofs.«01_k».proof.Proof.Gen.XattnIdeal.Value
public import proofs.«01_k».proof.Proof.Gen.XattnRefIdeal.Run
public import proofs.«01_k».proof.Proof.Gen.XattnRefIdeal.Read
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.FfnDown.Frame
public import proofs.«01_k».proof.Proof.Gen.FfnDownIdeal.Frame
public import proofs.«01_k».proof.Proof.Gen.FfnDownIdeal.Value
public import proofs.«01_k».proof.Proof.Gen.FfnDownRefIdeal.Run
public import proofs.«01_k».proof.Proof.Gen.FfnUp.Frame
public import proofs.«01_k».proof.Proof.Gen.FfnUpIdeal.Frame
public import proofs.«01_k».proof.Proof.Gen.FfnUpIdeal.Value
public import proofs.«01_k».proof.Proof.Gen.FfnUpRefIdeal.Run
public import proofs.«01_k».proof.Proof.Gen.OutW.Frame
public import proofs.«01_k».proof.Proof.Gen.OutWIdeal.Frame
public import proofs.«01_k».proof.Proof.Gen.OutWIdeal.Value
public import proofs.«01_k».proof.Proof.Gen.OutWRefIdeal.Run
public import proofs.«01_k».proof.Proof.Gen.QueryW.Frame
public import proofs.«01_k».proof.Proof.Gen.QueryWIdeal.Frame
public import proofs.«01_k».proof.Proof.Gen.QueryWIdeal.Value
public import proofs.«01_k».proof.Proof.Gen.QueryWRefIdeal.Run
public import proofs.«01_k».proof.Proof.Gen.InW.Frame
public import proofs.«01_k».proof.Proof.Gen.InWIdeal.Frame
public import proofs.«01_k».proof.Proof.Gen.InWIdeal.Value
public import proofs.«01_k».proof.Proof.Gen.InWRefIdeal.Run
public import proofs.«01_k».proof.Proof.Gen.MemW.Frame
public import proofs.«01_k».proof.Proof.Gen.MemWIdeal.Frame
public import proofs.«01_k».proof.Proof.Gen.MemWIdeal.Value
public import proofs.«01_k».proof.Proof.Gen.MemWRefIdeal.Run

@[expose] public section

open Idealize.ShloMosaic Idealize.SL.Sem

/-- The reference's run leaves its arguments and the semaphore counters unchanged. -/
theorem Cert.Proof.frame_gateref : Cert.quiescent_GateRefIdeal := fun m g _ =>
  (θ_run Cert.GateRefIdeal.defs _ _).mono (fun r h => ⟨fun c => (h c).2.2,
      Idealize.ShloMosaic.sem_eq_zero_of_no_sems (by decide) r.2⟩)
    (Cert.GateRefIdeal.Value.run m g)

/-- The reference's run leaves its arguments and the semaphore counters unchanged. -/
theorem Cert.Proof.frame_upref : Cert.quiescent_UpRefIdeal := fun m g _ =>
  (θ_run Cert.UpRefIdeal.defs _ _).mono (fun r h => ⟨fun c => (h c).2.2.2,
      Idealize.ShloMosaic.sem_eq_zero_of_no_sems (by decide) r.2⟩)
    (Cert.UpRefIdeal.Value.run m g)

/-- The reference's run leaves its arguments and the semaphore counters unchanged. -/
theorem Cert.Proof.frame_ffndownref : Cert.quiescent_FfnDownRefIdeal := fun m g _ =>
  (θ_run Cert.FfnDownRefIdeal.defs _ _).mono (fun r h => ⟨fun c => (h c).2,
      Idealize.ShloMosaic.sem_eq_zero_of_no_sems (by decide) r.2⟩)
    (Cert.FfnDownRefIdeal.Value.run m g)

/-- The reference's run leaves its arguments and the semaphore counters unchanged. -/
theorem Cert.Proof.frame_ffnupref : Cert.quiescent_FfnUpRefIdeal := fun m g _ =>
  (θ_run Cert.FfnUpRefIdeal.defs _ _).mono (fun r h => ⟨fun c => (h c).2,
      Idealize.ShloMosaic.sem_eq_zero_of_no_sems (by decide) r.2⟩)
    (Cert.FfnUpRefIdeal.Value.run m g)

/-- The reference's run leaves its arguments and the semaphore counters unchanged. -/
theorem Cert.Proof.frame_outwref : Cert.quiescent_OutWRefIdeal := fun m g _ =>
  (θ_run Cert.OutWRefIdeal.defs _ _).mono (fun r h => ⟨fun c => (h c).2,
      Idealize.ShloMosaic.sem_eq_zero_of_no_sems (by decide) r.2⟩)
    (Cert.OutWRefIdeal.Value.run m g)

/-- The reference's run leaves its arguments and the semaphore counters unchanged. -/
theorem Cert.Proof.frame_querywref : Cert.quiescent_QueryWRefIdeal := fun m g _ =>
  (θ_run Cert.QueryWRefIdeal.defs _ _).mono (fun r h => ⟨fun c => (h c).2,
      Idealize.ShloMosaic.sem_eq_zero_of_no_sems (by decide) r.2⟩)
    (Cert.QueryWRefIdeal.Value.run m g)

/-- The reference's run leaves its arguments and the semaphore counters unchanged. -/
theorem Cert.Proof.frame_inwref : Cert.quiescent_InWRefIdeal := fun m g _ =>
  (θ_run Cert.InWRefIdeal.defs _ _).mono (fun r h => ⟨fun c => (h c).2,
      Idealize.ShloMosaic.sem_eq_zero_of_no_sems (by decide) r.2⟩)
    (Cert.InWRefIdeal.Value.run m g)

/-- The reference's run leaves its arguments and the semaphore counters unchanged. -/
theorem Cert.Proof.frame_memwref : Cert.quiescent_MemWRefIdeal := fun m g _ =>
  (θ_run Cert.MemWRefIdeal.defs _ _).mono (fun r h => ⟨fun c => (h c).2,
      Idealize.ShloMosaic.sem_eq_zero_of_no_sems (by decide) r.2⟩)
    (Cert.MemWRefIdeal.Value.run m g)

/-- The reference's run leaves its arguments and the semaphore counters unchanged. -/
theorem Cert.Proof.frame_inxref : Cert.quiescent_InXRefIdeal := fun m g _ =>
  (θ_run Cert.InXRefIdeal.defs _ _).mono (fun r h => ⟨fun c => (h c).2.2,
      Idealize.ShloMosaic.sem_eq_zero_of_no_sems (by decide) r.2⟩)
    (Cert.InXRefIdeal.Value.run m g)

/-- The reference's run leaves its arguments and the semaphore counters unchanged. -/
theorem Cert.Proof.frame_memxref : Cert.quiescent_MemXRefIdeal := fun m g _ =>
  (θ_run Cert.MemXRefIdeal.defs _ _).mono (fun r h => ⟨fun c => (h c).2.2,
      Idealize.ShloMosaic.sem_eq_zero_of_no_sems (by decide) r.2⟩)
    (Cert.MemXRefIdeal.Value.run m g)

/-- The reference's run leaves its arguments and the semaphore counters unchanged. -/
theorem Cert.Proof.frame_xattnref : Cert.quiescent_XattnRefIdeal := fun m g _ =>
  (θ_run Cert.XattnRefIdeal.defs _ _).mono (fun r h => ⟨fun c => (h c).2.2.2.2.2.2.2.2.2,
      Idealize.ShloMosaic.sem_eq_zero_of_no_sems (by decide) r.2⟩)
    (Cert.XattnRefIdeal.Value.run m g)

/-- The reference's run leaves its arguments and the semaphore counters unchanged. -/
theorem Cert.Proof.frame_ffnref : Cert.quiescent_FfnRefIdeal := fun m g _ =>
  (θ_run Cert.FfnRefIdeal.defs _ _).mono (fun r h => ⟨fun c => (h c).2.2.2.2.2,
      Idealize.ShloMosaic.sem_eq_zero_of_no_sems (by decide) r.2⟩)
    (Cert.FfnRefIdeal.Value.run m g)

/-- The reference's run leaves its arguments and the semaphore counters unchanged. -/
theorem Cert.Proof.frame_keynormref : Cert.quiescent_KeyNormRefIdeal := fun m g _ =>
  (θ_run Cert.KeyNormRefIdeal.defs _ _).mono (fun r h => ⟨fun c => (h c).2.2,
      Idealize.ShloMosaic.sem_eq_zero_of_no_sems (by decide) r.2⟩)
    (Cert.KeyNormRefIdeal.Value.run m g)

/-- The reference's run leaves its arguments and the semaphore counters unchanged. -/
theorem Cert.Proof.frame_mempreref : Cert.quiescent_MemPreRefIdeal := fun m g _ =>
  (θ_run Cert.MemPreRefIdeal.defs _ _).mono (fun r h => ⟨fun c => (h c).2.2,
      Idealize.ShloMosaic.sem_eq_zero_of_no_sems (by decide) r.2⟩)
    (Cert.MemPreRefIdeal.Value.run m g)

/-- The reference's run leaves its arguments and the semaphore counters unchanged. -/
theorem Cert.Proof.frame_mixinref : Cert.quiescent_MixInRefIdeal := fun m g _ =>
  (θ_run Cert.MixInRefIdeal.defs _ _).mono (fun r h => ⟨fun c => (h c).2.2,
      Idealize.ShloMosaic.sem_eq_zero_of_no_sems (by decide) r.2⟩)
    (Cert.MixInRefIdeal.Value.run m g)

/-- The reference's run leaves its arguments and the semaphore counters unchanged. -/
theorem Cert.Proof.frame_crossref : Cert.quiescent_CrossRefIdeal := fun m g _ =>
  (θ_run Cert.CrossRefIdeal.defs _ _).mono (fun r h => ⟨fun c => (h c).2.2.2.2.2,
      Idealize.ShloMosaic.sem_eq_zero_of_no_sems (by decide) r.2⟩)
    (Cert.CrossRefIdeal.Value.run m g)

/-- The reference's run leaves its arguments and the semaphore counters unchanged. -/
theorem Cert.Proof.frame_adaminref : Cert.quiescent_AdamInRefIdeal := fun m g _ =>
  (θ_run Cert.AdamInRefIdeal.defs _ _).mono (fun r h => ⟨fun c => (h c).2.2.2.2,
      Idealize.ShloMosaic.sem_eq_zero_of_no_sems (by decide) r.2⟩)
    (Cert.AdamInRefIdeal.Value.run m g)

/-- The reference's run leaves its arguments and the semaphore counters unchanged. -/
theorem Cert.Proof.frame_adamoutref : Cert.quiescent_AdamOutRefIdeal := fun m g _ =>
  (θ_run Cert.AdamOutRefIdeal.defs _ _).mono (fun r h => ⟨fun c => (h c).2.2.2.2,
      Idealize.ShloMosaic.sem_eq_zero_of_no_sems (by decide) r.2⟩)
    (Cert.AdamOutRefIdeal.Value.run m g)

/-- The reference's run leaves its arguments and the semaphore counters unchanged. -/
theorem Cert.Proof.frame_adamkvref : Cert.quiescent_AdamKvRefIdeal := fun m g _ =>
  (θ_run Cert.AdamKvRefIdeal.defs _ _).mono (fun r h => ⟨fun c => (h c).2.2.2.2,
      Idealize.ShloMosaic.sem_eq_zero_of_no_sems (by decide) r.2⟩)
    (Cert.AdamKvRefIdeal.Value.run m g)

/-- The reference's run leaves its arguments and the semaphore counters unchanged. -/
theorem Cert.Proof.frame_adamupref : Cert.quiescent_AdamUpRefIdeal := fun m g _ =>
  (θ_run Cert.AdamUpRefIdeal.defs _ _).mono (fun r h => ⟨fun c => (h c).2.2.2.2,
      Idealize.ShloMosaic.sem_eq_zero_of_no_sems (by decide) r.2⟩)
    (Cert.AdamUpRefIdeal.Value.run m g)

/-- The reference's run leaves its arguments and the semaphore counters unchanged. -/
theorem Cert.Proof.frame_adamdownref : Cert.quiescent_AdamDownRefIdeal := fun m g _ =>
  (θ_run Cert.AdamDownRefIdeal.defs _ _).mono (fun r h => ⟨fun c => (h c).2.2.2.2,
      Idealize.ShloMosaic.sem_eq_zero_of_no_sems (by decide) r.2⟩)
    (Cert.AdamDownRefIdeal.Value.run m g)

/-- The side conditions of the precondition's operations. -/
theorem Cert.Proof.pre_facts : Cert.Pre_finite.Facts where
  bcast_S_S8192x5632 := by decide
  bcast_S_S8192x1024 := by decide
  bitsLt_bf16_f32 := by decide
  bcast_S_S2816x1024 := by decide
  bcast_S_S3x5632 := by decide
  bcast_S_S1x5632 := by decide

/-- The side conditions of the second precondition's operations. -/
theorem Cert.Proof.pre_facts_block : Cert.Pre_finite_block.Facts where
  bitsLt_bf16_f32 := by decide
  bcast_S_S256x1024 := by decide
  bcast_S_S1x256 := by decide

/-- The side conditions of the third precondition's operations. -/
theorem Cert.Proof.pre_facts_keys : Cert.Pre_finite_keys.Facts where
  bitsLt_bf16_f32 := by decide
  bcast_S_S256x1024 := by decide
  bcast_S_S1x256 := by decide

/-- Everything the certificate claims. -/
theorem Cert.Proof.claim : Cert.Claim :=
  ⟨_, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, Cert.Proof.pre_facts, Cert.Proof.pre_facts_block, Cert.Proof.pre_facts_keys,
    fun m ρ _ => Cert.Gate.Gen.frame m ρ, fun m ρ _ => Cert.GateIdeal.Gen.frame m ρ,
    fun m ρ _ => Cert.GateIdeal.Gen.frame m ρ, Cert.Proof.frame_gateref, fun m g _ => Cert.Proof.frame_gateref m g trivial,
    fun m ρ _ => Cert.Up.Gen.frame m ρ, fun m ρ _ => Cert.UpIdeal.Gen.frame m ρ, Cert.Proof.frame_upref,
    fun m ρ _ => Cert.FfnDown.Gen.frame m ρ, fun m ρ _ => Cert.FfnDownIdeal.Gen.frame m ρ, Cert.Proof.frame_ffndownref,
    fun m ρ _ => Cert.FfnUp.Gen.frame m ρ, fun m ρ _ => Cert.FfnUpIdeal.Gen.frame m ρ, Cert.Proof.frame_ffnupref,
    fun m ρ _ => Cert.OutW.Gen.frame m ρ, fun m ρ _ => Cert.OutWIdeal.Gen.frame m ρ, Cert.Proof.frame_outwref,
    fun m ρ _ => Cert.QueryW.Gen.frame m ρ, fun m ρ _ => Cert.QueryWIdeal.Gen.frame m ρ, Cert.Proof.frame_querywref,
    fun m ρ _ => Cert.InW.Gen.frame m ρ, fun m ρ _ => Cert.InWIdeal.Gen.frame m ρ, Cert.Proof.frame_inwref,
    fun m ρ _ => Cert.MemW.Gen.frame m ρ, fun m ρ _ => Cert.MemWIdeal.Gen.frame m ρ, Cert.Proof.frame_memwref,
    fun m ρ _ => Cert.InX.Gen.frame m ρ, fun m ρ _ => Cert.InXIdeal.Gen.frame m ρ, Cert.Proof.frame_inxref,
    fun m ρ _ => Cert.MemX.Gen.frame m ρ, fun m ρ _ => Cert.MemXIdeal.Gen.frame m ρ, Cert.Proof.frame_memxref,
    fun m ρ _ => Cert.Xattn.Gen.frame m ρ, fun m ρ _ => Cert.XattnIdeal.Gen.frame m ρ,
    fun m ρ _ => Cert.XattnIdeal.Gen.frame m ρ, Cert.Proof.frame_xattnref, fun m g _ => Cert.Proof.frame_xattnref m g trivial,
    fun m ρ _ => Cert.Ffn.Gen.frame m ρ, fun m ρ _ => Cert.FfnIdeal.Gen.frame m ρ, Cert.Proof.frame_ffnref,
    fun m ρ _ => Cert.KeyNorm.Gen.frame m ρ, fun m ρ _ => Cert.KeyNormIdeal.Gen.frame m ρ, Cert.Proof.frame_keynormref,
    fun m ρ _ => Cert.MemPre.Gen.frame m ρ, fun m ρ _ => Cert.MemPreIdeal.Gen.frame m ρ, Cert.Proof.frame_mempreref,
    fun m ρ _ => Cert.MixIn.Gen.frame m ρ, fun m ρ _ => Cert.MixInIdeal.Gen.frame m ρ, Cert.Proof.frame_mixinref,
    fun m ρ _ => Cert.Cross.Gen.frame m ρ, fun m ρ _ => Cert.CrossIdeal.Gen.frame m ρ,
    fun m ρ _ => Cert.CrossIdeal.Gen.frame m ρ, Cert.Proof.frame_crossref, fun m g _ => Cert.Proof.frame_crossref m g trivial,
    fun m ρ _ => Cert.AdamIn.Gen.frame m ρ trivial, fun m ρ _ => Cert.AdamInIdeal.Gen.frame m ρ trivial, Cert.Proof.frame_adaminref,
    fun m ρ _ => Cert.AdamOut.Gen.frame m ρ trivial, fun m ρ _ => Cert.AdamOutIdeal.Gen.frame m ρ trivial, Cert.Proof.frame_adamoutref,
    fun m ρ _ => Cert.AdamKv.Gen.frame m ρ trivial, fun m ρ _ => Cert.AdamKvIdeal.Gen.frame m ρ trivial, Cert.Proof.frame_adamkvref,
    fun m ρ _ => Cert.AdamUp.Gen.frame m ρ trivial, fun m ρ _ => Cert.AdamUpIdeal.Gen.frame m ρ trivial, Cert.Proof.frame_adamupref,
    fun m ρ _ => Cert.AdamDown.Gen.frame m ρ trivial, fun m ρ _ => Cert.AdamDownIdeal.Gen.frame m ρ trivial, Cert.Proof.frame_adamdownref,
    ⟨IdealRules.named_const.statement Cert.GateIdeal.κ "k0k1" .f32 0x3D122279#32 _ rfl,
      IdealRules.named_const.statement Cert.GateIdeal.κ "k0k1x3" .f32 0x3DDB33B6#32 _ rfl⟩,
    Cert.Proof.algebraic_gate (hPre := Cert.Proof.pre_facts), trivial, Cert.Proof.algebraic_up,
    trivial, Cert.Proof.algebraic_ffndown,
    trivial, Cert.Proof.algebraic_ffnup,
    trivial, Cert.Proof.algebraic_outw,
    trivial, Cert.Proof.algebraic_queryw,
    trivial, Cert.Proof.algebraic_inw,
    trivial, Cert.Proof.algebraic_memw,
    trivial, Cert.Proof.algebraic_in_x,
    trivial, Cert.Proof.algebraic_mem_x,
    trivial, Cert.Proof.algebraic_xattn (hPre := Cert.Proof.pre_facts_block),
    trivial, Cert.Proof.algebraic_ffn,
    trivial, Cert.Proof.algebraic_key_norm,
    trivial, Cert.Proof.algebraic_mem_pre,
    trivial, Cert.Proof.algebraic_mix_in,
    trivial, Cert.Proof.algebraic_cross (hPre := Cert.Proof.pre_facts_keys),
    trivial, Cert.Proof.algebraic_adam_in,
    trivial, Cert.Proof.algebraic_adam_out,
    trivial, Cert.Proof.algebraic_adam_kv,
    trivial, Cert.Proof.algebraic_adam_up,
    trivial, Cert.Proof.algebraic_adam_down⟩

end
